-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v5_2)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_v171) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_v152) = v5 c
          ∧ r.2.mem ((c.tc : Thread Cert.ReferenceIdeal.nD Cert.ReferenceIdeal.τ).loc Cert.ReferenceIdeal.main_v130) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v11_0)) (v4 : (c : Dev Cert.Kernel2Ideal.nD) → Buf (Elt Ideal) ((c.tc : Thread Cert.Kernel2Ideal.nD Cert.Kernel2Ideal.τ).loc Cert.Kernel2Ideal.main_v11_1)) (v5 : (c : Dev Cert.Kernel2Ideal.nD) → Buf (Elt Ideal) ((c.tc : Thread Cert.Kernel2Ideal.nD Cert.Kernel2Ideal.τ).loc Cert.Kernel2Ideal.main_v12)) (v6 : (c : Dev Cert.Kernel2Ideal.nD) → Buf (Elt Ideal) ((c.tc : Thread Cert.Kernel2Ideal.nD Cert.Kernel2Ideal.τ).loc Cert.Kernel2Ideal.main_v13_0)) (v7 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v11_0) = v3 c
          ∧ r.2.mem ((c.tc : Thread Cert.Kernel2Ideal.nD Cert.Kernel2Ideal.τ).loc Cert.Kernel2Ideal.main_v11_1) = v4 c
          ∧ r.2.mem ((c.tc : Thread Cert.Kernel2Ideal.nD Cert.Kernel2Ideal.τ).loc Cert.Kernel2Ideal.main_v12) = v5 c
          ∧ r.2.mem ((c.tc : Thread Cert.Kernel2Ideal.nD Cert.Kernel2Ideal.τ).loc Cert.Kernel2Ideal.main_v13_0) = v6 c
          ∧ r.2.mem ((c.tc : Thread Cert.Kernel2Ideal.nD Cert.Kernel2Ideal.τ).loc Cert.Kernel2Ideal.main_v13_1) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_v34) = v4 c
          ∧ r.2.mem ((c.tc : Thread Cert.Reference2Ideal.nD Cert.Reference2Ideal.τ).loc Cert.Reference2Ideal.main_v36) = v5 c
          ∧ r.2.mem ((c.tc : Thread Cert.Reference2Ideal.nD Cert.Reference2Ideal.τ).loc Cert.Reference2Ideal.main_v39) = v6 c
          ∧ r.2.mem ((c.tc : Thread Cert.Reference2Ideal.nD Cert.Reference2Ideal.τ).loc Cert.Reference2Ideal.main_v42) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v7) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v14)) (v1 : (c : Dev Cert.Kernel6Ideal.nD) → Buf (Elt Ideal) ((c.tc : Thread Cert.Kernel6Ideal.nD Cert.Kernel6Ideal.τ).loc Cert.Kernel6Ideal.main_v19)) (v2 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_v19) = v1 c
          ∧ r.2.mem ((c.tc : Thread Cert.Kernel6Ideal.nD Cert.Kernel6Ideal.τ).loc Cert.Kernel6Ideal.main_v20) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_v3) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v8_0)) (v4 : (c : Dev Cert.Kernel7Ideal.nD) → Buf (Elt Ideal) ((c.tc : Thread Cert.Kernel7Ideal.nD Cert.Kernel7Ideal.τ).loc Cert.Kernel7Ideal.main_v8_1)) (v5 : (c : Dev Cert.Kernel7Ideal.nD) → Buf (Elt Ideal) ((c.tc : Thread Cert.Kernel7Ideal.nD Cert.Kernel7Ideal.τ).loc Cert.Kernel7Ideal.main_v9)) (v6 : (c : Dev Cert.Kernel7Ideal.nD) → Buf (Elt Ideal) ((c.tc : Thread Cert.Kernel7Ideal.nD Cert.Kernel7Ideal.τ).loc Cert.Kernel7Ideal.main_v11)) (v7 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v8_0) = v3 c
          ∧ r.2.mem ((c.tc : Thread Cert.Kernel7Ideal.nD Cert.Kernel7Ideal.τ).loc Cert.Kernel7Ideal.main_v8_1) = v4 c
          ∧ r.2.mem ((c.tc : Thread Cert.Kernel7Ideal.nD Cert.Kernel7Ideal.τ).loc Cert.Kernel7Ideal.main_v9) = v5 c
          ∧ r.2.mem ((c.tc : Thread Cert.Kernel7Ideal.nD Cert.Kernel7Ideal.τ).loc Cert.Kernel7Ideal.main_v11) = v6 c
          ∧ r.2.mem ((c.tc : Thread Cert.Kernel7Ideal.nD Cert.Kernel7Ideal.τ).loc Cert.Kernel7Ideal.main_v12) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v0) = v1 c
          ∧ r.2.mem ((c.tc : Thread Cert.Reference7Ideal.nD Cert.Reference7Ideal.τ).loc Cert.Reference7Ideal.main_v1) = v2 c
          ∧ r.2.mem ((c.tc : Thread Cert.Reference7Ideal.nD Cert.Reference7Ideal.τ).loc Cert.Reference7Ideal.main_v23) = v3 c
          ∧ r.2.mem ((c.tc : Thread Cert.Reference7Ideal.nD Cert.Reference7Ideal.τ).loc Cert.Reference7Ideal.main_v24) = v4 c
          ∧ r.2.mem ((c.tc : Thread Cert.Reference7Ideal.nD Cert.Reference7Ideal.τ).loc Cert.Reference7Ideal.main_v27) = v5 c
          ∧ r.2.mem ((c.tc : Thread Cert.Reference7Ideal.nD Cert.Reference7Ideal.τ).loc Cert.Reference7Ideal.main_v29) = v6 c
          ∧ r.2.mem ((c.tc : Thread Cert.Reference7Ideal.nD Cert.Reference7Ideal.τ).loc Cert.Reference7Ideal.main_v22) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1)) (v1 : (c : Dev Cert.Kernel8Ideal.nD) → Buf (Elt Ideal) ((c.tc : Thread Cert.Kernel8Ideal.nD Cert.Kernel8Ideal.τ).loc Cert.Kernel8Ideal.main_v2_0)) (v2 : (c : Dev Cert.Kernel8Ideal.nD) → Buf (Elt Ideal) ((c.tc : Thread Cert.Kernel8Ideal.nD Cert.Kernel8Ideal.τ).loc Cert.Kernel8Ideal.main_v2_1)) (v3 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_v2_0) = v1 c
          ∧ r.2.mem ((c.tc : Thread Cert.Kernel8Ideal.nD Cert.Kernel8Ideal.τ).loc Cert.Kernel8Ideal.main_v2_1) = v2 c
          ∧ r.2.mem ((c.tc : Thread Cert.Kernel8Ideal.nD Cert.Kernel8Ideal.τ).loc Cert.Kernel8Ideal.main_v2_2) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_v38) = v2 c
          ∧ r.2.mem ((c.tc : Thread Cert.Reference8Ideal.nD Cert.Reference8Ideal.τ).loc Cert.Reference8Ideal.main_v39) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5)) (v1 : (c : Dev Cert.Kernel10Ideal.nD) → Buf (Elt Ideal) ((c.tc : Thread Cert.Kernel10Ideal.nD Cert.Kernel10Ideal.τ).loc Cert.Kernel10Ideal.main_v4_0)) (v2 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_v4_0) = v1 c
          ∧ r.2.mem ((c.tc : Thread Cert.Kernel10Ideal.nD Cert.Kernel10Ideal.τ).loc Cert.Kernel10Ideal.main_v6) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v12) = v1 c
          ∧ r.2.mem ((c.tc : Thread Cert.Reference10Ideal.nD Cert.Reference10Ideal.τ).loc Cert.Reference10Ideal.main_v13) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)) (v2 : (c : Dev Cert.Kernel11Ideal.nD) → Buf (Elt Ideal) ((c.tc : Thread Cert.Kernel11Ideal.nD Cert.Kernel11Ideal.τ).loc Cert.Kernel11Ideal.main_v11_2)) (v3 : (c : Dev Cert.Kernel11Ideal.nD) → Buf (Elt Ideal) ((c.tc : Thread Cert.Kernel11Ideal.nD Cert.Kernel11Ideal.τ).loc Cert.Kernel11Ideal.main_v11_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_v11_2) = v2 c
          ∧ r.2.mem ((c.tc : Thread Cert.Kernel11Ideal.nD Cert.Kernel11Ideal.τ).loc Cert.Kernel11Ideal.main_v11_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg0) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v45) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S2048x5120 : Shape := ⟨2, ![2048, 5120]⟩
abbrev S2048x128 : Shape := ⟨2, ![2048, 128]⟩
abbrev S2048x2048 : Shape := ⟨2, ![2048, 2048]⟩
abbrev S1x128 : Shape := ⟨2, ![1, 128]⟩
abbrev S2048x3072 : Shape := ⟨2, ![2048, 3072]⟩
abbrev S2048x8 : Shape := ⟨2, ![2048, 8]⟩
abbrev S2048x1024 : Shape := ⟨2, ![2048, 1024]⟩
abbrev S_ : Shape := ⟨0, ![]⟩

class Facts : Prop where
  slices_S2048x5120_S2048x3072_0_0 : S2048x5120.Slices ![0, 0] S2048x3072
  slices_S2048x128_S2048x8_0_0 : S2048x128.Slices ![0, 0] S2048x8
  slices_S2048x2048_S2048x1024_0_0 : S2048x2048.Slices ![0, 0] S2048x1024
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v6 : IVec S_ 1) (main_v10 : IVec S_ 1) (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v6 main_v10
  let main_v24 : IVec S_ 1 := andi main_v23 main_v14
  let main_v25 : IVec S_ 1 := andi main_v24 main_v18
  let main_v26 : IVec S_ 1 := andi main_v25 main_v22
  main_v26

def fn {F : FTy → Type} [FloatOps F] (main_arg0 : FVec F S2048x5120 .f32) (main_arg1 : FVec F S2048x128 .f32) (main_arg2 : FVec F S2048x2048 .f32) (main_arg3 : FVec F S1x128 .f32) (main_arg4 : FVec F S1x128 .f32) : IVec S_ 1 :=
  let main_v0 : FVec F S2048x3072 .f32 := (extractStridedSlice S2048x3072 ![0, 0] · slices_S2048x5120_S2048x3072_0_0) main_arg0
  let main_v1 : FVec F S2048x8 .f32 := (extractStridedSlice S2048x8 ![0, 0] · slices_S2048x128_S2048x8_0_0) main_arg1
  let main_v2 : FVec F S2048x1024 .f32 := (extractStridedSlice S2048x1024 ![0, 0] · slices_S2048x2048_S2048x1024_0_0) main_arg2
  let main_v3 : FVec F S2048x3072 .f32 := Host.absf main_v0
  let main_cst : FVec F S_ .f32 := constant S_ .f32 0x7F800000#32
  let main_v4 : FVec F S2048x3072 .f32 := broadcastInDim S2048x3072 ![] bcast_S_S2048x3072 main_cst
  let main_v5 : IVec S2048x3072 1 := cmpf .olt main_v3 main_v4
  let main_c : IVec S_ 1 := constantI S_ 1 1#1
  let main_v6 : IVec S_ 1 := (fun x v => Host.reduce IntOp.andi x v reducesTo_S2048x3072_S_d0_1 h_S_) main_v5 main_c
  let main_v7 : FVec F S2048x8 .f32 := Host.absf main_v1
  let main_cst_0 : FVec F S_ .f32 := constant S_ .f32 0x7F800000#32
  let main_v8 : FVec F S2048x8 .f32 := broadcastInDim S2048x8 ![] bcast_S_S2048x8 main_cst_0
  let main_v9 : IVec S2048x8 1 := cmpf .olt main_v7 main_v8
  let main_c_1 : IVec S_ 1 := constantI S_ 1 1#1
  let main_v10 : IVec S_ 1 := (fun x v => Host.reduce IntOp.andi x v reducesTo_S2048x8_S_d0_1 h_S_) main_v9 main_c_1
  let main_v11 : FVec F S2048x1024 .f32 := Host.absf main_v2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : FVec F S1x128 .f32 := Host.absf main_arg3
  let main_cst_4 : FVec F S_ .f32 := constant S_ .f32 0x7F800000#32
  let main_v16 : FVec F S1x128 .f32 := broadcastInDim S1x128 ![] bcast_S_S1x128 main_cst_4
  fn_part1 (F := F) main_arg4 main_v6 main_v10 main_v14 main_v15 main_v16
-- ==== Pre_finite2.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x2048 .f32) (main_arg1 : FVec F S2048x5632 .f32) (main_arg2 : FVec F S2048x5632 .f32) (main_arg3 : FVec F S5632x2048 .f32) (main_arg4 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x5632 .f32 := Host.absf main_arg2
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : FVec F S5632x2048 .f32 := Host.absf main_arg3
  let main_cst_2 : FVec F S_ .f32 := constant S_ .f32 0x7F800000#32
  let main_v9 : FVec F S5632x2048 .f32 := broadcastInDim S5632x2048 ![] bcast_S_S5632x2048 main_cst_2
  let main_v10 : IVec S5632x2048 1 := cmpf .olt main_v8 main_v9
  let main_c_3 : IVec S_ 1 := constantI S_ 1 1#1
  let main_v11 : IVec S_ 1 := (fun x v => Host.reduce IntOp.andi x v reducesTo_S5632x2048_S_d0_1 h_S_) main_v10 main_c_3
  let main_v12 : FVec F S2048x2048 .f32 := Host.absf main_arg4
  let main_cst_4 : FVec F S_ .f32 := constant S_ .f32 0x7F800000#32
  let main_v13 : FVec F S2048x2048 .f32 := broadcastInDim S2048x2048 ![] bcast_S_S2048x2048 main_cst_4
  let main_v14 : IVec S2048x2048 1 := cmpf .olt main_v12 main_v13
  let main_c_5 : IVec S_ 1 := constantI S_ 1 1#1
  let main_v15 : IVec S_ 1 := (fun x v => Host.reduce IntOp.andi x v reducesTo_S2048x2048_S_d0_1 h_S_) main_v14 main_c_5
  fn_part1 (F := F) main_v3 main_v7 main_v11 main_v15
-- ==== Kernel.lean ====
abbrev S2048x5120 : Shape := ⟨2, ![2048, 5120]⟩
abbrev S2048x128 : Shape := ⟨2, ![2048, 128]⟩
abbrev S2048x2048 : Shape := ⟨2, ![2048, 2048]⟩
abbrev S1x128 : Shape := ⟨2, ![1, 128]⟩
abbrev S2048x8 : Shape := ⟨2, ![2048, 8]⟩
abbrev S8x2048 : Shape := ⟨2, ![8, 2048]⟩
abbrev S8x2048x1 : Shape := ⟨3, ![8, 2048, 1]⟩
abbrev S8x1x2048 : Shape := ⟨3, ![8, 1, 2048]⟩
abbrev S2048x1024 : Shape := ⟨2, ![2048, 1024]⟩
abbrev S1x2048x1 : Shape := ⟨3, ![1, 2048, 1]⟩
abbrev S1x1x2048 : Shape := ⟨3, ![1, 1, 2048]⟩
abbrev S2048 : Shape := ⟨1, ![2048]⟩
abbrev S2048x1 : Shape := ⟨2, ![2048, 1]⟩
abbrev S256x128 : Shape := ⟨2, ![256, 128]⟩
abbrev S256x256 : Shape := ⟨2, ![256, 256]⟩
abbrev S1x256x1 : Shape := ⟨3, ![1, 256, 1]⟩
abbrev S256x1 : Shape := ⟨2, ![256, 1]⟩
abbrev S1x1x256 : Shape := ⟨3, ![1, 1, 256]⟩
abbrev S1x256 : Shape := ⟨2, ![1, 256]⟩
abbrev S256 : Shape := ⟨1, ![256]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S768x128 : Shape := ⟨2, ![768, 128]⟩
abbrev S256x768 : Shape := ⟨2, ![256, 768]⟩
abbrev S1x1x768 : Shape := ⟨3, ![1, 1, 768]⟩
abbrev S1x768 : Shape := ⟨2, ![1, 768]⟩
abbrev S1024x128 : Shape := ⟨2, ![1024, 128]⟩
abbrev S256x1024 : Shape := ⟨2, ![256, 1024]⟩
abbrev S1x1x1024 : Shape := ⟨3, ![1, 1, 1024]⟩
abbrev S1x1024 : Shape := ⟨2, ![1, 1024]⟩
abbrev S1280x128 : Shape := ⟨2, ![1280, 128]⟩
abbrev S256x1280 : Shape := ⟨2, ![256, 1280]⟩
abbrev S1x1x1280 : Shape := ⟨3, ![1, 1, 1280]⟩
abbrev S1x1280 : Shape := ⟨2, ![1, 1280]⟩
abbrev S1536x128 : Shape := ⟨2, ![1536, 128]⟩
abbrev S256x1536 : Shape := ⟨2, ![256, 1536]⟩
abbrev S1x1x1536 : Shape := ⟨3, ![1, 1, 1536]⟩
abbrev S1x1536 : Shape := ⟨2, ![1, 1536]⟩
abbrev S1792x128 : Shape := ⟨2, ![1792, 128]⟩
abbrev S256x1792 : Shape := ⟨2, ![256, 1792]⟩
abbrev S1x1x1792 : Shape := ⟨3, ![1, 1, 1792]⟩
abbrev S1x1792 : Shape := ⟨2, ![1, 1792]⟩
abbrev S256x2048 : Shape := ⟨2, ![256, 2048]⟩
abbrev S1x2048 : Shape := ⟨2, ![1, 2048]⟩
abbrev S512 : Shape := ⟨1, ![512]⟩
abbrev S768 : Shape := ⟨1, ![768]⟩
abbrev S1024 : Shape := ⟨1, ![1024]⟩
abbrev S1280 : Shape := ⟨1, ![1280]⟩
abbrev S1536 : Shape := ⟨1, ![1536]⟩
abbrev S1792 : Shape := ⟨1, ![1792]⟩
abbrev S128 : Shape := ⟨1, ![128]⟩

abbrev nBuf : Space → Nat
  | .hbm => 22
  | .vmem => 54
  | .smem => 0
  | _ => 0

abbrev bufTy : (tb : Table) → Fin (tcTables nBuf tb) → BufTy
  | .hbm, ⟨0, _⟩ => ⟨S2048x5120, .f32⟩
  | .hbm, ⟨1, _⟩ => ⟨S2048x128, .f32⟩
  | .hbm, ⟨2, _⟩ => ⟨S2048x2048, .f32⟩
  | .hbm, ⟨3, _⟩ => ⟨S1x128, .f32⟩
  | .hbm, ⟨4, _⟩ => ⟨S1x128, .f32⟩
  | .hbm, ⟨5, _⟩ => ⟨S2048x8, .f32⟩
  | .hbm, ⟨6, _⟩ => ⟨S8x2048, .f32⟩
  | .hbm, ⟨7, _⟩ => ⟨S8x2048x1, .f32⟩
  | .hbm, ⟨8, _⟩ => ⟨S8x1x2048, .f32⟩
  | .hbm, ⟨9, _⟩ => ⟨S2048x1024, .bf16⟩
  | .hbm, ⟨10, _⟩ => ⟨S8x2048x1, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S8x2048x1, .f32⟩
  | .hbm, ⟨15, _⟩ => ⟨S8x1x2048, .f32⟩
  | .hbm, ⟨16, _⟩ => ⟨S1x128, .f32⟩
  | .hbm, ⟨17, _⟩ => ⟨S1x128, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S2048x8, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x2048x1, .f32⟩
  | .local _ .vmem, ⟨7, _⟩ => ⟨S1x2048x1, .f32⟩
  | .local _ .vmem, ⟨8, _⟩ => ⟨S1x1x2048, .f32⟩
  | .local _ .vmem, ⟨9, _⟩ => ⟨S1x1x2048, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S1x2048x1, .f32⟩
  | .local _ .vmem, ⟨15, _⟩ => ⟨S1x2048x1, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S1x2048x1, .f32⟩
  | .local _ .vmem, ⟨26, _⟩ => ⟨S1x2048x1, .f32⟩
  | .local _ .vmem, ⟨27, _⟩ => ⟨S1x1x2048, .f32⟩
  | .local _ .vmem, ⟨28, _⟩ => ⟨S1x1x2048, .f32⟩
  | .local _ .vmem, ⟨29, _⟩ => ⟨S1x2048x1, .f32⟩
  | .local _ .vmem, ⟨30, _⟩ => ⟨S1x2048x1, .f32⟩
  | .local _ .vmem, ⟨31, _⟩ => ⟨S2048x128, .f32⟩
  | .local _ .vmem, ⟨32, _⟩ => ⟨S2048x128, .f32⟩
  | .local _ .vmem, ⟨33, _⟩ => ⟨S1x128, .f32⟩
  | .local _ .vmem, ⟨34, _⟩ => ⟨S1x128, .f32⟩
  | .local _ .vmem, ⟨35, _⟩ => ⟨S2048x128, .bf16⟩
  | .local _ .vmem, ⟨36, _⟩ => ⟨S2048x128, .bf16⟩
  | .local _ .vmem, ⟨37, _⟩ => ⟨S2048x128, .bf16⟩
  | .local _ .vmem, ⟨38, _⟩ => ⟨S2048x128, .bf16⟩
  | .local _ .vmem, ⟨39, _⟩ => ⟨S2048x128, .bf16⟩
  | .local _ .vmem, ⟨40, _⟩ => ⟨S2048x128, .bf16⟩
  | .local _ .vmem, ⟨41, _⟩ => ⟨S1x2048x1, .f32⟩
  | .local _ .vmem, ⟨42, _⟩ => ⟨S1x2048x1, .f32⟩
  | .local _ .vmem, ⟨43, _⟩ => ⟨S1x1x2048, .f32⟩
  | .local _ .vmem, ⟨44, _⟩ => ⟨S1x1x2048, .f32⟩
  | .local _ .vmem, ⟨45, _⟩ => ⟨S1x128, .f32⟩
  | .local _ .vmem, ⟨46, _⟩ => ⟨S1x128, .f32⟩
  | .local _ .vmem, ⟨47, _⟩ => ⟨S2048x128, .bf16⟩
  | .local _ .vmem, ⟨48, _⟩ => ⟨S2048x128, .bf16⟩
  | .local _ .vmem, ⟨49, _⟩ => ⟨S2048x128, .bf16⟩
  | .local _ .vmem, ⟨50, _⟩ => ⟨S2048x128, .bf16⟩
  | .local _ .vmem, ⟨51, _⟩ => ⟨S2048x128, .f32⟩
  | .local _ .vmem, ⟨52, _⟩ => ⟨S2048x128, .f32⟩
  | .local _ .vmem, ⟨53, _⟩ => ⟨S2048x128, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_stg14_0 : Ref sig .tc := ⟨.vmem, 45, rfl⟩
abbrev cc1_stg15_0 : Ref sig .tc := ⟨.vmem, 46, rfl⟩
abbrev cc1_scratch0 : Ref sig .tc := ⟨.vmem, 47, rfl⟩
abbrev cc1_scratch1 : Ref sig .tc := ⟨.vmem, 48, rfl⟩
abbrev cc1_scratch2 : Ref sig .tc := ⟨.vmem, 49, rfl⟩
abbrev cc1_scratch3 : Ref sig .tc := ⟨.vmem, 50, rfl⟩
abbrev cc1_scratch4 : Ref sig .tc := ⟨.vmem, 51, rfl⟩
abbrev cc1_scratch5 : Ref sig .tc := ⟨.vmem, 52, rfl⟩
abbrev cc1_scratch6 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem8_0 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41
abbrev cc1_sem14_0 : DmaSem sig := 42
abbrev cc1_sem15_0 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2048x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x2048x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x1x2048 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== KernelIdeal.lean ====
variable {F : FTy → Type} [FloatOps F] [Named F]
def κ : String → Option EReal := fun
  | "mask" => some ⊥
  | _ => none
-- ==== ReferenceIdeal.lean ====
abbrev S2048x5120 : Shape := ⟨2, ![2048, 5120]⟩
abbrev S2048x128 : Shape := ⟨2, ![2048, 128]⟩
abbrev S2048x2048 : Shape := ⟨2, ![2048, 2048]⟩
abbrev S1x128 : Shape := ⟨2, ![1, 128]⟩
abbrev S2048x1024 : Shape := ⟨2, ![2048, 1024]⟩
abbrev S2048x8 : Shape := ⟨2, ![2048, 8]⟩
abbrev S2048x8x128 : Shape := ⟨3, ![2048, 8, 128]⟩
abbrev S_ : Shape := ⟨0, ![]⟩
abbrev S2048x8x1 : Shape := ⟨3, ![2048, 8, 1]⟩
abbrev S1x1x128 : Shape := ⟨3, ![1, 1, 128]⟩
abbrev S8x2048x2048 : Shape := ⟨3, ![8, 2048, 2048]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S8x128x2048 : Shape := ⟨3, ![8, 128, 2048]⟩
abbrev S8x2048x128 : Shape := ⟨3, ![8, 2048, 128]⟩
abbrev S128 : Shape := ⟨1, ![128]⟩

abbrev nBuf : Space → Nat
  | .hbm => 221
  | .vmem => 0
  | .smem => 0
  | _ => 0

abbrev hbmTy0_0 (i : Nat) : BufTy := match i % 128 with
  | 0 => ⟨S2048x5120, .f32⟩
  | 1 => ⟨S2048x128, .f32⟩
  | 2 => ⟨S2048x2048, .f32⟩
  | 3 => ⟨S1x128, .f32⟩
  | 4 => ⟨S1x128, .f32⟩
  | 5 => ⟨S2048x1024, .f32⟩
  | 6 => ⟨S2048x1024, .f32⟩
  | 7 => ⟨S2048x1024, .f32⟩
  | 8 => ⟨S2048x8, .f32⟩
  | 9 => ⟨S2048x8x128, .f32⟩
  | 10 => ⟨S2048x8x128, .f32⟩
  | 11 => ⟨S_, .f32⟩
  | 12 => ⟨S2048x8, .f32⟩
  | 13 => ⟨S2048x8x1, .f32⟩
  | 14 => ⟨S_, .f32⟩
  | 15 => ⟨S2048x8x1, .f32⟩
  | 16 => ⟨S2048x8x1, .f32⟩
  | 17 => ⟨S_, .f32⟩
  | 18 => ⟨S2048x8x1, .f32⟩
  | 19 => ⟨S2048x8x1, .f32⟩
  | 20 => ⟨S2048x8x1, .f32⟩
  | 21 => ⟨S2048x8x1, .f32⟩
  | 22 => ⟨S_, .f32⟩
  | 23 => ⟨S2048x8x1, .f32⟩
  | 24 => ⟨S2048x8x1, .f32⟩
  | 25 => ⟨S2048x8x128, .f32⟩
  | 26 => ⟨S2048x8x128, .f32⟩
  | 27 => ⟨S1x1x128, .f32⟩
  | 28 => ⟨S2048x8x128, .f32⟩
  | 29 => ⟨S2048x8x128, .f32⟩
  | 30 => ⟨S2048x8x128, .f32⟩
  | 31 => ⟨S2048x8x128, .f32⟩
  | 32 => ⟨S_, .f32⟩
  | 33 => ⟨S2048x8, .f32⟩
  | 34 => ⟨S2048x8x1, .f32⟩
  | 35 => ⟨S_, .f32⟩
  | 36 => ⟨S2048x8x1, .f32⟩
  | 37 => ⟨S2048x8x1, .f32⟩
  | 38 => ⟨S_, .f32⟩
  | 39 => ⟨S2048x8x1, .f32⟩
  | 40 => ⟨S2048x8x1, .f32⟩
  | 41 => ⟨S2048x8x1, .f32⟩
  | 42 => ⟨S2048x8x1, .f32⟩
  | 43 => ⟨S_, .f32⟩
  | 44 => ⟨S2048x8x1, .f32⟩
  | 45 => ⟨S2048x8x1, .f32⟩
  | 46 => ⟨S2048x8x128, .f32⟩
  | 47 => ⟨S2048x8x128, .f32⟩
  | 48 => ⟨S1x1x128, .f32⟩
  | 49 => ⟨S2048x8x128, .f32⟩
  | 50 => ⟨S2048x8x128, .f32⟩
  | 51 => ⟨S2048x8x128, .f32⟩
  | 52 => ⟨S8x2048x2048, .f32⟩
  | 53 => ⟨S_, .f32⟩
  | 54 => ⟨S8x2048x2048, .f32⟩
  | 55 => ⟨S8x2048x2048, .f32⟩
  | 56 => ⟨S8x2048, .f32⟩
  | 57 => ⟨S8x2048x1, .f32⟩
  | 58 => ⟨S8x2048, .f32⟩
  | 59 => ⟨S8x1x2048, .f32⟩
  | 60 => ⟨S8x2048x2048, .f32⟩
  | 61 => ⟨S8x2048x2048, .f32⟩
  | 62 => ⟨S8x2048x2048, .f32⟩
  | 63 => ⟨S8x2048x2048, .f32⟩
  | 64 => ⟨S2048, .i32⟩
  | 65 => ⟨S2048x1, .i32⟩
  | 66 => ⟨S1x2048, .i32⟩
  | 67 => ⟨S2048x2048, .i32⟩
  | 68 => ⟨S2048x2048, .i32⟩
  | 69 => ⟨S2048x2048, .i1⟩
  | 70 => ⟨S_, .f32⟩
  | 71 => ⟨S_, .f32⟩
  | 72 => ⟨S8x2048x2048, .i1⟩
  | 73 => ⟨S8x2048x2048, .f32⟩
  | 74 => ⟨S8x2048x2048, .f32⟩
  | 75 => ⟨S_, .f32⟩
  | 76 => ⟨S8x2048x2048, .f32⟩
  | 77 => ⟨S_, .f32⟩
  | 78 => ⟨S8x2048, .f32⟩
  | 79 => ⟨S8x2048x1, .f32⟩
  | 80 => ⟨S8x2048x2048, .f32⟩
  | 81 => ⟨S8x2048x2048, .i1⟩
  | 82 => ⟨S8x2048x2048, .f32⟩
  | 83 => ⟨S_, .f32⟩
  | 84 => ⟨S8x2048, .f32⟩
  | 85 => ⟨S_, .f32⟩
  | 86 => ⟨S8x2048, .f32⟩
  | 87 => ⟨S8x2048, .f32⟩
  | 88 => ⟨S_, .f32⟩
  | 89 => ⟨S8x2048, .f32⟩
  | 90 => ⟨S8x2048, .i1⟩
  | 91 => ⟨S_, .f32⟩
  | 92 => ⟨S8x2048, .f32⟩
  | 93 => ⟨S8x2048, .i1⟩
  | 94 => ⟨S_, .f32⟩
  | 95 => ⟨S8x2048, .f32⟩
  | 96 => ⟨S_, .f32⟩
  | 97 => ⟨S8x2048, .f32⟩
  | 98 => ⟨S_, .f32⟩
  | 99 => ⟨S8x2048, .f32⟩
  | 100 => ⟨S8x2048, .f32⟩
  | 101 => ⟨S8x2048, .f32⟩
  | 102 => ⟨S8x2048x1, .f32⟩
  | 103 => ⟨S8x2048x2048, .f32⟩
  | 104 => ⟨S8x2048x2048, .f32⟩
  | 105 => ⟨S8x2048x2048, .f32⟩
  | 106 => ⟨S_, .f32⟩
  | 107 => ⟨S8x2048, .f32⟩
  | 108 => ⟨S8x2048x1, .f32⟩
  | 109 => ⟨S8x2048x2048, .f32⟩
  | 110 => ⟨S8x2048x2048, .f32⟩
  | 111 => ⟨S8x2048x1, .f32⟩
  | 112 => ⟨S_, .f32⟩
  | 113 => ⟨S8x2048x1, .f32⟩
  | 114 => ⟨S8x2048x1, .f32⟩
  | 115 => ⟨S8x128x2048, .f32⟩
  | 116 => ⟨S2048x8x128, .f32⟩
  | 117 => ⟨S2048x1024, .f32⟩
  | 118 => ⟨S2048x1024, .f32⟩
  | 119 => ⟨S2048x8x128, .f32⟩
  | 120 => ⟨S8x128x2048, .f32⟩
  | 121 => ⟨S8x2048x2048, .f32⟩
  | 122 => ⟨S8x128x2048, .f32⟩
  | 123 => ⟨S2048x8x128, .f32⟩
  | 124 => ⟨S8x2048x2048, .f32⟩
  | 125 => ⟨S8x2048x2048, .f32⟩
  | 126 => ⟨S8x2048x2048, .f32⟩
  | 127 => ⟨S_, .f32⟩
  | _ => ⟨S2048x5120, .f32⟩

abbrev hbmTy0_1 (i : Nat) : BufTy := match i % 128 with
  | 0 => ⟨S8x2048, .f32⟩
  | 1 => ⟨S8x2048x1, .f32⟩
  | 2 => ⟨S8x2048x1, .f32⟩
  | 3 => ⟨S8x2048x2048, .f32⟩
  | 4 => ⟨S8x2048x2048, .f32⟩
  | 5 => ⟨S_, .f32⟩
  | 6 => ⟨S8x2048, .f32⟩
  | 7 => ⟨S8x2048x2048, .f32⟩
  | 8 => ⟨S8x2048x2048, .f32⟩
  | 9 => ⟨S8x2048x2048, .f32⟩
  | 10 => ⟨S_, .f32⟩
  | 11 => ⟨S8x2048x2048, .f32⟩
  | 12 => ⟨S8x2048x2048, .f32⟩
  | 13 => ⟨S_, .f32⟩
  | 14 => ⟨S8x2048, .f32⟩
  | 15 => ⟨S8x2048x1, .f32⟩
  | 16 => ⟨S8x2048x2048, .f32⟩
  | 17 => ⟨S_, .f32⟩
  | 18 => ⟨S8x2048, .f32⟩
  | 19 => ⟨S8x1x2048, .f32⟩
  | 20 => ⟨S_, .f32⟩
  | 21 => ⟨S8x2048, .f32⟩
  | 22 => ⟨S2048x8, .f32⟩
  | 23 => ⟨S_, .f32⟩
  | 24 => ⟨S8x2048, .f32⟩
  | 25 => ⟨S2048x8, .f32⟩
  | 26 => ⟨S2048x8, .f32⟩
  | 27 => ⟨S_, .f32⟩
  | 28 => ⟨S8x2048x2048, .f32⟩
  | 29 => ⟨S8x2048x2048, .f32⟩
  | 30 => ⟨S8x2048x128, .f32⟩
  | 31 => ⟨S2048x8x128, .f32⟩
  | 32 => ⟨S8x2048x128, .f32⟩
  | 33 => ⟨S2048x8x128, .f32⟩
  | 34 => ⟨S2048x1024, .f32⟩
  | 35 => ⟨S2048x8x128, .f32⟩
  | 36 => ⟨S_, .f32⟩
  | 37 => ⟨S128, .f32⟩
  | 38 => ⟨S1x1x128, .f32⟩
  | 39 => ⟨S2048x8x128, .f32⟩
  | 40 => ⟨S2048x8x128, .f32⟩
  | 41 => ⟨S_, .f32⟩
  | 42 => ⟨S128, .f32⟩
  | 43 => ⟨S1x128, .f32⟩
  | 44 => ⟨S2048x8x128, .f32⟩
  | 45 => ⟨S_, .f32⟩
  | 46 => ⟨S2048x8, .f32⟩
  | 47 => ⟨S2048x8x1, .f32⟩
  | 48 => ⟨S2048x8x128, .f32⟩
  | 49 => ⟨S2048x8x128, .f32⟩
  | 50 => ⟨S2048x8x1, .f32⟩
  | 51 => ⟨S_, .f32⟩
  | 52 => ⟨S2048x8x1, .f32⟩
  | 53 => ⟨S2048x8x1, .f32⟩
  | 54 => ⟨S_, .f32⟩
  | 55 => ⟨S2048x8, .f32⟩
  | 56 => ⟨S2048x8x128, .f32⟩
  | 57 => ⟨S2048x8x128, .f32⟩
  | 58 => ⟨S2048x8x128, .f32⟩
  | 59 => ⟨S2048x8x128, .f32⟩
  | 60 => ⟨S2048x8x128, .f32⟩
  | 61 => ⟨S2048x1024, .f32⟩
  | 62 => ⟨S2048x8x128, .f32⟩
  | 63 => ⟨S_, .f32⟩
  | 64 => ⟨S128, .f32⟩
  | 65 => ⟨S1x1x128, .f32⟩
  | 66 => ⟨S2048x8x128, .f32⟩
  | 67 => ⟨S2048x8x128, .f32⟩
  | 68 => ⟨S_, .f32⟩
  | 69 => ⟨S128, .f32⟩
  | 70 => ⟨S1x128, .f32⟩
  | 71 => ⟨S2048x8x128, .f32⟩
  | 72 => ⟨S_, .f32⟩
  | 73 => ⟨S2048x8, .f32⟩
  | 74 => ⟨S2048x8x1, .f32⟩
  | 75 => ⟨S2048x8x128, .f32⟩
  | 76 => ⟨S2048x8x128, .f32⟩
  | 77 => ⟨S2048x8x1, .f32⟩
  | 78 => ⟨S_, .f32⟩
  | 79 => ⟨S2048x8x1, .f32⟩
  | 80 => ⟨S2048x8x1, .f32⟩
  | 81 => ⟨S_, .f32⟩
  | 82 => ⟨S2048x8, .f32⟩
  | 83 => ⟨S2048x8x128, .f32⟩
  | 84 => ⟨S2048x8x128, .f32⟩
  | 85 => ⟨S2048x8x128, .f32⟩
  | 86 => ⟨S2048x8x128, .f32⟩
  | 87 => ⟨S2048x8x128, .f32⟩
  | 88 => ⟨S2048x1024, .f32⟩
  | 89 => ⟨S2048x1024, .bf16⟩
  | 90 => ⟨S2048x1024, .bf16⟩
  | 91 => ⟨S2048x1024, .bf16⟩
  | 92 => ⟨S2048x1024, .bf16⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_call0_v0 : Ref sig .tc := ⟨.hbm, 71, rfl⟩
abbrev main_v56_1 : Ref sig .tc := ⟨.hbm, 72, rfl⟩
abbrev main_call0_v2 : Ref sig .tc := ⟨.hbm, 73, rfl⟩
abbrev main_v56_0 : Ref sig .tc := ⟨.hbm, 74, rfl⟩
abbrev main_call0_cst : Ref sig .tc := ⟨.hbm, 75, rfl⟩
abbrev main_v56_2 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_18 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_20 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_call1_cst : Ref sig .tc := ⟨.hbm, 138, rfl⟩
abbrev main_call1_v0 : Ref sig .tc := ⟨.hbm, 139, rfl⟩
abbrev main_v106 : Ref sig .tc := ⟨.hbm, 140, rfl⟩
abbrev main_cst_21 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_22 : Ref sig .tc := ⟨.hbm, 145, rfl⟩
abbrev main_v110 : Ref sig .tc := ⟨.hbm, 146, rfl⟩
abbrev main_v111 : Ref sig .tc := ⟨.hbm, 147, rfl⟩
abbrev main_cst_23 : Ref sig .tc := ⟨.hbm, 148, rfl⟩
abbrev main_v112 : Ref sig .tc := ⟨.hbm, 149, rfl⟩
abbrev main_v113 : Ref sig .tc := ⟨.hbm, 150, rfl⟩
abbrev main_cst_24 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_25 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_26 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_27 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_28 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_29 : Ref sig .tc := ⟨.hbm, 179, rfl⟩
abbrev main_v137 : Ref sig .tc := ⟨.hbm, 180, rfl⟩
abbrev main_v138 : Ref sig .tc := ⟨.hbm, 181, rfl⟩
abbrev main_cst_30 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_31 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_32 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_33 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_34 : Ref sig .tc := ⟨.hbm, 206, rfl⟩
abbrev main_v159 : Ref sig .tc := ⟨.hbm, 207, rfl⟩
abbrev main_v160 : Ref sig .tc := ⟨.hbm, 208, rfl⟩
abbrev main_cst_35 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩

abbrev nD : Nat := 1
abbrev τ : Topo := Topo.v7x

variable {F : FTy → Type} [FloatOps F]
-- ==== Kernel2.lean ====
abbrev S2048x2048 : Shape := ⟨2, ![2048, 2048]⟩
abbrev S2048x5632 : Shape := ⟨2, ![2048, 5632]⟩
abbrev S5632x2048 : Shape := ⟨2, ![5632, 2048]⟩
abbrev S8x704x2048 : Shape := ⟨3, ![8, 704, 2048]⟩
abbrev S8x2048x704 : Shape := ⟨3, ![8, 2048, 704]⟩
abbrev S512x2048 : Shape := ⟨2, ![512, 2048]⟩
abbrev S1x704x2048 : Shape := ⟨3, ![1, 704, 2048]⟩
abbrev S1x512x704 : Shape := ⟨3, ![1, 512, 704]⟩
abbrev S704x2048 : Shape := ⟨2, ![704, 2048]⟩
abbrev S512x704 : Shape := ⟨2, ![512, 704]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 23
  | .vmem => 40
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S5632x2048, .f32⟩
  | .hbm, ⟨6, _⟩ => ⟨S5632x2048, .bf16⟩
  | .hbm, ⟨7, _⟩ => ⟨S8x704x2048, .bf16⟩
  | .hbm, ⟨8, _⟩ => ⟨S5632x2048, .f32⟩
  | .hbm, ⟨9, _⟩ => ⟨S5632x2048, .bf16⟩
  | .hbm, ⟨10, _⟩ => ⟨S8x704x2048, .bf16⟩
  | .hbm, ⟨11, _⟩ => ⟨S5632x2048, .bf16⟩
  | .hbm, ⟨12, _⟩ => ⟨S8x704x2048, .bf16⟩
  | .hbm, ⟨13, _⟩ => ⟨S2048x2048, .bf16⟩
  | .hbm, ⟨14, _⟩ => ⟨S2048x2048, .bf16⟩
  | .hbm, ⟨15, _⟩ => ⟨S8x2048x704, .f32⟩
  | .hbm, ⟨16, _⟩ => ⟨S8x2048x704, .f32⟩
  | .hbm, ⟨17, _⟩ => ⟨S8x2048x704, .bf16⟩
  | .hbm, ⟨18, _⟩ => ⟨S8x2048x704, .bf16⟩
  | .hbm, ⟨19, _⟩ => ⟨S8x2048x704, .bf16⟩
  | .hbm, ⟨20, _⟩ => ⟨S8x704x2048, .bf16⟩
  | .hbm, ⟨21, _⟩ => ⟨S8x704x2048, .bf16⟩
  | .hbm, ⟨22, _⟩ => ⟨S8x704x2048, .bf16⟩
  | .local _ .vmem, ⟨0, _⟩ => ⟨S512x2048, .bf16⟩
  | .local _ .vmem, ⟨1, _⟩ => ⟨S512x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x512x704, .f32⟩
  | .local _ .vmem, ⟨7, _⟩ => ⟨S1x512x704, .f32⟩
  | .local _ .vmem, ⟨8, _⟩ => ⟨S1x512x704, .f32⟩
  | .local _ .vmem, ⟨9, _⟩ => ⟨S1x512x704, .f32⟩
  | .local _ .vmem, ⟨10, _⟩ => ⟨S1x512x704, .bf16⟩
  | .local _ .vmem, ⟨11, _⟩ => ⟨S1x512x704, .bf16⟩
  | .local _ .vmem, ⟨12, _⟩ => ⟨S512x2048, .bf16⟩
  | .local _ .vmem, ⟨13, _⟩ => ⟨S512x2048, .bf16⟩
  | .local _ .vmem, ⟨14, _⟩ => ⟨S1x704x2048, .bf16⟩
  | .local _ .vmem, ⟨15, _⟩ => ⟨S1x704x2048, .bf16⟩
  | .local _ .vmem, ⟨16, _⟩ => ⟨S1x512x704, .f32⟩
  | .local _ .vmem, ⟨17, _⟩ => ⟨S1x512x704, .f32⟩
  | .local _ .vmem, ⟨18, _⟩ => ⟨S1x512x704, .f32⟩
  | .local _ .vmem, ⟨19, _⟩ => ⟨S1x512x704, .f32⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x2048x704, .bf16⟩
  | .local _ .vmem, ⟨25, _⟩ => ⟨S1x2048x704, .bf16⟩
  | .local _ .vmem, ⟨26, _⟩ => ⟨S2048x1024, .bf16⟩
  | .local _ .vmem, ⟨27, _⟩ => ⟨S2048x1024, .bf16⟩
  | .local _ .vmem, ⟨28, _⟩ => ⟨S1x704x1024, .bf16⟩
  | .local _ .vmem, ⟨29, _⟩ => ⟨S1x704x1024, .bf16⟩
  | .local _ .vmem, ⟨30, _⟩ => ⟨S2048x1024, .bf16⟩
  | .local _ .vmem, ⟨31, _⟩ => ⟨S2048x1024, .bf16⟩
  | .local _ .vmem, ⟨32, _⟩ => ⟨S1x2048x704, .bf16⟩
  | .local _ .vmem, ⟨33, _⟩ => ⟨S1x2048x704, .bf16⟩
  | .local _ .vmem, ⟨34, _⟩ => ⟨S1x2048x704, .bf16⟩
  | .local _ .vmem, ⟨35, _⟩ => ⟨S1x2048x704, .bf16⟩
  | .local _ .vmem, ⟨36, _⟩ => ⟨S1x704x1024, .bf16⟩
  | .local _ .vmem, ⟨37, _⟩ => ⟨S1x704x1024, .bf16⟩
  | .local _ .vmem, ⟨38, _⟩ => ⟨S1x704x1024, .bf16⟩
  | .local _ .vmem, ⟨39, _⟩ => ⟨S1x704x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x704 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x704 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2048x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x704x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x2048x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x704x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x704x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== Reference2Ideal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S2048x8x704 : Shape := ⟨3, ![2048, 8, 704]⟩
abbrev S8x2048x704 : Shape := ⟨3, ![8, 2048, 704]⟩
abbrev S8x704x2048 : Shape := ⟨3, ![8, 704, 2048]⟩

abbrev nBuf : Space → Nat
  | .hbm => 64
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x5632, .f32⟩
  | .hbm, ⟨28, _⟩ => ⟨S5632x2048, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S5632x2048, .f32⟩
  | .hbm, ⟨37, _⟩ => ⟨S2048x5632, .f32⟩
  | .hbm, ⟨38, _⟩ => ⟨S2048x2048, .f32⟩
  | .hbm, ⟨39, _⟩ => ⟨S5632x2048, .f32⟩
  | .hbm, ⟨40, _⟩ => ⟨S2048x5632, .f32⟩
  | .hbm, ⟨41, _⟩ => ⟨S2048x2048, .f32⟩
  | .hbm, ⟨42, _⟩ => ⟨S2048x2048, .f32⟩
  | .hbm, ⟨43, _⟩ => ⟨S2048x8x704, .f32⟩
  | .hbm, ⟨44, _⟩ => ⟨S8x2048x704, .f32⟩
  | .hbm, ⟨45, _⟩ => ⟨S2048x8x704, .f32⟩
  | .hbm, ⟨46, _⟩ => ⟨S8x2048x704, .f32⟩
  | .hbm, ⟨47, _⟩ => ⟨S2048x8x704, .f32⟩
  | .hbm, ⟨48, _⟩ => ⟨S8x2048x704, .f32⟩
  | .hbm, ⟨49, _⟩ => ⟨S8x2048x704, .bf16⟩
  | .hbm, ⟨50, _⟩ => ⟨S2048x8x704, .f32⟩
  | .hbm, ⟨51, _⟩ => ⟨S8x2048x704, .f32⟩
  | .hbm, ⟨52, _⟩ => ⟨S8x2048x704, .bf16⟩
  | .hbm, ⟨53, _⟩ => ⟨S2048x8x704, .f32⟩
  | .hbm, ⟨54, _⟩ => ⟨S8x2048x704, .f32⟩
  | .hbm, ⟨55, _⟩ => ⟨S8x2048x704, .bf16⟩
  | .hbm, ⟨56, _⟩ => ⟨S5632x2048, .bf16⟩
  | .hbm, ⟨57, _⟩ => ⟨S8x704x2048, .bf16⟩
  | .hbm, ⟨58, _⟩ => ⟨S5632x2048, .f32⟩
  | .hbm, ⟨59, _⟩ => ⟨S5632x2048, .bf16⟩
  | .hbm, ⟨60, _⟩ => ⟨S8x704x2048, .bf16⟩
  | .hbm, ⟨61, _⟩ => ⟨S5632x2048, .f32⟩
  | .hbm, ⟨62, _⟩ => ⟨S5632x2048, .bf16⟩
  | .hbm, ⟨63, _⟩ => ⟨S8x704x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel3.lean ====
abbrev S2048x2048 : Shape := ⟨2, ![2048, 2048]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S5632x2048, .f32⟩
  | .hbm, ⟨3, _⟩ => ⟨S2048x5632, .bf16⟩
  | .hbm, ⟨4, _⟩ => ⟨S2048x8x704, .bf16⟩
  | .hbm, ⟨5, _⟩ => ⟨S8x2048x704, .bf16⟩
  | .hbm, ⟨6, _⟩ => ⟨S5632x2048, .bf16⟩
  | .hbm, ⟨7, _⟩ => ⟨S8x704x2048, .bf16⟩
  | .hbm, ⟨8, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x2048 : Shape := ⟨2, ![2048, 2048]⟩
abbrev S2048x5632 : Shape := ⟨2, ![2048, 5632]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S2048x5632 : Shape := ⟨2, ![2048, 5632]⟩
abbrev S2048x8x704 : Shape := ⟨3, ![2048, 8, 704]⟩
abbrev S8x2048x704 : Shape := ⟨3, ![8, 2048, 704]⟩
abbrev S5632x2048 : Shape := ⟨2, ![5632, 2048]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 17
  | .vmem => 11
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x8x704, .bf16⟩
  | .hbm, ⟨6, _⟩ => ⟨S8x2048x704, .bf16⟩
  | .hbm, ⟨7, _⟩ => ⟨S2048x5632, .bf16⟩
  | .hbm, ⟨8, _⟩ => ⟨S2048x8x704, .bf16⟩
  | .hbm, ⟨9, _⟩ => ⟨S8x2048x704, .bf16⟩
  | .hbm, ⟨10, _⟩ => ⟨S5632x2048, .f32⟩
  | .hbm, ⟨11, _⟩ => ⟨S5632x2048, .bf16⟩
  | .hbm, ⟨12, _⟩ => ⟨S8x704x2048, .bf16⟩
  | .hbm, ⟨13, _⟩ => ⟨S5632x2048, .f32⟩
  | .hbm, ⟨14, _⟩ => ⟨S5632x2048, .bf16⟩
  | .hbm, ⟨15, _⟩ => ⟨S8x704x2048, .bf16⟩
  | .hbm, ⟨16, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_17 : BitVec 32 := 0#32
  let v21 : BitVec 1 := Scalar.cmpi .ne v20 c0_i32_17
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S2048x2048 : Shape := ⟨2, ![2048, 2048]⟩
abbrev S2048x512 : Shape := ⟨2, ![2048, 512]⟩
abbrev S_ : Shape := ⟨0, ![]⟩
abbrev S8x128 : Shape := ⟨2, ![8, 128]⟩
abbrev S512x2048 : Shape := ⟨2, ![512, 2048]⟩
abbrev S8x256x2048 : Shape := ⟨3, ![8, 256, 2048]⟩

abbrev nBuf : Space → Nat
  | .hbm => 13
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .f32⟩
  | .hbm, ⟨8, _⟩ => ⟨S_, .f32⟩
  | .hbm, ⟨9, _⟩ => ⟨S8x128, .f32⟩
  | .hbm, ⟨10, _⟩ => ⟨S2048x2048, .f32⟩
  | .hbm, ⟨11, _⟩ => ⟨S2048x2048, .bf16⟩
  | .hbm, ⟨12, _⟩ => ⟨S8x256x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x2048, .bf16⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | .local _ .vmem, ⟨11, _⟩ => ⟨S2048x512, .f32⟩
  | .local _ .vmem, ⟨12, _⟩ => ⟨S2048x512, .f32⟩
  | .local _ .vmem, ⟨13, _⟩ => ⟨S2048x2048, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference5Ideal.lean ====
abbrev S2048x2048 : Shape := ⟨2, ![2048, 2048]⟩
abbrev S8x256x2048 : Shape := ⟨3, ![8, 256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S8x256x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S2048x2048 : Shape := ⟨2, ![2048, 2048]⟩
abbrev S2048x4616 : Shape := ⟨2, ![2048, 4616]⟩
abbrev S4616x2048 : Shape := ⟨2, ![4616, 2048]⟩
abbrev S8x577x2048 : Shape := ⟨3, ![8, 577, 2048]⟩
abbrev S3080x2048 : Shape := ⟨2, ![3080, 2048]⟩
abbrev S_ : Shape := ⟨0, ![]⟩
abbrev S504x2048 : Shape := ⟨2, ![504, 2048]⟩
abbrev S1536x2048 : Shape := ⟨2, ![1536, 2048]⟩
abbrev S5120x2048 : Shape := ⟨2, ![5120, 2048]⟩
abbrev S2048x3080 : Shape := ⟨2, ![2048, 3080]⟩
abbrev S2048x504 : Shape := ⟨2, ![2048, 504]⟩
abbrev S2048x1536 : Shape := ⟨2, ![2048, 1536]⟩
abbrev S2048x5120 : Shape := ⟨2, ![2048, 5120]⟩
abbrev S512x2048 : Shape := ⟨2, ![512, 2048]⟩
abbrev S2048x512 : Shape := ⟨2, ![2048, 512]⟩
abbrev S512x5120 : Shape := ⟨2, ![512, 5120]⟩
abbrev S5120x512 : Shape := ⟨2, ![5120, 512]⟩
abbrev S512x512 : Shape := ⟨2, ![512, 512]⟩

abbrev nBuf : Space → Nat
  | .hbm => 26
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x4616, .f32⟩
  | .hbm, ⟨2, _⟩ => ⟨S2048x4616, .f32⟩
  | .hbm, ⟨3, _⟩ => ⟨S4616x2048, .f32⟩
  | .hbm, ⟨4, _⟩ => ⟨S4616x2048, .bf16⟩
  | .hbm, ⟨5, _⟩ => ⟨S8x577x2048, .bf16⟩
  | .hbm, ⟨6, _⟩ => ⟨S4616x2048, .bf16⟩
  | .hbm, ⟨7, _⟩ => ⟨S3080x2048, .bf16⟩
  | .hbm, ⟨8, _⟩ => ⟨S_, .bf16⟩
  | .hbm, ⟨9, _⟩ => ⟨S504x2048, .bf16⟩
  | .hbm, ⟨10, _⟩ => ⟨S1536x2048, .bf16⟩
  | .hbm, ⟨11, _⟩ => ⟨S5120x2048, .bf16⟩
  | .hbm, ⟨12, _⟩ => ⟨S2048x2048, .bf16⟩
  | .hbm, ⟨13, _⟩ => ⟨S2048x4616, .bf16⟩
  | .hbm, ⟨14, _⟩ => ⟨S2048x3080, .bf16⟩
  | .hbm, ⟨15, _⟩ => ⟨S_, .bf16⟩
  | .hbm, ⟨16, _⟩ => ⟨S2048x504, .bf16⟩
  | .hbm, ⟨17, _⟩ => ⟨S2048x1536, .bf16⟩
  | .hbm, ⟨18, _⟩ => ⟨S2048x5120, .bf16⟩
  | .hbm, ⟨19, _⟩ => ⟨S2048x5120, .f32⟩
  | .hbm, ⟨20, _⟩ => ⟨S5120x2048, .bf16⟩
  | .hbm, ⟨21, _⟩ => ⟨S3080x2048, .bf16⟩
  | .hbm, ⟨22, _⟩ => ⟨S1536x2048, .bf16⟩
  | .hbm, ⟨23, _⟩ => ⟨S4616x2048, .bf16⟩
  | .hbm, ⟨24, _⟩ => ⟨S8x577x2048, .bf16⟩
  | .hbm, ⟨25, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | .local _ .vmem, ⟨7, _⟩ => ⟨S2048x2048, .bf16⟩
  | .local _ .vmem, ⟨8, _⟩ => ⟨S512x2048, .bf16⟩
  | .local _ .vmem, ⟨9, _⟩ => ⟨S512x2048, .bf16⟩
  | .local _ .vmem, ⟨10, _⟩ => ⟨S512x5120, .bf16⟩
  | .local _ .vmem, ⟨11, _⟩ => ⟨S512x5120, .bf16⟩
  | .local _ .vmem, ⟨12, _⟩ => ⟨S5120x512, .bf16⟩
  | .local _ .vmem, ⟨13, _⟩ => ⟨S5120x512, .bf16⟩
  | .local _ .vmem, ⟨14, _⟩ => ⟨S512x512, .f32⟩
  | .local _ .vmem, ⟨15, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![10, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x5120 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S5120x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference6Ideal.lean ====
abbrev S2048x2048 : Shape := ⟨2, ![2048, 2048]⟩
abbrev S2048x4616 : Shape := ⟨2, ![2048, 4616]⟩
abbrev S4616x2048 : Shape := ⟨2, ![4616, 2048]⟩
abbrev S_ : Shape := ⟨0, ![]⟩
abbrev S2048x504 : Shape := ⟨2, ![2048, 504]⟩
abbrev S2048x3080 : Shape := ⟨2, ![2048, 3080]⟩
abbrev S2048x1536 : Shape := ⟨2, ![2048, 1536]⟩
abbrev S2048x5120 : Shape := ⟨2, ![2048, 5120]⟩
abbrev S8x577x2048 : Shape := ⟨3, ![8, 577, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4616, .f32⟩
  | .hbm, ⟨2, _⟩ => ⟨S2048x4616, .f32⟩
  | .hbm, ⟨3, _⟩ => ⟨S2048x4616, .f32⟩
  | .hbm, ⟨4, _⟩ => ⟨S4616x2048, .f32⟩
  | .hbm, ⟨5, _⟩ => ⟨S2048x4616, .f32⟩
  | .hbm, ⟨6, _⟩ => ⟨S2048x2048, .f32⟩
  | .hbm, ⟨7, _⟩ => ⟨S_, .f32⟩
  | .hbm, ⟨8, _⟩ => ⟨S2048x504, .f32⟩
  | .hbm, ⟨9, _⟩ => ⟨S2048x3080, .f32⟩
  | .hbm, ⟨10, _⟩ => ⟨S2048x1536, .f32⟩
  | .hbm, ⟨11, _⟩ => ⟨S2048x5120, .f32⟩
  | .hbm, ⟨12, _⟩ => ⟨S4616x2048, .f32⟩
  | .hbm, ⟨13, _⟩ => ⟨S4616x2048, .bf16⟩
  | .hbm, ⟨14, _⟩ => ⟨S8x577x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S2048x2048 : Shape := ⟨2, ![2048, 2048]⟩
abbrev S2048x256 : Shape := ⟨2, ![2048, 256]⟩
abbrev S256x2048 : Shape := ⟨2, ![256, 2048]⟩
abbrev S256x8x256 : Shape := ⟨3, ![256, 8, 256]⟩
abbrev S8x256x256 : Shape := ⟨3, ![8, 256, 256]⟩
abbrev S1024x2048 : Shape := ⟨2, ![1024, 2048]⟩
abbrev S1024x256 : Shape := ⟨2, ![1024, 256]⟩
abbrev S1x256x256 : Shape := ⟨3, ![1, 256, 256]⟩
abbrev S256x256 : Shape := ⟨2, ![256, 256]⟩
abbrev S_ : Shape := ⟨0, ![]⟩
abbrev S8x128 : Shape := ⟨2, ![8, 128]⟩
abbrev S2048x512 : Shape := ⟨2, ![2048, 512]⟩
abbrev S8x256x2048 : Shape := ⟨3, ![8, 256, 2048]⟩
abbrev S512x2048 : Shape := ⟨2, ![512, 2048]⟩

abbrev nBuf : Space → Nat
  | .hbm => 23
  | .vmem => 42
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S2048x2048, .f32⟩
  | .hbm, ⟨4, _⟩ => ⟨S256x2048, .f32⟩
  | .hbm, ⟨5, _⟩ => ⟨S2048x2048, .f32⟩
  | .hbm, ⟨6, _⟩ => ⟨S2048x2048, .bf16⟩
  | .hbm, ⟨7, _⟩ => ⟨S2048x256, .bf16⟩
  | .hbm, ⟨8, _⟩ => ⟨S2048x2048, .bf16⟩
  | .hbm, ⟨9, _⟩ => ⟨S256x2048, .bf16⟩
  | .hbm, ⟨10, _⟩ => ⟨S256x8x256, .bf16⟩
  | .hbm, ⟨11, _⟩ => ⟨S8x256x256, .bf16⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S8x128, .f32⟩
  | .hbm, ⟨17, _⟩ => ⟨S2048x2048, .bf16⟩
  | .hbm, ⟨18, _⟩ => ⟨S2048x2048, .bf16⟩
  | .hbm, ⟨19, _⟩ => ⟨S8x256x256, .bf16⟩
  | .hbm, ⟨20, _⟩ => ⟨S2048x2048, .bf16⟩
  | .hbm, ⟨21, _⟩ => ⟨S8x256x2048, .bf16⟩
  | .hbm, ⟨22, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .bf16⟩
  | .local _ .vmem, ⟨6, _⟩ => ⟨S1x256x256, .bf16⟩
  | .local _ .vmem, ⟨7, _⟩ => ⟨S1x256x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S8x128, .f32⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S1x256x256, .bf16⟩
  | .local _ .vmem, ⟨31, _⟩ => ⟨S1x256x256, .bf16⟩
  | .local _ .vmem, ⟨32, _⟩ => ⟨S2048x2048, .bf16⟩
  | .local _ .vmem, ⟨33, _⟩ => ⟨S2048x512, .bf16⟩
  | .local _ .vmem, ⟨34, _⟩ => ⟨S2048x512, .bf16⟩
  | .local _ .vmem, ⟨35, _⟩ => ⟨S2048x512, .bf16⟩
  | .local _ .vmem, ⟨36, _⟩ => ⟨S2048x512, .bf16⟩
  | .local _ .vmem, ⟨37, _⟩ => ⟨S2048x2048, .bf16⟩
  | .local _ .vmem, ⟨38, _⟩ => ⟨S512x2048, .bf16⟩
  | .local _ .vmem, ⟨39, _⟩ => ⟨S512x2048, .bf16⟩
  | .local _ .vmem, ⟨40, _⟩ => ⟨S2048x512, .f32⟩
  | .local _ .vmem, ⟨41, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_cst : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc4_stg0_0 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem4_1 : DmaSem sig := 24
abbrev cc1_sem5_0 : DmaSem sig := 25
abbrev cc1_sem5_1 : DmaSem sig := 26
abbrev cc2_sem0_0 : DmaSem sig := 27
abbrev cc2_sem1_0 : DmaSem sig := 28
abbrev cc2_sem1_1 : DmaSem sig := 29
abbrev cc2_sem2_0 : DmaSem sig := 30
abbrev cc2_sem2_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc4_sem0_0 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S2048x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference7Ideal.lean ====
abbrev S2048x2048 : Shape := ⟨2, ![2048, 2048]⟩
abbrev S2048x256 : Shape := ⟨2, ![2048, 256]⟩
abbrev S256x2048 : Shape := ⟨2, ![256, 2048]⟩
abbrev S_ : Shape := ⟨0, ![]⟩
abbrev S256x8x256 : Shape := ⟨3, ![256, 8, 256]⟩
abbrev S8x256x256 : Shape := ⟨3, ![8, 256, 256]⟩
abbrev S8x256x2048 : Shape := ⟨3, ![8, 256, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S2048x2048, .f32⟩
  | .hbm, ⟨4, _⟩ => ⟨S256x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x256, .f32⟩
  | .hbm, ⟨27, _⟩ => ⟨S256x2048, .f32⟩
  | .hbm, ⟨28, _⟩ => ⟨S2048x256, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .bf16⟩
  | .hbm, ⟨33, _⟩ => ⟨S2048x2048, .bf16⟩
  | .hbm, ⟨34, _⟩ => ⟨S256x2048, .bf16⟩
  | .hbm, ⟨35, _⟩ => ⟨S256x8x256, .bf16⟩
  | .hbm, ⟨36, _⟩ => ⟨S8x256x256, .bf16⟩
  | .hbm, ⟨37, _⟩ => ⟨S2048x2048, .bf16⟩
  | .hbm, ⟨38, _⟩ => ⟨S8x256x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel8.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== Reference8Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel9.lean ====
abbrev S2048x2048 : Shape := ⟨2, ![2048, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference9Ideal.lean ====
abbrev S2048x2048 : Shape := ⟨2, ![2048, 2048]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel10.lean ====
abbrev S2048x5120 : Shape := ⟨2, ![2048, 5120]⟩
abbrev S8 : Shape := ⟨1, ![8]⟩
abbrev S2048x8 : Shape := ⟨2, ![2048, 8]⟩
abbrev S1x8 : Shape := ⟨2, ![1, 8]⟩
abbrev S_ : Shape := ⟨0, ![]⟩
abbrev S1x128 : Shape := ⟨2, ![1, 128]⟩
abbrev S2048x128 : Shape := ⟨2, ![2048, 128]⟩
abbrev S128x128 : Shape := ⟨2, ![128, 128]⟩
abbrev S2048x512 : Shape := ⟨2, ![2048, 512]⟩
abbrev S2048x384 : Shape := ⟨2, ![2048, 384]⟩
abbrev S128 : Shape := ⟨1, ![128]⟩

abbrev nBuf : Space → Nat
  | .hbm => 15
  | .vmem => 8
  | .smem => 0
  | _ => 0

abbrev bufTy : (tb : Table) → Fin (tcTables nBuf tb) → BufTy
  | .hbm, ⟨0, _⟩ => ⟨S2048x5120, .f32⟩
  | .hbm, ⟨1, _⟩ => ⟨S8, .f32⟩
  | .hbm, ⟨2, _⟩ => ⟨S2048x8, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S2048x128, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x512, .bf16⟩
  | .hbm, ⟨12, _⟩ => ⟨S1x128, .f32⟩
  | .hbm, ⟨13, _⟩ => ⟨S2048x8, .f32⟩
  | .hbm, ⟨14, _⟩ => ⟨S1x8, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S1x128, .f32⟩
  | .local _ .vmem, ⟨6, _⟩ => ⟨S2048x512, .bf16⟩
  | .local _ .vmem, ⟨7, _⟩ => ⟨S1x128, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c24_i32 : BitVec 32 := 24#32
  let c0_i32_0 : BitVec 32 := 0#32
  ![c0_i32.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c24_i32 : BitVec 32 := 24#32
  let c0_i32_0 : BitVec 32 := 0#32
  ![c0_i32.toNat, c24_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== Reference10Ideal.lean ====
abbrev S2048x5120 : Shape := ⟨2, ![2048, 5120]⟩
abbrev S8 : Shape := ⟨1, ![8]⟩
abbrev S2048x8 : Shape := ⟨2, ![2048, 8]⟩
abbrev S1x8 : Shape := ⟨2, ![1, 8]⟩
abbrev S_ : Shape := ⟨0, ![]⟩
abbrev S2048x512 : Shape := ⟨2, ![2048, 512]⟩

abbrev nBuf : Space → Nat
  | .hbm => 74
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S8, .f32⟩
  | .hbm, ⟨2, _⟩ => ⟨S2048x8, .f32⟩
  | .hbm, ⟨3, _⟩ => ⟨S2048x8, .f32⟩
  | .hbm, ⟨4, _⟩ => ⟨S1x8, .f32⟩
  | .hbm, ⟨5, _⟩ => ⟨S2048x8, .f32⟩
  | .hbm, ⟨6, _⟩ => ⟨S2048x8, .f32⟩
  | .hbm, ⟨7, _⟩ => ⟨S2048x8, .f32⟩
  | .hbm, ⟨8, _⟩ => ⟨S_, .f32⟩
  | .hbm, ⟨9, _⟩ => ⟨S2048x8, .f32⟩
  | .hbm, ⟨10, _⟩ => ⟨S2048x8, .f32⟩
  | .hbm, ⟨11, _⟩ => ⟨S2048x8, .f32⟩
  | .hbm, ⟨12, _⟩ => ⟨S2048x8, .f32⟩
  | .hbm, ⟨13, _⟩ => ⟨S2048x8, .i1⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x8, .f32⟩
  | .hbm, ⟨24, _⟩ => ⟨S2048x8, .i1⟩
  | .hbm, ⟨25, _⟩ => ⟨S_, .f32⟩
  | .hbm, ⟨26, _⟩ => ⟨S2048x8, .f32⟩
  | .hbm, ⟨27, _⟩ => ⟨S2048x8, .f32⟩
  | .hbm, ⟨28, _⟩ => ⟨S_, .f32⟩
  | .hbm, ⟨29, _⟩ => ⟨S2048x8, .f32⟩
  | .hbm, ⟨30, _⟩ => ⟨S2048x8, .i1⟩
  | .hbm, ⟨31, _⟩ => ⟨S_, .f32⟩
  | .hbm, ⟨32, _⟩ => ⟨S2048x8, .f32⟩
  | .hbm, ⟨33, _⟩ => ⟨S2048x8, .f32⟩
  | .hbm, ⟨34, _⟩ => ⟨S2048x8, .f32⟩
  | .hbm, ⟨35, _⟩ => ⟨S2048x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048x8, .f32⟩
  | .hbm, ⟨44, _⟩ => ⟨S2048x8, .i1⟩
  | .hbm, ⟨45, _⟩ => ⟨S_, .f32⟩
  | .hbm, ⟨46, _⟩ => ⟨S2048x8, .f32⟩
  | .hbm, ⟨47, _⟩ => ⟨S2048x8, .f32⟩
  | .hbm, ⟨48, _⟩ => ⟨S2048x8, .f32⟩
  | .hbm, ⟨49, _⟩ => ⟨S2048x8, .f32⟩
  | .hbm, ⟨50, _⟩ => ⟨S2048x8, .f32⟩
  | .hbm, ⟨51, _⟩ => ⟨S_, .f32⟩
  | .hbm, ⟨52, _⟩ => ⟨S2048x8, .f32⟩
  | .hbm, ⟨53, _⟩ => ⟨S2048x8, .f32⟩
  | .hbm, ⟨54, _⟩ => ⟨S2048x8, .f32⟩
  | .hbm, ⟨55, _⟩ => ⟨S_, .f32⟩
  | .hbm, ⟨56, _⟩ => ⟨S_, .f32⟩
  | .hbm, ⟨57, _⟩ => ⟨S2048x8, .f32⟩
  | .hbm, ⟨58, _⟩ => ⟨S_, .f32⟩
  | .hbm, ⟨59, _⟩ => ⟨S_, .f32⟩
  | .hbm, ⟨60, _⟩ => ⟨S2048x8, .f32⟩
  | .hbm, ⟨61, _⟩ => ⟨S2048x8, .f32⟩
  | .hbm, ⟨62, _⟩ => ⟨S2048x8, .f32⟩
  | .hbm, ⟨63, _⟩ => ⟨S2048x8, .f32⟩
  | .hbm, ⟨64, _⟩ => ⟨S_, .f32⟩
  | .hbm, ⟨65, _⟩ => ⟨S8, .f32⟩
  | .hbm, ⟨66, _⟩ => ⟨S1x8, .f32⟩
  | .hbm, ⟨67, _⟩ => ⟨S_, .f32⟩
  | .hbm, ⟨68, _⟩ => ⟨S8, .f32⟩
  | .hbm, ⟨69, _⟩ => ⟨S_, .i32⟩
  | .hbm, ⟨70, _⟩ => ⟨S_, .f32⟩
  | .hbm, ⟨71, _⟩ => ⟨S2048x512, .f32⟩
  | .hbm, ⟨72, _⟩ => ⟨S2048x512, .bf16⟩
  | .hbm, ⟨73, _⟩ => ⟨S1x8, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_call2_call0_cst : Ref sig .tc := ⟨.hbm, 58, rfl⟩
abbrev main_call2_call0_v0 : Ref sig .tc := ⟨.hbm, 59, rfl⟩
abbrev main_v6 : Ref sig .tc := ⟨.hbm, 60, rfl⟩
abbrev main_call3_v0 : Ref sig .tc := ⟨.hbm, 61, rfl⟩
abbrev main_call3_v1 : Ref sig .tc := ⟨.hbm, 62, rfl⟩
abbrev main_v7 : Ref sig .tc := ⟨.hbm, 63, rfl⟩
abbrev main_cst : Ref sig .tc := ⟨.hbm, 64, rfl⟩
abbrev main_v8 : Ref sig .tc := ⟨.hbm, 65, rfl⟩
abbrev main_v9 : Ref sig .tc := ⟨.hbm, 66, rfl⟩
abbrev main_cst_0 : Ref sig .tc := ⟨.hbm, 67, rfl⟩
abbrev main_v10 : Ref sig .tc := ⟨.hbm, 68, rfl⟩
abbrev main_c : Ref sig .tc := ⟨.hbm, 69, rfl⟩
abbrev main_call4_v0 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩

abbrev nD : Nat := 1
abbrev τ : Topo := Topo.v7x

variable {F : FTy → Type} [FloatOps F]
-- ==== Kernel11.lean ====
abbrev S4x2048x577 : Shape := ⟨3, ![4, 2048, 577]⟩
abbrev S1x2048x577 : Shape := ⟨3, ![1, 2048, 577]⟩
abbrev S2048x577 : Shape := ⟨2, ![2048, 577]⟩
abbrev S256x577 : Shape := ⟨2, ![256, 577]⟩
abbrev S1x256x577 : Shape := ⟨3, ![1, 256, 577]⟩

abbrev nBuf : Space → Nat
  | .hbm => 28
  | .vmem => 64
  | .smem => 0
  | _ => 0

abbrev bufTy : (tb : Table) → Fin (tcTables nBuf tb) → BufTy
  | .hbm, ⟨0, _⟩ => ⟨S4x2048x577, .f32⟩
  | .hbm, ⟨1, _⟩ => ⟨S4x2048x577, .f32⟩
  | .hbm, ⟨2, _⟩ => ⟨S4x2048x577, .f32⟩
  | .hbm, ⟨3, _⟩ => ⟨S4x2048x577, .f32⟩
  | .hbm, ⟨4, _⟩ => ⟨S1x2048x577, .f32⟩
  | .hbm, ⟨5, _⟩ => ⟨S2048x577, .f32⟩
  | .hbm, ⟨6, _⟩ => ⟨S4x2048x577, .f32⟩
  | .hbm, ⟨7, _⟩ => ⟨S4x2048x577, .f32⟩
  | .hbm, ⟨8, _⟩ => ⟨S4x2048x577, .f32⟩
  | .hbm, ⟨9, _⟩ => ⟨S4x2048x577, .f32⟩
  | .hbm, ⟨10, _⟩ => ⟨S1x2048x577, .f32⟩
  | .hbm, ⟨11, _⟩ => ⟨S2048x577, .f32⟩
  | .hbm, ⟨12, _⟩ => ⟨S4x2048x577, .f32⟩
  | .hbm, ⟨13, _⟩ => ⟨S4x2048x577, .f32⟩
  | .hbm, ⟨14, _⟩ => ⟨S4x2048x577, .f32⟩
  | .hbm, ⟨15, _⟩ => ⟨S4x2048x577, .f32⟩
  | .hbm, ⟨16, _⟩ => ⟨S1x2048x577, .f32⟩
  | .hbm, ⟨17, _⟩ => ⟨S2048x577, .f32⟩
  | .hbm, ⟨18, _⟩ => ⟨S4x2048x577, .f32⟩
  | .hbm, ⟨19, _⟩ => ⟨S4x2048x577, .f32⟩
  | .hbm, ⟨20, _⟩ => ⟨S4x2048x577, .f32⟩
  | .hbm, ⟨21, _⟩ => ⟨S4x2048x577, .f32⟩
  | .hbm, ⟨22, _⟩ => ⟨S1x2048x577, .f32⟩
  | .hbm, ⟨23, _⟩ => ⟨S2048x577, .f32⟩
  | .hbm, ⟨24, _⟩ => ⟨S4x2048x577, .f32⟩
  | .hbm, ⟨25, _⟩ => ⟨S4x2048x577, .f32⟩
  | .hbm, ⟨26, _⟩ => ⟨S4x2048x577, .f32⟩
  | .hbm, ⟨27, _⟩ => ⟨S4x2048x577, .f32⟩
  | .local _ .vmem, ⟨0, _⟩ => ⟨S256x577, .f32⟩
  | .local _ .vmem, ⟨1, _⟩ => ⟨S256x577, .f32⟩
  | .local _ .vmem, ⟨2, _⟩ => ⟨S1x256x577, .f32⟩
  | .local _ .vmem, ⟨3, _⟩ => ⟨S1x256x577, .f32⟩
  | .local _ .vmem, ⟨4, _⟩ => ⟨S1x256x577, .f32⟩
  | .local _ .vmem, ⟨5, _⟩ => ⟨S1x256x577, .f32⟩
  | .local _ .vmem, ⟨6, _⟩ => ⟨S1x256x577, .f32⟩
  | .local _ .vmem, ⟨7, _⟩ => ⟨S1x256x577, .f32⟩
  | .local _ .vmem, ⟨8, _⟩ => ⟨S1x256x577, .f32⟩
  | .local _ .vmem, ⟨9, _⟩ => ⟨S1x256x577, .f32⟩
  | .local _ .vmem, ⟨10, _⟩ => ⟨S1x256x577, .f32⟩
  | .local _ .vmem, ⟨11, _⟩ => ⟨S1x256x577, .f32⟩
  | .local _ .vmem, ⟨12, _⟩ => ⟨S1x256x577, .f32⟩
  | .local _ .vmem, ⟨13, _⟩ => ⟨S1x256x577, .f32⟩
  | .local _ .vmem, ⟨14, _⟩ => ⟨S1x256x577, .f32⟩
  | .local _ .vmem, ⟨15, _⟩ => ⟨S1x256x577, .f32⟩
  | .local _ .vmem, ⟨16, _⟩ => ⟨S256x577, .f32⟩
  | .local _ .vmem, ⟨17, _⟩ => ⟨S256x577, .f32⟩
  | .local _ .vmem, ⟨18, _⟩ => ⟨S1x256x577, .f32⟩
  | .local _ .vmem, ⟨19, _⟩ => ⟨S1x256x577, .f32⟩
  | .local _ .vmem, ⟨20, _⟩ => ⟨S1x256x577, .f32⟩
  | .local _ .vmem, ⟨21, _⟩ => ⟨S1x256x577, .f32⟩
  | .local _ .vmem, ⟨22, _⟩ => ⟨S1x256x577, .f32⟩
  | .local _ .vmem, ⟨23, _⟩ => ⟨S1x256x577, .f32⟩
  | .local _ .vmem, ⟨24, _⟩ => ⟨S1x256x577, .f32⟩
  | .local _ .vmem, ⟨25, _⟩ => ⟨S1x256x577, .f32⟩
  | .local _ .vmem, ⟨26, _⟩ => ⟨S1x256x577, .f32⟩
  | .local _ .vmem, ⟨27, _⟩ => ⟨S1x256x577, .f32⟩
  | .local _ .vmem, ⟨28, _⟩ => ⟨S1x256x577, .f32⟩
  | .local _ .vmem, ⟨29, _⟩ => ⟨S1x256x577, .f32⟩
  | .local _ .vmem, ⟨30, _⟩ => ⟨S1x256x577, .f32⟩
  | .local _ .vmem, ⟨31, _⟩ => ⟨S1x256x577, .f32⟩
  | .local _ .vmem, ⟨32, _⟩ => ⟨S256x577, .f32⟩
  | .local _ .vmem, ⟨33, _⟩ => ⟨S256x577, .f32⟩
  | .local _ .vmem, ⟨34, _⟩ => ⟨S1x256x577, .f32⟩
  | .local _ .vmem, ⟨35, _⟩ => ⟨S1x256x577, .f32⟩
  | .local _ .vmem, ⟨36, _⟩ => ⟨S1x256x577, .f32⟩
  | .local _ .vmem, ⟨37, _⟩ => ⟨S1x256x577, .f32⟩
  | .local _ .vmem, ⟨38, _⟩ => ⟨S1x256x577, .f32⟩
  | .local _ .vmem, ⟨39, _⟩ => ⟨S1x256x577, .f32⟩
  | .local _ .vmem, ⟨40, _⟩ => ⟨S1x256x577, .f32⟩
  | .local _ .vmem, ⟨41, _⟩ => ⟨S1x256x577, .f32⟩
  | .local _ .vmem, ⟨42, _⟩ => ⟨S1x256x577, .f32⟩
  | .local _ .vmem, ⟨43, _⟩ => ⟨S1x256x577, .f32⟩
  | .local _ .vmem, ⟨44, _⟩ => ⟨S1x256x577, .f32⟩
  | .local _ .vmem, ⟨45, _⟩ => ⟨S1x256x577, .f32⟩
  | .local _ .vmem, ⟨46, _⟩ => ⟨S1x256x577, .f32⟩
  | .local _ .vmem, ⟨47, _⟩ => ⟨S1x256x577, .f32⟩
  | .local _ .vmem, ⟨48, _⟩ => ⟨S256x577, .f32⟩
  | .local _ .vmem, ⟨49, _⟩ => ⟨S256x577, .f32⟩
  | .local _ .vmem, ⟨50, _⟩ => ⟨S1x256x577, .f32⟩
  | .local _ .vmem, ⟨51, _⟩ => ⟨S1x256x577, .f32⟩
  | .local _ .vmem, ⟨52, _⟩ => ⟨S1x256x577, .f32⟩
  | .local _ .vmem, ⟨53, _⟩ => ⟨S1x256x577, .f32⟩
  | .local _ .vmem, ⟨54, _⟩ => ⟨S1x256x577, .f32⟩
  | .local _ .vmem, ⟨55, _⟩ => ⟨S1x256x577, .f32⟩
  | .local _ .vmem, ⟨56, _⟩ => ⟨S1x256x577, .f32⟩
  | .local _ .vmem, ⟨57, _⟩ => ⟨S1x256x577, .f32⟩
  | .local _ .vmem, ⟨58, _⟩ => ⟨S1x256x577, .f32⟩
  | .local _ .vmem, ⟨59, _⟩ => ⟨S1x256x577, .f32⟩
  | .local _ .vmem, ⟨60, _⟩ => ⟨S1x256x577, .f32⟩
  | .local _ .vmem, ⟨61, _⟩ => ⟨S1x256x577, .f32⟩
  | .local _ .vmem, ⟨62, _⟩ => ⟨S1x256x577, .f32⟩
  | .local _ .vmem, ⟨63, _⟩ => ⟨S1x256x577, .f32⟩
  | _, _ => ⟨S4x2048x577, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S256x577 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x577 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x577 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x577 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x577 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x577 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x577 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x577 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S256x577 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x577 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x577 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x577 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x577 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x577 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x577 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x577 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S256x577 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x577 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x577 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x577 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x577 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x577 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x577 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x577 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S256x577 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x577 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x577 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x577 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x577 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x577 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x577 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x577 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference11Ideal.lean ====
abbrev S4x2048x577 : Shape := ⟨3, ![4, 2048, 577]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x577, .f32⟩
  | .hbm, ⟨1, _⟩ => ⟨S4x2048x577, .f32⟩
  | .hbm, ⟨2, _⟩ => ⟨S4x2048x577, .f32⟩
  | .hbm, ⟨3, _⟩ => ⟨S4x2048x577, .f32⟩
  | .hbm, ⟨4, _⟩ => ⟨S_, .f32⟩
  | .hbm, ⟨5, _⟩ => ⟨S4x2048x577, .f32⟩
  | .hbm, ⟨6, _⟩ => ⟨S4x2048x577, .f32⟩
  | .hbm, ⟨7, _⟩ => ⟨S_, .f32⟩
  | .hbm, ⟨8, _⟩ => ⟨S4x2048x577, .f32⟩
  | .hbm, ⟨9, _⟩ => ⟨S4x2048x577, .f32⟩
  | .hbm, ⟨10, _⟩ => ⟨S4x2048x577, .f32⟩
  | .hbm, ⟨11, _⟩ => ⟨S_, .f32⟩
  | .hbm, ⟨12, _⟩ => ⟨S4x2048x577, .f32⟩
  | .hbm, ⟨13, _⟩ => ⟨S4x2048x577, .f32⟩
  | .hbm, ⟨14, _⟩ => ⟨S4x2048x577, .f32⟩
  | .hbm, ⟨15, _⟩ => ⟨S_, .f32⟩
  | .hbm, ⟨16, _⟩ => ⟨S4x2048x577, .f32⟩
  | .hbm, ⟨17, _⟩ => ⟨S4x2048x577, .f32⟩
  | .hbm, ⟨18, _⟩ => ⟨S4x2048x577, .f32⟩
  | .hbm, ⟨19, _⟩ => ⟨S_, .f32⟩
  | .hbm, ⟨20, _⟩ => ⟨S4x2048x577, .f32⟩
  | .hbm, ⟨21, _⟩ => ⟨S4x2048x577, .f32⟩
  | .hbm, ⟨22, _⟩ => ⟨S_, .f32⟩
  | .hbm, ⟨23, _⟩ => ⟨S4x2048x577, .f32⟩
  | .hbm, ⟨24, _⟩ => ⟨S4x2048x577, .f32⟩
  | .hbm, ⟨25, _⟩ => ⟨S4x2048x577, .f32⟩
  | .hbm, ⟨26, _⟩ => ⟨S_, .f32⟩
  | .hbm, ⟨27, _⟩ => ⟨S4x2048x577, .f32⟩
  | .hbm, ⟨28, _⟩ => ⟨S4x2048x577, .f32⟩
  | .hbm, ⟨29, _⟩ => ⟨S4x2048x577, .f32⟩
  | .hbm, ⟨30, _⟩ => ⟨S_, .f32⟩
  | .hbm, ⟨31, _⟩ => ⟨S4x2048x577, .f32⟩
  | .hbm, ⟨32, _⟩ => ⟨S4x2048x577, .f32⟩
  | .hbm, ⟨33, _⟩ => ⟨S4x2048x577, .f32⟩
  | .hbm, ⟨34, _⟩ => ⟨S_, .f32⟩
  | .hbm, ⟨35, _⟩ => ⟨S4x2048x577, .f32⟩
  | .hbm, ⟨36, _⟩ => ⟨S4x2048x577, .f32⟩
  | _, _ => ⟨S4x2048x577, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2048x5120 : Shape := ⟨2, ![2048, 5120]⟩
abbrev S4x128x128 : Shape := ⟨3, ![4, 128, 128]⟩
abbrev S512 : Shape := ⟨1, ![512]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 5
  | .vmem => 4
  | .smem => 0
  | _ => 0

abbrev bufTy : (tb : Table) → Fin (tcTables nBuf tb) → BufTy
  | .hbm, ⟨0, _⟩ => ⟨S2048x5120, .f32⟩
  | .hbm, ⟨1, _⟩ => ⟨S4x128x128, .f32⟩
  | .hbm, ⟨2, _⟩ => ⟨S512, .f32⟩
  | .hbm, ⟨3, _⟩ => ⟨S1x512, .f32⟩
  | .hbm, ⟨4, _⟩ => ⟨S2048x512, .bf16⟩
  | .local _ .vmem, ⟨0, _⟩ => ⟨S2048x512, .f32⟩
  | .local _ .vmem, ⟨1, _⟩ => ⟨S4x128x128, .f32⟩
  | .local _ .vmem, ⟨2, _⟩ => ⟨S1x512, .f32⟩
  | .local _ .vmem, ⟨3, _⟩ => ⟨S2048x512, .bf16⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference12Ideal.lean ====
abbrev S2048x5120 : Shape := ⟨2, ![2048, 5120]⟩
abbrev S4x128x128 : Shape := ⟨3, ![4, 128, 128]⟩
abbrev S512 : Shape := ⟨1, ![512]⟩
abbrev S2048x512 : Shape := ⟨2, ![2048, 512]⟩
abbrev S2048x4x128 : Shape := ⟨3, ![2048, 4, 128]⟩
abbrev S2048 : Shape := ⟨1, ![2048]⟩
abbrev S2048x1 : Shape := ⟨2, ![2048, 1]⟩
abbrev S4 : Shape := ⟨1, ![4]⟩
abbrev S_ : Shape := ⟨0, ![]⟩
abbrev S1x4 : Shape := ⟨2, ![1, 4]⟩
abbrev S2048x4 : Shape := ⟨2, ![2048, 4]⟩
abbrev S2048x4x1 : Shape := ⟨3, ![2048, 4, 1]⟩
abbrev S1x1x2048 : Shape := ⟨3, ![1, 1, 2048]⟩
abbrev S2048x4x2048 : Shape := ⟨3, ![2048, 4, 2048]⟩
abbrev S2048x1x1 : Shape := ⟨3, ![2048, 1, 1]⟩
abbrev S2048x1x2048 : Shape := ⟨3, ![2048, 1, 2048]⟩
abbrev S4x128x2048 : Shape := ⟨3, ![4, 128, 2048]⟩
abbrev S1x512 : Shape := ⟨2, ![1, 512]⟩

abbrev nBuf : Space → Nat
  | .hbm => 53
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S4x128x128, .f32⟩
  | .hbm, ⟨2, _⟩ => ⟨S512, .f32⟩
  | .hbm, ⟨3, _⟩ => ⟨S2048x512, .f32⟩
  | .hbm, ⟨4, _⟩ => ⟨S2048x4x128, .f32⟩
  | .hbm, ⟨5, _⟩ => ⟨S2048, .i32⟩
  | .hbm, ⟨6, _⟩ => ⟨S2048x1, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S1x4, .i32⟩
  | .hbm, ⟨12, _⟩ => ⟨S_, .i32⟩
  | .hbm, ⟨13, _⟩ => ⟨S2048x1, .i32⟩
  | .hbm, ⟨14, _⟩ => ⟨S2048x1, .i32⟩
  | .hbm, ⟨15, _⟩ => ⟨S2048x4, .i32⟩
  | .hbm, ⟨16, _⟩ => ⟨S2048x4, .i32⟩
  | .hbm, ⟨17, _⟩ => ⟨S2048x4, .i32⟩
  | .hbm, ⟨18, _⟩ => ⟨S_, .i32⟩
  | .hbm, ⟨19, _⟩ => ⟨S2048x4, .i32⟩
  | .hbm, ⟨20, _⟩ => ⟨S2048x4, .i32⟩
  | .hbm, ⟨21, _⟩ => ⟨S_, .i32⟩
  | .hbm, ⟨22, _⟩ => ⟨S2048x1, .i32⟩
  | .hbm, ⟨23, _⟩ => ⟨S2048x1, .i32⟩
  | .hbm, ⟨24, _⟩ => ⟨S2048x4, .i32⟩
  | .hbm, ⟨25, _⟩ => ⟨S2048x4, .i32⟩
  | .hbm, ⟨26, _⟩ => ⟨S2048x4, .f32⟩
  | .hbm, ⟨27, _⟩ => ⟨S2048x4x1, .i32⟩
  | .hbm, ⟨28, _⟩ => ⟨S1x1x2048, .i32⟩
  | .hbm, ⟨29, _⟩ => ⟨S2048x4x2048, .i32⟩
  | .hbm, ⟨30, _⟩ => ⟨S2048x4x2048, .i32⟩
  | .hbm, ⟨31, _⟩ => ⟨S2048x4x2048, .i1⟩
  | .hbm, ⟨32, _⟩ => ⟨S2048x1x1, .i32⟩
  | .hbm, ⟨33, _⟩ => ⟨S1x1x2048, .i32⟩
  | .hbm, ⟨34, _⟩ => ⟨S2048x1x2048, .i32⟩
  | .hbm, ⟨35, _⟩ => ⟨S2048x1x2048, .i32⟩
  | .hbm, ⟨36, _⟩ => ⟨S2048x1x2048, .i1⟩
  | .hbm, ⟨37, _⟩ => ⟨S2048x4x2048, .i1⟩
  | .hbm, ⟨38, _⟩ => ⟨S2048x4x2048, .i1⟩
  | .hbm, ⟨39, _⟩ => ⟨S2048x4x2048, .f32⟩
  | .hbm, ⟨40, _⟩ => ⟨S4x128x2048, .f32⟩
  | .hbm, ⟨41, _⟩ => ⟨S2048x4x128, .f32⟩
  | .hbm, ⟨42, _⟩ => ⟨S2048x4x1, .f32⟩
  | .hbm, ⟨43, _⟩ => ⟨S2048x4x128, .f32⟩
  | .hbm, ⟨44, _⟩ => ⟨S2048x4x128, .f32⟩
  | .hbm, ⟨45, _⟩ => ⟨S2048x4x128, .f32⟩
  | .hbm, ⟨46, _⟩ => ⟨S4x128x2048, .f32⟩
  | .hbm, ⟨47, _⟩ => ⟨S2048x4x128, .f32⟩
  | .hbm, ⟨48, _⟩ => ⟨S2048x512, .f32⟩
  | .hbm, ⟨49, _⟩ => ⟨S1x512, .f32⟩
  | .hbm, ⟨50, _⟩ => ⟨S2048x512, .f32⟩
  | .hbm, ⟨51, _⟩ => ⟨S2048x512, .f32⟩
  | .hbm, ⟨52, _⟩ => ⟨S2048x512, .bf16⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== Proof.HeadMath.lean ====
/- The real mathematics of one attention head: the quantities that the forward and the backward pass of a causal
   attention with normalised queries and keys and an additive positional bias compute, over real entries indexed by
   naturals, and the identities between the two ways of writing them. Nothing here is about a program. -/
module

public import Idealize.ShloMosaic.Lib.Pointwise
public import Idealize.ShloMosaic.Lib.IdealHost
public import Mathlib.Analysis.SpecialFunctions.Log.Basic
public import Mathlib.Algebra.BigOperators.Intervals

@[expose] public section

noncomputable section

namespace Cert.Attn

open Idealize.ShloMosaic Finset

/-! ## Finite sums of reals inside the extended reals -/

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over the coordinates of an axis, of entries given by a function of naturals. -/
theorem sum_fin {n : ℕ} (f : ℕ → ℝ) : (∑ x : Fin n, ((f x.val : ℝ) : EReal)) = ((∑ x ∈ range n, f x : ℝ) : EReal) := by
  rw [← coe_sum, Finset.sum_range]

/-! ## The constants of the programs -/

/-- The number added to the mean square. -/
def eps : ℝ := 8796093 / 2 ^ 43
/-- The scale of the logits. -/
def sc : ℝ := 11863283 / 2 ^ 27

theorem eps_pos : 0 < eps := by unfold eps; positivity

theorem word_eps : Ideal.ofBits .f32 0x358637BD#32 = ((eps : ℝ) : EReal) := by
  simp [Ideal.ofBits, Ideal.ieee, -EReal.coe_mul, eps]; norm_num
theorem word_sc : Ideal.ofBits .f32 0x3DB504F3#32 = ((sc : ℝ) : EReal) := by
  simp [Ideal.ofBits, Ideal.ieee, -EReal.coe_mul, sc]; norm_num
theorem word_128 : Ideal.ofBits .f32 0x43000000#32 = ((128 : ℝ) : EReal) := by
  simp [Ideal.ofBits, Ideal.ieee, -EReal.coe_mul]; norm_num
theorem word_neghalf : Ideal.ofBits .f32 0xBF000000#32 = ((-(1 / 2) : ℝ) : EReal) := by
  simp [Ideal.ofBits, Ideal.ieee, -EReal.coe_mul]; norm_num
theorem word_neginf : Ideal.ofBits .f32 0xFF800000#32 = ⊥ := by
  simp [Ideal.ofBits, Ideal.ieee]
theorem word_inf : Ideal.ofBits .f32 0x7F800000#32 = ⊤ := by
  simp [Ideal.ofBits, Ideal.ieee]

theorem div_128 (x : ℝ) : Ideal.div (x : EReal) ((128 : ℝ) : EReal) = ((x / 128 : ℝ) : EReal) := by
  rw [Ideal.div_coe (by norm_num : (128 : ℝ) ≠ 0), ← EReal.coe_mul]; congr 1; ring

theorem div_real (x y : ℝ) (h : y ≠ 0) : Ideal.div (x : EReal) ((y : ℝ) : EReal) = ((x / y : ℝ) : EReal) := by
  rw [Ideal.div_coe h, ← EReal.coe_mul]; congr 1; ring

theorem rsqrt_pos (x : ℝ) (h : 0 < x) : Ideal.rsqrt (x : EReal) = (((√x)⁻¹ : ℝ) : EReal) := by
  rw [Ideal.rsqrt_coe, if_neg (not_lt.mpr h.le), if_neg h.ne']

theorem log_pos (x : ℝ) (h : 0 < x) : Ideal.log (x : EReal) = ((Real.log x : ℝ) : EReal) := by
  rw [Ideal.log_coe, if_neg (not_le.mpr h)]

/-! ## One head -/

/-- What one head reads: its columns of the queries, keys, values and of the gradient of its output, the cumulative
    forget gate, and the two gains. -/
structure Head where
  q : ℕ → ℕ → ℝ
  k : ℕ → ℕ → ℝ
  v : ℕ → ℕ → ℝ
  w : ℕ → ℕ → ℝ
  c : ℕ → ℝ
  qg : ℕ → ℝ
  kg : ℕ → ℝ

/-- The mean square of a row, with the small constant. -/
def ms (x : ℕ → ℕ → ℝ) (t : ℕ) : ℝ := (∑ d ∈ range 128, x t d * x t d) / 128 + eps
/-- The factor that normalises the row. -/
def rn (x : ℕ → ℕ → ℝ) (t : ℕ) : ℝ := (√(ms x t))⁻¹

theorem ms_pos (x : ℕ → ℕ → ℝ) (t : ℕ) : 0 < ms x t :=
  add_pos_of_nonneg_of_pos (div_nonneg (Finset.sum_nonneg fun d _ => mul_self_nonneg _) (by norm_num)) eps_pos

/-- The gradient of a normalised row with respect to the row, `g` being the gradient after the gain. -/
def rmsBack (x g : ℕ → ℕ → ℝ) (t d : ℕ) : ℝ :=
  rn x t * (g t d - x t d * rn x t * ((∑ e ∈ range 128, g t e * (x t e * rn x t)) / 128))

namespace Head
variable (h : Head)

/-- Normalised scaled query. -/
def qs (t d : ℕ) : ℝ := h.q t d * rn h.q t * h.qg d * sc
/-- Normalised key. -/
def kn (j d : ℕ) : ℝ := h.k j d * rn h.k j * h.kg d
/-- Logit of query row `t` at key row `j`. -/
def s (t j : ℕ) : ℝ := (∑ d ∈ range 128, h.qs t d * h.kn j d) + h.c t - h.c j
/-- Sum of the exponentials of the row's logits. -/
def Z (t : ℕ) : ℝ := ∑ j ∈ range (t + 1), Real.exp (h.s t j)
def lse (t : ℕ) : ℝ := Real.log (h.Z t)
/-- The weight of key row `j` in query row `t`. -/
def p (t j : ℕ) : ℝ := if j ≤ t then Real.exp (h.s t j - h.lse t) else 0
/-- Gradient of the weights. -/
def dp (t j : ℕ) : ℝ := ∑ d ∈ range 128, h.w t d * h.v j d
/-- Gradient of the logits. -/
def ds (t j : ℕ) : ℝ := h.p t j * (h.dp t j - ∑ j' ∈ range (t + 1), h.p t j' * h.dp t j')
def rowSum (t : ℕ) : ℝ := ∑ j ∈ range (t + 1), h.ds t j
def dqs (t d : ℕ) : ℝ := ∑ j ∈ range (t + 1), h.ds t j * h.kn j d
/-- The sums over the first `n` query rows. -/
def colSumTo (n j : ℕ) : ℝ := ∑ t ∈ range n, h.ds t j
def dknTo (n j d : ℕ) : ℝ := ∑ t ∈ range n, h.ds t j * h.qs t d
def dvTo (n j d : ℕ) : ℝ := ∑ t ∈ range n, h.p t j * h.w t d
/-- Gradient of the query after the gain. -/
def gq (t d : ℕ) : ℝ := h.dqs t d * sc
/-- The results of the head. -/
def outQ (t d : ℕ) : ℝ := rmsBack h.q (fun t d => h.gq t d * h.qg d) t d
def outK (t d : ℕ) : ℝ := rmsBack h.k (fun t d => h.dknTo 2048 t d * h.kg d) t d
def outC (t : ℕ) : ℝ := h.rowSum t + -h.colSumTo 2048 t
def outQg (d : ℕ) : ℝ := ∑ t ∈ range 2048, h.gq t d * (h.q t d * rn h.q t)
def outKg (d : ℕ) : ℝ := ∑ t ∈ range 2048, h.dknTo 2048 t d * (h.k t d * rn h.k t)

theorem Z_pos (t : ℕ) : 0 < h.Z t := Finset.sum_pos (fun _ _ => Real.exp_pos _) ⟨0, by simp⟩

theorem p_of_lt {t j : ℕ} (hj : t < j) : h.p t j = 0 := if_neg (by omega)
theorem ds_of_lt {t j : ℕ} (hj : t < j) : h.ds t j = 0 := by rw [ds, p_of_lt h hj, zero_mul]

theorem p_eq {t j : ℕ} (hj : j ≤ t) : h.p t j = Real.exp (h.s t j) / h.Z t := by
  rw [p, if_pos hj, lse, Real.exp_sub, Real.exp_log (h.Z_pos t)]

end Head

/-- A sum that stops at the diagonal, taken further. -/
theorem sum_causal {t n : ℕ} (f : ℕ → ℝ) (hf : ∀ j, t < j → f j = 0) (ht : t < n) :
    ∑ j ∈ range n, f j = ∑ j ∈ range (t + 1), f j := by
  symm
  refine Finset.sum_subset (fun j hj => ?_) fun j _ hj => ?_
  · rw [Finset.mem_range] at *; omega
  · rw [Finset.mem_range] at hj; exact hf j (by omega)

/-- A sum over one more block of rows. -/
theorem sum_block (o n : ℕ) (f : ℕ → ℝ) : ∑ t ∈ range (o + n), f t = ∑ t ∈ range o, f t + ∑ a ∈ range n, f (o + a) :=
  Finset.sum_range_add f o n

/-- The logarithm of the sum of exponentials, the exponents shifted by any real number. -/
theorem lse_shift (n : ℕ) (hn : 0 < n) (s : ℕ → ℝ) (m : ℝ) :
    m + Real.log (∑ j ∈ range n, Real.exp (s j - m)) = Real.log (∑ j ∈ range n, Real.exp (s j)) := by
  have h0 : 0 < ∑ j ∈ range n, Real.exp (s j) := Finset.sum_pos (fun _ _ => Real.exp_pos _) ⟨0, by simpa using hn⟩
  have h1 : ∑ j ∈ range n, Real.exp (s j - m) = (∑ j ∈ range n, Real.exp (s j)) / Real.exp m := by
    rw [Finset.sum_div]; exact Finset.sum_congr rfl fun j _ => Real.exp_sub _ _
  rw [h1, Real.log_div h0.ne' (Real.exp_ne_zero m), Real.log_exp]; ring

end Cert.Attn

end
-- ==== Proof.Forms.lean ====
/- How a vector of extended reals holds a real function of naturals, and the few shapes in which a kernel's payloads
   combine such vectors: the masked exponential, the gradient of the logits, products of blocks, normalised rows. -/
module

public import proofs.«01_k».proof.Proof.HeadMath
public import Idealize.ShloMosaic.Lib.WordCmp
public import Idealize.ShloMosaic.Lib.Pipeline.FrameBody
public import Idealize.ShloMosaic.Lib.Pipeline.Value

@[expose] public section

noncomputable section

namespace Cert.Attn

open Idealize.ShloMosaic Finset

/-! ## Vectors that hold real functions -/

/-- The matrix `V` holds the real numbers `f r l`. -/
abbrev Mat {m n : ℕ} (V : (⟨2, ![m, n]⟩ : Shape).Idx → EReal) (f : ℕ → ℕ → ℝ) : Prop :=
  ∀ (r : Fin m) (l : Fin n), V (ix2 r l) = ((f r.val l.val : ℝ) : EReal)
/-- The column under one leading unit axis. -/
abbrev Col3 {m : ℕ} (V : (⟨3, ![1, m, 1]⟩ : Shape).Idx → EReal) (f : ℕ → ℝ) : Prop :=
  ∀ r : Fin m, V (ix3 0 r 0) = ((f r.val : ℝ) : EReal)
/-- The row under two leading unit axes. -/
abbrev Row3 {n : ℕ} (V : (⟨3, ![1, 1, n]⟩ : Shape).Idx → EReal) (f : ℕ → ℝ) : Prop :=
  ∀ l : Fin n, V (ix3 0 0 l) = ((f l.val : ℝ) : EReal)
/-- The plain list. -/
abbrev Lst {n : ℕ} (V : (⟨1, ![n]⟩ : Shape).Idx → EReal) (f : ℕ → ℝ) : Prop :=
  ∀ l : Fin n, V (ix1 l) = ((f l.val : ℝ) : EReal)

/-! ## The mask -/

/-- The comparison of a row's number with a column's, as the selection it decides. -/
theorem select_causal {α : Type} (o : ℕ) (ho : o ≤ 1792) {m n : ℕ} (hm : m ≤ 2048) (hn : n ≤ 2048) (r : Fin m) (l : Fin n) (a b : α) :
    Scalar.select (IntOp.cmpi .sge (IntOp.addi (BitVec.ofNat 32 r.val) (BitVec.ofNat 32 o)) (BitVec.ofNat 32 l.val)) a b
      = if l.val ≤ o + r.val then a else b := by
  have h1 : IntOp.addi (BitVec.ofNat 32 r.val) (BitVec.ofNat 32 o) = BitVec.ofNat 32 (o + r.val) := by
    rw [show IntOp.addi (BitVec.ofNat 32 r.val) (BitVec.ofNat 32 o) = BitVec.ofNat 32 r.val + BitVec.ofNat 32 o from rfl,
      ← BitVec.ofNat_add, Nat.add_comm]
  have hr := r.isLt
  have hl := l.isLt
  rw [h1, WordCmp.cmpi_sge_ofNat (by norm_num; omega) (by norm_num; omega)]
  unfold Scalar.select
  by_cases hc : l.val ≤ o + r.val
  · rw [if_pos hc, if_pos]; exact (WordCmp.ofBool_decide_eq_one_iff _).mpr hc
  · rw [if_neg hc, if_neg]; exact fun hb => hc ((WordCmp.ofBool_decide_eq_one_iff _).mp hb)

theorem select_causal_zero {α : Type} {m n : ℕ} (hm : m ≤ 2048) (hn : n ≤ 2048) (r : Fin m) (l : Fin n) (a b : α) :
    Scalar.select (IntOp.cmpi .sge (IntOp.addi (BitVec.ofNat 32 r.val) 0#32) (BitVec.ofNat 32 l.val)) a b
      = if l.val ≤ r.val then a else b := by
  simpa only [Nat.zero_add] using select_causal 0 (by norm_num) hm hn r l a b

/-! ## The shapes of the payloads -/

namespace Head
variable (h : Head)

/-- A row's logits, the products summed. -/
theorem s_sum (t j : ℕ) : (∑ x : Fin 128, ((h.qs t x.val : ℝ) : EReal) * ((h.kn j x.val : ℝ) : EReal))
    = ((∑ d ∈ range 128, h.qs t d * h.kn j d : ℝ) : EReal) := by
  rw [← sum_fin]; exact Finset.sum_congr rfl fun x _ => (EReal.coe_mul _ _).symm

theorem p_form (t j : ℕ) :
    (if j ≤ t then Ideal.exp (((∑ d ∈ range 128, h.qs t d * h.kn j d : ℝ) : EReal) + ((h.c t : ℝ) : EReal) - ((h.c j : ℝ) : EReal) - ((h.lse t : ℝ) : EReal)) else 0)
      = ((h.p t j : ℝ) : EReal) := by
  rw [← EReal.coe_add, ← EReal.coe_sub, ← EReal.coe_sub, Ideal.exp_coe, p, s]
  split_ifs <;> rfl

theorem dp_form (t j : ℕ) : (∑ x : Fin 128, ((h.w t x.val : ℝ) : EReal) * ((h.v j x.val : ℝ) : EReal)) = ((h.dp t j : ℝ) : EReal) := by
  rw [dp, ← sum_fin]; exact Finset.sum_congr rfl fun x _ => (EReal.coe_mul _ _).symm

/-- The part of the gradient that the weights multiply. -/
def dc (t j : ℕ) : ℝ := h.dp t j - ∑ j' ∈ range (t + 1), h.p t j' * h.dp t j'

theorem dc_form {n : ℕ} (t j : ℕ) (ht : t < n) :
    ((h.dp t j : ℝ) : EReal) - (∑ x : Fin n, ((h.p t x.val : ℝ) : EReal) * ((h.dp t x.val : ℝ) : EReal)) = ((h.dc t j : ℝ) : EReal) := by
  rw [dc, EReal.coe_sub, ← sum_causal (fun j' => h.p t j' * h.dp t j') (fun j hj => by simp only [p_of_lt h hj, zero_mul]) ht, ← sum_fin]
  simp only [EReal.coe_mul]

theorem ds_form (t j : ℕ) : ((h.p t j : ℝ) : EReal) * ((h.dc t j : ℝ) : EReal) = ((h.ds t j : ℝ) : EReal) := by
  rw [← EReal.coe_mul]; rfl

theorem rowSum_form {n : ℕ} (t : ℕ) (ht : t < n) : (∑ x : Fin n, ((h.ds t x.val : ℝ) : EReal)) = ((h.rowSum t : ℝ) : EReal) := by
  rw [sum_fin (fun j => h.ds t j), rowSum, sum_causal _ (fun j hj => ds_of_lt h hj) ht]

theorem dqs_form {n : ℕ} (t d : ℕ) (ht : t < n) :
    (∑ x : Fin n, ((h.ds t x.val : ℝ) : EReal) * ((h.kn x.val d : ℝ) : EReal)) = ((h.dqs t d : ℝ) : EReal) := by
  rw [dqs, ← sum_causal (fun j => h.ds t j * h.kn j d) (fun j hj => by simp only [ds_of_lt h hj, zero_mul]) ht, ← sum_fin]
  exact Finset.sum_congr rfl fun x _ => (EReal.coe_mul _ _).symm

/-- One more block of rows added to the sums over the rows before it. -/
theorem colSum_form (o j : ℕ) : -((h.colSumTo o j : ℝ) : EReal) + (0 - ∑ x : Fin 256, ((h.ds (o + x.val) j : ℝ) : EReal))
    = ((-h.colSumTo (o + 256) j : ℝ) : EReal) := by
  rw [sum_fin (fun a => h.ds (o + a) j), ← EReal.coe_zero, ← EReal.coe_sub, ← EReal.coe_neg, ← EReal.coe_add]
  simp only [colSumTo]; rw [sum_block]; congr 1; ring

theorem dkn_form (o j d : ℕ) : ((h.dknTo o j d : ℝ) : EReal) + (∑ x : Fin 256, ((h.ds (o + x.val) j : ℝ) : EReal) * ((h.qs (o + x.val) d : ℝ) : EReal))
    = ((h.dknTo (o + 256) j d : ℝ) : EReal) := by
  simp only [dknTo]; rw [sum_block, EReal.coe_add, ← sum_fin, ← sum_fin]; simp only [EReal.coe_mul]

theorem dv_form (o j d : ℕ) : ((h.dvTo o j d : ℝ) : EReal) + (∑ x : Fin 256, ((h.p (o + x.val) j : ℝ) : EReal) * ((h.w (o + x.val) d : ℝ) : EReal))
    = ((h.dvTo (o + 256) j d : ℝ) : EReal) := by
  simp only [dvTo]; rw [sum_block, EReal.coe_add, ← sum_fin, ← sum_fin]; simp only [EReal.coe_mul]

theorem colSumTo_of_le {n j : ℕ} (hj : n ≤ j) : h.colSumTo n j = 0 :=
  Finset.sum_eq_zero fun t ht => ds_of_lt h (by rw [Finset.mem_range] at ht; omega)
theorem dknTo_of_le {n j : ℕ} (d : ℕ) (hj : n ≤ j) : h.dknTo n j d = 0 :=
  Finset.sum_eq_zero fun t ht => by rw [ds_of_lt h (by rw [Finset.mem_range] at ht; omega), zero_mul]
theorem dvTo_of_le {n j : ℕ} (d : ℕ) (hj : n ≤ j) : h.dvTo n j d = 0 :=
  Finset.sum_eq_zero fun t ht => by rw [p_of_lt h (by rw [Finset.mem_range] at ht; omega), zero_mul]

end Head

/-- The normalising factor, as the kernel computes it. -/
theorem rn_form (x : ℕ → ℕ → ℝ) (t : ℕ) :
    Ideal.rsqrt (Ideal.div (∑ d : Fin 128, ((x t d.val : ℝ) : EReal) * ((x t d.val : ℝ) : EReal)) ((128 : ℝ) : EReal) + ((eps : ℝ) : EReal))
      = ((rn x t : ℝ) : EReal) := by
  have h1 : (∑ d : Fin 128, ((x t d.val : ℝ) : EReal) * ((x t d.val : ℝ) : EReal)) = ((∑ d ∈ range 128, x t d * x t d : ℝ) : EReal) := by
    rw [← sum_fin]; exact Finset.sum_congr rfl fun x _ => (EReal.coe_mul _ _).symm
  rw [h1, div_128, ← EReal.coe_add, show (∑ d ∈ range 128, x t d * x t d) / 128 + eps = ms x t from rfl, rsqrt_pos _ (ms_pos x t), rn]

/-! ## Loads of what was stored -/

section Loads
variable {sig : RefSig} {κ : Kind} {sp : Space} {e : EltTy}

/-- The indices of a block of rows of a matrix. -/
theorem emb_ix2 {M N m n o : ℕ} (inb : ∀ a, ![o, 0] a + ![m, n] a ≤ (⟨2, ![M, N]⟩ : Shape).size a) (r : Fin m) (l : Fin n) :
    (Rect.unit (s := ⟨2, ![M, N]⟩) ![o, 0] ![m, n] inb).emb (ix2 r l)
      = ix2 (⟨o + r.val, by have := inb 0; have := r.isLt; simp at *; omega⟩ : Fin M) (⟨l.val, by have := inb 1; have := l.isLt; simp at *; omega⟩ : Fin N) := by
  funext a; apply Fin.ext
  refine Fin.cases ?_ (fun b => Fin.cases ?_ (fun c => c.elim0) b) a
  · show o + 1 * r.val = o + r.val; omega
  · show 0 + 1 * l.val = l.val; omega

end Loads

end Cert.Attn

end
-- ==== Proof.Loads.lean ====
/- Loads and stores of blocks of rows: what a load reads of an array that holds a real function of naturals, and what
   the array holds after a store of one more block. -/
module

public import proofs.«01_k».proof.Proof.Forms
public import Idealize.ShloMosaic.Lib.WholeRead

@[expose] public section

noncomputable section

namespace Cert.Attn

open Idealize.ShloMosaic Finset

/-! ## The indices of blocks -/

theorem emb_row3 {N n : ℕ} (inb : ∀ a, ![0, 0, 0] a + ![1, 1, n] a ≤ (⟨3, ![1, 1, N]⟩ : Shape).size a) (l : Fin n) :
    (Rect.unit (s := ⟨3, ![1, 1, N]⟩) ![0, 0, 0] ![1, 1, n] inb).emb (ix3 0 0 l)
      = ix3 0 0 (⟨l.val, by have := inb 2; have := l.isLt; simp at *; omega⟩ : Fin N) := by
  funext a; apply Fin.ext
  refine Fin.cases ?_ (fun b => Fin.cases ?_ (fun c => Fin.cases ?_ (fun d => d.elim0) c) b) a
  · rfl
  · rfl
  · show 0 + 1 * l.val = l.val; omega

theorem emb_col3 {M m o : ℕ} (inb : ∀ a, ![0, o, 0] a + ![1, m, 1] a ≤ (⟨3, ![1, M, 1]⟩ : Shape).size a) (r : Fin m) :
    (Rect.unit (s := ⟨3, ![1, M, 1]⟩) ![0, o, 0] ![1, m, 1] inb).emb (ix3 0 r 0)
      = ix3 0 (⟨o + r.val, by have := inb 1; have := r.isLt; simp at *; omega⟩ : Fin M) 0 := by
  funext a; apply Fin.ext
  refine Fin.cases ?_ (fun b => Fin.cases ?_ (fun c => Fin.cases ?_ (fun d => d.elim0) c) b) a
  · rfl
  · show o + 1 * r.val = o + r.val; omega
  · rfl

/-! ## Loads of an argument held whole -/

section Args
variable {sig : RefSig} {κ : Kind} {sp : Space}

theorem ld_whole {M N : ℕ} {a : Memref sig κ sp ⟨2, ![M, N]⟩ .f32} (ha : a.IsWhole) {X : (⟨2, ![M, N]⟩ : Shape).Idx → EReal} {f : ℕ → ℕ → ℝ}
    (hX : Mat X f) (inb : ∀ i, ![0, 0] i + ![M, N] i ≤ (⟨2, ![M, N]⟩ : Shape).size i) :
    Mat (m := M) (n := N) (View.readAt (Elt Ideal) a.view (Rect.unit (s := ⟨2, ![M, N]⟩) ![0, 0] ![M, N] inb).toLoadRect (ha.unread X)) f := by
  intro r l
  have e := ha.readAt_unread (Val := Elt Ideal) X (Rect.unit (s := ⟨2, ![M, N]⟩) ![0, 0] ![M, N] inb).toLoadRect (ix2 r l)
  refine e.trans ((congrArg X (emb_ix2 inb r l)).trans ((hX _ _).trans ?_))
  simp only [Nat.zero_add]

theorem ld_col {M m o : ℕ} {a : Memref sig κ sp ⟨3, ![1, M, 1]⟩ .f32} (ha : a.IsWhole) {X : (⟨3, ![1, M, 1]⟩ : Shape).Idx → EReal} {f : ℕ → ℝ}
    (hX : Col3 X f) (inb : ∀ i, ![0, o, 0] i + ![1, m, 1] i ≤ (⟨3, ![1, M, 1]⟩ : Shape).size i) :
    Col3 (m := m) (View.readAt (Elt Ideal) a.view (Rect.unit (s := ⟨3, ![1, M, 1]⟩) ![0, o, 0] ![1, m, 1] inb).toLoadRect (ha.unread X)) (fun r => f (o + r)) := by
  intro r
  have e := ha.readAt_unread (Val := Elt Ideal) X (Rect.unit (s := ⟨3, ![1, M, 1]⟩) ![0, o, 0] ![1, m, 1] inb).toLoadRect (ix3 0 r 0)
  exact e.trans ((congrArg X (emb_col3 inb r)).trans (hX _))

theorem ld_col0 {M m : ℕ} {a : Memref sig κ sp ⟨3, ![1, M, 1]⟩ .f32} (ha : a.IsWhole) {X : (⟨3, ![1, M, 1]⟩ : Shape).Idx → EReal} {f : ℕ → ℝ}
    (hX : Col3 X f) (inb : ∀ i, ![0, 0, 0] i + ![1, m, 1] i ≤ (⟨3, ![1, M, 1]⟩ : Shape).size i) :
    Col3 (m := m) (View.readAt (Elt Ideal) a.view (Rect.unit (s := ⟨3, ![1, M, 1]⟩) ![0, 0, 0] ![1, m, 1] inb).toLoadRect (ha.unread X)) (fun r => f r) := by
  intro r
  have e := ha.readAt_unread (Val := Elt Ideal) X (Rect.unit (s := ⟨3, ![1, M, 1]⟩) ![0, 0, 0] ![1, m, 1] inb).toLoadRect (ix3 0 r 0)
  refine e.trans ((congrArg X (emb_col3 inb r)).trans ((hX _).trans ?_))
  simp only [Nat.zero_add]

theorem ld_row {N n : ℕ} {a : Memref sig κ sp ⟨3, ![1, 1, N]⟩ .f32} (ha : a.IsWhole) {X : (⟨3, ![1, 1, N]⟩ : Shape).Idx → EReal} {f : ℕ → ℝ}
    (hX : Row3 X f) (inb : ∀ i, ![0, 0, 0] i + ![1, 1, n] i ≤ (⟨3, ![1, 1, N]⟩ : Shape).size i) :
    Row3 (n := n) (View.readAt (Elt Ideal) a.view (Rect.unit (s := ⟨3, ![1, 1, N]⟩) ![0, 0, 0] ![1, 1, n] inb).toLoadRect (ha.unread X)) f := by
  intro l
  have e := ha.readAt_unread (Val := Elt Ideal) X (Rect.unit (s := ⟨3, ![1, 1, N]⟩) ![0, 0, 0] ![1, 1, n] inb).toLoadRect (ix3 0 0 l)
  exact e.trans ((congrArg X (emb_row3 inb l)).trans (hX _))

end Args

/-! ## Loads of what was stored -/

section Stored
variable {sig : RefSig} {κ : Kind} {sp : Space}

theorem rc_mat {M N m n o : ℕ} (v : View sig κ sp ⟨2, ![M, N]⟩ .f32) {L : List (View.Piece (Elt Ideal) ⟨2, ![M, N]⟩ .f32)} {f : ℕ → ℕ → ℝ}
    (hL : Mat (View.canon L) f) (inb : ∀ i, ![o, 0] i + ![m, n] i ≤ (⟨2, ![M, N]⟩ : Shape).size i) :
    Mat (m := m) (n := n) (v.readCov L (Rect.unit (s := ⟨2, ![M, N]⟩) ![o, 0] ![m, n] inb).toLoadRect) (fun r l => f (o + r) l) := by
  intro r l
  have e := congrFun (View.readCov_eq_canon' v L (Rect.unit (s := ⟨2, ![M, N]⟩) ![o, 0] ![m, n] inb).toLoadRect) (ix2 r l)
  exact e.trans ((congrArg (View.canon L) (emb_ix2 inb r l)).trans (hL _ _))

theorem rc_mat0 {M N m n : ℕ} (v : View sig κ sp ⟨2, ![M, N]⟩ .f32) {L : List (View.Piece (Elt Ideal) ⟨2, ![M, N]⟩ .f32)} {f : ℕ → ℕ → ℝ}
    (hL : Mat (View.canon L) f) (inb : ∀ i, ![0, 0] i + ![m, n] i ≤ (⟨2, ![M, N]⟩ : Shape).size i) :
    Mat (m := m) (n := n) (v.readCov L (Rect.unit (s := ⟨2, ![M, N]⟩) ![0, 0] ![m, n] inb).toLoadRect) (fun r l => f r l) := by
  intro r l
  refine (rc_mat v hL inb r l).trans ?_
  simp only [Nat.zero_add]

theorem rc_half {M N m n o : ℕ} (v : View sig κ sp ⟨2, ![M, N]⟩ .bf16) {L : List (View.Piece (Elt Ideal) ⟨2, ![M, N]⟩ .bf16)} {f : ℕ → ℕ → ℝ}
    (hL : Mat (View.canon L) f) (inb : ∀ i, ![o, 0] i + ![m, n] i ≤ (⟨2, ![M, N]⟩ : Shape).size i) :
    Mat (m := m) (n := n) (v.readCov L (Rect.unit (s := ⟨2, ![M, N]⟩) ![o, 0] ![m, n] inb).toLoadRect) (fun r l => f (o + r) l) := by
  intro r l
  have e := congrFun (View.readCov_eq_canon' v L (Rect.unit (s := ⟨2, ![M, N]⟩) ![o, 0] ![m, n] inb).toLoadRect) (ix2 r l)
  exact e.trans ((congrArg (View.canon L) (emb_ix2 inb r l)).trans (hL _ _))

theorem rc_half0 {M N m n : ℕ} (v : View sig κ sp ⟨2, ![M, N]⟩ .bf16) {L : List (View.Piece (Elt Ideal) ⟨2, ![M, N]⟩ .bf16)} {f : ℕ → ℕ → ℝ}
    (hL : Mat (View.canon L) f) (inb : ∀ i, ![0, 0] i + ![m, n] i ≤ (⟨2, ![M, N]⟩ : Shape).size i) :
    Mat (m := m) (n := n) (v.readCov L (Rect.unit (s := ⟨2, ![M, N]⟩) ![0, 0] ![m, n] inb).toLoadRect) (fun r l => f r l) := by
  intro r l
  refine (rc_half v hL inb r l).trans ?_
  simp only [Nat.zero_add]

theorem rc_row {N n : ℕ} (v : View sig κ sp ⟨3, ![1, 1, N]⟩ .f32) {L : List (View.Piece (Elt Ideal) ⟨3, ![1, 1, N]⟩ .f32)} {f : ℕ → ℝ}
    (hL : Row3 (View.canon L) f) (inb : ∀ i, ![0, 0, 0] i + ![1, 1, n] i ≤ (⟨3, ![1, 1, N]⟩ : Shape).size i) :
    Row3 (n := n) (v.readCov L (Rect.unit (s := ⟨3, ![1, 1, N]⟩) ![0, 0, 0] ![1, 1, n] inb).toLoadRect) (fun l => f l) := by
  intro l
  have e := congrFun (View.readCov_eq_canon' v L (Rect.unit (s := ⟨3, ![1, 1, N]⟩) ![0, 0, 0] ![1, 1, n] inb).toLoadRect) (ix3 0 0 l)
  exact e.trans ((congrArg (View.canon L) (emb_row3 inb l)).trans (hL _))

/-- A store of the whole. -/
theorem st_mat {M N : ℕ} {w : (⟨2, ![M, N]⟩ : Shape).Idx → EReal} {f : ℕ → ℕ → ℝ} (hw : Mat w f)
    (inb : ∀ i, ![0, 0] i + ![M, N] i ≤ (⟨2, ![M, N]⟩ : Shape).size i) (L : List (View.Piece (Elt Ideal) ⟨2, ![M, N]⟩ .f32)) :
    Mat (View.canon (Val := Elt Ideal) ((⟨Rect.unit ![0, 0] ![M, N] inb, w⟩ : View.Piece (Elt Ideal) ⟨2, ![M, N]⟩ .f32) :: L)) f := by
  intro r l
  refine Eq.trans ?_ (hw r l)
  exact congrFun (View.canon_cons_unit_zero (Val := Elt Ideal) (S := ⟨2, ![M, N]⟩) (by funext i; revert i; decide) inb w L) (ix2 r l)

theorem st_half {M N : ℕ} {w : (⟨2, ![M, N]⟩ : Shape).Idx → EReal} {f : ℕ → ℕ → ℝ} (hw : Mat w f)
    (inb : ∀ i, ![0, 0] i + ![M, N] i ≤ (⟨2, ![M, N]⟩ : Shape).size i) (L : List (View.Piece (Elt Ideal) ⟨2, ![M, N]⟩ .bf16)) :
    Mat (View.canon (Val := Elt Ideal) ((⟨Rect.unit ![0, 0] ![M, N] inb, w⟩ : View.Piece (Elt Ideal) ⟨2, ![M, N]⟩ .bf16) :: L)) f := by
  intro r l
  refine Eq.trans ?_ (hw r l)
  exact congrFun (View.canon_cons_unit_zero (Val := Elt Ideal) (S := ⟨2, ![M, N]⟩) (by funext i; revert i; decide) inb w L) (ix2 r l)

theorem st_row {N : ℕ} {w : (⟨3, ![1, 1, N]⟩ : Shape).Idx → EReal} {f : ℕ → ℝ} (hw : Row3 w f)
    (inb : ∀ i, ![0, 0, 0] i + ![1, 1, N] i ≤ (⟨3, ![1, 1, N]⟩ : Shape).size i) (L : List (View.Piece (Elt Ideal) ⟨3, ![1, 1, N]⟩ .f32)) :
    Row3 (View.canon (Val := Elt Ideal) ((⟨Rect.unit ![0, 0, 0] ![1, 1, N] inb, w⟩ : View.Piece (Elt Ideal) ⟨3, ![1, 1, N]⟩ .f32) :: L)) f := by
  intro l
  refine Eq.trans ?_ (hw l)
  exact congrFun (View.canon_cons_unit_zero (Val := Elt Ideal) (S := ⟨3, ![1, 1, N]⟩) (by funext i; revert i; decide) inb w L) (ix3 0 0 l)

/-- A store of the first rows over an array that already holds the function in the other rows. -/
theorem acc_mat {M N n : ℕ} {w : (⟨2, ![n, N]⟩ : Shape).Idx → EReal} {f f' : ℕ → ℕ → ℝ} (hw : Mat w f')
    (inb : ∀ i, ![0, 0] i + ![n, N] i ≤ (⟨2, ![M, N]⟩ : Shape).size i) {L : List (View.Piece (Elt Ideal) ⟨2, ![M, N]⟩ .f32)}
    (hL : Mat (View.canon L) f) (hf : ∀ r l, n ≤ r → f' r l = f r l) :
    Mat (View.canon (Val := Elt Ideal) ((⟨Rect.unit ![0, 0] ![n, N] inb, w⟩ : View.Piece (Elt Ideal) ⟨2, ![M, N]⟩ .f32) :: L)) f' := by
  intro r l
  by_cases hr : r.val < n
  · have e := emb_ix2 inb (⟨r.val, hr⟩ : Fin n) l
    have e' : (ix2 r l : (⟨2, ![M, N]⟩ : Shape).Idx) = (Rect.unit (s := ⟨2, ![M, N]⟩) ![0, 0] ![n, N] inb).emb (ix2 (⟨r.val, hr⟩ : Fin n) l) := by
      rw [e]; congr 1; exact Fin.ext (Nat.zero_add _).symm
    rw [e']
    have e := View.canon_cons_emb (Val := Elt Ideal) (s := ⟨2, ![M, N]⟩) (e := .f32) (Rect.unit (s := ⟨2, ![M, N]⟩) ![0, 0] ![n, N] inb) w L (ix2 (⟨r.val, hr⟩ : Fin n) l)
    exact e.trans (hw _ _)
  · refine (View.canon_cons_of_not_mem (Val := Elt Ideal) _ L (fun hm => ?_)).trans ((hL r l).trans (by rw [hf _ _ (by omega)]))
    have := ((Rect.mem_set_unit (s := ⟨2, ![M, N]⟩) (inb := inb)).mp hm 0).2
    exact hr (by simpa using this)

theorem acc_row {N n : ℕ} {w : (⟨3, ![1, 1, n]⟩ : Shape).Idx → EReal} {f f' : ℕ → ℝ} (hw : Row3 w f')
    (inb : ∀ i, ![0, 0, 0] i + ![1, 1, n] i ≤ (⟨3, ![1, 1, N]⟩ : Shape).size i) {L : List (View.Piece (Elt Ideal) ⟨3, ![1, 1, N]⟩ .f32)}
    (hL : Row3 (View.canon L) f) (hf : ∀ l, n ≤ l → f' l = f l) :
    Row3 (View.canon (Val := Elt Ideal) ((⟨Rect.unit ![0, 0, 0] ![1, 1, n] inb, w⟩ : View.Piece (Elt Ideal) ⟨3, ![1, 1, N]⟩ .f32) :: L)) f' := by
  intro l
  by_cases hl : l.val < n
  · have e' : (ix3 0 0 l : (⟨3, ![1, 1, N]⟩ : Shape).Idx) = (Rect.unit (s := ⟨3, ![1, 1, N]⟩) ![0, 0, 0] ![1, 1, n] inb).emb (ix3 0 0 (⟨l.val, hl⟩ : Fin n)) :=
      (emb_row3 inb (⟨l.val, hl⟩ : Fin n)).symm
    rw [e']
    have e := View.canon_cons_emb (Val := Elt Ideal) (s := ⟨3, ![1, 1, N]⟩) (e := .f32) (Rect.unit (s := ⟨3, ![1, 1, N]⟩) ![0, 0, 0] ![1, 1, n] inb) w L (ix3 0 0 (⟨l.val, hl⟩ : Fin n))
    exact e.trans (hw _)
  · refine (View.canon_cons_of_not_mem (Val := Elt Ideal) _ L (fun hm => ?_)).trans ((hL l).trans (by rw [hf _ (by omega)]))
    have := ((Rect.mem_set_unit (s := ⟨3, ![1, 1, N]⟩) (inb := inb)).mp hm 2).2
    exact hl (by simpa using this)

/-- The rows below `n` hold the function. -/
def MatTo (n : ℕ) {M N : ℕ} (V : (⟨2, ![M, N]⟩ : Shape).Idx → EReal) (f : ℕ → ℕ → ℝ) : Prop :=
  ∀ (r : Fin M) (l : Fin N), r.val < n → V (ix2 r l) = ((f r.val l.val : ℝ) : EReal)
def Col3To (n : ℕ) {M : ℕ} (V : (⟨3, ![1, M, 1]⟩ : Shape).Idx → EReal) (f : ℕ → ℝ) : Prop :=
  ∀ r : Fin M, r.val < n → V (ix3 0 r 0) = ((f r.val : ℝ) : EReal)

theorem matTo_zero {M N : ℕ} (V : (⟨2, ![M, N]⟩ : Shape).Idx → EReal) (f : ℕ → ℕ → ℝ) : MatTo 0 V f := fun _ _ h => absurd h (by omega)
theorem col3To_zero {M : ℕ} (V : (⟨3, ![1, M, 1]⟩ : Shape).Idx → EReal) (f : ℕ → ℝ) : Col3To 0 V f := fun _ h => absurd h (by omega)
theorem MatTo.mat {M N : ℕ} {V : (⟨2, ![M, N]⟩ : Shape).Idx → EReal} {f : ℕ → ℕ → ℝ} (h : MatTo M V f) : Mat V f := fun r l => h r l r.isLt
theorem Col3To.col {M : ℕ} {V : (⟨3, ![1, M, 1]⟩ : Shape).Idx → EReal} {f : ℕ → ℝ} (h : Col3To M V f) : Col3 V f := fun r => h r r.isLt

/-- One more block of rows. -/
theorem MatTo.cons {M N o m n : ℕ} {f : ℕ → ℕ → ℝ} {L : List (View.Piece (Elt Ideal) ⟨2, ![M, N]⟩ .f32)}
    (hL : MatTo o (View.canon L) f) {w : (⟨2, ![m, N]⟩ : Shape).Idx → EReal} (hw : Mat w (fun r l => f (o + r) l)) (hn : n = o + m)
    (inb : ∀ i, ![o, 0] i + ![m, N] i ≤ (⟨2, ![M, N]⟩ : Shape).size i) :
    MatTo n (View.canon (Val := Elt Ideal) ((⟨Rect.unit ![o, 0] ![m, N] inb, w⟩ : View.Piece (Elt Ideal) ⟨2, ![M, N]⟩ .f32) :: L)) f := by
  intro r l hr
  subst hn
  by_cases ho : o ≤ r.val
  · have hm : r.val - o < m := by omega
    have e' : (ix2 r l : (⟨2, ![M, N]⟩ : Shape).Idx) = (Rect.unit (s := ⟨2, ![M, N]⟩) ![o, 0] ![m, N] inb).emb (ix2 (⟨r.val - o, hm⟩ : Fin m) l) := by
      rw [emb_ix2 inb (⟨r.val - o, hm⟩ : Fin m) l]; congr 1; exact Fin.ext (by simp only; omega)
    rw [e']
    have e := View.canon_cons_emb (Val := Elt Ideal) (s := ⟨2, ![M, N]⟩) (e := .f32) (Rect.unit (s := ⟨2, ![M, N]⟩) ![o, 0] ![m, N] inb) w L (ix2 (⟨r.val - o, hm⟩ : Fin m) l)
    refine e.trans ((hw _ _).trans ?_)
    simp only [Nat.add_sub_cancel' ho]
  · refine (View.canon_cons_of_not_mem (Val := Elt Ideal) _ L (fun hm => ?_)).trans (hL r l (by omega))
    have := ((Rect.mem_set_unit (s := ⟨2, ![M, N]⟩) (inb := inb)).mp hm 0).1
    exact ho (by simpa using this)

theorem Col3To.cons {M o m n : ℕ} {f : ℕ → ℝ} {L : List (View.Piece (Elt Ideal) ⟨3, ![1, M, 1]⟩ .f32)}
    (hL : Col3To o (View.canon L) f) {w : (⟨3, ![1, m, 1]⟩ : Shape).Idx → EReal} (hw : Col3 w (fun r => f (o + r))) (hn : n = o + m)
    (inb : ∀ i, ![0, o, 0] i + ![1, m, 1] i ≤ (⟨3, ![1, M, 1]⟩ : Shape).size i) :
    Col3To n (View.canon (Val := Elt Ideal) ((⟨Rect.unit ![0, o, 0] ![1, m, 1] inb, w⟩ : View.Piece (Elt Ideal) ⟨3, ![1, M, 1]⟩ .f32) :: L)) f := by
  intro r hr
  subst hn
  by_cases ho : o ≤ r.val
  · have hm : r.val - o < m := by omega
    have e' : (ix3 0 r 0 : (⟨3, ![1, M, 1]⟩ : Shape).Idx) = (Rect.unit (s := ⟨3, ![1, M, 1]⟩) ![0, o, 0] ![1, m, 1] inb).emb (ix3 0 (⟨r.val - o, hm⟩ : Fin m) 0) := by
      rw [emb_col3 inb (⟨r.val - o, hm⟩ : Fin m)]; congr 1; exact Fin.ext (by simp only; omega)
    rw [e']
    have e := View.canon_cons_emb (Val := Elt Ideal) (s := ⟨3, ![1, M, 1]⟩) (e := .f32) (Rect.unit (s := ⟨3, ![1, M, 1]⟩) ![0, o, 0] ![1, m, 1] inb) w L (ix3 0 (⟨r.val - o, hm⟩ : Fin m) 0)
    refine e.trans ((hw _).trans ?_)
    simp only [Nat.add_sub_cancel' ho]
  · refine (View.canon_cons_of_not_mem (Val := Elt Ideal) _ L (fun hm => ?_)).trans (hL r (by omega))
    have := ((Rect.mem_set_unit (s := ⟨3, ![1, M, 1]⟩) (inb := inb)).mp hm 1).1
    exact ho (by simpa using this)

end Stored

end Cert.Attn

end
-- ==== Proof.FormsFore.lean ====
/- The shapes in which the forward call's payloads combine vectors: the masked logits, the row maximum, the exponentials
   shifted by it, their sum, the logarithm of the sum and the weighted mean of the values. -/
module

public import proofs.«01_k».proof.Proof.Loads
public import proofs.«01_k».proof.KernelIdeal

@[expose] public section

noncomputable section

namespace Cert.Attn

open Idealize.ShloMosaic Finset

/-- The matrix `V` holds the extended reals `f r l`. -/
abbrev MatE {m n : ℕ} (V : (⟨2, ![m, n]⟩ : Shape).Idx → EReal) (f : ℕ → ℕ → EReal) : Prop :=
  ∀ (r : Fin m) (l : Fin n), V (ix2 r l) = f r.val l.val

theorem mask_eq (b : Idealize.ShloMosaic.Bits .f32) : (Named.named Cert.KernelIdeal.κ "mask" b : Ideal .f32) = ⊥ := rfl

namespace Head
variable (h : Head)

/-- The logit, and minus infinity right of the diagonal. -/
def sl (t j : ℕ) : EReal := if j ≤ t then ((h.s t j : ℝ) : EReal) else ⊥
/-- The largest of the first `n` of a row. -/
def top (n t : ℕ) : EReal := fold max ⊥ (fun x : Fin n => h.sl t x.val) univ
def mx (n t : ℕ) : ℝ := (h.top n t).toReal
/-- The shifted exponential. -/
def ex (n t j : ℕ) : ℝ := if j ≤ t then Real.exp (h.s t j - h.mx n t) else 0
def sumEx (n t : ℕ) : ℝ := ∑ j ∈ range n, h.ex n t j
/-- The head's result. -/
def out (t d : ℕ) : ℝ := ∑ j ∈ range (t + 1), h.p t j * h.v j d

theorem top_eq {n t : ℕ} (ht : t < n) : h.top n t = ((h.mx n t : ℝ) : EReal) := by
  have lo : ((h.s t t : ℝ) : EReal) ≤ h.top n t := by
    rw [top, Finset.le_fold_max]
    exact Or.inr ⟨⟨t, ht⟩, mem_univ _, by rw [sl, if_pos le_rfl]⟩
  have hi : h.top n t < ⊤ := by
    rw [top, Finset.fold_max_lt]
    refine ⟨bot_lt_top, fun x _ => ?_⟩
    rw [sl]; split_ifs
    · exact EReal.coe_lt_top _
    · exact bot_lt_top
  exact (EReal.coe_toReal hi.ne (ne_of_gt (lt_of_lt_of_le (EReal.bot_lt_coe _) lo))).symm

theorem sl_form (t j : ℕ) :
    (if j ≤ t then (∑ x : Fin 128, ((h.qs t x.val : ℝ) : EReal) * ((h.kn j x.val : ℝ) : EReal)) + ((h.c t : ℝ) : EReal) - ((h.c j : ℝ) : EReal) else ⊥)
      = h.sl t j := by
  rw [s_sum, ← EReal.coe_add, ← EReal.coe_sub, sl, s]

theorem mx_form {n : ℕ} (t : ℕ) (ht : t < n) :
    fold max (Ideal.ofBits .f32 0xFF800000#32) (fun x : Fin n => h.sl t x.val) univ = ((h.mx n t : ℝ) : EReal) := by
  rw [word_neginf]; exact h.top_eq ht

theorem ex_form (n t j : ℕ) : Ideal.exp (h.sl t j - ((h.mx n t : ℝ) : EReal)) = ((h.ex n t j : ℝ) : EReal) := by
  rw [sl, ex]; split_ifs
  · rw [← EReal.coe_sub, Ideal.exp_coe]
  · rw [EReal.bot_sub, Ideal.exp_bot]; rfl

theorem sumEx_form (n t : ℕ) : (∑ x : Fin n, ((h.ex n t x.val : ℝ) : EReal)) = ((h.sumEx n t : ℝ) : EReal) := sum_fin _

theorem sumEx_eq {n t : ℕ} (ht : t < n) : h.sumEx n t = ∑ j ∈ range (t + 1), Real.exp (h.s t j - h.mx n t) := by
  rw [sumEx, sum_causal (fun j => h.ex n t j) (fun j hj => if_neg (by omega)) ht]
  exact Finset.sum_congr rfl fun j hj => if_pos (by rw [mem_range] at hj; omega)

theorem sumEx_pos {n t : ℕ} (ht : t < n) : 0 < h.sumEx n t := by
  rw [sumEx_eq h ht]; exact Finset.sum_pos (fun _ _ => Real.exp_pos _) ⟨0, by simp⟩

theorem lse_form {n : ℕ} (t : ℕ) (ht : t < n) :
    ((h.mx n t : ℝ) : EReal) + Ideal.log ((h.sumEx n t : ℝ) : EReal) = ((h.lse t : ℝ) : EReal) := by
  rw [log_pos _ (h.sumEx_pos ht), ← EReal.coe_add, sumEx_eq h ht, lse_shift (t + 1) (by omega), lse, Z]

theorem ex_div {n t : ℕ} (ht : t < n) (j : ℕ) : h.ex n t j / h.sumEx n t = h.p t j := by
  rw [ex, p]; split_ifs
  · have hs := congrArg (EReal.toReal) (h.lse_form t ht)
    rw [log_pos _ (h.sumEx_pos ht), ← EReal.coe_add, EReal.toReal_coe, EReal.toReal_coe] at hs
    rw [← hs, ← sub_sub, Real.exp_sub (h.s t j - h.mx n t), Real.exp_log (h.sumEx_pos ht)]
  · exact zero_div _

theorem out_form {n : ℕ} (t d : ℕ) (ht : t < n) :
    Ideal.div (∑ x : Fin n, ((h.ex n t x.val : ℝ) : EReal) * ((h.v x.val d : ℝ) : EReal)) ((h.sumEx n t : ℝ) : EReal) = ((h.out t d : ℝ) : EReal) := by
  simp only [← EReal.coe_mul]
  rw [sum_fin (fun x => h.ex n t x * h.v x d), div_real _ _ (h.sumEx_pos ht).ne', Finset.sum_div, out,
    ← sum_causal (fun j => h.p t j * h.v j d) (fun j hj => by simp only [p_of_lt h hj, zero_mul]) ht]
  congr 1
  exact Finset.sum_congr rfl fun j _ => by rw [← ex_div h ht j]; ring

end Head

/-- One more block of rows of a matrix kept in the shorter format. -/
theorem MatTo.consHalf {M N o m n : ℕ} {f : ℕ → ℕ → ℝ} {L : List (View.Piece (Elt Ideal) ⟨2, ![M, N]⟩ .bf16)}
    (hL : MatTo o (View.canon L) f) {w : (⟨2, ![m, N]⟩ : Shape).Idx → EReal} (hw : Mat w (fun r l => f (o + r) l)) (hn : n = o + m)
    (inb : ∀ i, ![o, 0] i + ![m, N] i ≤ (⟨2, ![M, N]⟩ : Shape).size i) :
    MatTo n (View.canon (Val := Elt Ideal) ((⟨Rect.unit ![o, 0] ![m, N] inb, w⟩ : View.Piece (Elt Ideal) ⟨2, ![M, N]⟩ .bf16) :: L)) f := by
  intro r l hr
  subst hn
  by_cases ho : o ≤ r.val
  · have hm : r.val - o < m := by omega
    have e' : (ix2 r l : (⟨2, ![M, N]⟩ : Shape).Idx) = (Rect.unit (s := ⟨2, ![M, N]⟩) ![o, 0] ![m, N] inb).emb (ix2 (⟨r.val - o, hm⟩ : Fin m) l) := by
      rw [emb_ix2 inb (⟨r.val - o, hm⟩ : Fin m) l]; congr 1; exact Fin.ext (by simp only; omega)
    rw [e']
    have e := View.canon_cons_emb (Val := Elt Ideal) (s := ⟨2, ![M, N]⟩) (e := .bf16) (Rect.unit (s := ⟨2, ![M, N]⟩) ![o, 0] ![m, N] inb) w L (ix2 (⟨r.val - o, hm⟩ : Fin m) l)
    refine e.trans ((hw _ _).trans ?_)
    simp only [Nat.add_sub_cancel' ho]
  · refine (View.canon_cons_of_not_mem (Val := Elt Ideal) _ L (fun hm => ?_)).trans (hL r l (by omega))
    have := ((Rect.mem_set_unit (s := ⟨2, ![M, N]⟩) (inb := inb)).mp hm 0).1
    exact ho (by simpa using this)

end Cert.Attn

end
-- ==== Proof.Fore.lean ====
/- What the payloads of the forward call hold, the head given. -/
module

public import proofs.«01_k».proof.Proof.Gen.KernelIdeal.Skeleton
public import proofs.«01_k».proof.Proof.FormsFore

@[expose] public section

set_option maxRecDepth 16384

noncomputable section

namespace Cert.KernelIdeal.Gen

open Idealize.ShloMosaic Idealize.ShloMosaic.TcCoe Idealize.ShloMosaic.Tactic Finset Cert.Attn

theorem fore5 (h : Head) {v0 : Vec Ideal S2048x128 .f32} {v12 : Vec Ideal S1x128 .f32} (hv0 : Mat v0 h.q) (hv12 : Mat v12 (fun _ d => h.qg d)) :
    Mat (k0_pay5 (F := Ideal) v0 v12) h.qs := by
  intro r l
  have hr := r.isLt
  pointwise [k0_pay5]
  simp only [hv0 _ _, hv12 _ _]
  simp only [word_eps, word_128, word_sc]; rw [rn_form h.q r.val]; simp only [← EReal.coe_mul]; rfl

theorem fore6 (h : Head) {v1 : Vec Ideal S2048x128 .f32} {v31 : Vec Ideal S1x128 .f32} (hv1 : Mat v1 h.k) (hv31 : Mat v31 (fun _ d => h.kg d)) :
    Mat (k0_pay6 (F := Ideal) v1 v31) h.kn := by
  intro r l
  have hr := r.isLt
  pointwise [k0_pay6]
  simp only [hv1 _ _, hv31 _ _]
  simp only [word_eps, word_128]; rw [rn_form h.k r.val]; simp only [← EReal.coe_mul]; rfl

theorem fore7 (h : Head) {v38 : Vec Ideal S2048x128 .f32} (hv38 : Mat v38 h.v) :
    Mat (k0_pay7 (F := Ideal) v38) h.v := by
  intro r l
  have hr := r.isLt
  pointwise [k0_pay7]
  exact hv38 _ _

theorem fore8 (h : Head) {v43 : Vec Ideal S256x128 .bf16} {v44 : Vec Ideal S256x128 .bf16} {v46 : Vec Ideal S1x256x1 .f32} {v50 : Vec Ideal S1x1x256 .f32} (hv43 : Mat v43 (fun r d => h.qs r d)) (hv44 : Mat v44 h.kn) (hv46 : Col3 v46 (fun r => h.c r)) (hv50 : Row3 v50 h.c) :
    MatE (k0_pay8 (F := Ideal) v43 v44 v46 v50) (fun r j => h.sl r j) := by
  intro r l
  have hr := r.isLt
  pointwise [k0_pay8]
  simp only [hv43 _ _, hv44 _ _, hv46 _, hv50 _]
  rw [select_causal_zero (by norm_num) (by norm_num), mask_eq]
  exact h.sl_form r.val l.val

theorem fore9 (h : Head) {v43 : Vec Ideal S256x128 .bf16} {v44 : Vec Ideal S256x128 .bf16} {v46 : Vec Ideal S1x256x1 .f32} {v50 : Vec Ideal S1x1x256 .f32} (hv43 : Mat v43 (fun r d => h.qs r d)) (hv44 : Mat v44 h.kn) (hv46 : Col3 v46 (fun r => h.c r)) (hv50 : Row3 v50 h.c) :
    Mat (k0_pay9 (F := Ideal) v43 v44 v46 v50) (fun r _ => h.mx 256 r) := by
  intro r l
  have hr := r.isLt
  pointwise [k0_pay9]
  simp only [hv43 _ _, hv44 _ _, hv46 _, hv50 _, (fore8 h hv43 hv44 hv46 hv50) _ _]
  exact h.mx_form (n := 256) r.val (by omega)

theorem fore10 (h : Head) {v43 : Vec Ideal S256x128 .bf16} {v44 : Vec Ideal S256x128 .bf16} {v46 : Vec Ideal S1x256x1 .f32} {v50 : Vec Ideal S1x1x256 .f32} (hv43 : Mat v43 (fun r d => h.qs r d)) (hv44 : Mat v44 h.kn) (hv46 : Col3 v46 (fun r => h.c r)) (hv50 : Row3 v50 h.c) :
    Mat (k0_pay10 (F := Ideal) v43 v44 v46 v50) (fun r j => h.ex 256 r j) := by
  intro r l
  have hr := r.isLt
  pointwise [k0_pay10]
  simp only [hv43 _ _, hv44 _ _, hv46 _, hv50 _, (fore9 h hv43 hv44 hv46 hv50) _ _, (fore8 h hv43 hv44 hv46 hv50) _ _]
  exact h.ex_form 256 r.val l.val

theorem fore11 (h : Head) {v43 : Vec Ideal S256x128 .bf16} {v44 : Vec Ideal S256x128 .bf16} {v46 : Vec Ideal S1x256x1 .f32} {v50 : Vec Ideal S1x1x256 .f32} (hv43 : Mat v43 (fun r d => h.qs r d)) (hv44 : Mat v44 h.kn) (hv46 : Col3 v46 (fun r => h.c r)) (hv50 : Row3 v50 h.c) :
    Mat (k0_pay11 (F := Ideal) v43 v44 v46 v50) (fun r _ => h.sumEx 256 r) := by
  intro r l
  have hr := r.isLt
  pointwise [k0_pay11]
  simp only [hv43 _ _, hv44 _ _, hv46 _, hv50 _, (fore10 h hv43 hv44 hv46 hv50) _ _]
  exact h.sumEx_form 256 r.val

theorem fore12 (h : Head) {v43 : Vec Ideal S256x128 .bf16} {v44 : Vec Ideal S256x128 .bf16} {v46 : Vec Ideal S1x256x1 .f32} {v50 : Vec Ideal S1x1x256 .f32} {v69 : Vec Ideal S256x128 .bf16} (hv43 : Mat v43 (fun r d => h.qs r d)) (hv44 : Mat v44 h.kn) (hv46 : Col3 v46 (fun r => h.c r)) (hv50 : Row3 v50 h.c) (hv69 : Mat v69 h.v) :
    Mat (k0_pay12 (F := Ideal) v43 v44 v46 v50 v69) (fun r d => h.out r d) := by
  intro r l
  have hr := r.isLt
  pointwise [k0_pay12]
  simp only [hv43 _ _, hv44 _ _, hv46 _, hv50 _, hv69 _ _, (fore10 h hv43 hv44 hv46 hv50) _ _, (fore11 h hv43 hv44 hv46 hv50) _ _]
  exact h.out_form (n := 256) r.val l.val (by omega)

theorem fore13 (h : Head) {v62 : FVec Ideal S256x1 .f32} {v67 : FVec Ideal S256x1 .f32} (hv62 : Mat v62 (fun r _ => h.mx 256 r)) (hv67 : Mat v67 (fun r _ => h.sumEx 256 r)) :
    Col3 (k0_pay13 (F := Ideal) v62 v67) (fun r => h.lse r) := by
  intro r
  have hr := r.isLt
  pointwise [k0_pay13]
  simp only [hv62 _ _, hv67 _ _]
  exact h.lse_form (n := 256) r.val (by omega)

theorem fore14 (h : Head) {v80 : Vec Ideal S256x128 .bf16} {v81 : Vec Ideal S512x128 .bf16} {v83 : Vec Ideal S1x256x1 .f32} {v87 : Vec Ideal S1x1x512 .f32} (hv80 : Mat v80 (fun r d => h.qs (256 + r) d)) (hv81 : Mat v81 h.kn) (hv83 : Col3 v83 (fun r => h.c (256 + r))) (hv87 : Row3 v87 h.c) :
    MatE (k0_pay14 (F := Ideal) v80 v81 v83 v87) (fun r j => h.sl (256 + r) j) := by
  intro r l
  have hr := r.isLt
  pointwise [k0_pay14]
  simp only [hv80 _ _, hv81 _ _, hv83 _, hv87 _]
  rw [select_causal 256 (by norm_num) (by norm_num) (by norm_num), mask_eq]
  exact h.sl_form (256 + r.val) l.val

theorem fore15 (h : Head) {v80 : Vec Ideal S256x128 .bf16} {v81 : Vec Ideal S512x128 .bf16} {v83 : Vec Ideal S1x256x1 .f32} {v87 : Vec Ideal S1x1x512 .f32} (hv80 : Mat v80 (fun r d => h.qs (256 + r) d)) (hv81 : Mat v81 h.kn) (hv83 : Col3 v83 (fun r => h.c (256 + r))) (hv87 : Row3 v87 h.c) :
    Mat (k0_pay15 (F := Ideal) v80 v81 v83 v87) (fun r _ => h.mx 512 (256 + r)) := by
  intro r l
  have hr := r.isLt
  pointwise [k0_pay15]
  simp only [hv80 _ _, hv81 _ _, hv83 _, hv87 _, (fore14 h hv80 hv81 hv83 hv87) _ _]
  exact h.mx_form (n := 512) (256 + r.val) (by omega)

theorem fore16 (h : Head) {v80 : Vec Ideal S256x128 .bf16} {v81 : Vec Ideal S512x128 .bf16} {v83 : Vec Ideal S1x256x1 .f32} {v87 : Vec Ideal S1x1x512 .f32} (hv80 : Mat v80 (fun r d => h.qs (256 + r) d)) (hv81 : Mat v81 h.kn) (hv83 : Col3 v83 (fun r => h.c (256 + r))) (hv87 : Row3 v87 h.c) :
    Mat (k0_pay16 (F := Ideal) v80 v81 v83 v87) (fun r j => h.ex 512 (256 + r) j) := by
  intro r l
  have hr := r.isLt
  pointwise [k0_pay16]
  simp only [hv80 _ _, hv81 _ _, hv83 _, hv87 _, (fore15 h hv80 hv81 hv83 hv87) _ _, (fore14 h hv80 hv81 hv83 hv87) _ _]
  exact h.ex_form 512 (256 + r.val) l.val

theorem fore17 (h : Head) {v80 : Vec Ideal S256x128 .bf16} {v81 : Vec Ideal S512x128 .bf16} {v83 : Vec Ideal S1x256x1 .f32} {v87 : Vec Ideal S1x1x512 .f32} (hv80 : Mat v80 (fun r d => h.qs (256 + r) d)) (hv81 : Mat v81 h.kn) (hv83 : Col3 v83 (fun r => h.c (256 + r))) (hv87 : Row3 v87 h.c) :
    Mat (k0_pay17 (F := Ideal) v80 v81 v83 v87) (fun r _ => h.sumEx 512 (256 + r)) := by
  intro r l
  have hr := r.isLt
  pointwise [k0_pay17]
  simp only [hv80 _ _, hv81 _ _, hv83 _, hv87 _, (fore16 h hv80 hv81 hv83 hv87) _ _]
  exact h.sumEx_form 512 (256 + r.val)

theorem fore18 (h : Head) {v80 : Vec Ideal S256x128 .bf16} {v81 : Vec Ideal S512x128 .bf16} {v83 : Vec Ideal S1x256x1 .f32} {v87 : Vec Ideal S1x1x512 .f32} {v106 : Vec Ideal S512x128 .bf16} (hv80 : Mat v80 (fun r d => h.qs (256 + r) d)) (hv81 : Mat v81 h.kn) (hv83 : Col3 v83 (fun r => h.c (256 + r))) (hv87 : Row3 v87 h.c) (hv106 : Mat v106 h.v) :
    Mat (k0_pay18 (F := Ideal) v80 v81 v83 v87 v106) (fun r d => h.out (256 + r) d) := by
  intro r l
  have hr := r.isLt
  pointwise [k0_pay18]
  simp only [hv80 _ _, hv81 _ _, hv83 _, hv87 _, hv106 _ _, (fore16 h hv80 hv81 hv83 hv87) _ _, (fore17 h hv80 hv81 hv83 hv87) _ _]
  exact h.out_form (n := 512) (256 + r.val) l.val (by omega)

theorem fore19 (h : Head) {v109 : FVec Ideal S256x128 .f32} (hv109 : Mat v109 (fun r d => h.out (256 + r) d)) :
    Mat (k0_pay19 (F := Ideal) v109) (fun r d => h.out (256 + r) d) := by
  intro r l
  have hr := r.isLt
  pointwise [k0_pay19]
  exact hv109 _ _

theorem fore20 (h : Head) {v99 : FVec Ideal S256x1 .f32} {v104 : FVec Ideal S256x1 .f32} (hv99 : Mat v99 (fun r _ => h.mx 512 (256 + r))) (hv104 : Mat v104 (fun r _ => h.sumEx 512 (256 + r))) :
    Col3 (k0_pay20 (F := Ideal) v99 v104) (fun r => h.lse (256 + r)) := by
  intro r
  have hr := r.isLt
  pointwise [k0_pay20]
  simp only [hv99 _ _, hv104 _ _]
  exact h.lse_form (n := 512) (256 + r.val) (by omega)

theorem fore21 (h : Head) {v117 : Vec Ideal S256x128 .bf16} {v118 : Vec Ideal S768x128 .bf16} {v120 : Vec Ideal S1x256x1 .f32} {v124 : Vec Ideal S1x1x768 .f32} (hv117 : Mat v117 (fun r d => h.qs (512 + r) d)) (hv118 : Mat v118 h.kn) (hv120 : Col3 v120 (fun r => h.c (512 + r))) (hv124 : Row3 v124 h.c) :
    MatE (k0_pay21 (F := Ideal) v117 v118 v120 v124) (fun r j => h.sl (512 + r) j) := by
  intro r l
  have hr := r.isLt
  pointwise [k0_pay21]
  simp only [hv117 _ _, hv118 _ _, hv120 _, hv124 _]
  rw [select_causal 512 (by norm_num) (by norm_num) (by norm_num), mask_eq]
  exact h.sl_form (512 + r.val) l.val

theorem fore22 (h : Head) {v117 : Vec Ideal S256x128 .bf16} {v118 : Vec Ideal S768x128 .bf16} {v120 : Vec Ideal S1x256x1 .f32} {v124 : Vec Ideal S1x1x768 .f32} (hv117 : Mat v117 (fun r d => h.qs (512 + r) d)) (hv118 : Mat v118 h.kn) (hv120 : Col3 v120 (fun r => h.c (512 + r))) (hv124 : Row3 v124 h.c) :
    Mat (k0_pay22 (F := Ideal) v117 v118 v120 v124) (fun r _ => h.mx 768 (512 + r)) := by
  intro r l
  have hr := r.isLt
  pointwise [k0_pay22]
  simp only [hv117 _ _, hv118 _ _, hv120 _, hv124 _, (fore21 h hv117 hv118 hv120 hv124) _ _]
  exact h.mx_form (n := 768) (512 + r.val) (by omega)

theorem fore23 (h : Head) {v117 : Vec Ideal S256x128 .bf16} {v118 : Vec Ideal S768x128 .bf16} {v120 : Vec Ideal S1x256x1 .f32} {v124 : Vec Ideal S1x1x768 .f32} (hv117 : Mat v117 (fun r d => h.qs (512 + r) d)) (hv118 : Mat v118 h.kn) (hv120 : Col3 v120 (fun r => h.c (512 + r))) (hv124 : Row3 v124 h.c) :
    Mat (k0_pay23 (F := Ideal) v117 v118 v120 v124) (fun r j => h.ex 768 (512 + r) j) := by
  intro r l
  have hr := r.isLt
  pointwise [k0_pay23]
  simp only [hv117 _ _, hv118 _ _, hv120 _, hv124 _, (fore22 h hv117 hv118 hv120 hv124) _ _, (fore21 h hv117 hv118 hv120 hv124) _ _]
  exact h.ex_form 768 (512 + r.val) l.val

theorem fore24 (h : Head) {v117 : Vec Ideal S256x128 .bf16} {v118 : Vec Ideal S768x128 .bf16} {v120 : Vec Ideal S1x256x1 .f32} {v124 : Vec Ideal S1x1x768 .f32} (hv117 : Mat v117 (fun r d => h.qs (512 + r) d)) (hv118 : Mat v118 h.kn) (hv120 : Col3 v120 (fun r => h.c (512 + r))) (hv124 : Row3 v124 h.c) :
    Mat (k0_pay24 (F := Ideal) v117 v118 v120 v124) (fun r _ => h.sumEx 768 (512 + r)) := by
  intro r l
  have hr := r.isLt
  pointwise [k0_pay24]
  simp only [hv117 _ _, hv118 _ _, hv120 _, hv124 _, (fore23 h hv117 hv118 hv120 hv124) _ _]
  exact h.sumEx_form 768 (512 + r.val)

theorem fore25 (h : Head) {v117 : Vec Ideal S256x128 .bf16} {v118 : Vec Ideal S768x128 .bf16} {v120 : Vec Ideal S1x256x1 .f32} {v124 : Vec Ideal S1x1x768 .f32} {v143 : Vec Ideal S768x128 .bf16} (hv117 : Mat v117 (fun r d => h.qs (512 + r) d)) (hv118 : Mat v118 h.kn) (hv120 : Col3 v120 (fun r => h.c (512 + r))) (hv124 : Row3 v124 h.c) (hv143 : Mat v143 h.v) :
    MatE (k0_pay25 (F := Ideal) v117 v118 v120 v124 v143) (fun r d => ∑ x : Fin 768, ((h.ex 768 (512 + r) x.val : ℝ) : EReal) * ((h.v x.val d : ℝ) : EReal)) := by
  intro r l
  have hr := r.isLt
  pointwise [k0_pay25]
  simp only [hv117 _ _, hv118 _ _, hv120 _, hv124 _, hv143 _ _, (fore23 h hv117 hv118 hv120 hv124) _ _]

theorem fore26 (h : Head) {v141 : FVec Ideal S256x1 .f32} {v144 : FVec Ideal S256x128 .f32} (hv141 : Mat v141 (fun r _ => h.sumEx 768 (512 + r))) (hv144 : MatE v144 (fun r d => ∑ x : Fin 768, ((h.ex 768 (512 + r) x.val : ℝ) : EReal) * ((h.v x.val d : ℝ) : EReal))) :
    Mat (k0_pay26 (F := Ideal) v141 v144) (fun r d => h.out (512 + r) d) := by
  intro r l
  have hr := r.isLt
  pointwise [k0_pay26]
  simp only [hv141 _ _, hv144 _ _]
  exact h.out_form (n := 768) (512 + r.val) l.val (by omega)

theorem fore27 (h : Head) {v136 : FVec Ideal S256x1 .f32} {v141 : FVec Ideal S256x1 .f32} (hv136 : Mat v136 (fun r _ => h.mx 768 (512 + r))) (hv141 : Mat v141 (fun r _ => h.sumEx 768 (512 + r))) :
    Col3 (k0_pay27 (F := Ideal) v136 v141) (fun r => h.lse (512 + r)) := by
  intro r
  have hr := r.isLt
  pointwise [k0_pay27]
  simp only [hv136 _ _, hv141 _ _]
  exact h.lse_form (n := 768) (512 + r.val) (by omega)

theorem fore28 (h : Head) {v154 : Vec Ideal S256x128 .bf16} {v155 : Vec Ideal S1024x128 .bf16} {v157 : Vec Ideal S1x256x1 .f32} {v161 : Vec Ideal S1x1x1024 .f32} (hv154 : Mat v154 (fun r d => h.qs (768 + r) d)) (hv155 : Mat v155 h.kn) (hv157 : Col3 v157 (fun r => h.c (768 + r))) (hv161 : Row3 v161 h.c) :
    MatE (k0_pay28 (F := Ideal) v154 v155 v157 v161) (fun r j => h.sl (768 + r) j) := by
  intro r l
  have hr := r.isLt
  pointwise [k0_pay28]
  simp only [hv154 _ _, hv155 _ _, hv157 _, hv161 _]
  rw [select_causal 768 (by norm_num) (by norm_num) (by norm_num), mask_eq]
  exact h.sl_form (768 + r.val) l.val

theorem fore29 (h : Head) {v154 : Vec Ideal S256x128 .bf16} {v155 : Vec Ideal S1024x128 .bf16} {v157 : Vec Ideal S1x256x1 .f32} {v161 : Vec Ideal S1x1x1024 .f32} (hv154 : Mat v154 (fun r d => h.qs (768 + r) d)) (hv155 : Mat v155 h.kn) (hv157 : Col3 v157 (fun r => h.c (768 + r))) (hv161 : Row3 v161 h.c) :
    Mat (k0_pay29 (F := Ideal) v154 v155 v157 v161) (fun r _ => h.mx 1024 (768 + r)) := by
  intro r l
  have hr := r.isLt
  pointwise [k0_pay29]
  simp only [hv154 _ _, hv155 _ _, hv157 _, hv161 _, (fore28 h hv154 hv155 hv157 hv161) _ _]
  exact h.mx_form (n := 1024) (768 + r.val) (by omega)

theorem fore30 (h : Head) {v154 : Vec Ideal S256x128 .bf16} {v155 : Vec Ideal S1024x128 .bf16} {v157 : Vec Ideal S1x256x1 .f32} {v161 : Vec Ideal S1x1x1024 .f32} (hv154 : Mat v154 (fun r d => h.qs (768 + r) d)) (hv155 : Mat v155 h.kn) (hv157 : Col3 v157 (fun r => h.c (768 + r))) (hv161 : Row3 v161 h.c) :
    Mat (k0_pay30 (F := Ideal) v154 v155 v157 v161) (fun r j => h.ex 1024 (768 + r) j) := by
  intro r l
  have hr := r.isLt
  pointwise [k0_pay30]
  simp only [hv154 _ _, hv155 _ _, hv157 _, hv161 _, (fore29 h hv154 hv155 hv157 hv161) _ _, (fore28 h hv154 hv155 hv157 hv161) _ _]
  exact h.ex_form 1024 (768 + r.val) l.val

theorem fore31 (h : Head) {v154 : Vec Ideal S256x128 .bf16} {v155 : Vec Ideal S1024x128 .bf16} {v157 : Vec Ideal S1x256x1 .f32} {v161 : Vec Ideal S1x1x1024 .f32} (hv154 : Mat v154 (fun r d => h.qs (768 + r) d)) (hv155 : Mat v155 h.kn) (hv157 : Col3 v157 (fun r => h.c (768 + r))) (hv161 : Row3 v161 h.c) :
    Mat (k0_pay31 (F := Ideal) v154 v155 v157 v161) (fun r _ => h.sumEx 1024 (768 + r)) := by
  intro r l
  have hr := r.isLt
  pointwise [k0_pay31]
  simp only [hv154 _ _, hv155 _ _, hv157 _, hv161 _, (fore30 h hv154 hv155 hv157 hv161) _ _]
  exact h.sumEx_form 1024 (768 + r.val)

theorem fore32 (h : Head) {v154 : Vec Ideal S256x128 .bf16} {v155 : Vec Ideal S1024x128 .bf16} {v157 : Vec Ideal S1x256x1 .f32} {v161 : Vec Ideal S1x1x1024 .f32} (hv154 : Mat v154 (fun r d => h.qs (768 + r) d)) (hv155 : Mat v155 h.kn) (hv157 : Col3 v157 (fun r => h.c (768 + r))) (hv161 : Row3 v161 h.c) :
    Mat (k0_pay32 (F := Ideal) v154 v155 v157 v161) (fun r j => h.ex 1024 (768 + r) j) := by
  intro r l
  have hr := r.isLt
  pointwise [k0_pay32]
  exact (fore30 h hv154 hv155 hv157 hv161) _ _

theorem fore33 (h : Head) {v178 : FVec Ideal S256x1 .f32} {v179 : FVec Ideal S256x1024 .bf16} {v180 : Vec Ideal S1024x128 .bf16} (hv178 : Mat v178 (fun r _ => h.sumEx 1024 (768 + r))) (hv179 : Mat v179 (fun r j => h.ex 1024 (768 + r) j)) (hv180 : Mat v180 h.v) :
    Mat (k0_pay33 (F := Ideal) v178 v179 v180) (fun r d => h.out (768 + r) d) := by
  intro r l
  have hr := r.isLt
  pointwise [k0_pay33]
  simp only [hv178 _ _, hv179 _ _, hv180 _ _]
  exact h.out_form (n := 1024) (768 + r.val) l.val (by omega)

theorem fore34 (h : Head) {v173 : FVec Ideal S256x1 .f32} {v178 : FVec Ideal S256x1 .f32} (hv173 : Mat v173 (fun r _ => h.mx 1024 (768 + r))) (hv178 : Mat v178 (fun r _ => h.sumEx 1024 (768 + r))) :
    Col3 (k0_pay34 (F := Ideal) v173 v178) (fun r => h.lse (768 + r)) := by
  intro r
  have hr := r.isLt
  pointwise [k0_pay34]
  simp only [hv173 _ _, hv178 _ _]
  exact h.lse_form (n := 1024) (768 + r.val) (by omega)

theorem fore35 (h : Head) {v191 : Vec Ideal S256x128 .bf16} {v192 : Vec Ideal S1280x128 .bf16} {v194 : Vec Ideal S1x256x1 .f32} {v198 : Vec Ideal S1x1x1280 .f32} (hv191 : Mat v191 (fun r d => h.qs (1024 + r) d)) (hv192 : Mat v192 h.kn) (hv194 : Col3 v194 (fun r => h.c (1024 + r))) (hv198 : Row3 v198 h.c) :
    MatE (k0_pay35 (F := Ideal) v191 v192 v194 v198) (fun r j => h.sl (1024 + r) j) := by
  intro r l
  have hr := r.isLt
  pointwise [k0_pay35]
  simp only [hv191 _ _, hv192 _ _, hv194 _, hv198 _]
  rw [select_causal 1024 (by norm_num) (by norm_num) (by norm_num), mask_eq]
  exact h.sl_form (1024 + r.val) l.val

theorem fore36 (h : Head) {v191 : Vec Ideal S256x128 .bf16} {v192 : Vec Ideal S1280x128 .bf16} {v194 : Vec Ideal S1x256x1 .f32} {v198 : Vec Ideal S1x1x1280 .f32} (hv191 : Mat v191 (fun r d => h.qs (1024 + r) d)) (hv192 : Mat v192 h.kn) (hv194 : Col3 v194 (fun r => h.c (1024 + r))) (hv198 : Row3 v198 h.c) :
    Mat (k0_pay36 (F := Ideal) v191 v192 v194 v198) (fun r _ => h.mx 1280 (1024 + r)) := by
  intro r l
  have hr := r.isLt
  pointwise [k0_pay36]
  simp only [hv191 _ _, hv192 _ _, hv194 _, hv198 _, (fore35 h hv191 hv192 hv194 hv198) _ _]
  exact h.mx_form (n := 1280) (1024 + r.val) (by omega)

theorem fore37 (h : Head) {v191 : Vec Ideal S256x128 .bf16} {v192 : Vec Ideal S1280x128 .bf16} {v194 : Vec Ideal S1x256x1 .f32} {v198 : Vec Ideal S1x1x1280 .f32} (hv191 : Mat v191 (fun r d => h.qs (1024 + r) d)) (hv192 : Mat v192 h.kn) (hv194 : Col3 v194 (fun r => h.c (1024 + r))) (hv198 : Row3 v198 h.c) :
    Mat (k0_pay37 (F := Ideal) v191 v192 v194 v198) (fun r j => h.ex 1280 (1024 + r) j) := by
  intro r l
  have hr := r.isLt
  pointwise [k0_pay37]
  simp only [hv191 _ _, hv192 _ _, hv194 _, hv198 _, (fore36 h hv191 hv192 hv194 hv198) _ _, (fore35 h hv191 hv192 hv194 hv198) _ _]
  exact h.ex_form 1280 (1024 + r.val) l.val

theorem fore38 (h : Head) {v191 : Vec Ideal S256x128 .bf16} {v192 : Vec Ideal S1280x128 .bf16} {v194 : Vec Ideal S1x256x1 .f32} {v198 : Vec Ideal S1x1x1280 .f32} (hv191 : Mat v191 (fun r d => h.qs (1024 + r) d)) (hv192 : Mat v192 h.kn) (hv194 : Col3 v194 (fun r => h.c (1024 + r))) (hv198 : Row3 v198 h.c) :
    Mat (k0_pay38 (F := Ideal) v191 v192 v194 v198) (fun r _ => h.sumEx 1280 (1024 + r)) := by
  intro r l
  have hr := r.isLt
  pointwise [k0_pay38]
  simp only [hv191 _ _, hv192 _ _, hv194 _, hv198 _, (fore37 h hv191 hv192 hv194 hv198) _ _]
  exact h.sumEx_form 1280 (1024 + r.val)

theorem fore39 (h : Head) {v191 : Vec Ideal S256x128 .bf16} {v192 : Vec Ideal S1280x128 .bf16} {v194 : Vec Ideal S1x256x1 .f32} {v198 : Vec Ideal S1x1x1280 .f32} (hv191 : Mat v191 (fun r d => h.qs (1024 + r) d)) (hv192 : Mat v192 h.kn) (hv194 : Col3 v194 (fun r => h.c (1024 + r))) (hv198 : Row3 v198 h.c) :
    Mat (k0_pay39 (F := Ideal) v191 v192 v194 v198) (fun r j => h.ex 1280 (1024 + r) j) := by
  intro r l
  have hr := r.isLt
  pointwise [k0_pay39]
  exact (fore37 h hv191 hv192 hv194 hv198) _ _

theorem fore40 (h : Head) {v215 : FVec Ideal S256x1 .f32} {v216 : FVec Ideal S256x1280 .bf16} {v217 : Vec Ideal S1280x128 .bf16} (hv215 : Mat v215 (fun r _ => h.sumEx 1280 (1024 + r))) (hv216 : Mat v216 (fun r j => h.ex 1280 (1024 + r) j)) (hv217 : Mat v217 h.v) :
    Mat (k0_pay40 (F := Ideal) v215 v216 v217) (fun r d => h.out (1024 + r) d) := by
  intro r l
  have hr := r.isLt
  pointwise [k0_pay40]
  simp only [hv215 _ _, hv216 _ _, hv217 _ _]
  exact h.out_form (n := 1280) (1024 + r.val) l.val (by omega)

theorem fore41 (h : Head) {v210 : FVec Ideal S256x1 .f32} {v215 : FVec Ideal S256x1 .f32} (hv210 : Mat v210 (fun r _ => h.mx 1280 (1024 + r))) (hv215 : Mat v215 (fun r _ => h.sumEx 1280 (1024 + r))) :
    Col3 (k0_pay41 (F := Ideal) v210 v215) (fun r => h.lse (1024 + r)) := by
  intro r
  have hr := r.isLt
  pointwise [k0_pay41]
  simp only [hv210 _ _, hv215 _ _]
  exact h.lse_form (n := 1280) (1024 + r.val) (by omega)

theorem fore42 (h : Head) {v228 : Vec Ideal S256x128 .bf16} {v229 : Vec Ideal S1536x128 .bf16} {v231 : Vec Ideal S1x256x1 .f32} {v235 : Vec Ideal S1x1x1536 .f32} (hv228 : Mat v228 (fun r d => h.qs (1280 + r) d)) (hv229 : Mat v229 h.kn) (hv231 : Col3 v231 (fun r => h.c (1280 + r))) (hv235 : Row3 v235 h.c) :
    MatE (k0_pay42 (F := Ideal) v228 v229 v231 v235) (fun r j => h.sl (1280 + r) j) := by
  intro r l
  have hr := r.isLt
  pointwise [k0_pay42]
  simp only [hv228 _ _, hv229 _ _, hv231 _, hv235 _]
  rw [select_causal 1280 (by norm_num) (by norm_num) (by norm_num), mask_eq]
  exact h.sl_form (1280 + r.val) l.val

theorem fore43 (h : Head) {v228 : Vec Ideal S256x128 .bf16} {v229 : Vec Ideal S1536x128 .bf16} {v231 : Vec Ideal S1x256x1 .f32} {v235 : Vec Ideal S1x1x1536 .f32} (hv228 : Mat v228 (fun r d => h.qs (1280 + r) d)) (hv229 : Mat v229 h.kn) (hv231 : Col3 v231 (fun r => h.c (1280 + r))) (hv235 : Row3 v235 h.c) :
    Mat (k0_pay43 (F := Ideal) v228 v229 v231 v235) (fun r _ => h.mx 1536 (1280 + r)) := by
  intro r l
  have hr := r.isLt
  pointwise [k0_pay43]
  simp only [hv228 _ _, hv229 _ _, hv231 _, hv235 _, (fore42 h hv228 hv229 hv231 hv235) _ _]
  exact h.mx_form (n := 1536) (1280 + r.val) (by omega)

theorem fore44 (h : Head) {v228 : Vec Ideal S256x128 .bf16} {v229 : Vec Ideal S1536x128 .bf16} {v231 : Vec Ideal S1x256x1 .f32} {v235 : Vec Ideal S1x1x1536 .f32} (hv228 : Mat v228 (fun r d => h.qs (1280 + r) d)) (hv229 : Mat v229 h.kn) (hv231 : Col3 v231 (fun r => h.c (1280 + r))) (hv235 : Row3 v235 h.c) :
    Mat (k0_pay44 (F := Ideal) v228 v229 v231 v235) (fun r j => h.ex 1536 (1280 + r) j) := by
  intro r l
  have hr := r.isLt
  pointwise [k0_pay44]
  simp only [hv228 _ _, hv229 _ _, hv231 _, hv235 _, (fore43 h hv228 hv229 hv231 hv235) _ _, (fore42 h hv228 hv229 hv231 hv235) _ _]
  exact h.ex_form 1536 (1280 + r.val) l.val

theorem fore45 (h : Head) {v228 : Vec Ideal S256x128 .bf16} {v229 : Vec Ideal S1536x128 .bf16} {v231 : Vec Ideal S1x256x1 .f32} {v235 : Vec Ideal S1x1x1536 .f32} (hv228 : Mat v228 (fun r d => h.qs (1280 + r) d)) (hv229 : Mat v229 h.kn) (hv231 : Col3 v231 (fun r => h.c (1280 + r))) (hv235 : Row3 v235 h.c) :
    Mat (k0_pay45 (F := Ideal) v228 v229 v231 v235) (fun r _ => h.sumEx 1536 (1280 + r)) := by
  intro r l
  have hr := r.isLt
  pointwise [k0_pay45]
  simp only [hv228 _ _, hv229 _ _, hv231 _, hv235 _, (fore44 h hv228 hv229 hv231 hv235) _ _]
  exact h.sumEx_form 1536 (1280 + r.val)

theorem fore46 (h : Head) {v250 : FVec Ideal S256x1536 .f32} {v252 : FVec Ideal S256x1 .f32} {v254 : Vec Ideal S1536x128 .bf16} (hv250 : Mat v250 (fun r j => h.ex 1536 (1280 + r) j)) (hv252 : Mat v252 (fun r _ => h.sumEx 1536 (1280 + r))) (hv254 : Mat v254 h.v) :
    Mat (k0_pay46 (F := Ideal) v250 v252 v254) (fun r d => h.out (1280 + r) d) := by
  intro r l
  have hr := r.isLt
  pointwise [k0_pay46]
  simp only [hv250 _ _, hv252 _ _, hv254 _ _]
  exact h.out_form (n := 1536) (1280 + r.val) l.val (by omega)

theorem fore47 (h : Head) {v247 : FVec Ideal S256x1 .f32} {v252 : FVec Ideal S256x1 .f32} (hv247 : Mat v247 (fun r _ => h.mx 1536 (1280 + r))) (hv252 : Mat v252 (fun r _ => h.sumEx 1536 (1280 + r))) :
    Col3 (k0_pay47 (F := Ideal) v247 v252) (fun r => h.lse (1280 + r)) := by
  intro r
  have hr := r.isLt
  pointwise [k0_pay47]
  simp only [hv247 _ _, hv252 _ _]
  exact h.lse_form (n := 1536) (1280 + r.val) (by omega)

theorem fore48 (h : Head) {v265 : Vec Ideal S256x128 .bf16} {v266 : Vec Ideal S1792x128 .bf16} {v268 : Vec Ideal S1x256x1 .f32} {v272 : Vec Ideal S1x1x1792 .f32} (hv265 : Mat v265 (fun r d => h.qs (1536 + r) d)) (hv266 : Mat v266 h.kn) (hv268 : Col3 v268 (fun r => h.c (1536 + r))) (hv272 : Row3 v272 h.c) :
    MatE (k0_pay48 (F := Ideal) v265 v266 v268 v272) (fun r j => h.sl (1536 + r) j) := by
  intro r l
  have hr := r.isLt
  pointwise [k0_pay48]
  simp only [hv265 _ _, hv266 _ _, hv268 _, hv272 _]
  rw [select_causal 1536 (by norm_num) (by norm_num) (by norm_num), mask_eq]
  exact h.sl_form (1536 + r.val) l.val

theorem fore49 (h : Head) {v265 : Vec Ideal S256x128 .bf16} {v266 : Vec Ideal S1792x128 .bf16} {v268 : Vec Ideal S1x256x1 .f32} {v272 : Vec Ideal S1x1x1792 .f32} (hv265 : Mat v265 (fun r d => h.qs (1536 + r) d)) (hv266 : Mat v266 h.kn) (hv268 : Col3 v268 (fun r => h.c (1536 + r))) (hv272 : Row3 v272 h.c) :
    Mat (k0_pay49 (F := Ideal) v265 v266 v268 v272) (fun r _ => h.mx 1792 (1536 + r)) := by
  intro r l
  have hr := r.isLt
  pointwise [k0_pay49]
  simp only [hv265 _ _, hv266 _ _, hv268 _, hv272 _, (fore48 h hv265 hv266 hv268 hv272) _ _]
  exact h.mx_form (n := 1792) (1536 + r.val) (by omega)

theorem fore50 (h : Head) {v265 : Vec Ideal S256x128 .bf16} {v266 : Vec Ideal S1792x128 .bf16} {v268 : Vec Ideal S1x256x1 .f32} {v272 : Vec Ideal S1x1x1792 .f32} (hv265 : Mat v265 (fun r d => h.qs (1536 + r) d)) (hv266 : Mat v266 h.kn) (hv268 : Col3 v268 (fun r => h.c (1536 + r))) (hv272 : Row3 v272 h.c) :
    Mat (k0_pay50 (F := Ideal) v265 v266 v268 v272) (fun r j => h.ex 1792 (1536 + r) j) := by
  intro r l
  have hr := r.isLt
  pointwise [k0_pay50]
  simp only [hv265 _ _, hv266 _ _, hv268 _, hv272 _, (fore49 h hv265 hv266 hv268 hv272) _ _, (fore48 h hv265 hv266 hv268 hv272) _ _]
  exact h.ex_form 1792 (1536 + r.val) l.val

theorem fore51 (h : Head) {v287 : FVec Ideal S256x1792 .f32} (hv287 : Mat v287 (fun r j => h.ex 1792 (1536 + r) j)) :
    Mat (k0_pay51 (F := Ideal) v287) (fun r _ => h.sumEx 1792 (1536 + r)) := by
  intro r l
  have hr := r.isLt
  pointwise [k0_pay51]
  simp only [hv287 _ _]
  exact h.sumEx_form 1792 (1536 + r.val)

theorem fore52 (h : Head) {v287 : FVec Ideal S256x1792 .f32} {v291 : Vec Ideal S1792x128 .bf16} (hv287 : Mat v287 (fun r j => h.ex 1792 (1536 + r) j)) (hv291 : Mat v291 h.v) :
    Mat (k0_pay52 (F := Ideal) v287 v291) (fun r d => h.out (1536 + r) d) := by
  intro r l
  have hr := r.isLt
  pointwise [k0_pay52]
  simp only [hv287 _ _, hv291 _ _, (fore51 h hv287) _ _]
  exact h.out_form (n := 1792) (1536 + r.val) l.val (by omega)

theorem fore53 (h : Head) {v284 : FVec Ideal S256x1 .f32} {v287 : FVec Ideal S256x1792 .f32} (hv284 : Mat v284 (fun r _ => h.mx 1792 (1536 + r))) (hv287 : Mat v287 (fun r j => h.ex 1792 (1536 + r) j)) :
    Col3 (k0_pay53 (F := Ideal) v284 v287) (fun r => h.lse (1536 + r)) := by
  intro r
  have hr := r.isLt
  pointwise [k0_pay53]
  simp only [hv284 _ _, hv287 _ _, (fore51 h hv287) _ _]
  exact h.lse_form (n := 1792) (1536 + r.val) (by omega)

theorem fore54 (h : Head) {v302 : Vec Ideal S256x128 .bf16} {v303 : Vec Ideal S2048x128 .bf16} {v305 : Vec Ideal S1x256x1 .f32} {v309 : Vec Ideal S1x1x2048 .f32} (hv302 : Mat v302 (fun r d => h.qs (1792 + r) d)) (hv303 : Mat v303 h.kn) (hv305 : Col3 v305 (fun r => h.c (1792 + r))) (hv309 : Row3 v309 h.c) :
    MatE (k0_pay54 (F := Ideal) v302 v303 v305 v309) (fun r j => h.sl (1792 + r) j) := by
  intro r l
  have hr := r.isLt
  pointwise [k0_pay54]
  simp only [hv302 _ _, hv303 _ _, hv305 _, hv309 _]
  rw [select_causal 1792 (by norm_num) (by norm_num) (by norm_num), mask_eq]
  exact h.sl_form (1792 + r.val) l.val

theorem fore55 (h : Head) {v302 : Vec Ideal S256x128 .bf16} {v303 : Vec Ideal S2048x128 .bf16} {v305 : Vec Ideal S1x256x1 .f32} {v309 : Vec Ideal S1x1x2048 .f32} (hv302 : Mat v302 (fun r d => h.qs (1792 + r) d)) (hv303 : Mat v303 h.kn) (hv305 : Col3 v305 (fun r => h.c (1792 + r))) (hv309 : Row3 v309 h.c) :
    Mat (k0_pay55 (F := Ideal) v302 v303 v305 v309) (fun r _ => h.mx 2048 (1792 + r)) := by
  intro r l
  have hr := r.isLt
  pointwise [k0_pay55]
  simp only [hv302 _ _, hv303 _ _, hv305 _, hv309 _, (fore54 h hv302 hv303 hv305 hv309) _ _]
  exact h.mx_form (n := 2048) (1792 + r.val) (by omega)

theorem fore56 (h : Head) {v302 : Vec Ideal S256x128 .bf16} {v303 : Vec Ideal S2048x128 .bf16} {v305 : Vec Ideal S1x256x1 .f32} {v309 : Vec Ideal S1x1x2048 .f32} (hv302 : Mat v302 (fun r d => h.qs (1792 + r) d)) (hv303 : Mat v303 h.kn) (hv305 : Col3 v305 (fun r => h.c (1792 + r))) (hv309 : Row3 v309 h.c) :
    MatE (k0_pay56 (F := Ideal) v302 v303 v305 v309) (fun r j => h.sl (1792 + r) j - ((h.mx 2048 (1792 + r) : ℝ) : EReal)) := by
  intro r l
  have hr := r.isLt
  pointwise [k0_pay56]
  simp only [hv302 _ _, hv303 _ _, hv305 _, hv309 _, (fore55 h hv302 hv303 hv305 hv309) _ _, (fore54 h hv302 hv303 hv305 hv309) _ _]

theorem fore1 (h : Head) {v323 : FVec Ideal S256x2048 .f32} (hv323 : MatE v323 (fun r j => h.sl (1792 + r) j - ((h.mx 2048 (1792 + r) : ℝ) : EReal))) :
    Mat (k0_pay1 (F := Ideal) v323) (fun r j => h.ex 2048 (1792 + r) j) := by
  intro r l
  have hr := r.isLt
  pointwise [k0_pay1]
  simp only [hv323 _ _]
  exact h.ex_form 2048 (1792 + r.val) l.val

theorem fore2 (h : Head) {v323 : FVec Ideal S256x2048 .f32} (hv323 : MatE v323 (fun r j => h.sl (1792 + r) j - ((h.mx 2048 (1792 + r) : ℝ) : EReal))) :
    Mat (k0_pay2 (F := Ideal) v323) (fun r _ => h.sumEx 2048 (1792 + r)) := by
  intro r l
  have hr := r.isLt
  pointwise [k0_pay2]
  simp only [hv323 _ _, (fore1 h hv323) _ _]
  exact h.sumEx_form 2048 (1792 + r.val)

theorem fore3 (h : Head) {v323 : FVec Ideal S256x2048 .f32} {v328 : Vec Ideal S2048x128 .bf16} (hv323 : MatE v323 (fun r j => h.sl (1792 + r) j - ((h.mx 2048 (1792 + r) : ℝ) : EReal))) (hv328 : Mat v328 h.v) :
    Mat (k0_pay3 (F := Ideal) v323 v328) (fun r d => h.out (1792 + r) d) := by
  intro r l
  have hr := r.isLt
  pointwise [k0_pay3]
  simp only [hv323 _ _, hv328 _ _, (fore1 h hv323) _ _, (fore2 h hv323) _ _]
  exact h.out_form (n := 2048) (1792 + r.val) l.val (by omega)

theorem fore4 (h : Head) {v321 : FVec Ideal S256x1 .f32} {v323 : FVec Ideal S256x2048 .f32} (hv321 : Mat v321 (fun r _ => h.mx 2048 (1792 + r))) (hv323 : MatE v323 (fun r j => h.sl (1792 + r) j - ((h.mx 2048 (1792 + r) : ℝ) : EReal))) :
    Col3 (k0_pay4 (F := Ideal) v321 v323) (fun r => h.lse (1792 + r)) := by
  intro r
  have hr := r.isLt
  pointwise [k0_pay4]
  simp only [hv321 _ _, hv323 _ _, (fore2 h hv323) _ _]
  exact h.lse_form (n := 2048) (1792 + r.val) (by omega)

end Cert.KernelIdeal.Gen

end
-- ==== Proof.FlowFore.lean ====
/- What each value of the forward call's run holds, the head given. -/
module

public import proofs.«01_k».proof.Proof.Gen.KernelIdeal.Frame.Region0
public import proofs.«01_k».proof.Proof.Fore

@[expose] public section

set_option maxRecDepth 16384

noncomputable section

namespace Cert.KernelIdeal.Gen

open Idealize.ShloMosaic Idealize.ShloMosaic.TcCoe Idealize.ShloMosaic.Tactic Finset Cert.Attn kernelRun0_A

/-- The arguments of the forward call hold the head's arrays. -/
structure InsF (h : Head) (x0 x1 x2 : Vec Ideal S2048x128 .f32) (x3 : Vec Ideal S1x2048x1 .f32) (x4 : Vec Ideal S1x1x2048 .f32)
    (x5 x6 : Vec Ideal S1x128 .f32) : Prop where
  m0 : Mat x0 h.q
  m1 : Mat x1 h.k
  m2 : Mat x2 h.v
  c3 : Col3 x3 h.c
  r4 : Row3 x4 h.c
  g5 : Mat x5 (fun _ d => h.qg d)
  g6 : Mat x6 (fun _ d => h.kg d)

variable {h : Head} {c : Dev nD} {i : grid0.Coords}
  {b1 : Memref sig .tc .vmem S2048x128 .f32} {h1 : b1.IsWhole} {b2 : Memref sig .tc .vmem S2048x128 .f32} {h2 : b2.IsWhole} {b3 : Memref sig .tc .vmem S2048x128 .f32} {h3 : b3.IsWhole} {b4 : Memref sig .tc .vmem S1x2048x1 .f32} {h4 : b4.IsWhole} {b5 : Memref sig .tc .vmem S1x1x2048 .f32} {h5 : b5.IsWhole} {b6 : Memref sig .tc .vmem S1x128 .f32} {h6 : b6.IsWhole} {b7 : Memref sig .tc .vmem S1x128 .f32} {h7 : b7.IsWhole} {b8 : Memref sig .tc .vmem S2048x128 .bf16} {h8 : b8.IsWhole} {b9 : Memref sig .tc .vmem S1x2048x1 .f32} {h9 : b9.IsWhole} {b10 : Memref sig .tc .vmem S2048x128 .bf16} {h10 : b10.IsWhole} {b11 : Memref sig .tc .vmem S2048x128 .bf16} {h11 : b11.IsWhole} {b12 : Memref sig .tc .vmem S2048x128 .bf16} {h12 : b12.IsWhole}
  {x0 x1 x2 : Vec Ideal S2048x128 .f32} {x3 : Vec Ideal S1x2048x1 .f32} {x4 : Vec Ideal S1x1x2048 .f32} {x5 x6 : Vec Ideal S1x128 .f32}

variable (hb : InsF h x0 x1 x2 x3 x4 x5 x6)
include hb

theorem f_HS0_1 : Mat (View.canon (sl.HS0_1 c b1 h1 b6 h6 x0 x5)) h.qs :=
  st_half (fore5 h (ld_whole h1 hb.m0 _) (ld_whole h6 hb.g5 _)) _ []

theorem f_HS1_1 : Mat (View.canon (sl.HS1_1 c b2 h2 b7 h7 x1 x6)) h.kn :=
  st_half (fore6 h (ld_whole h2 hb.m1 _) (ld_whole h7 hb.g6 _)) _ []

theorem f_HS2_1 : Mat (View.canon (sl.HS2_1 c b3 h3 x2)) h.v :=
  st_half (fore7 h (ld_whole h3 hb.m2 _)) _ []

theorem f_v43 : Mat (sl.v43 c b1 h1 b6 h6 b10 x0 x5) (fun r d => h.qs r d) :=
  rc_half0 _ (f_HS0_1 hb) _

theorem f_v44 : Mat (sl.v44 c b2 h2 b7 h7 b11 x1 x6) h.kn :=
  rc_half0 _ (f_HS1_1 hb) _

theorem f_r : Mat (sl.r c b1 h1 b2 h2 b4 h4 b5 h5 b6 h6 b7 h7 b10 b11 x0 x1 x3 x4 x5 x6) (fun r _ => h.mx 256 r) :=
  fore9 h (f_v43 hb) (f_v44 hb) (ld_col0 h4 hb.c3 _) (ld_row h5 hb.r4 _)

theorem f_r_1 : Mat (sl.r_1 c b1 h1 b2 h2 b4 h4 b5 h5 b6 h6 b7 h7 b10 b11 x0 x1 x3 x4 x5 x6) (fun r _ => h.sumEx 256 r) :=
  fore11 h (f_v43 hb) (f_v44 hb) (ld_col0 h4 hb.c3 _) (ld_row h5 hb.r4 _)

theorem f_v154 : Mat (sl.v154 c b1 h1 b6 h6 b10 x0 x5) (fun r d => h.qs (768 + r) d) :=
  rc_half _ (f_HS0_1 hb) _

theorem f_v155 : Mat (sl.v155 c b2 h2 b7 h7 b11 x1 x6) h.kn :=
  rc_half0 _ (f_HS1_1 hb) _

theorem f_r_10 : Mat (sl.r_10 c b1 h1 b2 h2 b4 h4 b5 h5 b6 h6 b7 h7 b10 b11 x0 x1 x3 x4 x5 x6) (fun r _ => h.sumEx 1024 (768 + r)) :=
  fore31 h (f_v154 hb) (f_v155 hb) (ld_col h4 hb.c3 _) (ld_row h5 hb.r4 _)

theorem f_r_11 : Mat (sl.r_11 c b1 h1 b2 h2 b4 h4 b5 h5 b6 h6 b7 h7 b10 b11 x0 x1 x3 x4 x5 x6) (fun r j => h.ex 1024 (768 + r) j) :=
  fore32 h (f_v154 hb) (f_v155 hb) (ld_col h4 hb.c3 _) (ld_row h5 hb.r4 _)

theorem f_v191 : Mat (sl.v191 c b1 h1 b6 h6 b10 x0 x5) (fun r d => h.qs (1024 + r) d) :=
  rc_half _ (f_HS0_1 hb) _

theorem f_v192 : Mat (sl.v192 c b2 h2 b7 h7 b11 x1 x6) h.kn :=
  rc_half0 _ (f_HS1_1 hb) _

theorem f_r_12 : Mat (sl.r_12 c b1 h1 b2 h2 b4 h4 b5 h5 b6 h6 b7 h7 b10 b11 x0 x1 x3 x4 x5 x6) (fun r _ => h.mx 1280 (1024 + r)) :=
  fore36 h (f_v191 hb) (f_v192 hb) (ld_col h4 hb.c3 _) (ld_row h5 hb.r4 _)

theorem f_r_13 : Mat (sl.r_13 c b1 h1 b2 h2 b4 h4 b5 h5 b6 h6 b7 h7 b10 b11 x0 x1 x3 x4 x5 x6) (fun r _ => h.sumEx 1280 (1024 + r)) :=
  fore38 h (f_v191 hb) (f_v192 hb) (ld_col h4 hb.c3 _) (ld_row h5 hb.r4 _)

theorem f_r_14 : Mat (sl.r_14 c b1 h1 b2 h2 b4 h4 b5 h5 b6 h6 b7 h7 b10 b11 x0 x1 x3 x4 x5 x6) (fun r j => h.ex 1280 (1024 + r) j) :=
  fore39 h (f_v191 hb) (f_v192 hb) (ld_col h4 hb.c3 _) (ld_row h5 hb.r4 _)

theorem f_v228 : Mat (sl.v228 c b1 h1 b6 h6 b10 x0 x5) (fun r d => h.qs (1280 + r) d) :=
  rc_half _ (f_HS0_1 hb) _

theorem f_v229 : Mat (sl.v229 c b2 h2 b7 h7 b11 x1 x6) h.kn :=
  rc_half0 _ (f_HS1_1 hb) _

theorem f_r_15 : Mat (sl.r_15 c b1 h1 b2 h2 b4 h4 b5 h5 b6 h6 b7 h7 b10 b11 x0 x1 x3 x4 x5 x6) (fun r _ => h.mx 1536 (1280 + r)) :=
  fore43 h (f_v228 hb) (f_v229 hb) (ld_col h4 hb.c3 _) (ld_row h5 hb.r4 _)

theorem f_r_16 : Mat (sl.r_16 c b1 h1 b2 h2 b4 h4 b5 h5 b6 h6 b7 h7 b10 b11 x0 x1 x3 x4 x5 x6) (fun r j => h.ex 1536 (1280 + r) j) :=
  fore44 h (f_v228 hb) (f_v229 hb) (ld_col h4 hb.c3 _) (ld_row h5 hb.r4 _)

theorem f_r_17 : Mat (sl.r_17 c b1 h1 b2 h2 b4 h4 b5 h5 b6 h6 b7 h7 b10 b11 x0 x1 x3 x4 x5 x6) (fun r _ => h.sumEx 1536 (1280 + r)) :=
  fore45 h (f_v228 hb) (f_v229 hb) (ld_col h4 hb.c3 _) (ld_row h5 hb.r4 _)

theorem f_v265 : Mat (sl.v265 c b1 h1 b6 h6 b10 x0 x5) (fun r d => h.qs (1536 + r) d) :=
  rc_half _ (f_HS0_1 hb) _

theorem f_v266 : Mat (sl.v266 c b2 h2 b7 h7 b11 x1 x6) h.kn :=
  rc_half0 _ (f_HS1_1 hb) _

theorem f_r_18 : Mat (sl.r_18 c b1 h1 b2 h2 b4 h4 b5 h5 b6 h6 b7 h7 b10 b11 x0 x1 x3 x4 x5 x6) (fun r _ => h.mx 1792 (1536 + r)) :=
  fore49 h (f_v265 hb) (f_v266 hb) (ld_col h4 hb.c3 _) (ld_row h5 hb.r4 _)

theorem f_r_19 : Mat (sl.r_19 c b1 h1 b2 h2 b4 h4 b5 h5 b6 h6 b7 h7 b10 b11 x0 x1 x3 x4 x5 x6) (fun r j => h.ex 1792 (1536 + r) j) :=
  fore50 h (f_v265 hb) (f_v266 hb) (ld_col h4 hb.c3 _) (ld_row h5 hb.r4 _)

theorem f_v69 : Mat (sl.v69 c b3 h3 b12 x2) h.v :=
  rc_half0 _ (f_HS2_1 hb) _

theorem f_r_2 : Mat (sl.r_2 c b1 h1 b2 h2 b3 h3 b4 h4 b5 h5 b6 h6 b7 h7 b10 b11 b12 x0 x1 x2 x3 x4 x5 x6) (fun r d => h.out r d) :=
  fore12 h (f_v43 hb) (f_v44 hb) (ld_col0 h4 hb.c3 _) (ld_row h5 hb.r4 _) (f_v69 hb)

theorem f_v302 : Mat (sl.v302 c b1 h1 b6 h6 b10 x0 x5) (fun r d => h.qs (1792 + r) d) :=
  rc_half _ (f_HS0_1 hb) _

theorem f_v303 : Mat (sl.v303 c b2 h2 b7 h7 b11 x1 x6) h.kn :=
  rc_half0 _ (f_HS1_1 hb) _

theorem f_r_20 : Mat (sl.r_20 c b1 h1 b2 h2 b4 h4 b5 h5 b6 h6 b7 h7 b10 b11 x0 x1 x3 x4 x5 x6) (fun r _ => h.mx 2048 (1792 + r)) :=
  fore55 h (f_v302 hb) (f_v303 hb) (ld_col h4 hb.c3 _) (ld_row h5 hb.r4 _)

theorem f_r_21 : MatE (sl.r_21 c b1 h1 b2 h2 b4 h4 b5 h5 b6 h6 b7 h7 b10 b11 x0 x1 x3 x4 x5 x6) (fun r j => h.sl (1792 + r) j - ((h.mx 2048 (1792 + r) : ℝ) : EReal)) :=
  fore56 h (f_v302 hb) (f_v303 hb) (ld_col h4 hb.c3 _) (ld_row h5 hb.r4 _)

theorem f_v80 : Mat (sl.v80 c b1 h1 b6 h6 b10 x0 x5) (fun r d => h.qs (256 + r) d) :=
  rc_half _ (f_HS0_1 hb) _

theorem f_v81 : Mat (sl.v81 c b2 h2 b7 h7 b11 x1 x6) h.kn :=
  rc_half0 _ (f_HS1_1 hb) _

theorem f_r_3 : Mat (sl.r_3 c b1 h1 b2 h2 b4 h4 b5 h5 b6 h6 b7 h7 b10 b11 x0 x1 x3 x4 x5 x6) (fun r _ => h.mx 512 (256 + r)) :=
  fore15 h (f_v80 hb) (f_v81 hb) (ld_col h4 hb.c3 _) (ld_row h5 hb.r4 _)

theorem f_r_4 : Mat (sl.r_4 c b1 h1 b2 h2 b4 h4 b5 h5 b6 h6 b7 h7 b10 b11 x0 x1 x3 x4 x5 x6) (fun r _ => h.sumEx 512 (256 + r)) :=
  fore17 h (f_v80 hb) (f_v81 hb) (ld_col h4 hb.c3 _) (ld_row h5 hb.r4 _)

theorem f_v106 : Mat (sl.v106 c b3 h3 b12 x2) h.v :=
  rc_half0 _ (f_HS2_1 hb) _

theorem f_r_5 : Mat (sl.r_5 c b1 h1 b2 h2 b3 h3 b4 h4 b5 h5 b6 h6 b7 h7 b10 b11 b12 x0 x1 x2 x3 x4 x5 x6) (fun r d => h.out (256 + r) d) :=
  fore18 h (f_v80 hb) (f_v81 hb) (ld_col h4 hb.c3 _) (ld_row h5 hb.r4 _) (f_v106 hb)

theorem f_v117 : Mat (sl.v117 c b1 h1 b6 h6 b10 x0 x5) (fun r d => h.qs (512 + r) d) :=
  rc_half _ (f_HS0_1 hb) _

theorem f_v118 : Mat (sl.v118 c b2 h2 b7 h7 b11 x1 x6) h.kn :=
  rc_half0 _ (f_HS1_1 hb) _

theorem f_r_6 : Mat (sl.r_6 c b1 h1 b2 h2 b4 h4 b5 h5 b6 h6 b7 h7 b10 b11 x0 x1 x3 x4 x5 x6) (fun r _ => h.mx 768 (512 + r)) :=
  fore22 h (f_v117 hb) (f_v118 hb) (ld_col h4 hb.c3 _) (ld_row h5 hb.r4 _)

theorem f_r_7 : Mat (sl.r_7 c b1 h1 b2 h2 b4 h4 b5 h5 b6 h6 b7 h7 b10 b11 x0 x1 x3 x4 x5 x6) (fun r _ => h.sumEx 768 (512 + r)) :=
  fore24 h (f_v117 hb) (f_v118 hb) (ld_col h4 hb.c3 _) (ld_row h5 hb.r4 _)

theorem f_v143 : Mat (sl.v143 c b3 h3 b12 x2) h.v :=
  rc_half0 _ (f_HS2_1 hb) _

theorem f_r_8 : MatE (sl.r_8 c b1 h1 b2 h2 b3 h3 b4 h4 b5 h5 b6 h6 b7 h7 b10 b11 b12 x0 x1 x2 x3 x4 x5 x6) (fun r d => ∑ x : Fin 768, ((h.ex 768 (512 + r) x.val : ℝ) : EReal) * ((h.v x.val d : ℝ) : EReal)) :=
  fore25 h (f_v117 hb) (f_v118 hb) (ld_col h4 hb.c3 _) (ld_row h5 hb.r4 _) (f_v143 hb)

theorem f_r_9 : Mat (sl.r_9 c b1 h1 b2 h2 b4 h4 b5 h5 b6 h6 b7 h7 b10 b11 x0 x1 x3 x4 x5 x6) (fun r _ => h.mx 1024 (768 + r)) :=
  fore29 h (f_v154 hb) (f_v155 hb) (ld_col h4 hb.c3 _) (ld_row h5 hb.r4 _)

theorem f_v180 : Mat (sl.v180 c b3 h3 b12 x2) h.v :=
  rc_half0 _ (f_HS2_1 hb) _

theorem f_v217 : Mat (sl.v217 c b3 h3 b12 x2) h.v :=
  rc_half0 _ (f_HS2_1 hb) _

theorem f_v254 : Mat (sl.v254 c b3 h3 b12 x2) h.v :=
  rc_half0 _ (f_HS2_1 hb) _

theorem f_v291 : Mat (sl.v291 c b3 h3 b12 x2) h.v :=
  rc_half0 _ (f_HS2_1 hb) _

theorem f_v328 : Mat (sl.v328 c b3 h3 b12 x2) h.v :=
  rc_half0 _ (f_HS2_1 hb) _

theorem f_out_7 : Mat (out0_A_7 c i b1 h1 b2 h2 b3 h3 b4 h4 b5 h5 b6 h6 b7 h7 b8 h8 b9 h9 b10 h10 b11 h11 b12 h12 x0 x1 x2 x3 x4 x5 x6) h.out := by
  unfold out0_A_7
  rw [View.read_writes_junk_eq_canon]
  unfold kernelRun0_A; dsimp only
  exact (MatTo.consHalf (MatTo.consHalf (MatTo.consHalf (MatTo.consHalf (MatTo.consHalf (MatTo.consHalf (MatTo.consHalf (MatTo.consHalf (matTo_zero _ _) (fun r l => by simpa only [Nat.zero_add] using (f_r_2 hb) r l) (n := 256) rfl _) (fore19 h (f_r_5 hb)) (n := 512) rfl _) (fore26 h (f_r_7 hb) (f_r_8 hb)) (n := 768) rfl _) (fore33 h (f_r_10 hb) (f_r_11 hb) (f_v180 hb)) (n := 1024) rfl _) (fore40 h (f_r_13 hb) (f_r_14 hb) (f_v217 hb)) (n := 1280) rfl _) (fore46 h (f_r_16 hb) (f_r_17 hb) (f_v254 hb)) (n := 1536) rfl _) (fore52 h (f_r_19 hb) (f_v291 hb)) (n := 1792) rfl _) (fore3 h (f_r_21 hb) (f_v328 hb)) (n := 2048) rfl _).mat

theorem f_out_8 : Col3 (out0_A_8 c i b1 h1 b2 h2 b3 h3 b4 h4 b5 h5 b6 h6 b7 h7 b8 h8 b9 h9 b10 h10 b11 h11 b12 h12 x0 x1 x2 x3 x4 x5 x6) h.lse := by
  unfold out0_A_8
  rw [View.read_writes_junk_eq_canon]
  unfold kernelRun0_A; dsimp only
  exact (Col3To.cons (Col3To.cons (Col3To.cons (Col3To.cons (Col3To.cons (Col3To.cons (Col3To.cons (Col3To.cons (col3To_zero _ _) (fun r => by simpa only [Nat.zero_add] using (fore13 h (f_r hb) (f_r_1 hb)) r) (n := 256) rfl _) (fore20 h (f_r_3 hb) (f_r_4 hb)) (n := 512) rfl _) (fore27 h (f_r_6 hb) (f_r_7 hb)) (n := 768) rfl _) (fore34 h (f_r_9 hb) (f_r_10 hb)) (n := 1024) rfl _) (fore41 h (f_r_12 hb) (f_r_13 hb)) (n := 1280) rfl _) (fore47 h (f_r_15 hb) (f_r_17 hb)) (n := 1536) rfl _) (fore53 h (f_r_18 hb) (f_r_19 hb)) (n := 1792) rfl _) (fore4 h (f_r_20 hb) (f_r_21 hb)) (n := 2048) rfl _).col

end Cert.KernelIdeal.Gen

end
-- ==== Proof.Heads.lean ====
/- The heads of the attention: head `a` as read from the arrays of all heads, and vectors that hold real functions read at
   any index. -/
module

public import proofs.«01_k».proof.Proof.FormsFore

@[expose] public section

noncomputable section

namespace Cert.Attn

open Idealize.ShloMosaic Finset

/-- Head `a`: its columns of the projections `P`, of the gate `C` and of the gradient `D`; the gains `G`, `K` are shared. -/
def headOf (P C D : ℕ → ℕ → ℝ) (G K : ℕ → ℝ) (a : ℕ) : Head where
  q t d := P t (128 * a + d)
  k t d := P t (1024 + 128 * a + d)
  v t d := P t (2048 + 128 * a + d)
  w t d := D t (128 * a + d)
  c t := C t a
  qg := G
  kg := K

theorem ix2_eta {m n : ℕ} (y : (⟨2, ![m, n]⟩ : Shape).Idx) : ix2 (y 0 : Fin m) (y 1 : Fin n) = y := by
  funext a; refine Fin.cases rfl (fun b => Fin.cases rfl (fun c => c.elim0) b) a

theorem ix3_eta {m k n : ℕ} (y : (⟨3, ![m, k, n]⟩ : Shape).Idx) : ix3 (y 0 : Fin m) (y 1 : Fin k) (y 2 : Fin n) = y := by
  funext a; refine Fin.cases rfl (fun b => Fin.cases rfl (fun c => Fin.cases rfl (fun d => d.elim0) c) b) a

theorem Mat.at {m n : ℕ} {V : (⟨2, ![m, n]⟩ : Shape).Idx → EReal} {f : ℕ → ℕ → ℝ} (h : Mat V f) (y : (⟨2, ![m, n]⟩ : Shape).Idx) :
    V y = ((f (y 0 : Fin m).val (y 1 : Fin n).val : ℝ) : EReal) :=
  (congrArg V (ix2_eta y).symm).trans (h _ _)

theorem fin1 (a : Fin 1) : a = 0 := Subsingleton.elim _ _

theorem Col3.at {m : ℕ} {V : (⟨3, ![1, m, 1]⟩ : Shape).Idx → EReal} {f : ℕ → ℝ} (h : Col3 V f) (y : (⟨3, ![1, m, 1]⟩ : Shape).Idx) :
    V y = ((f (y 1 : Fin m).val : ℝ) : EReal) := by
  refine (congrArg V ?_).trans (h (y 1))
  rw [← ix3_eta y, fin1 (y 0 : Fin 1), fin1 (y 2 : Fin 1)]; rfl

theorem Row3.at {n : ℕ} {V : (⟨3, ![1, 1, n]⟩ : Shape).Idx → EReal} {f : ℕ → ℝ} (h : Row3 V f) (y : (⟨3, ![1, 1, n]⟩ : Shape).Idx) :
    V y = ((f (y 2 : Fin n).val : ℝ) : EReal) := by
  refine (congrArg V ?_).trans (h (y 2))
  rw [← ix3_eta y, fin1 (y 0 : Fin 1), fin1 (y 1 : Fin 1)]; rfl

end Cert.Attn

end
-- ==== Proof.BlocksFore.lean ====
/- The first kernel call: the blocks a grid point reads, as one head of the arrays, and its two result arrays at the end. -/
module

public import proofs.«01_k».proof.Proof.FlowFore
public import proofs.«01_k».proof.Proof.Heads
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Finset Cert.Attn

theorem ix0_0 : ∀ t : Fin grid0.N, win0_0.index t 0 = 0 ∧ win0_0.index t 1 = t.val := by decide +kernel
theorem ix0_1 : ∀ t : Fin grid0.N, win0_1.index t 0 = 0 ∧ win0_1.index t 1 = 8 + t.val := by decide +kernel
theorem ix0_2 : ∀ t : Fin grid0.N, win0_2.index t 0 = 0 ∧ win0_2.index t 1 = 16 + t.val := by decide +kernel
theorem ix0_3 : ∀ t : Fin grid0.N, win0_3.index t 0 = t.val ∧ win0_3.index t 1 = 0 ∧ win0_3.index t 2 = 0 := by decide +kernel
theorem ix0_4 : ∀ t : Fin grid0.N, win0_4.index t 0 = t.val ∧ win0_4.index t 1 = 0 ∧ win0_4.index t 2 = 0 := by decide +kernel
theorem ix0_5 : ∀ t : Fin grid0.N, win0_5.index t 0 = 0 ∧ win0_5.index t 1 = 0 := by decide +kernel
theorem ix0_6 : ∀ t : Fin grid0.N, win0_6.index t 0 = 0 ∧ win0_6.index t 1 = 0 := by decide +kernel
theorem ix0_7 : ∀ t : Fin grid0.N, win0_7.index t 0 = 0 ∧ win0_7.index t 1 = t.val := by decide +kernel
theorem ix0_8 : ∀ t : Fin grid0.N, win0_8.index t 0 = t.val ∧ win0_8.index t 1 = 0 ∧ win0_8.index t 2 = 0 := by decide +kernel

section
variable (V : (c : Dev nD) → (b : Ref sig .tc) → Buf (Elt Ideal) ((c : Thread nD τ).loc b)) (c : Dev nD)
variable (P C D : ℕ → ℕ → ℝ) (G K : ℕ → ℝ)

theorem arr0_7 (f : ℕ → ℕ → ℕ → ℝ) (hf : ∀ t : Fin cfg0.N, Mat (m := 2048) (n := 128) (outsAt0 V c t).1 (f t.val)) :
    (dat0 V c).arrAt 7 cfg0.N = fun i => ((f ((i 1 : Fin 1024).val / 128) (i 0 : Fin 2048).val ((i 1 : Fin 1024).val % 128) : ℝ) : EReal) := by
  refine (dat0 V c).arrAt_eq_of_covers 7 _ (by decide +kernel) fun t _ y => ?_
  rw [after0_7]
  refine ((hf t).at y).trans ?_
  have ht : t.val < 8 := t.isLt
  have hy : (y 1 : Fin 128).val < 128 := (y 1 : Fin 128).isLt
  have e0 : ((win0_7.blk t).view.emb y 0 : Fin 2048).val = (y 0 : Fin 2048).val := by blk_simp [(ix0_7 t).1]; try simp
  have e1 : ((win0_7.blk t).view.emb y 1 : Fin 1024).val = 128 * t.val + (y 1 : Fin 128).val := by blk_simp [(ix0_7 t).2]; try simp; try omega
  show _ = ((f (((win0_7.blk t).view.emb y 1 : Fin 1024).val / 128) ((win0_7.blk t).view.emb y 0 : Fin 2048).val (((win0_7.blk t).view.emb y 1 : Fin 1024).val % 128) : ℝ) : EReal)
  rw [e0, e1, show (128 * t.val + (y 1 : Fin 128).val) / 128 = t.val by omega, show (128 * t.val + (y 1 : Fin 128).val) % 128 = (y 1 : Fin 128).val by omega]

theorem arr0_8 (f : ℕ → ℕ → ℝ) (hf : ∀ t : Fin cfg0.N, Col3 (m := 2048) (outsAt0 V c t).2 (f t.val)) :
    (dat0 V c).arrAt 8 cfg0.N = fun i => ((f (i 0 : Fin 8).val (i 1 : Fin 2048).val : ℝ) : EReal) := by
  refine (dat0 V c).arrAt_eq_of_covers 8 _ (by decide +kernel) fun t _ y => ?_
  rw [after0_8]
  refine ((hf t).at y).trans ?_
  have hy : (y 0 : Fin 1).val < 1 := (y 0 : Fin 1).isLt
  have e0 : ((win0_8.blk t).view.emb y 0 : Fin 8).val = t.val := by blk_simp [(ix0_8 t).1]; try simp; try omega
  have e1 : ((win0_8.blk t).view.emb y 1 : Fin 2048).val = (y 1 : Fin 2048).val := by blk_simp [(ix0_8 t).2.1]; try simp
  show _ = ((f ((win0_8.blk t).view.emb y 0 : Fin 8).val ((win0_8.blk t).view.emb y 1 : Fin 2048).val : ℝ) : EReal)
  rw [e0, e1]

variable (h0 : ∀ i : S2048x5120.Idx, (i 1 : Fin 5120).val < 3072 → V c main_arg0 i = ((P (i 0 : Fin 2048).val (i 1 : Fin 5120).val : ℝ) : EReal))
variable (hc : ∀ i : S8x2048x1.Idx, V c main_v2 i = ((C (i 1 : Fin 2048).val (i 0 : Fin 8).val : ℝ) : EReal))
variable (hr : ∀ i : S8x1x2048.Idx, V c main_v3 i = ((C (i 2 : Fin 2048).val (i 0 : Fin 8).val : ℝ) : EReal))
variable (hg : ∀ i : S1x128.Idx, V c main_arg3 i = ((G (i 1 : Fin 128).val : ℝ) : EReal))
variable (hk : ∀ i : S1x128.Idx, V c main_arg4 i = ((K (i 1 : Fin 128).val : ℝ) : EReal))

include h0 hc hr hg hk in
/-- What grid point `t` reads is head `t`. -/
theorem ins0 (t : Fin cfg0.N) : InsF (headOf P C D G K t.val) (iblk0 V c 0 t) (iblk0 V c 1 t) (iblk0 V c 2 t) (iblk0 V c 3 t) (iblk0 V c 4 t) (iblk0 V c 5 t) (iblk0 V c 6 t) where
  m0 := by
    intro r l
    have ht : t.val < 8 := t.isLt
    have hl : l.val < 128 := l.isLt
    have e0 : ((win0_0.blk t).view.emb (ix2 r l) 0).val = r.val := by blk_simp [(ix0_0 t).1]; try simp
    have e1 : ((win0_0.blk t).view.emb (ix2 r l) 1).val = 128 * t.val + l.val := by blk_simp [(ix0_0 t).2]; try simp; try omega
    have h := h0 ((win0_0.blk t).view.emb (ix2 r l)) (by rw [e1]; omega)
    rw [e0, e1] at h
    exact h
  m1 := by
    intro r l
    have ht : t.val < 8 := t.isLt
    have hl : l.val < 128 := l.isLt
    have e0 : ((win0_1.blk t).view.emb (ix2 r l) 0).val = r.val := by blk_simp [(ix0_1 t).1]; try simp
    have e1 : ((win0_1.blk t).view.emb (ix2 r l) 1).val = 1024 + 128 * t.val + l.val := by blk_simp [(ix0_1 t).2]; try simp; try omega
    have h := h0 ((win0_1.blk t).view.emb (ix2 r l)) (by rw [e1]; omega)
    rw [e0, e1] at h
    exact h
  m2 := by
    intro r l
    have ht : t.val < 8 := t.isLt
    have hl : l.val < 128 := l.isLt
    have e0 : ((win0_2.blk t).view.emb (ix2 r l) 0).val = r.val := by blk_simp [(ix0_2 t).1]; try simp
    have e1 : ((win0_2.blk t).view.emb (ix2 r l) 1).val = 2048 + 128 * t.val + l.val := by blk_simp [(ix0_2 t).2]; try simp; try omega
    have h := h0 ((win0_2.blk t).view.emb (ix2 r l)) (by rw [e1]; omega)
    rw [e0, e1] at h
    exact h
  c3 := by
    intro r
    have e0 : ((win0_3.blk t).view.emb (ix3 0 r 0) 0).val = t.val := by blk_simp [(ix0_3 t).1]; try simp
    have e1 : ((win0_3.blk t).view.emb (ix3 0 r 0) 1).val = r.val := by blk_simp [(ix0_3 t).2.1]; try simp
    have h := hc ((win0_3.blk t).view.emb (ix3 0 r 0))
    rw [e0, e1] at h
    exact h
  r4 := by
    intro r
    have e0 : ((win0_4.blk t).view.emb (ix3 0 0 r) 0).val = t.val := by blk_simp [(ix0_4 t).1]; try simp
    have e1 : ((win0_4.blk t).view.emb (ix3 0 0 r) 2).val = r.val := by blk_simp [(ix0_4 t).2.2]; try simp
    have h := hr ((win0_4.blk t).view.emb (ix3 0 0 r))
    rw [e0, e1] at h
    exact h
  g5 := by
    intro r l
    have e1 : ((win0_5.blk t).view.emb (ix2 r l) 1).val = l.val := by blk_simp [(ix0_5 t).2]; try simp
    have h := hg ((win0_5.blk t).view.emb (ix2 r l))
    rw [e1] at h
    exact h
  g6 := by
    intro r l
    have e1 : ((win0_6.blk t).view.emb (ix2 r l) 1).val = l.val := by blk_simp [(ix0_6 t).2]; try simp
    have h := hk ((win0_6.blk t).view.emb (ix2 r l))
    rw [e1] at h
    exact h

include h0 hc hr hg hk in
/-- The weighted means of the values, all heads. -/
theorem arrO : (dat0 V c).arrAt 7 cfg0.N
    = fun i => (((headOf P C D G K ((i 1 : Fin 1024).val / 128)).out (i 0 : Fin 2048).val ((i 1 : Fin 1024).val % 128) : ℝ) : EReal) :=
  arr0_7 V c (fun a => (headOf P C D G K a).out) fun t => by
    have hb := ins0 V c P C D G K h0 hc hr hg hk t
    unfold outsAt0; dsimp only; exact f_out_7 hb

include h0 hc hr hg hk in
/-- The logarithms of the sums of exponentials, all heads. -/
theorem arrL : (dat0 V c).arrAt 8 cfg0.N
    = fun i => (((headOf P C D G K (i 0 : Fin 8).val).lse (i 1 : Fin 2048).val : ℝ) : EReal) :=
  arr0_8 V c (fun a => (headOf P C D G K a).lse) fun t => by
    have hb := ins0 V c P C D G K h0 hc hr hg hk t
    unfold outsAt0; dsimp only; exact f_out_8 hb

end

end Cert.KernelIdeal.Gen

end
-- ==== Proof.BackA.lean ====
/- What the payloads of the backward call hold, the head given: the first five blocks of rows. -/
module

public import proofs.«01_k».proof.Proof.Gen.KernelIdeal.Skeleton
public import proofs.«01_k».proof.Proof.Forms

@[expose] public section

set_option maxRecDepth 16384

noncomputable section

namespace Cert.KernelIdeal.Gen

open Idealize.ShloMosaic Idealize.ShloMosaic.TcCoe Idealize.ShloMosaic.Tactic Finset Cert.Attn

theorem back2 (h : Head) {v0 : Vec Ideal S2048x128 .f32} (hv0 : Mat v0 h.q) :
    Mat (k1_pay2 v0) (fun r _ => rn h.q r) := by
  intro r l
  have hr := r.isLt
  pointwise [k1_pay2]
  simp only [hv0 _ _]
  simp only [word_eps, word_128]; exact rn_form h.q r.val

theorem back3 (h : Head) {v1 : Vec Ideal S2048x128 .f32} (hv1 : Mat v1 h.k) :
    Mat (k1_pay3 v1) (fun r _ => rn h.k r) := by
  intro r l
  have hr := r.isLt
  pointwise [k1_pay3]
  simp only [hv1 _ _]
  simp only [word_eps, word_128]; exact rn_form h.k r.val

theorem back4 (h : Head) {v0 : Vec Ideal S2048x128 .f32} {v20 : Vec Ideal S1x128 .f32} (hv0 : Mat v0 h.q) (hv20 : Mat v20 (fun _ d => h.qg d)) :
    Mat (k1_pay4 v0 v20) h.qs := by
  intro r l
  have hr := r.isLt
  pointwise [k1_pay4]
  simp only [hv0 _ _, hv20 _ _, (back2 h hv0) _ _]
  simp only [word_sc, ← EReal.coe_mul]; rfl

theorem back5 (h : Head) {v1 : Vec Ideal S2048x128 .f32} {v31 : Vec Ideal S1x128 .f32} (hv1 : Mat v1 h.k) (hv31 : Mat v31 (fun _ d => h.kg d)) :
    Mat (k1_pay5 v1 v31) h.kn := by
  intro r l
  have hr := r.isLt
  pointwise [k1_pay5]
  simp only [hv1 _ _, hv31 _ _, (back3 h hv1) _ _]
  simp only [← EReal.coe_mul]; rfl

theorem back6 (h : Head) {v38 : Vec Ideal S2048x128 .f32} (hv38 : Mat v38 h.v) :
    Mat (k1_pay6 v38) h.v := by
  intro r l
  pointwise [k1_pay6]
  exact hv38 _ _

theorem back7 (h : Head) {v43 : Vec Ideal S2048x128 .f32} (hv43 : Mat v43 h.w) :
    Mat (k1_pay7 v43) h.w := by
  intro r l
  pointwise [k1_pay7]
  exact hv43 _ _

theorem back8   :
    Mat (k1_pay8 (F := Ideal)) (fun _ _ => 0) := by
  intro r l
  pointwise [k1_pay8]
  first | rfl | simp

theorem back9   :
    Mat (k1_pay9 (F := Ideal)) (fun _ _ => 0) := by
  intro r l
  pointwise [k1_pay9]
  first | rfl | simp

theorem back10   :
    Row3 (k1_pay10 (F := Ideal)) (fun _ => 0) := by
  intro l
  pointwise [k1_pay10]
  first | rfl | simp

theorem back11 (h : Head) {v58 : Vec Ideal S256x128 .bf16} {v59 : Vec Ideal S256x128 .bf16} {v61 : Vec Ideal S1x256x1 .f32} (hv58 : Mat v58 (fun r d => h.qs r d)) (hv59 : Mat v59 h.kn) (hv61 : Col3 v61 (fun r => h.c r)) :
    Mat (k1_pay11 v58 v59 v61) (fun r j => (∑ d ∈ range 128, h.qs r d * h.kn j d) + h.c r) := by
  intro r l
  have hr := r.isLt
  pointwise [k1_pay11]
  simp only [hv58 _ _, hv59 _ _, hv61 _]
  rw [EReal.coe_add, ← h.s_sum]

theorem back12 (h : Head) {v64 : FVec Ideal S256x256 .f32} {v65 : Vec Ideal S1x1x256 .f32} {v74 : Vec Ideal S1x256x1 .f32} (hv64 : Mat v64 (fun r j => (∑ d ∈ range 128, h.qs r d * h.kn j d) + h.c r)) (hv65 : Row3 v65 h.c) (hv74 : Col3 v74 (fun r => h.lse r)) :
    Mat (k1_pay12 v64 v65 v74) (fun r j => h.p r j) := by
  intro r l
  have hr := r.isLt
  pointwise [k1_pay12]
  simp only [hv64 _ _, hv65 _, hv74 _]
  rw [select_causal_zero (by norm_num) (by norm_num)]
  simpa only [Head.s_sum, EReal.coe_add, EReal.coe_sub] using h.p_form (r.val) l.val

theorem back13 (h : Head) {v64 : FVec Ideal S256x256 .f32} {v65 : Vec Ideal S1x1x256 .f32} {v74 : Vec Ideal S1x256x1 .f32} {v81 : Vec Ideal S256x128 .bf16} {v82 : Vec Ideal S256x128 .bf16} (hv64 : Mat v64 (fun r j => (∑ d ∈ range 128, h.qs r d * h.kn j d) + h.c r)) (hv65 : Row3 v65 h.c) (hv74 : Col3 v74 (fun r => h.lse r)) (hv81 : Mat v81 (fun r d => h.w r d)) (hv82 : Mat v82 h.v) :
    Mat (k1_pay13 v64 v65 v74 v81 v82) (fun r j => h.ds r j) := by
  intro r l
  have hr := r.isLt
  pointwise [k1_pay13]
  simp only [hv64 _ _, hv65 _, hv74 _, hv81 _ _, hv82 _ _, (back12 h hv64 hv65 hv74) _ _]
  simp only [h.dp_form, h.dc_form (n := 256) (r.val) l.val (by omega), h.ds_form]

theorem back14 (h : Head) {v64 : FVec Ideal S256x256 .f32} {v65 : Vec Ideal S1x1x256 .f32} {v74 : Vec Ideal S1x256x1 .f32} {v81 : Vec Ideal S256x128 .bf16} {v82 : Vec Ideal S256x128 .bf16} (hv64 : Mat v64 (fun r j => (∑ d ∈ range 128, h.qs r d * h.kn j d) + h.c r)) (hv65 : Row3 v65 h.c) (hv74 : Col3 v74 (fun r => h.lse r)) (hv81 : Mat v81 (fun r d => h.w r d)) (hv82 : Mat v82 h.v) :
    Col3 (k1_pay14 v64 v65 v74 v81 v82) (fun r => h.rowSum r) := by
  intro r
  have hr := r.isLt
  pointwise [k1_pay14]
  simp only [hv64 _ _, hv65 _, hv74 _, hv81 _ _, hv82 _ _, (back13 h hv64 hv65 hv74 hv81 hv82) _ _]
  exact h.rowSum_form (n := 256) (r.val) (by omega)

theorem back15 (h : Head) {v64 : FVec Ideal S256x256 .f32} {v65 : Vec Ideal S1x1x256 .f32} {v74 : Vec Ideal S1x256x1 .f32} {v81 : Vec Ideal S256x128 .bf16} {v82 : Vec Ideal S256x128 .bf16} {v95 : Vec Ideal S1x1x256 .f32} (hv64 : Mat v64 (fun r j => (∑ d ∈ range 128, h.qs r d * h.kn j d) + h.c r)) (hv65 : Row3 v65 h.c) (hv74 : Col3 v74 (fun r => h.lse r)) (hv81 : Mat v81 (fun r d => h.w r d)) (hv82 : Mat v82 h.v) (hv95 : Row3 v95 (fun j => -h.colSumTo 0 j)) :
    Mat (k1_pay15 v64 v65 v74 v81 v82 v95) (fun _ j => -h.colSumTo 256 j) := by
  intro r l
  have hr := r.isLt
  pointwise [k1_pay15]
  simp only [hv64 _ _, hv65 _, hv74 _, hv81 _ _, hv82 _ _, hv95 _, (back13 h hv64 hv65 hv74 hv81 hv82) _ _]
  simpa only [EReal.coe_neg, Nat.zero_add] using h.colSum_form 0 l.val

theorem back16 (h : Head) {v101 : FVec Ideal S1x256 .f32} (hv101 : Mat v101 (fun _ j => -h.colSumTo 256 j)) :
    Row3 (k1_pay16 v101) (fun j => -h.colSumTo 256 j) := by
  intro l
  pointwise [k1_pay16]
  exact hv101 _ _

theorem back17 (h : Head) {v89 : FVec Ideal S256x256 .f32} (hv89 : Mat v89 (fun r j => h.ds r j)) :
    Mat (k1_pay17 v89) (fun r j => h.ds r j) := by
  intro r l
  pointwise [k1_pay17]
  exact hv89 _ _

theorem back18 (h : Head) {v89 : FVec Ideal S256x256 .f32} {v106 : Vec Ideal S256x128 .bf16} (hv89 : Mat v89 (fun r j => h.ds r j)) (hv106 : Mat v106 h.kn) :
    Mat (k1_pay18 v89 v106) (fun r d => h.dqs r d) := by
  intro r l
  have hr := r.isLt
  pointwise [k1_pay18]
  simp only [hv89 _ _, hv106 _ _, (back17 h hv89) _ _]
  exact h.dqs_form (n := 256) (r.val) l.val (by omega)

theorem back19 (h : Head) {v89 : FVec Ideal S256x256 .f32} {v111 : Vec Ideal S256x128 .f32} {v112 : Vec Ideal S256x128 .bf16} (hv89 : Mat v89 (fun r j => h.ds r j)) (hv111 : Mat v111 (h.dknTo 0)) (hv112 : Mat v112 (fun r d => h.qs r d)) :
    Mat (k1_pay19 v89 v111 v112) (h.dknTo 256) := by
  intro r l
  have hr := r.isLt
  pointwise [k1_pay19]
  simp only [hv89 _ _, hv111 _ _, hv112 _ _, (back17 h hv89) _ _]
  simpa only [Nat.zero_add] using h.dkn_form 0 r.val l.val

theorem back20 (h : Head) {v80 : FVec Ideal S256x256 .f32} {v118 : Vec Ideal S256x128 .f32} {v120 : Vec Ideal S256x128 .bf16} (hv80 : Mat v80 (fun r j => h.p r j)) (hv118 : Mat v118 (h.dvTo 0)) (hv120 : Mat v120 (fun r d => h.w r d)) :
    Mat (k1_pay20 v80 v118 v120) (h.dvTo 256) := by
  intro r l
  have hr := r.isLt
  pointwise [k1_pay20]
  simp only [hv80 _ _, hv118 _ _, hv120 _ _]
  simpa only [Nat.zero_add] using h.dv_form 0 r.val l.val

theorem back21 (h : Head) {v126 : Vec Ideal S256x128 .bf16} {v127 : Vec Ideal S512x128 .bf16} (hv126 : Mat v126 (fun r d => h.qs (256 + r) d)) (hv127 : Mat v127 h.kn) :
    Mat (k1_pay21 v126 v127) (fun r j => ∑ d ∈ range 128, h.qs (256 + r) d * h.kn j d) := by
  intro r l
  have hr := r.isLt
  pointwise [k1_pay21]
  simp only [hv126 _ _, hv127 _ _]
  rw [← h.s_sum]

theorem back22 (h : Head) {v128 : FVec Ideal S256x512 .f32} {v129 : Vec Ideal S1x256x1 .f32} {v133 : Vec Ideal S1x1x512 .f32} {v142 : Vec Ideal S1x256x1 .f32} (hv128 : Mat v128 (fun r j => ∑ d ∈ range 128, h.qs (256 + r) d * h.kn j d)) (hv129 : Col3 v129 (fun r => h.c (256 + r))) (hv133 : Row3 v133 h.c) (hv142 : Col3 v142 (fun r => h.lse (256 + r))) :
    Mat (k1_pay22 v128 v129 v133 v142) (fun r j => h.p (256 + r) j) := by
  intro r l
  have hr := r.isLt
  pointwise [k1_pay22]
  simp only [hv128 _ _, hv129 _, hv133 _, hv142 _]
  rw [select_causal 256 (by norm_num) (by norm_num) (by norm_num)]
  first | simpa only [Head.s_sum, EReal.coe_add, EReal.coe_sub] using h.p_form (256 + r.val) l.val

theorem back23 (h : Head) {v128 : FVec Ideal S256x512 .f32} {v129 : Vec Ideal S1x256x1 .f32} {v133 : Vec Ideal S1x1x512 .f32} {v142 : Vec Ideal S1x256x1 .f32} {v149 : Vec Ideal S256x128 .bf16} {v150 : Vec Ideal S512x128 .bf16} (hv128 : Mat v128 (fun r j => ∑ d ∈ range 128, h.qs (256 + r) d * h.kn j d)) (hv129 : Col3 v129 (fun r => h.c (256 + r))) (hv133 : Row3 v133 h.c) (hv142 : Col3 v142 (fun r => h.lse (256 + r))) (hv149 : Mat v149 (fun r d => h.w (256 + r) d)) (hv150 : Mat v150 h.v) :
    Mat (k1_pay23 v128 v129 v133 v142 v149 v150) (fun r j => h.ds (256 + r) j) := by
  intro r l
  have hr := r.isLt
  pointwise [k1_pay23]
  simp only [hv128 _ _, hv129 _, hv133 _, hv142 _, hv149 _ _, hv150 _ _, (back22 h hv128 hv129 hv133 hv142) _ _]
  simp only [h.dp_form, h.dc_form (n := 512) (256 + r.val) l.val (by omega), h.ds_form]

theorem back24 (h : Head) {v128 : FVec Ideal S256x512 .f32} {v129 : Vec Ideal S1x256x1 .f32} {v133 : Vec Ideal S1x1x512 .f32} {v142 : Vec Ideal S1x256x1 .f32} {v149 : Vec Ideal S256x128 .bf16} {v150 : Vec Ideal S512x128 .bf16} (hv128 : Mat v128 (fun r j => ∑ d ∈ range 128, h.qs (256 + r) d * h.kn j d)) (hv129 : Col3 v129 (fun r => h.c (256 + r))) (hv133 : Row3 v133 h.c) (hv142 : Col3 v142 (fun r => h.lse (256 + r))) (hv149 : Mat v149 (fun r d => h.w (256 + r) d)) (hv150 : Mat v150 h.v) :
    Col3 (k1_pay24 v128 v129 v133 v142 v149 v150) (fun r => h.rowSum (256 + r)) := by
  intro r
  have hr := r.isLt
  pointwise [k1_pay24]
  simp only [hv128 _ _, hv129 _, hv133 _, hv142 _, hv149 _ _, hv150 _ _, (back23 h hv128 hv129 hv133 hv142 hv149 hv150) _ _]
  exact h.rowSum_form (n := 512) (256 + r.val) (by omega)

theorem back25 (h : Head) {v163 : Vec Ideal S1x1x512 .f32} (hv163 : Row3 v163 (fun j => -h.colSumTo 256 j)) :
    Mat (k1_pay25 v163) (fun _ j => -h.colSumTo 256 j) := by
  intro r l
  pointwise [k1_pay25]
  exact hv163 _

theorem back26 (h : Head) {v128 : FVec Ideal S256x512 .f32} {v129 : Vec Ideal S1x256x1 .f32} {v133 : Vec Ideal S1x1x512 .f32} {v142 : Vec Ideal S1x256x1 .f32} {v149 : Vec Ideal S256x128 .bf16} {v150 : Vec Ideal S512x128 .bf16} (hv128 : Mat v128 (fun r j => ∑ d ∈ range 128, h.qs (256 + r) d * h.kn j d)) (hv129 : Col3 v129 (fun r => h.c (256 + r))) (hv133 : Row3 v133 h.c) (hv142 : Col3 v142 (fun r => h.lse (256 + r))) (hv149 : Mat v149 (fun r d => h.w (256 + r) d)) (hv150 : Mat v150 h.v) :
    Lst (k1_pay26 v128 v129 v133 v142 v149 v150) (fun j => ∑ a ∈ range 256, h.ds (256 + a) j) := by
  intro l
  pointwise [k1_pay26]
  simp only [hv128 _ _, hv129 _, hv133 _, hv142 _, hv149 _ _, hv150 _ _, (back23 h hv128 hv129 hv133 hv142 hv149 hv150) _ _]
  rw [← sum_fin]

theorem back27 (h : Head) {v164 : FVec Ideal S1x512 .f32} {v165 : FVec Ideal S512 .f32} (hv164 : Mat v164 (fun _ j => -h.colSumTo 256 j)) (hv165 : Lst v165 (fun j => ∑ a ∈ range 256, h.ds (256 + a) j)) :
    Row3 (k1_pay27 v164 v165) (fun j => -h.colSumTo 512 j) := by
  intro l
  pointwise [k1_pay27]
  simp only [hv164 _ _, hv165 _]
  rw [← sum_fin (fun a => h.ds (256 + a) l.val)]; simpa only [EReal.coe_neg] using h.colSum_form 256 l.val

theorem back28 (h : Head) {v157 : FVec Ideal S256x512 .f32} (hv157 : Mat v157 (fun r j => h.ds (256 + r) j)) :
    Mat (k1_pay28 v157) (fun r j => h.ds (256 + r) j) := by
  intro r l
  pointwise [k1_pay28]
  exact hv157 _ _

theorem back29 (h : Head) {v157 : FVec Ideal S256x512 .f32} {v174 : Vec Ideal S512x128 .bf16} (hv157 : Mat v157 (fun r j => h.ds (256 + r) j)) (hv174 : Mat v174 h.kn) :
    Mat (k1_pay29 v157 v174) (fun r d => h.dqs (256 + r) d) := by
  intro r l
  have hr := r.isLt
  pointwise [k1_pay29]
  simp only [hv157 _ _, hv174 _ _, (back28 h hv157) _ _]
  exact h.dqs_form (n := 512) (256 + r.val) l.val (by omega)

theorem back30 (h : Head) {v157 : FVec Ideal S256x512 .f32} {v179 : Vec Ideal S512x128 .f32} {v180 : Vec Ideal S256x128 .bf16} (hv157 : Mat v157 (fun r j => h.ds (256 + r) j)) (hv179 : Mat v179 (h.dknTo 256)) (hv180 : Mat v180 (fun r d => h.qs (256 + r) d)) :
    Mat (k1_pay30 v157 v179 v180) (h.dknTo 512) := by
  intro r l
  have hr := r.isLt
  pointwise [k1_pay30]
  simp only [hv157 _ _, hv179 _ _, hv180 _ _, (back28 h hv157) _ _]
  exact h.dkn_form 256 r.val l.val

theorem back31 (h : Head) {v148 : FVec Ideal S256x512 .f32} {v186 : Vec Ideal S512x128 .f32} {v188 : Vec Ideal S256x128 .bf16} (hv148 : Mat v148 (fun r j => h.p (256 + r) j)) (hv186 : Mat v186 (h.dvTo 256)) (hv188 : Mat v188 (fun r d => h.w (256 + r) d)) :
    Mat (k1_pay31 v148 v186 v188) (h.dvTo 512) := by
  intro r l
  have hr := r.isLt
  pointwise [k1_pay31]
  simp only [hv148 _ _, hv186 _ _, hv188 _ _]
  exact h.dv_form 256 r.val l.val

theorem back32 (h : Head) {v194 : Vec Ideal S256x128 .bf16} {v195 : Vec Ideal S768x128 .bf16} {v197 : Vec Ideal S1x256x1 .f32} {v201 : Vec Ideal S1x1x768 .f32} {v210 : Vec Ideal S1x256x1 .f32} (hv194 : Mat v194 (fun r d => h.qs (512 + r) d)) (hv195 : Mat v195 h.kn) (hv197 : Col3 v197 (fun r => h.c (512 + r))) (hv201 : Row3 v201 h.c) (hv210 : Col3 v210 (fun r => h.lse (512 + r))) :
    Mat (k1_pay32 v194 v195 v197 v201 v210) (fun r j => h.p (512 + r) j) := by
  intro r l
  have hr := r.isLt
  pointwise [k1_pay32]
  simp only [hv194 _ _, hv195 _ _, hv197 _, hv201 _, hv210 _]
  rw [select_causal 512 (by norm_num) (by norm_num) (by norm_num)]
  first | simpa only [Head.s_sum, EReal.coe_add, EReal.coe_sub] using h.p_form (512 + r.val) l.val

theorem back33 (h : Head) {v194 : Vec Ideal S256x128 .bf16} {v195 : Vec Ideal S768x128 .bf16} {v197 : Vec Ideal S1x256x1 .f32} {v201 : Vec Ideal S1x1x768 .f32} {v210 : Vec Ideal S1x256x1 .f32} {v217 : Vec Ideal S256x128 .bf16} {v218 : Vec Ideal S768x128 .bf16} (hv194 : Mat v194 (fun r d => h.qs (512 + r) d)) (hv195 : Mat v195 h.kn) (hv197 : Col3 v197 (fun r => h.c (512 + r))) (hv201 : Row3 v201 h.c) (hv210 : Col3 v210 (fun r => h.lse (512 + r))) (hv217 : Mat v217 (fun r d => h.w (512 + r) d)) (hv218 : Mat v218 h.v) :
    Mat (k1_pay33 v194 v195 v197 v201 v210 v217 v218) (fun r j => h.ds (512 + r) j) := by
  intro r l
  have hr := r.isLt
  pointwise [k1_pay33]
  simp only [hv194 _ _, hv195 _ _, hv197 _, hv201 _, hv210 _, hv217 _ _, hv218 _ _, (back32 h hv194 hv195 hv197 hv201 hv210) _ _]
  simp only [h.dp_form, h.dc_form (n := 768) (512 + r.val) l.val (by omega), h.ds_form]

theorem back34 (h : Head) {v194 : Vec Ideal S256x128 .bf16} {v195 : Vec Ideal S768x128 .bf16} {v197 : Vec Ideal S1x256x1 .f32} {v201 : Vec Ideal S1x1x768 .f32} {v210 : Vec Ideal S1x256x1 .f32} {v217 : Vec Ideal S256x128 .bf16} {v218 : Vec Ideal S768x128 .bf16} (hv194 : Mat v194 (fun r d => h.qs (512 + r) d)) (hv195 : Mat v195 h.kn) (hv197 : Col3 v197 (fun r => h.c (512 + r))) (hv201 : Row3 v201 h.c) (hv210 : Col3 v210 (fun r => h.lse (512 + r))) (hv217 : Mat v217 (fun r d => h.w (512 + r) d)) (hv218 : Mat v218 h.v) :
    Col3 (k1_pay34 v194 v195 v197 v201 v210 v217 v218) (fun r => h.rowSum (512 + r)) := by
  intro r
  have hr := r.isLt
  pointwise [k1_pay34]
  simp only [hv194 _ _, hv195 _ _, hv197 _, hv201 _, hv210 _, hv217 _ _, hv218 _ _, (back33 h hv194 hv195 hv197 hv201 hv210 hv217 hv218) _ _]
  exact h.rowSum_form (n := 768) (512 + r.val) (by omega)

theorem back35 (h : Head) {v225 : FVec Ideal S256x768 .f32} {v231 : Vec Ideal S1x1x768 .f32} (hv225 : Mat v225 (fun r j => h.ds (512 + r) j)) (hv231 : Row3 v231 (fun j => -h.colSumTo 512 j)) :
    Row3 (k1_pay35 v225 v231) (fun j => -h.colSumTo 768 j) := by
  intro l
  pointwise [k1_pay35]
  simp only [hv225 _ _, hv231 _]
  simpa only [EReal.coe_neg, Nat.zero_add] using h.colSum_form 512 l.val

theorem back36 (h : Head) {v225 : FVec Ideal S256x768 .f32} (hv225 : Mat v225 (fun r j => h.ds (512 + r) j)) :
    Mat (k1_pay36 v225) (fun r j => h.ds (512 + r) j) := by
  intro r l
  pointwise [k1_pay36]
  exact hv225 _ _

theorem back37 (h : Head) {v225 : FVec Ideal S256x768 .f32} {v242 : Vec Ideal S768x128 .bf16} (hv225 : Mat v225 (fun r j => h.ds (512 + r) j)) (hv242 : Mat v242 h.kn) :
    Mat (k1_pay37 v225 v242) (fun r d => h.dqs (512 + r) d) := by
  intro r l
  have hr := r.isLt
  pointwise [k1_pay37]
  simp only [hv225 _ _, hv242 _ _, (back36 h hv225) _ _]
  exact h.dqs_form (n := 768) (512 + r.val) l.val (by omega)

theorem back38 (h : Head) {v225 : FVec Ideal S256x768 .f32} {v247 : Vec Ideal S768x128 .f32} {v248 : Vec Ideal S256x128 .bf16} (hv225 : Mat v225 (fun r j => h.ds (512 + r) j)) (hv247 : Mat v247 (h.dknTo 512)) (hv248 : Mat v248 (fun r d => h.qs (512 + r) d)) :
    Mat (k1_pay38 v225 v247 v248) (h.dknTo 768) := by
  intro r l
  have hr := r.isLt
  pointwise [k1_pay38]
  simp only [hv225 _ _, hv247 _ _, hv248 _ _, (back36 h hv225) _ _]
  exact h.dkn_form 512 r.val l.val

theorem back39 (h : Head) {v216 : FVec Ideal S256x768 .f32} {v254 : Vec Ideal S768x128 .f32} {v256 : Vec Ideal S256x128 .bf16} (hv216 : Mat v216 (fun r j => h.p (512 + r) j)) (hv254 : Mat v254 (h.dvTo 512)) (hv256 : Mat v256 (fun r d => h.w (512 + r) d)) :
    Mat (k1_pay39 v216 v254 v256) (h.dvTo 768) := by
  intro r l
  have hr := r.isLt
  pointwise [k1_pay39]
  simp only [hv216 _ _, hv254 _ _, hv256 _ _]
  exact h.dv_form 512 r.val l.val

theorem back40 (h : Head) {v262 : Vec Ideal S256x128 .bf16} {v263 : Vec Ideal S1024x128 .bf16} {v265 : Vec Ideal S1x256x1 .f32} {v269 : Vec Ideal S1x1x1024 .f32} {v278 : Vec Ideal S1x256x1 .f32} (hv262 : Mat v262 (fun r d => h.qs (768 + r) d)) (hv263 : Mat v263 h.kn) (hv265 : Col3 v265 (fun r => h.c (768 + r))) (hv269 : Row3 v269 h.c) (hv278 : Col3 v278 (fun r => h.lse (768 + r))) :
    Mat (k1_pay40 v262 v263 v265 v269 v278) (fun r j => h.p (768 + r) j) := by
  intro r l
  have hr := r.isLt
  pointwise [k1_pay40]
  simp only [hv262 _ _, hv263 _ _, hv265 _, hv269 _, hv278 _]
  rw [select_causal 768 (by norm_num) (by norm_num) (by norm_num)]
  first | simpa only [Head.s_sum, EReal.coe_add, EReal.coe_sub] using h.p_form (768 + r.val) l.val

theorem back41 (h : Head) {v262 : Vec Ideal S256x128 .bf16} {v263 : Vec Ideal S1024x128 .bf16} {v265 : Vec Ideal S1x256x1 .f32} {v269 : Vec Ideal S1x1x1024 .f32} {v278 : Vec Ideal S1x256x1 .f32} {v285 : Vec Ideal S256x128 .bf16} {v286 : Vec Ideal S1024x128 .bf16} (hv262 : Mat v262 (fun r d => h.qs (768 + r) d)) (hv263 : Mat v263 h.kn) (hv265 : Col3 v265 (fun r => h.c (768 + r))) (hv269 : Row3 v269 h.c) (hv278 : Col3 v278 (fun r => h.lse (768 + r))) (hv285 : Mat v285 (fun r d => h.w (768 + r) d)) (hv286 : Mat v286 h.v) :
    Mat (k1_pay41 v262 v263 v265 v269 v278 v285 v286) (fun r j => h.ds (768 + r) j) := by
  intro r l
  have hr := r.isLt
  pointwise [k1_pay41]
  simp only [hv262 _ _, hv263 _ _, hv265 _, hv269 _, hv278 _, hv285 _ _, hv286 _ _, (back40 h hv262 hv263 hv265 hv269 hv278) _ _]
  simp only [h.dp_form, h.dc_form (n := 1024) (768 + r.val) l.val (by omega), h.ds_form]

theorem back42 (h : Head) {v262 : Vec Ideal S256x128 .bf16} {v263 : Vec Ideal S1024x128 .bf16} {v265 : Vec Ideal S1x256x1 .f32} {v269 : Vec Ideal S1x1x1024 .f32} {v278 : Vec Ideal S1x256x1 .f32} {v285 : Vec Ideal S256x128 .bf16} {v286 : Vec Ideal S1024x128 .bf16} (hv262 : Mat v262 (fun r d => h.qs (768 + r) d)) (hv263 : Mat v263 h.kn) (hv265 : Col3 v265 (fun r => h.c (768 + r))) (hv269 : Row3 v269 h.c) (hv278 : Col3 v278 (fun r => h.lse (768 + r))) (hv285 : Mat v285 (fun r d => h.w (768 + r) d)) (hv286 : Mat v286 h.v) :
    Mat (k1_pay42 v262 v263 v265 v269 v278 v285 v286) (fun r _ => h.rowSum (768 + r)) := by
  intro r l
  have hr := r.isLt
  pointwise [k1_pay42]
  simp only [hv262 _ _, hv263 _ _, hv265 _, hv269 _, hv278 _, hv285 _ _, hv286 _ _, (back41 h hv262 hv263 hv265 hv269 hv278 hv285 hv286) _ _]
  exact h.rowSum_form (n := 1024) (768 + r.val) (by omega)

theorem back43 (h : Head) {v295 : FVec Ideal S256x1 .f32} (hv295 : Mat v295 (fun r _ => h.rowSum (768 + r))) :
    Col3 (k1_pay43 v295) (fun r => h.rowSum (768 + r)) := by
  intro r
  pointwise [k1_pay43]
  exact hv295 _ _

theorem back44 (h : Head) {v293 : FVec Ideal S256x1024 .f32} {v299 : Vec Ideal S1x1x1024 .f32} (hv293 : Mat v293 (fun r j => h.ds (768 + r) j)) (hv299 : Row3 v299 (fun j => -h.colSumTo 768 j)) :
    Row3 (k1_pay44 v293 v299) (fun j => -h.colSumTo 1024 j) := by
  intro l
  pointwise [k1_pay44]
  simp only [hv293 _ _, hv299 _]
  simpa only [EReal.coe_neg, Nat.zero_add] using h.colSum_form 768 l.val

theorem back45 (h : Head) {v293 : FVec Ideal S256x1024 .f32} (hv293 : Mat v293 (fun r j => h.ds (768 + r) j)) :
    Mat (k1_pay45 v293) (fun r j => h.ds (768 + r) j) := by
  intro r l
  pointwise [k1_pay45]
  exact hv293 _ _

theorem back46 (h : Head) {v293 : FVec Ideal S256x1024 .f32} {v310 : Vec Ideal S1024x128 .bf16} (hv293 : Mat v293 (fun r j => h.ds (768 + r) j)) (hv310 : Mat v310 h.kn) :
    Mat (k1_pay46 v293 v310) (fun r d => h.dqs (768 + r) d) := by
  intro r l
  have hr := r.isLt
  pointwise [k1_pay46]
  simp only [hv293 _ _, hv310 _ _, (back45 h hv293) _ _]
  exact h.dqs_form (n := 1024) (768 + r.val) l.val (by omega)

theorem back47 (h : Head) {v293 : FVec Ideal S256x1024 .f32} {v315 : Vec Ideal S1024x128 .f32} {v316 : Vec Ideal S256x128 .bf16} (hv293 : Mat v293 (fun r j => h.ds (768 + r) j)) (hv315 : Mat v315 (h.dknTo 768)) (hv316 : Mat v316 (fun r d => h.qs (768 + r) d)) :
    Mat (k1_pay47 v293 v315 v316) (h.dknTo 1024) := by
  intro r l
  have hr := r.isLt
  pointwise [k1_pay47]
  simp only [hv293 _ _, hv315 _ _, hv316 _ _, (back45 h hv293) _ _]
  exact h.dkn_form 768 r.val l.val

theorem back48 (h : Head) {v284 : FVec Ideal S256x1024 .f32} {v324 : Vec Ideal S256x128 .bf16} (hv284 : Mat v284 (fun r j => h.p (768 + r) j)) (hv324 : Mat v324 (fun r d => h.w (768 + r) d)) :
    Mat (k1_pay48 v284 v324) (fun j d => ∑ a ∈ range 256, h.p (768 + a) j * h.w (768 + a) d) := by
  intro r l
  have hr := r.isLt
  pointwise [k1_pay48]
  simp only [hv284 _ _, hv324 _ _]
  rw [← sum_fin]; simp only [EReal.coe_mul]

theorem back49 (h : Head) {v322 : Vec Ideal S1024x128 .f32} {v325 : FVec Ideal S1024x128 .f32} (hv322 : Mat v322 (h.dvTo 768)) (hv325 : Mat v325 (fun j d => ∑ a ∈ range 256, h.p (768 + a) j * h.w (768 + a) d)) :
    Mat (k1_pay49 v322 v325) (h.dvTo 1024) := by
  intro r l
  have hr := r.isLt
  pointwise [k1_pay49]
  simp only [hv322 _ _, hv325 _ _]
  rw [← sum_fin (fun a => h.p (768 + a) r.val * h.w (768 + a) l.val)]; simp only [EReal.coe_mul]; exact h.dv_form 768 r.val l.val

theorem back50 (h : Head) {v330 : Vec Ideal S256x128 .bf16} {v331 : Vec Ideal S1280x128 .bf16} {v333 : Vec Ideal S1x256x1 .f32} {v337 : Vec Ideal S1x1x1280 .f32} {v346 : Vec Ideal S1x256x1 .f32} (hv330 : Mat v330 (fun r d => h.qs (1024 + r) d)) (hv331 : Mat v331 h.kn) (hv333 : Col3 v333 (fun r => h.c (1024 + r))) (hv337 : Row3 v337 h.c) (hv346 : Col3 v346 (fun r => h.lse (1024 + r))) :
    Mat (k1_pay50 v330 v331 v333 v337 v346) (fun r j => h.p (1024 + r) j) := by
  intro r l
  have hr := r.isLt
  pointwise [k1_pay50]
  simp only [hv330 _ _, hv331 _ _, hv333 _, hv337 _, hv346 _]
  rw [select_causal 1024 (by norm_num) (by norm_num) (by norm_num)]
  first | simpa only [Head.s_sum, EReal.coe_add, EReal.coe_sub] using h.p_form (1024 + r.val) l.val

theorem back51 (h : Head) {v330 : Vec Ideal S256x128 .bf16} {v331 : Vec Ideal S1280x128 .bf16} {v333 : Vec Ideal S1x256x1 .f32} {v337 : Vec Ideal S1x1x1280 .f32} {v346 : Vec Ideal S1x256x1 .f32} {v353 : Vec Ideal S256x128 .bf16} {v354 : Vec Ideal S1280x128 .bf16} (hv330 : Mat v330 (fun r d => h.qs (1024 + r) d)) (hv331 : Mat v331 h.kn) (hv333 : Col3 v333 (fun r => h.c (1024 + r))) (hv337 : Row3 v337 h.c) (hv346 : Col3 v346 (fun r => h.lse (1024 + r))) (hv353 : Mat v353 (fun r d => h.w (1024 + r) d)) (hv354 : Mat v354 h.v) :
    Mat (k1_pay51 v330 v331 v333 v337 v346 v353 v354) (fun r j => h.dc (1024 + r) j) := by
  intro r l
  have hr := r.isLt
  pointwise [k1_pay51]
  simp only [hv330 _ _, hv331 _ _, hv333 _, hv337 _, hv346 _, hv353 _ _, hv354 _ _, (back50 h hv330 hv331 hv333 hv337 hv346) _ _]
  simp only [h.dp_form, h.dc_form (n := 1280) (1024 + r.val) l.val (by omega)]

theorem back52 (h : Head) {v352 : FVec Ideal S256x1280 .f32} {v360 : FVec Ideal S256x1280 .f32} (hv352 : Mat v352 (fun r j => h.p (1024 + r) j)) (hv360 : Mat v360 (fun r j => h.dc (1024 + r) j)) :
    Mat (k1_pay52 v352 v360) (fun r j => h.ds (1024 + r) j) := by
  intro r l
  have hr := r.isLt
  pointwise [k1_pay52]
  simp only [hv352 _ _, hv360 _ _]
  simp only [h.dp_form, h.dc_form (n := 1280) (1024 + r.val) l.val (by omega), h.ds_form]

theorem back53 (h : Head) {v352 : FVec Ideal S256x1280 .f32} {v360 : FVec Ideal S256x1280 .f32} (hv352 : Mat v352 (fun r j => h.p (1024 + r) j)) (hv360 : Mat v360 (fun r j => h.dc (1024 + r) j)) :
    Col3 (k1_pay53 v352 v360) (fun r => h.rowSum (1024 + r)) := by
  intro r
  have hr := r.isLt
  pointwise [k1_pay53]
  simp only [hv352 _ _, hv360 _ _, (back52 h hv352 hv360) _ _]
  exact h.rowSum_form (n := 1280) (1024 + r.val) (by omega)

theorem back54 (h : Head) {v352 : FVec Ideal S256x1280 .f32} {v360 : FVec Ideal S256x1280 .f32} {v367 : Vec Ideal S1x1x1280 .f32} (hv352 : Mat v352 (fun r j => h.p (1024 + r) j)) (hv360 : Mat v360 (fun r j => h.dc (1024 + r) j)) (hv367 : Row3 v367 (fun j => -h.colSumTo 1024 j)) :
    Row3 (k1_pay54 v352 v360 v367) (fun j => -h.colSumTo 1280 j) := by
  intro l
  pointwise [k1_pay54]
  simp only [hv352 _ _, hv360 _ _, hv367 _, (back52 h hv352 hv360) _ _]
  simpa only [EReal.coe_neg, Nat.zero_add] using h.colSum_form 1024 l.val

theorem back55 (h : Head) {v352 : FVec Ideal S256x1280 .f32} {v360 : FVec Ideal S256x1280 .f32} (hv352 : Mat v352 (fun r j => h.p (1024 + r) j)) (hv360 : Mat v360 (fun r j => h.dc (1024 + r) j)) :
    Mat (k1_pay55 v352 v360) (fun r j => h.ds (1024 + r) j) := by
  intro r l
  pointwise [k1_pay55]
  exact (back52 h hv352 hv360) _ _

theorem back56 (h : Head) {v352 : FVec Ideal S256x1280 .f32} {v360 : FVec Ideal S256x1280 .f32} {v378 : Vec Ideal S1280x128 .bf16} (hv352 : Mat v352 (fun r j => h.p (1024 + r) j)) (hv360 : Mat v360 (fun r j => h.dc (1024 + r) j)) (hv378 : Mat v378 h.kn) :
    Mat (k1_pay56 v352 v360 v378) (fun r d => h.dqs (1024 + r) d) := by
  intro r l
  have hr := r.isLt
  pointwise [k1_pay56]
  simp only [hv352 _ _, hv360 _ _, hv378 _ _, (back55 h hv352 hv360) _ _]
  exact h.dqs_form (n := 1280) (1024 + r.val) l.val (by omega)

theorem back57 (h : Head) {v352 : FVec Ideal S256x1280 .f32} {v360 : FVec Ideal S256x1280 .f32} {v383 : Vec Ideal S1280x128 .f32} {v384 : Vec Ideal S256x128 .bf16} (hv352 : Mat v352 (fun r j => h.p (1024 + r) j)) (hv360 : Mat v360 (fun r j => h.dc (1024 + r) j)) (hv383 : Mat v383 (h.dknTo 1024)) (hv384 : Mat v384 (fun r d => h.qs (1024 + r) d)) :
    Mat (k1_pay57 v352 v360 v383 v384) (h.dknTo 1280) := by
  intro r l
  have hr := r.isLt
  pointwise [k1_pay57]
  simp only [hv352 _ _, hv360 _ _, hv383 _ _, hv384 _ _, (back55 h hv352 hv360) _ _]
  exact h.dkn_form 1024 r.val l.val

theorem back58 (h : Head) {v352 : FVec Ideal S256x1280 .f32} {v390 : Vec Ideal S1280x128 .f32} {v392 : Vec Ideal S256x128 .bf16} (hv352 : Mat v352 (fun r j => h.p (1024 + r) j)) (hv390 : Mat v390 (h.dvTo 1024)) (hv392 : Mat v392 (fun r d => h.w (1024 + r) d)) :
    Mat (k1_pay58 v352 v390 v392) (h.dvTo 1280) := by
  intro r l
  have hr := r.isLt
  pointwise [k1_pay58]
  simp only [hv352 _ _, hv390 _ _, hv392 _ _]
  exact h.dv_form 1024 r.val l.val

end Cert.KernelIdeal.Gen

end
-- ==== Proof.BackB.lean ====
/- What the payloads of the backward call hold, the head given: the last three blocks of rows and the results. -/
module

public import proofs.«01_k».proof.Proof.BackA

@[expose] public section

set_option maxRecDepth 16384

noncomputable section

namespace Cert.KernelIdeal.Gen

open Idealize.ShloMosaic Idealize.ShloMosaic.TcCoe Idealize.ShloMosaic.Tactic Finset Cert.Attn

theorem back59 (h : Head) {v398 : Vec Ideal S256x128 .bf16} {v399 : Vec Ideal S1536x128 .bf16} {v401 : Vec Ideal S1x256x1 .f32} {v405 : Vec Ideal S1x1x1536 .f32} {v414 : Vec Ideal S1x256x1 .f32} (hv398 : Mat v398 (fun r d => h.qs (1280 + r) d)) (hv399 : Mat v399 h.kn) (hv401 : Col3 v401 (fun r => h.c (1280 + r))) (hv405 : Row3 v405 h.c) (hv414 : Col3 v414 (fun r => h.lse (1280 + r))) :
    Mat (k1_pay59 v398 v399 v401 v405 v414) (fun r j => h.p (1280 + r) j) := by
  intro r l
  have hr := r.isLt
  pointwise [k1_pay59]
  simp only [hv398 _ _, hv399 _ _, hv401 _, hv405 _, hv414 _]
  rw [select_causal 1280 (by norm_num) (by norm_num) (by norm_num)]
  first | simpa only [Head.s_sum, EReal.coe_add, EReal.coe_sub] using h.p_form (1280 + r.val) l.val

theorem back60 (h : Head) {v421 : Vec Ideal S256x128 .bf16} {v422 : Vec Ideal S1536x128 .bf16} (hv421 : Mat v421 (fun r d => h.w (1280 + r) d)) (hv422 : Mat v422 h.v) :
    Mat (k1_pay60 v421 v422) (fun r j => h.dp (1280 + r) j) := by
  intro r l
  have hr := r.isLt
  pointwise [k1_pay60]
  simp only [hv421 _ _, hv422 _ _]
  exact h.dp_form _ _

theorem back61 (h : Head) {v420 : FVec Ideal S256x1536 .f32} {v423 : FVec Ideal S256x1536 .f32} (hv420 : Mat v420 (fun r j => h.p (1280 + r) j)) (hv423 : Mat v423 (fun r j => h.dp (1280 + r) j)) :
    Mat (k1_pay61 v420 v423) (fun r j => h.ds (1280 + r) j) := by
  intro r l
  have hr := r.isLt
  pointwise [k1_pay61]
  simp only [hv420 _ _, hv423 _ _]
  simp only [h.dp_form, h.dc_form (n := 1536) (1280 + r.val) l.val (by omega), h.ds_form]

theorem back62 (h : Head) {v420 : FVec Ideal S256x1536 .f32} {v423 : FVec Ideal S256x1536 .f32} (hv420 : Mat v420 (fun r j => h.p (1280 + r) j)) (hv423 : Mat v423 (fun r j => h.dp (1280 + r) j)) :
    Col3 (k1_pay62 v420 v423) (fun r => h.rowSum (1280 + r)) := by
  intro r
  have hr := r.isLt
  pointwise [k1_pay62]
  simp only [hv420 _ _, hv423 _ _, (back61 h hv420 hv423) _ _]
  exact h.rowSum_form (n := 1536) (1280 + r.val) (by omega)

theorem back63 (h : Head) {v420 : FVec Ideal S256x1536 .f32} {v423 : FVec Ideal S256x1536 .f32} {v435 : Vec Ideal S1x1x1536 .f32} (hv420 : Mat v420 (fun r j => h.p (1280 + r) j)) (hv423 : Mat v423 (fun r j => h.dp (1280 + r) j)) (hv435 : Row3 v435 (fun j => -h.colSumTo 1280 j)) :
    Row3 (k1_pay63 v420 v423 v435) (fun j => -h.colSumTo 1536 j) := by
  intro l
  pointwise [k1_pay63]
  simp only [hv420 _ _, hv423 _ _, hv435 _, (back61 h hv420 hv423) _ _]
  simpa only [EReal.coe_neg, Nat.zero_add] using h.colSum_form 1280 l.val

theorem back64 (h : Head) {v420 : FVec Ideal S256x1536 .f32} {v423 : FVec Ideal S256x1536 .f32} (hv420 : Mat v420 (fun r j => h.p (1280 + r) j)) (hv423 : Mat v423 (fun r j => h.dp (1280 + r) j)) :
    Mat (k1_pay64 v420 v423) (fun r j => h.ds (1280 + r) j) := by
  intro r l
  pointwise [k1_pay64]
  exact (back61 h hv420 hv423) _ _

theorem back65 (h : Head) {v420 : FVec Ideal S256x1536 .f32} {v423 : FVec Ideal S256x1536 .f32} {v446 : Vec Ideal S1536x128 .bf16} (hv420 : Mat v420 (fun r j => h.p (1280 + r) j)) (hv423 : Mat v423 (fun r j => h.dp (1280 + r) j)) (hv446 : Mat v446 h.kn) :
    Mat (k1_pay65 v420 v423 v446) (fun r d => h.dqs (1280 + r) d) := by
  intro r l
  have hr := r.isLt
  pointwise [k1_pay65]
  simp only [hv420 _ _, hv423 _ _, hv446 _ _, (back64 h hv420 hv423) _ _]
  exact h.dqs_form (n := 1536) (1280 + r.val) l.val (by omega)

theorem back66 (h : Head) {v420 : FVec Ideal S256x1536 .f32} {v423 : FVec Ideal S256x1536 .f32} {v451 : Vec Ideal S1536x128 .f32} {v452 : Vec Ideal S256x128 .bf16} (hv420 : Mat v420 (fun r j => h.p (1280 + r) j)) (hv423 : Mat v423 (fun r j => h.dp (1280 + r) j)) (hv451 : Mat v451 (h.dknTo 1280)) (hv452 : Mat v452 (fun r d => h.qs (1280 + r) d)) :
    Mat (k1_pay66 v420 v423 v451 v452) (h.dknTo 1536) := by
  intro r l
  have hr := r.isLt
  pointwise [k1_pay66]
  simp only [hv420 _ _, hv423 _ _, hv451 _ _, hv452 _ _, (back64 h hv420 hv423) _ _]
  exact h.dkn_form 1280 r.val l.val

theorem back67 (h : Head) {v454 : FVec Ideal S1536x128 .f32} (hv454 : Mat v454 (h.dknTo 1536)) :
    Mat (k1_pay67 v454) (h.dknTo 1536) := by
  intro r l
  pointwise [k1_pay67]
  exact hv454 _ _

theorem back68 (h : Head) {v420 : FVec Ideal S256x1536 .f32} {v458 : Vec Ideal S1536x128 .f32} {v460 : Vec Ideal S256x128 .bf16} (hv420 : Mat v420 (fun r j => h.p (1280 + r) j)) (hv458 : Mat v458 (h.dvTo 1280)) (hv460 : Mat v460 (fun r d => h.w (1280 + r) d)) :
    Mat (k1_pay68 v420 v458 v460) (h.dvTo 1536) := by
  intro r l
  have hr := r.isLt
  pointwise [k1_pay68]
  simp only [hv420 _ _, hv458 _ _, hv460 _ _]
  exact h.dv_form 1280 r.val l.val

theorem back69 (h : Head) {v466 : Vec Ideal S256x128 .bf16} {v467 : Vec Ideal S1792x128 .bf16} {v469 : Vec Ideal S1x256x1 .f32} {v473 : Vec Ideal S1x1x1792 .f32} {v482 : Vec Ideal S1x256x1 .f32} (hv466 : Mat v466 (fun r d => h.qs (1536 + r) d)) (hv467 : Mat v467 h.kn) (hv469 : Col3 v469 (fun r => h.c (1536 + r))) (hv473 : Row3 v473 h.c) (hv482 : Col3 v482 (fun r => h.lse (1536 + r))) :
    Mat (k1_pay69 v466 v467 v469 v473 v482) (fun r j => h.p (1536 + r) j) := by
  intro r l
  have hr := r.isLt
  pointwise [k1_pay69]
  simp only [hv466 _ _, hv467 _ _, hv469 _, hv473 _, hv482 _]
  rw [select_causal 1536 (by norm_num) (by norm_num) (by norm_num)]
  first | simpa only [Head.s_sum, EReal.coe_add, EReal.coe_sub] using h.p_form (1536 + r.val) l.val

theorem back70 (h : Head) {v488 : FVec Ideal S256x1792 .f32} {v489 : Vec Ideal S256x128 .bf16} {v490 : Vec Ideal S1792x128 .bf16} (hv488 : Mat v488 (fun r j => h.p (1536 + r) j)) (hv489 : Mat v489 (fun r d => h.w (1536 + r) d)) (hv490 : Mat v490 h.v) :
    Mat (k1_pay70 v488 v489 v490) (fun r j => h.ds (1536 + r) j) := by
  intro r l
  have hr := r.isLt
  pointwise [k1_pay70]
  simp only [hv488 _ _, hv489 _ _, hv490 _ _]
  simp only [h.dp_form, h.dc_form (n := 1792) (1536 + r.val) l.val (by omega), h.ds_form]

theorem back71 (h : Head) {v488 : FVec Ideal S256x1792 .f32} {v489 : Vec Ideal S256x128 .bf16} {v490 : Vec Ideal S1792x128 .bf16} (hv488 : Mat v488 (fun r j => h.p (1536 + r) j)) (hv489 : Mat v489 (fun r d => h.w (1536 + r) d)) (hv490 : Mat v490 h.v) :
    Col3 (k1_pay71 v488 v489 v490) (fun r => h.rowSum (1536 + r)) := by
  intro r
  have hr := r.isLt
  pointwise [k1_pay71]
  simp only [hv488 _ _, hv489 _ _, hv490 _ _, (back70 h hv488 hv489 hv490) _ _]
  exact h.rowSum_form (n := 1792) (1536 + r.val) (by omega)

theorem back72 (h : Head) {v488 : FVec Ideal S256x1792 .f32} {v489 : Vec Ideal S256x128 .bf16} {v490 : Vec Ideal S1792x128 .bf16} {v503 : Vec Ideal S1x1x1792 .f32} (hv488 : Mat v488 (fun r j => h.p (1536 + r) j)) (hv489 : Mat v489 (fun r d => h.w (1536 + r) d)) (hv490 : Mat v490 h.v) (hv503 : Row3 v503 (fun j => -h.colSumTo 1536 j)) :
    Row3 (k1_pay72 v488 v489 v490 v503) (fun j => -h.colSumTo 1792 j) := by
  intro l
  pointwise [k1_pay72]
  simp only [hv488 _ _, hv489 _ _, hv490 _ _, hv503 _, (back70 h hv488 hv489 hv490) _ _]
  simpa only [EReal.coe_neg, Nat.zero_add] using h.colSum_form 1536 l.val

theorem back73 (h : Head) {v488 : FVec Ideal S256x1792 .f32} {v489 : Vec Ideal S256x128 .bf16} {v490 : Vec Ideal S1792x128 .bf16} (hv488 : Mat v488 (fun r j => h.p (1536 + r) j)) (hv489 : Mat v489 (fun r d => h.w (1536 + r) d)) (hv490 : Mat v490 h.v) :
    Mat (k1_pay73 v488 v489 v490) (fun r j => h.ds (1536 + r) j) := by
  intro r l
  pointwise [k1_pay73]
  exact (back70 h hv488 hv489 hv490) _ _

theorem back74 (h : Head) {v488 : FVec Ideal S256x1792 .f32} {v489 : Vec Ideal S256x128 .bf16} {v490 : Vec Ideal S1792x128 .bf16} {v514 : Vec Ideal S1792x128 .bf16} (hv488 : Mat v488 (fun r j => h.p (1536 + r) j)) (hv489 : Mat v489 (fun r d => h.w (1536 + r) d)) (hv490 : Mat v490 h.v) (hv514 : Mat v514 h.kn) :
    Mat (k1_pay74 v488 v489 v490 v514) (fun r d => h.dqs (1536 + r) d) := by
  intro r l
  have hr := r.isLt
  pointwise [k1_pay74]
  simp only [hv488 _ _, hv489 _ _, hv490 _ _, hv514 _ _, (back73 h hv488 hv489 hv490) _ _]
  exact h.dqs_form (n := 1792) (1536 + r.val) l.val (by omega)

theorem back75 (h : Head) {v513 : FVec Ideal S256x1792 .bf16} {v519 : Vec Ideal S1792x128 .f32} {v520 : Vec Ideal S256x128 .bf16} (hv513 : Mat v513 (fun r j => h.ds (1536 + r) j)) (hv519 : Mat v519 (h.dknTo 1536)) (hv520 : Mat v520 (fun r d => h.qs (1536 + r) d)) :
    Mat (k1_pay75 v513 v519 v520) (h.dknTo 1792) := by
  intro r l
  have hr := r.isLt
  pointwise [k1_pay75]
  simp only [hv513 _ _, hv519 _ _, hv520 _ _]
  exact h.dkn_form 1536 r.val l.val

theorem back76 (h : Head) {v488 : FVec Ideal S256x1792 .f32} {v526 : Vec Ideal S1792x128 .f32} {v528 : Vec Ideal S256x128 .bf16} (hv488 : Mat v488 (fun r j => h.p (1536 + r) j)) (hv526 : Mat v526 (h.dvTo 1536)) (hv528 : Mat v528 (fun r d => h.w (1536 + r) d)) :
    Mat (k1_pay76 v488 v526 v528) (h.dvTo 1792) := by
  intro r l
  have hr := r.isLt
  pointwise [k1_pay76]
  simp only [hv488 _ _, hv526 _ _, hv528 _ _]
  exact h.dv_form 1536 r.val l.val

theorem back78 (h : Head) {v534 : Vec Ideal S256x128 .bf16} {v535 : Vec Ideal S2048x128 .bf16} {v537 : Vec Ideal S1x256x1 .f32} {v541 : Vec Ideal S1x1x2048 .f32} {v550 : Vec Ideal S1x256x1 .f32} (hv534 : Mat v534 (fun r d => h.qs (1792 + r) d)) (hv535 : Mat v535 h.kn) (hv537 : Col3 v537 (fun r => h.c (1792 + r))) (hv541 : Row3 v541 h.c) (hv550 : Col3 v550 (fun r => h.lse (1792 + r))) :
    Mat (k1_pay78 v534 v535 v537 v541 v550) (fun r j => h.s (1792 + r) j - h.lse (1792 + r)) := by
  intro r l
  have hr := r.isLt
  pointwise [k1_pay78]
  simp only [hv534 _ _, hv535 _ _, hv537 _, hv541 _, hv550 _]
  rw [h.s_sum, Head.s]; norm_cast

theorem back79 (h : Head) {v549 : IVec S256x2048 1} {v553 : FVec Ideal S256x2048 .f32} (hv549 : v549 = k1_pay77) (hv553 : Mat v553 (fun r j => h.s (1792 + r) j - h.lse (1792 + r))) :
    Mat (k1_pay79 v549 v553) (fun r j => h.p (1792 + r) j) := by
  subst hv549
  intro r l
  have hr := r.isLt
  pointwise [k1_pay79, k1_pay77]
  simp only [hv553 _ _]
  rw [select_causal 1792 (by norm_num) (by norm_num) (by norm_num)]
  simpa only [Head.s, EReal.coe_add, EReal.coe_sub] using h.p_form (1792 + r.val) l.val

theorem back80 (h : Head) {v549 : IVec S256x2048 1} {v553 : FVec Ideal S256x2048 .f32} {v557 : Vec Ideal S256x128 .bf16} {v558 : Vec Ideal S2048x128 .bf16} (hv549 : v549 = k1_pay77) (hv553 : Mat v553 (fun r j => h.s (1792 + r) j - h.lse (1792 + r))) (hv557 : Mat v557 (fun r d => h.w (1792 + r) d)) (hv558 : Mat v558 h.v) :
    Mat (k1_pay80 v549 v553 v557 v558) (fun r j => h.ds (1792 + r) j) := by
  subst hv549
  intro r l
  have hr := r.isLt
  pointwise [k1_pay80]
  simp only [hv553 _ _, hv557 _ _, hv558 _ _, (back79 h rfl hv553) _ _]
  simp only [h.dp_form, h.dc_form (n := 2048) (1792 + r.val) l.val (by omega), h.ds_form]

theorem back81 (h : Head) {v549 : IVec S256x2048 1} {v553 : FVec Ideal S256x2048 .f32} {v557 : Vec Ideal S256x128 .bf16} {v558 : Vec Ideal S2048x128 .bf16} (hv549 : v549 = k1_pay77) (hv553 : Mat v553 (fun r j => h.s (1792 + r) j - h.lse (1792 + r))) (hv557 : Mat v557 (fun r d => h.w (1792 + r) d)) (hv558 : Mat v558 h.v) :
    Col3 (k1_pay81 v549 v553 v557 v558) (fun r => h.rowSum (1792 + r)) := by
  subst hv549
  intro r
  have hr := r.isLt
  pointwise [k1_pay81]
  simp only [hv553 _ _, hv557 _ _, hv558 _ _, (back80 h rfl hv553 hv557 hv558) _ _]
  exact h.rowSum_form (n := 2048) (1792 + r.val) (by omega)

theorem back82 (h : Head) {v549 : IVec S256x2048 1} {v553 : FVec Ideal S256x2048 .f32} {v557 : Vec Ideal S256x128 .bf16} {v558 : Vec Ideal S2048x128 .bf16} {v571 : Vec Ideal S1x1x2048 .f32} (hv549 : v549 = k1_pay77) (hv553 : Mat v553 (fun r j => h.s (1792 + r) j - h.lse (1792 + r))) (hv557 : Mat v557 (fun r d => h.w (1792 + r) d)) (hv558 : Mat v558 h.v) (hv571 : Row3 v571 (fun j => -h.colSumTo 1792 j)) :
    Row3 (k1_pay82 v549 v553 v557 v558 v571) (fun j => -h.colSumTo 2048 j) := by
  subst hv549
  intro l
  pointwise [k1_pay82]
  simp only [hv553 _ _, hv557 _ _, hv558 _ _, hv571 _, (back80 h rfl hv553 hv557 hv558) _ _]
  simpa only [EReal.coe_neg, Nat.zero_add] using h.colSum_form 1792 l.val

theorem back83 (h : Head) {v549 : IVec S256x2048 1} {v553 : FVec Ideal S256x2048 .f32} {v557 : Vec Ideal S256x128 .bf16} {v558 : Vec Ideal S2048x128 .bf16} (hv549 : v549 = k1_pay77) (hv553 : Mat v553 (fun r j => h.s (1792 + r) j - h.lse (1792 + r))) (hv557 : Mat v557 (fun r d => h.w (1792 + r) d)) (hv558 : Mat v558 h.v) :
    Mat (k1_pay83 v549 v553 v557 v558) (fun r j => h.ds (1792 + r) j) := by
  subst hv549
  intro r l
  pointwise [k1_pay83]
  exact (back80 h rfl hv553 hv557 hv558) _ _

theorem back84 (h : Head) {v549 : IVec S256x2048 1} {v553 : FVec Ideal S256x2048 .f32} {v557 : Vec Ideal S256x128 .bf16} {v558 : Vec Ideal S2048x128 .bf16} {v582 : Vec Ideal S2048x128 .bf16} (hv549 : v549 = k1_pay77) (hv553 : Mat v553 (fun r j => h.s (1792 + r) j - h.lse (1792 + r))) (hv557 : Mat v557 (fun r d => h.w (1792 + r) d)) (hv558 : Mat v558 h.v) (hv582 : Mat v582 h.kn) :
    Mat (k1_pay84 v549 v553 v557 v558 v582) (fun r d => h.dqs (1792 + r) d) := by
  subst hv549
  intro r l
  have hr := r.isLt
  pointwise [k1_pay84]
  simp only [hv553 _ _, hv557 _ _, hv558 _ _, hv582 _ _, (back83 h rfl hv553 hv557 hv558) _ _]
  exact h.dqs_form (n := 2048) (1792 + r.val) l.val (by omega)

theorem back85 (h : Head) {v581 : FVec Ideal S256x2048 .bf16} {v587 : Vec Ideal S2048x128 .f32} {v588 : Vec Ideal S256x128 .bf16} (hv581 : Mat v581 (fun r j => h.ds (1792 + r) j)) (hv587 : Mat v587 (h.dknTo 1792)) (hv588 : Mat v588 (fun r d => h.qs (1792 + r) d)) :
    Mat (k1_pay85 v581 v587 v588) (h.dknTo 2048) := by
  intro r l
  have hr := r.isLt
  pointwise [k1_pay85]
  simp only [hv581 _ _, hv587 _ _, hv588 _ _]
  exact h.dkn_form 1792 r.val l.val

theorem back86 (h : Head) {v556 : FVec Ideal S256x2048 .f32} {v594 : Vec Ideal S2048x128 .f32} {v596 : Vec Ideal S256x128 .bf16} (hv556 : Mat v556 (fun r j => h.p (1792 + r) j)) (hv594 : Mat v594 (h.dvTo 1792)) (hv596 : Mat v596 (fun r d => h.w (1792 + r) d)) :
    Mat (k1_pay86 v556 v594 v596) (h.dvTo 2048) := by
  intro r l
  have hr := r.isLt
  pointwise [k1_pay86]
  simp only [hv556 _ _, hv594 _ _, hv596 _ _]
  exact h.dv_form 1792 r.val l.val

theorem back87 (h : Head) {v602 : Vec Ideal S2048x128 .f32} (hv602 : Mat v602 (h.dvTo 2048)) :
    Mat (k1_pay87 v602) (h.dvTo 2048) := by
  intro r l
  pointwise [k1_pay87]
  exact hv602 _ _

theorem back88   :
    Mat (k1_pay88 (F := Ideal)) (fun _ _ => 0) := by
  intro r l
  pointwise [k1_pay88]
  first | rfl | simp

theorem back89   :
    Mat (k1_pay89 (F := Ideal)) (fun _ _ => 0) := by
  intro r l
  pointwise [k1_pay89]
  first | rfl | simp

theorem back90 (h : Head) {v0 : Vec Ideal S2048x128 .f32} {v9 : FVec Ideal S2048x1 .f32} (hv0 : Mat v0 h.q) (hv9 : Mat v9 (fun r _ => rn h.q r)) :
    Mat (k1_pay90 v0 v9) (fun r d => h.q r d * rn h.q r) := by
  intro r l
  have hr := r.isLt
  pointwise [k1_pay90]
  simp only [hv0 _ _, hv9 _ _]
  exact (EReal.coe_mul _ _).symm

theorem back91 (h : Head) {v610 : Vec Ideal S2048x128 .f32} (hv610 : Mat v610 h.dqs) :
    Mat (k1_pay91 v610) h.gq := by
  intro r l
  have hr := r.isLt
  pointwise [k1_pay91]
  simp only [hv610 _ _]
  simp only [word_sc, ← EReal.coe_mul]; rfl

theorem back92 (u : ℕ → ℝ) {v613 : Vec Ideal S1x128 .f32} (hv613 : Mat v613 (fun _ d => u d)) :
    Mat (k1_pay92 v613) (fun _ d => u d) := by
  intro r l
  pointwise [k1_pay92]
  exact hv613 _ _

theorem back93 (h : Head) {v0 : Vec Ideal S2048x128 .f32} {v9 : FVec Ideal S2048x1 .f32} {v610 : Vec Ideal S2048x128 .f32} (hv0 : Mat v0 h.q) (hv9 : Mat v9 (fun r _ => rn h.q r)) (hv610 : Mat v610 h.dqs) :
    Lst (k1_pay93 v0 v9 v610) h.outQg := by
  intro l
  pointwise [k1_pay93]
  simp only [hv0 _ _, hv9 _ _, hv610 _ _, (back91 h hv610) _ _, (back90 h hv0 hv9) _ _]
  rw [Head.outQg, ← sum_fin]; simp only [EReal.coe_mul]

theorem back94 (h : Head) (u : ℕ → ℝ) {v614 : FVec Ideal S1x128 .f32} {v616 : FVec Ideal S128 .f32} (hv614 : Mat v614 (fun _ d => u d)) (hv616 : Lst v616 h.outQg) :
    Mat (k1_pay94 v614 v616) (fun _ d => u d + h.outQg d) := by
  intro r l
  have hr := r.isLt
  pointwise [k1_pay94]
  simp only [hv614 _ _, hv616 _]
  exact (EReal.coe_add _ _).symm

theorem back95 (h : Head) {v9 : FVec Ideal S2048x1 .f32} {v609 : FVec Ideal S2048x128 .f32} {v612 : FVec Ideal S2048x128 .f32} {v620 : Vec Ideal S1x128 .f32} (hv9 : Mat v9 (fun r _ => rn h.q r)) (hv609 : Mat v609 (fun r d => h.q r d * rn h.q r)) (hv612 : Mat v612 h.gq) (hv620 : Mat v620 (fun _ d => h.qg d)) :
    Mat (k1_pay95 v9 v609 v612 v620) h.outQ := by
  intro r l
  have hr := r.isLt
  pointwise [k1_pay95]
  simp only [hv9 _ _, hv609 _ _, hv612 _ _, hv620 _ _]
  simp only [word_128, ← EReal.coe_mul, sum_fin (fun e => h.gq r.val e * h.qg e * (h.q r.val e * rn h.q r.val)), div_128, ← EReal.coe_sub]; rfl

theorem back96 (h : Head) {v1 : Vec Ideal S2048x128 .f32} {v17 : FVec Ideal S2048x1 .f32} (hv1 : Mat v1 h.k) (hv17 : Mat v17 (fun r _ => rn h.k r)) :
    Mat (k1_pay96 v1 v17) (fun r d => h.k r d * rn h.k r) := by
  intro r l
  have hr := r.isLt
  pointwise [k1_pay96]
  simp only [hv1 _ _, hv17 _ _]
  exact (EReal.coe_mul _ _).symm

theorem back97 (h : Head) (u : ℕ → ℝ) {v1 : Vec Ideal S2048x128 .f32} {v17 : FVec Ideal S2048x1 .f32} {v637 : Vec Ideal S2048x128 .f32} {v638 : Vec Ideal S1x128 .f32} (hv1 : Mat v1 h.k) (hv17 : Mat v17 (fun r _ => rn h.k r)) (hv637 : Mat v637 (h.dknTo 2048)) (hv638 : Mat v638 (fun _ d => u d)) :
    Mat (k1_pay97 v1 v17 v637 v638) (fun _ d => u d + h.outKg d) := by
  intro r l
  have hr := r.isLt
  pointwise [k1_pay97]
  simp only [hv1 _ _, hv17 _ _, hv637 _ _, hv638 _ _, (back96 h hv1 hv17) _ _]
  rw [EReal.coe_add, Head.outKg, ← sum_fin]; simp only [EReal.coe_mul]

theorem back98 (h : Head) {v637 : Vec Ideal S2048x128 .f32} {v645 : Vec Ideal S1x128 .f32} (hv637 : Mat v637 (h.dknTo 2048)) (hv645 : Mat v645 (fun _ d => h.kg d)) :
    Mat (k1_pay98 v637 v645) (fun r d => h.dknTo 2048 r d * h.kg d) := by
  intro r l
  have hr := r.isLt
  pointwise [k1_pay98]
  simp only [hv637 _ _, hv645 _ _]
  exact (EReal.coe_mul _ _).symm

theorem back99 (h : Head) {v1 : Vec Ideal S2048x128 .f32} {v17 : FVec Ideal S2048x1 .f32} {v637 : Vec Ideal S2048x128 .f32} {v645 : Vec Ideal S1x128 .f32} (hv1 : Mat v1 h.k) (hv17 : Mat v17 (fun r _ => rn h.k r)) (hv637 : Mat v637 (h.dknTo 2048)) (hv645 : Mat v645 (fun _ d => h.kg d)) :
    Mat (k1_pay99 v1 v17 v637 v645) (fun r d => h.k r d * rn h.k r * ((∑ e ∈ range 128, h.dknTo 2048 r e * h.kg e * (h.k r e * rn h.k r)) / 128)) := by
  intro r l
  have hr := r.isLt
  pointwise [k1_pay99]
  simp only [hv1 _ _, hv17 _ _, hv637 _ _, hv645 _ _, (back98 h hv637 hv645) _ _, (back96 h hv1 hv17) _ _]
  simp only [word_128, ← EReal.coe_mul, sum_fin (fun e => h.dknTo 2048 r.val e * h.kg e * (h.k r.val e * rn h.k r.val)), div_128]

theorem back1 (h : Head) {v17 : FVec Ideal S2048x1 .f32} {v647 : FVec Ideal S2048x128 .f32} {v654 : FVec Ideal S2048x128 .f32} (hv17 : Mat v17 (fun r _ => rn h.k r)) (hv647 : Mat v647 (fun r d => h.dknTo 2048 r d * h.kg d)) (hv654 : Mat v654 (fun r d => h.k r d * rn h.k r * ((∑ e ∈ range 128, h.dknTo 2048 r e * h.kg e * (h.k r e * rn h.k r)) / 128))) :
    Mat (k1_pay1 v17 v647 v654) h.outK := by
  intro r l
  have hr := r.isLt
  pointwise [k1_pay1]
  simp only [hv17 _ _, hv647 _ _, hv654 _ _]
  simp only [← EReal.coe_sub, ← EReal.coe_mul]; rfl

end Cert.KernelIdeal.Gen

end
-- ==== Proof.FlowA.lean ====
/- What each value of the backward call's run holds, at a point that starts the sums of the gains' gradients. -/
module

public import proofs.«01_k».proof.Proof.Gen.KernelIdeal.Frame.Region1
public import proofs.«01_k».proof.Proof.BackB
public import proofs.«01_k».proof.Proof.Loads

@[expose] public section

set_option maxRecDepth 16384

noncomputable section

namespace Cert.KernelIdeal.Gen

open Idealize.ShloMosaic Idealize.ShloMosaic.TcCoe Idealize.ShloMosaic.Tactic Finset Cert.Attn kernelRun1_A

/-- The arguments of the backward call hold the head's arrays. -/
structure Ins (h : Head) (x0 x1 x2 : Vec Ideal S2048x128 .f32) (x3 : Vec Ideal S1x2048x1 .f32) (x4 : Vec Ideal S1x1x2048 .f32) (x5 : Vec Ideal S1x2048x1 .f32)
    (x6 : Vec Ideal S2048x128 .f32) (x7 x8 : Vec Ideal S1x128 .f32) : Prop where
  m0 : Mat x0 h.q
  m1 : Mat x1 h.k
  m2 : Mat x2 h.v
  c3 : Col3 x3 h.c
  r4 : Row3 x4 h.c
  l5 : Col3 x5 h.lse
  m6 : Mat x6 h.w
  g7 : Mat x7 (fun _ d => h.qg d)
  g8 : Mat x8 (fun _ d => h.kg d)

variable {h : Head} {c : Dev nD} {i : grid1.Coords}
  {b1 : Memref sig .tc .vmem S2048x128 .f32} {h1 : b1.IsWhole} {b2 : Memref sig .tc .vmem S2048x128 .f32} {h2 : b2.IsWhole} {b3 : Memref sig .tc .vmem S2048x128 .f32} {h3 : b3.IsWhole} {b4 : Memref sig .tc .vmem S1x2048x1 .f32} {h4 : b4.IsWhole} {b5 : Memref sig .tc .vmem S1x1x2048 .f32} {h5 : b5.IsWhole} {b6 : Memref sig .tc .vmem S1x2048x1 .f32} {h6 : b6.IsWhole} {b7 : Memref sig .tc .vmem S2048x128 .f32} {h7 : b7.IsWhole} {b8 : Memref sig .tc .vmem S1x128 .f32} {h8 : b8.IsWhole} {b9 : Memref sig .tc .vmem S1x128 .f32} {h9 : b9.IsWhole} {b10 : Memref sig .tc .vmem S2048x128 .bf16} {h10 : b10.IsWhole} {b11 : Memref sig .tc .vmem S2048x128 .bf16} {h11 : b11.IsWhole} {b12 : Memref sig .tc .vmem S2048x128 .bf16} {h12 : b12.IsWhole} {b13 : Memref sig .tc .vmem S1x2048x1 .f32} {h13 : b13.IsWhole} {b14 : Memref sig .tc .vmem S1x1x2048 .f32} {h14 : b14.IsWhole} {b15 : Memref sig .tc .vmem S1x128 .f32} {h15 : b15.IsWhole} {b16 : Memref sig .tc .vmem S1x128 .f32} {h16 : b16.IsWhole} {b17 : Memref sig .tc .vmem S2048x128 .bf16} {h17 : b17.IsWhole} {b18 : Memref sig .tc .vmem S2048x128 .bf16} {h18 : b18.IsWhole} {b19 : Memref sig .tc .vmem S2048x128 .bf16} {h19 : b19.IsWhole} {b20 : Memref sig .tc .vmem S2048x128 .bf16} {h20 : b20.IsWhole} {b21 : Memref sig .tc .vmem S2048x128 .f32} {h21 : b21.IsWhole} {b22 : Memref sig .tc .vmem S2048x128 .f32} {h22 : b22.IsWhole} {b23 : Memref sig .tc .vmem S2048x128 .f32} {h23 : b23.IsWhole}
  {x0 x1 x2 : Vec Ideal S2048x128 .f32} {x3 : Vec Ideal S1x2048x1 .f32} {x4 : Vec Ideal S1x1x2048 .f32} {x5 : Vec Ideal S1x2048x1 .f32}
  {x6 : Vec Ideal S2048x128 .f32} {x7 x8 : Vec Ideal S1x128 .f32} {hc0 : cond1_0 i}

theorem a_H13_1 (h : Head) : Row3 (View.canon (sl.H13_1 (F := Ideal))) (fun j => -h.colSumTo 0 j) := by
  unfold sl.H13_1
  intro l; refine Eq.trans (st_row back10 _ [] l) ?_
  simp only [Head.colSumTo, Finset.sum_range_zero, neg_zero]

variable (hb : Ins h x0 x1 x2 x3 x4 x5 x6 x7 x8)
include hb

theorem a_HS0_1 : Mat (View.canon (sl.HS0_1 c b1 h1 b8 h8 x0 x7)) h.qs :=
  st_half (back4 h (ld_whole h1 hb.m0 _) (ld_whole h8 hb.g7 _)) _ []

theorem a_v58 : Mat (sl.v58 c b1 h1 b8 h8 b17 x0 x7) (fun r d => h.qs r d) :=
  rc_half0 _ (a_HS0_1 hb) _

theorem a_HS1_1 : Mat (View.canon (sl.HS1_1 c b2 h2 b9 h9 x1 x8)) h.kn :=
  st_half (back5 h (ld_whole h2 hb.m1 _) (ld_whole h9 hb.g8 _)) _ []

theorem a_v59 : Mat (sl.v59 c b2 h2 b9 h9 b18 x1 x8) h.kn :=
  rc_half0 _ (a_HS1_1 hb) _

theorem a_r_4 : Mat (sl.r_4 c b1 h1 b2 h2 b4 h4 b8 h8 b9 h9 b17 b18 x0 x1 x3 x7 x8) (fun r j => (∑ d ∈ range 128, h.qs r d * h.kn j d) + h.c r) :=
  back11 h (a_v58 hb) (a_v59 hb) (ld_col0 h4 hb.c3 _)

theorem a_HS3_1 : Mat (View.canon (sl.HS3_1 c b7 h7 x6)) h.w :=
  st_half (back7 h (ld_whole h7 hb.m6 _)) _ []

theorem a_v81 : Mat (sl.v81 c b7 h7 b20 x6) (fun r d => h.w r d) :=
  rc_half0 _ (a_HS3_1 hb) _

theorem a_HS2_1 : Mat (View.canon (sl.HS2_1 c b3 h3 x2)) h.v :=
  st_half (back6 h (ld_whole h3 hb.m2 _)) _ []

theorem a_v82 : Mat (sl.v82 c b3 h3 b19 x2) h.v :=
  rc_half0 _ (a_HS2_1 hb) _

theorem a_v95 : Row3 (sl.v95 (F := Ideal) c b14) (fun j => -h.colSumTo 0 j) :=
  rc_row _ (a_H13_1 h) _

theorem a_r_7 : Mat (sl.r_7 c b1 h1 b2 h2 b3 h3 b4 h4 b5 h5 b6 h6 b7 h7 b8 h8 b9 h9 b14 b17 b18 b19 b20 x0 x1 x2 x3 x4 x5 x6 x7 x8) (fun _ j => -h.colSumTo 256 j) :=
  back15 h (a_r_4 hb) (ld_row h5 hb.r4 _) (ld_col0 h6 hb.l5 _) (a_v81 hb) (a_v82 hb) (a_v95 hb)

theorem a_H13_2 : Row3 (View.canon (sl.H13_2 c b1 h1 b2 h2 b3 h3 b4 h4 b5 h5 b6 h6 b7 h7 b8 h8 b9 h9 b14 b17 b18 b19 b20 x0 x1 x2 x3 x4 x5 x6 x7 x8)) (fun j => -h.colSumTo 256 j) :=
  acc_row (back16 h (a_r_7 hb)) _ (a_H13_1 h) (fun j hj => by rw [h.colSumTo_of_le hj, h.colSumTo_of_le (by omega)])

theorem a_v163 : Row3 (sl.v163 c b1 h1 b2 h2 b3 h3 b4 h4 b5 h5 b6 h6 b7 h7 b8 h8 b9 h9 b14 b17 b18 b19 b20 x0 x1 x2 x3 x4 x5 x6 x7 x8) (fun j => -h.colSumTo 256 j) :=
  rc_row _ (a_H13_2 hb) _

theorem a_r_11 : Mat (sl.r_11 c b1 h1 b2 h2 b3 h3 b4 h4 b5 h5 b6 h6 b7 h7 b8 h8 b9 h9 b14 b17 b18 b19 b20 x0 x1 x2 x3 x4 x5 x6 x7 x8) (fun _ j => -h.colSumTo 256 j) :=
  back25 h (a_v163 hb)

theorem a_v126 : Mat (sl.v126 c b1 h1 b8 h8 b17 x0 x7) (fun r d => h.qs (256 + r) d) :=
  rc_half _ (a_HS0_1 hb) _

theorem a_v127 : Mat (sl.v127 c b2 h2 b9 h9 b18 x1 x8) h.kn :=
  rc_half0 _ (a_HS1_1 hb) _

theorem a_r_8 : Mat (sl.r_8 c b1 h1 b2 h2 b8 h8 b9 h9 b17 b18 x0 x1 x7 x8) (fun r j => ∑ d ∈ range 128, h.qs (256 + r) d * h.kn j d) :=
  back21 h (a_v126 hb) (a_v127 hb)

theorem a_v149 : Mat (sl.v149 c b7 h7 b20 x6) (fun r d => h.w (256 + r) d) :=
  rc_half _ (a_HS3_1 hb) _

theorem a_v150 : Mat (sl.v150 c b3 h3 b19 x2) h.v :=
  rc_half0 _ (a_HS2_1 hb) _

theorem a_r_12 : Lst (sl.r_12 c b1 h1 b2 h2 b3 h3 b4 h4 b5 h5 b6 h6 b7 h7 b8 h8 b9 h9 b17 b18 b19 b20 x0 x1 x2 x3 x4 x5 x6 x7 x8) (fun j => ∑ a ∈ range 256, h.ds (256 + a) j) :=
  back26 h (a_r_8 hb) (ld_col h4 hb.c3 _) (ld_row h5 hb.r4 _) (ld_col h6 hb.l5 _) (a_v149 hb) (a_v150 hb)

theorem a_H13_3 : Row3 (View.canon (sl.H13_3 c b1 h1 b2 h2 b3 h3 b4 h4 b5 h5 b6 h6 b7 h7 b8 h8 b9 h9 b14 b17 b18 b19 b20 x0 x1 x2 x3 x4 x5 x6 x7 x8)) (fun j => -h.colSumTo 512 j) :=
  acc_row (back27 h (a_r_11 hb) (a_r_12 hb)) _ (a_H13_2 hb) (fun j hj => by rw [h.colSumTo_of_le hj, h.colSumTo_of_le (by omega)])

theorem a_v194 : Mat (sl.v194 c b1 h1 b8 h8 b17 x0 x7) (fun r d => h.qs (512 + r) d) :=
  rc_half _ (a_HS0_1 hb) _

theorem a_v195 : Mat (sl.v195 c b2 h2 b9 h9 b18 x1 x8) h.kn :=
  rc_half0 _ (a_HS1_1 hb) _

theorem a_v217 : Mat (sl.v217 c b7 h7 b20 x6) (fun r d => h.w (512 + r) d) :=
  rc_half _ (a_HS3_1 hb) _

theorem a_v218 : Mat (sl.v218 c b3 h3 b19 x2) h.v :=
  rc_half0 _ (a_HS2_1 hb) _

theorem a_r_14 : Mat (sl.r_14 c b1 h1 b2 h2 b3 h3 b4 h4 b5 h5 b6 h6 b7 h7 b8 h8 b9 h9 b17 b18 b19 b20 x0 x1 x2 x3 x4 x5 x6 x7 x8) (fun r j => h.ds (512 + r) j) :=
  back33 h (a_v194 hb) (a_v195 hb) (ld_col h4 hb.c3 _) (ld_row h5 hb.r4 _) (ld_col h6 hb.l5 _) (a_v217 hb) (a_v218 hb)

theorem a_v231 : Row3 (sl.v231 c b1 h1 b2 h2 b3 h3 b4 h4 b5 h5 b6 h6 b7 h7 b8 h8 b9 h9 b14 b17 b18 b19 b20 x0 x1 x2 x3 x4 x5 x6 x7 x8) (fun j => -h.colSumTo 512 j) :=
  rc_row _ (a_H13_3 hb) _

theorem a_H13_4 : Row3 (View.canon (sl.H13_4 c b1 h1 b2 h2 b3 h3 b4 h4 b5 h5 b6 h6 b7 h7 b8 h8 b9 h9 b14 b17 b18 b19 b20 x0 x1 x2 x3 x4 x5 x6 x7 x8)) (fun j => -h.colSumTo 768 j) :=
  acc_row (back35 h (a_r_14 hb) (a_v231 hb)) _ (a_H13_3 hb) (fun j hj => by rw [h.colSumTo_of_le hj, h.colSumTo_of_le (by omega)])

theorem a_v262 : Mat (sl.v262 c b1 h1 b8 h8 b17 x0 x7) (fun r d => h.qs (768 + r) d) :=
  rc_half _ (a_HS0_1 hb) _

theorem a_v263 : Mat (sl.v263 c b2 h2 b9 h9 b18 x1 x8) h.kn :=
  rc_half0 _ (a_HS1_1 hb) _

theorem a_v285 : Mat (sl.v285 c b7 h7 b20 x6) (fun r d => h.w (768 + r) d) :=
  rc_half _ (a_HS3_1 hb) _

theorem a_v286 : Mat (sl.v286 c b3 h3 b19 x2) h.v :=
  rc_half0 _ (a_HS2_1 hb) _

theorem a_r_17 : Mat (sl.r_17 c b1 h1 b2 h2 b3 h3 b4 h4 b5 h5 b6 h6 b7 h7 b8 h8 b9 h9 b17 b18 b19 b20 x0 x1 x2 x3 x4 x5 x6 x7 x8) (fun r j => h.ds (768 + r) j) :=
  back41 h (a_v262 hb) (a_v263 hb) (ld_col h4 hb.c3 _) (ld_row h5 hb.r4 _) (ld_col h6 hb.l5 _) (a_v285 hb) (a_v286 hb)

theorem a_v299 : Row3 (sl.v299 c b1 h1 b2 h2 b3 h3 b4 h4 b5 h5 b6 h6 b7 h7 b8 h8 b9 h9 b14 b17 b18 b19 b20 x0 x1 x2 x3 x4 x5 x6 x7 x8) (fun j => -h.colSumTo 768 j) :=
  rc_row _ (a_H13_4 hb) _

theorem a_H13_5 : Row3 (View.canon (sl.H13_5 c b1 h1 b2 h2 b3 h3 b4 h4 b5 h5 b6 h6 b7 h7 b8 h8 b9 h9 b14 b17 b18 b19 b20 x0 x1 x2 x3 x4 x5 x6 x7 x8)) (fun j => -h.colSumTo 1024 j) :=
  acc_row (back44 h (a_r_17 hb) (a_v299 hb)) _ (a_H13_4 hb) (fun j hj => by rw [h.colSumTo_of_le hj, h.colSumTo_of_le (by omega)])

theorem a_v330 : Mat (sl.v330 c b1 h1 b8 h8 b17 x0 x7) (fun r d => h.qs (1024 + r) d) :=
  rc_half _ (a_HS0_1 hb) _

theorem a_v331 : Mat (sl.v331 c b2 h2 b9 h9 b18 x1 x8) h.kn :=
  rc_half0 _ (a_HS1_1 hb) _

theorem a_r_20 : Mat (sl.r_20 c b1 h1 b2 h2 b4 h4 b5 h5 b6 h6 b8 h8 b9 h9 b17 b18 x0 x1 x3 x4 x5 x7 x8) (fun r j => h.p (1024 + r) j) :=
  back50 h (a_v330 hb) (a_v331 hb) (ld_col h4 hb.c3 _) (ld_row h5 hb.r4 _) (ld_col h6 hb.l5 _)

theorem a_v353 : Mat (sl.v353 c b7 h7 b20 x6) (fun r d => h.w (1024 + r) d) :=
  rc_half _ (a_HS3_1 hb) _

theorem a_v354 : Mat (sl.v354 c b3 h3 b19 x2) h.v :=
  rc_half0 _ (a_HS2_1 hb) _

theorem a_r_21 : Mat (sl.r_21 c b1 h1 b2 h2 b3 h3 b4 h4 b5 h5 b6 h6 b7 h7 b8 h8 b9 h9 b17 b18 b19 b20 x0 x1 x2 x3 x4 x5 x6 x7 x8) (fun r j => h.dc (1024 + r) j) :=
  back51 h (a_v330 hb) (a_v331 hb) (ld_col h4 hb.c3 _) (ld_row h5 hb.r4 _) (ld_col h6 hb.l5 _) (a_v353 hb) (a_v354 hb)

theorem a_v367 : Row3 (sl.v367 c b1 h1 b2 h2 b3 h3 b4 h4 b5 h5 b6 h6 b7 h7 b8 h8 b9 h9 b14 b17 b18 b19 b20 x0 x1 x2 x3 x4 x5 x6 x7 x8) (fun j => -h.colSumTo 1024 j) :=
  rc_row _ (a_H13_5 hb) _

theorem a_H13_6 : Row3 (View.canon (sl.H13_6 c b1 h1 b2 h2 b3 h3 b4 h4 b5 h5 b6 h6 b7 h7 b8 h8 b9 h9 b14 b17 b18 b19 b20 x0 x1 x2 x3 x4 x5 x6 x7 x8)) (fun j => -h.colSumTo 1280 j) :=
  acc_row (back54 h (a_r_20 hb) (a_r_21 hb) (a_v367 hb)) _ (a_H13_5 hb) (fun j hj => by rw [h.colSumTo_of_le hj, h.colSumTo_of_le (by omega)])

theorem a_v398 : Mat (sl.v398 c b1 h1 b8 h8 b17 x0 x7) (fun r d => h.qs (1280 + r) d) :=
  rc_half _ (a_HS0_1 hb) _

theorem a_v399 : Mat (sl.v399 c b2 h2 b9 h9 b18 x1 x8) h.kn :=
  rc_half0 _ (a_HS1_1 hb) _

theorem a_r_22 : Mat (sl.r_22 c b1 h1 b2 h2 b4 h4 b5 h5 b6 h6 b8 h8 b9 h9 b17 b18 x0 x1 x3 x4 x5 x7 x8) (fun r j => h.p (1280 + r) j) :=
  back59 h (a_v398 hb) (a_v399 hb) (ld_col h4 hb.c3 _) (ld_row h5 hb.r4 _) (ld_col h6 hb.l5 _)

theorem a_v421 : Mat (sl.v421 c b7 h7 b20 x6) (fun r d => h.w (1280 + r) d) :=
  rc_half _ (a_HS3_1 hb) _

theorem a_v422 : Mat (sl.v422 c b3 h3 b19 x2) h.v :=
  rc_half0 _ (a_HS2_1 hb) _

theorem a_r_23 : Mat (sl.r_23 c b3 h3 b7 h7 b19 b20 x2 x6) (fun r j => h.dp (1280 + r) j) :=
  back60 h (a_v421 hb) (a_v422 hb)

theorem a_v435 : Row3 (sl.v435 c b1 h1 b2 h2 b3 h3 b4 h4 b5 h5 b6 h6 b7 h7 b8 h8 b9 h9 b14 b17 b18 b19 b20 x0 x1 x2 x3 x4 x5 x6 x7 x8) (fun j => -h.colSumTo 1280 j) :=
  rc_row _ (a_H13_6 hb) _

theorem a_H13_7 : Row3 (View.canon (sl.H13_7 c b1 h1 b2 h2 b3 h3 b4 h4 b5 h5 b6 h6 b7 h7 b8 h8 b9 h9 b14 b17 b18 b19 b20 x0 x1 x2 x3 x4 x5 x6 x7 x8)) (fun j => -h.colSumTo 1536 j) :=
  acc_row (back63 h (a_r_22 hb) (a_r_23 hb) (a_v435 hb)) _ (a_H13_6 hb) (fun j hj => by rw [h.colSumTo_of_le hj, h.colSumTo_of_le (by omega)])

theorem a_v466 : Mat (sl.v466 c b1 h1 b8 h8 b17 x0 x7) (fun r d => h.qs (1536 + r) d) :=
  rc_half _ (a_HS0_1 hb) _

theorem a_v467 : Mat (sl.v467 c b2 h2 b9 h9 b18 x1 x8) h.kn :=
  rc_half0 _ (a_HS1_1 hb) _

theorem a_r_25 : Mat (sl.r_25 c b1 h1 b2 h2 b4 h4 b5 h5 b6 h6 b8 h8 b9 h9 b17 b18 x0 x1 x3 x4 x5 x7 x8) (fun r j => h.p (1536 + r) j) :=
  back69 h (a_v466 hb) (a_v467 hb) (ld_col h4 hb.c3 _) (ld_row h5 hb.r4 _) (ld_col h6 hb.l5 _)

theorem a_v489 : Mat (sl.v489 c b7 h7 b20 x6) (fun r d => h.w (1536 + r) d) :=
  rc_half _ (a_HS3_1 hb) _

theorem a_v490 : Mat (sl.v490 c b3 h3 b19 x2) h.v :=
  rc_half0 _ (a_HS2_1 hb) _

theorem a_v503 : Row3 (sl.v503 c b1 h1 b2 h2 b3 h3 b4 h4 b5 h5 b6 h6 b7 h7 b8 h8 b9 h9 b14 b17 b18 b19 b20 x0 x1 x2 x3 x4 x5 x6 x7 x8) (fun j => -h.colSumTo 1536 j) :=
  rc_row _ (a_H13_7 hb) _

theorem a_H13_8 : Row3 (View.canon (sl.H13_8 c b1 h1 b2 h2 b3 h3 b4 h4 b5 h5 b6 h6 b7 h7 b8 h8 b9 h9 b14 b17 b18 b19 b20 x0 x1 x2 x3 x4 x5 x6 x7 x8)) (fun j => -h.colSumTo 1792 j) :=
  acc_row (back72 h (a_r_25 hb) (a_v489 hb) (a_v490 hb) (a_v503 hb)) _ (a_H13_7 hb) (fun j hj => by rw [h.colSumTo_of_le hj, h.colSumTo_of_le (by omega)])

omit hb in
theorem a_H14_1 : Mat (View.canon (sl.H14_1 (F := Ideal))) (fun _ d => (fun _ => 0 : ℕ → ℝ) d) :=
  st_mat (back88) _ []

omit hb in
theorem a_H15_1 : Mat (View.canon (sl.H15_1 (F := Ideal))) (fun _ d => (fun _ => 0 : ℕ → ℝ) d) :=
  st_mat (back89) _ []

theorem a_v534 : Mat (sl.v534 c b1 h1 b8 h8 b17 x0 x7) (fun r d => h.qs (1792 + r) d) :=
  rc_half _ (a_HS0_1 hb) _

theorem a_v535 : Mat (sl.v535 c b2 h2 b9 h9 b18 x1 x8) h.kn :=
  rc_half0 _ (a_HS1_1 hb) _

theorem a_r_27 : Mat (sl.r_27 c b1 h1 b2 h2 b4 h4 b5 h5 b6 h6 b8 h8 b9 h9 b17 b18 x0 x1 x3 x4 x5 x7 x8) (fun r j => h.s (1792 + r) j - h.lse (1792 + r)) :=
  back78 h (a_v534 hb) (a_v535 hb) (ld_col h4 hb.c3 _) (ld_row h5 hb.r4 _) (ld_col h6 hb.l5 _)

theorem a_v557 : Mat (sl.v557 c b7 h7 b20 x6) (fun r d => h.w (1792 + r) d) :=
  rc_half _ (a_HS3_1 hb) _

theorem a_v558 : Mat (sl.v558 c b3 h3 b19 x2) h.v :=
  rc_half0 _ (a_HS2_1 hb) _

theorem a_r_10 : Mat (sl.r_10 c b1 h1 b2 h2 b3 h3 b4 h4 b5 h5 b6 h6 b7 h7 b8 h8 b9 h9 b17 b18 b19 b20 x0 x1 x2 x3 x4 x5 x6 x7 x8) (fun r j => h.ds (256 + r) j) :=
  back23 h (a_r_8 hb) (ld_col h4 hb.c3 _) (ld_row h5 hb.r4 _) (ld_col h6 hb.l5 _) (a_v149 hb) (a_v150 hb)

theorem a_r_6 : Mat (sl.r_6 c b1 h1 b2 h2 b3 h3 b4 h4 b5 h5 b6 h6 b7 h7 b8 h8 b9 h9 b17 b18 b19 b20 x0 x1 x2 x3 x4 x5 x6 x7 x8) (fun r j => h.ds r j) :=
  back13 h (a_r_4 hb) (ld_row h5 hb.r4 _) (ld_col0 h6 hb.l5 _) (a_v81 hb) (a_v82 hb)

theorem a_HS4_8 : Mat (View.canon (sl.HS4_8 c b1 h1 b2 h2 b3 h3 b4 h4 b5 h5 b6 h6 b7 h7 b8 h8 b9 h9 b17 b18 b19 b20 x0 x1 x2 x3 x4 x5 x6 x7 x8)) h.dqs :=
  (MatTo.cons (MatTo.cons (MatTo.cons (MatTo.cons (MatTo.cons (MatTo.cons (MatTo.cons (MatTo.cons (matTo_zero _ _) (fun r l => by simpa only [Nat.zero_add] using (back18 h (a_r_6 hb) (a_v59 hb)) r l) (n := 256) rfl _) (back29 h (a_r_10 hb) (a_v127 hb)) (n := 512) rfl _) (back37 h (a_r_14 hb) (a_v195 hb)) (n := 768) rfl _) (back46 h (a_r_17 hb) (a_v263 hb)) (n := 1024) rfl _) (back56 h (a_r_20 hb) (a_r_21 hb) (a_v331 hb)) (n := 1280) rfl _) (back65 h (a_r_22 hb) (a_r_23 hb) (a_v399 hb)) (n := 1536) rfl _) (back74 h (a_r_25 hb) (a_v489 hb) (a_v490 hb) (a_v467 hb)) (n := 1792) rfl _) (back84 h rfl (a_r_27 hb) (a_v557 hb) (a_v558 hb) (a_v535 hb)) (n := 2048) rfl _).mat

omit hb in
theorem a_HS5_1 (h : Head) : Mat (View.canon (sl.HS5_1 (F := Ideal))) (h.dknTo 0) := by
  unfold sl.HS5_1
  intro r l; refine Eq.trans (st_mat back8 _ [] r l) ?_
  rw [Head.dknTo, Finset.sum_range_zero]

theorem a_v111 : Mat (sl.v111 (F := Ideal) c b22) (h.dknTo 0) :=
  rc_mat0 _ (a_HS5_1 h) _

theorem a_HS5_2 : Mat (View.canon (sl.HS5_2 c b1 h1 b2 h2 b3 h3 b4 h4 b5 h5 b6 h6 b7 h7 b8 h8 b9 h9 b17 b18 b19 b20 b22 x0 x1 x2 x3 x4 x5 x6 x7 x8)) (h.dknTo 256) :=
  acc_mat (back19 h (a_r_6 hb) (a_v111 hb) (a_v58 hb)) _ (a_HS5_1 h) (fun j d hj => by rw [h.dknTo_of_le d hj, h.dknTo_of_le d (by omega)])

theorem a_v179 : Mat (sl.v179 c b1 h1 b2 h2 b3 h3 b4 h4 b5 h5 b6 h6 b7 h7 b8 h8 b9 h9 b17 b18 b19 b20 b22 x0 x1 x2 x3 x4 x5 x6 x7 x8) (h.dknTo 256) :=
  rc_mat0 _ (a_HS5_2 hb) _

theorem a_HS5_3 : Mat (View.canon (sl.HS5_3 c b1 h1 b2 h2 b3 h3 b4 h4 b5 h5 b6 h6 b7 h7 b8 h8 b9 h9 b17 b18 b19 b20 b22 x0 x1 x2 x3 x4 x5 x6 x7 x8)) (h.dknTo 512) :=
  acc_mat (back30 h (a_r_10 hb) (a_v179 hb) (a_v126 hb)) _ (a_HS5_2 hb) (fun j d hj => by rw [h.dknTo_of_le d hj, h.dknTo_of_le d (by omega)])

theorem a_v247 : Mat (sl.v247 c b1 h1 b2 h2 b3 h3 b4 h4 b5 h5 b6 h6 b7 h7 b8 h8 b9 h9 b17 b18 b19 b20 b22 x0 x1 x2 x3 x4 x5 x6 x7 x8) (h.dknTo 512) :=
  rc_mat0 _ (a_HS5_3 hb) _

theorem a_HS5_4 : Mat (View.canon (sl.HS5_4 c b1 h1 b2 h2 b3 h3 b4 h4 b5 h5 b6 h6 b7 h7 b8 h8 b9 h9 b17 b18 b19 b20 b22 x0 x1 x2 x3 x4 x5 x6 x7 x8)) (h.dknTo 768) :=
  acc_mat (back38 h (a_r_14 hb) (a_v247 hb) (a_v194 hb)) _ (a_HS5_3 hb) (fun j d hj => by rw [h.dknTo_of_le d hj, h.dknTo_of_le d (by omega)])

theorem a_v315 : Mat (sl.v315 c b1 h1 b2 h2 b3 h3 b4 h4 b5 h5 b6 h6 b7 h7 b8 h8 b9 h9 b17 b18 b19 b20 b22 x0 x1 x2 x3 x4 x5 x6 x7 x8) (h.dknTo 768) :=
  rc_mat0 _ (a_HS5_4 hb) _

theorem a_HS5_5 : Mat (View.canon (sl.HS5_5 c b1 h1 b2 h2 b3 h3 b4 h4 b5 h5 b6 h6 b7 h7 b8 h8 b9 h9 b17 b18 b19 b20 b22 x0 x1 x2 x3 x4 x5 x6 x7 x8)) (h.dknTo 1024) :=
  acc_mat (back47 h (a_r_17 hb) (a_v315 hb) (a_v262 hb)) _ (a_HS5_4 hb) (fun j d hj => by rw [h.dknTo_of_le d hj, h.dknTo_of_le d (by omega)])

theorem a_v383 : Mat (sl.v383 c b1 h1 b2 h2 b3 h3 b4 h4 b5 h5 b6 h6 b7 h7 b8 h8 b9 h9 b17 b18 b19 b20 b22 x0 x1 x2 x3 x4 x5 x6 x7 x8) (h.dknTo 1024) :=
  rc_mat0 _ (a_HS5_5 hb) _

theorem a_HS5_6 : Mat (View.canon (sl.HS5_6 c b1 h1 b2 h2 b3 h3 b4 h4 b5 h5 b6 h6 b7 h7 b8 h8 b9 h9 b17 b18 b19 b20 b22 x0 x1 x2 x3 x4 x5 x6 x7 x8)) (h.dknTo 1280) :=
  acc_mat (back57 h (a_r_20 hb) (a_r_21 hb) (a_v383 hb) (a_v330 hb)) _ (a_HS5_5 hb) (fun j d hj => by rw [h.dknTo_of_le d hj, h.dknTo_of_le d (by omega)])

theorem a_v451 : Mat (sl.v451 c b1 h1 b2 h2 b3 h3 b4 h4 b5 h5 b6 h6 b7 h7 b8 h8 b9 h9 b17 b18 b19 b20 b22 x0 x1 x2 x3 x4 x5 x6 x7 x8) (h.dknTo 1280) :=
  rc_mat0 _ (a_HS5_6 hb) _

theorem a_r_24 : Mat (sl.r_24 c b1 h1 b2 h2 b3 h3 b4 h4 b5 h5 b6 h6 b7 h7 b8 h8 b9 h9 b17 b18 b19 b20 b22 x0 x1 x2 x3 x4 x5 x6 x7 x8) (h.dknTo 1536) :=
  back66 h (a_r_22 hb) (a_r_23 hb) (a_v451 hb) (a_v398 hb)

theorem a_HS5_7 : Mat (View.canon (sl.HS5_7 c b1 h1 b2 h2 b3 h3 b4 h4 b5 h5 b6 h6 b7 h7 b8 h8 b9 h9 b17 b18 b19 b20 b22 x0 x1 x2 x3 x4 x5 x6 x7 x8)) (h.dknTo 1536) :=
  acc_mat (back67 h (a_r_24 hb)) _ (a_HS5_6 hb) (fun j d hj => by rw [h.dknTo_of_le d hj, h.dknTo_of_le d (by omega)])

theorem a_r_26 : Mat (sl.r_26 c b1 h1 b2 h2 b3 h3 b4 h4 b5 h5 b6 h6 b7 h7 b8 h8 b9 h9 b17 b18 b19 b20 x0 x1 x2 x3 x4 x5 x6 x7 x8) (fun r j => h.ds (1536 + r) j) :=
  back73 h (a_r_25 hb) (a_v489 hb) (a_v490 hb)

theorem a_v519 : Mat (sl.v519 c b1 h1 b2 h2 b3 h3 b4 h4 b5 h5 b6 h6 b7 h7 b8 h8 b9 h9 b17 b18 b19 b20 b22 x0 x1 x2 x3 x4 x5 x6 x7 x8) (h.dknTo 1536) :=
  rc_mat0 _ (a_HS5_7 hb) _

theorem a_HS5_8 : Mat (View.canon (sl.HS5_8 c b1 h1 b2 h2 b3 h3 b4 h4 b5 h5 b6 h6 b7 h7 b8 h8 b9 h9 b17 b18 b19 b20 b22 x0 x1 x2 x3 x4 x5 x6 x7 x8)) (h.dknTo 1792) :=
  acc_mat (back75 h (a_r_26 hb) (a_v519 hb) (a_v466 hb)) _ (a_HS5_7 hb) (fun j d hj => by rw [h.dknTo_of_le d hj, h.dknTo_of_le d (by omega)])

theorem a_r_29 : Mat (sl.r_29 c b1 h1 b2 h2 b3 h3 b4 h4 b5 h5 b6 h6 b7 h7 b8 h8 b9 h9 b17 b18 b19 b20 x0 x1 x2 x3 x4 x5 x6 x7 x8) (fun r j => h.ds (1792 + r) j) :=
  back83 h rfl (a_r_27 hb) (a_v557 hb) (a_v558 hb)

theorem a_v587 : Mat (sl.v587 c b1 h1 b2 h2 b3 h3 b4 h4 b5 h5 b6 h6 b7 h7 b8 h8 b9 h9 b17 b18 b19 b20 b22 x0 x1 x2 x3 x4 x5 x6 x7 x8) (h.dknTo 1792) :=
  rc_mat0 _ (a_HS5_8 hb) _

theorem a_HS5_9 : Mat (View.canon (sl.HS5_9 c b1 h1 b2 h2 b3 h3 b4 h4 b5 h5 b6 h6 b7 h7 b8 h8 b9 h9 b17 b18 b19 b20 b22 x0 x1 x2 x3 x4 x5 x6 x7 x8)) (h.dknTo 2048) :=
  acc_mat (back85 h (a_r_29 hb) (a_v587 hb) (a_v534 hb)) _ (a_HS5_8 hb) (fun j d hj => by rw [h.dknTo_of_le d hj, h.dknTo_of_le d (by omega)])

omit hb in
theorem a_HS6_1 (h : Head) : Mat (View.canon (sl.HS6_1 (F := Ideal))) (h.dvTo 0) := by
  unfold sl.HS6_1
  intro r l; refine Eq.trans (st_mat back9 _ [] r l) ?_
  rw [Head.dvTo, Finset.sum_range_zero]

theorem a_r_5 : Mat (sl.r_5 c b1 h1 b2 h2 b4 h4 b5 h5 b6 h6 b8 h8 b9 h9 b17 b18 x0 x1 x3 x4 x5 x7 x8) (fun r j => h.p r j) :=
  back12 h (a_r_4 hb) (ld_row h5 hb.r4 _) (ld_col0 h6 hb.l5 _)

theorem a_v118 : Mat (sl.v118 (F := Ideal) c b23) (h.dvTo 0) :=
  rc_mat0 _ (a_HS6_1 h) _

theorem a_HS6_2 : Mat (View.canon (sl.HS6_2 c b1 h1 b2 h2 b4 h4 b5 h5 b6 h6 b7 h7 b8 h8 b9 h9 b17 b18 b20 b23 x0 x1 x3 x4 x5 x6 x7 x8)) (h.dvTo 256) :=
  acc_mat (back20 h (a_r_5 hb) (a_v118 hb) (a_v81 hb)) _ (a_HS6_1 h) (fun j d hj => by rw [h.dvTo_of_le d hj, h.dvTo_of_le d (by omega)])

theorem a_r_9 : Mat (sl.r_9 c b1 h1 b2 h2 b4 h4 b5 h5 b6 h6 b8 h8 b9 h9 b17 b18 x0 x1 x3 x4 x5 x7 x8) (fun r j => h.p (256 + r) j) :=
  back22 h (a_r_8 hb) (ld_col h4 hb.c3 _) (ld_row h5 hb.r4 _) (ld_col h6 hb.l5 _)

theorem a_v186 : Mat (sl.v186 c b1 h1 b2 h2 b4 h4 b5 h5 b6 h6 b7 h7 b8 h8 b9 h9 b17 b18 b20 b23 x0 x1 x3 x4 x5 x6 x7 x8) (h.dvTo 256) :=
  rc_mat0 _ (a_HS6_2 hb) _

theorem a_HS6_3 : Mat (View.canon (sl.HS6_3 c b1 h1 b2 h2 b4 h4 b5 h5 b6 h6 b7 h7 b8 h8 b9 h9 b17 b18 b20 b23 x0 x1 x3 x4 x5 x6 x7 x8)) (h.dvTo 512) :=
  acc_mat (back31 h (a_r_9 hb) (a_v186 hb) (a_v149 hb)) _ (a_HS6_2 hb) (fun j d hj => by rw [h.dvTo_of_le d hj, h.dvTo_of_le d (by omega)])

theorem a_r_13 : Mat (sl.r_13 c b1 h1 b2 h2 b4 h4 b5 h5 b6 h6 b8 h8 b9 h9 b17 b18 x0 x1 x3 x4 x5 x7 x8) (fun r j => h.p (512 + r) j) :=
  back32 h (a_v194 hb) (a_v195 hb) (ld_col h4 hb.c3 _) (ld_row h5 hb.r4 _) (ld_col h6 hb.l5 _)

theorem a_v254 : Mat (sl.v254 c b1 h1 b2 h2 b4 h4 b5 h5 b6 h6 b7 h7 b8 h8 b9 h9 b17 b18 b20 b23 x0 x1 x3 x4 x5 x6 x7 x8) (h.dvTo 512) :=
  rc_mat0 _ (a_HS6_3 hb) _

theorem a_r_15 : Mat (sl.r_15 c b1 h1 b2 h2 b4 h4 b5 h5 b6 h6 b7 h7 b8 h8 b9 h9 b17 b18 b20 b23 x0 x1 x3 x4 x5 x6 x7 x8) (h.dvTo 768) :=
  back39 h (a_r_13 hb) (a_v254 hb) (a_v217 hb)

theorem a_HS6_4 : Mat (View.canon (sl.HS6_4 c b1 h1 b2 h2 b4 h4 b5 h5 b6 h6 b7 h7 b8 h8 b9 h9 b17 b18 b20 b23 x0 x1 x3 x4 x5 x6 x7 x8)) (h.dvTo 768) :=
  acc_mat (a_r_15 hb) _ (a_HS6_3 hb) (fun j d hj => by rw [h.dvTo_of_le d hj, h.dvTo_of_le d (by omega)])

theorem a_v322 : Mat (sl.v322 c b1 h1 b2 h2 b4 h4 b5 h5 b6 h6 b7 h7 b8 h8 b9 h9 b17 b18 b20 b23 x0 x1 x3 x4 x5 x6 x7 x8) (h.dvTo 768) :=
  rc_mat0 _ (a_HS6_4 hb) _

theorem a_r_16 : Mat (sl.r_16 c b1 h1 b2 h2 b4 h4 b5 h5 b6 h6 b8 h8 b9 h9 b17 b18 x0 x1 x3 x4 x5 x7 x8) (fun r j => h.p (768 + r) j) :=
  back40 h (a_v262 hb) (a_v263 hb) (ld_col h4 hb.c3 _) (ld_row h5 hb.r4 _) (ld_col h6 hb.l5 _)

theorem a_r_19 : Mat (sl.r_19 c b1 h1 b2 h2 b4 h4 b5 h5 b6 h6 b7 h7 b8 h8 b9 h9 b17 b18 b20 x0 x1 x3 x4 x5 x6 x7 x8) (fun j d => ∑ a ∈ range 256, h.p (768 + a) j * h.w (768 + a) d) :=
  back48 h (a_r_16 hb) (a_v285 hb)

theorem a_HS6_5 : Mat (View.canon (sl.HS6_5 c b1 h1 b2 h2 b4 h4 b5 h5 b6 h6 b7 h7 b8 h8 b9 h9 b17 b18 b20 b23 x0 x1 x3 x4 x5 x6 x7 x8)) (h.dvTo 1024) :=
  acc_mat (back49 h (a_v322 hb) (a_r_19 hb)) _ (a_HS6_4 hb) (fun j d hj => by rw [h.dvTo_of_le d hj, h.dvTo_of_le d (by omega)])

theorem a_v : Mat (sl.v c b1 h1 b2 h2 b4 h4 b5 h5 b6 h6 b7 h7 b8 h8 b9 h9 b17 b18 b20 b23 x0 x1 x3 x4 x5 x6 x7 x8) (h.dvTo 1024) :=
  rc_mat0 _ (a_HS6_5 hb) _

theorem a_HS6_6 : Mat (View.canon (sl.HS6_6 c b1 h1 b2 h2 b4 h4 b5 h5 b6 h6 b7 h7 b8 h8 b9 h9 b17 b18 b20 b23 x0 x1 x3 x4 x5 x6 x7 x8)) (h.dvTo 1280) :=
  acc_mat (back58 h (a_r_20 hb) (a_v hb) (a_v353 hb)) _ (a_HS6_5 hb) (fun j d hj => by rw [h.dvTo_of_le d hj, h.dvTo_of_le d (by omega)])

theorem a_v458 : Mat (sl.v458 c b1 h1 b2 h2 b4 h4 b5 h5 b6 h6 b7 h7 b8 h8 b9 h9 b17 b18 b20 b23 x0 x1 x3 x4 x5 x6 x7 x8) (h.dvTo 1280) :=
  rc_mat0 _ (a_HS6_6 hb) _

theorem a_HS6_7 : Mat (View.canon (sl.HS6_7 c b1 h1 b2 h2 b4 h4 b5 h5 b6 h6 b7 h7 b8 h8 b9 h9 b17 b18 b20 b23 x0 x1 x3 x4 x5 x6 x7 x8)) (h.dvTo 1536) :=
  acc_mat (back68 h (a_r_22 hb) (a_v458 hb) (a_v421 hb)) _ (a_HS6_6 hb) (fun j d hj => by rw [h.dvTo_of_le d hj, h.dvTo_of_le d (by omega)])

theorem a_v526 : Mat (sl.v526 c b1 h1 b2 h2 b4 h4 b5 h5 b6 h6 b7 h7 b8 h8 b9 h9 b17 b18 b20 b23 x0 x1 x3 x4 x5 x6 x7 x8) (h.dvTo 1536) :=
  rc_mat0 _ (a_HS6_7 hb) _

theorem a_HS6_8 : Mat (View.canon (sl.HS6_8 c b1 h1 b2 h2 b4 h4 b5 h5 b6 h6 b7 h7 b8 h8 b9 h9 b17 b18 b20 b23 x0 x1 x3 x4 x5 x6 x7 x8)) (h.dvTo 1792) :=
  acc_mat (back76 h (a_r_25 hb) (a_v526 hb) (a_v489 hb)) _ (a_HS6_7 hb) (fun j d hj => by rw [h.dvTo_of_le d hj, h.dvTo_of_le d (by omega)])

theorem a_r_28 : Mat (sl.r_28 c b1 h1 b2 h2 b4 h4 b5 h5 b6 h6 b8 h8 b9 h9 b17 b18 x0 x1 x3 x4 x5 x7 x8) (fun r j => h.p (1792 + r) j) :=
  back79 h rfl (a_r_27 hb)

theorem a_v594 : Mat (sl.v594 c b1 h1 b2 h2 b4 h4 b5 h5 b6 h6 b7 h7 b8 h8 b9 h9 b17 b18 b20 b23 x0 x1 x3 x4 x5 x6 x7 x8) (h.dvTo 1792) :=
  rc_mat0 _ (a_HS6_8 hb) _

theorem a_HS6_9 : Mat (View.canon (sl.HS6_9 c b1 h1 b2 h2 b4 h4 b5 h5 b6 h6 b7 h7 b8 h8 b9 h9 b17 b18 b20 b23 x0 x1 x3 x4 x5 x6 x7 x8)) (h.dvTo 2048) :=
  acc_mat (back86 h (a_r_28 hb) (a_v594 hb) (a_v557 hb)) _ (a_HS6_8 hb) (fun j d hj => by rw [h.dvTo_of_le d hj, h.dvTo_of_le d (by omega)])

theorem a_r : Mat (sl.r c b1 h1 x0) h.q :=
  ld_whole h1 hb.m0 _

theorem a_r_1 : Mat (sl.r_1 c b2 h2 x1) h.k :=
  ld_whole h2 hb.m1 _

theorem a_r_18 : Mat (sl.r_18 c b1 h1 b2 h2 b3 h3 b4 h4 b5 h5 b6 h6 b7 h7 b8 h8 b9 h9 b17 b18 b19 b20 x0 x1 x2 x3 x4 x5 x6 x7 x8) (fun r _ => h.rowSum (768 + r)) :=
  back42 h (a_v262 hb) (a_v263 hb) (ld_col h4 hb.c3 _) (ld_row h5 hb.r4 _) (ld_col h6 hb.l5 _) (a_v285 hb) (a_v286 hb)

theorem a_r_2 : Mat (sl.r_2 c b1 h1 x0) (fun r _ => rn h.q r) :=
  back2 h (ld_whole h1 hb.m0 _)

theorem a_r_3 : Mat (sl.r_3 c b2 h2 x1) (fun r _ => rn h.k r) :=
  back3 h (ld_whole h2 hb.m1 _)

theorem a_r_30 : Mat (sl.r_30 c b1 h1 x0) (fun r d => h.q r d * rn h.q r) :=
  back90 h (a_r hb) (a_r_2 hb)

theorem a_v610 : Mat (sl.v610 c b1 h1 b2 h2 b3 h3 b4 h4 b5 h5 b6 h6 b7 h7 b8 h8 b9 h9 b17 b18 b19 b20 b21 x0 x1 x2 x3 x4 x5 x6 x7 x8) h.dqs :=
  rc_mat0 _ (a_HS4_8 hb) _

theorem a_r_31 : Mat (sl.r_31 c b1 h1 b2 h2 b3 h3 b4 h4 b5 h5 b6 h6 b7 h7 b8 h8 b9 h9 b17 b18 b19 b20 b21 x0 x1 x2 x3 x4 x5 x6 x7 x8) h.gq :=
  back91 h (a_v610 hb)

omit hb in
theorem a_v613 : Mat (sl.v613 (F := Ideal) c b15) (fun _ d => (fun _ => 0 : ℕ → ℝ) d) :=
  rc_mat0 _ (a_H14_1) _

theorem a_r_32 : Mat (sl.r_32 (F := Ideal) c b15) (fun _ d => (fun _ => 0 : ℕ → ℝ) d) :=
  back92 _ a_v613

theorem a_r_33 : Lst (sl.r_33 c b1 h1 b2 h2 b3 h3 b4 h4 b5 h5 b6 h6 b7 h7 b8 h8 b9 h9 b17 b18 b19 b20 b21 x0 x1 x2 x3 x4 x5 x6 x7 x8) h.outQg :=
  back93 h (a_r hb) (a_r_2 hb) (a_v610 hb)

theorem a_v637 : Mat (sl.v637 c b1 h1 b2 h2 b3 h3 b4 h4 b5 h5 b6 h6 b7 h7 b8 h8 b9 h9 b17 b18 b19 b20 b22 x0 x1 x2 x3 x4 x5 x6 x7 x8) (h.dknTo 2048) :=
  rc_mat0 _ (a_HS5_9 hb) _

theorem a_r_34 : Mat (sl.r_34 c b1 h1 b2 h2 b3 h3 b4 h4 b5 h5 b6 h6 b7 h7 b8 h8 b9 h9 b17 b18 b19 b20 b22 x0 x1 x2 x3 x4 x5 x6 x7 x8) (fun r d => h.dknTo 2048 r d * h.kg d) :=
  back98 h (a_v637 hb) (ld_whole h9 hb.g8 _)

theorem a_r_35 : Mat (sl.r_35 c b1 h1 b2 h2 b3 h3 b4 h4 b5 h5 b6 h6 b7 h7 b8 h8 b9 h9 b17 b18 b19 b20 b22 x0 x1 x2 x3 x4 x5 x6 x7 x8) (fun r d => h.k r d * rn h.k r * ((∑ e ∈ range 128, h.dknTo 2048 r e * h.kg e * (h.k r e * rn h.k r)) / 128)) :=
  back99 h (a_r_1 hb) (a_r_3 hb) (a_v637 hb) (ld_whole h9 hb.g8 _)

theorem a_v571 : Row3 (sl.v571 c b1 h1 b2 h2 b3 h3 b4 h4 b5 h5 b6 h6 b7 h7 b8 h8 b9 h9 b14 b17 b18 b19 b20 x0 x1 x2 x3 x4 x5 x6 x7 x8) (fun j => -h.colSumTo 1792 j) :=
  rc_row _ (a_H13_8 hb) _

theorem a_v602 : Mat (sl.v602 c b1 h1 b2 h2 b4 h4 b5 h5 b6 h6 b7 h7 b8 h8 b9 h9 b17 b18 b20 b23 x0 x1 x3 x4 x5 x6 x7 x8) (h.dvTo 2048) :=
  rc_mat0 _ (a_HS6_9 hb) _

omit hb in
theorem a_v638 : Mat (sl.v638 (F := Ideal) c b16) (fun _ d => (fun _ => 0 : ℕ → ℝ) d) :=
  rc_mat0 _ (a_H15_1) _

theorem a_out_9 : Mat (out1_A_9 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8) h.outQ := by
  unfold out1_A_9
  rw [View.read_writes_junk_eq_canon]
  unfold kernelRun1_A; dsimp only
  exact st_half (back95 h (a_r_2 hb) (a_r_30 hb) (a_r_31 hb) (ld_whole h8 hb.g7 _)) _ []

theorem a_out_10 : Mat (out1_A_10 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8) h.outK := by
  unfold out1_A_10
  rw [View.read_writes_junk_eq_canon]
  unfold kernelRun1_A; dsimp only
  exact st_half (back1 h (a_r_3 hb) (a_r_34 hb) (a_r_35 hb)) _ []

theorem a_out_11 : Mat (out1_A_11 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8) (h.dvTo 2048) := by
  unfold out1_A_11
  rw [View.read_writes_junk_eq_canon]
  unfold kernelRun1_A; dsimp only
  exact st_half (back87 h (a_v602 hb)) _ []

theorem a_out_12 : Col3 (out1_A_12 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8) h.rowSum := by
  unfold out1_A_12
  rw [View.read_writes_junk_eq_canon]
  unfold kernelRun1_A; dsimp only
  exact (Col3To.cons (Col3To.cons (Col3To.cons (Col3To.cons (Col3To.cons (Col3To.cons (Col3To.cons (Col3To.cons (col3To_zero _ _) (fun r => by simpa only [Nat.zero_add] using (back14 h (a_r_4 hb) (ld_row h5 hb.r4 _) (ld_col0 h6 hb.l5 _) (a_v81 hb) (a_v82 hb)) r) (n := 256) rfl _) (back24 h (a_r_8 hb) (ld_col h4 hb.c3 _) (ld_row h5 hb.r4 _) (ld_col h6 hb.l5 _) (a_v149 hb) (a_v150 hb)) (n := 512) rfl _) (back34 h (a_v194 hb) (a_v195 hb) (ld_col h4 hb.c3 _) (ld_row h5 hb.r4 _) (ld_col h6 hb.l5 _) (a_v217 hb) (a_v218 hb)) (n := 768) rfl _) (back43 h (a_r_18 hb)) (n := 1024) rfl _) (back53 h (a_r_20 hb) (a_r_21 hb)) (n := 1280) rfl _) (back62 h (a_r_22 hb) (a_r_23 hb)) (n := 1536) rfl _) (back71 h (a_r_25 hb) (a_v489 hb) (a_v490 hb)) (n := 1792) rfl _) (back81 h rfl (a_r_27 hb) (a_v557 hb) (a_v558 hb)) (n := 2048) rfl _).col

theorem a_out_13 : Row3 (out1_A_13 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8) (fun j => -h.colSumTo 2048 j) := by
  unfold out1_A_13
  rw [View.read_writes_junk_eq_canon]
  unfold kernelRun1_A; dsimp only
  exact st_row (back82 h rfl (a_r_27 hb) (a_v557 hb) (a_v558 hb) (a_v571 hb)) _ _

theorem a_out_14 : Mat (out1_A_14 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8) (fun _ d => (fun _ => 0 : ℕ → ℝ) d + h.outQg d) := by
  unfold out1_A_14
  rw [View.read_writes_junk_eq_canon]
  unfold kernelRun1_A; dsimp only
  exact st_mat (back94 h _ (a_r_32 hb) (a_r_33 hb)) _ _

theorem a_out_15 : Mat (out1_A_15 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8) (fun _ d => (fun _ => 0 : ℕ → ℝ) d + h.outKg d) := by
  unfold out1_A_15
  rw [View.read_writes_junk_eq_canon]
  unfold kernelRun1_A; dsimp only
  exact st_mat (back97 h _ (a_r_1 hb) (a_r_3 hb) (a_v637 hb) (a_v638)) _ _

end Cert.KernelIdeal.Gen

end
-- ==== Proof.FlowB.lean ====
/- What each value of the backward call's run holds, at a point that continues the sums of the gains' gradients. -/
module

public import proofs.«01_k».proof.Proof.Gen.KernelIdeal.Frame.Region1
public import proofs.«01_k».proof.Proof.BackB
public import proofs.«01_k».proof.Proof.FlowA

@[expose] public section

set_option maxRecDepth 16384

noncomputable section

namespace Cert.KernelIdeal.Gen

open Idealize.ShloMosaic Idealize.ShloMosaic.TcCoe Idealize.ShloMosaic.Tactic Finset Cert.Attn

variable {h : Head} {c : Dev nD} {i : grid1.Coords}
  {b1 : Memref sig .tc .vmem S2048x128 .f32} {h1 : b1.IsWhole} {b2 : Memref sig .tc .vmem S2048x128 .f32} {h2 : b2.IsWhole} {b3 : Memref sig .tc .vmem S2048x128 .f32} {h3 : b3.IsWhole} {b4 : Memref sig .tc .vmem S1x2048x1 .f32} {h4 : b4.IsWhole} {b5 : Memref sig .tc .vmem S1x1x2048 .f32} {h5 : b5.IsWhole} {b6 : Memref sig .tc .vmem S1x2048x1 .f32} {h6 : b6.IsWhole} {b7 : Memref sig .tc .vmem S2048x128 .f32} {h7 : b7.IsWhole} {b8 : Memref sig .tc .vmem S1x128 .f32} {h8 : b8.IsWhole} {b9 : Memref sig .tc .vmem S1x128 .f32} {h9 : b9.IsWhole} {b10 : Memref sig .tc .vmem S2048x128 .bf16} {h10 : b10.IsWhole} {b11 : Memref sig .tc .vmem S2048x128 .bf16} {h11 : b11.IsWhole} {b12 : Memref sig .tc .vmem S2048x128 .bf16} {h12 : b12.IsWhole} {b13 : Memref sig .tc .vmem S1x2048x1 .f32} {h13 : b13.IsWhole} {b14 : Memref sig .tc .vmem S1x1x2048 .f32} {h14 : b14.IsWhole} {b15 : Memref sig .tc .vmem S1x128 .f32} {h15 : b15.IsWhole} {b16 : Memref sig .tc .vmem S1x128 .f32} {h16 : b16.IsWhole} {b17 : Memref sig .tc .vmem S2048x128 .bf16} {h17 : b17.IsWhole} {b18 : Memref sig .tc .vmem S2048x128 .bf16} {h18 : b18.IsWhole} {b19 : Memref sig .tc .vmem S2048x128 .bf16} {h19 : b19.IsWhole} {b20 : Memref sig .tc .vmem S2048x128 .bf16} {h20 : b20.IsWhole} {b21 : Memref sig .tc .vmem S2048x128 .f32} {h21 : b21.IsWhole} {b22 : Memref sig .tc .vmem S2048x128 .f32} {h22 : b22.IsWhole} {b23 : Memref sig .tc .vmem S2048x128 .f32} {h23 : b23.IsWhole}
  {x0 x1 x2 : Vec Ideal S2048x128 .f32} {x3 : Vec Ideal S1x2048x1 .f32} {x4 : Vec Ideal S1x1x2048 .f32} {x5 : Vec Ideal S1x2048x1 .f32}
  {x6 : Vec Ideal S2048x128 .f32} {x7 x8 : Vec Ideal S1x128 .f32} {hc0 : ¬cond1_0 i} {xo14 xo15 : Vec Ideal S1x128 .f32}

theorem b_r_32 {u : ℕ → ℝ} (ho : Mat xo14 (fun _ d => u d)) : Mat (kernelRun1_B.sl.r_32 c b15 h15 xo14) (fun _ d => u d) := by
  unfold kernelRun1_B.sl.r_32
  exact back92 _ (ld_whole h15 ho _)

variable (hb : Ins h x0 x1 x2 x3 x4 x5 x6 x7 x8)
include hb

theorem b_out_9 : Mat (out1_B_9 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8 xo14 xo15) h.outQ := by
  unfold out1_B_9
  rw [View.read_writes_junk_eq_canon]
  unfold kernelRun1_B; dsimp only
  exact st_half (back95 h (a_r_2 hb) (a_r_30 hb) (a_r_31 hb) (ld_whole h8 hb.g7 _)) _ []

theorem b_out_10 : Mat (out1_B_10 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8 xo14 xo15) h.outK := by
  unfold out1_B_10
  rw [View.read_writes_junk_eq_canon]
  unfold kernelRun1_B; dsimp only
  exact st_half (back1 h (a_r_3 hb) (a_r_34 hb) (a_r_35 hb)) _ []

theorem b_out_11 : Mat (out1_B_11 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8 xo14 xo15) (h.dvTo 2048) := by
  unfold out1_B_11
  rw [View.read_writes_junk_eq_canon]
  unfold kernelRun1_B; dsimp only
  exact st_half (back87 h (a_v602 hb)) _ []

theorem b_out_12 : Col3 (out1_B_12 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8 xo14 xo15) h.rowSum := by
  unfold out1_B_12
  rw [View.read_writes_junk_eq_canon]
  unfold kernelRun1_B; dsimp only
  exact (Col3To.cons (Col3To.cons (Col3To.cons (Col3To.cons (Col3To.cons (Col3To.cons (Col3To.cons (Col3To.cons (col3To_zero _ _) (fun r => Eq.trans (back14 h (a_r_4 hb) (ld_row h5 hb.r4 _) (ld_col0 h6 hb.l5 _) (a_v81 hb) (a_v82 hb) r) (by simp only [Nat.zero_add])) (n := 256) rfl _) (back24 h (a_r_8 hb) (ld_col h4 hb.c3 _) (ld_row h5 hb.r4 _) (ld_col h6 hb.l5 _) (a_v149 hb) (a_v150 hb)) (n := 512) rfl _) (back34 h (a_v194 hb) (a_v195 hb) (ld_col h4 hb.c3 _) (ld_row h5 hb.r4 _) (ld_col h6 hb.l5 _) (a_v217 hb) (a_v218 hb)) (n := 768) rfl _) (back43 h (a_r_18 hb)) (n := 1024) rfl _) (back53 h (a_r_20 hb) (a_r_21 hb)) (n := 1280) rfl _) (back62 h (a_r_22 hb) (a_r_23 hb)) (n := 1536) rfl _) (back71 h (a_r_25 hb) (a_v489 hb) (a_v490 hb)) (n := 1792) rfl _) (back81 h rfl (a_r_27 hb) (a_v557 hb) (a_v558 hb)) (n := 2048) rfl _).col

theorem b_out_13 : Row3 (out1_B_13 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8 xo14 xo15) (fun j => -h.colSumTo 2048 j) := by
  unfold out1_B_13
  rw [View.read_writes_junk_eq_canon]
  unfold kernelRun1_B; dsimp only
  exact st_row (back82 h rfl (a_r_27 hb) (a_v557 hb) (a_v558 hb) (a_v571 hb)) _ _

theorem b_out_14 {u : ℕ → ℝ} (ho : Mat xo14 (fun _ d => u d)) : Mat (out1_B_14 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8 xo14 xo15) (fun _ d => u d + h.outQg d) := by
  unfold out1_B_14
  rw [View.read_writes_junk_eq_canon]
  unfold kernelRun1_B; dsimp only
  exact st_mat (back94 h _ (b_r_32 ho) (a_r_33 hb)) _ _

theorem b_out_15 {u : ℕ → ℝ} (ho : Mat xo15 (fun _ d => u d)) : Mat (out1_B_15 c i b1 h1 b2 h2 b3 h3 b4 h4 b5 h5 b6 h6 b7 h7 b8 h8 b9 h9 b10 h10 b11 h11 b12 h12 b13 h13 b14 h14 b15 h15 b16 h16 b17 h17 b18 h18 b19 h19 b20 h20 b21 h21 b22 h22 b23 h23 hc0 x0 x1 x2 x3 x4 x5 x6 x7 x8 xo14 xo15) (fun _ d => u d + h.outKg d) := by
  unfold out1_B_15
  rw [View.read_writes_junk_eq_canon]
  unfold kernelRun1_B; dsimp only
  exact st_mat (back97 h _ (a_r_1 hb) (a_r_3 hb) (a_v637 hb) (ld_whole h16 ho _)) _ _

end Cert.KernelIdeal.Gen

end
-- ==== Proof.BlocksBack.lean ====
/- The second kernel call: the blocks a grid point reads, as one head of the arrays, and its seven result arrays at the end. -/
module

public import proofs.«01_k».proof.Proof.FlowA
public import proofs.«01_k».proof.Proof.FlowB
public import proofs.«01_k».proof.Proof.Heads
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Finset Cert.Attn

theorem ix1_0 : ∀ t : Fin grid1.N, win1_0.index t 0 = 0 ∧ win1_0.index t 1 = t.val := by decide +kernel
theorem ix1_1 : ∀ t : Fin grid1.N, win1_1.index t 0 = 0 ∧ win1_1.index t 1 = 8 + t.val := by decide +kernel
theorem ix1_2 : ∀ t : Fin grid1.N, win1_2.index t 0 = 0 ∧ win1_2.index t 1 = 16 + t.val := by decide +kernel
theorem ix1_3 : ∀ t : Fin grid1.N, win1_3.index t 0 = t.val ∧ win1_3.index t 1 = 0 ∧ win1_3.index t 2 = 0 := by decide +kernel
theorem ix1_4 : ∀ t : Fin grid1.N, win1_4.index t 0 = t.val ∧ win1_4.index t 1 = 0 ∧ win1_4.index t 2 = 0 := by decide +kernel
theorem ix1_5 : ∀ t : Fin grid1.N, win1_5.index t 0 = t.val ∧ win1_5.index t 1 = 0 ∧ win1_5.index t 2 = 0 := by decide +kernel
theorem ix1_6 : ∀ t : Fin grid1.N, win1_6.index t 0 = 0 ∧ win1_6.index t 1 = t.val := by decide +kernel
theorem ix1_7 : ∀ t : Fin grid1.N, win1_7.index t 0 = 0 ∧ win1_7.index t 1 = 0 := by decide +kernel
theorem ix1_8 : ∀ t : Fin grid1.N, win1_8.index t 0 = 0 ∧ win1_8.index t 1 = 0 := by decide +kernel
theorem ix1_9 : ∀ t : Fin grid1.N, win1_9.index t 0 = 0 ∧ win1_9.index t 1 = t.val := by decide +kernel
theorem ix1_10 : ∀ t : Fin grid1.N, win1_10.index t 0 = 0 ∧ win1_10.index t 1 = t.val := by decide +kernel
theorem ix1_11 : ∀ t : Fin grid1.N, win1_11.index t 0 = 0 ∧ win1_11.index t 1 = t.val := by decide +kernel
theorem ix1_12 : ∀ t : Fin grid1.N, win1_12.index t 0 = t.val ∧ win1_12.index t 1 = 0 ∧ win1_12.index t 2 = 0 := by decide +kernel
theorem ix1_13 : ∀ t : Fin grid1.N, win1_13.index t 0 = t.val ∧ win1_13.index t 1 = 0 ∧ win1_13.index t 2 = 0 := by decide +kernel

section
variable (V : (c : Dev nD) → (b : Ref sig .tc) → Buf (Elt Ideal) ((c : Thread nD τ).loc b)) (c : Dev nD)
variable (P C D : ℕ → ℕ → ℝ) (G K : ℕ → ℝ)

/-- The column that an element of head `n`'s block has in the whole array. -/
theorem head_col (f : ℕ → ℕ → ℕ → ℝ) {n r l r' e : ℕ} (hl : l < 128) (hr : r' = r) (he : e = 128 * n + l) :
    ((f n r l : ℝ) : EReal) = ((f (e / 128) r' (e % 128) : ℝ) : EReal) := by
  rw [hr, he, show (128 * n + l) / 128 = n by omega, show (128 * n + l) % 128 = l by omega]

theorem arr1_9 (f : ℕ → ℕ → ℕ → ℝ) (hf : ∀ t : Fin cfg1.N, Mat (m := 2048) (n := 128) (outsAt1 V c t.val t.isLt).1 (f t.val)) :
    (dat1 V c).arrAt 9 cfg1.N = fun i => ((f ((i 1 : Fin 1024).val / 128) (i 0 : Fin 2048).val ((i 1 : Fin 1024).val % 128) : ℝ) : EReal) := by
  refine (dat1 V c).arrAt_eq_of_covers 9 _ (by decide +kernel) fun t _ y => ?_
  rw [after1_9]
  exact ((hf t).at y).trans (head_col f (r' := ((win1_9.blk t).view.emb y 0 : Fin 2048).val) (e := ((win1_9.blk t).view.emb y 1 : Fin 1024).val)
    (y 1 : Fin 128).isLt (by blk_simp [(ix1_9 t).1]; try simp) (by blk_simp [(ix1_9 t).2]; try simp; try omega))

theorem arr1_10 (f : ℕ → ℕ → ℕ → ℝ) (hf : ∀ t : Fin cfg1.N, Mat (m := 2048) (n := 128) (outsAt1 V c t.val t.isLt).2.1 (f t.val)) :
    (dat1 V c).arrAt 10 cfg1.N = fun i => ((f ((i 1 : Fin 1024).val / 128) (i 0 : Fin 2048).val ((i 1 : Fin 1024).val % 128) : ℝ) : EReal) := by
  refine (dat1 V c).arrAt_eq_of_covers 10 _ (by decide +kernel) fun t _ y => ?_
  rw [after1_10]
  exact ((hf t).at y).trans (head_col f (r' := ((win1_10.blk t).view.emb y 0 : Fin 2048).val) (e := ((win1_10.blk t).view.emb y 1 : Fin 1024).val)
    (y 1 : Fin 128).isLt (by blk_simp [(ix1_10 t).1]; try simp) (by blk_simp [(ix1_10 t).2]; try simp; try omega))

theorem arr1_11 (f : ℕ → ℕ → ℕ → ℝ) (hf : ∀ t : Fin cfg1.N, Mat (m := 2048) (n := 128) (outsAt1 V c t.val t.isLt).2.2.1 (f t.val)) :
    (dat1 V c).arrAt 11 cfg1.N = fun i => ((f ((i 1 : Fin 1024).val / 128) (i 0 : Fin 2048).val ((i 1 : Fin 1024).val % 128) : ℝ) : EReal) := by
  refine (dat1 V c).arrAt_eq_of_covers 11 _ (by decide +kernel) fun t _ y => ?_
  rw [after1_11]
  exact ((hf t).at y).trans (head_col f (r' := ((win1_11.blk t).view.emb y 0 : Fin 2048).val) (e := ((win1_11.blk t).view.emb y 1 : Fin 1024).val)
    (y 1 : Fin 128).isLt (by blk_simp [(ix1_11 t).1]; try simp) (by blk_simp [(ix1_11 t).2]; try simp; try omega))

theorem arr1_12 (f : ℕ → ℕ → ℝ) (hf : ∀ t : Fin cfg1.N, Col3 (m := 2048) (outsAt1 V c t.val t.isLt).2.2.2.1 (f t.val)) :
    (dat1 V c).arrAt 12 cfg1.N = fun i => ((f (i 0 : Fin 8).val (i 1 : Fin 2048).val : ℝ) : EReal) := by
  refine (dat1 V c).arrAt_eq_of_covers 12 _ (by decide +kernel) fun t _ y => ?_
  rw [after1_12]
  refine ((hf t).at y).trans ?_
  have hy : (y 0 : Fin 1).val < 1 := (y 0 : Fin 1).isLt
  have e0 : ((win1_12.blk t).view.emb y 0 : Fin 8).val = t.val := by blk_simp [(ix1_12 t).1]; try simp; try omega
  have e1 : ((win1_12.blk t).view.emb y 1 : Fin 2048).val = (y 1 : Fin 2048).val := by blk_simp [(ix1_12 t).2.1]; try simp
  show _ = ((f ((win1_12.blk t).view.emb y 0 : Fin 8).val ((win1_12.blk t).view.emb y 1 : Fin 2048).val : ℝ) : EReal)
  rw [e0, e1]

theorem arr1_13 (f : ℕ → ℕ → ℝ) (hf : ∀ t : Fin cfg1.N, Row3 (n := 2048) (outsAt1 V c t.val t.isLt).2.2.2.2.1 (f t.val)) :
    (dat1 V c).arrAt 13 cfg1.N = fun i => ((f (i 0 : Fin 8).val (i 2 : Fin 2048).val : ℝ) : EReal) := by
  refine (dat1 V c).arrAt_eq_of_covers 13 _ (by decide +kernel) fun t _ y => ?_
  rw [after1_13]
  refine ((hf t).at y).trans ?_
  have hy : (y 0 : Fin 1).val < 1 := (y 0 : Fin 1).isLt
  have e0 : ((win1_13.blk t).view.emb y 0 : Fin 8).val = t.val := by blk_simp [(ix1_13 t).1]; try simp; try omega
  have e1 : ((win1_13.blk t).view.emb y 2 : Fin 2048).val = (y 2 : Fin 2048).val := by blk_simp [(ix1_13 t).2.2]; try simp
  show _ = ((f ((win1_13.blk t).view.emb y 0 : Fin 8).val ((win1_13.blk t).view.emb y 2 : Fin 2048).val : ℝ) : EReal)
  rw [e0, e1]

variable (h0 : ∀ i : S2048x5120.Idx, (i 1 : Fin 5120).val < 3072 → V c main_arg0 i = ((P (i 0 : Fin 2048).val (i 1 : Fin 5120).val : ℝ) : EReal))
variable (hc : ∀ i : S8x2048x1.Idx, V c main_v2 i = ((C (i 1 : Fin 2048).val (i 0 : Fin 8).val : ℝ) : EReal))
variable (hr : ∀ i : S8x1x2048.Idx, V c main_v3 i = ((C (i 2 : Fin 2048).val (i 0 : Fin 8).val : ℝ) : EReal))
variable (hg : ∀ i : S1x128.Idx, V c main_arg3 i = ((G (i 1 : Fin 128).val : ℝ) : EReal))
variable (hk : ∀ i : S1x128.Idx, V c main_arg4 i = ((K (i 1 : Fin 128).val : ℝ) : EReal))
variable (hl : ∀ i : S8x2048x1.Idx, V c main_v4_1 i = (((headOf P C D G K (i 0 : Fin 8).val).lse (i 1 : Fin 2048).val : ℝ) : EReal))
variable (hd : ∀ i : S2048x2048.Idx, (i 1 : Fin 2048).val < 1024 → V c main_arg2 i = ((D (i 0 : Fin 2048).val (i 1 : Fin 2048).val : ℝ) : EReal))

include h0 hc hr hl hd hg hk in
/-- What grid point `t` reads is head `t`. -/
theorem ins1 (t : Fin cfg1.N) : Ins (headOf P C D G K t.val) (iblk1 V c 0 t) (iblk1 V c 1 t) (iblk1 V c 2 t) (iblk1 V c 3 t) (iblk1 V c 4 t) (iblk1 V c 5 t) (iblk1 V c 6 t) (iblk1 V c 7 t) (iblk1 V c 8 t) where
  m0 := by
    intro r l
    have ht : t.val < 8 := t.isLt
    have hl : l.val < 128 := l.isLt
    have e0 : ((win1_0.blk t).view.emb (ix2 r l) 0).val = r.val := by blk_simp [(ix1_0 t).1]; try simp
    have e1 : ((win1_0.blk t).view.emb (ix2 r l) 1).val = 128 * t.val + l.val := by blk_simp [(ix1_0 t).2]; try simp; try omega
    have h := h0 ((win1_0.blk t).view.emb (ix2 r l)) (by rw [e1]; omega)
    rw [e0, e1] at h
    exact h
  m1 := by
    intro r l
    have ht : t.val < 8 := t.isLt
    have hl : l.val < 128 := l.isLt
    have e0 : ((win1_1.blk t).view.emb (ix2 r l) 0).val = r.val := by blk_simp [(ix1_1 t).1]; try simp
    have e1 : ((win1_1.blk t).view.emb (ix2 r l) 1).val = 1024 + 128 * t.val + l.val := by blk_simp [(ix1_1 t).2]; try simp; try omega
    have h := h0 ((win1_1.blk t).view.emb (ix2 r l)) (by rw [e1]; omega)
    rw [e0, e1] at h
    exact h
  m2 := by
    intro r l
    have ht : t.val < 8 := t.isLt
    have hl : l.val < 128 := l.isLt
    have e0 : ((win1_2.blk t).view.emb (ix2 r l) 0).val = r.val := by blk_simp [(ix1_2 t).1]; try simp
    have e1 : ((win1_2.blk t).view.emb (ix2 r l) 1).val = 2048 + 128 * t.val + l.val := by blk_simp [(ix1_2 t).2]; try simp; try omega
    have h := h0 ((win1_2.blk t).view.emb (ix2 r l)) (by rw [e1]; omega)
    rw [e0, e1] at h
    exact h
  c3 := by
    intro r
    have e0 : ((win1_3.blk t).view.emb (ix3 0 r 0) 0).val = t.val := by blk_simp [(ix1_3 t).1]; try simp
    have e1 : ((win1_3.blk t).view.emb (ix3 0 r 0) 1).val = r.val := by blk_simp [(ix1_3 t).2.1]; try simp
    have h := hc ((win1_3.blk t).view.emb (ix3 0 r 0))
    rw [e0, e1] at h
    exact h
  r4 := by
    intro r
    have e0 : ((win1_4.blk t).view.emb (ix3 0 0 r) 0).val = t.val := by blk_simp [(ix1_4 t).1]; try simp
    have e1 : ((win1_4.blk t).view.emb (ix3 0 0 r) 2).val = r.val := by blk_simp [(ix1_4 t).2.2]; try simp
    have h := hr ((win1_4.blk t).view.emb (ix3 0 0 r))
    rw [e0, e1] at h
    exact h
  l5 := by
    intro r
    have e0 : ((win1_5.blk t).view.emb (ix3 0 r 0) 0).val = t.val := by blk_simp [(ix1_5 t).1]; try simp
    have e1 : ((win1_5.blk t).view.emb (ix3 0 r 0) 1).val = r.val := by blk_simp [(ix1_5 t).2.1]; try simp
    have h := hl ((win1_5.blk t).view.emb (ix3 0 r 0))
    rw [e0, e1] at h
    exact h
  m6 := by
    intro r l
    have ht : t.val < 8 := t.isLt
    have hl : l.val < 128 := l.isLt
    have e0 : ((win1_6.blk t).view.emb (ix2 r l) 0).val = r.val := by blk_simp [(ix1_6 t).1]; try simp
    have e1 : ((win1_6.blk t).view.emb (ix2 r l) 1).val = 128 * t.val + l.val := by blk_simp [(ix1_6 t).2]; try simp; try omega
    have h := hd ((win1_6.blk t).view.emb (ix2 r l)) (by rw [e1]; omega)
    rw [e0, e1] at h
    exact h
  g7 := by
    intro r l
    have e1 : ((win1_7.blk t).view.emb (ix2 r l) 1).val = l.val := by blk_simp [(ix1_7 t).2]; try simp
    have h := hg ((win1_7.blk t).view.emb (ix2 r l))
    rw [e1] at h
    exact h
  g8 := by
    intro r l
    have e1 : ((win1_8.blk t).view.emb (ix2 r l) 1).val = l.val := by blk_simp [(ix1_8 t).2]; try simp
    have h := hk ((win1_8.blk t).view.emb (ix2 r l))
    rw [e1] at h
    exact h

include h0 hc hr hl hd hg hk in
theorem pt_9 (t : Fin cfg1.N) : Mat (m := 2048) (n := 128) (outsAt1 V c t.val t.isLt).1 (headOf P C D G K t.val).outQ := by
  have hb := ins1 V c P C D G K h0 hc hr hg hk hl hd t
  by_cases h : t.val % 8 = 0
  · rw [outsAt1_A V c t h]; dsimp only; exact a_out_9 hb
  · rw [outsAt1_B V c t h]; dsimp only; exact b_out_9 hb

include h0 hc hr hl hd hg hk in
theorem arrQ : (dat1 V c).arrAt 9 cfg1.N
    = fun i => (((headOf P C D G K ((i 1 : Fin 1024).val / 128)).outQ (i 0 : Fin 2048).val ((i 1 : Fin 1024).val % 128) : ℝ) : EReal) :=
  arr1_9 V c (fun a => (headOf P C D G K a).outQ) fun t => pt_9 V c P C D G K h0 hc hr hg hk hl hd t

include h0 hc hr hl hd hg hk in
theorem pt_10 (t : Fin cfg1.N) : Mat (m := 2048) (n := 128) (outsAt1 V c t.val t.isLt).2.1 (headOf P C D G K t.val).outK := by
  have hb := ins1 V c P C D G K h0 hc hr hg hk hl hd t
  by_cases h : t.val % 8 = 0
  · rw [outsAt1_A V c t h]; dsimp only; exact a_out_10 hb
  · rw [outsAt1_B V c t h]; dsimp only; exact b_out_10 hb

include h0 hc hr hl hd hg hk in
theorem arrK : (dat1 V c).arrAt 10 cfg1.N
    = fun i => (((headOf P C D G K ((i 1 : Fin 1024).val / 128)).outK (i 0 : Fin 2048).val ((i 1 : Fin 1024).val % 128) : ℝ) : EReal) :=
  arr1_10 V c (fun a => (headOf P C D G K a).outK) fun t => pt_10 V c P C D G K h0 hc hr hg hk hl hd t

include h0 hc hr hl hd hg hk in
theorem pt_11 (t : Fin cfg1.N) : Mat (m := 2048) (n := 128) (outsAt1 V c t.val t.isLt).2.2.1 ((headOf P C D G K t.val).dvTo 2048) := by
  have hb := ins1 V c P C D G K h0 hc hr hg hk hl hd t
  by_cases h : t.val % 8 = 0
  · rw [outsAt1_A V c t h]; dsimp only; exact a_out_11 hb
  · rw [outsAt1_B V c t h]; dsimp only; exact b_out_11 hb

include h0 hc hr hl hd hg hk in
theorem arrV : (dat1 V c).arrAt 11 cfg1.N
    = fun i => ((((headOf P C D G K ((i 1 : Fin 1024).val / 128)).dvTo 2048) (i 0 : Fin 2048).val ((i 1 : Fin 1024).val % 128) : ℝ) : EReal) :=
  arr1_11 V c (fun a => ((headOf P C D G K a).dvTo 2048)) fun t => pt_11 V c P C D G K h0 hc hr hg hk hl hd t

include h0 hc hr hl hd hg hk in
theorem pt_12 (t : Fin cfg1.N) : Col3 (m := 2048) (outsAt1 V c t.val t.isLt).2.2.2.1 (headOf P C D G K t.val).rowSum := by
  have hb := ins1 V c P C D G K h0 hc hr hg hk hl hd t
  by_cases h : t.val % 8 = 0
  · rw [outsAt1_A V c t h]; dsimp only; exact a_out_12 hb
  · rw [outsAt1_B V c t h]; dsimp only; exact b_out_12 hb

include h0 hc hr hl hd hg hk in
theorem arrRow : (dat1 V c).arrAt 12 cfg1.N
    = fun i => (((headOf P C D G K (i 0 : Fin 8).val).rowSum (i 1 : Fin 2048).val : ℝ) : EReal) :=
  arr1_12 V c (fun a => (headOf P C D G K a).rowSum) fun t => pt_12 V c P C D G K h0 hc hr hg hk hl hd t

include h0 hc hr hl hd hg hk in
theorem pt_13 (t : Fin cfg1.N) : Row3 (n := 2048) (outsAt1 V c t.val t.isLt).2.2.2.2.1 (fun j => -(headOf P C D G K t.val).colSumTo 2048 j) := by
  have hb := ins1 V c P C D G K h0 hc hr hg hk hl hd t
  by_cases h : t.val % 8 = 0
  · rw [outsAt1_A V c t h]; dsimp only; exact a_out_13 hb
  · rw [outsAt1_B V c t h]; dsimp only; exact b_out_13 hb

include h0 hc hr hl hd hg hk in
theorem arrCol : (dat1 V c).arrAt 13 cfg1.N
    = fun i => (((fun j => -(headOf P C D G K (i 0 : Fin 8).val).colSumTo 2048 j) (i 2 : Fin 2048).val : ℝ) : EReal) :=
  arr1_13 V c (fun a => (fun j => -(headOf P C D G K a).colSumTo 2048 j)) fun t => pt_13 V c P C D G K h0 hc hr hg hk hl hd t

include h0 hc hr hl hd hg hk in
/-- The gain's gradient summed over the heads so far. -/
theorem pt_14 (n : ℕ) : ∀ hn : n < cfg1.N, Mat (m := 1) (n := 128) (outsAt1 V c n hn).2.2.2.2.2.1
    (fun _ d => ∑ a ∈ range (n + 1), (headOf P C D G K a).outQg d) := by
  induction n with
  | zero =>
    intro hn
    have hb := ins1 V c P C D G K h0 hc hr hg hk hl hd ⟨0, hn⟩
    have e : Mat (m := 1) (n := 128) (outsAt1 V c 0 hn).2.2.2.2.2.1 (fun _ d => (fun _ => 0 : ℕ → ℝ) d + (headOf P C D G K 0).outQg d) := by
      rw [outsAt1_A V c ⟨0, hn⟩ rfl]; dsimp only; exact a_out_14 hb
    exact fun r l => (e r l).trans (by simp)
  | succ n ih =>
    intro hn
    have h8 : n + 1 < 8 := hn
    have h' : ¬(n + 1) % 8 = 0 := by omega
    have hb := ins1 V c P C D G K h0 hc hr hg hk hl hd ⟨n + 1, hn⟩
    have e : Mat (m := 1) (n := 128) (outsAt1 V c (n + 1) hn).2.2.2.2.2.1
        (fun _ d => (fun d => ∑ a ∈ range (n + 1), (headOf P C D G K a).outQg d) d + (headOf P C D G K (n + 1)).outQg d) := by
      rw [outsAt1_B V c ⟨n + 1, hn⟩ h']; dsimp only; exact b_out_14 hb (ih _)
    exact fun r l => (e r l).trans (congrArg (fun x : ℝ => (x : EReal)) (sum_range_succ (fun a => (headOf P C D G K a).outQg l.val) (n + 1)).symm)

include h0 hc hr hl hd hg hk in
theorem arrQg : (dat1 V c).arrAt 14 cfg1.N
    = fun i => ((∑ a ∈ range 8, (headOf P C D G K a).outQg (i 1 : Fin 128).val : ℝ) : EReal) := by
  refine (dat1 V c).arrAt_eq_of_after_last 14 (⟨7, by decide⟩ : Fin cfg1.N) (by decide +kernel) _ fun j => ?_
  rw [after1_14]
  exact (pt_14 V c P C D G K h0 hc hr hg hk hl hd 7 (by decide)).at j

include h0 hc hr hl hd hg hk in
/-- The gain's gradient summed over the heads so far. -/
theorem pt_15 (n : ℕ) : ∀ hn : n < cfg1.N, Mat (m := 1) (n := 128) (outsAt1 V c n hn).2.2.2.2.2.2
    (fun _ d => ∑ a ∈ range (n + 1), (headOf P C D G K a).outKg d) := by
  induction n with
  | zero =>
    intro hn
    have hb := ins1 V c P C D G K h0 hc hr hg hk hl hd ⟨0, hn⟩
    have e : Mat (m := 1) (n := 128) (outsAt1 V c 0 hn).2.2.2.2.2.2 (fun _ d => (fun _ => 0 : ℕ → ℝ) d + (headOf P C D G K 0).outKg d) := by
      rw [outsAt1_A V c ⟨0, hn⟩ rfl]; dsimp only; exact a_out_15 hb
    exact fun r l => (e r l).trans (by simp)
  | succ n ih =>
    intro hn
    have h8 : n + 1 < 8 := hn
    have h' : ¬(n + 1) % 8 = 0 := by omega
    have hb := ins1 V c P C D G K h0 hc hr hg hk hl hd ⟨n + 1, hn⟩
    have e : Mat (m := 1) (n := 128) (outsAt1 V c (n + 1) hn).2.2.2.2.2.2
        (fun _ d => (fun d => ∑ a ∈ range (n + 1), (headOf P C D G K a).outKg d) d + (headOf P C D G K (n + 1)).outKg d) := by
      rw [outsAt1_B V c ⟨n + 1, hn⟩ h']; dsimp only; exact b_out_15 hb (ih _)
    exact fun r l => (e r l).trans (congrArg (fun x : ℝ => (x : EReal)) (sum_range_succ (fun a => (headOf P C D G K a).outKg l.val) (n + 1)).symm)

include h0 hc hr hl hd hg hk in
theorem arrKg : (dat1 V c).arrAt 15 cfg1.N
    = fun i => ((∑ a ∈ range 8, (headOf P C D G K a).outKg (i 1 : Fin 128).val : ℝ) : EReal) := by
  refine (dat1 V c).arrAt_eq_of_after_last 15 (⟨7, by decide⟩ : Fin cfg1.N) (by decide +kernel) _ fun j => ?_
  rw [after1_15]
  exact (pt_15 V c P C D G K h0 hc hr hg hk hl hd 7 (by decide)).at j

end

end Cert.KernelIdeal.Gen

end
-- ==== Proof.KernelVal.lean ====
/- What the program of the two kernel calls leaves in its result arrays: the host lines before, between and after the calls
   read at an index, the arrays of each call as the heads' formulas, and the run with these results. -/
module

public import proofs.«01_k».proof.Proof.Gen.KernelIdeal.Frame
public import proofs.«01_k».proof.Proof.BlocksFore
public import proofs.«01_k».proof.Proof.BlocksBack

@[expose] public section

set_option maxRecDepth 16384

noncomputable section

namespace Cert.KernelIdeal.Gen

open Idealize.ShloMosaic Idealize.ShloMosaic.TcCoe Idealize.ShloMosaic.Tactic Finset Cert.Attn

/-! ## The host lines before the first call -/

section
variable (m : (ℓ : Loc nD τ sig) → Buf (Elt Ideal) ℓ) (ρ : Dev nD → PrngReg) (c : Dev nD)

/-- The gate's first eight columns, transposed. -/
def gateT (x : S2048x128.Idx → EReal) : S8x2048.Idx → EReal :=
  transpose S8x2048 [1, 0] (extractStridedSlice S2048x8 ![0, 0] x slices_S2048x128_S2048x8_0_0) transposes_S2048x8_S8x2048_1_0

theorem gateT_at (x : S2048x128.Idx → EReal) (C : ℕ → ℕ → ℝ)
    (hx : ∀ i : S2048x128.Idx, (i 1 : Fin 128).val < 8 → x i = ((C (i 0 : Fin 2048).val (i 1 : Fin 128).val : ℝ) : EReal)) (i : S8x2048.Idx) :
    gateT x i = ((C (i 1 : Fin 2048).val (i 0 : Fin 8).val : ℝ) : EReal) := by
  have hi : (i 0 : Fin 8).val < 8 := (i 0 : Fin 8).isLt
  unfold gateT
  rw [transpose_apply [1, 0] _ transposes_S2048x8_S8x2048_1_0 i (ix2 (i 1 : Fin 2048) (i 0 : Fin 8)) (fun b => by fin_cases b <;> rfl),
    extractStridedSlice_apply ![0, 0] x slices_S2048x128_S2048x8_0_0 _ (ix2 (i 1 : Fin 2048) (⟨(i 0 : Fin 8).val, by omega⟩ : Fin 128))
      (fun a => by fin_cases a <;> simp)]
  exact hx _ hi

theorem V1_v2 : V1 m ρ c main_v2 = shapeCast _ (gateT (m ((c : Thread nD τ).loc main_arg1))) shapeCasts_S8x2048_S8x2048x1 := by
  unfold V1 W1 hostOps0
  after_results_simp
  rfl

theorem V1_v3 : V1 m ρ c main_v3 = shapeCast _ (shapeCast _ (gateT (m ((c : Thread nD τ).loc main_arg1))) shapeCasts_S8x2048_S8x2048x1) shapeCasts_S8x2048x1_S8x1x2048 := by
  unfold V1 W1 hostOps0
  after_results_simp
  rfl

theorem W4_v9 : W4 m ρ c (Proc.devRef .tc main_v9) = transpose S2048x8 [1, 0]
    (addf (F := Ideal) (φ := .f32) (shapeCast _ (W3 m ρ c (Proc.devRef .tc main_v5_3)) shapeCasts_S8x2048x1_S8x2048)
      (shapeCast _ (W3 m ρ c (Proc.devRef .tc main_v5_4)) shapeCasts_S8x1x2048_S8x2048)) transposes_S8x2048_S2048x8_1_0 := by
  unfold W4 hostOps2
  after_results_simp
  rfl

end

/-! ## The results -/

/-- The launch memory's arguments on core `c`: the entries that are read hold the real numbers `P`, `C`, `D`, `G`, `K`. -/
structure Holds (m : (ℓ : Loc nD τ sig) → Buf (Elt Ideal) ℓ) (c : Dev nD) (P C D : ℕ → ℕ → ℝ) (G K : ℕ → ℝ) : Prop where
  a0 : ∀ i : S2048x5120.Idx, (i 1 : Fin 5120).val < 3072 → m ((c : Thread nD τ).loc main_arg0) i = ((P (i 0 : Fin 2048).val (i 1 : Fin 5120).val : ℝ) : EReal)
  a1 : ∀ i : S2048x128.Idx, (i 1 : Fin 128).val < 8 → m ((c : Thread nD τ).loc main_arg1) i = ((C (i 0 : Fin 2048).val (i 1 : Fin 128).val : ℝ) : EReal)
  a2 : ∀ i : S2048x2048.Idx, (i 1 : Fin 2048).val < 1024 → m ((c : Thread nD τ).loc main_arg2) i = ((D (i 0 : Fin 2048).val (i 1 : Fin 2048).val : ℝ) : EReal)
  a3 : ∀ i : S1x128.Idx, m ((c : Thread nD τ).loc main_arg3) i = ((G (i 1 : Fin 128).val : ℝ) : EReal)
  a4 : ∀ i : S1x128.Idx, m ((c : Thread nD τ).loc main_arg4) i = ((K (i 1 : Fin 128).val : ℝ) : EReal)

section
variable {m : (ℓ : Loc nD τ sig) → Buf (Elt Ideal) ℓ} {ρ : Dev nD → PrngReg} {c : Dev nD} {P C D : ℕ → ℕ → ℝ} {G K : ℕ → ℝ}

variable (hm : Holds m c P C D G K)
include hm

theorem v2_at (i : S8x2048x1.Idx) : V1 m ρ c main_v2 i = ((C (i 1 : Fin 2048).val (i 0 : Fin 8).val : ℝ) : EReal) := by
  rw [V1_v2]
  have h2 : (i 2 : Fin 1).val < 1 := (i 2 : Fin 1).isLt
  refine (shapeCast_apply _ shapeCasts_S8x2048_S8x2048x1 i (ix2 (i 0 : Fin 8) (i 1 : Fin 2048)) ?_).trans (gateT_at _ C hm.a1 _)
  rw [Shape.rowMajor_val_two, Shape.rowMajor_val_three]
  show (i 0 : Fin 8).val * 2048 + (i 1 : Fin 2048).val = ((i 0 : Fin 8).val * 2048 + (i 1 : Fin 2048).val) * 1 + (i 2 : Fin 1).val
  omega

theorem v3_at (i : S8x1x2048.Idx) : V1 m ρ c main_v3 i = ((C (i 2 : Fin 2048).val (i 0 : Fin 8).val : ℝ) : EReal) := by
  have e : V1 m ρ c main_v3 = shapeCast _ (V1 m ρ c main_v2) shapeCasts_S8x2048x1_S8x1x2048 := (V1_v3 m ρ c).trans (congrArg (fun x => shapeCast _ x shapeCasts_S8x2048x1_S8x1x2048) (V1_v2 m ρ c).symm)
  rw [e]
  have h2 : (i 1 : Fin 1).val < 1 := (i 1 : Fin 1).isLt
  refine (shapeCast_apply _ shapeCasts_S8x2048x1_S8x1x2048 i (ix3 (i 0 : Fin 8) (i 2 : Fin 2048) (0 : Fin 1)) ?_).trans (v2_at hm _)
  rw [Shape.rowMajor_val_three, Shape.rowMajor_val_three]
  show ((i 0 : Fin 8).val * 2048 + (i 2 : Fin 2048).val) * 1 + 0 = ((i 0 : Fin 8).val * 1 + (i 1 : Fin 1).val) * 2048 + (i 2 : Fin 2048).val
  omega

omit hm in
theorem arg_mem : main_arg0 ∈ argRefs ∧ main_arg1 ∈ argRefs ∧ main_arg2 ∈ argRefs ∧ main_arg3 ∈ argRefs ∧ main_arg4 ∈ argRefs := by decide

theorem v1_a0 (i : S2048x5120.Idx) (h : (i 1 : Fin 5120).val < 3072) : V1 m ρ c main_arg0 i = ((P (i 0 : Fin 2048).val (i 1 : Fin 5120).val : ℝ) : EReal) :=
  (congrFun (W1_args m ρ c main_arg0 arg_mem.1) i).trans (hm.a0 i h)
theorem v1_a3 (i : S1x128.Idx) : V1 m ρ c main_arg3 i = ((G (i 1 : Fin 128).val : ℝ) : EReal) :=
  (congrFun (W1_args m ρ c main_arg3 arg_mem.2.2.2.1) i).trans (hm.a3 i)
theorem v1_a4 (i : S1x128.Idx) : V1 m ρ c main_arg4 i = ((K (i 1 : Fin 128).val : ℝ) : EReal) :=
  (congrFun (W1_args m ρ c main_arg4 arg_mem.2.2.2.2) i).trans (hm.a4 i)

theorem w2_o : W2 m ρ c (Proc.devRef .tc main_v4_0)
    = fun i : S2048x1024.Idx => (((headOf P C D G K ((i 1 : Fin 1024).val / 128)).out (i 0 : Fin 2048).val ((i 1 : Fin 1024).val % 128) : ℝ) : EReal) :=
  (W2_arr m ρ c 7).trans (arrO (V1 m ρ) c P C D G K (v1_a0 hm) (v2_at hm) (v3_at hm) (v1_a3 hm) (v1_a4 hm))

theorem w2_l : W2 m ρ c (Proc.devRef .tc main_v4_1)
    = fun i : S8x2048x1.Idx => (((headOf P C D G K (i 0 : Fin 8).val).lse (i 1 : Fin 2048).val : ℝ) : EReal) :=
  (W2_arr m ρ c 8).trans (arrL (V1 m ρ) c P C D G K (v1_a0 hm) (v2_at hm) (v3_at hm) (v1_a3 hm) (v1_a4 hm))

theorem v2_l (i : S8x2048x1.Idx) : V2 m ρ c main_v4_1 i = (((headOf P C D G K (i 0 : Fin 8).val).lse (i 1 : Fin 2048).val : ℝ) : EReal) :=
  congrFun (w2_l hm) i
theorem v2_a0 (i : S2048x5120.Idx) (h : (i 1 : Fin 5120).val < 3072) : V2 m ρ c main_arg0 i = ((P (i 0 : Fin 2048).val (i 1 : Fin 5120).val : ℝ) : EReal) :=
  (congrFun (W2_args m ρ c main_arg0 arg_mem.1) i).trans (hm.a0 i h)
theorem v2_a2 (i : S2048x2048.Idx) (h : (i 1 : Fin 2048).val < 1024) : V2 m ρ c main_arg2 i = ((D (i 0 : Fin 2048).val (i 1 : Fin 2048).val : ℝ) : EReal) :=
  (congrFun (W2_args m ρ c main_arg2 arg_mem.2.2.1) i).trans (hm.a2 i h)
theorem v2_a3 (i : S1x128.Idx) : V2 m ρ c main_arg3 i = ((G (i 1 : Fin 128).val : ℝ) : EReal) :=
  (congrFun (W2_args m ρ c main_arg3 arg_mem.2.2.2.1) i).trans (hm.a3 i)
theorem v2_a4 (i : S1x128.Idx) : V2 m ρ c main_arg4 i = ((K (i 1 : Fin 128).val : ℝ) : EReal) :=
  (congrFun (W2_args m ρ c main_arg4 arg_mem.2.2.2.2) i).trans (hm.a4 i)
theorem v2_v2 (i : S8x2048x1.Idx) : V2 m ρ c main_v2 i = ((C (i 1 : Fin 2048).val (i 0 : Fin 8).val : ℝ) : EReal) :=
  (congrFun (W2_of m ρ c main_v2 (by decide)) i).trans (v2_at hm i)
theorem v2_v3 (i : S8x1x2048.Idx) : V2 m ρ c main_v3 i = ((C (i 2 : Fin 2048).val (i 0 : Fin 8).val : ℝ) : EReal) :=
  (congrFun (W2_of m ρ c main_v3 (by decide)) i).trans (v3_at hm i)

theorem w3_Q : W3 m ρ c (Proc.devRef .tc main_v5_0) = fun i : S2048x1024.Idx => (((headOf P C D G K ((i 1 : Fin 1024).val / 128)).outQ (i 0 : Fin 2048).val ((i 1 : Fin 1024).val % 128) : ℝ) : EReal) :=
  (W3_arr m ρ c 9).trans (arrQ (V2 m ρ) c P C D G K (v2_a0 hm) (v2_v2 hm) (v2_v3 hm) (v2_a3 hm) (v2_a4 hm) (v2_l hm) (v2_a2 hm))
theorem w3_K : W3 m ρ c (Proc.devRef .tc main_v5_1) = fun i : S2048x1024.Idx => (((headOf P C D G K ((i 1 : Fin 1024).val / 128)).outK (i 0 : Fin 2048).val ((i 1 : Fin 1024).val % 128) : ℝ) : EReal) :=
  (W3_arr m ρ c 10).trans (arrK (V2 m ρ) c P C D G K (v2_a0 hm) (v2_v2 hm) (v2_v3 hm) (v2_a3 hm) (v2_a4 hm) (v2_l hm) (v2_a2 hm))
theorem w3_V : W3 m ρ c (Proc.devRef .tc main_v5_2) = fun i : S2048x1024.Idx => (((headOf P C D G K ((i 1 : Fin 1024).val / 128)).dvTo 2048 (i 0 : Fin 2048).val ((i 1 : Fin 1024).val % 128) : ℝ) : EReal) :=
  (W3_arr m ρ c 11).trans (arrV (V2 m ρ) c P C D G K (v2_a0 hm) (v2_v2 hm) (v2_v3 hm) (v2_a3 hm) (v2_a4 hm) (v2_l hm) (v2_a2 hm))
theorem w3_Row : W3 m ρ c (Proc.devRef .tc main_v5_3) = fun i : S8x2048x1.Idx => (((headOf P C D G K (i 0 : Fin 8).val).rowSum (i 1 : Fin 2048).val : ℝ) : EReal) :=
  (W3_arr m ρ c 12).trans (arrRow (V2 m ρ) c P C D G K (v2_a0 hm) (v2_v2 hm) (v2_v3 hm) (v2_a3 hm) (v2_a4 hm) (v2_l hm) (v2_a2 hm))
theorem w3_Col : W3 m ρ c (Proc.devRef .tc main_v5_4) = fun i : S8x1x2048.Idx => ((-(headOf P C D G K (i 0 : Fin 8).val).colSumTo 2048 (i 2 : Fin 2048).val : ℝ) : EReal) :=
  (W3_arr m ρ c 13).trans (arrCol (V2 m ρ) c P C D G K (v2_a0 hm) (v2_v2 hm) (v2_v3 hm) (v2_a3 hm) (v2_a4 hm) (v2_l hm) (v2_a2 hm))
theorem w3_Qg : W3 m ρ c (Proc.devRef .tc main_v5_5) = fun i : S1x128.Idx => ((∑ a ∈ range 8, (headOf P C D G K a).outQg (i 1 : Fin 128).val : ℝ) : EReal) :=
  (W3_arr m ρ c 14).trans (arrQg (V2 m ρ) c P C D G K (v2_a0 hm) (v2_v2 hm) (v2_v3 hm) (v2_a3 hm) (v2_a4 hm) (v2_l hm) (v2_a2 hm))
theorem w3_Kg : W3 m ρ c (Proc.devRef .tc main_v5_6) = fun i : S1x128.Idx => ((∑ a ∈ range 8, (headOf P C D G K a).outKg (i 1 : Fin 128).val : ℝ) : EReal) :=
  (W3_arr m ρ c 15).trans (arrKg (V2 m ρ) c P C D G K (v2_a0 hm) (v2_v2 hm) (v2_v3 hm) (v2_a3 hm) (v2_a4 hm) (v2_l hm) (v2_a2 hm))

/-- The gradient of the gate: the row sums and the negated column sums put together. -/
theorem w4_c : W4 m ρ c (Proc.devRef .tc main_v9)
    = fun i : S2048x8.Idx => (((headOf P C D G K (i 1 : Fin 8).val).outC (i 0 : Fin 2048).val : ℝ) : EReal) := by
  rw [W4_v9, w3_Row hm, w3_Col hm]
  funext i
  rw [transpose_apply [1, 0] _ transposes_S8x2048_S2048x8_1_0 i (ix2 (i 1 : Fin 8) (i 0 : Fin 2048)) (fun b => by fin_cases b <;> rfl)]
  rw [Head.outC, EReal.coe_add]
  refine congr (congrArg (fun a b : EReal => a + b) ?_) ?_
  · refine shapeCast_apply _ shapeCasts_S8x2048x1_S8x2048 _ (ix3 (i 1 : Fin 8) (i 0 : Fin 2048) (0 : Fin 1)) ?_
    rw [Shape.rowMajor_val_two, Shape.rowMajor_val_three]
    show ((i 1 : Fin 8).val * 2048 + (i 0 : Fin 2048).val) * 1 + 0 = (i 1 : Fin 8).val * 2048 + (i 0 : Fin 2048).val
    omega
  · refine shapeCast_apply _ shapeCasts_S8x1x2048_S8x2048 _ (ix3 (i 1 : Fin 8) (0 : Fin 1) (i 0 : Fin 2048)) ?_
    rw [Shape.rowMajor_val_two, Shape.rowMajor_val_three]
    show ((i 1 : Fin 8).val * 1 + 0) * 2048 + (i 0 : Fin 2048).val = (i 1 : Fin 8).val * 2048 + (i 0 : Fin 2048).val
    omega

theorem w4_q : W4 m ρ c (Proc.devRef .tc main_v5_0) = fun i : S2048x1024.Idx => (((headOf P C D G K ((i 1 : Fin 1024).val / 128)).outQ (i 0 : Fin 2048).val ((i 1 : Fin 1024).val % 128) : ℝ) : EReal) :=
  (W4_of m ρ c main_v5_0 (by decide)).trans (w3_Q hm)
theorem w4_k : W4 m ρ c (Proc.devRef .tc main_v5_1) = fun i : S2048x1024.Idx => (((headOf P C D G K ((i 1 : Fin 1024).val / 128)).outK (i 0 : Fin 2048).val ((i 1 : Fin 1024).val % 128) : ℝ) : EReal) :=
  (W4_of m ρ c main_v5_1 (by decide)).trans (w3_K hm)
theorem w4_v : W4 m ρ c (Proc.devRef .tc main_v5_2) = fun i : S2048x1024.Idx => (((headOf P C D G K ((i 1 : Fin 1024).val / 128)).dvTo 2048 (i 0 : Fin 2048).val ((i 1 : Fin 1024).val % 128) : ℝ) : EReal) :=
  (W4_of m ρ c main_v5_2 (by decide)).trans (w3_V hm)
theorem w4_qg : W4 m ρ c (Proc.devRef .tc main_v5_5) = fun i : S1x128.Idx => ((∑ a ∈ range 8, (headOf P C D G K a).outQg (i 1 : Fin 128).val : ℝ) : EReal) :=
  (W4_of m ρ c main_v5_5 (by decide)).trans (w3_Qg hm)
theorem w4_kg : W4 m ρ c (Proc.devRef .tc main_v5_6) = fun i : S1x128.Idx => ((∑ a ∈ range 8, (headOf P C D G K a).outKg (i 1 : Fin 128).val : ℝ) : EReal) :=
  (W4_of m ρ c main_v5_6 (by decide)).trans (w3_Kg hm)
theorem w4_o : W4 m ρ c (Proc.devRef .tc main_v4_0)
    = fun i : S2048x1024.Idx => (((headOf P C D G K ((i 1 : Fin 1024).val / 128)).out (i 0 : Fin 2048).val ((i 1 : Fin 1024).val % 128) : ℝ) : EReal) :=
  (W4_of m ρ c main_v4_0 (by decide)).trans ((W3_of m ρ c main_v4_0 (by decide)).trans (w2_o hm))

end

end Cert.KernelIdeal.Gen

end
-- ==== Proof.RunEnds.lean ====
/- The end of a run of a program whose kernel calls stand among stretches of host operations: every fair execution leaves
   each unscoped buffer at the contents that the last boundary of the program gives it. -/
module

public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

noncomputable section

namespace Cert.RunEnds

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] {nD : ℕ} {τ : Topo} {sig : RefSig} {Λ₀ : Idealize.SL.Sem.Labels} {P : Type} [Fintype P] [DecidableEq P]

local notation "𝕄" => MT nD τ sig Unit (Elt F) ℕ (UR sig nD τ) ℕ

/-- What a boundary of the program holds: every unscoped buffer at the contents `W`, the generator's register at some state; -/
abbrev bufs (W : Dev nD → Valuation τ sig (Elt F)) (c : Dev nD) : sProp 𝕄 :=
  iprop(StableHlo.held (c : Thread nD τ) (Pipeline.ucRefs τ sig) (W c) ∗ ∃ r, prngReg c r)

/-- and nothing owed. -/
abbrev owesNone (c : Dev nD) : sProp 𝕄 := iprop(∃ W, owes (c : Thread nD τ) (0 : CellTallies nD τ sig Unit) W)

/-- A host stretch ends with the register and the owing together; the last boundary reads them apart. -/
theorem last (W : Dev nD → Valuation τ sig (Elt F)) (c : Dev nD) :
    (iprop(StableHlo.held (c : Thread nD τ) (Pipeline.ucRefs τ sig) (W c) ∗ (∃ r, prngReg c r) ∗ owesNone c) : sProp 𝕄)
      ⊢ iprop(bufs W c ∗ owesNone c) := by
  iintro ⟨Hh, Hp, HO⟩
  isplitl [Hh Hp]
  · isplitl [Hh]; · iexact Hh
    iexact Hp
  iexact HO

set_option backward.isDefEq.respectTransparency.types false in
theorem run (pcs : P → PCfg sig Λ₀ (Elt F)) (a : (p : P) → (pcs p).Adm)
    (pdats : (p : P) → (c : Dev nD) → Dat τ (Elt F) Unit ℕ (UR sig nD τ) ℕ (pin pcs a p) c)
    (inj : Function.Injective (cellOf (nD := nD) (τ := τ) (pin pcs a))) (defs₀ : Defs nD τ sig (Elt F) Λ₀)
    (m : (ℓ : Loc nD τ sig) → Buf (Elt F) ℓ) (ρ : Dev nD → PrngReg)
    (main : Dev nD → Prog (TpuEff nD τ sig (Elt F) (Sig Λ₀ P fun p => (pcs p).Adm) .tc) PUnit)
    (segs : List (Seg pcs a pdats () defs₀ Variants.none (fun _ => ∅) (fun _ _ => 0))) (hmain : ∀ c, main c = Seg.run segs)
    (hnd : (Seg.pipes segs).Nodup) (W : Dev nD → Valuation τ sig (Elt F))
    (hch : Seg.Chains (fun c => iprop(StableHlo.held (c : Thread nD τ) (Pipeline.ucRefs τ sig) (fun b => m (c, b))
      ∗ (∃ r, prngReg c r) ∗ owesNone c)) segs (fun c => iprop(bufs W c ∗ owesNone c))) :
    θ_run (Pipeline.defs pcs defs₀) (onTc main) ⟨m, fun _ => 0, ρ⟩
      (fun r => ∀ c : Dev nD, ∀ b ∈ Pipeline.ucRefs τ sig, r.2.mem ((c : Thread nD τ).1, b) = W c b) :=
  θ_run_regions_kit_sems pcs a pdats () inj emb₁ defs₀ Variants.none (fun _ => ∅) (fun _ _ => 0) m ρ main segs
    (fun c Q => by rw [hmain c]) hnd (O₀ := 0) (hL := fun _ _ => rfl) (G := fun _ => iprop(emp))
    (u₀ := initOf (cells (pin pcs a) inj) (launchToks (pin pcs a) inj))
    (hu₀ := by
      iintro Hu; imodintro
      isplitl [Hu]
      · iapply (show (ownU (initOf (cells (pin pcs a) inj) (launchToks (pin pcs a) inj)) : sProp 𝕄)
            ⊢ BI.own (emb₁ (initOf (cells (pin pcs a) inj) (launchToks (pin pcs a) inj))) from .rfl)
        iexact Hu
      iapply (show (BI.emp : sProp 𝕄) ⊢ bigSep Finset.univ (fun _ : Dev nD => (BI.emp : sProp 𝕄)) from by rw [BI.bigSep_emp_const])
      iempintro)
    (Tₙ := bufs W) (hch := hch)
    (hinit := by
      refine initEach _ _ fun c => ?_
      rw [show unscopedBufs c (fun b => m ((c : Thread nD τ).loc b)) = StableHlo.held (c : Thread nD τ) (Pipeline.ucRefs τ sig) (fun b => m (c, b))
        from unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W c b)
    (hfin := fun c s' => by
      iintro ⟨⟨Hh, -⟩, HSI⟩
      unfold StableHlo.held
      imodintro
      iapply (pointsTo_read_all (Pipeline.ucRefs τ sig) (fun b => ((c : Thread nD τ).1, b)) (W c) s')
      isplitl [Hh] <;> iassumption)
    (hQ := fun s h _ => h)

end Cert.RunEnds

end
-- ==== Proof.KernelRun.lean ====
/- The run of the program of the two kernel calls with its results: every fair execution ends with each result array at the
   contents that the last boundary of the program gives it, the arguments as launched. -/
module

public import proofs.«01_k».proof.Proof.RunEnds
public import proofs.«01_k».proof.Proof.Gen.KernelIdeal.Frame

@[expose] public section

set_option maxRecDepth 16384

noncomputable section

namespace Cert.KernelIdeal.Value

open Cert.KernelIdeal.Gen
open Idealize.ShloMosaic Idealize.ShloMosaic.TcCoe Idealize.SL.Sem

variable {F : FTy → Type} [FloatOps F] [Named F]

variable (m : (ℓ : Loc nD τ sig) → Buf (Elt F) ℓ) (ρ : Dev nD → PrngReg)

/-- The program is its segments in order; the final state is read against the last boundary's contents. -/
theorem run : θ_run defs (onTc (τ := τ) (main (F := F))) ⟨m, fun _ => 0, ρ⟩ (fun r => ∀ c : Dev nD,
      r.2.mem ((c.tc : Thread nD τ).loc main_v4_0) = W4 m ρ c (Proc.devRef .tc main_v4_0)
      ∧ r.2.mem ((c.tc : Thread nD τ).loc main_v5_0) = W4 m ρ c (Proc.devRef .tc main_v5_0)
      ∧ r.2.mem ((c.tc : Thread nD τ).loc main_v5_1) = W4 m ρ c (Proc.devRef .tc main_v5_1)
      ∧ r.2.mem ((c.tc : Thread nD τ).loc main_v5_2) = W4 m ρ c (Proc.devRef .tc main_v5_2)
      ∧ r.2.mem ((c.tc : Thread nD τ).loc main_v9) = W4 m ρ c (Proc.devRef .tc main_v9)
      ∧ r.2.mem ((c.tc : Thread nD τ).loc main_v5_5) = W4 m ρ c (Proc.devRef .tc main_v5_5)
      ∧ r.2.mem ((c.tc : Thread nD τ).loc main_v5_6) = W4 m ρ c (Proc.devRef .tc main_v5_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v4_0 (by decide)),
     h c _ (mem_uc main_v5_0 (by decide)),
     h c _ (mem_uc main_v5_1 (by decide)),
     h c _ (mem_uc main_v5_2 (by decide)),
     h c _ (mem_uc main_v9 (by decide)),
     h c _ (mem_uc main_v5_5 (by decide)),
     h c _ (mem_uc main_v5_6 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩)
    (Cert.RunEnds.run (pcfgs (F := F)) adm (pdats m ρ) cellOf_inj defs₀ m ρ main (segs m ρ) (main_run m ρ)
      (by simp only [segs, Pipeline.Seg.pipes_host, Pipeline.Seg.pipes_region, Pipeline.Seg.pipes_nil]; decide) (W4 m ρ)
      ⟨fun _ => .rfl, fun _ => .rfl, fun _ => .rfl, fun _ => .rfl, Cert.RunEnds.last (W4 m ρ)⟩)

end Cert.KernelIdeal.Value

end
-- ==== Proof.PreFin.lean ====
/- The precondition read back: where the five arguments satisfy it, the entries that the attention reads are real numbers.
   `Tables` states that with tables of reals indexed by naturals, and `tables_of_pre` derives it. -/
module

public import proofs.«01_k».proof.Proof.Heads
public import proofs.«01_k».proof.Proof.Gen.Pre_finite
public import Idealize.ShloMosaic.Lib.ReduceAll
public import Idealize.ShloMosaic.Lib.Pointwise

@[expose] public section

noncomputable section

namespace Cert.Attn

open Idealize.ShloMosaic Finset Cert.Pre_finite

/-- The entries of the five arguments that the attention reads, as tables of reals. -/
structure Tables (x0 : FVec Ideal S2048x5120 .f32) (x1 : FVec Ideal S2048x128 .f32) (x2 : FVec Ideal S2048x2048 .f32)
    (x3 x4 : FVec Ideal S1x128 .f32) (P C D : ℕ → ℕ → ℝ) (G K : ℕ → ℝ) : Prop where
  a0 : ∀ i : S2048x5120.Idx, (i 1 : Fin 5120).val < 3072 → x0 i = ((P (i 0 : Fin 2048).val (i 1 : Fin 5120).val : ℝ) : EReal)
  a1 : ∀ i : S2048x128.Idx, (i 1 : Fin 128).val < 8 → x1 i = ((C (i 0 : Fin 2048).val (i 1 : Fin 128).val : ℝ) : EReal)
  a2 : ∀ i : S2048x2048.Idx, (i 1 : Fin 2048).val < 1024 → x2 i = ((D (i 0 : Fin 2048).val (i 1 : Fin 2048).val : ℝ) : EReal)
  a3 : ∀ i : S1x128.Idx, x3 i = ((G (i 1 : Fin 128).val : ℝ) : EReal)
  a4 : ∀ i : S1x128.Idx, x4 i = ((K (i 1 : Fin 128).val : ℝ) : EReal)

/-- The table of an array, zero outside it. -/
def tab {M N : ℕ} (x : (⟨2, ![M, N]⟩ : Shape).Idx → EReal) (t l : ℕ) : ℝ :=
  if h : t < M ∧ l < N then (x (ix2 (⟨t, h.1⟩ : Fin M) (⟨l, h.2⟩ : Fin N))).toReal else 0

theorem tab_eq {M N : ℕ} (x : (⟨2, ![M, N]⟩ : Shape).Idx → EReal) (i : (⟨2, ![M, N]⟩ : Shape).Idx)
    (h : x i ≠ ⊤ ∧ x i ≠ ⊥) : x i = ((tab x (i 0 : Fin M).val (i 1 : Fin N).val : ℝ) : EReal) := by
  rw [tab, dif_pos ⟨(i 0 : Fin M).isLt, (i 1 : Fin N).isLt⟩]
  have e : ix2 (⟨(i 0 : Fin M).val, (i 0 : Fin M).isLt⟩ : Fin M) (⟨(i 1 : Fin N).val, (i 1 : Fin N).isLt⟩ : Fin N) = i := ix2_eta i
  rw [e, EReal.coe_toReal h.1 h.2]

instance : Subsingleton S_.Idx := ⟨fun a b => funext fun i => i.elim0⟩

/-- A finite absolute value, read off the comparison. -/
theorem fin_of_cmp (a : EReal) (h : (Ideal.cmp .olt (max a (-a)) (Ideal.ofBits .f32 0x7F800000#32) : BitVec 1) = 1#1) :
    a ≠ ⊤ ∧ a ≠ ⊥ := by
  rw [word_inf] at h
  constructor
  · rintro rfl
    simp [Ideal.cmp] at h
  · rintro rfl
    simp [Ideal.cmp] at h

/-- Each entry of an array whose absolute values are all below infinity is real. -/
theorem fin_of_all {s : Shape} {axes : List (Fin s.rank)} (x : FVec Ideal s .f32) (dims : Fin 0 → Fin s.rank)
    (hb : S_.BroadcastsInDim s dims) (c : IVec S_ 1) (h : s.ReducesTo axes S_) (hu : 0 < S_.numel) (j : S_.Idx)
    (e : Host.reduce IntOp.andi (cmpf .olt (Host.absf x) (broadcastInDim s dims hb (constant S_ .f32 0x7F800000#32))) c h hu j = 1#1)
    (i : s.Idx) : x i ≠ ⊤ ∧ x i ≠ ⊥ :=
  fin_of_cmp _ (Host.reduce_andi_all _ _ h hu j e i)

variable {x0 : FVec Ideal S2048x5120 .f32} {x1 : FVec Ideal S2048x128 .f32} {x2 : FVec Ideal S2048x2048 .f32}
  {x3 x4 : FVec Ideal S1x128 .f32}

theorem tables_of_pre (h : (Cert.Pre_finite.fn (F := Ideal) x0 x1 x2 x3 x4) = fun _ => 1#1) :
    Tables x0 x1 x2 x3 x4 (tab x0) (tab x1) (tab x2) (fun d => tab x3 0 d) (fun d => tab x4 0 d) := by
  have e := congrFun h (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i hi => tab_eq x0 i ?_, fun i hi => tab_eq x1 i ?_, fun i hi => tab_eq x2 i ?_, fun i => ?_, fun i => ?_⟩
  · have := fin_of_all _ _ _ _ _ _ _ e0 (ix2 (i 0 : Fin 2048) (⟨(i 1 : Fin 5120).val, hi⟩ : Fin 3072))
    have k : extractStridedSlice S2048x3072 ![0, 0] x0 Facts.slices_S2048x5120_S2048x3072_0_0
        (ix2 (i 0 : Fin 2048) (⟨(i 1 : Fin 5120).val, hi⟩ : Fin 3072)) = x0 i :=
      extractStridedSlice_apply ![0, 0] x0 _ _ i (fun a => by fin_cases a <;> simp)
    rw [← k]; exact this
  · have := fin_of_all _ _ _ _ _ _ _ e1 (ix2 (i 0 : Fin 2048) (⟨(i 1 : Fin 128).val, hi⟩ : Fin 8))
    have k : extractStridedSlice S2048x8 ![0, 0] x1 Facts.slices_S2048x128_S2048x8_0_0
        (ix2 (i 0 : Fin 2048) (⟨(i 1 : Fin 128).val, hi⟩ : Fin 8)) = x1 i :=
      extractStridedSlice_apply ![0, 0] x1 _ _ i (fun a => by fin_cases a <;> simp)
    rw [← k]; exact this
  · have := fin_of_all _ _ _ _ _ _ _ e2 (ix2 (i 0 : Fin 2048) (⟨(i 1 : Fin 2048).val, hi⟩ : Fin 1024))
    have k : extractStridedSlice S2048x1024 ![0, 0] x2 Facts.slices_S2048x2048_S2048x1024_0_0
        (ix2 (i 0 : Fin 2048) (⟨(i 1 : Fin 2048).val, hi⟩ : Fin 1024)) = x2 i :=
      extractStridedSlice_apply ![0, 0] x2 _ _ i (fun a => by fin_cases a <;> simp)
    rw [← k]; exact this
  · have hz : (i 0 : Fin 1).val = 0 := Nat.lt_one_iff.1 (i 0 : Fin 1).isLt
    have := tab_eq x3 i (fin_of_all _ _ _ _ _ _ _ e3 i)
    rwa [hz] at this
  · have hz : (i 0 : Fin 1).val = 0 := Nat.lt_one_iff.1 (i 0 : Fin 1).isLt
    have := tab_eq x4 i (fin_of_all _ _ _ _ _ _ _ e4 i)
    rwa [hz] at this

end Cert.Attn

end
-- ==== Proof.RefForms.lean ====
/- What reading the reference at an index takes: operations of reals inside the extended reals, sums over one and two axes, and
   the identities by which the reference's way of writing each quantity of a head is the one of `HeadMath`. -/
module

public import proofs.«01_k».proof.Proof.PreFin
public import proofs.«01_k».proof.Proof.FormsFore
public import proofs.«01_k».proof.Proof.Gen.ReferenceIdeal.Read
public import Idealize.ShloMosaic.Lib.KernelVsHost
public import Idealize.ShloMosaic.Lib.Pointwise

@[expose] public section

noncomputable section

namespace Cert.Attn

open Idealize.ShloMosaic Finset

section Ops
variable {a b : Ideal .f32} {x y : ℝ}

theorem mul_eq (ha : a = (x : EReal)) (hb : b = (y : EReal)) : FloatOps.mulf a b = ((x * y : ℝ) : EReal) := by
  subst ha hb; exact (EReal.coe_mul x y).symm
theorem add_eq (ha : a = (x : EReal)) (hb : b = (y : EReal)) : FloatOps.addf a b = ((x + y : ℝ) : EReal) := by
  subst ha hb; exact (EReal.coe_add x y).symm
theorem sub_eq (ha : a = (x : EReal)) (hb : b = (y : EReal)) : FloatOps.subf a b = ((x - y : ℝ) : EReal) := by
  subst ha hb; exact (EReal.coe_sub x y).symm
theorem neg_eq (ha : a = (x : EReal)) : FloatOps.hostNegf a = ((-x : ℝ) : EReal) := by
  subst ha; exact (EReal.coe_neg x).symm
theorem div_eq (ha : a = (x : EReal)) (hb : b = (y : EReal)) (h : y ≠ 0) : FloatOps.hostDivf a b = ((x / y : ℝ) : EReal) := by
  subst ha hb; exact div_real x y h

end Ops

theorem word_zero : Ideal.ofBits .f32 0x00000000#32 = 0 := by simp [Ideal.ofBits, Ideal.ieee]
theorem word_one : Ideal.ofBits .f32 0x3F800000#32 = ((1 : ℝ) : EReal) := by
  simp [Ideal.ofBits, Ideal.ieee, -EReal.coe_mul]; norm_num

/-- A sum over one axis, from zero. -/
theorem sum_eq {n : ℕ} (v : Fin n → EReal) (f : ℕ → ℝ) (z : EReal) (hz : z = 0) (h : ∀ k, v k = ((f k.val : ℝ) : EReal)) :
    z + ∑ k, v k = ((∑ x ∈ range n, f x : ℝ) : EReal) := by
  rw [hz, zero_add, ← sum_fin]; exact Finset.sum_congr rfl fun k _ => h k

theorem sum_one (v : Fin 1 → EReal) (z : EReal) (hz : z = 0) {x : ℝ} (h : v 0 = (x : EReal)) :
    z + ∑ k, v k = (x : EReal) := by
  rw [hz, zero_add, Fin.sum_univ_one, h]

/-- A product of two matrices, one entry. -/
theorem dot_eq {n : ℕ} (v w : Fin n → EReal) (f g : ℕ → ℝ) (hv : ∀ k, v k = ((f k.val : ℝ) : EReal))
    (hw : ∀ k, w k = ((g k.val : ℝ) : EReal)) : ∑ k, v k * w k = ((∑ x ∈ range n, f x * g x : ℝ) : EReal) := by
  rw [← sum_fin]; exact Finset.sum_congr rfl fun k _ => by rw [hv, hw, EReal.coe_mul]

/-- The entries that a reduction of the first two axes adds, by their two coordinates. -/
theorem sum_fibre {A B C : ℕ} (v : (⟨3, ![A, B, C]⟩ : Shape).Idx → EReal) (h : (⟨3, ![A, B, C]⟩ : Shape).ReducesTo [0, 1] ⟨1, ![C]⟩)
    (i : (⟨1, ![C]⟩ : Shape).Idx) :
    ∑ j ∈ univ.filter (fun j => h.drop j = i), v j = ∑ t : Fin A, ∑ a : Fin B, v (ix3 t a (i 0 : Fin C)) := by
  rw [← Finset.sum_product']
  have hd : ∀ j, h.drop j = i ↔ (j 2 : Fin C) = (i 0 : Fin C) := fun j => by
    constructor
    · intro e; rw [← e]; exact (Fin.ext (Shape.ReducesTo.drop_apply_val h j 0)).symm
    · intro e; funext b
      obtain rfl : b = 0 := Subsingleton.elim (α := Fin 1) _ _
      exact (Fin.ext (Shape.ReducesTo.drop_apply_val h j 0)).trans e
  refine Finset.sum_bij' (fun j _ => ((j 0 : Fin A), (j 1 : Fin B))) (fun p _ => ix3 p.1 p.2 (i 0 : Fin C)) ?_ ?_ ?_ ?_ ?_
  · intro j _; exact mem_product.2 ⟨mem_univ (α := Fin A) _, mem_univ (α := Fin B) _⟩
  · intro p _; exact mem_filter.2 ⟨mem_univ _, (hd _).2 rfl⟩
  · intro j hj; rw [← (hd j).1 (mem_filter.1 hj).2]; exact ix3_eta j
  · intro p _; rfl
  · intro j hj; rw [← (hd j).1 (mem_filter.1 hj).2]; exact congrArg v (ix3_eta j).symm

section Rows
open Cert.ReferenceIdeal

/-- A sum over the first two axes. -/
theorem sum_rows (v : FVec Ideal S2048x8x128 .f32) (z : FVec Ideal S_ .f32) (h : S2048x8x128.ReducesTo [0, 1] S128) (hu : 0 < S_.numel)
    (hz : z (Shape.Idx.first hu) = (0 : EReal)) (i : S128.Idx) (f : ℕ → ℕ → ℝ)
    (hv : ∀ (t : Fin 2048) (a : Fin 8), v (ix3 t a (i 0 : Fin 128)) = ((f t.val a.val : ℝ) : EReal)) :
    Host.reduceAdd v z h hu i = ((∑ t ∈ range 2048, ∑ a ∈ range 8, f t a : ℝ) : EReal) := by
  show z (Shape.Idx.first hu) + ∑ j ∈ univ.filter (fun j => h.drop j = i), v j = _
  rw [hz, zero_add]
  rw [sum_fibre v h i, ← sum_fin]
  refine Finset.sum_congr rfl fun t _ => ?_
  rw [← sum_fin]
  exact Finset.sum_congr rfl fun a _ => hv t a

/-- A sum over two axes of one entry each. -/
theorem sum_unit (v : FVec Ideal S1x1x128 .f32) (z : FVec Ideal S_ .f32) (h : S1x1x128.ReducesTo [0, 1] S128) (hu : 0 < S_.numel)
    (hz : z (Shape.Idx.first hu) = (0 : EReal)) (i : S128.Idx) (x : ℝ)
    (hv : v (ix3 (0 : Fin 1) (0 : Fin 1) (i 0 : Fin 128)) = (x : EReal)) :
    Host.reduceAdd v z h hu i = (x : EReal) := by
  show z (Shape.Idx.first hu) + ∑ j ∈ univ.filter (fun j => h.drop j = i), v j = _
  rw [hz, zero_add, ← hv]
  refine Finset.sum_eq_single_of_mem _ (mem_filter.2 ⟨mem_univ _, funext fun b => by
    obtain rfl : b = 0 := Subsingleton.elim (α := Fin 1) _ _
    exact Fin.ext (Shape.ReducesTo.drop_apply_val h _ 0)⟩) fun j hj hne => ?_
  refine absurd ?_ hne
  have hd : (h.drop j 0 : Fin 128) = (i 0 : Fin 128) := congrFun (mem_filter.1 hj).2 0
  rw [← hd]
  refine (ix3_eta j).symm.trans ?_
  have h0 : (j 0 : Fin 1) = (0 : Fin 1) := Subsingleton.elim (α := Fin 1) _ _
  have h1 : (j 1 : Fin 1) = (0 : Fin 1) := Subsingleton.elim (α := Fin 1) _ _
  exact congrArg₂ (fun x y => ix3 x y (j 2 : Fin 128)) h0 h1

end Rows

/-! ## The reference's way of writing a head -/

section Identities
variable (h : Head)

theorem s_ref (t j : ℕ) : (∑ d ∈ range 128, (h.q t d * rn h.q t * h.qg d) * h.kn j d) * sc + (h.c t - h.c j) = h.s t j := by
  rw [Head.s, Finset.sum_mul, add_sub_assoc]
  congr 1
  exact Finset.sum_congr rfl fun d _ => by rw [Head.qs]; ring

theorem out_ref {t : ℕ} (ht : t < 2048) (d : ℕ) : ∑ j ∈ range 2048, h.v j d * h.p t j = h.out t d := by
  rw [sum_causal (fun j => h.v j d * h.p t j) (fun j hj => by simp only [Head.p_of_lt h hj, mul_zero]) ht, Head.out]
  exact Finset.sum_congr rfl fun j _ => mul_comm _ _

theorem ds_ref {t : ℕ} (ht : t < 2048) (j : ℕ) :
    (h.dp t j / h.sumEx 2048 t + -∑ j' ∈ range 2048, h.dp t j' * (1 / (h.sumEx 2048 t * h.sumEx 2048 t)) * h.ex 2048 t j') * h.ex 2048 t j
      = h.ds t j := by
  have hp := h.sumEx_pos ht
  have e : ∀ j, h.ex 2048 t j = h.p t j * h.sumEx 2048 t := fun j => by rw [← h.ex_div ht j, div_mul_cancel₀ _ hp.ne']
  have e2 : ∑ j' ∈ range 2048, h.dp t j' * (1 / (h.sumEx 2048 t * h.sumEx 2048 t)) * h.ex 2048 t j'
      = (∑ j' ∈ range (t + 1), h.p t j' * h.dp t j') / h.sumEx 2048 t := by
    rw [← sum_causal (fun j' => h.p t j' * h.dp t j') (fun j hj => by simp only [Head.p_of_lt h hj, zero_mul]) ht, Finset.sum_div]
    refine Finset.sum_congr rfl fun j' _ => ?_
    rw [e]; field_simp
  rw [e2, e, Head.ds]; field_simp; ring

theorem gq_ref {t : ℕ} (ht : t < 2048) (d : ℕ) : ∑ j ∈ range 2048, (h.ds t j * sc) * h.kn j d = h.gq t d := by
  rw [Head.gq, Head.dqs, Finset.sum_mul,
    sum_causal (fun j => (h.ds t j * sc) * h.kn j d) (fun j hj => by simp only [Head.ds_of_lt h hj, zero_mul]) ht]
  exact Finset.sum_congr rfl fun j _ => by ring

/-- The normalisation's gradient, as differentiating line by line gives it. -/
theorem rms_ref (x g : ℕ → ℕ → ℝ) (t d : ℕ) :
    g t d * rn x t + x t d * ((∑ e ∈ range 128, x t e * g t e) * (-(1 / 2) * (rn x t / ms x t)) / 128)
      + ((∑ e ∈ range 128, x t e * g t e) * (-(1 / 2) * (rn x t / ms x t)) / 128) * x t d = rmsBack x g t d := by
  have h2 : rn x t * rn x t = 1 / ms x t := by
    rw [rn, ← mul_inv, Real.mul_self_sqrt (ms_pos x t).le, one_div]
  have h3 : ∑ e ∈ range 128, g t e * (x t e * rn x t) = (∑ e ∈ range 128, x t e * g t e) * rn x t := by
    rw [Finset.sum_mul]; exact Finset.sum_congr rfl fun e _ => by ring
  have h4 : rn x t / ms x t = rn x t * (rn x t * rn x t) := by rw [h2]; ring
  rw [rmsBack, h3, h4]; ring

end Identities

end Cert.Attn

end
-- ==== Proof.RefA.lean ====
/- The reference read at an index, up to the attention output: each of its arrays, entry by entry, in the real
   quantities of one head. -/
module

public import proofs.«01_k».proof.Proof.RefForms

@[expose] public section

set_option maxHeartbeats 400000

noncomputable section

namespace Cert.Attn

open Idealize.ShloMosaic Finset Cert.ReferenceIdeal Cert.ReferenceIdeal.Read

variable {x0 : FVec Ideal S2048x5120 .f32} {x1 : FVec Ideal S2048x128 .f32} {x2 : FVec Ideal S2048x2048 .f32}
  {x3 x4 : FVec Ideal S1x128 .f32} {P C D : ℕ → ℕ → ℝ} {G K : ℕ → ℝ} (T : Tables x0 x1 x2 x3 x4 P C D G K)
include T

theorem r_v4 (i : S2048x8x128.Idx) : val_main_v4 (F := Ideal) x0 i = (((headOf P C D G K (i 1 : Fin 8).val).q ((i 0 : Fin 2048).val) ((i 2 : Fin 128).val) : ℝ) : EReal) :=
  by
  have h1 : ((((i 0 : Fin 2048).val) * 8 + ((i 1 : Fin 8).val)) * 128 + ((i 2 : Fin 128).val)) / 1024 = (i 0 : Fin 2048).val := by have : (i 1 : Fin 8).val < 8 := (i 1 : Fin 8).isLt; have : (i 2 : Fin 128).val < 128 := (i 2 : Fin 128).isLt; omega
  have h2 : ((((i 0 : Fin 2048).val) * 8 + ((i 1 : Fin 8).val)) * 128 + ((i 2 : Fin 128).val)) % 1024 = 128 * (i 1 : Fin 8).val + (i 2 : Fin 128).val := by have : (i 1 : Fin 8).val < 8 := (i 1 : Fin 8).isLt; have : (i 2 : Fin 128).val < 128 := (i 2 : Fin 128).isLt; omega
  refine (val_main_v4_apply _ i).trans ((val_main_v0_apply _ _).trans ((T.a0 (idx_main_v0 (idx_main_v4 i)) (by show ((((i 0 : Fin 2048).val) * 8 + ((i 1 : Fin 8).val)) * 128 + ((i 2 : Fin 128).val)) % 1024 < 3072; omega)).trans ?_))
  show ((P (((((i 0 : Fin 2048).val) * 8 + ((i 1 : Fin 8).val)) * 128 + ((i 2 : Fin 128).val)) / 1024) (((((i 0 : Fin 2048).val) * 8 + ((i 1 : Fin 8).val)) * 128 + ((i 2 : Fin 128).val)) % 1024) : ℝ) : EReal) = ((P ((i 0 : Fin 2048).val) (128 * (i 1 : Fin 8).val + (i 2 : Fin 128).val) : ℝ) : EReal)
  rw [h1, h2]

theorem r_v21 (i : S2048x8x128.Idx) : val_main_v21 (F := Ideal) x0 i = (((headOf P C D G K (i 1 : Fin 8).val).k ((i 0 : Fin 2048).val) ((i 2 : Fin 128).val) : ℝ) : EReal) :=
  by
  have h1 : ((((i 0 : Fin 2048).val) * 8 + ((i 1 : Fin 8).val)) * 128 + ((i 2 : Fin 128).val)) / 1024 = (i 0 : Fin 2048).val := by have : (i 1 : Fin 8).val < 8 := (i 1 : Fin 8).isLt; have : (i 2 : Fin 128).val < 128 := (i 2 : Fin 128).isLt; omega
  have h2 : ((((i 0 : Fin 2048).val) * 8 + ((i 1 : Fin 8).val)) * 128 + ((i 2 : Fin 128).val)) % 1024 = 128 * (i 1 : Fin 8).val + (i 2 : Fin 128).val := by have : (i 1 : Fin 8).val < 8 := (i 1 : Fin 8).isLt; have : (i 2 : Fin 128).val < 128 := (i 2 : Fin 128).isLt; omega
  refine (val_main_v21_apply _ i).trans ((val_main_v1_apply _ _).trans ((T.a0 (idx_main_v1 (idx_main_v21 i)) (by show 1024 + ((((i 0 : Fin 2048).val) * 8 + ((i 1 : Fin 8).val)) * 128 + ((i 2 : Fin 128).val)) % 1024 < 3072; omega)).trans ?_))
  show ((P (((((i 0 : Fin 2048).val) * 8 + ((i 1 : Fin 8).val)) * 128 + ((i 2 : Fin 128).val)) / 1024) (1024 + ((((i 0 : Fin 2048).val) * 8 + ((i 1 : Fin 8).val)) * 128 + ((i 2 : Fin 128).val)) % 1024) : ℝ) : EReal) = ((P ((i 0 : Fin 2048).val) (1024 + 128 * (i 1 : Fin 8).val + (i 2 : Fin 128).val) : ℝ) : EReal)
  rw [h1, h2, ← Nat.add_assoc]

theorem r_v38 (i : S2048x8x128.Idx) : val_main_v38 (F := Ideal) x0 i = (((headOf P C D G K (i 1 : Fin 8).val).v ((i 0 : Fin 2048).val) ((i 2 : Fin 128).val) : ℝ) : EReal) :=
  by
  have h1 : ((((i 0 : Fin 2048).val) * 8 + ((i 1 : Fin 8).val)) * 128 + ((i 2 : Fin 128).val)) / 1024 = (i 0 : Fin 2048).val := by have : (i 1 : Fin 8).val < 8 := (i 1 : Fin 8).isLt; have : (i 2 : Fin 128).val < 128 := (i 2 : Fin 128).isLt; omega
  have h2 : ((((i 0 : Fin 2048).val) * 8 + ((i 1 : Fin 8).val)) * 128 + ((i 2 : Fin 128).val)) % 1024 = 128 * (i 1 : Fin 8).val + (i 2 : Fin 128).val := by have : (i 1 : Fin 8).val < 8 := (i 1 : Fin 8).isLt; have : (i 2 : Fin 128).val < 128 := (i 2 : Fin 128).isLt; omega
  refine (val_main_v38_apply _ i).trans ((val_main_v2_apply _ _).trans ((T.a0 (idx_main_v2 (idx_main_v38 i)) (by show 2048 + ((((i 0 : Fin 2048).val) * 8 + ((i 1 : Fin 8).val)) * 128 + ((i 2 : Fin 128).val)) % 1024 < 3072; omega)).trans ?_))
  show ((P (((((i 0 : Fin 2048).val) * 8 + ((i 1 : Fin 8).val)) * 128 + ((i 2 : Fin 128).val)) / 1024) (2048 + ((((i 0 : Fin 2048).val) * 8 + ((i 1 : Fin 8).val)) * 128 + ((i 2 : Fin 128).val)) % 1024) : ℝ) : EReal) = ((P ((i 0 : Fin 2048).val) (2048 + 128 * (i 1 : Fin 8).val + (i 2 : Fin 128).val) : ℝ) : EReal)
  rw [h1, h2, ← Nat.add_assoc]

theorem r_v5 (i : S2048x8x128.Idx) : val_main_v5 (F := Ideal) x0 i = (((headOf P C D G K (i 1 : Fin 8).val).q ((i 0 : Fin 2048).val) ((i 2 : Fin 128).val) * (headOf P C D G K (i 1 : Fin 8).val).q ((i 0 : Fin 2048).val) ((i 2 : Fin 128).val) : ℝ) : EReal) :=
  (val_main_v5_apply _ _ ).trans (mul_eq (r_v4 T i) (r_v4 T i))

theorem r_v6 (i : S2048x8.Idx) : val_main_v6 (F := Ideal) x0 i = ((∑ d ∈ range 128, (headOf P C D G K (i 1 : Fin 8).val).q ((i 0 : Fin 2048).val) d * (headOf P C D G K (i 1 : Fin 8).val).q ((i 0 : Fin 2048).val) d : ℝ) : EReal) :=
  (val_main_v6_apply _ _ ).trans (sum_eq _ (fun d => (headOf P C D G K (i 1 : Fin 8).val).q ((i 0 : Fin 2048).val) d * (headOf P C D G K (i 1 : Fin 8).val).q ((i 0 : Fin 2048).val) d) _ word_zero fun k => r_v5 T _)

theorem r_v7 (i : S2048x8x1.Idx) : val_main_v7 (F := Ideal) x0 i = ((∑ d ∈ range 128, (headOf P C D G K (i 1 : Fin 8).val).q ((i 0 : Fin 2048).val) d * (headOf P C D G K (i 1 : Fin 8).val).q ((i 0 : Fin 2048).val) d : ℝ) : EReal) :=
  (val_main_v7_apply _ _ ).trans (r_v6 T _)

theorem r_v8 (i : S2048x8x1.Idx) : val_main_v8 (F := Ideal)  i = ((128 : ℝ) : EReal) := word_128

theorem r_v9 (i : S2048x8x1.Idx) : val_main_v9 (F := Ideal) x0 i = (((∑ d ∈ range 128, (headOf P C D G K (i 1 : Fin 8).val).q ((i 0 : Fin 2048).val) d * (headOf P C D G K (i 1 : Fin 8).val).q ((i 0 : Fin 2048).val) d) / 128 : ℝ) : EReal) :=
  (val_main_v9_apply _ _ ).trans (div_eq (r_v7 T i) (r_v8 T i) (by norm_num))

theorem r_v10 (i : S2048x8x1.Idx) : val_main_v10 (F := Ideal)  i = ((eps : ℝ) : EReal) := word_eps

theorem r_v11 (i : S2048x8x1.Idx) : val_main_v11 (F := Ideal) x0 i = ((ms (headOf P C D G K (i 1 : Fin 8).val).q ((i 0 : Fin 2048).val) : ℝ) : EReal) :=
  (val_main_v11_apply _ _ ).trans (add_eq (r_v9 T i) (r_v10 T i))

theorem r_v12 (i : S2048x8x1.Idx) : val_main_v12 (F := Ideal) x0 i = ((rn (headOf P C D G K (i 1 : Fin 8).val).q ((i 0 : Fin 2048).val) : ℝ) : EReal) :=
  (val_main_v12_apply _ _ ).trans ((congrArg Ideal.rsqrt (r_v11 T i)).trans (rsqrt_pos _ (ms_pos _ _)))

theorem r_v13 (i : S2048x8x1.Idx) : val_main_v13 (F := Ideal) x0 i = ((rn (headOf P C D G K (i 1 : Fin 8).val).q ((i 0 : Fin 2048).val) / ms (headOf P C D G K (i 1 : Fin 8).val).q ((i 0 : Fin 2048).val) : ℝ) : EReal) :=
  (val_main_v13_apply _ _ ).trans (div_eq (r_v12 T i) (r_v11 T i) (ms_pos _ _).ne')

theorem r_v14 (i : S2048x8x1.Idx) : val_main_v14 (F := Ideal)  i = ((-(1 / 2) : ℝ) : EReal) := word_neghalf

theorem r_v15 (i : S2048x8x1.Idx) : val_main_v15 (F := Ideal) x0 i = ((-(1 / 2) * (rn (headOf P C D G K (i 1 : Fin 8).val).q ((i 0 : Fin 2048).val) / ms (headOf P C D G K (i 1 : Fin 8).val).q ((i 0 : Fin 2048).val)) : ℝ) : EReal) :=
  (val_main_v15_apply _ _ ).trans (mul_eq (r_v14 T i) (r_v13 T i))

theorem r_v16 (i : S2048x8x128.Idx) : val_main_v16 (F := Ideal) x0 i = ((rn (headOf P C D G K (i 1 : Fin 8).val).q ((i 0 : Fin 2048).val) : ℝ) : EReal) :=
  (val_main_v16_apply _ _ ).trans (r_v12 T _)

theorem r_v17 (i : S2048x8x128.Idx) : val_main_v17 (F := Ideal) x0 i = (((headOf P C D G K (i 1 : Fin 8).val).q ((i 0 : Fin 2048).val) ((i 2 : Fin 128).val) * rn (headOf P C D G K (i 1 : Fin 8).val).q ((i 0 : Fin 2048).val) : ℝ) : EReal) :=
  (val_main_v17_apply _ _ ).trans (mul_eq (r_v4 T i) (r_v16 T i))

theorem r_v18 (i : S1x1x128.Idx) : val_main_v18 (F := Ideal) x3 i = ((G ((i 2 : Fin 128).val) : ℝ) : EReal) :=
  (val_main_v18_apply _ _ ).trans (T.a3 _)

theorem r_v19 (i : S2048x8x128.Idx) : val_main_v19 (F := Ideal) x3 i = ((G ((i 2 : Fin 128).val) : ℝ) : EReal) :=
  (val_main_v19_apply _ _ ).trans (r_v18 T _)

theorem r_v20 (i : S2048x8x128.Idx) : val_main_v20 (F := Ideal) x0 x3 i = (((headOf P C D G K (i 1 : Fin 8).val).q ((i 0 : Fin 2048).val) ((i 2 : Fin 128).val) * rn (headOf P C D G K (i 1 : Fin 8).val).q ((i 0 : Fin 2048).val) * G ((i 2 : Fin 128).val) : ℝ) : EReal) :=
  (val_main_v20_apply _ _ _ ).trans (mul_eq (r_v17 T i) (r_v19 T i))

theorem r_v22 (i : S2048x8x128.Idx) : val_main_v22 (F := Ideal) x0 i = (((headOf P C D G K (i 1 : Fin 8).val).k ((i 0 : Fin 2048).val) ((i 2 : Fin 128).val) * (headOf P C D G K (i 1 : Fin 8).val).k ((i 0 : Fin 2048).val) ((i 2 : Fin 128).val) : ℝ) : EReal) :=
  (val_main_v22_apply _ _ ).trans (mul_eq (r_v21 T i) (r_v21 T i))

theorem r_v23 (i : S2048x8.Idx) : val_main_v23 (F := Ideal) x0 i = ((∑ d ∈ range 128, (headOf P C D G K (i 1 : Fin 8).val).k ((i 0 : Fin 2048).val) d * (headOf P C D G K (i 1 : Fin 8).val).k ((i 0 : Fin 2048).val) d : ℝ) : EReal) :=
  (val_main_v23_apply _ _ ).trans (sum_eq _ (fun d => (headOf P C D G K (i 1 : Fin 8).val).k ((i 0 : Fin 2048).val) d * (headOf P C D G K (i 1 : Fin 8).val).k ((i 0 : Fin 2048).val) d) _ word_zero fun k => r_v22 T _)

theorem r_v24 (i : S2048x8x1.Idx) : val_main_v24 (F := Ideal) x0 i = ((∑ d ∈ range 128, (headOf P C D G K (i 1 : Fin 8).val).k ((i 0 : Fin 2048).val) d * (headOf P C D G K (i 1 : Fin 8).val).k ((i 0 : Fin 2048).val) d : ℝ) : EReal) :=
  (val_main_v24_apply _ _ ).trans (r_v23 T _)

theorem r_v25 (i : S2048x8x1.Idx) : val_main_v25 (F := Ideal)  i = ((128 : ℝ) : EReal) := word_128

theorem r_v26 (i : S2048x8x1.Idx) : val_main_v26 (F := Ideal) x0 i = (((∑ d ∈ range 128, (headOf P C D G K (i 1 : Fin 8).val).k ((i 0 : Fin 2048).val) d * (headOf P C D G K (i 1 : Fin 8).val).k ((i 0 : Fin 2048).val) d) / 128 : ℝ) : EReal) :=
  (val_main_v26_apply _ _ ).trans (div_eq (r_v24 T i) (r_v25 T i) (by norm_num))

theorem r_v27 (i : S2048x8x1.Idx) : val_main_v27 (F := Ideal)  i = ((eps : ℝ) : EReal) := word_eps

theorem r_v28 (i : S2048x8x1.Idx) : val_main_v28 (F := Ideal) x0 i = ((ms (headOf P C D G K (i 1 : Fin 8).val).k ((i 0 : Fin 2048).val) : ℝ) : EReal) :=
  (val_main_v28_apply _ _ ).trans (add_eq (r_v26 T i) (r_v27 T i))

theorem r_v29 (i : S2048x8x1.Idx) : val_main_v29 (F := Ideal) x0 i = ((rn (headOf P C D G K (i 1 : Fin 8).val).k ((i 0 : Fin 2048).val) : ℝ) : EReal) :=
  (val_main_v29_apply _ _ ).trans ((congrArg Ideal.rsqrt (r_v28 T i)).trans (rsqrt_pos _ (ms_pos _ _)))

theorem r_v30 (i : S2048x8x1.Idx) : val_main_v30 (F := Ideal) x0 i = ((rn (headOf P C D G K (i 1 : Fin 8).val).k ((i 0 : Fin 2048).val) / ms (headOf P C D G K (i 1 : Fin 8).val).k ((i 0 : Fin 2048).val) : ℝ) : EReal) :=
  (val_main_v30_apply _ _ ).trans (div_eq (r_v29 T i) (r_v28 T i) (ms_pos _ _).ne')

theorem r_v31 (i : S2048x8x1.Idx) : val_main_v31 (F := Ideal)  i = ((-(1 / 2) : ℝ) : EReal) := word_neghalf

theorem r_v32 (i : S2048x8x1.Idx) : val_main_v32 (F := Ideal) x0 i = ((-(1 / 2) * (rn (headOf P C D G K (i 1 : Fin 8).val).k ((i 0 : Fin 2048).val) / ms (headOf P C D G K (i 1 : Fin 8).val).k ((i 0 : Fin 2048).val)) : ℝ) : EReal) :=
  (val_main_v32_apply _ _ ).trans (mul_eq (r_v31 T i) (r_v30 T i))

theorem r_v33 (i : S2048x8x128.Idx) : val_main_v33 (F := Ideal) x0 i = ((rn (headOf P C D G K (i 1 : Fin 8).val).k ((i 0 : Fin 2048).val) : ℝ) : EReal) :=
  (val_main_v33_apply _ _ ).trans (r_v29 T _)

theorem r_v34 (i : S2048x8x128.Idx) : val_main_v34 (F := Ideal) x0 i = (((headOf P C D G K (i 1 : Fin 8).val).k ((i 0 : Fin 2048).val) ((i 2 : Fin 128).val) * rn (headOf P C D G K (i 1 : Fin 8).val).k ((i 0 : Fin 2048).val) : ℝ) : EReal) :=
  (val_main_v34_apply _ _ ).trans (mul_eq (r_v21 T i) (r_v33 T i))

theorem r_v35 (i : S1x1x128.Idx) : val_main_v35 (F := Ideal) x4 i = ((K ((i 2 : Fin 128).val) : ℝ) : EReal) :=
  (val_main_v35_apply _ _ ).trans (T.a4 _)

theorem r_v36 (i : S2048x8x128.Idx) : val_main_v36 (F := Ideal) x4 i = ((K ((i 2 : Fin 128).val) : ℝ) : EReal) :=
  (val_main_v36_apply _ _ ).trans (r_v35 T _)

theorem r_v37 (i : S2048x8x128.Idx) : val_main_v37 (F := Ideal) x0 x4 i = (((headOf P C D G K (i 1 : Fin 8).val).k ((i 0 : Fin 2048).val) ((i 2 : Fin 128).val) * rn (headOf P C D G K (i 1 : Fin 8).val).k ((i 0 : Fin 2048).val) * K ((i 2 : Fin 128).val) : ℝ) : EReal) :=
  (val_main_v37_apply _ _ _ ).trans (mul_eq (r_v34 T i) (r_v36 T i))

theorem r_v39 (i : S8x2048x2048.Idx) : val_main_v39 (F := Ideal) x0 x3 x4 i = ((∑ d ∈ range 128, ((headOf P C D G K (i 0 : Fin 8).val).q ((i 1 : Fin 2048).val) d * rn (headOf P C D G K (i 0 : Fin 8).val).q ((i 1 : Fin 2048).val) * (headOf P C D G K (i 0 : Fin 8).val).qg d) * (headOf P C D G K (i 0 : Fin 8).val).kn ((i 2 : Fin 2048).val) d : ℝ) : EReal) :=
  (val_main_v39_apply _ _ _ _ ).trans (dot_eq _ _ (fun d => ((headOf P C D G K (i 0 : Fin 8).val).q ((i 1 : Fin 2048).val) d * rn (headOf P C D G K (i 0 : Fin 8).val).q ((i 1 : Fin 2048).val) * (headOf P C D G K (i 0 : Fin 8).val).qg d)) (fun d => (headOf P C D G K (i 0 : Fin 8).val).kn ((i 2 : Fin 2048).val) d) (fun k => r_v20 T _) fun k => r_v37 T _)

theorem r_v40 (i : S8x2048x2048.Idx) : val_main_v40 (F := Ideal)  i = ((sc : ℝ) : EReal) := word_sc

theorem r_v41 (i : S8x2048x2048.Idx) : val_main_v41 (F := Ideal) x0 x3 x4 i = (((∑ d ∈ range 128, ((headOf P C D G K (i 0 : Fin 8).val).q ((i 1 : Fin 2048).val) d * rn (headOf P C D G K (i 0 : Fin 8).val).q ((i 1 : Fin 2048).val) * (headOf P C D G K (i 0 : Fin 8).val).qg d) * (headOf P C D G K (i 0 : Fin 8).val).kn ((i 2 : Fin 2048).val) d) * sc : ℝ) : EReal) :=
  (val_main_v41_apply _ _ _ _ ).trans (mul_eq (r_v39 T i) (r_v40 T i))

theorem r_v3 (i : S2048x8.Idx) : val_main_v3 (F := Ideal) x1 i = ((C ((i 0 : Fin 2048).val) ((i 1 : Fin 8).val) : ℝ) : EReal) :=
  (val_main_v3_apply _ _ ).trans (T.a1 _ (i 1 : Fin 8).isLt)

theorem r_v42 (i : S8x2048.Idx) : val_main_v42 (F := Ideal) x1 i = ((C ((i 1 : Fin 2048).val) ((i 0 : Fin 8).val) : ℝ) : EReal) :=
  (val_main_v42_apply _ _ ).trans (r_v3 T _)

theorem r_v43 (i : S8x2048x1.Idx) : val_main_v43 (F := Ideal) x1 i = ((C ((i 1 : Fin 2048).val) ((i 0 : Fin 8).val) : ℝ) : EReal) :=
  (val_main_v43_apply _ _ ).trans (r_v42 T _)

theorem r_v44 (i : S8x2048.Idx) : val_main_v44 (F := Ideal) x1 i = ((C ((i 1 : Fin 2048).val) ((i 0 : Fin 8).val) : ℝ) : EReal) :=
  (val_main_v44_apply _ _ ).trans (r_v3 T _)

theorem r_v45 (i : S8x1x2048.Idx) : val_main_v45 (F := Ideal) x1 i = ((C ((i 2 : Fin 2048).val) ((i 0 : Fin 8).val) : ℝ) : EReal) :=
  (val_main_v45_apply _ _ ).trans (r_v44 T _)

theorem r_v46 (i : S8x2048x2048.Idx) : val_main_v46 (F := Ideal) x1 i = ((C ((i 1 : Fin 2048).val) ((i 0 : Fin 8).val) : ℝ) : EReal) :=
  (val_main_v46_apply _ _ ).trans (r_v43 T _)

theorem r_v47 (i : S8x2048x2048.Idx) : val_main_v47 (F := Ideal) x1 i = ((C ((i 2 : Fin 2048).val) ((i 0 : Fin 8).val) : ℝ) : EReal) :=
  (val_main_v47_apply _ _ ).trans (r_v45 T _)

theorem r_v48 (i : S8x2048x2048.Idx) : val_main_v48 (F := Ideal) x1 i = ((C ((i 1 : Fin 2048).val) ((i 0 : Fin 8).val) - C ((i 2 : Fin 2048).val) ((i 0 : Fin 8).val) : ℝ) : EReal) :=
  (val_main_v48_apply _ _ ).trans (sub_eq (r_v46 T i) (r_v47 T i))

theorem r_v49 (i : S8x2048x2048.Idx) : val_main_v49 (F := Ideal) x0 x1 x3 x4 i = (((headOf P C D G K (i 0 : Fin 8).val).s ((i 1 : Fin 2048).val) ((i 2 : Fin 2048).val) : ℝ) : EReal) :=
  (val_main_v49_apply _ _ _ _ _ ).trans ((add_eq (r_v41 T i) (r_v48 T i)).trans (congrArg _ (s_ref _ _ _)))

theorem mask_ref (i : S8x2048x2048.Idx) (a b : EReal) :
    Scalar.select (val_main_v56_1 (F := Ideal) i) a b = if (i 2 : Fin 2048).val ≤ (i 1 : Fin 2048).val then a else b := by
  rw [val_main_v56_1_apply, val_main_v55_apply, val_main_v53_apply, val_main_v54_apply, val_main_v51_apply, val_main_v52_apply,
    val_main_v50_apply, val_main_v50_apply]
  have e := select_causal_zero (m := 2048) (n := 2048) le_rfl le_rfl (i 1 : Fin 2048) (i 2 : Fin 2048) a b
  rwa [show ∀ x : BitVec 32, IntOp.addi x 0#32 = x from fun x => BitVec.add_zero x] at e

theorem r_v56_0 (i : S8x2048x2048.Idx) : val_main_v56_0 (F := Ideal) x0 x1 x3 x4 i = (headOf P C D G K (i 0 : Fin 8).val).sl ((i 1 : Fin 2048).val) ((i 2 : Fin 2048).val) :=
  by
  rw [val_main_v56_0_apply _ _ _ _ i, mask_ref T, r_v49 T i]
  show (if _ then _ else Ideal.ofBits .f32 0xFF800000#32) = _
  rw [word_neginf]; rfl

theorem r_v57 (i : S8x2048.Idx) : val_main_v57 (F := Ideal) x0 x1 x3 x4 i = (((headOf P C D G K (i 0 : Fin 8).val).mx 2048 (i 1 : Fin 2048).val : ℝ) : EReal) := by
  unfold val_main_v57 val_main_cst_9
  rw [hostReduce_maximumf_eq_multiReduction _ (0xFF800000#32 : BitVec (FTy.f32).bits) _ _ (by decide) (Or.inl rfl) rfl]
  pointwise
  refine Eq.trans ?_ (Head.mx_form _ (i 1 : Fin 2048).val (i 1 : Fin 2048).isLt)
  exact congrArg (fun f => fold max _ f univ) (funext fun x => r_v56_0 T _)

theorem r_v64 (i : S8x2048.Idx) : val_main_v64 (F := Ideal) x0 x1 x3 x4 i = (((headOf P C D G K (i 0 : Fin 8).val).mx 2048 ((i 1 : Fin 2048).val) : ℝ) : EReal) :=
  (val_main_v64_apply _ _ _ _ _ ).trans ((congrArg₂ max (word_neginf : Ideal.ofBits .f32 0xFF800000#32 = ⊥) (r_v57 T i)).trans (max_eq_right bot_le))

theorem r_v74 (i : S8x2048x1.Idx) : val_main_v74 (F := Ideal) x0 x1 x3 x4 i = (((headOf P C D G K (i 0 : Fin 8).val).mx 2048 ((i 1 : Fin 2048).val) : ℝ) : EReal) :=
  (val_main_v74_apply _ _ _ _ _ ).trans (r_v64 T _)

theorem r_v75 (i : S8x2048x2048.Idx) : val_main_v75 (F := Ideal) x0 x1 x3 x4 i = (((headOf P C D G K (i 0 : Fin 8).val).mx 2048 ((i 1 : Fin 2048).val) : ℝ) : EReal) :=
  (val_main_v75_apply _ _ _ _ _ ).trans (r_v74 T _)

theorem r_v77 (i : S8x2048x2048.Idx) : val_main_v77 (F := Ideal) x0 x1 x3 x4 i = (((headOf P C D G K (i 0 : Fin 8).val).ex 2048 ((i 1 : Fin 2048).val) ((i 2 : Fin 2048).val) : ℝ) : EReal) :=
  by
  rw [val_main_v77_apply _ _ _ _ i, val_main_v76_apply _ _ _ _ i, r_v56_0 T i, r_v75 T i]
  exact Head.ex_form _ _ _ _

theorem r_v78 (i : S8x2048.Idx) : val_main_v78 (F := Ideal) x0 x1 x3 x4 i = (((headOf P C D G K (i 0 : Fin 8).val).sumEx 2048 ((i 1 : Fin 2048).val) : ℝ) : EReal) :=
  (val_main_v78_apply _ _ _ _ _ ).trans (sum_eq _ (fun j => (headOf P C D G K (i 0 : Fin 8).val).ex 2048 ((i 1 : Fin 2048).val) j) _ word_zero fun k => r_v77 T _)

theorem r_v79 (i : S8x2048x1.Idx) : val_main_v79 (F := Ideal) x0 x1 x3 x4 i = (((headOf P C D G K (i 0 : Fin 8).val).sumEx 2048 ((i 1 : Fin 2048).val) : ℝ) : EReal) :=
  (val_main_v79_apply _ _ _ _ _ ).trans (r_v78 T _)

theorem r_v80 (i : S8x2048x2048.Idx) : val_main_v80 (F := Ideal) x0 x1 x3 x4 i = (((headOf P C D G K (i 0 : Fin 8).val).sumEx 2048 ((i 1 : Fin 2048).val) : ℝ) : EReal) :=
  (val_main_v80_apply _ _ _ _ _ ).trans (r_v79 T _)

theorem r_v81 (i : S8x2048x2048.Idx) : val_main_v81 (F := Ideal) x0 x1 x3 x4 i = (((headOf P C D G K (i 0 : Fin 8).val).p ((i 1 : Fin 2048).val) ((i 2 : Fin 2048).val) : ℝ) : EReal) :=
  (val_main_v81_apply _ _ _ _ _ ).trans ((div_eq (r_v77 T i) (r_v80 T i) (Head.sumEx_pos _ (i 1 : Fin 2048).isLt).ne').trans (congrArg _ (Head.ex_div _ (i 1 : Fin 2048).isLt _)))

theorem r_v82 (i : S8x2048x1.Idx) : val_main_v82 (F := Ideal) x0 x1 x3 x4 i = (((headOf P C D G K (i 0 : Fin 8).val).sumEx 2048 ((i 1 : Fin 2048).val) * (headOf P C D G K (i 0 : Fin 8).val).sumEx 2048 ((i 1 : Fin 2048).val) : ℝ) : EReal) :=
  (val_main_v82_apply _ _ _ _ _ ).trans (mul_eq (r_v79 T i) (r_v79 T i))

theorem r_v83 (i : S8x2048x1.Idx) : val_main_v83 (F := Ideal)  i = ((1 : ℝ) : EReal) := word_one

theorem r_v84 (i : S8x2048x1.Idx) : val_main_v84 (F := Ideal) x0 x1 x3 x4 i = ((1 / ((headOf P C D G K (i 0 : Fin 8).val).sumEx 2048 ((i 1 : Fin 2048).val) * (headOf P C D G K (i 0 : Fin 8).val).sumEx 2048 ((i 1 : Fin 2048).val)) : ℝ) : EReal) :=
  (val_main_v84_apply _ _ _ _ _ ).trans (div_eq (r_v83 T i) (r_v82 T i) (mul_ne_zero (Head.sumEx_pos _ (i 1 : Fin 2048).isLt).ne' (Head.sumEx_pos _ (i 1 : Fin 2048).isLt).ne'))

theorem r_v85 (i : S8x128x2048.Idx) : val_main_v85 (F := Ideal) x0 x1 x3 x4 i = (((headOf P C D G K (i 0 : Fin 8).val).out ((i 2 : Fin 2048).val) ((i 1 : Fin 128).val) : ℝ) : EReal) :=
  (val_main_v85_apply _ _ _ _ _ ).trans ((dot_eq _ _ (fun j => (headOf P C D G K (i 0 : Fin 8).val).v j ((i 1 : Fin 128).val)) (fun j => (headOf P C D G K (i 0 : Fin 8).val).p ((i 2 : Fin 2048).val) j) (fun k => r_v38 T _) fun k => r_v81 T _).trans (congrArg _ (out_ref _ (i 2 : Fin 2048).isLt _)))

theorem r_v86 (i : S2048x8x128.Idx) : val_main_v86 (F := Ideal) x0 x1 x3 x4 i = (((headOf P C D G K (i 1 : Fin 8).val).out ((i 0 : Fin 2048).val) ((i 2 : Fin 128).val) : ℝ) : EReal) :=
  (val_main_v86_apply _ _ _ _ _ ).trans (r_v85 T _)

end Cert.Attn

end
-- ==== Proof.RefB.lean ====
/- The reference read at an index, continued: the gradient of the logits and of the values, the gate, and the two
   products that give the gradients of the normalised queries and keys. -/
module

public import proofs.«01_k».proof.Proof.RefA

@[expose] public section

set_option maxHeartbeats 400000

noncomputable section

namespace Cert.Attn

open Idealize.ShloMosaic Finset Cert.ReferenceIdeal Cert.ReferenceIdeal.Read

variable {x0 : FVec Ideal S2048x5120 .f32} {x1 : FVec Ideal S2048x128 .f32} {x2 : FVec Ideal S2048x2048 .f32}
  {x3 x4 : FVec Ideal S1x128 .f32} {P C D : ℕ → ℕ → ℝ} {G K : ℕ → ℝ} (T : Tables x0 x1 x2 x3 x4 P C D G K)
include T

theorem r_v87 (i : S2048x1024.Idx) : val_main_v87 (F := Ideal) x0 x1 x3 x4 i = (((headOf P C D G K (((i 1 : Fin 1024).val) / 128)).out ((i 0 : Fin 2048).val) (((i 1 : Fin 1024).val) % 128) : ℝ) : EReal) :=
  by
  have h1 : ((i 0 : Fin 2048).val * 1024 + (i 1 : Fin 1024).val) / 1024 = (i 0 : Fin 2048).val := by have : (i 1 : Fin 1024).val < 1024 := (i 1 : Fin 1024).isLt; omega
  have h2 : ((i 0 : Fin 2048).val * 1024 + (i 1 : Fin 1024).val) / 128 % 8 = (i 1 : Fin 1024).val / 128 := by have : (i 1 : Fin 1024).val < 1024 := (i 1 : Fin 1024).isLt; omega
  have h3 : ((i 0 : Fin 2048).val * 1024 + (i 1 : Fin 1024).val) % 128 = (i 1 : Fin 1024).val % 128 := by have : (i 1 : Fin 1024).val < 1024 := (i 1 : Fin 1024).isLt; omega
  refine (val_main_v87_apply _ _ _ _ i).trans ((r_v86 T _).trans ?_)
  show (((headOf P C D G K (((i 0 : Fin 2048).val * 1024 + (i 1 : Fin 1024).val) / 128 % 8)).out (((i 0 : Fin 2048).val * 1024 + (i 1 : Fin 1024).val) / 1024) (((i 0 : Fin 2048).val * 1024 + (i 1 : Fin 1024).val) % 128) : ℝ) : EReal) = _
  rw [h1, h2, h3]

theorem r_v88 (i : S2048x1024.Idx) : val_main_v88 (F := Ideal) x2 i = ((D ((i 0 : Fin 2048).val) ((i 1 : Fin 1024).val) : ℝ) : EReal) :=
  (val_main_v88_apply _ _ ).trans (T.a2 _ (i 1 : Fin 1024).isLt)

theorem r_v89 (i : S2048x8x128.Idx) : val_main_v89 (F := Ideal) x2 i = (((headOf P C D G K (i 1 : Fin 8).val).w ((i 0 : Fin 2048).val) ((i 2 : Fin 128).val) : ℝ) : EReal) :=
  by
  have h1 : ((((i 0 : Fin 2048).val) * 8 + ((i 1 : Fin 8).val)) * 128 + ((i 2 : Fin 128).val)) / 1024 = (i 0 : Fin 2048).val := by have : (i 1 : Fin 8).val < 8 := (i 1 : Fin 8).isLt; have : (i 2 : Fin 128).val < 128 := (i 2 : Fin 128).isLt; omega
  have h2 : ((((i 0 : Fin 2048).val) * 8 + ((i 1 : Fin 8).val)) * 128 + ((i 2 : Fin 128).val)) % 1024 = 128 * (i 1 : Fin 8).val + (i 2 : Fin 128).val := by have : (i 1 : Fin 8).val < 8 := (i 1 : Fin 8).isLt; have : (i 2 : Fin 128).val < 128 := (i 2 : Fin 128).isLt; omega
  refine (val_main_v89_apply _ i).trans ((r_v88 T _).trans ?_)
  show ((D (((((i 0 : Fin 2048).val) * 8 + ((i 1 : Fin 8).val)) * 128 + ((i 2 : Fin 128).val)) / 1024) (((((i 0 : Fin 2048).val) * 8 + ((i 1 : Fin 8).val)) * 128 + ((i 2 : Fin 128).val)) % 1024) : ℝ) : EReal) = ((D ((i 0 : Fin 2048).val) (128 * (i 1 : Fin 8).val + (i 2 : Fin 128).val) : ℝ) : EReal)
  rw [h1, h2]

theorem r_v90 (i : S8x128x2048.Idx) : val_main_v90 (F := Ideal) x2 i = (((headOf P C D G K (i 0 : Fin 8).val).w ((i 2 : Fin 2048).val) ((i 1 : Fin 128).val) : ℝ) : EReal) :=
  (val_main_v90_apply _ _ ).trans (r_v89 T _)

theorem r_v91 (i : S8x2048x2048.Idx) : val_main_v91 (F := Ideal) x0 x2 i = (((headOf P C D G K (i 0 : Fin 8).val).dp ((i 1 : Fin 2048).val) ((i 2 : Fin 2048).val) : ℝ) : EReal) :=
  (val_main_v91_apply _ _ _ ).trans (dot_eq _ _ (fun d => (headOf P C D G K (i 0 : Fin 8).val).w ((i 1 : Fin 2048).val) d) (fun d => (headOf P C D G K (i 0 : Fin 8).val).v ((i 2 : Fin 2048).val) d) (fun k => r_v90 T _) fun k => r_v38 T _)

theorem r_v92 (i : S8x128x2048.Idx) : val_main_v92 (F := Ideal) x0 x1 x2 x3 x4 i = (((headOf P C D G K (i 0 : Fin 8).val).dvTo 2048 ((i 2 : Fin 2048).val) ((i 1 : Fin 128).val) : ℝ) : EReal) :=
  (val_main_v92_apply _ _ _ _ _ _ ).trans ((dot_eq _ _ (fun t => (headOf P C D G K (i 0 : Fin 8).val).w t ((i 1 : Fin 128).val)) (fun t => (headOf P C D G K (i 0 : Fin 8).val).p t ((i 2 : Fin 2048).val)) (fun k => r_v90 T _) fun k => r_v81 T _).trans (congrArg _ (Finset.sum_congr rfl fun _ _ => mul_comm _ _)))

theorem r_v93 (i : S2048x8x128.Idx) : val_main_v93 (F := Ideal) x0 x1 x2 x3 x4 i = (((headOf P C D G K (i 1 : Fin 8).val).dvTo 2048 ((i 0 : Fin 2048).val) ((i 2 : Fin 128).val) : ℝ) : EReal) :=
  (val_main_v93_apply _ _ _ _ _ _ ).trans (r_v92 T _)

theorem r_v94 (i : S8x2048x2048.Idx) : val_main_v94 (F := Ideal) x0 x1 x3 x4 i = ((1 / ((headOf P C D G K (i 0 : Fin 8).val).sumEx 2048 ((i 1 : Fin 2048).val) * (headOf P C D G K (i 0 : Fin 8).val).sumEx 2048 ((i 1 : Fin 2048).val)) : ℝ) : EReal) :=
  (val_main_v94_apply _ _ _ _ _ ).trans (r_v84 T _)

theorem r_v95 (i : S8x2048x2048.Idx) : val_main_v95 (F := Ideal) x0 x1 x2 x3 x4 i = (((headOf P C D G K (i 0 : Fin 8).val).dp ((i 1 : Fin 2048).val) ((i 2 : Fin 2048).val) * (1 / ((headOf P C D G K (i 0 : Fin 8).val).sumEx 2048 ((i 1 : Fin 2048).val) * (headOf P C D G K (i 0 : Fin 8).val).sumEx 2048 ((i 1 : Fin 2048).val))) : ℝ) : EReal) :=
  (val_main_v95_apply _ _ _ _ _ _ ).trans (mul_eq (r_v91 T i) (r_v94 T i))

theorem r_v96 (i : S8x2048x2048.Idx) : val_main_v96 (F := Ideal) x0 x1 x2 x3 x4 i = (((headOf P C D G K (i 0 : Fin 8).val).dp ((i 1 : Fin 2048).val) ((i 2 : Fin 2048).val) * (1 / ((headOf P C D G K (i 0 : Fin 8).val).sumEx 2048 ((i 1 : Fin 2048).val) * (headOf P C D G K (i 0 : Fin 8).val).sumEx 2048 ((i 1 : Fin 2048).val))) * (headOf P C D G K (i 0 : Fin 8).val).ex 2048 ((i 1 : Fin 2048).val) ((i 2 : Fin 2048).val) : ℝ) : EReal) :=
  (val_main_v96_apply _ _ _ _ _ _ ).trans (mul_eq (r_v95 T i) (r_v77 T i))

theorem r_v97 (i : S8x2048.Idx) : val_main_v97 (F := Ideal) x0 x1 x2 x3 x4 i = ((∑ j ∈ range 2048, (headOf P C D G K (i 0 : Fin 8).val).dp ((i 1 : Fin 2048).val) j * (1 / ((headOf P C D G K (i 0 : Fin 8).val).sumEx 2048 ((i 1 : Fin 2048).val) * (headOf P C D G K (i 0 : Fin 8).val).sumEx 2048 ((i 1 : Fin 2048).val))) * (headOf P C D G K (i 0 : Fin 8).val).ex 2048 ((i 1 : Fin 2048).val) j : ℝ) : EReal) :=
  (val_main_v97_apply _ _ _ _ _ _ ).trans (sum_eq _ (fun j => (headOf P C D G K (i 0 : Fin 8).val).dp ((i 1 : Fin 2048).val) j * (1 / ((headOf P C D G K (i 0 : Fin 8).val).sumEx 2048 ((i 1 : Fin 2048).val) * (headOf P C D G K (i 0 : Fin 8).val).sumEx 2048 ((i 1 : Fin 2048).val))) * (headOf P C D G K (i 0 : Fin 8).val).ex 2048 ((i 1 : Fin 2048).val) j) _ word_zero fun k => r_v96 T _)

theorem r_v98 (i : S8x2048x1.Idx) : val_main_v98 (F := Ideal) x0 x1 x2 x3 x4 i = (((∑ j ∈ range 2048, (headOf P C D G K ((i 0 : Fin 8).val)).dp ((i 1 : Fin 2048).val) j * (1 / ((headOf P C D G K ((i 0 : Fin 8).val)).sumEx 2048 ((i 1 : Fin 2048).val) * (headOf P C D G K ((i 0 : Fin 8).val)).sumEx 2048 ((i 1 : Fin 2048).val))) * (headOf P C D G K ((i 0 : Fin 8).val)).ex 2048 ((i 1 : Fin 2048).val) j) : ℝ) : EReal) :=
  by
  have h1 : ((((i 0 : Fin 8).val) * 2048 + ((i 1 : Fin 2048).val)) * 1 + ((i 2 : Fin 1).val)) / 2048 = (i 0 : Fin 8).val := by have : (i 1 : Fin 2048).val < 2048 := (i 1 : Fin 2048).isLt; have : (i 2 : Fin 1).val < 1 := (i 2 : Fin 1).isLt; omega
  have h2 : ((((i 0 : Fin 8).val) * 2048 + ((i 1 : Fin 2048).val)) * 1 + ((i 2 : Fin 1).val)) % 2048 = (i 1 : Fin 2048).val := by have : (i 1 : Fin 2048).val < 2048 := (i 1 : Fin 2048).isLt; have : (i 2 : Fin 1).val < 1 := (i 2 : Fin 1).isLt; omega
  refine (val_main_v98_apply _ _ _ _ _ i).trans ((r_v97 T _).trans ?_)
  show (((∑ j ∈ range 2048, (headOf P C D G K ((((((i 0 : Fin 8).val) * 2048 + ((i 1 : Fin 2048).val)) * 1 + ((i 2 : Fin 1).val)) / 2048))).dp ((((((i 0 : Fin 8).val) * 2048 + ((i 1 : Fin 2048).val)) * 1 + ((i 2 : Fin 1).val)) % 2048)) j * (1 / ((headOf P C D G K ((((((i 0 : Fin 8).val) * 2048 + ((i 1 : Fin 2048).val)) * 1 + ((i 2 : Fin 1).val)) / 2048))).sumEx 2048 ((((((i 0 : Fin 8).val) * 2048 + ((i 1 : Fin 2048).val)) * 1 + ((i 2 : Fin 1).val)) % 2048)) * (headOf P C D G K ((((((i 0 : Fin 8).val) * 2048 + ((i 1 : Fin 2048).val)) * 1 + ((i 2 : Fin 1).val)) / 2048))).sumEx 2048 ((((((i 0 : Fin 8).val) * 2048 + ((i 1 : Fin 2048).val)) * 1 + ((i 2 : Fin 1).val)) % 2048)))) * (headOf P C D G K ((((((i 0 : Fin 8).val) * 2048 + ((i 1 : Fin 2048).val)) * 1 + ((i 2 : Fin 1).val)) / 2048))).ex 2048 ((((((i 0 : Fin 8).val) * 2048 + ((i 1 : Fin 2048).val)) * 1 + ((i 2 : Fin 1).val)) % 2048)) j) : ℝ) : EReal) = _
  rw [h1, h2]

theorem r_v99 (i : S8x2048x1.Idx) : val_main_v99 (F := Ideal) x0 x1 x2 x3 x4 i = ((-(∑ j ∈ range 2048, (headOf P C D G K ((i 0 : Fin 8).val)).dp ((i 1 : Fin 2048).val) j * (1 / ((headOf P C D G K ((i 0 : Fin 8).val)).sumEx 2048 ((i 1 : Fin 2048).val) * (headOf P C D G K ((i 0 : Fin 8).val)).sumEx 2048 ((i 1 : Fin 2048).val))) * (headOf P C D G K ((i 0 : Fin 8).val)).ex 2048 ((i 1 : Fin 2048).val) j) : ℝ) : EReal) :=
  (val_main_v99_apply _ _ _ _ _ _ ).trans (neg_eq (r_v98 T i))

theorem r_v100 (i : S8x2048x2048.Idx) : val_main_v100 (F := Ideal) x0 x1 x3 x4 i = (((headOf P C D G K (i 0 : Fin 8).val).sumEx 2048 ((i 1 : Fin 2048).val) : ℝ) : EReal) :=
  (val_main_v100_apply _ _ _ _ _ ).trans (r_v79 T _)

theorem r_v101 (i : S8x2048x2048.Idx) : val_main_v101 (F := Ideal) x0 x1 x2 x3 x4 i = (((headOf P C D G K (i 0 : Fin 8).val).dp ((i 1 : Fin 2048).val) ((i 2 : Fin 2048).val) / (headOf P C D G K (i 0 : Fin 8).val).sumEx 2048 ((i 1 : Fin 2048).val) : ℝ) : EReal) :=
  (val_main_v101_apply _ _ _ _ _ _ ).trans (div_eq (r_v91 T i) (r_v100 T i) (Head.sumEx_pos _ (i 1 : Fin 2048).isLt).ne')

theorem r_v102 (i : S8x2048.Idx) : val_main_v102 (F := Ideal) x0 x1 x2 x3 x4 i = ((-(∑ j ∈ range 2048, (headOf P C D G K ((i 0 : Fin 8).val)).dp ((i 1 : Fin 2048).val) j * (1 / ((headOf P C D G K ((i 0 : Fin 8).val)).sumEx 2048 ((i 1 : Fin 2048).val) * (headOf P C D G K ((i 0 : Fin 8).val)).sumEx 2048 ((i 1 : Fin 2048).val))) * (headOf P C D G K ((i 0 : Fin 8).val)).ex 2048 ((i 1 : Fin 2048).val) j) : ℝ) : EReal) :=
  (val_main_v102_apply _ _ _ _ _ _ ).trans (sum_one _ _ word_zero (r_v99 T _))

theorem r_v103 (i : S8x2048x2048.Idx) : val_main_v103 (F := Ideal) x0 x1 x2 x3 x4 i = ((-(∑ j ∈ range 2048, (headOf P C D G K ((i 0 : Fin 8).val)).dp ((i 1 : Fin 2048).val) j * (1 / ((headOf P C D G K ((i 0 : Fin 8).val)).sumEx 2048 ((i 1 : Fin 2048).val) * (headOf P C D G K ((i 0 : Fin 8).val)).sumEx 2048 ((i 1 : Fin 2048).val))) * (headOf P C D G K ((i 0 : Fin 8).val)).ex 2048 ((i 1 : Fin 2048).val) j) : ℝ) : EReal) :=
  (val_main_v103_apply _ _ _ _ _ _ ).trans (r_v102 T _)

theorem r_v104 (i : S8x2048x2048.Idx) : val_main_v104 (F := Ideal) x0 x1 x2 x3 x4 i = (((headOf P C D G K (i 0 : Fin 8).val).dp ((i 1 : Fin 2048).val) ((i 2 : Fin 2048).val) / (headOf P C D G K (i 0 : Fin 8).val).sumEx 2048 ((i 1 : Fin 2048).val) + -(∑ j ∈ range 2048, (headOf P C D G K ((i 0 : Fin 8).val)).dp ((i 1 : Fin 2048).val) j * (1 / ((headOf P C D G K ((i 0 : Fin 8).val)).sumEx 2048 ((i 1 : Fin 2048).val) * (headOf P C D G K ((i 0 : Fin 8).val)).sumEx 2048 ((i 1 : Fin 2048).val))) * (headOf P C D G K ((i 0 : Fin 8).val)).ex 2048 ((i 1 : Fin 2048).val) j) : ℝ) : EReal) :=
  (val_main_v104_apply _ _ _ _ _ _ ).trans (add_eq (r_v101 T i) (r_v103 T i))

theorem r_v105 (i : S8x2048x2048.Idx) : val_main_v105 (F := Ideal) x0 x1 x2 x3 x4 i = (((headOf P C D G K (i 0 : Fin 8).val).ds ((i 1 : Fin 2048).val) ((i 2 : Fin 2048).val) : ℝ) : EReal) :=
  (val_main_v105_apply _ _ _ _ _ _ ).trans ((mul_eq (r_v104 T i) (r_v77 T i)).trans (congrArg _ (ds_ref _ (i 1 : Fin 2048).isLt _)))

theorem r_v106 (i : S8x2048x2048.Idx) : val_main_v106 (F := Ideal) x0 x1 x2 x3 x4 i = (((headOf P C D G K (i 0 : Fin 8).val).ds ((i 1 : Fin 2048).val) ((i 2 : Fin 2048).val) : ℝ) : EReal) :=
  by
  rw [val_main_v106_apply _ _ _ _ _ i, mask_ref T, r_v105 T i]
  split_ifs with hc
  · rfl
  · rw [Head.ds_of_lt _ (not_le.mp hc)]; exact word_zero

theorem r_v107 (i : S8x2048.Idx) : val_main_v107 (F := Ideal) x0 x1 x2 x3 x4 i = (((headOf P C D G K (i 0 : Fin 8).val).rowSum ((i 1 : Fin 2048).val) : ℝ) : EReal) :=
  (val_main_v107_apply _ _ _ _ _ _ ).trans ((sum_eq _ (fun j => (headOf P C D G K (i 0 : Fin 8).val).ds ((i 1 : Fin 2048).val) j) _ word_zero fun k => r_v106 T _).trans (congrArg _ (sum_causal (fun j => (headOf P C D G K (i 0 : Fin 8).val).ds ((i 1 : Fin 2048).val) j) (fun _ hj => Head.ds_of_lt _ hj) (i 1 : Fin 2048).isLt)))

theorem r_v108 (i : S8x2048x1.Idx) : val_main_v108 (F := Ideal) x0 x1 x2 x3 x4 i = (((headOf P C D G K ((i 0 : Fin 8).val)).rowSum ((i 1 : Fin 2048).val) : ℝ) : EReal) :=
  by
  have h1 : ((((i 0 : Fin 8).val) * 2048 + ((i 1 : Fin 2048).val)) * 1 + ((i 2 : Fin 1).val)) / 2048 = (i 0 : Fin 8).val := by have : (i 1 : Fin 2048).val < 2048 := (i 1 : Fin 2048).isLt; have : (i 2 : Fin 1).val < 1 := (i 2 : Fin 1).isLt; omega
  have h2 : ((((i 0 : Fin 8).val) * 2048 + ((i 1 : Fin 2048).val)) * 1 + ((i 2 : Fin 1).val)) % 2048 = (i 1 : Fin 2048).val := by have : (i 1 : Fin 2048).val < 2048 := (i 1 : Fin 2048).isLt; have : (i 2 : Fin 1).val < 1 := (i 2 : Fin 1).isLt; omega
  refine (val_main_v108_apply _ _ _ _ _ i).trans ((r_v107 T _).trans ?_)
  show (((headOf P C D G K ((((((i 0 : Fin 8).val) * 2048 + ((i 1 : Fin 2048).val)) * 1 + ((i 2 : Fin 1).val)) / 2048))).rowSum ((((((i 0 : Fin 8).val) * 2048 + ((i 1 : Fin 2048).val)) * 1 + ((i 2 : Fin 1).val)) % 2048)) : ℝ) : EReal) = _
  rw [h1, h2]

theorem r_v109 (i : S8x2048x2048.Idx) : val_main_v109 (F := Ideal) x0 x1 x2 x3 x4 i = ((-(headOf P C D G K (i 0 : Fin 8).val).ds ((i 1 : Fin 2048).val) ((i 2 : Fin 2048).val) : ℝ) : EReal) :=
  (val_main_v109_apply _ _ _ _ _ _ ).trans (neg_eq (r_v106 T i))

theorem r_v110 (i : S8x2048.Idx) : val_main_v110 (F := Ideal) x0 x1 x2 x3 x4 i = ((-(headOf P C D G K (i 0 : Fin 8).val).colSumTo 2048 ((i 1 : Fin 2048).val) : ℝ) : EReal) :=
  (val_main_v110_apply _ _ _ _ _ _ ).trans ((sum_eq _ (fun t => -(headOf P C D G K (i 0 : Fin 8).val).ds t ((i 1 : Fin 2048).val)) _ word_zero fun k => r_v109 T _).trans (congrArg _ (Finset.sum_neg_distrib _)))

theorem r_v111 (i : S8x1x2048.Idx) : val_main_v111 (F := Ideal) x0 x1 x2 x3 x4 i = ((-(headOf P C D G K ((i 0 : Fin 8).val)).colSumTo 2048 ((i 2 : Fin 2048).val) : ℝ) : EReal) :=
  by
  have h1 : ((((i 0 : Fin 8).val) * 1 + ((i 1 : Fin 1).val)) * 2048 + ((i 2 : Fin 2048).val)) / 2048 = (i 0 : Fin 8).val := by have : (i 1 : Fin 1).val < 1 := (i 1 : Fin 1).isLt; have : (i 2 : Fin 2048).val < 2048 := (i 2 : Fin 2048).isLt; omega
  have h2 : ((((i 0 : Fin 8).val) * 1 + ((i 1 : Fin 1).val)) * 2048 + ((i 2 : Fin 2048).val)) % 2048 = (i 2 : Fin 2048).val := by have : (i 1 : Fin 1).val < 1 := (i 1 : Fin 1).isLt; have : (i 2 : Fin 2048).val < 2048 := (i 2 : Fin 2048).isLt; omega
  refine (val_main_v111_apply _ _ _ _ _ i).trans ((r_v110 T _).trans ?_)
  show ((-(headOf P C D G K ((((((i 0 : Fin 8).val) * 1 + ((i 1 : Fin 1).val)) * 2048 + ((i 2 : Fin 2048).val)) / 2048))).colSumTo 2048 ((((((i 0 : Fin 8).val) * 1 + ((i 1 : Fin 1).val)) * 2048 + ((i 2 : Fin 2048).val)) % 2048)) : ℝ) : EReal) = _
  rw [h1, h2]

theorem r_v112 (i : S8x2048.Idx) : val_main_v112 (F := Ideal) x0 x1 x2 x3 x4 i = ((-(headOf P C D G K (i 0 : Fin 8).val).colSumTo 2048 ((i 1 : Fin 2048).val) : ℝ) : EReal) :=
  (val_main_v112_apply _ _ _ _ _ _ ).trans (sum_one _ _ word_zero (r_v111 T _))

theorem r_v113 (i : S2048x8.Idx) : val_main_v113 (F := Ideal) x0 x1 x2 x3 x4 i = ((-(headOf P C D G K (i 1 : Fin 8).val).colSumTo 2048 ((i 0 : Fin 2048).val) : ℝ) : EReal) :=
  (val_main_v113_apply _ _ _ _ _ _ ).trans (r_v112 T _)

theorem r_v114 (i : S8x2048.Idx) : val_main_v114 (F := Ideal) x0 x1 x2 x3 x4 i = (((headOf P C D G K (i 0 : Fin 8).val).rowSum ((i 1 : Fin 2048).val) : ℝ) : EReal) :=
  (val_main_v114_apply _ _ _ _ _ _ ).trans (sum_one _ _ word_zero (r_v108 T _))

theorem r_v115 (i : S2048x8.Idx) : val_main_v115 (F := Ideal) x0 x1 x2 x3 x4 i = (((headOf P C D G K (i 1 : Fin 8).val).rowSum ((i 0 : Fin 2048).val) : ℝ) : EReal) :=
  (val_main_v115_apply _ _ _ _ _ _ ).trans (r_v114 T _)

theorem r_v116 (i : S2048x8.Idx) : val_main_v116 (F := Ideal) x0 x1 x2 x3 x4 i = (((headOf P C D G K (i 1 : Fin 8).val).outC ((i 0 : Fin 2048).val) : ℝ) : EReal) :=
  (val_main_v116_apply _ _ _ _ _ _ ).trans ((add_eq (r_v113 T i) (r_v115 T i)).trans (congrArg _ (add_comm _ _)))

theorem r_v117 (i : S8x2048x2048.Idx) : val_main_v117 (F := Ideal)  i = ((sc : ℝ) : EReal) := word_sc

theorem r_v118 (i : S8x2048x2048.Idx) : val_main_v118 (F := Ideal) x0 x1 x2 x3 x4 i = (((headOf P C D G K (i 0 : Fin 8).val).ds ((i 1 : Fin 2048).val) ((i 2 : Fin 2048).val) * sc : ℝ) : EReal) :=
  (val_main_v118_apply _ _ _ _ _ _ ).trans (mul_eq (r_v106 T i) (r_v117 T i))

theorem r_v119 (i : S8x2048x128.Idx) : val_main_v119 (F := Ideal) x0 x1 x2 x3 x4 i = (((headOf P C D G K (i 0 : Fin 8).val).dknTo 2048 ((i 1 : Fin 2048).val) ((i 2 : Fin 128).val) : ℝ) : EReal) :=
  (val_main_v119_apply _ _ _ _ _ _ ).trans ((dot_eq _ _ (fun t => (headOf P C D G K (i 0 : Fin 8).val).ds t ((i 1 : Fin 2048).val) * sc) (fun t => ((headOf P C D G K (i 0 : Fin 8).val).q t ((i 2 : Fin 128).val) * rn (headOf P C D G K (i 0 : Fin 8).val).q t * (headOf P C D G K (i 0 : Fin 8).val).qg ((i 2 : Fin 128).val))) (fun k => r_v118 T _) fun k => r_v20 T _).trans (congrArg _ (Finset.sum_congr rfl fun _ _ => by simp only [Head.qs]; ring)))

theorem r_v120 (i : S2048x8x128.Idx) : val_main_v120 (F := Ideal) x0 x1 x2 x3 x4 i = (((headOf P C D G K (i 1 : Fin 8).val).dknTo 2048 ((i 0 : Fin 2048).val) ((i 2 : Fin 128).val) : ℝ) : EReal) :=
  (val_main_v120_apply _ _ _ _ _ _ ).trans (r_v119 T _)

theorem r_v121 (i : S8x2048x128.Idx) : val_main_v121 (F := Ideal) x0 x1 x2 x3 x4 i = (((headOf P C D G K (i 0 : Fin 8).val).gq ((i 1 : Fin 2048).val) ((i 2 : Fin 128).val) : ℝ) : EReal) :=
  (val_main_v121_apply _ _ _ _ _ _ ).trans ((dot_eq _ _ (fun j => (headOf P C D G K (i 0 : Fin 8).val).ds ((i 1 : Fin 2048).val) j * sc) (fun j => (headOf P C D G K (i 0 : Fin 8).val).kn j ((i 2 : Fin 128).val)) (fun k => r_v118 T _) fun k => r_v37 T _).trans (congrArg _ (gq_ref _ (i 1 : Fin 2048).isLt _)))

theorem r_v122 (i : S2048x8x128.Idx) : val_main_v122 (F := Ideal) x0 x1 x2 x3 x4 i = (((headOf P C D G K (i 1 : Fin 8).val).gq ((i 0 : Fin 2048).val) ((i 2 : Fin 128).val) : ℝ) : EReal) :=
  (val_main_v122_apply _ _ _ _ _ _ ).trans (r_v121 T _)

theorem r_v123 (i : S2048x1024.Idx) : val_main_v123 (F := Ideal) x0 x1 x2 x3 x4 i = (((headOf P C D G K (((i 1 : Fin 1024).val) / 128)).dvTo 2048 ((i 0 : Fin 2048).val) (((i 1 : Fin 1024).val) % 128) : ℝ) : EReal) :=
  by
  have h1 : ((i 0 : Fin 2048).val * 1024 + (i 1 : Fin 1024).val) / 1024 = (i 0 : Fin 2048).val := by have : (i 1 : Fin 1024).val < 1024 := (i 1 : Fin 1024).isLt; omega
  have h2 : ((i 0 : Fin 2048).val * 1024 + (i 1 : Fin 1024).val) / 128 % 8 = (i 1 : Fin 1024).val / 128 := by have : (i 1 : Fin 1024).val < 1024 := (i 1 : Fin 1024).isLt; omega
  have h3 : ((i 0 : Fin 2048).val * 1024 + (i 1 : Fin 1024).val) % 128 = (i 1 : Fin 1024).val % 128 := by have : (i 1 : Fin 1024).val < 1024 := (i 1 : Fin 1024).isLt; omega
  refine (val_main_v123_apply _ _ _ _ _ i).trans ((r_v93 T _).trans ?_)
  show (((headOf P C D G K (((i 0 : Fin 2048).val * 1024 + (i 1 : Fin 1024).val) / 128 % 8)).dvTo 2048 (((i 0 : Fin 2048).val * 1024 + (i 1 : Fin 1024).val) / 1024) (((i 0 : Fin 2048).val * 1024 + (i 1 : Fin 1024).val) % 128) : ℝ) : EReal) = _
  rw [h1, h2, h3]

end Cert.Attn

end
-- ==== Proof.RefC.lean ====
/- The reference read at an index, continued: the gradients of the gains and, through the normalisation, of the
   queries and keys; then the results. -/
module

public import proofs.«01_k».proof.Proof.RefB

@[expose] public section

set_option maxHeartbeats 400000

noncomputable section

namespace Cert.Attn

open Idealize.ShloMosaic Finset Cert.ReferenceIdeal Cert.ReferenceIdeal.Read

variable {x0 : FVec Ideal S2048x5120 .f32} {x1 : FVec Ideal S2048x128 .f32} {x2 : FVec Ideal S2048x2048 .f32}
  {x3 x4 : FVec Ideal S1x128 .f32} {P C D : ℕ → ℕ → ℝ} {G K : ℕ → ℝ} (T : Tables x0 x1 x2 x3 x4 P C D G K)
include T

theorem r_v124 (i : S2048x8x128.Idx) : val_main_v124 (F := Ideal) x0 x1 x2 x3 x4 i = (((headOf P C D G K (i 1 : Fin 8).val).k ((i 0 : Fin 2048).val) ((i 2 : Fin 128).val) * rn (headOf P C D G K (i 1 : Fin 8).val).k ((i 0 : Fin 2048).val) * (headOf P C D G K (i 1 : Fin 8).val).dknTo 2048 ((i 0 : Fin 2048).val) ((i 2 : Fin 128).val) : ℝ) : EReal) :=
  (val_main_v124_apply _ _ _ _ _ _ ).trans (mul_eq (r_v34 T i) (r_v120 T i))

theorem r_v125 (i : S128.Idx) : val_main_v125 (F := Ideal) x0 x1 x2 x3 x4 i = ((∑ a ∈ range 8, (headOf P C D G K a).outKg (i 0 : Fin 128).val : ℝ) : EReal) := by
  unfold val_main_v125
  refine (sum_rows _ _ _ _ word_zero i (fun t a => (headOf P C D G K a).k t (i 0 : Fin 128).val * rn (headOf P C D G K a).k t * (headOf P C D G K a).dknTo 2048 t (i 0 : Fin 128).val) fun t a => r_v124 T _).trans (congrArg _ ?_)
  rw [Finset.sum_comm]
  exact Finset.sum_congr rfl fun a _ => Finset.sum_congr rfl fun t _ => mul_comm _ _
theorem r_v126 (i : S1x1x128.Idx) : val_main_v126 (F := Ideal) x0 x1 x2 x3 x4 i = ((∑ a ∈ range 8, (headOf P C D G K a).outKg (i 2 : Fin 128).val : ℝ) : EReal) := by
  refine (val_main_v126_apply _ _ _ _ _ i).trans ((r_v125 T _).trans ?_)
  show ((∑ a ∈ range 8, (headOf P C D G K a).outKg (((i 0 : Fin 1).val * 1 + (i 1 : Fin 1).val) * 128 + (i 2 : Fin 128).val) : ℝ) : EReal) = _
  rw [show ((i 0 : Fin 1).val * 1 + (i 1 : Fin 1).val) * 128 + (i 2 : Fin 128).val = (i 2 : Fin 128).val by have : (i 0 : Fin 1).val < 1 := (i 0 : Fin 1).isLt; have : (i 1 : Fin 1).val < 1 := (i 1 : Fin 1).isLt; omega]
theorem r_v129 (i : S128.Idx) : val_main_v129 (F := Ideal) x0 x1 x2 x3 x4 i = ((∑ a ∈ range 8, (headOf P C D G K a).outKg (i 0 : Fin 128).val : ℝ) : EReal) := by
  unfold val_main_v129
  exact sum_unit _ _ _ _ word_zero i _ (r_v126 T _)
theorem r_v130 (i : S1x128.Idx) : val_main_v130 (F := Ideal) x0 x1 x2 x3 x4 i = ((∑ a ∈ range 8, (headOf P C D G K a).outKg (i 1 : Fin 128).val : ℝ) : EReal) :=
  (val_main_v130_apply _ _ _ _ _ i).trans (r_v129 T _)

theorem r_v146 (i : S2048x8x128.Idx) : val_main_v146 (F := Ideal) x0 x1 x2 x3 x4 i = (((headOf P C D G K (i 1 : Fin 8).val).q ((i 0 : Fin 2048).val) ((i 2 : Fin 128).val) * rn (headOf P C D G K (i 1 : Fin 8).val).q ((i 0 : Fin 2048).val) * (headOf P C D G K (i 1 : Fin 8).val).gq ((i 0 : Fin 2048).val) ((i 2 : Fin 128).val) : ℝ) : EReal) :=
  (val_main_v146_apply _ _ _ _ _ _ ).trans (mul_eq (r_v17 T i) (r_v122 T i))

theorem r_v147 (i : S128.Idx) : val_main_v147 (F := Ideal) x0 x1 x2 x3 x4 i = ((∑ a ∈ range 8, (headOf P C D G K a).outQg (i 0 : Fin 128).val : ℝ) : EReal) := by
  unfold val_main_v147
  refine (sum_rows _ _ _ _ word_zero i (fun t a => (headOf P C D G K a).q t (i 0 : Fin 128).val * rn (headOf P C D G K a).q t * (headOf P C D G K a).gq t (i 0 : Fin 128).val) fun t a => r_v146 T _).trans (congrArg _ ?_)
  rw [Finset.sum_comm]
  exact Finset.sum_congr rfl fun a _ => Finset.sum_congr rfl fun t _ => mul_comm _ _
theorem r_v148 (i : S1x1x128.Idx) : val_main_v148 (F := Ideal) x0 x1 x2 x3 x4 i = ((∑ a ∈ range 8, (headOf P C D G K a).outQg (i 2 : Fin 128).val : ℝ) : EReal) := by
  refine (val_main_v148_apply _ _ _ _ _ i).trans ((r_v147 T _).trans ?_)
  show ((∑ a ∈ range 8, (headOf P C D G K a).outQg (((i 0 : Fin 1).val * 1 + (i 1 : Fin 1).val) * 128 + (i 2 : Fin 128).val) : ℝ) : EReal) = _
  rw [show ((i 0 : Fin 1).val * 1 + (i 1 : Fin 1).val) * 128 + (i 2 : Fin 128).val = (i 2 : Fin 128).val by have : (i 0 : Fin 1).val < 1 := (i 0 : Fin 1).isLt; have : (i 1 : Fin 1).val < 1 := (i 1 : Fin 1).isLt; omega]
theorem r_v151 (i : S128.Idx) : val_main_v151 (F := Ideal) x0 x1 x2 x3 x4 i = ((∑ a ∈ range 8, (headOf P C D G K a).outQg (i 0 : Fin 128).val : ℝ) : EReal) := by
  unfold val_main_v151
  exact sum_unit _ _ _ _ word_zero i _ (r_v148 T _)
theorem r_v152 (i : S1x128.Idx) : val_main_v152 (F := Ideal) x0 x1 x2 x3 x4 i = ((∑ a ∈ range 8, (headOf P C D G K a).outQg (i 1 : Fin 128).val : ℝ) : EReal) :=
  (val_main_v152_apply _ _ _ _ _ i).trans (r_v151 T _)

theorem r_v127 (i : S2048x8x128.Idx) : val_main_v127 (F := Ideal) x4 i = ((K ((i 2 : Fin 128).val) : ℝ) : EReal) :=
  (val_main_v127_apply _ _ ).trans (r_v35 T _)

theorem r_v128 (i : S2048x8x128.Idx) : val_main_v128 (F := Ideal) x0 x1 x2 x3 x4 i = ((((headOf P C D G K (i 1 : Fin 8).val).dknTo 2048 ((i 0 : Fin 2048).val) ((i 2 : Fin 128).val) * (headOf P C D G K (i 1 : Fin 8).val).kg ((i 2 : Fin 128).val)) : ℝ) : EReal) :=
  (val_main_v128_apply _ _ _ _ _ _ ).trans (mul_eq (r_v120 T i) (r_v127 T i))

theorem r_v131 (i : S2048x8x128.Idx) : val_main_v131 (F := Ideal) x0 x1 x2 x3 x4 i = (((headOf P C D G K (i 1 : Fin 8).val).k ((i 0 : Fin 2048).val) ((i 2 : Fin 128).val) * ((headOf P C D G K (i 1 : Fin 8).val).dknTo 2048 ((i 0 : Fin 2048).val) ((i 2 : Fin 128).val) * (headOf P C D G K (i 1 : Fin 8).val).kg ((i 2 : Fin 128).val)) : ℝ) : EReal) :=
  (val_main_v131_apply _ _ _ _ _ _ ).trans (mul_eq (r_v21 T i) (r_v128 T i))

theorem r_v132 (i : S2048x8.Idx) : val_main_v132 (F := Ideal) x0 x1 x2 x3 x4 i = (((∑ d ∈ range 128, (headOf P C D G K (i 1 : Fin 8).val).k ((i 0 : Fin 2048).val) d * ((headOf P C D G K (i 1 : Fin 8).val).dknTo 2048 ((i 0 : Fin 2048).val) d * (headOf P C D G K (i 1 : Fin 8).val).kg d)) : ℝ) : EReal) :=
  (val_main_v132_apply _ _ _ _ _ _ ).trans (sum_eq _ (fun d => (headOf P C D G K (i 1 : Fin 8).val).k ((i 0 : Fin 2048).val) d * ((headOf P C D G K (i 1 : Fin 8).val).dknTo 2048 ((i 0 : Fin 2048).val) d * (headOf P C D G K (i 1 : Fin 8).val).kg d)) _ word_zero fun k => r_v131 T _)

theorem r_v133 (i : S2048x8x1.Idx) : val_main_v133 (F := Ideal) x0 x1 x2 x3 x4 i = (((∑ d ∈ range 128, (headOf P C D G K (i 1 : Fin 8).val).k ((i 0 : Fin 2048).val) d * ((headOf P C D G K (i 1 : Fin 8).val).dknTo 2048 ((i 0 : Fin 2048).val) d * (headOf P C D G K (i 1 : Fin 8).val).kg d)) : ℝ) : EReal) :=
  by
  have h1 : ((((i 0 : Fin 2048).val) * 8 + ((i 1 : Fin 8).val)) * 1 + ((i 2 : Fin 1).val)) / 8 = (i 0 : Fin 2048).val := by have : (i 1 : Fin 8).val < 8 := (i 1 : Fin 8).isLt; have : (i 2 : Fin 1).val < 1 := (i 2 : Fin 1).isLt; omega
  have h2 : ((((i 0 : Fin 2048).val) * 8 + ((i 1 : Fin 8).val)) * 1 + ((i 2 : Fin 1).val)) % 8 = (i 1 : Fin 8).val := by have : (i 1 : Fin 8).val < 8 := (i 1 : Fin 8).isLt; have : (i 2 : Fin 1).val < 1 := (i 2 : Fin 1).isLt; omega
  refine (val_main_v133_apply _ _ _ _ _ i).trans ((r_v132 T _).trans ?_)
  show (((∑ d ∈ range 128, (headOf P C D G K (((((i 0 : Fin 2048).val) * 8 + ((i 1 : Fin 8).val)) * 1 + ((i 2 : Fin 1).val)) % 8)).k ((((((i 0 : Fin 2048).val) * 8 + ((i 1 : Fin 8).val)) * 1 + ((i 2 : Fin 1).val)) / 8)) d * ((headOf P C D G K (((((i 0 : Fin 2048).val) * 8 + ((i 1 : Fin 8).val)) * 1 + ((i 2 : Fin 1).val)) % 8)).dknTo 2048 ((((((i 0 : Fin 2048).val) * 8 + ((i 1 : Fin 8).val)) * 1 + ((i 2 : Fin 1).val)) / 8)) d * (headOf P C D G K (((((i 0 : Fin 2048).val) * 8 + ((i 1 : Fin 8).val)) * 1 + ((i 2 : Fin 1).val)) % 8)).kg d)) : ℝ) : EReal) = _
  rw [h1, h2]

theorem r_v134 (i : S2048x8x128.Idx) : val_main_v134 (F := Ideal) x0 i = ((rn (headOf P C D G K (i 1 : Fin 8).val).k ((i 0 : Fin 2048).val) : ℝ) : EReal) :=
  (val_main_v134_apply _ _ ).trans (r_v29 T _)

theorem r_v135 (i : S2048x8x128.Idx) : val_main_v135 (F := Ideal) x0 x1 x2 x3 x4 i = ((((headOf P C D G K (i 1 : Fin 8).val).dknTo 2048 ((i 0 : Fin 2048).val) ((i 2 : Fin 128).val) * (headOf P C D G K (i 1 : Fin 8).val).kg ((i 2 : Fin 128).val)) * rn (headOf P C D G K (i 1 : Fin 8).val).k ((i 0 : Fin 2048).val) : ℝ) : EReal) :=
  (val_main_v135_apply _ _ _ _ _ _ ).trans (mul_eq (r_v128 T i) (r_v134 T i))

theorem r_v136 (i : S2048x8x1.Idx) : val_main_v136 (F := Ideal) x0 x1 x2 x3 x4 i = (((∑ d ∈ range 128, (headOf P C D G K (i 1 : Fin 8).val).k ((i 0 : Fin 2048).val) d * ((headOf P C D G K (i 1 : Fin 8).val).dknTo 2048 ((i 0 : Fin 2048).val) d * (headOf P C D G K (i 1 : Fin 8).val).kg d)) * (-(1 / 2) * (rn (headOf P C D G K (i 1 : Fin 8).val).k ((i 0 : Fin 2048).val) / ms (headOf P C D G K (i 1 : Fin 8).val).k ((i 0 : Fin 2048).val))) : ℝ) : EReal) :=
  (val_main_v136_apply _ _ _ _ _ _ ).trans (mul_eq (r_v133 T i) (r_v32 T i))

theorem r_v137 (i : S2048x8x1.Idx) : val_main_v137 (F := Ideal)  i = ((128 : ℝ) : EReal) := word_128

theorem r_v138 (i : S2048x8x1.Idx) : val_main_v138 (F := Ideal) x0 x1 x2 x3 x4 i = ((((∑ d ∈ range 128, (headOf P C D G K (i 1 : Fin 8).val).k ((i 0 : Fin 2048).val) d * ((headOf P C D G K (i 1 : Fin 8).val).dknTo 2048 ((i 0 : Fin 2048).val) d * (headOf P C D G K (i 1 : Fin 8).val).kg d)) * (-(1 / 2) * (rn (headOf P C D G K (i 1 : Fin 8).val).k ((i 0 : Fin 2048).val) / ms (headOf P C D G K (i 1 : Fin 8).val).k ((i 0 : Fin 2048).val))) / 128) : ℝ) : EReal) :=
  (val_main_v138_apply _ _ _ _ _ _ ).trans (div_eq (r_v136 T i) (r_v137 T i) (by norm_num))

theorem r_v139 (i : S2048x8.Idx) : val_main_v139 (F := Ideal) x0 x1 x2 x3 x4 i = ((((∑ d ∈ range 128, (headOf P C D G K (i 1 : Fin 8).val).k ((i 0 : Fin 2048).val) d * ((headOf P C D G K (i 1 : Fin 8).val).dknTo 2048 ((i 0 : Fin 2048).val) d * (headOf P C D G K (i 1 : Fin 8).val).kg d)) * (-(1 / 2) * (rn (headOf P C D G K (i 1 : Fin 8).val).k ((i 0 : Fin 2048).val) / ms (headOf P C D G K (i 1 : Fin 8).val).k ((i 0 : Fin 2048).val))) / 128) : ℝ) : EReal) :=
  (val_main_v139_apply _ _ _ _ _ _ ).trans (sum_one _ _ word_zero (r_v138 T _))

theorem r_v140 (i : S2048x8x128.Idx) : val_main_v140 (F := Ideal) x0 x1 x2 x3 x4 i = ((((∑ d ∈ range 128, (headOf P C D G K (i 1 : Fin 8).val).k ((i 0 : Fin 2048).val) d * ((headOf P C D G K (i 1 : Fin 8).val).dknTo 2048 ((i 0 : Fin 2048).val) d * (headOf P C D G K (i 1 : Fin 8).val).kg d)) * (-(1 / 2) * (rn (headOf P C D G K (i 1 : Fin 8).val).k ((i 0 : Fin 2048).val) / ms (headOf P C D G K (i 1 : Fin 8).val).k ((i 0 : Fin 2048).val))) / 128) : ℝ) : EReal) :=
  (val_main_v140_apply _ _ _ _ _ _ ).trans (r_v139 T _)

theorem r_v141 (i : S2048x8x128.Idx) : val_main_v141 (F := Ideal) x0 x1 x2 x3 x4 i = (((headOf P C D G K (i 1 : Fin 8).val).k ((i 0 : Fin 2048).val) ((i 2 : Fin 128).val) * ((∑ d ∈ range 128, (headOf P C D G K (i 1 : Fin 8).val).k ((i 0 : Fin 2048).val) d * ((headOf P C D G K (i 1 : Fin 8).val).dknTo 2048 ((i 0 : Fin 2048).val) d * (headOf P C D G K (i 1 : Fin 8).val).kg d)) * (-(1 / 2) * (rn (headOf P C D G K (i 1 : Fin 8).val).k ((i 0 : Fin 2048).val) / ms (headOf P C D G K (i 1 : Fin 8).val).k ((i 0 : Fin 2048).val))) / 128) : ℝ) : EReal) :=
  (val_main_v141_apply _ _ _ _ _ _ ).trans (mul_eq (r_v21 T i) (r_v140 T i))

theorem r_v142 (i : S2048x8x128.Idx) : val_main_v142 (F := Ideal) x0 x1 x2 x3 x4 i = ((((headOf P C D G K (i 1 : Fin 8).val).dknTo 2048 ((i 0 : Fin 2048).val) ((i 2 : Fin 128).val) * (headOf P C D G K (i 1 : Fin 8).val).kg ((i 2 : Fin 128).val)) * rn (headOf P C D G K (i 1 : Fin 8).val).k ((i 0 : Fin 2048).val) + (headOf P C D G K (i 1 : Fin 8).val).k ((i 0 : Fin 2048).val) ((i 2 : Fin 128).val) * ((∑ d ∈ range 128, (headOf P C D G K (i 1 : Fin 8).val).k ((i 0 : Fin 2048).val) d * ((headOf P C D G K (i 1 : Fin 8).val).dknTo 2048 ((i 0 : Fin 2048).val) d * (headOf P C D G K (i 1 : Fin 8).val).kg d)) * (-(1 / 2) * (rn (headOf P C D G K (i 1 : Fin 8).val).k ((i 0 : Fin 2048).val) / ms (headOf P C D G K (i 1 : Fin 8).val).k ((i 0 : Fin 2048).val))) / 128) : ℝ) : EReal) :=
  (val_main_v142_apply _ _ _ _ _ _ ).trans (add_eq (r_v135 T i) (r_v141 T i))

theorem r_v143 (i : S2048x8x128.Idx) : val_main_v143 (F := Ideal) x0 x1 x2 x3 x4 i = ((((∑ d ∈ range 128, (headOf P C D G K (i 1 : Fin 8).val).k ((i 0 : Fin 2048).val) d * ((headOf P C D G K (i 1 : Fin 8).val).dknTo 2048 ((i 0 : Fin 2048).val) d * (headOf P C D G K (i 1 : Fin 8).val).kg d)) * (-(1 / 2) * (rn (headOf P C D G K (i 1 : Fin 8).val).k ((i 0 : Fin 2048).val) / ms (headOf P C D G K (i 1 : Fin 8).val).k ((i 0 : Fin 2048).val))) / 128) * (headOf P C D G K (i 1 : Fin 8).val).k ((i 0 : Fin 2048).val) ((i 2 : Fin 128).val) : ℝ) : EReal) :=
  (val_main_v143_apply _ _ _ _ _ _ ).trans (mul_eq (r_v140 T i) (r_v21 T i))

theorem r_v144 (i : S2048x8x128.Idx) : val_main_v144 (F := Ideal) x0 x1 x2 x3 x4 i = (((headOf P C D G K (i 1 : Fin 8).val).outK ((i 0 : Fin 2048).val) ((i 2 : Fin 128).val) : ℝ) : EReal) :=
  (val_main_v144_apply _ _ _ _ _ _ ).trans ((add_eq (r_v142 T i) (r_v143 T i)).trans (congrArg _ (rms_ref (headOf P C D G K (i 1 : Fin 8).val).k (fun t d => (headOf P C D G K (i 1 : Fin 8).val).dknTo 2048 t d * (headOf P C D G K (i 1 : Fin 8).val).kg d) _ _)))

theorem r_v145 (i : S2048x1024.Idx) : val_main_v145 (F := Ideal) x0 x1 x2 x3 x4 i = (((headOf P C D G K (((i 1 : Fin 1024).val) / 128)).outK ((i 0 : Fin 2048).val) (((i 1 : Fin 1024).val) % 128) : ℝ) : EReal) :=
  by
  have h1 : ((i 0 : Fin 2048).val * 1024 + (i 1 : Fin 1024).val) / 1024 = (i 0 : Fin 2048).val := by have : (i 1 : Fin 1024).val < 1024 := (i 1 : Fin 1024).isLt; omega
  have h2 : ((i 0 : Fin 2048).val * 1024 + (i 1 : Fin 1024).val) / 128 % 8 = (i 1 : Fin 1024).val / 128 := by have : (i 1 : Fin 1024).val < 1024 := (i 1 : Fin 1024).isLt; omega
  have h3 : ((i 0 : Fin 2048).val * 1024 + (i 1 : Fin 1024).val) % 128 = (i 1 : Fin 1024).val % 128 := by have : (i 1 : Fin 1024).val < 1024 := (i 1 : Fin 1024).isLt; omega
  refine (val_main_v145_apply _ _ _ _ _ i).trans ((r_v144 T _).trans ?_)
  show (((headOf P C D G K (((i 0 : Fin 2048).val * 1024 + (i 1 : Fin 1024).val) / 128 % 8)).outK (((i 0 : Fin 2048).val * 1024 + (i 1 : Fin 1024).val) / 1024) (((i 0 : Fin 2048).val * 1024 + (i 1 : Fin 1024).val) % 128) : ℝ) : EReal) = _
  rw [h1, h2, h3]

theorem r_v149 (i : S2048x8x128.Idx) : val_main_v149 (F := Ideal) x3 i = ((G ((i 2 : Fin 128).val) : ℝ) : EReal) :=
  (val_main_v149_apply _ _ ).trans (r_v18 T _)

theorem r_v150 (i : S2048x8x128.Idx) : val_main_v150 (F := Ideal) x0 x1 x2 x3 x4 i = ((((headOf P C D G K (i 1 : Fin 8).val).gq ((i 0 : Fin 2048).val) ((i 2 : Fin 128).val) * (headOf P C D G K (i 1 : Fin 8).val).qg ((i 2 : Fin 128).val)) : ℝ) : EReal) :=
  (val_main_v150_apply _ _ _ _ _ _ ).trans (mul_eq (r_v122 T i) (r_v149 T i))

theorem r_v153 (i : S2048x8x128.Idx) : val_main_v153 (F := Ideal) x0 x1 x2 x3 x4 i = (((headOf P C D G K (i 1 : Fin 8).val).q ((i 0 : Fin 2048).val) ((i 2 : Fin 128).val) * ((headOf P C D G K (i 1 : Fin 8).val).gq ((i 0 : Fin 2048).val) ((i 2 : Fin 128).val) * (headOf P C D G K (i 1 : Fin 8).val).qg ((i 2 : Fin 128).val)) : ℝ) : EReal) :=
  (val_main_v153_apply _ _ _ _ _ _ ).trans (mul_eq (r_v4 T i) (r_v150 T i))

theorem r_v154 (i : S2048x8.Idx) : val_main_v154 (F := Ideal) x0 x1 x2 x3 x4 i = (((∑ d ∈ range 128, (headOf P C D G K (i 1 : Fin 8).val).q ((i 0 : Fin 2048).val) d * ((headOf P C D G K (i 1 : Fin 8).val).gq ((i 0 : Fin 2048).val) d * (headOf P C D G K (i 1 : Fin 8).val).qg d)) : ℝ) : EReal) :=
  (val_main_v154_apply _ _ _ _ _ _ ).trans (sum_eq _ (fun d => (headOf P C D G K (i 1 : Fin 8).val).q ((i 0 : Fin 2048).val) d * ((headOf P C D G K (i 1 : Fin 8).val).gq ((i 0 : Fin 2048).val) d * (headOf P C D G K (i 1 : Fin 8).val).qg d)) _ word_zero fun k => r_v153 T _)

theorem r_v155 (i : S2048x8x1.Idx) : val_main_v155 (F := Ideal) x0 x1 x2 x3 x4 i = (((∑ d ∈ range 128, (headOf P C D G K (i 1 : Fin 8).val).q ((i 0 : Fin 2048).val) d * ((headOf P C D G K (i 1 : Fin 8).val).gq ((i 0 : Fin 2048).val) d * (headOf P C D G K (i 1 : Fin 8).val).qg d)) : ℝ) : EReal) :=
  by
  have h1 : ((((i 0 : Fin 2048).val) * 8 + ((i 1 : Fin 8).val)) * 1 + ((i 2 : Fin 1).val)) / 8 = (i 0 : Fin 2048).val := by have : (i 1 : Fin 8).val < 8 := (i 1 : Fin 8).isLt; have : (i 2 : Fin 1).val < 1 := (i 2 : Fin 1).isLt; omega
  have h2 : ((((i 0 : Fin 2048).val) * 8 + ((i 1 : Fin 8).val)) * 1 + ((i 2 : Fin 1).val)) % 8 = (i 1 : Fin 8).val := by have : (i 1 : Fin 8).val < 8 := (i 1 : Fin 8).isLt; have : (i 2 : Fin 1).val < 1 := (i 2 : Fin 1).isLt; omega
  refine (val_main_v155_apply _ _ _ _ _ i).trans ((r_v154 T _).trans ?_)
  show (((∑ d ∈ range 128, (headOf P C D G K (((((i 0 : Fin 2048).val) * 8 + ((i 1 : Fin 8).val)) * 1 + ((i 2 : Fin 1).val)) % 8)).q ((((((i 0 : Fin 2048).val) * 8 + ((i 1 : Fin 8).val)) * 1 + ((i 2 : Fin 1).val)) / 8)) d * ((headOf P C D G K (((((i 0 : Fin 2048).val) * 8 + ((i 1 : Fin 8).val)) * 1 + ((i 2 : Fin 1).val)) % 8)).gq ((((((i 0 : Fin 2048).val) * 8 + ((i 1 : Fin 8).val)) * 1 + ((i 2 : Fin 1).val)) / 8)) d * (headOf P C D G K (((((i 0 : Fin 2048).val) * 8 + ((i 1 : Fin 8).val)) * 1 + ((i 2 : Fin 1).val)) % 8)).qg d)) : ℝ) : EReal) = _
  rw [h1, h2]

theorem r_v156 (i : S2048x8x128.Idx) : val_main_v156 (F := Ideal) x0 i = ((rn (headOf P C D G K (i 1 : Fin 8).val).q ((i 0 : Fin 2048).val) : ℝ) : EReal) :=
  (val_main_v156_apply _ _ ).trans (r_v12 T _)

theorem r_v157 (i : S2048x8x128.Idx) : val_main_v157 (F := Ideal) x0 x1 x2 x3 x4 i = ((((headOf P C D G K (i 1 : Fin 8).val).gq ((i 0 : Fin 2048).val) ((i 2 : Fin 128).val) * (headOf P C D G K (i 1 : Fin 8).val).qg ((i 2 : Fin 128).val)) * rn (headOf P C D G K (i 1 : Fin 8).val).q ((i 0 : Fin 2048).val) : ℝ) : EReal) :=
  (val_main_v157_apply _ _ _ _ _ _ ).trans (mul_eq (r_v150 T i) (r_v156 T i))

theorem r_v158 (i : S2048x8x1.Idx) : val_main_v158 (F := Ideal) x0 x1 x2 x3 x4 i = (((∑ d ∈ range 128, (headOf P C D G K (i 1 : Fin 8).val).q ((i 0 : Fin 2048).val) d * ((headOf P C D G K (i 1 : Fin 8).val).gq ((i 0 : Fin 2048).val) d * (headOf P C D G K (i 1 : Fin 8).val).qg d)) * (-(1 / 2) * (rn (headOf P C D G K (i 1 : Fin 8).val).q ((i 0 : Fin 2048).val) / ms (headOf P C D G K (i 1 : Fin 8).val).q ((i 0 : Fin 2048).val))) : ℝ) : EReal) :=
  (val_main_v158_apply _ _ _ _ _ _ ).trans (mul_eq (r_v155 T i) (r_v15 T i))

theorem r_v159 (i : S2048x8x1.Idx) : val_main_v159 (F := Ideal)  i = ((128 : ℝ) : EReal) := word_128

theorem r_v160 (i : S2048x8x1.Idx) : val_main_v160 (F := Ideal) x0 x1 x2 x3 x4 i = ((((∑ d ∈ range 128, (headOf P C D G K (i 1 : Fin 8).val).q ((i 0 : Fin 2048).val) d * ((headOf P C D G K (i 1 : Fin 8).val).gq ((i 0 : Fin 2048).val) d * (headOf P C D G K (i 1 : Fin 8).val).qg d)) * (-(1 / 2) * (rn (headOf P C D G K (i 1 : Fin 8).val).q ((i 0 : Fin 2048).val) / ms (headOf P C D G K (i 1 : Fin 8).val).q ((i 0 : Fin 2048).val))) / 128) : ℝ) : EReal) :=
  (val_main_v160_apply _ _ _ _ _ _ ).trans (div_eq (r_v158 T i) (r_v159 T i) (by norm_num))

theorem r_v161 (i : S2048x8.Idx) : val_main_v161 (F := Ideal) x0 x1 x2 x3 x4 i = ((((∑ d ∈ range 128, (headOf P C D G K (i 1 : Fin 8).val).q ((i 0 : Fin 2048).val) d * ((headOf P C D G K (i 1 : Fin 8).val).gq ((i 0 : Fin 2048).val) d * (headOf P C D G K (i 1 : Fin 8).val).qg d)) * (-(1 / 2) * (rn (headOf P C D G K (i 1 : Fin 8).val).q ((i 0 : Fin 2048).val) / ms (headOf P C D G K (i 1 : Fin 8).val).q ((i 0 : Fin 2048).val))) / 128) : ℝ) : EReal) :=
  (val_main_v161_apply _ _ _ _ _ _ ).trans (sum_one _ _ word_zero (r_v160 T _))

theorem r_v162 (i : S2048x8x128.Idx) : val_main_v162 (F := Ideal) x0 x1 x2 x3 x4 i = ((((∑ d ∈ range 128, (headOf P C D G K (i 1 : Fin 8).val).q ((i 0 : Fin 2048).val) d * ((headOf P C D G K (i 1 : Fin 8).val).gq ((i 0 : Fin 2048).val) d * (headOf P C D G K (i 1 : Fin 8).val).qg d)) * (-(1 / 2) * (rn (headOf P C D G K (i 1 : Fin 8).val).q ((i 0 : Fin 2048).val) / ms (headOf P C D G K (i 1 : Fin 8).val).q ((i 0 : Fin 2048).val))) / 128) : ℝ) : EReal) :=
  (val_main_v162_apply _ _ _ _ _ _ ).trans (r_v161 T _)

theorem r_v163 (i : S2048x8x128.Idx) : val_main_v163 (F := Ideal) x0 x1 x2 x3 x4 i = (((headOf P C D G K (i 1 : Fin 8).val).q ((i 0 : Fin 2048).val) ((i 2 : Fin 128).val) * ((∑ d ∈ range 128, (headOf P C D G K (i 1 : Fin 8).val).q ((i 0 : Fin 2048).val) d * ((headOf P C D G K (i 1 : Fin 8).val).gq ((i 0 : Fin 2048).val) d * (headOf P C D G K (i 1 : Fin 8).val).qg d)) * (-(1 / 2) * (rn (headOf P C D G K (i 1 : Fin 8).val).q ((i 0 : Fin 2048).val) / ms (headOf P C D G K (i 1 : Fin 8).val).q ((i 0 : Fin 2048).val))) / 128) : ℝ) : EReal) :=
  (val_main_v163_apply _ _ _ _ _ _ ).trans (mul_eq (r_v4 T i) (r_v162 T i))

theorem r_v164 (i : S2048x8x128.Idx) : val_main_v164 (F := Ideal) x0 x1 x2 x3 x4 i = ((((headOf P C D G K (i 1 : Fin 8).val).gq ((i 0 : Fin 2048).val) ((i 2 : Fin 128).val) * (headOf P C D G K (i 1 : Fin 8).val).qg ((i 2 : Fin 128).val)) * rn (headOf P C D G K (i 1 : Fin 8).val).q ((i 0 : Fin 2048).val) + (headOf P C D G K (i 1 : Fin 8).val).q ((i 0 : Fin 2048).val) ((i 2 : Fin 128).val) * ((∑ d ∈ range 128, (headOf P C D G K (i 1 : Fin 8).val).q ((i 0 : Fin 2048).val) d * ((headOf P C D G K (i 1 : Fin 8).val).gq ((i 0 : Fin 2048).val) d * (headOf P C D G K (i 1 : Fin 8).val).qg d)) * (-(1 / 2) * (rn (headOf P C D G K (i 1 : Fin 8).val).q ((i 0 : Fin 2048).val) / ms (headOf P C D G K (i 1 : Fin 8).val).q ((i 0 : Fin 2048).val))) / 128) : ℝ) : EReal) :=
  (val_main_v164_apply _ _ _ _ _ _ ).trans (add_eq (r_v157 T i) (r_v163 T i))

theorem r_v165 (i : S2048x8x128.Idx) : val_main_v165 (F := Ideal) x0 x1 x2 x3 x4 i = ((((∑ d ∈ range 128, (headOf P C D G K (i 1 : Fin 8).val).q ((i 0 : Fin 2048).val) d * ((headOf P C D G K (i 1 : Fin 8).val).gq ((i 0 : Fin 2048).val) d * (headOf P C D G K (i 1 : Fin 8).val).qg d)) * (-(1 / 2) * (rn (headOf P C D G K (i 1 : Fin 8).val).q ((i 0 : Fin 2048).val) / ms (headOf P C D G K (i 1 : Fin 8).val).q ((i 0 : Fin 2048).val))) / 128) * (headOf P C D G K (i 1 : Fin 8).val).q ((i 0 : Fin 2048).val) ((i 2 : Fin 128).val) : ℝ) : EReal) :=
  (val_main_v165_apply _ _ _ _ _ _ ).trans (mul_eq (r_v162 T i) (r_v4 T i))

theorem r_v166 (i : S2048x8x128.Idx) : val_main_v166 (F := Ideal) x0 x1 x2 x3 x4 i = (((headOf P C D G K (i 1 : Fin 8).val).outQ ((i 0 : Fin 2048).val) ((i 2 : Fin 128).val) : ℝ) : EReal) :=
  (val_main_v166_apply _ _ _ _ _ _ ).trans ((add_eq (r_v164 T i) (r_v165 T i)).trans (congrArg _ (rms_ref (headOf P C D G K (i 1 : Fin 8).val).q (fun t d => (headOf P C D G K (i 1 : Fin 8).val).gq t d * (headOf P C D G K (i 1 : Fin 8).val).qg d) _ _)))

theorem r_v167 (i : S2048x1024.Idx) : val_main_v167 (F := Ideal) x0 x1 x2 x3 x4 i = (((headOf P C D G K (((i 1 : Fin 1024).val) / 128)).outQ ((i 0 : Fin 2048).val) (((i 1 : Fin 1024).val) % 128) : ℝ) : EReal) :=
  by
  have h1 : ((i 0 : Fin 2048).val * 1024 + (i 1 : Fin 1024).val) / 1024 = (i 0 : Fin 2048).val := by have : (i 1 : Fin 1024).val < 1024 := (i 1 : Fin 1024).isLt; omega
  have h2 : ((i 0 : Fin 2048).val * 1024 + (i 1 : Fin 1024).val) / 128 % 8 = (i 1 : Fin 1024).val / 128 := by have : (i 1 : Fin 1024).val < 1024 := (i 1 : Fin 1024).isLt; omega
  have h3 : ((i 0 : Fin 2048).val * 1024 + (i 1 : Fin 1024).val) % 128 = (i 1 : Fin 1024).val % 128 := by have : (i 1 : Fin 1024).val < 1024 := (i 1 : Fin 1024).isLt; omega
  refine (val_main_v167_apply _ _ _ _ _ i).trans ((r_v166 T _).trans ?_)
  show (((headOf P C D G K (((i 0 : Fin 2048).val * 1024 + (i 1 : Fin 1024).val) / 128 % 8)).outQ (((i 0 : Fin 2048).val * 1024 + (i 1 : Fin 1024).val) / 1024) (((i 0 : Fin 2048).val * 1024 + (i 1 : Fin 1024).val) % 128) : ℝ) : EReal) = _
  rw [h1, h2, h3]

theorem r_v168 (i : S2048x1024.Idx) : val_main_v168 (F := Ideal) x0 x1 x3 x4 i = (((headOf P C D G K (((i 1 : Fin 1024).val) / 128)).out ((i 0 : Fin 2048).val) (((i 1 : Fin 1024).val) % 128) : ℝ) : EReal) :=
  (val_main_v168_apply _ _ _ _ _ ).trans (r_v87 T i)

theorem r_v169 (i : S2048x1024.Idx) : val_main_v169 (F := Ideal) x0 x1 x2 x3 x4 i = (((headOf P C D G K (((i 1 : Fin 1024).val) / 128)).outQ ((i 0 : Fin 2048).val) (((i 1 : Fin 1024).val) % 128) : ℝ) : EReal) :=
  (val_main_v169_apply _ _ _ _ _ _ ).trans (r_v167 T i)

theorem r_v170 (i : S2048x1024.Idx) : val_main_v170 (F := Ideal) x0 x1 x2 x3 x4 i = (((headOf P C D G K (((i 1 : Fin 1024).val) / 128)).outK ((i 0 : Fin 2048).val) (((i 1 : Fin 1024).val) % 128) : ℝ) : EReal) :=
  (val_main_v170_apply _ _ _ _ _ _ ).trans (r_v145 T i)

theorem r_v171 (i : S2048x1024.Idx) : val_main_v171 (F := Ideal) x0 x1 x2 x3 x4 i = (((headOf P C D G K (((i 1 : Fin 1024).val) / 128)).dvTo 2048 ((i 0 : Fin 2048).val) (((i 1 : Fin 1024).val) % 128) : ℝ) : EReal) :=
  (val_main_v171_apply _ _ _ _ _ _ ).trans (r_v123 T i)

end Cert.Attn

end
-- ==== Proof.Algebraic.lean ====
/- The two ideal programs give the same results: each result of the kernel's program and the matching result of the
   reference's are one function of the tables of reals that the precondition gives. -/
module

public import proofs.«01_k».proof.Defs
public import proofs.«01_k».proof.Proof.KernelVal
public import proofs.«01_k».proof.Proof.KernelRun
public import proofs.«01_k».proof.Proof.RefC
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Attn Finset

theorem preserves : Cert.preserves_Kernel_KernelIdeal :=
  IdealRules.named_const.statement Cert.KernelIdeal.κ "mask" .f32 0xF149F2CA#32 ⊥ rfl

section
variable {m : (ℓ : Loc Cert.KernelIdeal.nD Cert.KernelIdeal.τ Cert.KernelIdeal.sig) → Buf (Elt Ideal) ℓ}

/-- The five arguments of device `c`. -/
abbrev arg0 (m : (ℓ : Loc Cert.KernelIdeal.nD Cert.KernelIdeal.τ Cert.KernelIdeal.sig) → Buf (Elt Ideal) ℓ) (c : Dev Cert.KernelIdeal.nD) :
    FVec Ideal Cert.Pre_finite.S2048x5120 .f32 := m ((c.tc : Thread Cert.KernelIdeal.nD Cert.KernelIdeal.τ).loc Cert.KernelIdeal.main_arg0)
abbrev arg1 (m : (ℓ : Loc Cert.KernelIdeal.nD Cert.KernelIdeal.τ Cert.KernelIdeal.sig) → Buf (Elt Ideal) ℓ) (c : Dev Cert.KernelIdeal.nD) :
    FVec Ideal Cert.Pre_finite.S2048x128 .f32 := m ((c.tc : Thread Cert.KernelIdeal.nD Cert.KernelIdeal.τ).loc Cert.KernelIdeal.main_arg1)
abbrev arg2 (m : (ℓ : Loc Cert.KernelIdeal.nD Cert.KernelIdeal.τ Cert.KernelIdeal.sig) → Buf (Elt Ideal) ℓ) (c : Dev Cert.KernelIdeal.nD) :
    FVec Ideal Cert.Pre_finite.S2048x2048 .f32 := m ((c.tc : Thread Cert.KernelIdeal.nD Cert.KernelIdeal.τ).loc Cert.KernelIdeal.main_arg2)
abbrev arg3 (m : (ℓ : Loc Cert.KernelIdeal.nD Cert.KernelIdeal.τ Cert.KernelIdeal.sig) → Buf (Elt Ideal) ℓ) (c : Dev Cert.KernelIdeal.nD) :
    FVec Ideal Cert.Pre_finite.S1x128 .f32 := m ((c.tc : Thread Cert.KernelIdeal.nD Cert.KernelIdeal.τ).loc Cert.KernelIdeal.main_arg3)
abbrev arg4 (m : (ℓ : Loc Cert.KernelIdeal.nD Cert.KernelIdeal.τ Cert.KernelIdeal.sig) → Buf (Elt Ideal) ℓ) (c : Dev Cert.KernelIdeal.nD) :
    FVec Ideal Cert.Pre_finite.S1x128 .f32 := m ((c.tc : Thread Cert.KernelIdeal.nD Cert.KernelIdeal.τ).loc Cert.KernelIdeal.main_arg4)

/-- What head `a` of device `c` reads. -/
abbrev hd (m : (ℓ : Loc Cert.KernelIdeal.nD Cert.KernelIdeal.τ Cert.KernelIdeal.sig) → Buf (Elt Ideal) ℓ) (c : Dev Cert.KernelIdeal.nD) (a : ℕ) : Head :=
  headOf (tab (arg0 m c)) (tab (arg1 m c)) (tab (arg2 m c)) (fun d => tab (arg3 m c) 0 d) (fun d => tab (arg4 m c) 0 d) a

/-- A result of all heads side by side, a row per token. -/
abbrev wide (m : (ℓ : Loc Cert.KernelIdeal.nD Cert.KernelIdeal.τ Cert.KernelIdeal.sig) → Buf (Elt Ideal) ℓ) (c : Dev Cert.KernelIdeal.nD)
    (f : Head → ℕ → ℕ → ℝ) : Cert.KernelIdeal.S2048x1024.Idx → EReal :=
  fun i => ((f (hd m c ((i 1 : Fin 1024).val / 128)) (i 0 : Fin 2048).val ((i 1 : Fin 1024).val % 128) : ℝ) : EReal)
/-- A result of one entry per token and head. -/
abbrev slim (m : (ℓ : Loc Cert.KernelIdeal.nD Cert.KernelIdeal.τ Cert.KernelIdeal.sig) → Buf (Elt Ideal) ℓ) (c : Dev Cert.KernelIdeal.nD)
    (f : Head → ℕ → ℝ) : Cert.KernelIdeal.S2048x8.Idx → EReal :=
  fun i => ((f (hd m c (i 1 : Fin 8).val) (i 0 : Fin 2048).val : ℝ) : EReal)
/-- The gradient of a gain: the sum over the heads. -/
abbrev row (m : (ℓ : Loc Cert.KernelIdeal.nD Cert.KernelIdeal.τ Cert.KernelIdeal.sig) → Buf (Elt Ideal) ℓ) (c : Dev Cert.KernelIdeal.nD)
    (f : Head → ℕ → ℝ) : Cert.KernelIdeal.S1x128.Idx → EReal :=
  fun i => ((∑ a ∈ range 8, f (hd m c a) (i 1 : Fin 128).val : ℝ) : EReal)

theorem tables (h : Cert.Pre_KernelIdeal_finite m) (c : Dev Cert.KernelIdeal.nD) :
    Tables (arg0 m c) (arg1 m c) (arg2 m c) (arg3 m c) (arg4 m c)
      (tab (arg0 m c)) (tab (arg1 m c)) (tab (arg2 m c)) (fun d => tab (arg3 m c) 0 d) (fun d => tab (arg4 m c) 0 d) :=
  tables_of_pre (h c)

theorem holds (h : Cert.Pre_KernelIdeal_finite m) (c : Dev Cert.KernelIdeal.nD) :
    Cert.KernelIdeal.Gen.Holds m c (tab (arg0 m c)) (tab (arg1 m c)) (tab (arg2 m c)) (fun d => tab (arg3 m c) 0 d) (fun d => tab (arg4 m c) 0 d) :=
  ⟨(tables h c).a0, (tables h c).a1, (tables h c).a2, (tables h c).a3, (tables h c).a4⟩

end

open Cert.KernelIdeal.Gen Cert.ReferenceIdeal.Read in
theorem algebraic : Cert.algebraic_KernelIdeal_ReferenceIdeal_pre_finite := by
  intro m ρ m' ρ' hpre agree
  refine ⟨fun c => wide m c Head.out, fun c => wide m c Head.outQ, fun c => wide m c Head.outK, fun c => wide m c (fun h => h.dvTo 2048),
    fun c => slim m c Head.outC, fun c => row m c Head.outQg, fun c => row m c Head.outKg, ?_, ?_⟩
  · refine (θ_run Cert.KernelIdeal.defs _ _).mono (fun r h c => ?_) (Cert.KernelIdeal.Value.run (F := Ideal) m ρ)
    have H := holds hpre c
    obtain ⟨e0, e1, e2, e3, e4, e5, e6, ha⟩ := h c
    exact ⟨e0.trans (w4_o H), e1.trans (w4_q H), e2.trans (w4_k H), e3.trans (w4_v H), e4.trans (w4_c H), e5.trans (w4_qg H), e6.trans (w4_kg H), ha⟩
  · refine (θ_run Cert.ReferenceIdeal.defs _ _).mono (fun r h c => ?_) (Cert.ReferenceIdeal.Value.run (F := Ideal) m' ρ')
    have T := tables hpre c
    obtain ⟨g0, g1, g2, g3, g4⟩ := agree c
    obtain ⟨e0, e1, e2, e3, e4, e5, e6, ha⟩ := h c
    have T' : Tables (StableHlo.launchContents m' c (Proc.devRef .tc Cert.ReferenceIdeal.main_arg0))
        (StableHlo.launchContents m' c (Proc.devRef .tc Cert.ReferenceIdeal.main_arg1))
        (StableHlo.launchContents m' c (Proc.devRef .tc Cert.ReferenceIdeal.main_arg2))
        (StableHlo.launchContents m' c (Proc.devRef .tc Cert.ReferenceIdeal.main_arg3))
        (StableHlo.launchContents m' c (Proc.devRef .tc Cert.ReferenceIdeal.main_arg4))
        (tab (arg0 m c)) (tab (arg1 m c)) (tab (arg2 m c)) (fun d => tab (arg3 m c) 0 d) (fun d => tab (arg4 m c) 0 d) :=
      ⟨fun i h => (congrFun g0 i).trans (T.a0 i h), fun i h => (congrFun g1 i).trans (T.a1 i h), fun i h => (congrFun g2 i).trans (T.a2 i h),
        fun i => (congrFun g3 i).trans (T.a3 i), fun i => (congrFun g4 i).trans (T.a4 i)⟩
    exact ⟨e0.trans ((val_main_v168_eq (F := Ideal) (StableHlo.launchContents m' c)).trans (funext fun i => r_v168 T' i)),
      e1.trans ((val_main_v169_eq (F := Ideal) (StableHlo.launchContents m' c)).trans (funext fun i => r_v169 T' i)),
      e2.trans ((val_main_v170_eq (F := Ideal) (StableHlo.launchContents m' c)).trans (funext fun i => r_v170 T' i)),
      e3.trans ((val_main_v171_eq (F := Ideal) (StableHlo.launchContents m' c)).trans (funext fun i => r_v171 T' i)),
      e4.trans ((val_main_v116_eq (F := Ideal) (StableHlo.launchContents m' c)).trans (funext fun i => r_v116 T' i)),
      e5.trans ((val_main_v152_eq (F := Ideal) (StableHlo.launchContents m' c)).trans (funext fun i => r_v152 T' i)),
      e6.trans ((val_main_v130_eq (F := Ideal) (StableHlo.launchContents m' c)).trans (funext fun i => r_v130 T' i)), ha⟩

end Cert.Proof

end
-- ==== Proof.FfnForms.lean ====
/- The feed-forward layer in extended reals: how an array holds a function of naturals, the three kinds of product, and the
   quantities of the layer — the two hidden values, their gated product, and the gradients of all of them. -/
module

public import proofs.«01_k».proof.Proof.Forms
public import Idealize.ShloMosaic.Lib.Pointwise

@[expose] public section

noncomputable section

namespace Cert.Ffn

open Idealize.ShloMosaic Finset

/-- The matrix `V` holds `f`. -/
abbrev T2 {m n : ℕ} (V : (⟨2, ![m, n]⟩ : Shape).Idx → EReal) (f : ℕ → ℕ → EReal) : Prop :=
  ∀ i, V i = f (i 0 : Fin m).val (i 1 : Fin n).val
/-- The stack of matrices `V` holds `f`. -/
abbrev T3 {k m n : ℕ} (V : (⟨3, ![k, m, n]⟩ : Shape).Idx → EReal) (f : ℕ → ℕ → ℕ → EReal) : Prop :=
  ∀ i, V i = f (i 0 : Fin k).val (i 1 : Fin m).val (i 2 : Fin n).val
/-- The matrix that holds `f`. -/
abbrev full2 {m n : ℕ} (f : ℕ → ℕ → EReal) : (⟨2, ![m, n]⟩ : Shape).Idx → EReal := fun i => f (i 0 : Fin m).val (i 1 : Fin n).val
/-- The stack of matrices that holds `f`. -/
abbrev full3 {k m n : ℕ} (f : ℕ → ℕ → ℕ → EReal) : (⟨3, ![k, m, n]⟩ : Shape).Idx → EReal :=
  fun i => f (i 0 : Fin k).val (i 1 : Fin m).val (i 2 : Fin n).val

/-- The matrix read through the map `e` of indices, which moves a row by `p` and a column by `q`. -/
theorem at2 {m n k l : ℕ} {V : (⟨2, ![m, n]⟩ : Shape).Idx → EReal} {f : ℕ → ℕ → EReal} (h : T2 V f)
    (e : (⟨2, ![k, l]⟩ : Shape).Idx → (⟨2, ![m, n]⟩ : Shape).Idx) (p q : ℕ → ℕ) (h0 : ∀ i, (e i 0 : Fin m).val = p (i 0 : Fin k).val)
    (h1 : ∀ i, (e i 1 : Fin n).val = q (i 1 : Fin l).val) : T2 (fun i => V (e i)) fun r c => f (p r) (q c) := fun i =>
  (h (e i)).trans (congrArg₂ f (h0 i) (h1 i))
/-- The stack of matrices read through the map `e` of indices. -/
theorem at3 {m n s k l u : ℕ} {V : (⟨3, ![m, n, s]⟩ : Shape).Idx → EReal} {f : ℕ → ℕ → ℕ → EReal} (h : T3 V f)
    (e : (⟨3, ![k, l, u]⟩ : Shape).Idx → (⟨3, ![m, n, s]⟩ : Shape).Idx) (o p q : ℕ → ℕ) (h0 : ∀ i, (e i 0 : Fin m).val = o (i 0 : Fin k).val)
    (h1 : ∀ i, (e i 1 : Fin n).val = p (i 1 : Fin l).val) (h2 : ∀ i, (e i 2 : Fin s).val = q (i 2 : Fin u).val) :
    T3 (fun i => V (e i)) fun j r c => f (o j) (p r) (q c) := fun i =>
  (h (e i)).trans (by show f _ _ _ = f _ _ _; rw [h0, h1, h2])

section
variable {l m n N : ℕ} {f g : ℕ → ℕ → EReal}

/-- The transposed matrix. -/
theorem transp2 {x : (⟨2, ![m, n]⟩ : Shape).Idx → EReal} (h : T2 x f) (H : (⟨2, ![m, n]⟩ : Shape).Transposes [1, 0] ⟨2, ![n, m]⟩) :
    T2 (transpose ⟨2, ![n, m]⟩ [1, 0] x H) fun a b => f b a := fun i => by
  rw [transpose_apply [1, 0] _ H i (ix2 (i 1 : Fin m) (i 0 : Fin n)) (fun b => by fin_cases b <;> rfl)]
  exact h _

/-- The rows in equal shares. -/
theorem shares2 {y : (⟨2, ![N, n]⟩ : Shape).Idx → EReal} (h : T2 y f) (e : N = l * m) (H : (⟨2, ![N, n]⟩ : Shape).ShapeCasts ⟨3, ![l, m, n]⟩) :
    T3 (shapeCast ⟨3, ![l, m, n]⟩ y H) fun j r k => f (m * j + r) k := fun i => by
  have h1 : (i 1 : Fin m).val < m := (i 1 : Fin m).isLt
  have h0 : m * ((i 0 : Fin l).val + 1) ≤ m * l := Nat.mul_le_mul_left m (i 0 : Fin l).isLt
  refine (shapeCast_apply _ H i (ix2 (⟨m * (i 0 : Fin l).val + (i 1 : Fin m).val, by rw [e, mul_comm l]; linarith⟩ : Fin N) (i 2 : Fin n)) ?_).trans (h _)
  rw [Shape.rowMajor_val_two, Shape.rowMajor_val_three]
  exact congrArg (· * n + (i 2 : Fin n).val) (congrArg (· + (i 1 : Fin m).val) (mul_comm m (i 0 : Fin l).val))

/-- The columns in equal shares. -/
theorem splits2 {y : (⟨2, ![n, N]⟩ : Shape).Idx → EReal} (h : T2 y f) (e : N = l * m) (H : (⟨2, ![n, N]⟩ : Shape).ShapeCasts ⟨3, ![n, l, m]⟩)
    (H' : (⟨3, ![n, l, m]⟩ : Shape).Transposes [1, 0, 2] ⟨3, ![l, n, m]⟩) :
    T3 (transpose ⟨3, ![l, n, m]⟩ [1, 0, 2] (shapeCast ⟨3, ![n, l, m]⟩ y H) H') fun j r k => f r (m * j + k) := fun i => by
  have h1 : (i 2 : Fin m).val < m := (i 2 : Fin m).isLt
  have h0 : m * ((i 0 : Fin l).val + 1) ≤ m * l := Nat.mul_le_mul_left m (i 0 : Fin l).isLt
  rw [transpose_apply [1, 0, 2] _ H' i (ix3 (i 1 : Fin n) (i 0 : Fin l) (i 2 : Fin m)) (fun b => by fin_cases b <;> rfl)]
  refine (shapeCast_apply _ H _ (ix2 (i 1 : Fin n) (⟨m * (i 0 : Fin l).val + (i 2 : Fin m).val, by rw [e, mul_comm l]; linarith⟩ : Fin N)) ?_).trans (h _)
  rw [Shape.rowMajor_val_two, Shape.rowMajor_val_three]
  show (i 1 : Fin n).val * N + (m * (i 0 : Fin l).val + (i 2 : Fin m).val) = ((i 1 : Fin n).val * l + (i 0 : Fin l).val) * m + (i 2 : Fin m).val
  rw [e]; ring

/-- A part of the matrix. -/
theorem part2 {a b p q : ℕ} {y : (⟨2, ![p, q]⟩ : Shape).Idx → EReal} (h : T2 y f) (e : ∀ r c, f (a + r) (b + c) = g r c)
    (H : (⟨2, ![p, q]⟩ : Shape).Slices ![a, b] ⟨2, ![m, n]⟩) : T2 (extractStridedSlice ⟨2, ![m, n]⟩ ![a, b] y H) g := fun i => by
  pointwise
  exact (h _).trans (e _ _)

end

/-- Rows by columns. -/
def nn (n : ℕ) (X Y : ℕ → ℕ → EReal) (i j : ℕ) : EReal := ∑ k : Fin n, X i k.val * Y k.val j
/-- Rows by rows. -/
def nt (n : ℕ) (X Y : ℕ → ℕ → EReal) (i j : ℕ) : EReal := ∑ k : Fin n, X i k.val * Y j k.val
/-- Columns by columns. -/
def tn (n : ℕ) (X Y : ℕ → ℕ → EReal) (i j : ℕ) : EReal := ∑ k : Fin n, X k.val i * Y k.val j

theorem tn_comm (n : ℕ) (X Y : ℕ → ℕ → EReal) (i j : ℕ) : tn n X Y i j = tn n Y X j i :=
  Finset.sum_congr rfl fun _ _ => mul_comm _ _
theorem nt_comm (n : ℕ) (X Y : ℕ → ℕ → EReal) (i j : ℕ) : nt n X Y i j = nt n Y X j i :=
  Finset.sum_congr rfl fun _ _ => mul_comm _ _

/-- The gated product of one pair of hidden values. -/
def gate (a b : EReal) : EReal := a * Ideal.logistic a * b
/-- The gradient of the first hidden value, `g` the gradient of the gated product. -/
def dGate (g a b : EReal) : EReal := g * b * Ideal.logistic a * (1 + a * (1 - Ideal.logistic a))
/-- The gradient of the second. -/
def dLin (g a : EReal) : EReal := g * a * Ideal.logistic a

/-- The two ways to write the gradient of the first hidden value agree, whatever that value is. -/
theorem dGate_eq {g b : EReal} (a : EReal) (hg : ∃ r : ℝ, g = r) (hb : ∃ r : ℝ, b = r) :
    g * b * Ideal.logistic a + a * (g * b) * (Ideal.logistic a * (1 - Ideal.logistic a)) = dGate g a b := by
  obtain ⟨g, rfl⟩ := hg; obtain ⟨b, rfl⟩ := hb
  rw [dGate]
  induction a with
  | bot => rw [Ideal.logistic_bot]; simp
  | top =>
    have e : (1 : EReal) - 1 = 0 := by rw [← EReal.coe_one, ← EReal.coe_sub, sub_self, EReal.coe_zero]
    rw [Ideal.logistic_top, e]; simp
  | coe a =>
    rw [Ideal.logistic_coe, ← EReal.coe_one]
    simp only [← EReal.coe_mul, ← EReal.coe_add, ← EReal.coe_sub]
    congr 1; ring

/-- A sum of products of real numbers is one. -/
theorem real_sum {n : ℕ} (f : Fin n → EReal) (h : ∀ k, ∃ r : ℝ, f k = r) : ∃ r : ℝ, ∑ k, f k = r := by
  choose r hr using h
  exact ⟨∑ k, r k, by rw [Cert.Attn.coe_sum]; exact Finset.sum_congr rfl fun k _ => hr k⟩
theorem real_mul {x y : EReal} (hx : ∃ r : ℝ, x = r) (hy : ∃ r : ℝ, y = r) : ∃ r : ℝ, x * y = r := by
  obtain ⟨x, rfl⟩ := hx; obtain ⟨y, rfl⟩ := hy; exact ⟨x * y, (EReal.coe_mul x y).symm⟩

end Cert.Ffn

end
-- ==== Proof.FfnBlocks.lean ====
/- The four kernel calls of the feed-forward layer, one grid point each: what the body stores, read at an index, in the
   entries of the blocks it loads. -/
module

public import proofs.«01_k».proof.Proof.FfnForms
public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Gen

open Idealize.ShloMosaic Idealize.ShloMosaic.TcCoe Idealize.ShloMosaic.Tactic Finset Cert.Ffn

variable {X W U H D : ℕ → ℕ → EReal}

theorem word_zero : Ideal.ofBits .f32 0x00000000#32 = 0 := by simp [Ideal.ofBits, Ideal.ieee]
theorem word_one : Ideal.ofBits .f32 0x3F800000#32 = 1 := by
  rw [← EReal.coe_one]; simp [Ideal.ofBits, Ideal.ieee, -EReal.coe_mul]; norm_num

theorem off2 : (![0, 0] : Fin 2 → ℕ) = fun _ => 0 := by decide
theorem off3 : (![0, 0, 0] : Fin 3 → ℕ) = fun _ => 0 := by decide

/-! ## The forward call -/

theorem pay0_2 {v0 : Vec Ideal S512x2048 .bf16} {v2 : Vec Ideal S1x704x2048 .bf16} (h0 : T2 v0 X) (h2 : T3 v2 fun _ => W) :
    T2 (k0_pay2 v0 v2) (nt 2048 X W) := by
  intro i
  pointwise [k0_pay2, k0_pay1]
  simp only [h0 _, h2 _]
  rfl

theorem pay0_3 {v0 : Vec Ideal S512x2048 .bf16} {v5 : Vec Ideal S1x704x2048 .bf16} (h0 : T2 v0 X) (h5 : T3 v5 fun _ => W) :
    T2 (k0_pay3 v0 v5) (nt 2048 X W) := by
  intro i
  pointwise [k0_pay3, k0_pay1]
  simp only [h0 _, h5 _]
  rfl

theorem out_0_3 {x0 : Vec Ideal S512x2048 .bf16} {x1 x2 : Vec Ideal S1x704x2048 .bf16} (h0 : T2 x0 X) (h1 : T3 x1 fun _ => W) :
    T3 (out0_3 x0 x1 x2) fun _ => nt 2048 X W := by
  intro i
  rw [out0_3, View.canon_unit_zero off3, View.ld_unit_zero off2, View.ld_unit_zero off3]
  pointwise [k0_pay4]
  exact pay0_2 h0 h1 _

theorem out_0_4 {x0 : Vec Ideal S512x2048 .bf16} {x1 x2 : Vec Ideal S1x704x2048 .bf16} (h0 : T2 x0 X) (h2 : T3 x2 fun _ => W) :
    T3 (out0_4 x0 x1 x2) fun _ => nt 2048 X W := by
  intro i
  rw [out0_4, View.canon_unit_zero off3, View.ld_unit_zero off2, View.ld_unit_zero off3]
  pointwise [k0_pay5]
  exact pay0_3 h0 h2 _

theorem out_0_5 {x0 : Vec Ideal S512x2048 .bf16} {x1 x2 : Vec Ideal S1x704x2048 .bf16} (h0 : T2 x0 X) (h1 : T3 x1 fun _ => W)
    (h2 : T3 x2 fun _ => U) :
    T3 (out0_5 x0 x1 x2) fun _ r f => gate (nt 2048 X W r f) (nt 2048 X U r f) := by
  intro i
  rw [out0_5, View.canon_unit_zero off3, View.ld_unit_zero off2, View.ld_unit_zero off3, View.ld_unit_zero off3]
  pointwise [k0_pay6]
  simp only [pay0_2 h0 h1 _, pay0_3 h0 h2 _, word_zero, word_one, zero_sub]
  rfl

/-! ## The backward call of the hidden values -/

variable {A B : ℕ → ℕ → EReal}

theorem pay1_1 {v0 : Vec Ideal S512x2048 .bf16} {v2 : Vec Ideal S1x704x2048 .bf16} (h0 : T2 v0 H) (h2 : T3 v2 fun _ => D) :
    T2 (k1_pay1 v0 v2) (nt 2048 H D) := by
  intro i
  pointwise [k1_pay1]
  simp only [h0 _, h2 _]
  rfl

theorem pay1_2 {v5 : Vec Ideal S1x512x704 .f32} (h5 : T3 v5 fun _ => A) : T2 (k1_pay2 v5) A := by
  intro i
  pointwise [k1_pay2]
  exact h5 _

theorem pay1_3 {v5 : Vec Ideal S1x512x704 .f32} (h5 : T3 v5 fun _ => A) : T2 (k1_pay3 v5) fun r f => Ideal.logistic (A r f) := by
  intro i
  pointwise [k1_pay3]
  simp only [pay1_2 h5 _, word_zero, word_one, zero_sub]
  rfl

theorem out_1_4 {x0 : Vec Ideal S512x2048 .bf16} {x1 : Vec Ideal S1x704x2048 .bf16} {x2 x3 : Vec Ideal S1x512x704 .f32}
    (h0 : T2 x0 H) (h1 : T3 x1 fun _ => D) (h2 : T3 x2 fun _ => A) (h3 : T3 x3 fun _ => B) :
    T3 (out1_4 x0 x1 x2 x3) fun _ r f => dGate (nt 2048 H D r f) (A r f) (B r f) := by
  intro i
  rw [out1_4, View.canon_unit_zero off3, View.ld_unit_zero off2, View.ld_unit_zero off3, View.ld_unit_zero off3, View.ld_unit_zero off3]
  pointwise [k1_pay4]
  simp only [pay1_1 h0 h1 _, pay1_2 h2 _, pay1_3 h2 _, h3 _, word_one]
  rfl

theorem out_1_5 {x0 : Vec Ideal S512x2048 .bf16} {x1 : Vec Ideal S1x704x2048 .bf16} {x2 x3 : Vec Ideal S1x512x704 .f32}
    (h0 : T2 x0 H) (h1 : T3 x1 fun _ => D) (h2 : T3 x2 fun _ => A) :
    T3 (out1_5 x0 x1 x2 x3) fun _ r f => dLin (nt 2048 H D r f) (A r f) := by
  intro i
  rw [out1_5, View.canon_unit_zero off3, View.ld_unit_zero off2, View.ld_unit_zero off3, View.ld_unit_zero off3]
  pointwise [k1_pay5]
  simp only [pay1_1 h0 h1 _, pay1_2 h2 _, pay1_3 h2 _]
  rfl

/-! ## The two calls of the weights' gradients -/

theorem out_2_2 {x0 : Vec Ideal S1x2048x704 .bf16} {x1 : Vec Ideal S2048x1024 .bf16} (h0 : T3 x0 fun _ => A) (h1 : T2 x1 H) :
    T3 (out2_2 x0 x1) fun _ => tn 2048 A H := by
  intro i
  rw [out2_2, View.canon_unit_zero off3, View.ld_unit_zero off3, View.ld_unit_zero off2]
  pointwise [k2_pay1]
  simp only [h0 _, h1 _]
  rfl

theorem out_3_3 {x0 : Vec Ideal S2048x1024 .bf16} {x1 x2 : Vec Ideal S1x2048x704 .bf16} (h0 : T2 x0 X) (h1 : T3 x1 fun _ => A) :
    T3 (out3_3 x0 x1 x2) fun _ => tn 2048 A X := by
  intro i
  rw [out3_3, View.canon_unit_zero off3, View.ld_unit_zero off2, View.ld_unit_zero off3]
  pointwise [k3_pay2, k3_pay1]
  simp only [h0 _, h1 _]
  rfl

theorem out_3_4 {x0 : Vec Ideal S2048x1024 .bf16} {x1 x2 : Vec Ideal S1x2048x704 .bf16} (h0 : T2 x0 X) (h2 : T3 x2 fun _ => B) :
    T3 (out3_4 x0 x1 x2) fun _ => tn 2048 B X := by
  intro i
  rw [out3_4, View.canon_unit_zero off3, View.ld_unit_zero off2, View.ld_unit_zero off3]
  pointwise [k3_pay3, k3_pay1]
  simp only [h0 _, h2 _]
  rfl

end Cert.Kernel2Ideal.Gen

end
-- ==== Proof.OptVal.lean ====
/- The optimiser's step of the input projection's weight: what each grid point stores, and what the four calls, one a layer, leave
   in the stacked results. -/
module

public import proofs.«01_k».proof.Proof.FfnForms
public import proofs.«01_k».proof.Proof.FfnBlocks
public import proofs.«01_k».proof.Proof.RunEnds
public import proofs.«01_k».proof.Proof.Gen.Kernel11Ideal.Frame
public import Idealize.ShloMosaic.Lib.Pipeline.ValueKit
public import Idealize.ShloMosaic.Lib.Pointwise

@[expose] public section

set_option maxRecDepth 16384

noncomputable section

namespace Cert.Opt

open Idealize.ShloMosaic Cert.Ffn

/-- The mean of the gradients. -/
def mean (g m : EReal) : EReal := Ideal.ofBits .f32 0x3F666666#32 * m + Ideal.ofBits .f32 0x3DCCCCCD#32 * g
/-- The mean of their squares. -/
def sqs (g v : EReal) : EReal := Ideal.ofBits .f32 0x3F7FBE77#32 * v + Ideal.ofBits .f32 0x3A83126F#32 * (g * g)
/-- The step. -/
def step (g w m v : EReal) : EReal :=
  Ideal.ofBits .f32 0xBA83126F#32 * (Ideal.div (Ideal.div (mean g m) (Ideal.ofBits .f32 0x3F26BD02#32))
    (Ideal.sqrt (Ideal.div (sqs g v) (Ideal.ofBits .f32 0x3C231ACC#32)) + Ideal.ofBits .f32 0x322BCC77#32)
    + Ideal.ofBits .f32 0x3C23D70A#32 * w)

/-- The tables of the three. -/
def tM (G M : ℕ → ℕ → ℕ → EReal) (l r k : ℕ) : EReal := mean (G l r k) (M l r k)
def tS (G A : ℕ → ℕ → ℕ → EReal) (l r k : ℕ) : EReal := sqs (G l r k) (A l r k)
def tD (G W M A : ℕ → ℕ → ℕ → EReal) (l r k : ℕ) : EReal := step (G l r k) (W l r k) (M l r k) (A l r k)

/-- From layer `L` on, the stack holds `f`. -/
abbrev From (L : ℕ) (V : (⟨3, ![4, 2048, 577]⟩ : Shape).Idx → EReal) (f : ℕ → ℕ → ℕ → EReal) : Prop :=
  ∀ i, L ≤ (i 0 : Fin 4).val → V i = f (i 0 : Fin 4).val (i 1 : Fin 2048).val (i 2 : Fin 577).val

/-- What `From` says of one element. -/
abbrev Put (L : ℕ) (f : ℕ → ℕ → ℕ → EReal) (i : (⟨3, ![4, 2048, 577]⟩ : Shape).Idx) (x : EReal) : Prop :=
  L ≤ (i 0 : Fin 4).val → x = f (i 0 : Fin 4).val (i 1 : Fin 2048).val (i 2 : Fin 577).val

/-- The map reads layer `L` at block `t` of its rows. -/
abbrev At (e : (⟨3, ![1, 256, 577]⟩ : Shape).Idx → (⟨3, ![4, 2048, 577]⟩ : Shape).Idx) (L t : ℕ) : Prop :=
  ∀ i, (e i 0 : Fin 4).val = L ∧ (e i 1 : Fin 2048).val = 256 * t + (i 1 : Fin 256).val ∧ (e i 2 : Fin 577).val = (i 2 : Fin 577).val

/-- The four stacks from layer `L` on: the gradients as they came, the step and the two means. -/
structure Tabs (L : ℕ) (a0 a1 a2 a3 : (⟨3, ![4, 2048, 577]⟩ : Shape).Idx → EReal) (G W M A : ℕ → ℕ → ℕ → EReal) : Prop where
  o0 : From L a0 G
  o1 : From L a1 (tD G W M A)
  o2 : From L a2 (tM G M)
  o3 : From L a3 (tS G A)

theorem From.rest {L : ℕ} {V : (⟨3, ![4, 2048, 577]⟩ : Shape).Idx → EReal} {f : ℕ → ℕ → ℕ → EReal} (h : From (L + 1) V f)
    (i : (⟨3, ![4, 2048, 577]⟩ : Shape).Idx) (hi : ¬(i 0 : Fin 4).val / 1 = L) (hl : L ≤ (i 0 : Fin 4).val) :
    V i = f (i 0 : Fin 4).val (i 1 : Fin 2048).val (i 2 : Fin 577).val := h i (by omega)

theorem none (a0 a1 a2 a3 : (⟨3, ![4, 2048, 577]⟩ : Shape).Idx → EReal) (G W M A : ℕ → ℕ → ℕ → EReal) : Tabs 4 a0 a1 a2 a3 G W M A := by
  constructor <;> exact fun i h => absurd (i 0 : Fin 4).isLt (Nat.not_lt.2 h)

theorem At.read {e : (⟨3, ![1, 256, 577]⟩ : Shape).Idx → (⟨3, ![4, 2048, 577]⟩ : Shape).Idx} {L t : ℕ} (he : At e L t)
    {V : (⟨3, ![4, 2048, 577]⟩ : Shape).Idx → EReal} {f : ℕ → ℕ → ℕ → EReal} (h : T3 V f) :
    T3 (fun i => V (e i)) fun _ r k => f L (256 * t + r) k :=
  at3 h e (fun _ => L) (256 * t + ·) id (fun i => (he i).1) (fun i => (he i).2.1) fun i => (he i).2.2

theorem At.put {e : (⟨3, ![1, 256, 577]⟩ : Shape).Idx → (⟨3, ![4, 2048, 577]⟩ : Shape).Idx} {L t : ℕ} (he : At e L t)
    {a : (⟨3, ![1, 256, 577]⟩ : Shape).Idx → EReal} {f : ℕ → ℕ → ℕ → EReal} (h : T3 a fun _ r k => f L (256 * t + r) k)
    (y : (⟨3, ![1, 256, 577]⟩ : Shape).Idx) : a y = f (e y 0 : Fin 4).val (e y 1 : Fin 2048).val (e y 2 : Fin 577).val := by
  rw [(he y).1, (he y).2.1, (he y).2.2]; exact h y

end Cert.Opt

namespace Cert.Kernel11Ideal.Gen

open Idealize.ShloMosaic Idealize.ShloMosaic.TcCoe Idealize.ShloMosaic.Tactic Cert.Ffn Cert.Opt
open Cert.Kernel2Ideal.Gen (off2 off3)

/-! ## One grid point -/

section
variable {x0 : Vec Ideal S256x577 .f32} {x1 x2 x3 : Vec Ideal S1x256x577 .f32} {G W M A : ℕ → ℕ → EReal}

theorem flat (x : Vec Ideal S1x256x577 .f32) {f : ℕ → ℕ → EReal} (h : T3 x fun _ => f) :
    T2 (shapeCast S256x577 x shapeCasts_S1x256x577_S256x577) f := fun i => by
  refine (shapeCast_apply x shapeCasts_S1x256x577_S256x577 i (ix3 (0 : Fin 1) (i 0 : Fin 256) (i 1 : Fin 577)) ?_).trans (h _)
  rw [Shape.rowMajor_val_two, Shape.rowMajor_val_three]
  simp

theorem lift (x : FVec Ideal S256x577 .f32) {f : ℕ → ℕ → EReal} (h : T2 x f) :
    T3 (shapeCast S1x256x577 x shapeCasts_S256x577_S1x256x577) fun _ => f := fun i => by
  refine (shapeCast_apply x shapeCasts_S256x577_S1x256x577 i (ix2 (i 1 : Fin 256) (i 2 : Fin 577)) ?_).trans (h _)
  rw [Shape.rowMajor_val_two, Shape.rowMajor_val_three]
  simp

theorem pay_g (h0 : T2 x0 G) : T2 (k0_pay4 x0) G := fun i => (shapeCast_apply x0 _ i i rfl).trans (h0 i)

theorem pay_m (h0 : T2 x0 G) (h2 : T3 x2 fun _ => M) : T2 (k0_pay5 x0 x2) fun r k => mean (G r k) (M r k) := by
  intro i
  show _ * shapeCast S256x577 x2 shapeCasts_S1x256x577_S256x577 i + _ * k0_pay4 x0 i = _
  rw [pay_g h0 i, flat x2 h2 i]; rfl

theorem pay_v (h0 : T2 x0 G) (h3 : T3 x3 fun _ => A) : T2 (k0_pay6 x0 x3) fun r k => sqs (G r k) (A r k) := by
  intro i
  show _ * shapeCast S256x577 x3 shapeCasts_S1x256x577_S256x577 i + _ * (k0_pay4 x0 i * k0_pay4 x0 i) = _
  rw [pay_g h0 i, flat x3 h3 i]; rfl

theorem pay_d (h0 : T2 x0 G) (h1 : T3 x1 fun _ => W) (h2 : T3 x2 fun _ => M) (h3 : T3 x3 fun _ => A) :
    T2 (k0_pay7 x0 x1 x2 x3) fun r k => step (G r k) (W r k) (M r k) (A r k) := by
  intro i
  show _ * (Ideal.div (Ideal.div (k0_pay5 x0 x2 i) _) (Ideal.sqrt (Ideal.div (k0_pay6 x0 x3 i) _) + _)
    + _ * shapeCast S256x577 x1 shapeCasts_S1x256x577_S256x577 i) = _
  rw [pay_m h0 h2 i, pay_v h0 h3 i, flat x1 h1 i]; rfl

end

theorem cut {y : S4x2048x577.Idx → EReal} {f : ℕ → ℕ → ℕ → EReal} (h : T3 y f) (l : ℕ) (hs : S4x2048x577.Slices ![l, 0, 0] S1x2048x577) :
    T2 (shapeCast S2048x577 (extractStridedSlice S1x2048x577 ![l, 0, 0] y hs) shapeCasts_S1x2048x577_S2048x577 : S2048x577.Idx → EReal) (f l) := fun i => by
  refine (shapeCast_apply _ shapeCasts_S1x2048x577_S2048x577 i (ix3 (0 : Fin 1) (i 0 : Fin 2048) (i 1 : Fin 577)) ?_).trans ?_
  · rw [Shape.rowMajor_val_two, Shape.rowMajor_val_three]
    simp
  · pointwise
    exact (h _).trans (by simp)

/-! ## The four calls -/

section
variable (V : (c : Dev nD) → (b : Ref sig .tc) → Buf (Elt Ideal) ((c : Thread nD τ).loc b)) (c : Dev nD) {G W M A : ℕ → ℕ → ℕ → EReal}

theorem outs0 (t : Fin cfg0.N) : (dat0 V c).after 4 t = k0_pay8 (iblk0 V c 0 t)
    ∧ (dat0 V c).after 5 t = k0_pay1 (k0_pay7 (iblk0 V c 0 t) (iblk0 V c 1 t) (iblk0 V c 2 t) (iblk0 V c 3 t))
    ∧ (dat0 V c).after 6 t = k0_pay2 (k0_pay5 (iblk0 V c 0 t) (iblk0 V c 2 t)) ∧ (dat0 V c).after 7 t = k0_pay3 (k0_pay6 (iblk0 V c 0 t) (iblk0 V c 3 t)) := by
  rw [after0_4, after0_5, after0_6, after0_7, out0_4, out0_5, out0_6, out0_7]
  refine ⟨?_, ?_, ?_, ?_⟩
  · rw [View.canon_unit_zero off3, View.ld_unit_zero off2]
  · rw [View.canon_unit_zero off3, View.ld_unit_zero off2, View.ld_unit_zero off3, View.ld_unit_zero off3, View.ld_unit_zero off3]
  · rw [View.canon_unit_zero off3, View.ld_unit_zero off2, View.ld_unit_zero off3]
  · rw [View.canon_unit_zero off3, View.ld_unit_zero off2, View.ld_unit_zero off3]

theorem ixg0 : ∀ t : Fin grid0.N, win0_0.index t 0 = t.val ∧ win0_0.index t 1 = 0 := by decide +kernel
theorem ixs0 : ∀ t : Fin grid0.N, win0_1.index t 0 = 3 ∧ win0_1.index t 1 = t.val ∧ win0_1.index t 2 = 0 := by decide +kernel
theorem lay0 (t : Fin cfg0.N) : At (win0_1.blk t).view.emb 3 t.val := fun i =>
  ⟨by blk_simp [(ixs0 t).1], by blk_simp [(ixs0 t).2.1]; omega, by blk_simp [(ixs0 t).2.2]⟩
theorem grad0 (h : T2 (V c main_v1 : S2048x577.Idx → EReal) (G 3)) (t : Fin cfg0.N) : T2 (iblk0 V c 0 t) fun r k => G 3 (256 * t.val + r) k :=
  at2 h (win0_0.blk t).view.emb (256 * t.val + ·) id (fun i => by blk_simp [(ixg0 t).1]; omega) fun i => by blk_simp [(ixg0 t).2]; simp

theorem call0 (hg : T2 (V c main_v1 : S2048x577.Idx → EReal) (G 3)) (hw : T3 (V c main_arg1 : S4x2048x577.Idx → EReal) W)
    (hm : T3 (V c main_arg2 : S4x2048x577.Idx → EReal) M) (hv : T3 (V c main_arg3 : S4x2048x577.Idx → EReal) A)
    (o : Tabs 4 (V c main_v2_0) (V c main_v2_1) (V c main_v2_2) (V c main_v2_3) G W M A) :
    Tabs 3 ((dat0 V c).arrAt 4 cfg0.N) ((dat0 V c).arrAt 5 cfg0.N) ((dat0 V c).arrAt 6 cfg0.N) ((dat0 V c).arrAt 7 cfg0.N) G W M A := by
  have g := grad0 V c hg
  have w := fun t => (lay0 t).read hw
  have m := fun t => (lay0 t).read hm
  have v := fun t => (lay0 t).read hv
  exact ⟨(dat0 V c).arrAt_forall_of_coversWhere 4 (Put 3 (G)) (fun β => β (0 : Fin 3) = 3) (by decide +kernel)
      (fun t _ y _ => (lay0 t).put (f := G) (a := (dat0 V c).after 4 t) (by rw [(outs0 V c t).1]; exact lift _ (pay_g (g t))) y)
      fun j hj hl => (congrFun (A_eq0 V c 4) _).trans (o.o0.rest j hj hl),
    (dat0 V c).arrAt_forall_of_coversWhere 5 (Put 3 (tD G W M A)) (fun β => β (0 : Fin 3) = 3) (by decide +kernel)
      (fun t _ y _ => (lay0 t).put (f := tD G W M A) (a := (dat0 V c).after 5 t) (by rw [(outs0 V c t).2.1]; exact lift _ (pay_d (g t) (w t) (m t) (v t))) y)
      fun j hj hl => (congrFun (A_eq0 V c 5) _).trans (o.o1.rest j hj hl),
    (dat0 V c).arrAt_forall_of_coversWhere 6 (Put 3 (tM G M)) (fun β => β (0 : Fin 3) = 3) (by decide +kernel)
      (fun t _ y _ => (lay0 t).put (f := tM G M) (a := (dat0 V c).after 6 t) (by rw [(outs0 V c t).2.2.1]; exact lift _ (pay_m (g t) (m t))) y)
      fun j hj hl => (congrFun (A_eq0 V c 6) _).trans (o.o2.rest j hj hl),
    (dat0 V c).arrAt_forall_of_coversWhere 7 (Put 3 (tS G A)) (fun β => β (0 : Fin 3) = 3) (by decide +kernel)
      (fun t _ y _ => (lay0 t).put (f := tS G A) (a := (dat0 V c).after 7 t) (by rw [(outs0 V c t).2.2.2]; exact lift _ (pay_v (g t) (v t))) y)
      fun j hj hl => (congrFun (A_eq0 V c 7) _).trans (o.o3.rest j hj hl)⟩

theorem outs1 (t : Fin cfg1.N) : outsAt1 V c t = (k0_pay8 (iblk1 V c 0 t), k0_pay1 (k0_pay7 (iblk1 V c 0 t) (iblk1 V c 1 t) (iblk1 V c 2 t) (iblk1 V c 3 t)),
    k0_pay2 (k0_pay5 (iblk1 V c 0 t) (iblk1 V c 2 t)), k0_pay3 (k0_pay6 (iblk1 V c 0 t) (iblk1 V c 3 t))) := by
  refine Prod.ext ?_ (Prod.ext ?_ (Prod.ext ?_ ?_)) <;> · frame_out <;> rfl

theorem ixg1 : ∀ t : Fin grid1.N, win1_0.index t 0 = t.val ∧ win1_0.index t 1 = 0 := by decide +kernel
theorem ixs1 : ∀ t : Fin grid1.N, win1_1.index t 0 = 2 ∧ win1_1.index t 1 = t.val ∧ win1_1.index t 2 = 0 := by decide +kernel
theorem lay1 (t : Fin cfg1.N) : At (win1_1.blk t).view.emb 2 t.val := fun i =>
  ⟨by blk_simp [(ixs1 t).1], by blk_simp [(ixs1 t).2.1]; omega, by blk_simp [(ixs1 t).2.2]⟩
theorem grad1 (h : T2 (V c main_v4 : S2048x577.Idx → EReal) (G 2)) (t : Fin cfg1.N) : T2 (iblk1 V c 0 t) fun r k => G 2 (256 * t.val + r) k :=
  at2 h (win1_0.blk t).view.emb (256 * t.val + ·) id (fun i => by blk_simp [(ixg1 t).1]; omega) fun i => by blk_simp [(ixg1 t).2]; simp

theorem call1 (hg : T2 (V c main_v4 : S2048x577.Idx → EReal) (G 2)) (hw : T3 (V c main_arg1 : S4x2048x577.Idx → EReal) W)
    (hm : T3 (V c main_arg2 : S4x2048x577.Idx → EReal) M) (hv : T3 (V c main_arg3 : S4x2048x577.Idx → EReal) A)
    (o : Tabs 3 (V c main_v5_0) (V c main_v5_1) (V c main_v5_2) (V c main_v5_3) G W M A) :
    Tabs 2 ((dat1 V c).arrAt 4 cfg1.N) ((dat1 V c).arrAt 5 cfg1.N) ((dat1 V c).arrAt 6 cfg1.N) ((dat1 V c).arrAt 7 cfg1.N) G W M A := by
  have g := grad1 V c hg
  have w := fun t => (lay1 t).read hw
  have m := fun t => (lay1 t).read hm
  have v := fun t => (lay1 t).read hv
  exact ⟨(dat1 V c).arrAt_forall_of_coversWhere 4 (Put 2 (G)) (fun β => β (0 : Fin 3) = 2) (by decide +kernel)
      (fun t _ y _ => (lay1 t).put (f := G) (a := (dat1 V c).after 4 t) (by rw [after1_4, outs1]; exact lift _ (pay_g (g t))) y)
      fun j hj hl => (congrFun (A_eq1 V c 4) _).trans (o.o0.rest j hj hl),
    (dat1 V c).arrAt_forall_of_coversWhere 5 (Put 2 (tD G W M A)) (fun β => β (0 : Fin 3) = 2) (by decide +kernel)
      (fun t _ y _ => (lay1 t).put (f := tD G W M A) (a := (dat1 V c).after 5 t) (by rw [after1_5, outs1]; exact lift _ (pay_d (g t) (w t) (m t) (v t))) y)
      fun j hj hl => (congrFun (A_eq1 V c 5) _).trans (o.o1.rest j hj hl),
    (dat1 V c).arrAt_forall_of_coversWhere 6 (Put 2 (tM G M)) (fun β => β (0 : Fin 3) = 2) (by decide +kernel)
      (fun t _ y _ => (lay1 t).put (f := tM G M) (a := (dat1 V c).after 6 t) (by rw [after1_6, outs1]; exact lift _ (pay_m (g t) (m t))) y)
      fun j hj hl => (congrFun (A_eq1 V c 6) _).trans (o.o2.rest j hj hl),
    (dat1 V c).arrAt_forall_of_coversWhere 7 (Put 2 (tS G A)) (fun β => β (0 : Fin 3) = 2) (by decide +kernel)
      (fun t _ y _ => (lay1 t).put (f := tS G A) (a := (dat1 V c).after 7 t) (by rw [after1_7, outs1]; exact lift _ (pay_v (g t) (v t))) y)
      fun j hj hl => (congrFun (A_eq1 V c 7) _).trans (o.o3.rest j hj hl)⟩

theorem outs2 (t : Fin cfg2.N) : outsAt2 V c t = (k0_pay8 (iblk2 V c 0 t), k0_pay1 (k0_pay7 (iblk2 V c 0 t) (iblk2 V c 1 t) (iblk2 V c 2 t) (iblk2 V c 3 t)),
    k0_pay2 (k0_pay5 (iblk2 V c 0 t) (iblk2 V c 2 t)), k0_pay3 (k0_pay6 (iblk2 V c 0 t) (iblk2 V c 3 t))) := by
  refine Prod.ext ?_ (Prod.ext ?_ (Prod.ext ?_ ?_)) <;> · frame_out <;> rfl

theorem ixg2 : ∀ t : Fin grid2.N, win2_0.index t 0 = t.val ∧ win2_0.index t 1 = 0 := by decide +kernel
theorem ixs2 : ∀ t : Fin grid2.N, win2_1.index t 0 = 1 ∧ win2_1.index t 1 = t.val ∧ win2_1.index t 2 = 0 := by decide +kernel
theorem lay2 (t : Fin cfg2.N) : At (win2_1.blk t).view.emb 1 t.val := fun i =>
  ⟨by blk_simp [(ixs2 t).1], by blk_simp [(ixs2 t).2.1]; omega, by blk_simp [(ixs2 t).2.2]⟩
theorem grad2 (h : T2 (V c main_v7 : S2048x577.Idx → EReal) (G 1)) (t : Fin cfg2.N) : T2 (iblk2 V c 0 t) fun r k => G 1 (256 * t.val + r) k :=
  at2 h (win2_0.blk t).view.emb (256 * t.val + ·) id (fun i => by blk_simp [(ixg2 t).1]; omega) fun i => by blk_simp [(ixg2 t).2]; simp

theorem call2 (hg : T2 (V c main_v7 : S2048x577.Idx → EReal) (G 1)) (hw : T3 (V c main_arg1 : S4x2048x577.Idx → EReal) W)
    (hm : T3 (V c main_arg2 : S4x2048x577.Idx → EReal) M) (hv : T3 (V c main_arg3 : S4x2048x577.Idx → EReal) A)
    (o : Tabs 2 (V c main_v8_0) (V c main_v8_1) (V c main_v8_2) (V c main_v8_3) G W M A) :
    Tabs 1 ((dat2 V c).arrAt 4 cfg2.N) ((dat2 V c).arrAt 5 cfg2.N) ((dat2 V c).arrAt 6 cfg2.N) ((dat2 V c).arrAt 7 cfg2.N) G W M A := by
  have g := grad2 V c hg
  have w := fun t => (lay2 t).read hw
  have m := fun t => (lay2 t).read hm
  have v := fun t => (lay2 t).read hv
  exact ⟨(dat2 V c).arrAt_forall_of_coversWhere 4 (Put 1 (G)) (fun β => β (0 : Fin 3) = 1) (by decide +kernel)
      (fun t _ y _ => (lay2 t).put (f := G) (a := (dat2 V c).after 4 t) (by rw [after2_4, outs2]; exact lift _ (pay_g (g t))) y)
      fun j hj hl => (congrFun (A_eq2 V c 4) _).trans (o.o0.rest j hj hl),
    (dat2 V c).arrAt_forall_of_coversWhere 5 (Put 1 (tD G W M A)) (fun β => β (0 : Fin 3) = 1) (by decide +kernel)
      (fun t _ y _ => (lay2 t).put (f := tD G W M A) (a := (dat2 V c).after 5 t) (by rw [after2_5, outs2]; exact lift _ (pay_d (g t) (w t) (m t) (v t))) y)
      fun j hj hl => (congrFun (A_eq2 V c 5) _).trans (o.o1.rest j hj hl),
    (dat2 V c).arrAt_forall_of_coversWhere 6 (Put 1 (tM G M)) (fun β => β (0 : Fin 3) = 1) (by decide +kernel)
      (fun t _ y _ => (lay2 t).put (f := tM G M) (a := (dat2 V c).after 6 t) (by rw [after2_6, outs2]; exact lift _ (pay_m (g t) (m t))) y)
      fun j hj hl => (congrFun (A_eq2 V c 6) _).trans (o.o2.rest j hj hl),
    (dat2 V c).arrAt_forall_of_coversWhere 7 (Put 1 (tS G A)) (fun β => β (0 : Fin 3) = 1) (by decide +kernel)
      (fun t _ y _ => (lay2 t).put (f := tS G A) (a := (dat2 V c).after 7 t) (by rw [after2_7, outs2]; exact lift _ (pay_v (g t) (v t))) y)
      fun j hj hl => (congrFun (A_eq2 V c 7) _).trans (o.o3.rest j hj hl)⟩

theorem outs3 (t : Fin cfg3.N) : outsAt3 V c t = (k0_pay8 (iblk3 V c 0 t), k0_pay1 (k0_pay7 (iblk3 V c 0 t) (iblk3 V c 1 t) (iblk3 V c 2 t) (iblk3 V c 3 t)),
    k0_pay2 (k0_pay5 (iblk3 V c 0 t) (iblk3 V c 2 t)), k0_pay3 (k0_pay6 (iblk3 V c 0 t) (iblk3 V c 3 t))) := by
  refine Prod.ext ?_ (Prod.ext ?_ (Prod.ext ?_ ?_)) <;> · frame_out <;> rfl

theorem ixg3 : ∀ t : Fin grid3.N, win3_0.index t 0 = t.val ∧ win3_0.index t 1 = 0 := by decide +kernel
theorem ixs3 : ∀ t : Fin grid3.N, win3_1.index t 0 = 0 ∧ win3_1.index t 1 = t.val ∧ win3_1.index t 2 = 0 := by decide +kernel
theorem lay3 (t : Fin cfg3.N) : At (win3_1.blk t).view.emb 0 t.val := fun i =>
  ⟨by blk_simp [(ixs3 t).1], by blk_simp [(ixs3 t).2.1]; omega, by blk_simp [(ixs3 t).2.2]⟩
theorem grad3 (h : T2 (V c main_v10 : S2048x577.Idx → EReal) (G 0)) (t : Fin cfg3.N) : T2 (iblk3 V c 0 t) fun r k => G 0 (256 * t.val + r) k :=
  at2 h (win3_0.blk t).view.emb (256 * t.val + ·) id (fun i => by blk_simp [(ixg3 t).1]; omega) fun i => by blk_simp [(ixg3 t).2]; simp

theorem call3 (hg : T2 (V c main_v10 : S2048x577.Idx → EReal) (G 0)) (hw : T3 (V c main_arg1 : S4x2048x577.Idx → EReal) W)
    (hm : T3 (V c main_arg2 : S4x2048x577.Idx → EReal) M) (hv : T3 (V c main_arg3 : S4x2048x577.Idx → EReal) A)
    (o : Tabs 1 (V c main_v11_0) (V c main_v11_1) (V c main_v11_2) (V c main_v11_3) G W M A) :
    Tabs 0 ((dat3 V c).arrAt 4 cfg3.N) ((dat3 V c).arrAt 5 cfg3.N) ((dat3 V c).arrAt 6 cfg3.N) ((dat3 V c).arrAt 7 cfg3.N) G W M A := by
  have g := grad3 V c hg
  have w := fun t => (lay3 t).read hw
  have m := fun t => (lay3 t).read hm
  have v := fun t => (lay3 t).read hv
  exact ⟨(dat3 V c).arrAt_forall_of_coversWhere 4 (Put 0 (G)) (fun β => β (0 : Fin 3) = 0) (by decide +kernel)
      (fun t _ y _ => (lay3 t).put (f := G) (a := (dat3 V c).after 4 t) (by rw [after3_4, outs3]; exact lift _ (pay_g (g t))) y)
      fun j hj hl => (congrFun (A_eq3 V c 4) _).trans (o.o0.rest j hj hl),
    (dat3 V c).arrAt_forall_of_coversWhere 5 (Put 0 (tD G W M A)) (fun β => β (0 : Fin 3) = 0) (by decide +kernel)
      (fun t _ y _ => (lay3 t).put (f := tD G W M A) (a := (dat3 V c).after 5 t) (by rw [after3_5, outs3]; exact lift _ (pay_d (g t) (w t) (m t) (v t))) y)
      fun j hj hl => (congrFun (A_eq3 V c 5) _).trans (o.o1.rest j hj hl),
    (dat3 V c).arrAt_forall_of_coversWhere 6 (Put 0 (tM G M)) (fun β => β (0 : Fin 3) = 0) (by decide +kernel)
      (fun t _ y _ => (lay3 t).put (f := tM G M) (a := (dat3 V c).after 6 t) (by rw [after3_6, outs3]; exact lift _ (pay_m (g t) (m t))) y)
      fun j hj hl => (congrFun (A_eq3 V c 6) _).trans (o.o2.rest j hj hl),
    (dat3 V c).arrAt_forall_of_coversWhere 7 (Put 0 (tS G A)) (fun β => β (0 : Fin 3) = 0) (by decide +kernel)
      (fun t _ y _ => (lay3 t).put (f := tS G A) (a := (dat3 V c).after 7 t) (by rw [after3_7, outs3]; exact lift _ (pay_v (g t) (v t))) y)
      fun j hj hl => (congrFun (A_eq3 V c 7) _).trans (o.o3.rest j hj hl)⟩

end

/-! ## The results -/

/-- The launch memory's arguments on core `c` hold these tables. -/
structure Holds (m : (ℓ : Loc nD τ sig) → Buf (Elt Ideal) ℓ) (c : Dev nD) (G W M A : ℕ → ℕ → ℕ → EReal) : Prop where
  a0 : T3 (m ((c : Thread nD τ).loc main_arg0) : S4x2048x577.Idx → EReal) G
  a1 : T3 (m ((c : Thread nD τ).loc main_arg1) : S4x2048x577.Idx → EReal) W
  a2 : T3 (m ((c : Thread nD τ).loc main_arg2) : S4x2048x577.Idx → EReal) M
  a3 : T3 (m ((c : Thread nD τ).loc main_arg3) : S4x2048x577.Idx → EReal) A

section
variable {m : (ℓ : Loc nD τ sig) → Buf (Elt Ideal) ℓ} {ρ : Dev nD → PrngReg} {c : Dev nD} {G W M A : ℕ → ℕ → ℕ → EReal}

theorem held {V : S4x2048x577.Idx → EReal} {f : ℕ → ℕ → ℕ → EReal} {x : S4x2048x577.Idx → EReal} (e : V = x) (h : T3 x f) : T3 V f := e ▸ h
theorem sliced {V : S2048x577.Idx → EReal} {f : ℕ → ℕ → ℕ → EReal} {y x : S4x2048x577.Idx → EReal} (l : ℕ) (hs : S4x2048x577.Slices ![l, 0, 0] S1x2048x577)
    (e : V = shapeCast S2048x577 (extractStridedSlice S1x2048x577 ![l, 0, 0] y hs) shapeCasts_S1x2048x577_S2048x577) (e' : y = x) (h : T3 x f) :
    T2 V (f l) := by rw [e, e']; exact cut h l hs

theorem W1_v1 : W1 m ρ c main_v1 = shapeCast S2048x577 (extractStridedSlice S1x2048x577 ![3, 0, 0] (W0 m ρ c main_arg0) slices_S4x2048x577_S1x2048x577_3_0_0) shapeCasts_S1x2048x577_S2048x577 := by
  unfold W1 hostOps0
  after_results_simp
  rfl
theorem W3_v4 : W3 m ρ c main_v4 = shapeCast S2048x577 (extractStridedSlice S1x2048x577 ![2, 0, 0] (W2 m ρ c main_arg0) slices_S4x2048x577_S1x2048x577_2_0_0) shapeCasts_S1x2048x577_S2048x577 := by
  unfold W3 hostOps1
  after_results_simp
  rfl
theorem W5_v7 : W5 m ρ c main_v7 = shapeCast S2048x577 (extractStridedSlice S1x2048x577 ![1, 0, 0] (W4 m ρ c main_arg0) slices_S4x2048x577_S1x2048x577_1_0_0) shapeCasts_S1x2048x577_S2048x577 := by
  unfold W5 hostOps2
  after_results_simp
  rfl
theorem W7_v10 : W7 m ρ c main_v10 = shapeCast S2048x577 (extractStridedSlice S1x2048x577 ![0, 0, 0] (W6 m ρ c main_arg0) slices_S4x2048x577_S1x2048x577_0_0_0) shapeCasts_S1x2048x577_S2048x577 := by
  unfold W7 hostOps3
  after_results_simp
  rfl
theorem W3_v5 : W3 m ρ c main_v5_0 = W2 m ρ c main_v2_0 ∧ W3 m ρ c main_v5_1 = W2 m ρ c main_v2_1 ∧ W3 m ρ c main_v5_2 = W2 m ρ c main_v2_2 ∧ W3 m ρ c main_v5_3 = W2 m ρ c main_v2_3 := by
  unfold W3 hostOps1
  refine ⟨?_, ?_, ?_, ?_⟩ <;> · after_results_simp; rfl
theorem W5_v8 : W5 m ρ c main_v8_0 = W4 m ρ c main_v5_0 ∧ W5 m ρ c main_v8_1 = W4 m ρ c main_v5_1 ∧ W5 m ρ c main_v8_2 = W4 m ρ c main_v5_2 ∧ W5 m ρ c main_v8_3 = W4 m ρ c main_v5_3 := by
  unfold W5 hostOps2
  refine ⟨?_, ?_, ?_, ?_⟩ <;> · after_results_simp; rfl
theorem W7_v11 : W7 m ρ c main_v11_0 = W6 m ρ c main_v8_0 ∧ W7 m ρ c main_v11_1 = W6 m ρ c main_v8_1 ∧ W7 m ρ c main_v11_2 = W6 m ρ c main_v8_2 ∧ W7 m ρ c main_v11_3 = W6 m ρ c main_v8_3 := by
  unfold W7 hostOps3
  refine ⟨?_, ?_, ?_, ?_⟩ <;> · after_results_simp; rfl

theorem Tabs.of {L : ℕ} {a0 a1 a2 a3 b0 b1 b2 b3 : S4x2048x577.Idx → EReal} (h : Tabs L b0 b1 b2 b3 G W M A) (e : a0 = b0 ∧ a1 = b1 ∧ a2 = b2 ∧ a3 = b3) :
    Tabs L a0 a1 a2 a3 G W M A := by obtain ⟨rfl, rfl, rfl, rfl⟩ := e; exact h

variable (hm : Holds m c G W M A)
include hm

theorem tabs2 : Tabs 3 (W2 m ρ c main_v2_0) (W2 m ρ c main_v2_1) (W2 m ρ c main_v2_2) (W2 m ρ c main_v2_3) G W M A :=
  Tabs.of (call0 (V1 m ρ) c (sliced 3 _ W1_v1 (W0_args m ρ c main_arg0 (by decide)) hm.a0) (held (W1_args m ρ c main_arg1 (by decide)) hm.a1)
    (held (W1_args m ρ c main_arg2 (by decide)) hm.a2) (held (W1_args m ρ c main_arg3 (by decide)) hm.a3) (none _ _ _ _ _ _ _ _))
    ⟨W2_arr m ρ c 4, W2_arr m ρ c 5, W2_arr m ρ c 6, W2_arr m ρ c 7⟩
theorem tabs4 : Tabs 2 (W4 m ρ c main_v5_0) (W4 m ρ c main_v5_1) (W4 m ρ c main_v5_2) (W4 m ρ c main_v5_3) G W M A :=
  Tabs.of (call1 (V3 m ρ) c (sliced 2 _ W3_v4 (W2_args m ρ c main_arg0 (by decide)) hm.a0) (held (W3_args m ρ c main_arg1 (by decide)) hm.a1)
    (held (W3_args m ρ c main_arg2 (by decide)) hm.a2) (held (W3_args m ρ c main_arg3 (by decide)) hm.a3) (Tabs.of (tabs2 hm) W3_v5))
    ⟨W4_arr m ρ c 4, W4_arr m ρ c 5, W4_arr m ρ c 6, W4_arr m ρ c 7⟩
theorem tabs6 : Tabs 1 (W6 m ρ c main_v8_0) (W6 m ρ c main_v8_1) (W6 m ρ c main_v8_2) (W6 m ρ c main_v8_3) G W M A :=
  Tabs.of (call2 (V5 m ρ) c (sliced 1 _ W5_v7 (W4_args m ρ c main_arg0 (by decide)) hm.a0) (held (W5_args m ρ c main_arg1 (by decide)) hm.a1)
    (held (W5_args m ρ c main_arg2 (by decide)) hm.a2) (held (W5_args m ρ c main_arg3 (by decide)) hm.a3) (Tabs.of (tabs4 hm) W5_v8))
    ⟨W6_arr m ρ c 4, W6_arr m ρ c 5, W6_arr m ρ c 6, W6_arr m ρ c 7⟩
theorem tabs8 : Tabs 0 (W8 m ρ c main_v11_0) (W8 m ρ c main_v11_1) (W8 m ρ c main_v11_2) (W8 m ρ c main_v11_3) G W M A :=
  Tabs.of (call3 (V7 m ρ) c (sliced 0 _ W7_v10 (W6_args m ρ c main_arg0 (by decide)) hm.a0) (held (W7_args m ρ c main_arg1 (by decide)) hm.a1)
    (held (W7_args m ρ c main_arg2 (by decide)) hm.a2) (held (W7_args m ρ c main_arg3 (by decide)) hm.a3) (Tabs.of (tabs6 hm) W7_v11))
    ⟨W8_arr m ρ c 4, W8_arr m ρ c 5, W8_arr m ρ c 6, W8_arr m ρ c 7⟩

end

end Cert.Kernel11Ideal.Gen

end
-- ==== Proof.OptAlg.lean ====
/- The claims of the optimiser's step: the four calls and the plain step leave the same arrays. -/
module

public import proofs.«01_k».proof.Defs
public import proofs.«01_k».proof.Proof.OptVal
public import proofs.«01_k».proof.Proof.Gen.Reference11Ideal.Read
public import proofs.«01_k».proof.Proof.Gen.Reference11Ideal.Run
public import Idealize.ShloMosaic.Lib.KernelVsHost

@[expose] public section

set_option maxRecDepth 16384

noncomputable section

namespace Cert.Opt

open Cert.Reference11Ideal Cert.Reference11Ideal.Read Cert.Ffn
open Idealize.ShloMosaic

/-- A stack has a table. -/
theorem table (x : S4x2048x577.Idx → EReal) : ∃ f, T3 x f :=
  ⟨fun l r k => if h : l < 4 ∧ r < 2048 ∧ k < 577 then x (ix3 (⟨l, h.1⟩ : Fin 4) (⟨r, h.2.1⟩ : Fin 2048) (⟨k, h.2.2⟩ : Fin 577)) else 0, fun i => by
    show _ = dite _ _ _
    rw [dif_pos ⟨(i 0 : Fin 4).isLt, (i 1 : Fin 2048).isLt, (i 2 : Fin 577).isLt⟩]
    exact congrArg x (ix3_eta i).symm⟩

variable {x0 x1 x2 x3 : FVec Ideal S4x2048x577 .f32} {G W M A : ℕ → ℕ → ℕ → EReal}

theorem r_m (h0 : T3 x0 G) (h2 : T3 x2 M) : T3 (val_main_v4 (F := Ideal) x0 x2 : S4x2048x577.Idx → EReal) (tM G M) := by
  intro i
  show _ * x2 i + _ * x0 i = _
  rw [h0 i, h2 i]; rfl

theorem r_v (h0 : T3 x0 G) (h3 : T3 x3 A) : T3 (val_main_v10 (F := Ideal) x0 x3 : S4x2048x577.Idx → EReal) (tS G A) := by
  intro i
  show _ * x3 i + _ * (x0 i * x0 i) = _
  rw [h0 i, h3 i]; rfl

theorem r_d (h0 : T3 x0 G) (h1 : T3 x1 W) (h2 : T3 x2 M) (h3 : T3 x3 A) :
    T3 (val_main_v23 (F := Ideal) x0 x1 x2 x3 : S4x2048x577.Idx → EReal) (tD G W M A) := by
  intro i
  show _ * (Ideal.div (Ideal.div (val_main_v4 (F := Ideal) x0 x2 i) _) (Ideal.sqrt (Ideal.div (val_main_v10 (F := Ideal) x0 x3 i) _) + _) + _ * x1 i) = _
  rw [r_m h0 h2 i, r_v h0 h3 i, h1 i]; rfl

end Cert.Opt

namespace Cert.Kernel11Ideal.Value

open Cert.Kernel11Ideal.Gen
open Idealize.ShloMosaic Idealize.ShloMosaic.TcCoe Idealize.SL.Sem

variable {F : FTy → Type} [FloatOps F] (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v11_0) = W8 m ρ c (Proc.devRef .tc main_v11_0)
      ∧ r.2.mem ((c.tc : Thread nD τ).loc main_v11_1) = W8 m ρ c (Proc.devRef .tc main_v11_1)
      ∧ r.2.mem ((c.tc : Thread nD τ).loc main_v11_2) = W8 m ρ c (Proc.devRef .tc main_v11_2)
      ∧ r.2.mem ((c.tc : Thread nD τ).loc main_v11_3) = W8 m ρ c (Proc.devRef .tc main_v11_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v11_0 (by decide)), h c _ (mem_uc main_v11_1 (by decide)),
     h c _ (mem_uc main_v11_2 (by decide)), h c _ (mem_uc main_v11_3 (by decide)),
     (h c _ (mem_uc main_arg0 (by decide))).trans (W8_main_arg0 m ρ c), (h c _ (mem_uc main_arg1 (by decide))).trans (W8_main_arg1 m ρ c),
     (h c _ (mem_uc main_arg2 (by decide))).trans (W8_main_arg2 m ρ c), (h c _ (mem_uc main_arg3 (by decide))).trans (W8_main_arg3 m ρ c)⟩)
    (Cert.RunEnds.run (pcfgs (F := F)) adm (pdats m ρ) cellOf_inj defs₀ m ρ main (segs m ρ) (main_run m ρ)
      (by simp only [segs, Pipeline.Seg.pipes_host, Pipeline.Seg.pipes_region, Pipeline.Seg.pipes_nil]; decide) (W8 m ρ)
      ⟨fun _ => .rfl, fun _ => .rfl, fun _ => .rfl, fun _ => .rfl, fun _ => .rfl, fun _ => .rfl, fun _ => .rfl, fun _ => .rfl, fun _ => .rfl⟩)

end Cert.Kernel11Ideal.Value

namespace Cert.Proof

open Cert.Ffn Cert.Opt
open Idealize.ShloMosaic Idealize.ShloMosaic.Pipeline Idealize.SL.Sem

theorem preserves11 : Cert.preserves_Kernel11_Kernel11Ideal := trivial

open Cert.Reference11Ideal.Read Cert.Kernel11Ideal.Gen in
theorem algebraic11 : Cert.algebraic_Kernel11Ideal_Reference11Ideal := by
  intro m ρ m' ρ' _ agree
  refine ⟨_, _, _, _, Cert.Kernel11Ideal.Value.run (F := Ideal) m ρ,
    (θ_run Cert.Reference11Ideal.defs _ _).mono (fun r h c => ?_) (Cert.Reference11Ideal.Value.run (F := Ideal) m' ρ')⟩
  obtain ⟨g0, g1, g2, g3⟩ := agree c
  obtain ⟨e0, e1, e2, e3, ha⟩ := h c
  rw [g0, g1, g2, g3] at e1
  rw [g0, g2] at e2
  rw [g0, g3] at e3
  obtain ⟨G, hG⟩ := table (m ((c.tc : Thread Cert.Kernel11Ideal.nD Cert.Kernel11Ideal.τ).loc Cert.Kernel11Ideal.main_arg0))
  obtain ⟨W, hW⟩ := table (m ((c.tc : Thread Cert.Kernel11Ideal.nD Cert.Kernel11Ideal.τ).loc Cert.Kernel11Ideal.main_arg1))
  obtain ⟨M, hM⟩ := table (m ((c.tc : Thread Cert.Kernel11Ideal.nD Cert.Kernel11Ideal.τ).loc Cert.Kernel11Ideal.main_arg2))
  obtain ⟨A, hA⟩ := table (m ((c.tc : Thread Cert.Kernel11Ideal.nD Cert.Kernel11Ideal.τ).loc Cert.Kernel11Ideal.main_arg3))
  have T := tabs8 (ρ := ρ) (c := c) ⟨hG, hW, hM, hA⟩
  exact ⟨(e0.trans g0).trans (funext fun i => (hG i).trans (T.o0 i (Nat.zero_le _)).symm),
    (e1.trans (val_main_v23_eq (F := Ideal) _ _ _ _)).trans (funext fun i => (r_d hG hW hM hA i).trans (T.o1 i (Nat.zero_le _)).symm),
    (e2.trans (val_main_v4_eq (F := Ideal) _ _)).trans (funext fun i => (r_m hG hM i).trans (T.o2 i (Nat.zero_le _)).symm),
    (e3.trans (val_main_v10_eq (F := Ideal) _ _)).trans (funext fun i => (r_v hG hA i).trans (T.o3 i (Nat.zero_le _)).symm), ha⟩

end Cert.Proof

end
-- ==== Proof.FfnArrays.lean ====
/- The four calls' blocks and arrays at an index: what a grid point reads of each array, and the arrays after the last point. -/
module

public import proofs.«01_k».proof.Proof.FfnBlocks

@[expose] public section

set_option maxRecDepth 16384

noncomputable section

namespace Cert.Kernel2Ideal.Gen

open Idealize.ShloMosaic Idealize.ShloMosaic.TcCoe Idealize.ShloMosaic.Tactic Finset Cert.Ffn

/-! ## Which part of an array a grid point's block is: the second and fourth call cut as the first and third do -/

section
variable {X : ℕ → ℕ → EReal} {Z : ℕ → ℕ → ℕ → EReal}

theorem rows {A : S2048x2048.Idx → EReal} (h : T2 A X) (t : Fin grid0.N) :
    T2 (fun i : S512x2048.Idx => A ((win0_0.blk t).view.emb i)) fun r k => X (512 * (t.val % 4) + r) k :=
  have e : ∀ t : Fin grid0.N, win0_0.index t 0 = t.val % 4 ∧ win0_0.index t 1 = 0 := by decide +kernel
  at2 h (win0_0.blk t).view.emb (512 * (t.val % 4) + ·) id (fun i => by blk_simp [(e t).1]; omega) (fun i => by blk_simp [(e t).2]; simp)

theorem share {A : S8x704x2048.Idx → EReal} (h : T3 A Z) (t : Fin grid0.N) :
    T3 (fun i : S1x704x2048.Idx => A ((win0_1.blk t).view.emb i)) fun _ r k => Z (t.val / 4) r k :=
  have e : ∀ t : Fin grid0.N, win0_1.index t 0 = t.val / 4 ∧ win0_1.index t 1 = 0 ∧ win0_1.index t 2 = 0 := by decide +kernel
  at3 h (win0_1.blk t).view.emb (fun _ => t.val / 4) id id (fun i => by blk_simp [(e t).1]) (fun i => by blk_simp [(e t).2.1]; simp)
    (fun i => by blk_simp [(e t).2.2]; simp)

theorem tile {A : S8x2048x704.Idx → EReal} (h : T3 A Z) (t : Fin grid0.N) :
    T3 (fun i : S1x512x704.Idx => A ((win0_3.blk t).view.emb i)) fun _ r k => Z (t.val / 4) (512 * (t.val % 4) + r) k :=
  have e : ∀ t : Fin grid0.N, win0_3.index t 0 = t.val / 4 ∧ win0_3.index t 1 = t.val % 4 ∧ win0_3.index t 2 = 0 := by decide +kernel
  at3 h (win0_3.blk t).view.emb (fun _ => t.val / 4) (512 * (t.val % 4) + ·) id (fun i => by blk_simp [(e t).1])
    (fun i => by blk_simp [(e t).2.1]; omega) (fun i => by blk_simp [(e t).2.2]; simp)

theorem share' {A : S8x2048x704.Idx → EReal} (h : T3 A Z) (t : Fin grid2.N) :
    T3 (fun i : S1x2048x704.Idx => A ((win2_0.blk t).view.emb i)) fun _ r k => Z (t.val / 2) r k :=
  have e : ∀ t : Fin grid2.N, win2_0.index t 0 = t.val / 2 ∧ win2_0.index t 1 = 0 ∧ win2_0.index t 2 = 0 := by decide +kernel
  at3 h (win2_0.blk t).view.emb (fun _ => t.val / 2) id id (fun i => by blk_simp [(e t).1]) (fun i => by blk_simp [(e t).2.1]; simp)
    (fun i => by blk_simp [(e t).2.2]; simp)

theorem cols {A : S2048x2048.Idx → EReal} (h : T2 A X) (t : Fin grid2.N) :
    T2 (fun i : S2048x1024.Idx => A ((win2_1.blk t).view.emb i)) fun r k => X r (1024 * (t.val % 2) + k) :=
  have e : ∀ t : Fin grid2.N, win2_1.index t 0 = 0 ∧ win2_1.index t 1 = t.val % 2 := by decide +kernel
  at2 h (win2_1.blk t).view.emb id (1024 * (t.val % 2) + ·) (fun i => by blk_simp [(e t).1]; simp) (fun i => by blk_simp [(e t).2]; omega)

theorem tile' {A : S8x704x2048.Idx → EReal} (h : T3 A Z) (t : Fin grid2.N) :
    T3 (fun i : S1x704x1024.Idx => A ((win2_2.blk t).view.emb i)) fun _ r k => Z (t.val / 2) r (1024 * (t.val % 2) + k) :=
  have e : ∀ t : Fin grid2.N, win2_2.index t 0 = t.val / 2 ∧ win2_2.index t 1 = 0 ∧ win2_2.index t 2 = t.val % 2 := by decide +kernel
  at3 h (win2_2.blk t).view.emb (fun _ => t.val / 2) id (1024 * (t.val % 2) + ·) (fun i => by blk_simp [(e t).1])
    (fun i => by blk_simp [(e t).2.1]; simp) (fun i => by blk_simp [(e t).2.2]; omega)

/-! ## The arrays after the last point -/

variable (V : (c : Dev nD) → (b : Ref sig .tc) → Buf (Elt Ideal) ((c : Thread nD τ).loc b)) (c : Dev nD)

theorem arr0_3 (h : ∀ t : Fin cfg0.N, T3 ((dat0 V c).after 3 t : S1x512x704.Idx → EReal) (fun _ r k => Z (t.val / 4) (512 * (t.val % 4) + r) k)) :
    T3 ((dat0 V c).arrAt 3 cfg0.N : S8x2048x704.Idx → EReal) Z :=
  fun i => congrFun ((dat0 V c).arrAt_eq_of_covers 3 (full3 Z) (by decide +kernel) fun t _ y => (h t y).trans (tile (fun _ => rfl) t y).symm) i

theorem arr0_4 (h : ∀ t : Fin cfg0.N, T3 ((dat0 V c).after 4 t : S1x512x704.Idx → EReal) (fun _ r k => Z (t.val / 4) (512 * (t.val % 4) + r) k)) :
    T3 ((dat0 V c).arrAt 4 cfg0.N : S8x2048x704.Idx → EReal) Z :=
  fun i => congrFun ((dat0 V c).arrAt_eq_of_covers 4 (full3 Z) (by decide +kernel) fun t _ y => (h t y).trans (tile (fun _ => rfl) t y).symm) i

theorem arr0_5 (h : ∀ t : Fin cfg0.N, T3 ((dat0 V c).after 5 t : S1x512x704.Idx → EReal) (fun _ r k => Z (t.val / 4) (512 * (t.val % 4) + r) k)) :
    T3 ((dat0 V c).arrAt 5 cfg0.N : S8x2048x704.Idx → EReal) Z :=
  fun i => congrFun ((dat0 V c).arrAt_eq_of_covers 5 (full3 Z) (by decide +kernel) fun t _ y => (h t y).trans (tile (fun _ => rfl) t y).symm) i

theorem arr1_4 (h : ∀ t : Fin cfg1.N, T3 ((dat1 V c).after 4 t : S1x512x704.Idx → EReal) (fun _ r k => Z (t.val / 4) (512 * (t.val % 4) + r) k)) :
    T3 ((dat1 V c).arrAt 4 cfg1.N : S8x2048x704.Idx → EReal) Z :=
  fun i => congrFun ((dat1 V c).arrAt_eq_of_covers 4 (full3 Z) (by decide +kernel) fun t _ y => (h t y).trans (tile (fun _ => rfl) t y).symm) i

theorem arr1_5 (h : ∀ t : Fin cfg1.N, T3 ((dat1 V c).after 5 t : S1x512x704.Idx → EReal) (fun _ r k => Z (t.val / 4) (512 * (t.val % 4) + r) k)) :
    T3 ((dat1 V c).arrAt 5 cfg1.N : S8x2048x704.Idx → EReal) Z :=
  fun i => congrFun ((dat1 V c).arrAt_eq_of_covers 5 (full3 Z) (by decide +kernel) fun t _ y => (h t y).trans (tile (fun _ => rfl) t y).symm) i

theorem arr2_2 (h : ∀ t : Fin cfg2.N, T3 ((dat2 V c).after 2 t : S1x704x1024.Idx → EReal) (fun _ r k => Z (t.val / 2) r (1024 * (t.val % 2) + k))) :
    T3 ((dat2 V c).arrAt 2 cfg2.N : S8x704x2048.Idx → EReal) Z :=
  fun i => congrFun ((dat2 V c).arrAt_eq_of_covers 2 (full3 Z) (by decide +kernel) fun t _ y => (h t y).trans (tile' (fun _ => rfl) t y).symm) i

theorem arr3_3 (h : ∀ t : Fin cfg3.N, T3 ((dat3 V c).after 3 t : S1x704x1024.Idx → EReal) (fun _ r k => Z (t.val / 2) r (1024 * (t.val % 2) + k))) :
    T3 ((dat3 V c).arrAt 3 cfg3.N : S8x704x2048.Idx → EReal) Z :=
  fun i => congrFun ((dat3 V c).arrAt_eq_of_covers 3 (full3 Z) (by decide +kernel) fun t _ y => (h t y).trans (tile' (fun _ => rfl) t y).symm) i

theorem arr3_4 (h : ∀ t : Fin cfg3.N, T3 ((dat3 V c).after 4 t : S1x704x1024.Idx → EReal) (fun _ r k => Z (t.val / 2) r (1024 * (t.val % 2) + k))) :
    T3 ((dat3 V c).arrAt 4 cfg3.N : S8x704x2048.Idx → EReal) Z :=
  fun i => congrFun ((dat3 V c).arrAt_eq_of_covers 4 (full3 Z) (by decide +kernel) fun t _ y => (h t y).trans (tile' (fun _ => rfl) t y).symm) i

end

end Cert.Kernel2Ideal.Gen

end
-- ==== Proof.FfnVal.lean ====
/- What the program of the four feed-forward calls leaves in its result arrays: the host lines before the calls read at an
   index, and the arrays of each call, in terms of the arguments' tables. -/
module

public import proofs.«01_k».proof.Proof.FfnArrays

@[expose] public section

set_option maxRecDepth 16384

noncomputable section

namespace Cert.Ffn

/-- The first hidden value. -/
def hidA (X G : ℕ → ℕ → EReal) (r f : ℕ) : EReal := nn 2048 X G r f
/-- The gated product. -/
def hidH (X G U : ℕ → ℕ → EReal) (r f : ℕ) : EReal := gate (hidA X G r f) (hidA X U r f)
/-- The gradient of the first hidden value. -/
def gradA (X G U D H : ℕ → ℕ → EReal) (r f : ℕ) : EReal := dGate (nt 2048 H D r f) (hidA X G r f) (hidA X U r f)
/-- The gradient of the second. -/
def gradB (X G D H : ℕ → ℕ → EReal) (r f : ℕ) : EReal := dLin (nt 2048 H D r f) (hidA X G r f)

/-- A table of rows as stacks: the rows in shares of 704. -/
def sh (f : ℕ → ℕ → EReal) (j r k : ℕ) : EReal := f (704 * j + r) k
/-- The columns in shares of 704. -/
def sp (f : ℕ → ℕ → EReal) (j r k : ℕ) : EReal := f r (704 * j + k)

end Cert.Ffn

namespace Cert.Kernel2Ideal.Gen

open Idealize.ShloMosaic Idealize.ShloMosaic.TcCoe Idealize.ShloMosaic.Tactic Finset Cert.Ffn

/-! ## The host lines before the first call -/

section
variable (m : (ℓ : Loc nD τ sig) → Buf (Elt Ideal) ℓ) (ρ : Dev nD → PrngReg) (c : Dev nD)

theorem V1_v2 : V1 m ρ c main_v2 = shapeCast _ (transpose S5632x2048 [1, 0] (m ((c : Thread nD τ).loc main_arg1)) transposes_S2048x5632_S5632x2048_1_0) shapeCasts_S5632x2048_S8x704x2048 := by
  unfold V1 W1 hostOps0
  after_results_simp
  rfl
theorem V1_v5 : V1 m ρ c main_v5 = shapeCast _ (transpose S5632x2048 [1, 0] (m ((c : Thread nD τ).loc main_arg2)) transposes_S2048x5632_S5632x2048_1_0) shapeCasts_S5632x2048_S8x704x2048 := by
  unfold V1 W1 hostOps0
  after_results_simp
  rfl
theorem V1_v7 : V1 m ρ c main_v7 = shapeCast _ (m ((c : Thread nD τ).loc main_arg3)) shapeCasts_S5632x2048_S8x704x2048 := by
  unfold V1 W1 hostOps0
  after_results_simp
  rfl
theorem V1_v8 : V1 m ρ c main_v8 = m ((c : Thread nD τ).loc main_arg0) := by
  unfold V1 W1 hostOps0
  after_results_simp
  rfl
theorem V1_v9 : V1 m ρ c main_v9 = m ((c : Thread nD τ).loc main_arg4) := by
  unfold V1 W1 hostOps0
  after_results_simp
  rfl

end

/-! ## The results -/

/-- The launch memory's arguments on core `c` hold these tables. -/
structure Holds (m : (ℓ : Loc nD τ sig) → Buf (Elt Ideal) ℓ) (c : Dev nD) (X G U D H : ℕ → ℕ → EReal) : Prop where
  a0 : T2 (m ((c : Thread nD τ).loc main_arg0) : S2048x2048.Idx → EReal) X
  a1 : T2 (m ((c : Thread nD τ).loc main_arg1) : S2048x5632.Idx → EReal) G
  a2 : T2 (m ((c : Thread nD τ).loc main_arg2) : S2048x5632.Idx → EReal) U
  a3 : T2 (m ((c : Thread nD τ).loc main_arg3) : S5632x2048.Idx → EReal) D
  a4 : T2 (m ((c : Thread nD τ).loc main_arg4) : S2048x2048.Idx → EReal) H

section
variable {m : (ℓ : Loc nD τ sig) → Buf (Elt Ideal) ℓ} {ρ : Dev nD → PrngReg} {c : Dev nD} {X G U D H : ℕ → ℕ → EReal}

variable (hm : Holds m c X G U D H)
include hm

theorem v1_v2 : T3 (V1 m ρ c main_v2 : S8x704x2048.Idx → EReal) (sh fun f k => G k f) := fun i =>
  (congrFun (V1_v2 m ρ c) i).trans (shares2 (transp2 hm.a1 _) rfl _ i)
theorem v1_v5 : T3 (V1 m ρ c main_v5 : S8x704x2048.Idx → EReal) (sh fun f k => U k f) := fun i =>
  (congrFun (V1_v5 m ρ c) i).trans (shares2 (transp2 hm.a2 _) rfl _ i)
theorem v1_v7 : T3 (V1 m ρ c main_v7 : S8x704x2048.Idx → EReal) (sh D) := fun i =>
  (congrFun (V1_v7 m ρ c) i).trans (shares2 hm.a3 rfl _ i)
theorem v1_v8 : T2 (V1 m ρ c main_v8 : S2048x2048.Idx → EReal) X := fun i =>
  (congrFun (V1_v8 m ρ c) i).trans (hm.a0 i)
theorem v1_v9 : T2 (V1 m ρ c main_v9 : S2048x2048.Idx → EReal) H := fun i =>
  (congrFun (V1_v9 m ρ c) i).trans (hm.a4 i)

/-! The first call. -/

theorem v2_a : T3 (V2 m ρ c main_v10_0 : S8x2048x704.Idx → EReal) (sp (hidA X G)) := fun i =>
  (congrFun (W2_arr m ρ c 3) i).trans (arr0_3 (V1 m ρ) c (Z := sp (hidA X G)) (fun t => by
    rw [after0_3]
    exact out_0_3 (rows (v1_v8 hm) t) (share (v1_v2 hm) t)) i)
theorem v2_b : T3 (V2 m ρ c main_v10_1 : S8x2048x704.Idx → EReal) (sp (hidA X U)) := fun i =>
  (congrFun (W2_arr m ρ c 4) i).trans (arr0_4 (V1 m ρ) c (Z := sp (hidA X U)) (fun t => by
    rw [after0_4]
    exact out_0_4 (rows (v1_v8 hm) t) (share (v1_v5 hm) t)) i)
theorem v2_h : T3 (V2 m ρ c main_v10_2 : S8x2048x704.Idx → EReal) (sp (hidH X G U)) := fun i =>
  (congrFun (W2_arr m ρ c 5) i).trans (arr0_5 (V1 m ρ) c (Z := sp (hidH X G U)) (fun t => by
    rw [after0_5]
    exact out_0_5 (rows (v1_v8 hm) t) (share (v1_v2 hm) t) (share (v1_v5 hm) t)) i)

theorem v2_v7 : T3 (V2 m ρ c main_v7 : S8x704x2048.Idx → EReal) (sh D) := fun i =>
  (congrFun (W2_of m ρ c main_v7 (by decide)) i).trans (v1_v7 hm i)
theorem v2_v8 : T2 (V2 m ρ c main_v8 : S2048x2048.Idx → EReal) X := fun i =>
  (congrFun (W2_of m ρ c main_v8 (by decide)) i).trans (v1_v8 hm i)
theorem v2_v9 : T2 (V2 m ρ c main_v9 : S2048x2048.Idx → EReal) H := fun i =>
  (congrFun (W2_of m ρ c main_v9 (by decide)) i).trans (v1_v9 hm i)

/-! The second. -/

theorem v3_da : T3 (V3 m ρ c main_v11_0 : S8x2048x704.Idx → EReal) (sp (gradA X G U D H)) := fun i =>
  (congrFun (W3_arr m ρ c 4) i).trans (arr1_4 (V2 m ρ) c (Z := sp (gradA X G U D H)) (fun t => by
    rw [after1_4]
    exact out_1_4 (rows (v2_v9 hm) t) (share (v2_v7 hm) t) (tile (v2_a hm) t) (tile (v2_b hm) t)) i)
theorem v3_db : T3 (V3 m ρ c main_v11_1 : S8x2048x704.Idx → EReal) (sp (gradB X G D H)) := fun i =>
  (congrFun (W3_arr m ρ c 5) i).trans (arr1_5 (V2 m ρ) c (Z := sp (gradB X G D H)) (fun t => by
    rw [after1_5]
    exact out_1_5 (rows (v2_v9 hm) t) (share (v2_v7 hm) t) (tile (v2_a hm) t)) i)

theorem v3_a : T3 (V3 m ρ c main_v10_0 : S8x2048x704.Idx → EReal) (sp (hidA X G)) := fun i =>
  (congrFun (W3_of m ρ c main_v10_0 (by decide)) i).trans (v2_a hm i)
theorem v3_b : T3 (V3 m ρ c main_v10_1 : S8x2048x704.Idx → EReal) (sp (hidA X U)) := fun i =>
  (congrFun (W3_of m ρ c main_v10_1 (by decide)) i).trans (v2_b hm i)
theorem v3_h : T3 (V3 m ρ c main_v10_2 : S8x2048x704.Idx → EReal) (sp (hidH X G U)) := fun i =>
  (congrFun (W3_of m ρ c main_v10_2 (by decide)) i).trans (v2_h hm i)
theorem v3_v8 : T2 (V3 m ρ c main_v8 : S2048x2048.Idx → EReal) X := fun i =>
  (congrFun (W3_of m ρ c main_v8 (by decide)) i).trans (v2_v8 hm i)
theorem v3_v9 : T2 (V3 m ρ c main_v9 : S2048x2048.Idx → EReal) H := fun i =>
  (congrFun (W3_of m ρ c main_v9 (by decide)) i).trans (v2_v9 hm i)

/-! The third. -/

theorem v4_dwd : T3 (V4 m ρ c main_v12 : S8x704x2048.Idx → EReal) (sh (tn 2048 (hidH X G U) H)) := fun i =>
  (congrFun (W4_arr m ρ c 2) i).trans (arr2_2 (V3 m ρ) c (Z := sh (tn 2048 (hidH X G U) H)) (fun t => by
    rw [after2_2]
    exact out_2_2 (share' (v3_h hm) t) (cols (v3_v9 hm) t)) i)

theorem v4_v8 : T2 (V4 m ρ c main_v8 : S2048x2048.Idx → EReal) X := fun i =>
  (congrFun (W4_of m ρ c main_v8 (by decide)) i).trans (v3_v8 hm i)
theorem v4_a : T3 (V4 m ρ c main_v10_0 : S8x2048x704.Idx → EReal) (sp (hidA X G)) := fun i =>
  (congrFun (W4_of m ρ c main_v10_0 (by decide)) i).trans (v3_a hm i)
theorem v4_b : T3 (V4 m ρ c main_v10_1 : S8x2048x704.Idx → EReal) (sp (hidA X U)) := fun i =>
  (congrFun (W4_of m ρ c main_v10_1 (by decide)) i).trans (v3_b hm i)
theorem v4_h : T3 (V4 m ρ c main_v10_2 : S8x2048x704.Idx → EReal) (sp (hidH X G U)) := fun i =>
  (congrFun (W4_of m ρ c main_v10_2 (by decide)) i).trans (v3_h hm i)
theorem v4_da : T3 (V4 m ρ c main_v11_0 : S8x2048x704.Idx → EReal) (sp (gradA X G U D H)) := fun i =>
  (congrFun (W4_of m ρ c main_v11_0 (by decide)) i).trans (v3_da hm i)
theorem v4_db : T3 (V4 m ρ c main_v11_1 : S8x2048x704.Idx → EReal) (sp (gradB X G D H)) := fun i =>
  (congrFun (W4_of m ρ c main_v11_1 (by decide)) i).trans (v3_db hm i)

/-! The last, and what is there at the end. -/

theorem w5_dwg : T3 (W5 m ρ c (Proc.devRef .tc main_v13_0) : S8x704x2048.Idx → EReal) (sh (tn 2048 (gradA X G U D H) X)) := fun i =>
  (congrFun (W5_arr m ρ c 3) i).trans (arr3_3 (V4 m ρ) c (Z := sh (tn 2048 (gradA X G U D H) X)) (fun t => by
    rw [after3_3]
    exact out_3_3 (cols (v4_v8 hm) t) (share' (v4_da hm) t)) i)
theorem w5_dwu : T3 (W5 m ρ c (Proc.devRef .tc main_v13_1) : S8x704x2048.Idx → EReal) (sh (tn 2048 (gradB X G D H) X)) := fun i =>
  (congrFun (W5_arr m ρ c 4) i).trans (arr3_4 (V4 m ρ) c (Z := sh (tn 2048 (gradB X G D H) X)) (fun t => by
    rw [after3_4]
    exact out_3_4 (cols (v4_v8 hm) t) (share' (v4_db hm) t)) i)

theorem w5_a : T3 (W5 m ρ c (Proc.devRef .tc main_v10_0) : S8x2048x704.Idx → EReal) (sp (hidA X G)) := fun i =>
  (congrFun (W5_of m ρ c main_v10_0 (by decide)) i).trans (v4_a hm i)
theorem w5_b : T3 (W5 m ρ c (Proc.devRef .tc main_v10_1) : S8x2048x704.Idx → EReal) (sp (hidA X U)) := fun i =>
  (congrFun (W5_of m ρ c main_v10_1 (by decide)) i).trans (v4_b hm i)
theorem w5_h : T3 (W5 m ρ c (Proc.devRef .tc main_v10_2) : S8x2048x704.Idx → EReal) (sp (hidH X G U)) := fun i =>
  (congrFun (W5_of m ρ c main_v10_2 (by decide)) i).trans (v4_h hm i)
theorem w5_da : T3 (W5 m ρ c (Proc.devRef .tc main_v11_0) : S8x2048x704.Idx → EReal) (sp (gradA X G U D H)) := fun i =>
  (congrFun (W5_of m ρ c main_v11_0 (by decide)) i).trans (v4_da hm i)
theorem w5_db : T3 (W5 m ρ c (Proc.devRef .tc main_v11_1) : S8x2048x704.Idx → EReal) (sp (gradB X G D H)) := fun i =>
  (congrFun (W5_of m ρ c main_v11_1 (by decide)) i).trans (v4_db hm i)
theorem w5_dwd : T3 (W5 m ρ c (Proc.devRef .tc main_v12) : S8x704x2048.Idx → EReal) (sh (tn 2048 (hidH X G U) H)) := fun i =>
  (congrFun (W5_of m ρ c main_v12 (by decide)) i).trans (v4_dwd hm i)

end

end Cert.Kernel2Ideal.Gen

end
-- ==== Proof.FfnRef.lean ====
/- The plain feed-forward layer and its gradients, read at an index in terms of the arguments' tables. -/
module

public import proofs.«01_k».proof.Proof.FfnVal
public import proofs.«01_k».proof.Proof.PreFin
public import proofs.«01_k».proof.Proof.Gen.Reference2Ideal.Read
public import proofs.«01_k».proof.Proof.Gen.Pre_finite2

@[expose] public section

set_option maxRecDepth 16384

noncomputable section

namespace Cert.Ffn

open Cert.Reference2Ideal Cert.Reference2Ideal.Read
open Idealize.ShloMosaic Finset

variable {x0 x4 : FVec Ideal S2048x2048 .f32} {x1 x2 : FVec Ideal S2048x5632 .f32} {x3 : FVec Ideal S5632x2048 .f32}
  {X G U D H : ℕ → ℕ → EReal}

/-- The five arguments hold these tables. -/
structure Tables2 (x0 x4 : FVec Ideal S2048x2048 .f32) (x1 x2 : FVec Ideal S2048x5632 .f32) (x3 : FVec Ideal S5632x2048 .f32)
    (X G U D H : ℕ → ℕ → EReal) : Prop where
  a0 : T2 x0 X
  a1 : T2 x1 G
  a2 : T2 x2 U
  a3 : T2 x3 D
  a4 : T2 x4 H

/-! ## The layer -/

variable (T : Tables2 x0 x4 x1 x2 x3 X G U D H)
include T

theorem r_v0 : T2 (val_main_v0 (F := Ideal) x0 x1 : S2048x5632.Idx → EReal) (hidA X G) := by
  intro i
  rw [val_main_v0_apply]
  simp only [T.a0 _, T.a1 _]
  rfl

theorem r_v1 : T2 (val_main_v1 (F := Ideal) x0 x2 : S2048x5632.Idx → EReal) (hidA X U) := by
  intro i
  rw [val_main_v1_apply]
  simp only [T.a0 _, T.a2 _]
  rfl

theorem r_sig :
    T2 (val_main_v2_2 (F := Ideal) x0 x1 : S2048x5632.Idx → EReal) fun r f => Ideal.logistic (hidA X G r f) := by
  intro i
  rw [val_main_v2_2_apply, val_main_call0_v4_apply, val_main_call0_cst_0_apply, val_main_call0_v3_apply, val_main_call0_v2_apply,
    val_main_call0_cst_apply, val_main_call0_v1_apply, val_main_call0_v0_apply, r_v0 T i]
  show Ideal.div (Ideal.ofBits .f32 0x3F800000#32) (Ideal.ofBits .f32 0x3F800000#32 + _) = _
  rw [Cert.Kernel2Ideal.Gen.word_one]
  rfl

theorem r_dsig : T2 (val_main_v2_1 (F := Ideal) x0 x1 : S2048x5632.Idx → EReal)
    fun r f => Ideal.logistic (hidA X G r f) * (1 - Ideal.logistic (hidA X G r f)) := by
  intro i
  rw [val_main_v2_1_apply, val_main_call0_v7_apply, val_main_call0_v6_apply, val_main_call0_cst_1_apply, r_sig T i]
  show _ * (Ideal.ofBits .f32 0x3F800000#32 - _) = _
  rw [Cert.Kernel2Ideal.Gen.word_one]

theorem r_silu : T2 (val_main_v2_0 (F := Ideal) x0 x1 : S2048x5632.Idx → EReal)
    fun r f => hidA X G r f * Ideal.logistic (hidA X G r f) := by
  intro i
  rw [val_main_v2_0_apply, r_sig T i, r_v0 T i]
  rfl

theorem r_v3 : T2 (val_main_v3 (F := Ideal) x0 x1 x2 : S2048x5632.Idx → EReal) (hidH X G U) := by
  intro i
  rw [val_main_v3_apply, r_silu T i, r_v1 T i]
  rfl

/-! ## The gradients -/

theorem r_v8 : T2 (val_main_v8 (F := Ideal) x4 : S2048x2048.Idx → EReal) H := by
  intro i
  rw [val_main_v8_apply, T.a4 _]
  have h0 : (i 0 : Fin 2048).val < 2048 := (i 0 : Fin 2048).isLt
  have h1 : (i 1 : Fin 2048).val < 2048 := (i 1 : Fin 2048).isLt
  show H (((i 0 : Fin 2048).val * 2048 + (i 1 : Fin 2048).val) / 2048) (((i 0 : Fin 2048).val * 2048 + (i 1 : Fin 2048).val) % 2048) = _
  rw [show ((i 0 : Fin 2048).val * 2048 + (i 1 : Fin 2048).val) / 2048 = (i 0 : Fin 2048).val by omega,
    show ((i 0 : Fin 2048).val * 2048 + (i 1 : Fin 2048).val) % 2048 = (i 1 : Fin 2048).val by omega]

theorem r_v9 : T2 (val_main_v9 (F := Ideal) x0 x1 x2 x4 : S2048x5632.Idx → EReal) (tn 2048 H (hidH X G U)) := by
  intro i
  rw [val_main_v9_apply]
  simp only [r_v8 T _, r_v3 T _]
  rfl

theorem r_v10 : T2 (val_main_v10 (F := Ideal) x0 x1 x2 x4 : S5632x2048.Idx → EReal) (tn 2048 (hidH X G U) H) := by
  intro i
  rw [val_main_v10_apply, r_v9 T _]
  exact tn_comm _ _ _ _ _

theorem r_v11 : T2 (val_main_v11 (F := Ideal) x3 x4 : S2048x5632.Idx → EReal) (nt 2048 H D) := by
  intro i
  rw [val_main_v11_apply]
  simp only [r_v8 T _, T.a3 _]
  rfl

theorem r_v12 : T2 (val_main_v12 (F := Ideal) x0 x1 x3 x4 : S2048x5632.Idx → EReal) (gradB X G D H) := by
  intro i
  rw [val_main_v12_apply, r_silu T i, r_v11 T i]
  exact (mul_comm _ _).trans (mul_assoc _ _ _).symm

theorem r_v13 : T2 (val_main_v13 (F := Ideal) x0 x2 x3 x4 : S2048x5632.Idx → EReal) fun r f => nt 2048 H D r f * hidA X U r f := by
  intro i
  rw [val_main_v13_apply, r_v11 T i, r_v1 T i]
  rfl

/-- The tables other than the first weight's hold real numbers. -/
structure Real2 (X U D H : ℕ → ℕ → EReal) : Prop where
  a0 : ∀ i j, ∃ r : ℝ, X i j = r
  a2 : ∀ i j, ∃ r : ℝ, U i j = r
  a3 : ∀ i j, ∃ r : ℝ, D i j = r
  a4 : ∀ i j, ∃ r : ℝ, H i j = r

theorem r_v14 (R : Real2 X U D H) :
    T2 (val_main_v14 (F := Ideal) x0 x1 x2 x3 x4 : S2048x5632.Idx → EReal) (gradA X G U D H) := by
  intro i
  rw [val_main_v14_apply, val_main_call1_v1_apply, val_main_call1_v2_apply, val_main_call1_v0_apply, r_v13 T i, r_sig T i, r_dsig T i, r_v0 T i]
  exact dGate_eq _ (real_sum _ fun k => real_mul (R.a4 _ _) (R.a3 _ _)) (real_sum _ fun k => real_mul (R.a0 _ _) (R.a2 _ _))

theorem r_v15 : T2 (val_main_v15 (F := Ideal) x0 x1 x3 x4 : S5632x2048.Idx → EReal) (tn 2048 (gradB X G D H) X) := by
  intro i
  rw [val_main_v15_apply]
  simp only [r_v12 T _, T.a0 _]
  rfl

theorem r_v18 (R : Real2 X U D H) :
    T2 (val_main_v18 (F := Ideal) x0 x1 x2 x3 x4 : S5632x2048.Idx → EReal) (tn 2048 (gradA X G U D H) X) := by
  intro i
  rw [val_main_v18_apply]
  simp only [r_v14 T R _, T.a0 _]
  rfl

/-! ## The results, in the layout of the devices' shares -/

omit T in
/-- A matrix whose columns are shared out. -/
theorem split_at {f : ℕ → ℕ → EReal} (a b k : ℕ) (hb : b < 8) (hk : k < 704) :
    f (((a * 8 + b) * 704 + k) / 5632) (((a * 8 + b) * 704 + k) % 5632) = sp f b a k := by
  rw [show ((a * 8 + b) * 704 + k) / 5632 = a by omega, show ((a * 8 + b) * 704 + k) % 5632 = 704 * b + k by omega, sp]

omit T in
/-- One whose rows are. -/
theorem share_at {f : ℕ → ℕ → EReal} (a b k : ℕ) (hk : k < 2048) :
    f (((a * 704 + b) * 2048 + k) / 2048) (((a * 704 + b) * 2048 + k) % 2048) = sh f a b k := by
  rw [show ((a * 704 + b) * 2048 + k) / 2048 = 704 * a + b by omega, show ((a * 704 + b) * 2048 + k) % 2048 = k by omega, sh]

theorem r_v23 : T3 (val_main_v23 (F := Ideal) x0 x1 : S8x2048x704.Idx → EReal) (sp (hidA X G)) := by
  intro i
  rw [val_main_v23_apply, val_main_v22_apply, r_v0 T _]
  exact split_at (f := hidA X G) (i 1 : Fin 2048).val (i 0 : Fin 8).val (i 2 : Fin 704).val (i 0 : Fin 8).isLt (i 2 : Fin 704).isLt
theorem r_v25 : T3 (val_main_v25 (F := Ideal) x0 x2 : S8x2048x704.Idx → EReal) (sp (hidA X U)) := by
  intro i
  rw [val_main_v25_apply, val_main_v24_apply, r_v1 T _]
  exact split_at (f := hidA X U) (i 1 : Fin 2048).val (i 0 : Fin 8).val (i 2 : Fin 704).val (i 0 : Fin 8).isLt (i 2 : Fin 704).isLt
theorem r_v28 : T3 (val_main_v28 (F := Ideal) x0 x1 x2 : S8x2048x704.Idx → EReal) (sp (hidH X G U)) := by
  intro i
  rw [val_main_v28_apply, val_main_v27_apply, val_main_v26_apply, r_v3 T _]
  exact split_at (f := hidH X G U) (i 1 : Fin 2048).val (i 0 : Fin 8).val (i 2 : Fin 704).val (i 0 : Fin 8).isLt (i 2 : Fin 704).isLt
theorem r_v31 (R : Real2 X U D H) :
    T3 (val_main_v31 (F := Ideal) x0 x1 x2 x3 x4 : S8x2048x704.Idx → EReal) (sp (gradA X G U D H)) := by
  intro i
  rw [val_main_v31_apply, val_main_v30_apply, val_main_v29_apply, r_v14 T R _]
  exact split_at (f := gradA X G U D H) (i 1 : Fin 2048).val (i 0 : Fin 8).val (i 2 : Fin 704).val (i 0 : Fin 8).isLt (i 2 : Fin 704).isLt
theorem r_v34 : T3 (val_main_v34 (F := Ideal) x0 x1 x3 x4 : S8x2048x704.Idx → EReal) (sp (gradB X G D H)) := by
  intro i
  rw [val_main_v34_apply, val_main_v33_apply, val_main_v32_apply, r_v12 T _]
  exact split_at (f := gradB X G D H) (i 1 : Fin 2048).val (i 0 : Fin 8).val (i 2 : Fin 704).val (i 0 : Fin 8).isLt (i 2 : Fin 704).isLt
theorem r_v36 : T3 (val_main_v36 (F := Ideal) x0 x1 x2 x4 : S8x704x2048.Idx → EReal) (sh (tn 2048 (hidH X G U) H)) := by
  intro i
  rw [val_main_v36_apply, val_main_v35_apply, r_v10 T _]
  exact share_at (f := tn 2048 (hidH X G U) H) (i 0 : Fin 8).val (i 1 : Fin 704).val (i 2 : Fin 2048).val (i 2 : Fin 2048).isLt
theorem r_v39 (R : Real2 X U D H) :
    T3 (val_main_v39 (F := Ideal) x0 x1 x2 x3 x4 : S8x704x2048.Idx → EReal) (sh (tn 2048 (gradA X G U D H) X)) := by
  intro i
  rw [val_main_v39_apply, val_main_v38_apply, val_main_v37_apply, val_main_v19_apply, r_v18 T R _]
  exact share_at (f := tn 2048 (gradA X G U D H) X) (i 0 : Fin 8).val (i 1 : Fin 704).val (i 2 : Fin 2048).val (i 2 : Fin 2048).isLt
theorem r_v42 : T3 (val_main_v42 (F := Ideal) x0 x1 x3 x4 : S8x704x2048.Idx → EReal) (sh (tn 2048 (gradB X G D H) X)) := by
  intro i
  rw [val_main_v42_apply, val_main_v41_apply, val_main_v40_apply, val_main_v16_apply, r_v15 T _]
  exact share_at (f := tn 2048 (gradB X G D H) X) (i 0 : Fin 8).val (i 1 : Fin 704).val (i 2 : Fin 2048).val (i 2 : Fin 2048).isLt

/-! ## The tables of finite arguments -/

/-- The table of an array, zero outside it. -/
def etab {M N : ℕ} (x : (⟨2, ![M, N]⟩ : Shape).Idx → EReal) (t l : ℕ) : EReal :=
  if h : t < M ∧ l < N then x (ix2 (⟨t, h.1⟩ : Fin M) (⟨l, h.2⟩ : Fin N)) else 0

omit T in
theorem etab_eq {M N : ℕ} (x : (⟨2, ![M, N]⟩ : Shape).Idx → EReal) : T2 x (etab x) := fun i => by
  rw [etab, dif_pos ⟨(i 0 : Fin M).isLt, (i 1 : Fin N).isLt⟩]
  exact congrArg x (ix2_eta i).symm

omit T in
/-- Arrays that agree have one table. -/
theorem like {α β : Type} {x y f : α → β} (e : x = y) (h : ∀ i, y i = f i) : ∀ i, x i = f i := e ▸ h

omit T in
/-- Two results of one table agree. -/
theorem meet {α β : Type} {v a b w f : α → β} (e : v = a) (h : a = b) (hb : ∀ i, b i = f i) (hw : ∀ i, w i = f i) : v = w :=
  (e.trans h).trans (funext fun i => (hb i).trans (hw i).symm)

omit T in
theorem etab_real {M N : ℕ} (x : (⟨2, ![M, N]⟩ : Shape).Idx → EReal) (h : ∀ i, x i ≠ ⊤ ∧ x i ≠ ⊥) (t l : ℕ) : ∃ r : ℝ, etab x t l = r := by
  rw [etab]
  split
  · exact ⟨_, (EReal.coe_toReal (h _).1 (h _).2).symm⟩
  · exact ⟨0, EReal.coe_zero.symm⟩

omit T in
theorem real_of_pre (h : Cert.Pre_finite2.fn (F := Ideal) x0 x1 x2 x3 x4 = fun _ => 1#1) :
    Real2 (etab x0) (etab x2) (etab x3) (etab x4) := by
  have e := congrFun h (fun a => a.elim0)
  obtain ⟨e, e4⟩ := IntOp.andi_eq_one.1 e
  obtain ⟨e, e3⟩ := IntOp.andi_eq_one.1 e
  obtain ⟨e0, e2⟩ := IntOp.andi_eq_one.1 e
  exact ⟨etab_real x0 (Cert.Attn.fin_of_all _ _ _ _ _ _ _ e0), etab_real x2 (Cert.Attn.fin_of_all _ _ _ _ _ _ _ e2), etab_real x3 (Cert.Attn.fin_of_all _ _ _ _ _ _ _ e3),
    etab_real x4 (Cert.Attn.fin_of_all _ _ _ _ _ _ _ e4)⟩

end Cert.Ffn

end
-- ==== Proof.FfnAcc.lean ====
/- Sums collected over runs of eight grid points, and a sum over 5632 places as one over eight shares of 704. -/
module

public import proofs.«01_k».proof.Proof.FfnVal

@[expose] public section

noncomputable section

namespace Cert.Ffn

open Idealize.ShloMosaic Finset

/-- A quantity that a run's first point sets to a start and one term, and each later point adds a term to. -/
theorem run_sum {N : ℕ} (f : (n : ℕ) → n < N → EReal) (I : ℕ → EReal) (P : ℕ → ℕ → EReal)
    (hA : ∀ t : Fin N, t.val % 8 = 0 → f t.val t.isLt = I (t.val / 8) + P (t.val / 8) (t.val % 8))
    (hB : ∀ t : Fin N, ¬t.val % 8 = 0 →
      f t.val t.isLt = f (t.val - 1) (Nat.lt_of_le_of_lt (Nat.sub_le _ _) t.isLt) + P (t.val / 8) (t.val % 8)) :
    ∀ (n : ℕ) (h : n < N), f n h = I (n / 8) + ∑ s ∈ range (n % 8 + 1), P (n / 8) s := by
  intro n
  induction n with
  | zero => intro h; simpa using hA ⟨0, h⟩ rfl
  | succ n ih =>
    intro h
    by_cases h0 : (n + 1) % 8 = 0
    · refine (hA ⟨n + 1, h⟩ h0).trans ?_
      show I ((n + 1) / 8) + P ((n + 1) / 8) ((n + 1) % 8) = _
      rw [h0, zero_add, sum_range_one]
    · refine (hB ⟨n + 1, h⟩ h0).trans ?_
      have e := ih (Nat.lt_of_succ_lt h)
      show f n _ + P ((n + 1) / 8) ((n + 1) % 8) = _
      rw [e, show (n + 1) / 8 = n / 8 by omega, show (n + 1) % 8 = n % 8 + 1 by omega, sum_range_succ _ (n % 8 + 1), add_assoc]

/-- Shares put one after the other. -/
theorem shares_sum (n : ℕ) (g : ℕ → EReal) (m : ℕ) : ∑ s ∈ range m, ∑ k ∈ range n, g (n * s + k) = ∑ k ∈ range (n * m), g k := by
  induction m with
  | zero => simp
  | succ m ih => rw [sum_range_succ, ih, Nat.mul_succ, sum_range_add]

theorem shares_fin (g : ℕ → EReal) : ∑ s ∈ range 8, ∑ k : Fin 704, g (704 * s + k.val) = ∑ k : Fin 5632, g k.val := by
  rw [← Finset.sum_range (fun k => g k), ← shares_sum 704 g 8]
  exact sum_congr rfl fun s _ => (Finset.sum_range fun k => g (704 * s + k)).symm

/-- A product over 5632 places, share by share. -/
theorem nn_shares (X Y : ℕ → ℕ → EReal) (r d : ℕ) :
    ∑ s ∈ range 8, nn 704 (sp X s) (sh Y s) r d = nn 5632 X Y r d :=
  shares_fin fun k => X r k * Y k d

end Cert.Ffn

end
-- ==== Proof.NormVal.lean ====
/- The calls of the RMS norm: what each grid point stores, what the calls read and leave in their arrays, and what the program
   leaves in its results, in terms of the arguments' tables. -/
module

public import proofs.«01_k».proof.Proof.FfnAcc
public import proofs.«01_k».proof.Proof.FfnBlocks
public import proofs.«01_k».proof.Proof.Gen.Kernel8Ideal.Frame
public import Idealize.ShloMosaic.Lib.Pipeline.ValueKit
public import Idealize.ShloMosaic.Lib.Pointwise

@[expose] public section

set_option maxRecDepth 16384

noncomputable section

namespace Cert.Ffn

open Idealize.ShloMosaic Finset

/-- The list `V` holds `f`. -/
abbrev T1 {n : ℕ} (V : (⟨1, ![n]⟩ : Shape).Idx → EReal) (f : ℕ → EReal) : Prop := ∀ i, V i = f (i 0 : Fin n).val

/-- The number of columns. -/
def nD : EReal := Ideal.ofBits .f32 0x45000000#32
/-- The small number under the root. -/
def nE : EReal := Ideal.ofBits .f32 0x358637BD#32
/-- A row's mean square and the small number. -/
def msq (X : ℕ → ℕ → EReal) (r : ℕ) : EReal := Ideal.div (∑ k : Fin 2048, X r k.val * X r k.val) nD + nE
/-- A row's normalising factor. -/
def nrm (X : ℕ → ℕ → EReal) (r : ℕ) : EReal := Ideal.rsqrt (msq X r)
/-- The normalised rows. -/
def nrmX (X : ℕ → ℕ → EReal) (r k : ℕ) : EReal := X r k * nrm X r
/-- The normalised rows with their gain. -/
def nrmY (X G : ℕ → ℕ → EReal) (r k : ℕ) : EReal := nrmX X r k * G 0 k
/-- The gradient of the rows, added to the gradient that goes past them. -/
def nrmD (X G Y R : ℕ → ℕ → EReal) (r k : ℕ) : EReal :=
  R r k + nrm X r * (Y r k * G 0 k - nrmX X r k * Ideal.div (∑ l : Fin 2048, Y r l.val * G 0 l.val * nrmX X r l.val) nD)
/-- The gradient of the gain. -/
def nrmG (X Y : ℕ → ℕ → EReal) (_ k : ℕ) : EReal := ∑ r : Fin 2048, Y r.val k * nrmX X r.val k

/-- A sum over 2048 rows, block by block. -/
theorem rows_fin (g : ℕ → EReal) : ∑ s ∈ range 8, ∑ k : Fin 256, g (256 * s + k.val) = ∑ k : Fin 2048, g k.val := by
  rw [← Finset.sum_range (fun k => g k), ← shares_sum 256 g 8]
  exact sum_congr rfl fun s _ => (Finset.sum_range fun k => g (256 * s + k)).symm

end Cert.Ffn

namespace Cert.Kernel8Ideal.Gen

open Idealize.ShloMosaic Idealize.ShloMosaic.TcCoe Idealize.ShloMosaic.Tactic Finset Cert.Ffn
open Cert.Kernel2Ideal.Gen (off2 off3 word_zero word_one)

/-! ## One grid point of each call -/

variable {X G Y R : ℕ → ℕ → EReal}

theorem out_0_2 {x0 : Vec Ideal S256x2048 .f32} {x1 : Vec Ideal S1x2048 .f32} (h0 : T2 x0 X) (h1 : T2 x1 G) : T2 (out0_2 x0 x1) (nrmY X G) := by
  intro i
  rw [out0_2, View.canon_unit_zero off2, View.ld_unit_zero off2, View.ld_unit_zero off2]
  pointwise [k0_pay1]
  simp only [h0 _, h1 _]
  rfl

section
variable {v0 v11 v12 : Vec Ideal S256x2048 .f32} {v13 : Vec Ideal S1x2048 .f32}

theorem pay1_2 (h0 : T2 v0 X) : T2 (k1_pay2 v0) fun r _ => nrm X r := by
  intro i
  pointwise [k1_pay2]
  simp only [h0 _]
  rfl

theorem pay1_3 (h0 : T2 v0 X) : T2 (k1_pay3 v0) (nrmX X) := by
  intro i
  pointwise [k1_pay3]
  simp only [h0 _, pay1_2 h0 _]
  rfl

theorem pay1_4 (h0 : T2 v0 X) (h1 : T2 v11 Y) (h2 : T2 v12 R) (h3 : T2 v13 G) : T2 (k1_pay4 v0 v11 v12 v13) (nrmD X G Y R) := by
  intro i
  pointwise [k1_pay4]
  simp only [h1 _, h2 _, h3 _, pay1_2 h0 _, pay1_3 h0 _]
  rfl

theorem pay1_5 (h0 : T2 v0 X) (h1 : T2 v11 Y) (h2 : T2 v12 R) (h3 : T2 v13 G) : T2 (k1_pay5 v0 v11 v12 v13) (nrmD X G Y R) := by
  intro i
  pointwise [k1_pay5]
  exact pay1_4 h0 h1 h2 h3 i

theorem pay1_1 {v34 : Vec Ideal S1x2048 .f32} (h0 : T2 v0 X) (h1 : T2 v11 Y) (i : S1x2048.Idx) :
    k1_pay1 (k1_pay3 v0) v11 v34 i = v34 i + ∑ r : Fin 256, Y r.val (i 1 : Fin 2048).val * nrmX X r.val (i 1 : Fin 2048).val := by
  pointwise [k1_pay1]
  simp only [h1 _, pay1_3 h0 _]
  rfl

end

/-! ## Which part of an array a grid point's block is -/

section
variable {X : ℕ → ℕ → EReal} {Z : ℕ → ℕ → ℕ → EReal}

theorem rows {A : S2048x2048.Idx → EReal} (h : T2 A X) (t : Fin grid0.N) :
    T2 (fun i : S256x2048.Idx => A ((win0_0.blk t).view.emb i)) fun r k => X (256 * t.val + r) k :=
  have e : ∀ t : Fin grid0.N, win0_0.index t 0 = t.val ∧ win0_0.index t 1 = 0 := by decide +kernel
  at2 h (win0_0.blk t).view.emb (256 * t.val + ·) id (fun i => by blk_simp [(e t).1]; omega) (fun i => by blk_simp [(e t).2]; simp)

theorem line {A : S1x2048.Idx → EReal} (h : T2 A X) (t : Fin grid0.N) : T2 (fun i : S1x2048.Idx => A ((win0_1.blk t).view.emb i)) X :=
  have e : ∀ t : Fin grid0.N, win0_1.index t 0 = 0 ∧ win0_1.index t 1 = 0 := by decide +kernel
  at2 h (win0_1.blk t).view.emb id id (fun i => by blk_simp [(e t).1]; simp) (fun i => by blk_simp [(e t).2]; simp)

variable (V : (c : Dev nD) → (b : Ref sig .tc) → Buf (Elt Ideal) ((c : Thread nD τ).loc b)) (c : Dev nD)

theorem arr0_2 (h : ∀ t : Fin cfg0.N, T2 ((dat0 V c).after 2 t : S256x2048.Idx → EReal) (fun r k => X (256 * t.val + r) k)) :
    T2 ((dat0 V c).arrAt 2 cfg0.N : S2048x2048.Idx → EReal) X :=
  fun i => congrFun ((dat0 V c).arrAt_eq_of_covers 2 (full2 X) (by decide +kernel) fun t _ y => (h t y).trans (rows (fun _ => rfl) t y).symm) i

theorem arr1_4 (h : ∀ t : Fin cfg1.N, T2 ((dat1 V c).after 4 t : S256x2048.Idx → EReal) (fun r k => X (256 * t.val + r) k)) :
    T2 ((dat1 V c).arrAt 4 cfg1.N : S2048x2048.Idx → EReal) X :=
  fun i => congrFun ((dat1 V c).arrAt_eq_of_covers 4 (full2 X) (by decide +kernel) fun t _ y => (h t y).trans (rows (fun _ => rfl) t y).symm) i

theorem arr1_5 (h : ∀ t : Fin cfg1.N, T2 ((dat1 V c).after 5 t : S256x2048.Idx → EReal) (fun r k => X (256 * t.val + r) k)) :
    T2 ((dat1 V c).arrAt 5 cfg1.N : S2048x2048.Idx → EReal) X :=
  fun i => congrFun ((dat1 V c).arrAt_eq_of_covers 5 (full2 X) (by decide +kernel) fun t _ y => (h t y).trans (rows (fun _ => rfl) t y).symm) i

theorem arr1_6 (h : ∀ t : Fin cfg1.N, t.val = 7 → T2 ((dat1 V c).after 6 t : S1x2048.Idx → EReal) (fun r k => X r k)) :
    T2 ((dat1 V c).arrAt 6 cfg1.N : S1x2048.Idx → EReal) X :=
  fun i => congrFun ((dat1 V c).arrAt_eq_of_covers 6 (full2 X) (by decide +kernel) fun t _ y => (h t (by revert t; decide +kernel) y).trans (line (fun _ => rfl) t y).symm) i

end

/-! ## What the second call's points leave -/

section
variable (V : (c : Dev nD) → (b : Ref sig .tc) → Buf (Elt Ideal) ((c : Thread nD τ).loc b)) (c : Dev nD)

theorem outs_1 (t : Fin cfg1.N) : (outsAt1 V c t.val t.isLt).1 = k1_pay4 (iblk1 V c 1 t) (iblk1 V c 0 t) (iblk1 V c 3 t) (iblk1 V c 2 t) := by
  by_cases h : t.val % 8 = 0
  · rw [outsAt1_A V c t h]; frame_out
  · rw [outsAt1_B V c t h]; frame_out
theorem outs_2 (t : Fin cfg1.N) : (outsAt1 V c t.val t.isLt).2.1 = k1_pay5 (iblk1 V c 1 t) (iblk1 V c 0 t) (iblk1 V c 3 t) (iblk1 V c 2 t) := by
  by_cases h : t.val % 8 = 0
  · rw [outsAt1_A V c t h]; frame_out
  · rw [outsAt1_B V c t h]; frame_out
theorem outs_A (t : Fin cfg1.N) (h : t.val % 8 = 0) :
    (outsAt1 V c t.val t.isLt).2.2 = k1_pay1 (k1_pay3 (iblk1 V c 1 t)) (iblk1 V c 0 t) (k1_pay6 (F := Ideal)) := by
  rw [outsAt1_A V c t h]; frame_out
theorem outs_B (t : Fin cfg1.N) (h : ¬t.val % 8 = 0) : (outsAt1 V c t.val t.isLt).2.2
    = k1_pay1 (k1_pay3 (iblk1 V c 1 t)) (iblk1 V c 0 t) (outsAt1 V c (t.val - 1) (Nat.lt_of_le_of_lt (Nat.sub_le _ _) t.isLt)).2.2 := by
  rw [outsAt1_B V c t h]; frame_out

variable {X Y : ℕ → ℕ → EReal}

/-- The gain's gradient after each point: the rows so far. -/
theorem acc_at (h0 : T2 (V c (Pipeline.arrRef spec1 0) : S2048x2048.Idx → EReal) Y) (h1 : T2 (V c (Pipeline.arrRef spec1 1) : S2048x2048.Idx → EReal) X)
    (y : S1x2048.Idx) (n : ℕ) (h : n < cfg1.N) :
    (outsAt1 V c n h).2.2 y = 0 + ∑ s ∈ range (n % 8 + 1),
      ∑ r : Fin 256, Y (256 * s + r.val) (y 1 : Fin 2048).val * nrmX X (256 * s + r.val) (y 1 : Fin 2048).val := by
  refine run_sum (fun n h => (outsAt1 V c n h).2.2 y) (fun _ => 0)
    (fun _ s => ∑ r : Fin 256, Y (256 * s + r.val) (y 1 : Fin 2048).val * nrmX X (256 * s + r.val) (y 1 : Fin 2048).val) ?_ ?_ n h
  · intro t ht
    refine (congrFun (outs_A V c t ht) y).trans ((pay1_1 (rows h1 t) (rows h0 t) y).trans ?_)
    have e : t.val % 8 = t.val := Nat.mod_eq_of_lt (lt_of_lt_of_eq t.isLt N_1)
    rw [e]
    exact congrArg (· + _) word_zero
  · intro t ht
    refine (congrFun (outs_B V c t ht) y).trans ((pay1_1 (rows h1 t) (rows h0 t) y).trans ?_)
    have e : t.val % 8 = t.val := Nat.mod_eq_of_lt (lt_of_lt_of_eq t.isLt N_1)
    rw [e]
    rfl

theorem last_at (h0 : T2 (V c (Pipeline.arrRef spec1 0) : S2048x2048.Idx → EReal) Y) (h1 : T2 (V c (Pipeline.arrRef spec1 1) : S2048x2048.Idx → EReal) X)
    (t : Fin cfg1.N) (ht : t.val = 7) : T2 (outsAt1 V c t.val t.isLt).2.2 (nrmG X Y) := by
  intro y
  refine (acc_at V c h0 h1 y t.val t.isLt).trans ?_
  rw [ht, zero_add]
  exact rows_fin fun r => Y r (y 1 : Fin 2048).val * nrmX X r (y 1 : Fin 2048).val

end

section
variable (m : (ℓ : Loc nD τ sig) → Buf (Elt Ideal) ℓ) (ρ : Dev nD → PrngReg) (c : Dev nD)

theorem V1_v0 : V1 m ρ c main_v0 = shapeCast S1x2048 (m ((c : Thread nD τ).loc main_arg1)) shapeCasts_S2048_S1x2048 := by
  unfold V1 W1 hostOps0
  after_results_simp
  rfl

end

/-! ## The results -/

/-- The launch memory's arguments on core `c` hold these tables. -/
structure Holds (m : (ℓ : Loc nD τ sig) → Buf (Elt Ideal) ℓ) (c : Dev nD) (X G Y R : ℕ → ℕ → EReal) : Prop where
  a0 : T2 (m ((c : Thread nD τ).loc main_arg0) : S2048x2048.Idx → EReal) X
  a1 : T1 (m ((c : Thread nD τ).loc main_arg1) : S2048.Idx → EReal) (G 0)
  a2 : T2 (m ((c : Thread nD τ).loc main_arg2) : S2048x2048.Idx → EReal) Y
  a3 : T2 (m ((c : Thread nD τ).loc main_arg3) : S2048x2048.Idx → EReal) R

section
variable {m : (ℓ : Loc nD τ sig) → Buf (Elt Ideal) ℓ} {ρ : Dev nD → PrngReg} {c : Dev nD} {X G Y R : ℕ → ℕ → EReal}

variable (hm : Holds m c X G Y R)
include hm

theorem v1_v0 : T2 (V1 m ρ c main_v0 : S1x2048.Idx → EReal) G := by
  intro i
  obtain ⟨a, b, rfl⟩ : ∃ (a : Fin 1) (b : Fin 2048), i = ix2 a b := ⟨i 0, i 1, (ix2_eta i).symm⟩
  obtain rfl : a = 0 := Subsingleton.elim _ _
  rw [V1_v0]
  refine (shapeCast_apply _ shapeCasts_S2048_S1x2048 _ (ix1 b) ?_).trans (hm.a1 _)
  rw [Shape.rowMajor_val_two]
  simp [Shape.rowMajor_val_one]
theorem v1_a0 : T2 (V1 m ρ c main_arg0 : S2048x2048.Idx → EReal) X := fun i =>
  (congrFun (W1_of m ρ c main_arg0 (by decide)) i).trans (hm.a0 i)
theorem v1_a2 : T2 (V1 m ρ c main_arg2 : S2048x2048.Idx → EReal) Y := fun i =>
  (congrFun (W1_of m ρ c main_arg2 (by decide)) i).trans (hm.a2 i)
theorem v1_a3 : T2 (V1 m ρ c main_arg3 : S2048x2048.Idx → EReal) R := fun i =>
  (congrFun (W1_of m ρ c main_arg3 (by decide)) i).trans (hm.a3 i)
theorem v2_y : T2 (V2 m ρ c main_v1 : S2048x2048.Idx → EReal) (nrmY X G) := fun i =>
  (congrFun (W2_arr m ρ c 2) i).trans (arr0_2 (V1 m ρ) c (X := nrmY X G) (fun t => by
    rw [after0_2]
    exact out_0_2 (rows (v1_a0 hm) t) (line (v1_v0 hm) t)) i)
theorem v3_y : T2 (W3 m ρ c (Proc.devRef .tc main_v1) : S2048x2048.Idx → EReal) (nrmY X G) := fun i =>
  (congrFun (W3_of m ρ c main_v1 (by decide)) i).trans (v2_y hm i)
theorem v2_a0 : T2 (V2 m ρ c main_arg0 : S2048x2048.Idx → EReal) (X) := fun i =>
  (congrFun (W2_of m ρ c main_arg0 (by decide)) i).trans (v1_a0 hm i)
theorem v2_a2 : T2 (V2 m ρ c main_arg2 : S2048x2048.Idx → EReal) (Y) := fun i =>
  (congrFun (W2_of m ρ c main_arg2 (by decide)) i).trans (v1_a2 hm i)
theorem v2_a3 : T2 (V2 m ρ c main_arg3 : S2048x2048.Idx → EReal) (R) := fun i =>
  (congrFun (W2_of m ρ c main_arg3 (by decide)) i).trans (v1_a3 hm i)
theorem v2_v0 : T2 (V2 m ρ c main_v0 : S1x2048.Idx → EReal) (G) := fun i =>
  (congrFun (W2_of m ρ c main_v0 (by decide)) i).trans (v1_v0 hm i)
theorem v3_d : T2 (W3 m ρ c (Proc.devRef .tc main_v2_0) : S2048x2048.Idx → EReal) (nrmD X G Y R) := fun i =>
  (congrFun (W3_arr m ρ c 4) i).trans (arr1_4 (V2 m ρ) c (X := nrmD X G Y R) (fun t => by
    rw [after1_4, outs_1]
    exact pay1_4 (rows (v2_a0 hm) t) (rows (v2_a2 hm) t) (rows (v2_a3 hm) t) (line (v2_v0 hm) t)) i)
theorem v3_b : T2 (W3 m ρ c (Proc.devRef .tc main_v2_1) : S2048x2048.Idx → EReal) (nrmD X G Y R) := fun i =>
  (congrFun (W3_arr m ρ c 5) i).trans (arr1_5 (V2 m ρ) c (X := nrmD X G Y R) (fun t => by
    rw [after1_5, outs_2]
    exact pay1_5 (rows (v2_a0 hm) t) (rows (v2_a2 hm) t) (rows (v2_a3 hm) t) (line (v2_v0 hm) t)) i)
theorem v3_g : T2 (W3 m ρ c (Proc.devRef .tc main_v2_2) : S1x2048.Idx → EReal) (nrmG X Y) := fun i =>
  (congrFun (W3_arr m ρ c 6) i).trans (arr1_6 (V2 m ρ) c (X := nrmG X Y) (fun t ht => by
    rw [after1_6]
    exact last_at (V2 m ρ) c (v2_a2 hm) (v2_a0 hm) t ht) i)

end

end Cert.Kernel8Ideal.Gen

end
-- ==== Proof.NormMath.lean ====
/- The two ways to write the RMS norm's gradient agree for all extended reals. -/
module

public import proofs.«01_k».proof.Proof.NormVal

@[expose] public section

noncomputable section

namespace Cert.Ffn

open Idealize.ShloMosaic Finset
open Cert.Attn (eps word_eps)

theorem nD_eq : nD = ((2048 : ℝ) : EReal) := by
  simp [nD, Ideal.ofBits, Ideal.ieee, -EReal.coe_mul]; norm_num

theorem sq_nonneg' (x : EReal) : 0 ≤ x * x := by
  induction x with
  | bot => simp
  | top => simp
  | coe x => exact_mod_cast mul_self_nonneg x

/-- A row is real, with a positive mean square, or its mean square is infinite. -/
theorem msq_cases (X : ℕ → ℕ → EReal) (r : ℕ) :
    msq X r = ⊤ ∨ ∃ p : ℝ, 0 < p ∧ msq X r = p ∧ ∀ k : Fin 2048, ∃ x : ℝ, X r k.val = x := by
  by_cases h : ∀ k : Fin 2048, ∃ x : ℝ, X r k.val = x
  · right
    choose x hx using h
    refine ⟨(∑ k, x k * x k) / 2048 + eps, ?_, ?_, fun k => ⟨x k, hx k⟩⟩
    · have : 0 ≤ ∑ k, x k * x k := Finset.sum_nonneg fun k _ => mul_self_nonneg _
      have := Cert.Attn.eps_pos
      positivity
    · have e : ∑ k : Fin 2048, X r k.val * X r k.val = ((∑ k, x k * x k : ℝ) : EReal) := by
        rw [Cert.Attn.coe_sum]; exact Finset.sum_congr rfl fun k _ => by rw [hx, EReal.coe_mul]
      rw [msq, e, nD_eq, Cert.Attn.div_real _ _ (by norm_num), nE, word_eps, EReal.coe_add]
  · left
    push Not at h
    obtain ⟨k, hk⟩ := h
    have e : X r k.val * X r k.val = ⊤ := by
      generalize X r k.val = y at hk
      induction y with
      | bot => simp
      | top => simp
      | coe y => exact absurd rfl (hk y)
    have e' : ∑ k : Fin 2048, X r k.val * X r k.val = ⊤ :=
      top_le_iff.1 (e.symm.le.trans (Finset.single_le_sum (f := fun k : Fin 2048 => X r k.val * X r k.val) (fun k _ => sq_nonneg' _) (mem_univ k)))
    rw [msq, e', nD_eq, Ideal.div_coe (by norm_num), EReal.top_mul_coe_of_pos (by norm_num), nE, word_eps]
    exact EReal.top_add_coe _

/-- A positive real number taken out of a sum. -/
theorem sum_mul_real {n : ℕ} (f : Fin n → EReal) (a : ℝ) (h : 0 ≤ a) : ∑ k, f k * (a : EReal) = (∑ k, f k) * (a : EReal) := by
  refine Finset.induction_on (Finset.univ : Finset (Fin n)) (by simp) fun k s hk ih => ?_
  rw [sum_insert hk, sum_insert hk, ih, EReal.right_distrib_of_nonneg_of_ne_top (by exact_mod_cast h) (EReal.coe_ne_top a)]

/-- Twice a real multiple. -/
theorem twice_mul (a : ℝ) (s : EReal) : (a : EReal) * s + (a : EReal) * s = ((2 * a : ℝ) : EReal) * s := by
  induction s with
  | coe s => rw [← EReal.coe_mul, ← EReal.coe_mul, ← EReal.coe_add]; congr 1; ring
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- The reference's share of the gradient that reaches a row through its mean square. -/
def nrmT (X G Y : ℕ → ℕ → EReal) (r : ℕ) : EReal :=
  Ideal.div ((∑ k : Fin 2048, X r k.val * (Y r k.val * G 0 k.val)) * (((-(1 / 2) : ℝ) : EReal) * Ideal.div (nrm X r) (msq X r))) nD

theorem nrmD_eq (X G Y R : ℕ → ℕ → EReal) (r : ℕ) (k : Fin 2048) :
    R r k + (Y r k * G 0 k * nrm X r + X r k * nrmT X G Y r + nrmT X G Y r * X r k) = nrmD X G Y R r k := by
  rw [nrmD]
  congr 1
  have hd (z : EReal) : Ideal.div z nD = z * ((1 / 2048 : ℝ) : EReal) := by rw [nD_eq, Ideal.div_coe (by norm_num)]
  unfold nrmT
  simp only [hd, nrmX]
  rcases msq_cases X r with h | ⟨p, hp, h, hx⟩
  · have hn : nrm X r = 0 := by rw [nrm, h, Ideal.rsqrt_top]
    have hz : Ideal.div 0 ⊤ = 0 := by simp [Ideal.div]
    simp only [hn, h, hz, mul_zero, zero_mul, add_zero]
  · have hn : nrm X r = (((√p)⁻¹ : ℝ) : EReal) := by rw [nrm, h, Cert.Attn.rsqrt_pos p hp]
    have hq : 0 ≤ (√p)⁻¹ := by positivity
    have hm : (√p)⁻¹ * (√p)⁻¹ = 1 / p := by rw [← mul_inv, Real.mul_self_sqrt hp.le, one_div]
    obtain ⟨x, ex⟩ := hx k
    rw [hn, h, ex, Cert.Attn.div_real _ _ hp.ne']
    generalize (√p)⁻¹ = n at hq hm
    have es : ∑ l : Fin 2048, Y r l.val * G 0 l.val * (X r l.val * (n : EReal)) = (∑ l : Fin 2048, X r l.val * (Y r l.val * G 0 l.val)) * (n : EReal) := by
      rw [← sum_mul_real _ n hq]
      exact Finset.sum_congr rfl fun l _ => by ac_rfl
    rw [es]
    generalize (∑ l : Fin 2048, X r l.val * (Y r l.val * G 0 l.val)) = s
    generalize Y r k * G 0 k = w
    rw [sub_eq_add_neg, EReal.left_distrib_of_nonneg_of_ne_top (by exact_mod_cast hq) (EReal.coe_ne_top n), mul_comm w, add_assoc]
    congr 1
    have e1 : (x : EReal) * (s * (((-(1 / 2) : ℝ) : EReal) * ((n / p : ℝ) : EReal)) * ((1 / 2048 : ℝ) : EReal)) = ((x * (-(1 / 2)) * (n / p) * (1 / 2048) : ℝ) : EReal) * s := by
      simp only [EReal.coe_mul]; ac_rfl
    have e2 : (n : EReal) * -((x : EReal) * n * (s * n * ((1 / 2048 : ℝ) : EReal))) = ((-(n * (x * n) * n * (1 / 2048)) : ℝ) : EReal) * s := by
      rw [EReal.coe_neg, neg_mul, mul_neg]
      simp only [EReal.coe_mul]
      congr 1; ac_rfl
    rw [mul_comm _ (x : EReal), e1, twice_mul, e2]
    congr 2
    linear_combination (-(x * n * (1 / 2048))) * hm.symm

end Cert.Ffn

end
-- ==== Proof.NormRun.lean ====
/- The run of the program of the norm and its gradient with its results: every fair execution ends with each result array at the
   contents that the last boundary of the program gives it, the arguments as launched. -/
module

public import proofs.«01_k».proof.Proof.RunEnds
public import proofs.«01_k».proof.Proof.Gen.Kernel8Ideal.Frame

@[expose] public section

set_option maxRecDepth 16384

noncomputable section

namespace Cert.Kernel8Ideal.Value

open Cert.Kernel8Ideal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The program is its segments in order; the final state is read against the last boundary's contents. -/
theorem run : θ_run defs (onTc (τ := τ) (main (F := F))) ⟨m, fun _ => 0, ρ⟩ (fun r => ∀ c : Dev nD,
      r.2.mem ((c.tc : Thread nD τ).loc main_v1) = W3 m ρ c (Proc.devRef .tc main_v1)
      ∧ r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_v2_2) = W3 m ρ c (Proc.devRef .tc main_v2_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v1 (by decide)),
     h c _ (mem_uc main_v2_0 (by decide)),
     h c _ (mem_uc main_v2_1 (by decide)),
     h c _ (mem_uc main_v2_2 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩)
    (Cert.RunEnds.run (pcfgs (F := F)) adm (pdats m ρ) cellOf_inj defs₀ m ρ main (segs m ρ) (main_run m ρ)
      (by simp only [segs, Pipeline.Seg.pipes_host, Pipeline.Seg.pipes_region, Pipeline.Seg.pipes_nil]; decide) (W3 m ρ)
      ⟨fun _ => .rfl, fun _ => .rfl, fun _ => .rfl, fun _ => .rfl⟩)

end Cert.Kernel8Ideal.Value

end
-- ==== Proof.NormAlg.lean ====
/- The claims of the RMS norm: the two calls and the plain norm with its gradients leave the same arrays. -/
module

public import proofs.«01_k».proof.Defs
public import proofs.«01_k».proof.Proof.FfnRef
public import proofs.«01_k».proof.Proof.NormMath
public import proofs.«01_k».proof.Proof.NormRun
public import proofs.«01_k».proof.Proof.Gen.Reference8Ideal.Read
public import proofs.«01_k».proof.Proof.Gen.Reference8Ideal.Run
public import Idealize.ShloMosaic.Lib.KernelVsHost

@[expose] public section

set_option maxRecDepth 16384

noncomputable section

namespace Cert.Ffn

open Idealize.ShloMosaic

/-- The function of naturals that a list holds. -/
def etab1 {N : ℕ} (x : (⟨1, ![N]⟩ : Shape).Idx → EReal) (l : ℕ) : EReal := if h : l < N then x (ix1 (⟨l, h⟩ : Fin N)) else 0

theorem etab1_eq {N : ℕ} (x : (⟨1, ![N]⟩ : Shape).Idx → EReal) : T1 x (etab1 x) := fun i => by
  have h : (i 0 : Fin N).val < N := (i 0 : Fin N).isLt
  rw [etab1, dif_pos h]
  exact congrArg x (ix1_eta i).symm

end Cert.Ffn

namespace Cert.Norm

open Cert.Reference8Ideal Cert.Reference8Ideal.Read Cert.Ffn
open Cert.Kernel2Ideal.Gen (word_zero word_one)
open Idealize.ShloMosaic Finset

variable {x0 : FVec Ideal S2048x2048 .f32} {x1 : FVec Ideal S2048 .f32} {x2 : FVec Ideal S2048x2048 .f32} {x3 : FVec Ideal S2048x2048 .f32} {X G Y R : ℕ → ℕ → EReal}

/-- The arguments hold these tables. -/
structure Tables (x0 : FVec Ideal S2048x2048 .f32) (x1 : FVec Ideal S2048 .f32) (x2 : FVec Ideal S2048x2048 .f32) (x3 : FVec Ideal S2048x2048 .f32) (X G Y R : ℕ → ℕ → EReal) : Prop where
  a0 : T2 x0 X
  a1 : T1 x1 (G 0)
  a2 : T2 x2 Y
  a3 : T2 x3 R

variable (T : Tables x0 x1 x2 x3 X G Y R)
include T

/-- A row's mean square and the small number. -/
theorem r_v6 : T2 (val_main_v6 (F := Ideal) x0 : S2048x1.Idx → EReal) (fun r _ => msq X r) := by
  intro i
  rw [val_main_v6_apply, val_main_v5_apply, val_main_cst_1_apply, val_main_v4_apply, val_main_v3_apply, val_main_cst_0_apply, val_main_v2_apply,
    val_main_v1_apply, val_main_cst_apply]
  simp only [val_main_v0_apply, T.a0 _]
  show Ideal.div (Ideal.ofBits .f32 0x00000000#32 + _) _ + _ = _
  rw [word_zero, zero_add]
  rfl

theorem r_v7 : T2 (val_main_v7 (F := Ideal) x0 : S2048x1.Idx → EReal) (fun r _ => nrm X r) := by
  intro i
  rw [val_main_v7_apply, r_v6 T i]
  rfl

theorem r_v12 : T2 (val_main_v12 (F := Ideal) x0 : S2048x2048.Idx → EReal) (nrmX X) := by
  intro i
  rw [val_main_v12_apply, val_main_v11_apply, r_v7 T _, T.a0 i]
  rfl

theorem r_v15 : T2 (val_main_v15 (F := Ideal) x0 x1 : S2048x2048.Idx → EReal) (nrmY X G) := by
  intro i
  rw [val_main_v15_apply, val_main_v14_apply, val_main_v13_apply, r_v12 T i, T.a1 _]
  rfl

theorem r_v37 : T2 (val_main_v37 (F := Ideal) x0 x1 : S2048x2048.Idx → EReal) (nrmY X G) := by
  intro i
  rw [val_main_v37_apply]
  exact r_v15 T i

/-- The gain's gradient. -/
theorem r_v39 : T2 (val_main_v39 (F := Ideal) x0 x2 : S1x2048.Idx → EReal) (nrmG X Y) := by
  intro i
  rw [val_main_v39_apply, val_main_v21_apply, val_main_cst_4_apply, Fin.sum_univ_one, val_main_v18_apply, val_main_v17_apply, val_main_cst_3_apply]
  simp only [val_main_v16_apply, r_v12 T _, T.a2 _]
  have h0 : (i 0 : Fin 1).val = 0 := Nat.lt_one_iff.1 (i 0 : Fin 1).isLt
  show Ideal.ofBits .f32 0x00000000#32 + (Ideal.ofBits .f32 0x00000000#32 + _) = _
  rw [word_zero, zero_add, zero_add]
  refine Finset.sum_congr rfl fun r _ => (mul_comm _ _).trans ?_
  show Y r.val (0 * 2048 + ((i 0 : Fin 1).val * 2048 + (i 1 : Fin 2048).val)) * nrmX X r.val (0 * 2048 + ((i 0 : Fin 1).val * 2048 + (i 1 : Fin 2048).val)) = _
  rw [h0, Nat.zero_mul, Nat.zero_add, Nat.zero_add]

theorem r_v20 : T2 (val_main_v20 (F := Ideal) x1 x2 : S2048x2048.Idx → EReal) (fun r k => Y r k * G 0 k) := by
  intro i
  rw [val_main_v20_apply, val_main_v19_apply, val_main_v13_apply, T.a1 _, T.a2 i]
  rfl

theorem r_v29 : T2 (val_main_v29 (F := Ideal) x0 x1 x2 : S2048x1.Idx → EReal) (fun r _ => nrmT X G Y r) := by
  intro i
  rw [val_main_v29_apply, val_main_v28_apply, val_main_cst_6_apply, val_main_v27_apply, val_main_v24_apply, val_main_v23_apply, val_main_cst_5_apply, val_main_v10_apply,
    val_main_v9_apply, val_main_cst_2_apply, val_main_v8_apply, r_v6 T i, r_v7 T i]
  simp only [val_main_v22_apply, r_v20 T _, T.a0 _]
  show Ideal.div ((Ideal.ofBits .f32 0x00000000#32 + _) * (Ideal.ofBits .f32 0xBF000000#32 * _)) _ = _
  rw [word_zero, zero_add, Cert.Attn.word_neghalf]
  have h1 : (i 1 : Fin 1).val = 0 := Nat.lt_one_iff.1 (i 1 : Fin 1).isLt
  show Ideal.div ((∑ k : Fin 2048, X ((i 0 : Fin 2048).val * 1 + (i 1 : Fin 1).val) k.val * (Y ((i 0 : Fin 2048).val * 1 + (i 1 : Fin 1).val) k.val * G 0 k.val)) * _) _ = _
  rw [h1, Nat.mul_one, Nat.add_zero]
  rfl

/-- A row's gradient. -/
theorem r_v36 : T2 (val_main_v36 (F := Ideal) x0 x1 x2 x3 : S2048x2048.Idx → EReal) (nrmD X G Y R) := by
  intro i
  rw [val_main_v36_apply, val_main_v35_apply, val_main_v34_apply, val_main_v33_apply, val_main_v32_apply, val_main_v31_apply, val_main_v30_apply,
    val_main_cst_7_apply, Fin.sum_univ_one, r_v29 T _, val_main_v26_apply, val_main_v25_apply, r_v20 T i, r_v7 T _, T.a0 i, T.a3 i]
  refine Eq.trans ?_ (nrmD_eq X G Y R (i 0 : Fin 2048).val (i 1 : Fin 2048))
  show _ + (_ * _ + _ * (Ideal.ofBits .f32 0x00000000#32 + _) + (Ideal.ofBits .f32 0x00000000#32 + _) * _) = _
  rw [word_zero, zero_add]

theorem r_v38 : T2 (val_main_v38 (F := Ideal) x0 x1 x2 x3 : S2048x2048.Idx → EReal) (nrmD X G Y R) := by
  intro i
  rw [val_main_v38_apply]
  exact r_v36 T i

end Cert.Norm

namespace Cert.Proof

open Cert.Ffn Cert.Norm Cert.Reference8Ideal.Read Cert.Kernel8Ideal.Gen
open Idealize.ShloMosaic Idealize.SL.Sem

theorem preserves8 : Cert.preserves_Kernel8_Kernel8Ideal := trivial

theorem algebraic8 : Cert.algebraic_Kernel8Ideal_Reference8Ideal := by
  intro m ρ m' ρ' _ agree
  refine ⟨_, _, _, _, Cert.Kernel8Ideal.Value.run (F := Ideal) m ρ,
    (θ_run Cert.Reference8Ideal.defs _ _).mono (fun r h c => ?_) (Cert.Reference8Ideal.Value.run (F := Ideal) m' ρ')⟩
  obtain ⟨g0, g1, g2, g3⟩ := agree c
  obtain ⟨e0, e1, e2, e3, ha⟩ := h c
  have H : Holds m c _ (fun _ => etab1 _) _ _ := ⟨etab_eq _, etab1_eq _, etab_eq _, etab_eq _⟩
  have T : Cert.Norm.Tables _ _ _ _ _ (fun _ => etab1 _) _ _ := ⟨like g0 H.a0, like g1 H.a1, like g2 H.a2, like g3 H.a3⟩
  exact ⟨meet e0 (val_main_v37_eq (F := Ideal) ..) (r_v37 T) (v3_y H), meet e1 (val_main_v36_eq (F := Ideal) ..) (r_v36 T) (v3_d H),
    meet e2 (val_main_v38_eq (F := Ideal) ..) (r_v38 T) (v3_b H), meet e3 (val_main_v39_eq (F := Ideal) ..) (r_v39 T) (v3_g H), ha⟩

end Cert.Proof

end
-- ==== Proof.FgateFore.lean ====
/- The forget gate's forward call: chunks of rows, each the running sums of its log gates on the last row of the chunk before. -/
module

public import proofs.«01_k».proof.Proof.NormMath
public import proofs.«01_k».proof.Proof.Gen.Kernel10Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ffn

open Idealize.ShloMosaic Finset

/-- The logarithm of a gate, and its derivative. -/
def lgate (a : EReal) : EReal := min a 0 - Ideal.log (1 + Ideal.exp (0 - max a (-a)))
def sgate (a : EReal) : EReal := Ideal.div 1 (1 + Ideal.exp (0 - (0 - a)))

/-- The rows that a triangle of ones takes. -/
theorem tri_sum (p : ℕ → Prop) [DecidablePred p] (a b o : ℕ) (hp : ∀ k, k < 128 → (p k ↔ a ≤ k ∧ k < b)) (hb : b ≤ 128) (g : ℕ → EReal) :
    ∑ k : Fin 128, (if p k.val then (1 : EReal) else 0) * g (o + k.val) = ∑ j ∈ Ico (a + o) (b + o), g j := by
  rw [← Finset.sum_Ico_add, ← Finset.sum_range (fun k => (if p k then (1 : EReal) else 0) * g (o + k))]
  simp only [ite_mul, one_mul, zero_mul]
  rw [← Finset.sum_filter]
  refine sum_congr (Finset.ext fun k => ?_) fun _ _ => rfl
  simp only [mem_filter, mem_range, mem_Ico]
  exact ⟨fun h => (hp k h.1).1 h.2, fun h => ⟨by omega, (hp k (by omega)).2 h⟩⟩

end Cert.Ffn

namespace Cert.Kernel10Ideal.Gen

open Idealize.ShloMosaic Idealize.ShloMosaic.TcCoe Idealize.ShloMosaic.Tactic Finset Cert.Ffn
open Cert.Kernel2Ideal.Gen (word_zero word_one)

/-! ## One chunk -/

theorem cmp_ge : ∀ p q : Fin 128, IntOp.cmpi .sge (BitVec.ofNat 32 p.val) (BitVec.ofNat 32 q.val) = BitVec.ofBool (decide (q.val ≤ p.val)) := fun p q => by
  have hp := p.isLt
  have hq := q.isLt
  have e : ∀ n, n < 128 → (BitVec.ofNat 32 n).toInt = n := fun n h => by
    rw [BitVec.toInt_eq_toNat_of_lt (by rw [BitVec.toNat_ofNat]; omega), BitVec.toNat_ofNat]; omega
  simp [IntOp.cmpi, BitVec.sle, e _ hp, e _ hq]
theorem cmp_le : ∀ p q : Fin 128, IntOp.cmpi .sle (BitVec.ofNat 32 p.val) (BitVec.ofNat 32 q.val) = BitVec.ofBool (decide (p.val ≤ q.val)) := fun p q => by
  have hp := p.isLt
  have hq := q.isLt
  have e : ∀ n, n < 128 → (BitVec.ofNat 32 n).toInt = n := fun n h => by
    rw [BitVec.toInt_eq_toNat_of_lt (by rw [BitVec.toNat_ofNat]; omega), BitVec.toNat_ofNat]; omega
  simp [IntOp.cmpi, BitVec.sle, e _ hp, e _ hq]
theorem bit (p : Prop) [Decidable p] :
    FloatOps.sitofp (F := Ideal) .f32 (BitVec.setWidth 32 (BitVec.ofBool (decide p))) = if p then (1 : EReal) else 0 := by
  by_cases h : p
  · simp only [h, decide_true, if_true]
    show (((1 : ℤ) : ℝ) : EReal) = 1
    simp
  · simp only [h, decide_false, if_false]
    show (((0 : ℤ) : ℝ) : EReal) = 0
    simp

/-- The triangles of ones. -/
theorem tri0 (i : S128x128.Idx) : k0_pay2 (F := Ideal) i = if (i 1 : Fin 128).val ≤ (i 0 : Fin 128).val then 1 else 0 := by
  pointwise [k0_pay2]
  rw [cmp_ge (i 0) (i 1), bit]
theorem tri1 (i : S128x128.Idx) : k1_pay4 (F := Ideal) i = if (i 0 : Fin 128).val ≤ (i 1 : Fin 128).val then 1 else 0 := by
  pointwise [k1_pay4]
  rw [cmp_le (i 0) (i 1), bit]

variable {X : ℕ → ℕ → EReal} {B C : ℕ → EReal}

theorem pay0 {x : Vec Ideal S128x128 .f32} {b c : Vec Ideal S1x128 .f32} (o : ℕ) (hx : T2 x fun r l => X (o + r) l) (hb : T2 b fun _ l => B l)
    (hc : T2 c fun _ l => C l) :
    T2 (k0_pay1 (k0_pay2 (F := Ideal)) c x b) fun r l => ∑ j ∈ Ico o (r + 1 + o), lgate (X j l + B l) + C l := by
  intro i
  pointwise [k0_pay1]
  simp only [tri0, hx _, hb _, hc _]
  have := tri_sum (fun k => k ≤ (i 0 : Fin 128).val) 0 ((i 0 : Fin 128).val + 1) o (fun k _ => by omega) (i 0 : Fin 128).isLt
    fun j => lgate (X j (i 1 : Fin 128).val + B (i 1 : Fin 128).val)
  rw [zero_add] at this
  rw [← this]
  rfl

/-- The rows of a chunk. -/
abbrev cut (n : ℕ) : Rect S2048x128 := Rect.unit (s := S2048x128) ![128 * (n % 16), 0] S128x128.size
  (by have := Nat.mod_lt n (show 0 < 16 by omega); intro a; fin_cases a <;> simp; omega)

theorem cut_at {V : Vec Ideal S2048x128 .f32} (h : T2 V X) (n : ℕ) : T2 (m := 128) (n := 128) (View.ld V (cut n)) fun r l => X (128 * (n % 16) + r) l :=
  at2 h (cut n).emb (128 * (n % 16) + ·) id (fun i => by show _ + 1 * _ = _; rw [one_mul]; rfl) (fun i => by show 0 + 1 * _ = _; rw [one_mul, zero_add]; rfl)

/-- A chunk's running sums. -/
def fore (x : Vec Ideal S2048x128 .f32) (b : Vec Ideal S1x128 .f32) : ℕ → FVec Ideal S128x128 .f32
  | 0 => k0_pay1 (k0_pay2 (F := Ideal)) (broadcast S1x128 (Scalar.ofBits .f32 0x00000000#32)) (View.ld x (cut 0)) b
  | n + 1 => k0_pay1 (k0_pay2 (F := Ideal)) (extractStridedSlice S1x128 ![127, 0] (fore x b n) slices_S128x128_o127_0_S1x128) (View.ld x (cut (n + 1))) b

theorem out0 (x : Vec Ideal S2048x128 .f32) (b : Vec Ideal S1x128 .f32) : out0_2 x b = View.canon (Val := Elt Ideal) (s := S2048x128) (e := .f32)
    ((List.range 16).reverse.map fun n => ⟨cut n, fore x (shapeCast S1x128 (View.ld b r0_1) shapeCasts_S1x128_S1x128) n⟩) := rfl

theorem fore_at {x : Vec Ideal S2048x128 .f32} {b : Vec Ideal S1x128 .f32} (hx : T2 x X) (hb : T2 b fun _ l => B l) (n : ℕ) (hn : n < 16) :
    T2 (fore x b n) fun r l => ∑ j ∈ range (128 * n + r + 1), lgate (X j l + B l) := by
  induction n with
  | zero =>
    intro i
    refine (pay0 (C := fun _ => 0) 0 (by simpa using cut_at hx 0) hb (fun i => word_zero) i).trans ?_
    simp
  | succ n ih =>
    intro i
    refine (pay0 (C := fun l => ∑ j ∈ range (128 * n + 127 + 1), lgate (X j l + B l)) (128 * (n + 1)) (by simpa [Nat.mod_eq_of_lt hn] using cut_at hx (n + 1)) hb
      (fun i => ?_) i).trans ?_
    · refine (extractStridedSlice_apply _ _ _ _ (ix2 (127 : Fin 128) (i 1 : Fin 128)) fun a => by fin_cases a <;> simp).trans ?_
      exact ih (by omega) _
    · show ∑ j ∈ Ico (128 * (n + 1)) ((i 0 : Fin 128).val + 1 + 128 * (n + 1)), _ + _ = _
      rw [add_comm, range_eq_Ico, show 128 * n + 127 + 1 = 128 * (n + 1) by omega, Finset.sum_Ico_consecutive _ (by omega) (by omega)]
      simp only [range_eq_Ico]
      congr 2; omega

/-- A value that every piece holds at its place is what the pieces leave. -/
theorem cut_canon {S : Shape} {e : EltTy} (G : S.Idx → Elt Ideal e) (L : List (View.Piece (Elt Ideal) S e)) (h : ∀ p ∈ L, ∀ x : p.1.shape.Idx, p.2 x = G (p.1.emb x)) (y : S.Idx)
    (hc : ∃ p ∈ L, y ∈ p.1.set) : View.canon (Val := Elt Ideal) L y = G y := by
  have := View.canon_append_of_pieces G [] L h y hc
  rwa [List.append_nil] at this

theorem out0_at {x : Vec Ideal S2048x128 .f32} {b : Vec Ideal S1x128 .f32} (hx : T2 x X) (hb : T2 b fun _ l => B l) :
    T2 (out0_2 x b) fun r l => ∑ j ∈ range (r + 1), lgate (X j l + B l) := by
  intro i
  have hi : (i 0 : Fin 2048).val < 2048 := (i 0 : Fin 2048).isLt
  have hl : (i 1 : Fin 128).val < 128 := (i 1 : Fin 128).isLt
  rw [out0]
  refine cut_canon (e := .f32) (fun i : S2048x128.Idx => ∑ j ∈ range ((i 0 : Fin 2048).val + 1), lgate (X j (i 1 : Fin 128).val + B (i 1 : Fin 128).val)) _ ?_ i ?_
  · intro p hp z
    obtain ⟨n, hn, rfl⟩ := List.mem_map.1 hp
    have hn : n < 16 := by simpa using hn
    refine (fore_at hx (B := B) (fun i => (shapeCast_apply _ _ i i rfl).trans ((congrFun (View.ld_unit_zero (by funext a; fin_cases a <;> rfl) _ b) i).trans (hb i))) n hn z).trans ?_
    have e0 : ((cut n).emb z 0 : Fin 2048).val = 128 * n + (z 0 : Fin 128).val := by
      show 128 * (n % 16) + 1 * (z 0 : Fin 128).val = _; omega
    have e1 : ((cut n).emb z 1 : Fin 128).val = (z 1 : Fin 128).val := by
      show 0 + 1 * (z 1 : Fin 128).val = _; omega
    show _ = ∑ j ∈ range (((cut n).emb z 0 : Fin 2048).val + 1), lgate (X j ((cut n).emb z 1 : Fin 128).val + B ((cut n).emb z 1 : Fin 128).val)
    rw [e0, e1]
  · refine ⟨⟨cut ((i 0 : Fin 2048).val / 128), _⟩, List.mem_map.2 ⟨(i 0 : Fin 2048).val / 128, by simp; omega, rfl⟩, ?_⟩
    show i ∈ (cut ((i 0 : Fin 2048).val / 128)).set
    rw [Rect.mem_set_unit]
    intro a
    fin_cases a
    · show 128 * ((i 0 : Fin 2048).val / 128 % 16) ≤ (i 0 : Fin 2048).val ∧ (i 0 : Fin 2048).val < 128 * ((i 0 : Fin 2048).val / 128 % 16) + 128
      omega
    · exact ⟨Nat.zero_le _, hl⟩

end Cert.Kernel10Ideal.Gen

end
-- ==== Proof.PoolVal.lean ====
/- The pooling mixer's call: the sums over the windows by doubling, what the one grid point stores, and the run that ends
   with it. -/
module

public import proofs.«01_k».proof.Proof.FgateFore
public import proofs.«01_k».proof.Proof.Gen.Kernel12Ideal.Frame

@[expose] public section

set_option maxRecDepth 16384

noncomputable section

namespace Cert.Ffn

open Idealize.ShloMosaic Finset

/-- The rows moved down by `n`, zero above. -/
def down (n : ℕ) (f : ℕ → ℕ → EReal) (t c : ℕ) : EReal := if n ≤ t then f (t - n) c else 0
/-- The sum of the `w` rows that end with a row. -/
def wsum (w : ℕ) (f : ℕ → ℕ → EReal) (t c : ℕ) : EReal := ∑ j ∈ range w, down j f t c
/-- The number of rows in that sum. -/
def wcnt (w t : ℕ) : EReal := FloatOps.sitofp (F := Ideal) .f32 (IntOp.minsi (IntOp.addi (BitVec.ofNat 32 t) 1#32) (BitVec.ofNat 32 w))
/-- The mean less the row itself, by a matrix, scaled. -/
def pool (w : ℕ) (f W : ℕ → ℕ → EReal) (S : ℕ → EReal) (t d : ℕ) : EReal :=
  (∑ c : Fin 128, (Ideal.div (wsum w f t c.val) (wcnt w t) - f t c.val) * W c.val d) * S d
/-- The mixer: each group of columns with its own window. -/
def pools (X : ℕ → ℕ → EReal) (W : ℕ → ℕ → ℕ → EReal) (S : ℕ → EReal) (t k : ℕ) : EReal :=
  pool (2 ^ (k / 128 + 1)) (fun r c => X r (4608 + (128 * (k / 128) + c))) (W (k / 128)) (fun d => S (128 * (k / 128) + d)) t (k % 128)

theorem wsum_one (f : ℕ → ℕ → EReal) : wsum 1 f = f := by
  funext t c
  simp [wsum, down]
/-- A window doubled: the sum, and the same sum as many rows earlier. -/
theorem wsum_double (n : ℕ) (f : ℕ → ℕ → EReal) (t c : ℕ) : wsum n f t c + down n (wsum n f) t c = wsum (n + n) f t c := by
  rw [wsum, wsum, sum_range_add]
  congr 1
  by_cases h : n ≤ t
  · rw [down, if_pos h]
    refine sum_congr rfl fun j _ => ?_
    simp only [down, Nat.sub_sub, show j ≤ t - n ↔ n + j ≤ t by omega]
  · rw [down, if_neg h]
    exact (sum_eq_zero fun j _ => if_neg (by omega)).symm

end Cert.Ffn

namespace Cert.Kernel12Ideal.Gen

open Idealize.ShloMosaic Idealize.ShloMosaic.TcCoe Idealize.ShloMosaic.Tactic Finset Cert.Ffn
open Cert.Kernel10Ideal.Gen (cut_canon)

section
variable {f g W : ℕ → ℕ → EReal} {S : ℕ → EReal}

/-- The rows of a block moved down. -/
theorem moved (n : ℕ) (hn : n < 2048) {v : Vec Ideal S2048x128 .f32} (h : T2 v g) :
    T2 (select (cmpi .sge (iota .tc S2048x128 32 [0] iota_S2048x128_d0_w32) (broadcast S2048x128 (BitVec.ofNat 32 n)))
      (dynamicRotate 0 (BitVec.ofNat 32 n) none v rotates_S2048x128_d0) (broadcast S2048x128 (Scalar.ofBits (F := Ideal) .f32 0x00000000#32))) (down n g) := by
  intro i
  have hi : (i 0 : Fin 2048).val < 2048 := (i 0 : Fin 2048).isLt
  have hm : (BitVec.ofNat 32 n).toNat = n := BitVec.toNat_ofNat .. |>.trans (Nat.mod_eq_of_lt (by omega))
  pointwise
  rw [h, hm, WordCmp.cmpi_sge_ofNat (by norm_num; omega) (by norm_num; omega)]
  unfold Scalar.select
  by_cases hc : n ≤ (i 0 : Fin 2048).val
  · refine (if_pos ((WordCmp.ofBool_decide_eq_one_iff _).mpr hc)).trans ?_
    rw [down, if_pos hc]
    exact congrArg (g · _) (show ((i 0 : Fin 2048).val + 2048 - n % 2048) % 2048 = _ by omega)
  · refine (if_neg fun hb => hc ((WordCmp.ofBool_decide_eq_one_iff _).mp hb)).trans ?_
    rw [down, if_neg hc]

theorem step {n : ℕ} (hn : n < 2048) {v : Vec Ideal S2048x128 .f32} (h : T2 v (wsum n f)) :
    T2 (addf v (select (cmpi .sge (iota .tc S2048x128 32 [0] iota_S2048x128_d0_w32) (broadcast S2048x128 (BitVec.ofNat 32 n)))
      (dynamicRotate 0 (BitVec.ofNat 32 n) none v rotates_S2048x128_d0) (broadcast S2048x128 (Scalar.ofBits (F := Ideal) .f32 0x00000000#32)))) (wsum (n + n) f) := fun i =>
  (congrArg₂ (· + ·) (h i) (moved n hn h i)).trans (wsum_double n f _ _)

theorem tail (w : ℕ) {s v : Vec Ideal S2048x128 .f32} {a : Vec Ideal S1x128x128 .f32} {b : Vec Ideal S1x128 .f32}
    (hs : T2 s (wsum w f)) (hv : T2 v f) (ha : T3 a fun _ => W) (hb : T2 b fun _ => S) :
    T2 (truncf (F := Ideal) .bf16 (mulf (matmul dot_S2048x128_S128x128_S2048x128_1_0_0_1_n_n none
      (truncf .bf16 (subf (divf s (sitofp .f32 (minsi (addi (iota .tc S2048x128 32 [0] iota_S2048x128_d0_w32) (broadcast S2048x128 1#32))
        (broadcast S2048x128 (BitVec.ofNat 32 w))))) v) bitsLt_bf16_f32)
      (truncf .bf16 (shapeCast S128x128 a shapeCasts_S1x128x128_S128x128) bitsLt_bf16_f32) (constant S2048x128 .f32 0x00000000#32))
      (broadcastTo S2048x128 (shapeCast S1x128 b shapeCasts_S1x128_S1x128) broadcasts_S1x128_S2048x128)) bitsLt_bf16_f32) (pool w f W S) := by
  intro i
  pointwise
  simp only [hs _, hv _, ha _, hb _]
  rfl

/-! ## What the point stores -/

section
variable {X : ℕ → ℕ → EReal} {W : ℕ → ℕ → ℕ → EReal} {x : Vec Ideal S2048x512 .f32} {a : Vec Ideal S4x128x128 .f32} {b : Vec Ideal S1x512 .f32}

theorem ldx (h : T2 x fun r k => X r (4608 + k)) (o : ℕ) {e} : T2 (m := 2048) (n := 128) (View.ld x (Rect.unit (s := S2048x512) ![0, o] S2048x128.size e))
    fun r c => X r (4608 + (o + c)) :=
  at2 h (Rect.unit (s := S2048x512) ![0, o] S2048x128.size e).emb id (o + ·) (fun i => by show 0 + 1 * _ = _; rw [one_mul, zero_add]; rfl)
    (fun i => by show _ + 1 * _ = _; rw [one_mul]; rfl)
theorem lda (h : T3 a W) (o : ℕ) {e} : T3 (k := 1) (m := 128) (n := 128) (View.ld a (Rect.unit (s := S4x128x128) ![o, 0, 0] S1x128x128.size e)) fun _ => W o :=
  at3 h (Rect.unit (s := S4x128x128) ![o, 0, 0] S1x128x128.size e).emb (fun _ => o) id id
    (fun i => by have h : (i 0 : Fin 1).val < 1 := (i 0 : Fin 1).isLt; show o + 1 * (i 0 : Fin 1).val = _; omega)
    (fun i => by show 0 + 1 * _ = _; rw [one_mul, zero_add]; rfl) (fun i => by show 0 + 1 * _ = _; rw [one_mul, zero_add]; rfl)
theorem ldb (h : T2 b fun _ => S) (o : ℕ) {e} : T2 (m := 1) (n := 128) (View.ld b (Rect.unit (s := S1x512) ![0, o] S1x128.size e)) fun _ c => S (o + c) :=
  at2 h (Rect.unit (s := S1x512) ![0, o] S1x128.size e).emb id (o + ·) (fun i => by show 0 + 1 * _ = _; rw [one_mul, zero_add]; rfl)
    (fun i => by show _ + 1 * _ = _; rw [one_mul]; rfl)

/-- The mixer at one group's column. -/
theorem piece (j : ℕ) {P : FVec Ideal S2048x128 .bf16}
    (h : T2 P (pool (2 ^ (j + 1)) (fun r c => X r (4608 + (128 * j + c))) (W j) fun d => S (128 * j + d))) (z : S2048x128.Idx) (y : S2048x512.Idx)
    (e0 : (y 0 : Fin 2048).val = 0 + 1 * (z 0 : Fin 2048).val) (e1 : (y 1 : Fin 512).val = 128 * j + 1 * (z 1 : Fin 128).val) :
    P z = pools X W S (y 0 : Fin 2048).val (y 1 : Fin 512).val := by
  have hz : (z 1 : Fin 128).val < 128 := (z 1 : Fin 128).isLt
  rw [h z, pools, e0, e1, one_mul, one_mul, zero_add, show (128 * j + (z 1 : Fin 128).val) / 128 = j by omega, show (128 * j + (z 1 : Fin 128).val) % 128 = (z 1 : Fin 128).val by omega]

theorem out0_at (hx : T2 x fun r k => X r (4608 + k)) (ha : T3 a W) (hb : T2 b fun _ => S) : T2 (out0_3 x a b : S2048x512.Idx → EReal) (pools X W S) := by
  have one : ∀ {f : ℕ → ℕ → EReal} {v : Vec Ideal S2048x128 .f32}, T2 v f → T2 v (wsum 1 f) := fun h => by rwa [wsum_one]
  have two {f : ℕ → ℕ → EReal} {v : Vec Ideal S2048x128 .f32} (h : T2 v f) := step (n := 1) (by norm_num) (one h)
  intro i
  refine cut_canon (e := .bf16) (fun i : S2048x512.Idx => pools X W S (i 0 : Fin 2048).val (i 1 : Fin 512).val) _ ?_ i (cover0_3 _ _ _ _ i)
  intro p hp z
  simp only [List.mem_cons, List.not_mem_nil, or_false] at hp
  rcases hp with rfl | rfl | rfl | rfl
  · exact piece 3 (tail 16 (step (n := 8) (by norm_num) (step (n := 4) (by norm_num) (step (n := 2) (by norm_num) (two (ldx hx 384))))) (ldx hx 384) (lda ha 3) (ldb hb 384)) z _ rfl rfl
  · exact piece 2 (tail 8 (step (n := 4) (by norm_num) (step (n := 2) (by norm_num) (two (ldx hx 256)))) (ldx hx 256) (lda ha 2) (ldb hb 256)) z _ rfl rfl
  · exact piece 1 (tail 4 (step (n := 2) (by norm_num) (two (ldx hx 128))) (ldx hx 128) (lda ha 1) (ldb hb 128)) z _ rfl rfl
  · exact piece 0 (tail 2 (two (ldx hx 0)) (ldx hx 0) (lda ha 0) (ldb hb 0)) z _ rfl rfl

end

end

theorem ix0_0 : ∀ t : Fin grid0.N, win0_0.index t 0 = 0 ∧ win0_0.index t 1 = 9 := by decide +kernel
theorem ix0_1 : ∀ t : Fin grid0.N, win0_1.index t 0 = 0 ∧ win0_1.index t 1 = 0 ∧ win0_1.index t 2 = 0 := by decide +kernel
theorem ix0_2 : ∀ t : Fin grid0.N, win0_2.index t 0 = 0 ∧ win0_2.index t 1 = 0 := by decide +kernel
theorem ix0_3 : ∀ t : Fin grid0.N, win0_3.index t 0 = 0 ∧ win0_3.index t 1 = 0 := by decide +kernel

/-- The launch memory's arguments on core `c` hold these tables. -/
structure Holds (m : (ℓ : Loc nD τ sig) → Buf (Elt Ideal) ℓ) (c : Dev nD) (X : ℕ → ℕ → EReal) (W : ℕ → ℕ → ℕ → EReal) (S : ℕ → EReal) : Prop where
  a0 : T2 (m ((c : Thread nD τ).loc main_arg0) : S2048x5120.Idx → EReal) X
  a1 : T3 (m ((c : Thread nD τ).loc main_arg1) : S4x128x128.Idx → EReal) W
  a2 : T1 (m ((c : Thread nD τ).loc main_arg2) : S512.Idx → EReal) S

theorem v_pool {m : (ℓ : Loc nD τ sig) → Buf (Elt Ideal) ℓ} {c : Dev nD} {X : ℕ → ℕ → EReal} {W : ℕ → ℕ → ℕ → EReal} {S : ℕ → EReal} (hm : Holds m c X W S) :
    T2 ((dats m 0 c).arrAt 3 cfg0.N : S2048x512.Idx → EReal) (pools X W S) := by
  have e : V m c main_v0 = shapeCast S1x512 (m ((c : Thread nD τ).loc main_arg2)) shapeCasts_S512_S1x512 := by
    unfold V hostOps0
    after_results_simp
    rfl
  have hb : T2 (V m c main_v0 : S1x512.Idx → EReal) fun _ => S := by
    rw [e]
    intro i
    obtain ⟨a, b, rfl⟩ : ∃ (a : Fin 1) (b : Fin 512), i = ix2 a b := ⟨i 0, i 1, (ix2_eta i).symm⟩
    obtain rfl : a = 0 := Subsingleton.elim _ _
    refine (shapeCast_apply _ shapeCasts_S512_S1x512 _ (ix1 b) ?_).trans (hm.a2 _)
    rw [Shape.rowMajor_val_two]
    simp [Shape.rowMajor_val_one]
  intro i
  refine congrFun ((dats m 0 c).arrAt_eq_of_covers 3 (fun i : S2048x512.Idx => pools X W S (i 0 : Fin 2048).val (i 1 : Fin 512).val) (by decide +kernel) fun t _ y => ?_) i
  refine ((congrFun (after0_3 m c t) y).trans (out0_at (X := X) (W := W) (S := S) ?_ ?_ ?_ y)).trans (at2 (f := pools X W S) (fun _ => rfl) (win0_3.blk t).view.emb id id
    (fun i => by blk_simp [(ix0_3 t).1]; simp) (fun i => by blk_simp [(ix0_3 t).2]; simp) y).symm
  · exact at2 (fun i => (congrFun (V_main_arg0 m c) i).trans (hm.a0 i)) (win0_0.blk t).view.emb id (4608 + ·)
      (fun i => by blk_simp [(ix0_0 t).1]; simp) (fun i => by blk_simp [(ix0_0 t).2])
  · exact at3 (fun i => (congrFun (V_main_arg1 m c) i).trans (hm.a1 i)) (win0_1.blk t).view.emb id id id
      (fun i => by blk_simp [(ix0_1 t).1]; simp) (fun i => by blk_simp [(ix0_1 t).2.1]; simp) (fun i => by blk_simp [(ix0_1 t).2.2]; simp)
  · exact at2 hb (win0_2.blk t).view.emb id id (fun i => by blk_simp [(ix0_2 t).1]; simp) (fun i => by blk_simp [(ix0_2 t).2]; simp)

end Cert.Kernel12Ideal.Gen

namespace Cert.Kernel12Ideal.Value

open Cert.Kernel12Ideal.Gen
open Idealize.ShloMosaic Idealize.ShloMosaic.TcCoe Idealize.SL.Sem

variable {F : FTy → Type} [FloatOps F] (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, h.2 c⟩) (θ_run_and (run_main m ρ) (unchanged m ρ))

end Cert.Kernel12Ideal.Value

end
-- ==== Proof.PoolAlg.lean ====
/- The claims of the pooling mixer's call: the call and the plain mixer leave the same array. -/
module

public import proofs.«01_k».proof.Defs
public import proofs.«01_k».proof.Proof.NormAlg
public import proofs.«01_k».proof.Proof.PoolVal
public import proofs.«01_k».proof.Proof.Gen.Reference12Ideal.Read
public import proofs.«01_k».proof.Proof.Gen.Reference12Ideal.Run

@[expose] public section

set_option maxRecDepth 16384

noncomputable section

namespace Cert.Ffn

open Idealize.ShloMosaic Finset

/-- The table that a stack of matrices holds. -/
def tab3 (x : (⟨3, ![4, 128, 128]⟩ : Shape).Idx → EReal) (j r c : ℕ) : EReal := x (ix3 (Fin.ofNat 4 j) (Fin.ofNat 128 r) (Fin.ofNat 128 c))
theorem tab3_eq (x : (⟨3, ![4, 128, 128]⟩ : Shape).Idx → EReal) : T3 x (tab3 x) := fun i =>
  congrArg x (funext fun a => by
    fin_cases a
    · exact Fin.ext (Nat.mod_eq_of_lt (i 0 : Fin 4).isLt).symm
    · exact Fin.ext (Nat.mod_eq_of_lt (i 1 : Fin 128).isLt).symm
    · exact Fin.ext (Nat.mod_eq_of_lt (i 2 : Fin 128).isLt).symm)

/-- The first row of a window, and the number of its rows. -/
theorem pool_lo : ∀ (t : Fin 2048) (j : Fin 4), IntOp.maxsi (IntOp.subi (IntOp.addi (BitVec.ofNat 32 t.val) 1#32) (IntOp.shli .host 2#32 (BitVec.ofNat 32 j.val))) 0#32
    = BitVec.ofNat 32 (t.val + 1 - 2 ^ (j.val + 1)) := by decide +kernel
theorem pool_cnt : ∀ (t : Fin 2048) (j : Fin 4), IntOp.subi (IntOp.addi (BitVec.ofNat 32 t.val) 1#32) (BitVec.ofNat 32 (t.val + 1 - 2 ^ (j.val + 1)))
    = IntOp.minsi (IntOp.addi (BitVec.ofNat 32 t.val) 1#32) (BitVec.ofNat 32 (2 ^ (j.val + 1))) := by decide +kernel

/-- All rows, each by one within the window and by zero outside. -/
theorem mask_sum (w t c : ℕ) (ht : t < 2048) (f : ℕ → ℕ → EReal) :
    ∑ s : Fin 2048, f s.val c * (if t + 1 - w ≤ s.val ∧ s.val ≤ t then 1 else 0) = wsum w f t c := by
  rw [← Finset.sum_range (fun s => f s c * (if t + 1 - w ≤ s ∧ s ≤ t then 1 else 0))]
  simp only [mul_ite, mul_one, mul_zero, wsum, down]
  rw [← sum_filter, ← sum_filter]
  refine sum_nbij' (t - ·) (t - ·) ?_ ?_ ?_ ?_ ?_ <;> intro s hs <;> simp only [mem_filter, mem_range] at hs ⊢
  · omega
  · omega
  · omega
  · omega
  · rw [show t - (t - s) = s by omega]

end Cert.Ffn

namespace Cert.Pool

open Cert.Reference12Ideal Cert.Reference12Ideal.Read Cert.Ffn
open Idealize.ShloMosaic Finset

variable {x0 : FVec Ideal S2048x5120 .f32} {x1 : FVec Ideal S4x128x128 .f32} {x2 : FVec Ideal S512 .f32} {X : ℕ → ℕ → EReal} {W : ℕ → ℕ → ℕ → EReal} {S : ℕ → EReal}

/-- The rows of the group `j`. -/
abbrev grp (X : ℕ → ℕ → EReal) (j r c : ℕ) : EReal := X r (4608 + (128 * j + c))

theorem r_v14 (j : S2048x4.Idx) : val_main_v14 (F := Ideal) j = BitVec.ofNat 32 ((j 0 : Fin 2048).val + 1 - 2 ^ ((j 1 : Fin 4).val + 1)) := by
  rw [val_main_v14_apply, val_main_v12_apply, val_main_v10_apply, val_main_v9_apply, val_main_v3_apply, val_main_v8_apply, val_main_v11_apply, val_main_v7_apply, val_main_v6_apply,
    val_main_v5_apply, val_main_v13_apply]
  exact pool_lo (j 0) (j 1)

theorem r_v19 (j : S2048x4.Idx) : val_main_v19 (F := Ideal) j = wcnt (2 ^ ((j 1 : Fin 4).val + 1)) (j 0 : Fin 2048).val := by
  rw [val_main_v19_apply, val_main_v18_apply, r_v14, val_main_v17_apply, val_main_v16_apply, val_main_v3_apply, val_main_v15_apply]
  exact congrArg (FloatOps.sitofp (F := Ideal) .f32) (pool_cnt (j 0) (j 1))

theorem r_v32 (i : S2048x4x2048.Idx) : val_main_v32 (F := Ideal) i
    = if (i 0 : Fin 2048).val + 1 - 2 ^ ((i 1 : Fin 4).val + 1) ≤ (i 2 : Fin 2048).val ∧ (i 2 : Fin 2048).val ≤ (i 0 : Fin 2048).val then 1 else 0 := by
  have h0 : (i 0 : Fin 2048).val < 2048 := (i 0 : Fin 2048).isLt
  have h2 : (i 2 : Fin 2048).val < 2048 := (i 2 : Fin 2048).isLt
  have e : val_main_v31 (F := Ideal) i = IntOp.andi (IntOp.cmpi .sge (BitVec.ofNat 32 (i 2 : Fin 2048).val) (BitVec.ofNat 32 ((i 0 : Fin 2048).val + 1 - 2 ^ ((i 1 : Fin 4).val + 1))))
      (IntOp.cmpi .sle (BitVec.ofNat 32 (i 2 : Fin 2048).val) (BitVec.ofNat 32 (i 0 : Fin 2048).val)) := by
    rw [val_main_v31_apply, val_main_v24_apply, val_main_v22_apply, val_main_v21_apply, val_main_v23_apply, val_main_v20_apply, r_v14,
      val_main_v30_apply, val_main_v29_apply, val_main_v27_apply, val_main_v26_apply, val_main_v28_apply, val_main_v25_apply, val_main_v3_apply]
    rfl
  have hl := Nat.sub_le ((i 0 : Fin 2048).val + 1) (2 ^ ((i 1 : Fin 4).val + 1))
  rw [val_main_v32_apply, e]
  generalize (i 0 : Fin 2048).val + 1 - 2 ^ ((i 1 : Fin 4).val + 1) = l at hl
  generalize (i 0 : Fin 2048).val = t at h0 hl
  generalize (i 2 : Fin 2048).val = s at h2
  rw [WordCmp.cmpi_sge_ofNat (by norm_num; omega) (by norm_num; omega), WordCmp.cmpi_sle_ofNat (by norm_num; omega) (by norm_num; omega)]
  show (((BitVec.ofBool (decide (l ≤ s)) &&& BitVec.ofBool (decide (s ≤ t))).toNat : ℝ) : EReal) = _
  by_cases hp : l ≤ s <;> by_cases hq : s ≤ t <;> simp [hp, hq]

/-- The arguments hold these tables. -/
structure Tables (x0 : FVec Ideal S2048x5120 .f32) (x1 : FVec Ideal S4x128x128 .f32) (x2 : FVec Ideal S512 .f32) (X : ℕ → ℕ → EReal) (W : ℕ → ℕ → ℕ → EReal) (S : ℕ → EReal) : Prop where
  a0 : T2 x0 X
  a1 : T3 x1 W
  a2 : T1 x2 S

variable (T : Tables x0 x1 x2 X W S)
include T

theorem r_v1 (i : S2048x4x128.Idx) : val_main_v1 (F := Ideal) x0 i = grp X (i 1 : Fin 4).val (i 0 : Fin 2048).val (i 2 : Fin 128).val := by
  have h1 : (i 1 : Fin 4).val < 4 := (i 1 : Fin 4).isLt
  have h2 : (i 2 : Fin 128).val < 128 := (i 2 : Fin 128).isLt
  rw [val_main_v1_apply, val_main_v0_apply]
  refine (T.a0 _).trans (congrArg₂ X ?_ ?_)
  · show (((i 0 : Fin 2048).val * 4 + (i 1 : Fin 4).val) * 128 + (i 2 : Fin 128).val) / 512 = _
    omega
  · show 4608 + (((i 0 : Fin 2048).val * 4 + (i 1 : Fin 4).val) * 128 + (i 2 : Fin 128).val) % 512 = _
    omega

theorem r_v38 (i : S2048x4x128.Idx) : val_main_v38 (F := Ideal) x0 i = Ideal.div (wsum (2 ^ ((i 1 : Fin 4).val + 1)) (grp X (i 1 : Fin 4).val) (i 0 : Fin 2048).val (i 2 : Fin 128).val)
    (wcnt (2 ^ ((i 1 : Fin 4).val + 1)) (i 0 : Fin 2048).val) - grp X (i 1 : Fin 4).val (i 0 : Fin 2048).val (i 2 : Fin 128).val := by
  rw [val_main_v38_apply, r_v1 T, val_main_v37_apply, val_main_v36_apply, val_main_v35_apply, r_v19, val_main_v34_apply, val_main_v33_apply, ← mask_sum _ _ _ (i 0 : Fin 2048).isLt]
  simp only [r_v1 T, r_v32]
  rfl

theorem r_v45 : T2 (val_main_v45 (F := Ideal) x0 x1 x2 : S2048x512.Idx → EReal) (pools X W S) := by
  intro i
  have h0 : (i 0 : Fin 2048).val < 2048 := (i 0 : Fin 2048).isLt
  have h1 : (i 1 : Fin 512).val < 512 := (i 1 : Fin 512).isLt
  rw [val_main_v45_apply, val_main_v44_apply, val_main_v43_apply, val_main_v42_apply, T.a2 _, val_main_v41_apply, val_main_v40_apply, val_main_v39_apply]
  simp only [T.a1 _, r_v38 T]
  rw [show ((i 0 : Fin 2048).val * 512 + (i 1 : Fin 512).val) / 128 % 4 = (i 1 : Fin 512).val / 128 by omega,
    show ((i 0 : Fin 2048).val * 512 + (i 1 : Fin 512).val) % 128 = (i 1 : Fin 512).val % 128 by omega,
    show ((i 0 : Fin 2048).val * 512 + (i 1 : Fin 512).val) / 512 = (i 0 : Fin 2048).val by omega, pools, Ffn.pool,
    show 128 * ((i 1 : Fin 512).val / 128) + (i 1 : Fin 512).val % 128 = (i 1 : Fin 512).val by omega]
  exact congrArg (· * _) (sum_congr rfl fun _ _ => mul_comm _ _)

end Cert.Pool

namespace Cert.Proof

open Cert.Ffn Cert.Pool Cert.Reference12Ideal.Read Cert.Kernel12Ideal.Gen
open Idealize.ShloMosaic Idealize.SL.Sem

theorem preserves12 : Cert.preserves_Kernel12_Kernel12Ideal := trivial

theorem algebraic12 : Cert.algebraic_Kernel12Ideal_Reference12Ideal := by
  intro m ρ m' ρ' _ agree
  refine ⟨_, Cert.Kernel12Ideal.Value.run (F := Ideal) m ρ,
    (θ_run Cert.Reference12Ideal.defs _ _).mono (fun r h c => ?_) (Cert.Reference12Ideal.Value.run (F := Ideal) m' ρ')⟩
  obtain ⟨g0, g1, g2⟩ := agree c
  obtain ⟨e0, ha⟩ := h c
  have H : Holds m c _ _ _ := ⟨etab_eq _, tab3_eq _, etab1_eq _⟩
  have T : Cert.Pool.Tables _ _ _ _ _ _ := ⟨like g0 H.a0, like g1 H.a1, like g2 H.a2⟩
  exact ⟨meet e0 (val_main_v45_eq (F := Ideal) ..) (r_v45 T) (v_pool H), ha⟩

end Cert.Proof

end
-- ==== Proof.FgateBack.lean ====
/- The forget gate's backward call. -/
module

public import proofs.«01_k».proof.Proof.FgateFore

@[expose] public section

set_option maxRecDepth 16384

noncomputable section

namespace Cert.Kernel10Ideal.Gen

open Idealize.ShloMosaic Idealize.ShloMosaic.TcCoe Idealize.ShloMosaic.Tactic Finset Cert.Ffn
open Cert.Kernel2Ideal.Gen (word_zero word_one)

variable {X Y : ℕ → ℕ → EReal} {B C : ℕ → EReal}

/-- A row on the later rows' sums. -/
theorem pay1 {y : Vec Ideal S128x128 .f32} {c : Vec Ideal S1x128 .f32} (o : ℕ) (hy : T2 y fun r l => X (o + r) l) (hc : T2 c fun _ l => C l) :
    T2 (k1_pay11 (k1_pay4 (F := Ideal)) c y) fun r l => ∑ j ∈ Ico (r + o) (128 + o), X j l + C l := by
  intro i
  pointwise [k1_pay11]
  simp only [tri1, hy _, hc _]
  rw [← tri_sum (fun k => (i 0 : Fin 128).val ≤ k) (i 0 : Fin 128).val 128 o (fun k _ => by omega) le_rfl fun j => X j (i 1 : Fin 128).val]
  rfl

theorem pay60 {d x : Vec Ideal S128x128 .f32} {b : Vec Ideal S1x128 .f32} (hd : T2 d Y) (hx : T2 x X) (hb : T2 b fun _ l => B l) :
    T2 (k1_pay60 d x b) fun r l => Y r l * sgate (X r l + B l) := by
  intro i
  pointwise [k1_pay60, k1_pay59]
  simp only [hd _, hx _, hb _]
  rfl

theorem pay61 {d x : Vec Ideal S128x128 .f32} {b a : Vec Ideal S1x128 .f32} (hd : T2 d Y) (hx : T2 x X) (hb : T2 b fun _ l => B l) (ha : T2 a fun _ l => C l) :
    T2 (k1_pay61 a d x b) fun _ l => C l + ∑ r ∈ range 128, Y r l * sgate (X r l + B l) := by
  intro i
  pointwise [k1_pay61, k1_pay59]
  simp only [hd _, hx _, hb _, ha _]
  rw [Finset.sum_range]
  rfl

def back (d : Vec Ideal S2048x128 .f32) : ℕ → FVec Ideal S128x128 .f32
  | 0 => k1_pay11 (k1_pay4 (F := Ideal)) (broadcast S1x128 (Scalar.ofBits .f32 0x00000000#32)) (View.ld d (cut 15))
  | n + 1 => k1_pay11 (k1_pay4 (F := Ideal)) (extractStridedSlice S1x128 ![0, 0] (back d n) slices_S128x128_o0_0_S1x128) (View.ld d (cut (15 - (n + 1))))

def grad (d x : Vec Ideal S2048x128 .f32) (b : Vec Ideal S1x128 .f32) (n : ℕ) : FVec Ideal S128x128 .bf16 :=
  k1_pay60 (back d n) (View.ld x (cut (15 - n))) b

def acc (d x : Vec Ideal S2048x128 .f32) (b : Vec Ideal S1x128 .f32) : ℕ → FVec Ideal S1x128 .f32
  | 0 => k1_pay61 (broadcast S1x128 (Scalar.ofBits .f32 0x00000000#32)) (back d 0) (View.ld x (cut 15)) b
  | n + 1 => k1_pay61 (acc d x b n) (back d (n + 1)) (View.ld x (cut (15 - (n + 1)))) b

/-- The later rows' sums, and the gradient from them. -/
def later (Y : ℕ → ℕ → EReal) (r l : ℕ) : EReal := ∑ j ∈ Ico r 2048, Y j l
def fgrad (X Y : ℕ → ℕ → EReal) (B : ℕ → EReal) (r l : ℕ) : EReal := later Y r l * sgate (X r l + B l)

theorem cut_late {V : Vec Ideal S2048x128 .f32} (h : T2 V X) (n : ℕ) : T2 (m := 128) (n := 128) (View.ld V (cut (15 - n))) fun r l => X (128 * (15 - n) + r) l := by
  have := cut_at h (15 - n)
  rwa [Nat.mod_eq_of_lt (by omega)] at this

section
variable {d x : Vec Ideal S2048x128 .f32} {b : Vec Ideal S1x128 .f32}

theorem back_at (hd : T2 d Y) (n : ℕ) (hn : n < 16) : T2 (back d n) fun r l => later Y (128 * (15 - n) + r) l := by
  induction n with
  | zero =>
    intro i
    refine (pay1 (C := fun _ => 0) 1920 (cut_late hd 0) (fun i => word_zero) i).trans ?_
    show ∑ j ∈ Ico ((i 0 : Fin 128).val + 1920) 2048, _ + 0 = ∑ j ∈ Ico (1920 + (i 0 : Fin 128).val) 2048, _
    rw [add_zero, add_comm]
  | succ n ih =>
    intro i
    have hr : (i 0 : Fin 128).val < 128 := (i 0 : Fin 128).isLt
    refine (pay1 (C := fun l => later Y (128 * (15 - n) + 0) l) (128 * (15 - (n + 1))) (cut_late hd (n + 1)) (fun i => ?_) i).trans ?_
    · refine (extractStridedSlice_apply _ _ _ _ (ix2 (0 : Fin 128) (i 1 : Fin 128)) fun a => by fin_cases a <;> simp).trans ?_
      exact ih (by omega) _
    · show ∑ j ∈ Ico ((i 0 : Fin 128).val + 128 * (15 - (n + 1))) (128 + 128 * (15 - (n + 1))), _ + ∑ j ∈ Ico (128 * (15 - n) + 0) 2048, _
        = ∑ j ∈ Ico (128 * (15 - (n + 1)) + (i 0 : Fin 128).val) 2048, _
      rw [show 128 * (15 - n) + 0 = 128 + 128 * (15 - (n + 1)) by omega, Finset.sum_Ico_consecutive _ (by omega) (by omega), add_comm]

theorem grad_at (hd : T2 d Y) (hx : T2 x X) (hb : T2 b fun _ l => B l) (n : ℕ) (hn : n < 16) :
    T2 (grad d x b n) fun r l => fgrad X Y B (128 * (15 - n) + r) l :=
  pay60 (back_at hd n hn) (cut_late hx n) hb

theorem acc_at (hd : T2 d Y) (hx : T2 x X) (hb : T2 b fun _ l => B l) (n : ℕ) (hn : n < 16) :
    T2 (acc d x b n) fun _ l => ∑ r ∈ Ico (128 * (15 - n)) 2048, fgrad X Y B r l := by
  induction n with
  | zero =>
    intro i
    refine (pay61 (C := fun _ => 0) (back_at hd 0 hn) (cut_late hx 0) hb (fun i => word_zero) i).trans ?_
    show 0 + ∑ r ∈ range 128, fgrad X Y B (1920 + r) _ = ∑ r ∈ Ico 1920 2048, _
    rw [zero_add, Finset.sum_Ico_eq_sum_range]
  | succ n ih =>
    intro i
    refine (pay61 (back_at hd (n + 1) hn) (cut_late hx (n + 1)) hb (ih (by omega)) i).trans ?_
    show ∑ r ∈ Ico (128 * (15 - n)) 2048, fgrad X Y B r _ + ∑ r ∈ range 128, fgrad X Y B (128 * (15 - (n + 1)) + r) _ = ∑ r ∈ Ico (128 * (15 - (n + 1))) 2048, _
    rw [add_comm, ← Finset.sum_Ico_consecutive _ (show 128 * (15 - (n + 1)) ≤ 128 * (15 - n) by omega) (by omega)]
    congr 1
    rw [Finset.sum_Ico_eq_sum_range, show 128 * (15 - n) - 128 * (15 - (n + 1)) = 128 by omega]

end

variable (V : (c : Dev nD) → (b : Ref sig .tc) → Buf (Elt Ideal) ((c : Thread nD τ).loc b))

theorem outs1 (c : Dev nD) (t : Fin cfg1.N) : (outsAt1 V c t).2 = acc (iblk1 V c 0 t) (iblk1 V c 1 t) (iblk1 V c 2 t) 15 := by
  unfold outsAt1 out1_A_4
  dsimp only
  rw [View.read_writes_junk_eq_canon]
  frame_out
  rfl

/-- The rows of a chunk of the wider result. -/
abbrev cut' (n : ℕ) : Rect S2048x512 := Rect.unit (s := S2048x512) ![128 * (n % 16), 0] S128x128.size
  (by have := Nat.mod_lt n (show 0 < 16 by omega); intro a; fin_cases a <;> simp; omega)

theorem outs1' (c : Dev nD) (t : Fin cfg1.N) : (outsAt1 V c t).1 = View.canon (Val := Elt Ideal) (s := S2048x512) (e := .bf16)
    (((List.range 16).map fun n => ⟨cut' n, grad (iblk1 V c 0 t) (iblk1 V c 1 t) (iblk1 V c 2 t) (15 - n)⟩)
      ++ [⟨Rect.unit (s := S2048x512) ![0, 128] S2048x384.size inb_S2048x512_S2048x384_0_128, k1_pay5 (F := Ideal)⟩]) := by
  unfold outsAt1 out1_A_3
  dsimp only
  rw [View.read_writes_junk_eq_canon]
  frame_out
  rfl

section
variable {V} {c : Dev nD} {t : Fin cfg1.N} (hd : T2 (iblk1 V c 0 t) Y) (hx : T2 (iblk1 V c 1 t) X) (hb : T2 (iblk1 V c 2 t) fun _ l => B l)
include hd hx hb

theorem outs1_at : T2 (outsAt1 V c t).2 fun _ l => ∑ r ∈ range 2048, fgrad X Y B r l := by
  rw [outs1, range_eq_Ico]
  exact acc_at hd hx hb 15 (by omega)

theorem outs1'_at : T2 (outsAt1 V c t).1 fun r l => if l < 128 then fgrad X Y B r l else 0 := by
  intro i
  have hi : (i 0 : Fin 2048).val < 2048 := (i 0 : Fin 2048).isLt
  have hl : (i 1 : Fin 512).val < 512 := (i 1 : Fin 512).isLt
  rw [outs1']
  refine cut_canon (e := .bf16) (fun i : S2048x512.Idx => if (i 1 : Fin 512).val < 128 then fgrad X Y B (i 0 : Fin 2048).val (i 1 : Fin 512).val else 0) _ ?_ i ?_
  · intro p hp z
    rcases List.mem_append.1 hp with hp | hp
    · obtain ⟨n, hn, rfl⟩ := List.mem_map.1 hp
      have hn : n < 16 := by simpa using hn
      refine (grad_at hd hx hb (15 - n) (by omega) z).trans ?_
      have e0 : ((cut' n).emb z 0 : Fin 2048).val = 128 * n + (z 0 : Fin 128).val := by
        show 128 * (n % 16) + 1 * (z 0 : Fin 128).val = _; omega
      have e1 : ((cut' n).emb z 1 : Fin 512).val = (z 1 : Fin 128).val := by
        show 0 + 1 * (z 1 : Fin 128).val = _; omega
      have hz : (z 1 : Fin 128).val < 128 := (z 1 : Fin 128).isLt
      show _ = if ((cut' n).emb z 1 : Fin 512).val < 128 then fgrad X Y B ((cut' n).emb z 0 : Fin 2048).val ((cut' n).emb z 1 : Fin 512).val else 0
      rw [e0, e1, if_pos hz, show 15 - (15 - n) = n by omega]
    · obtain rfl := List.mem_singleton.1 hp
      refine Eq.trans ?_ (if_neg ?_).symm
      · show k1_pay5 (F := Ideal) z = 0
        pointwise [k1_pay5]
      · show ¬ 128 + 1 * (z 1 : Fin 384).val < 128
        omega
  · by_cases h : (i 1 : Fin 512).val < 128
    · refine ⟨⟨cut' ((i 0 : Fin 2048).val / 128), _⟩, List.mem_append_left _ (List.mem_map.2 ⟨(i 0 : Fin 2048).val / 128, by simp; omega, rfl⟩), ?_⟩
      show i ∈ (cut' ((i 0 : Fin 2048).val / 128)).set
      rw [Rect.mem_set_unit]
      intro a
      fin_cases a
      · show 128 * ((i 0 : Fin 2048).val / 128 % 16) ≤ (i 0 : Fin 2048).val ∧ (i 0 : Fin 2048).val < 128 * ((i 0 : Fin 2048).val / 128 % 16) + 128
        omega
      · exact ⟨Nat.zero_le _, by show (i 1 : Fin 512).val < 0 + 128; omega⟩
    · refine ⟨_, List.mem_append_right _ (List.mem_singleton.2 rfl), ?_⟩
      show i ∈ (Rect.unit (s := S2048x512) ![0, 128] S2048x384.size inb_S2048x512_S2048x384_0_128).set
      rw [Rect.mem_set_unit]
      intro a
      fin_cases a
      · exact ⟨Nat.zero_le _, by show (i 0 : Fin 2048).val < 0 + 2048; omega⟩
      · exact ⟨by show 128 ≤ (i 1 : Fin 512).val; omega, by show (i 1 : Fin 512).val < 128 + 384; omega⟩

end

end Cert.Kernel10Ideal.Gen

end
-- ==== Proof.FgateVal.lean ====
/- The forget gate's program: what its two calls leave in their arrays, and the run that ends with them. -/
module

public import proofs.«01_k».proof.Proof.RunEnds
public import proofs.«01_k».proof.Proof.FgateBack
public import proofs.«01_k».proof.Proof.FfnRef
public import Idealize.ShloMosaic.Lib.KernelVsHost

@[expose] public section

set_option maxRecDepth 16384

noncomputable section

namespace Cert.Ffn

open Idealize.ShloMosaic Finset Cert.Kernel10Ideal.Gen

/-- The columns past the eighth are padding. -/
def eight (f : ℕ → ℕ → EReal) (r l : ℕ) : EReal := if l < 8 then f r l else 0

theorem pad_eight {m w k : ℕ} {x : (⟨2, ![m, 8]⟩ : Shape).Idx → EReal} {f : ℕ → ℕ → EReal} (hx : T2 x f) {u : Shape} (v : u.Idx → EReal)
    (h : (⟨2, ![m, 8]⟩ : Shape).Pads ![0, 0] ![0, k] ![0, 0] ⟨2, ![m, w]⟩) (hu : 0 < u.numel) (hv : ∀ j, v j = 0) :
    T2 (pad (⟨2, ![m, w]⟩ : Shape) ![0, 0] ![0, k] ![0, 0] x v h hu) (eight f) := by
  intro i
  by_cases hi : (i 1 : Fin w).val < 8
  · refine (pad_apply_of_inside _ _ _ x v h hu i (ix2 (i 0 : Fin m) (⟨(i 1 : Fin w).val, hi⟩ : Fin 8)) fun a => ?_).trans ((hx _).trans (if_pos hi).symm)
    fin_cases a
    · show (i 0 : Fin m).val = 0 + (i 0 : Fin m).val * (0 + 1)
      omega
    · show (i 1 : Fin w).val = 0 + (i 1 : Fin w).val * (0 + 1)
      omega
  · refine (pad_apply_of_not_inside _ _ _ x v h hu i 1 ?_).trans ((hv _).trans (if_neg hi).symm)
    show ¬(0 ≤ (i 1 : Fin w).val ∧ ((i 1 : Fin w).val - 0) % (0 + 1) = 0 ∧ ((i 1 : Fin w).val - 0) / (0 + 1) < 8)
    omega

/-- The first eight columns. -/
theorem cut_eight {m w : ℕ} {x : (⟨2, ![m, w]⟩ : Shape).Idx → EReal} {f g : ℕ → ℕ → EReal} (hx : T2 x f) (h : (⟨2, ![m, w]⟩ : Shape).Slices ![0, 0] ⟨2, ![m, 8]⟩)
    (hw : 8 ≤ w) (hg : ∀ r l, l < 8 → f r l = g r l) : T2 (extractStridedSlice (⟨2, ![m, 8]⟩ : Shape) ![0, 0] x h) g := by
  intro i
  have hi : (i 1 : Fin 8).val < 8 := (i 1 : Fin 8).isLt
  refine (extractStridedSlice_apply _ _ _ _ (ix2 (i 0 : Fin m) (⟨(i 1 : Fin 8).val, by omega⟩ : Fin w)) fun a => ?_).trans ((hx _).trans (hg _ _ hi))
  fin_cases a
  · show (i 0 : Fin m).val = 0 + (i 0 : Fin m).val
    omega
  · show (i 1 : Fin 8).val = 0 + (i 1 : Fin 8).val
    omega

/-- The running sums of the log gates, the gates' gradient, and the bias's. -/
def fgC (P : ℕ → ℕ → EReal) (B : ℕ → EReal) (r l : ℕ) : EReal := ∑ j ∈ range (r + 1), lgate (P j (3072 + l) + B l)
def fgF (P D : ℕ → ℕ → EReal) (B : ℕ → EReal) (r l : ℕ) : EReal := fgrad (fun r l => P r (3072 + l)) D B r l
def fgB (P D : ℕ → ℕ → EReal) (B : ℕ → EReal) (_ l : ℕ) : EReal := ∑ r ∈ range 2048, fgF P D B r l

theorem fgrad_eight (X D : ℕ → ℕ → EReal) (B : ℕ → EReal) (r l : ℕ) :
    fgrad X (eight D) (fun l => eight (fun _ => B) 0 l) r l = eight (fgrad X D B) r l := by
  by_cases hl : l < 8 <;> simp [fgrad, later, eight, hl]

end Cert.Ffn

namespace Cert.Kernel10Ideal.Gen

open Idealize.ShloMosaic Idealize.ShloMosaic.TcCoe Idealize.ShloMosaic.Tactic Finset Cert.Ffn

/-! ## Which part of an array a grid point's block is -/

section
variable {X : ℕ → ℕ → EReal} {Z : ℕ → ℕ → ℕ → EReal}

theorem cut24 {A : S2048x5120.Idx → EReal} (h : T2 A X) (t : Fin grid0.N) :
    T2 (fun i : S2048x128.Idx => A ((win0_0.blk t).view.emb i)) fun r k => X r (3072 + k) :=
  have e : ∀ t : Fin grid0.N, win0_0.index t 0 = 0 ∧ win0_0.index t 1 = 24 := by decide +kernel
  at2 h (win0_0.blk t).view.emb id (3072 + ·) (fun i => by blk_simp [(e t).1]; simp) (fun i => by blk_simp [(e t).2])

theorem line {A : S1x128.Idx → EReal} (h : T2 A X) (t : Fin grid0.N) : T2 (fun i : S1x128.Idx => A ((win0_1.blk t).view.emb i)) X :=
  have e : ∀ t : Fin grid0.N, win0_1.index t 0 = 0 ∧ win0_1.index t 1 = 0 := by decide +kernel
  at2 h (win0_1.blk t).view.emb id id (fun i => by blk_simp [(e t).1]; simp) (fun i => by blk_simp [(e t).2]; simp)

theorem all {A : S2048x128.Idx → EReal} (h : T2 A X) (t : Fin grid0.N) : T2 (fun i : S2048x128.Idx => A ((win0_2.blk t).view.emb i)) X :=
  have e : ∀ t : Fin grid0.N, win0_2.index t 0 = 0 ∧ win0_2.index t 1 = 0 := by decide +kernel
  at2 h (win0_2.blk t).view.emb id id (fun i => by blk_simp [(e t).1]; simp) (fun i => by blk_simp [(e t).2]; simp)

theorem wide {A : S2048x512.Idx → EReal} (h : T2 A X) (t : Fin grid1.N) : T2 (fun i : S2048x512.Idx => A ((win1_3.blk t).view.emb i)) X :=
  have e : ∀ t : Fin grid1.N, win1_3.index t 0 = 0 ∧ win1_3.index t 1 = 0 := by decide +kernel
  at2 h (win1_3.blk t).view.emb id id (fun i => by blk_simp [(e t).1]; simp) (fun i => by blk_simp [(e t).2]; simp)

variable (V : (c : Dev nD) → (b : Ref sig .tc) → Buf (Elt Ideal) ((c : Thread nD τ).loc b)) (c : Dev nD)

theorem arr0_2 (h : ∀ t : Fin cfg0.N, T2 ((dat0 V c).after 2 t : S2048x128.Idx → EReal) X) : T2 ((dat0 V c).arrAt 2 cfg0.N : S2048x128.Idx → EReal) X :=
  fun i => congrFun ((dat0 V c).arrAt_eq_of_covers 2 (full2 X) (by decide +kernel) fun t _ y => (h t y).trans (all (fun _ => rfl) t y).symm) i

theorem arr1_3 (h : ∀ t : Fin cfg1.N, T2 ((dat1 V c).after 3 t : S2048x512.Idx → EReal) X) : T2 ((dat1 V c).arrAt 3 cfg1.N : S2048x512.Idx → EReal) X :=
  fun i => congrFun ((dat1 V c).arrAt_eq_of_covers 3 (full2 X) (by decide +kernel) fun t _ y => (h t y).trans (wide (fun _ => rfl) t y).symm) i

theorem arr1_4 (h : ∀ t : Fin cfg1.N, T2 ((dat1 V c).after 4 t : S1x128.Idx → EReal) X) : T2 ((dat1 V c).arrAt 4 cfg1.N : S1x128.Idx → EReal) X :=
  fun i => congrFun ((dat1 V c).arrAt_eq_of_covers 4 (full2 X) (by decide +kernel) fun t _ y => (h t y).trans (line (fun _ => rfl) t y).symm) i

end

/-! ## The host's steps -/

section
variable (m : (ℓ : Loc nD τ sig) → Buf (Elt Ideal) ℓ) (ρ : Dev nD → PrngReg) (c : Dev nD)

theorem W2_v1 : W2 m ρ c main_v1 = pad S1x128 ![0, 0] ![0, 120] ![0, 0] (shapeCast S1x8 (m ((c : Thread nD τ).loc main_arg1)) shapeCasts_S8_S1x8)
    (sitofp (F := Ideal) .f32 (constantI S_ 32 0#32)) pads_S1x8_S1x128_000_01200 h_S_ := by
  unfold W2 W1 hostOps0 hostOps0_1
  after_results_simp
  rfl
theorem W5_v3 : W5 m ρ c main_v3 = pad S2048x128 ![0, 0] ![0, 120] ![0, 0] (W3 m ρ c main_arg2)
    (sitofp (F := Ideal) .f32 (constantI S_ 32 0#32)) pads_S2048x8_S2048x128_000_01200 h_S_ := by
  unfold W5 W4 hostOps1 hostOps1_1
  after_results_simp
  rfl
theorem W7_v5 : W7 m ρ c main_v5 = extractStridedSlice S2048x8 ![0, 0] (W6 m ρ c main_v2) slices_S2048x128_S2048x8_0_0 := by
  unfold W7 hostOps2
  after_results_simp
theorem W7_v6 : W7 m ρ c main_v6 = extractStridedSlice S1x8 ![0, 0] (W6 m ρ c main_v4_1) slices_S1x128_S1x8_0_0 := by
  unfold W7 hostOps2
  after_results_simp

end

/-! ## The results -/

theorem zero_pad (j : S_.Idx) : sitofp (F := Ideal) .f32 (constantI S_ 32 0#32) j = 0 := by
  show (((0 : ℤ) : ℝ) : EReal) = 0
  simp

/-- The launch memory's arguments on core `c` hold these tables. -/
structure Holds (m : (ℓ : Loc nD τ sig) → Buf (Elt Ideal) ℓ) (c : Dev nD) (P D : ℕ → ℕ → EReal) (B : ℕ → EReal) : Prop where
  a0 : T2 (m ((c : Thread nD τ).loc main_arg0) : S2048x5120.Idx → EReal) P
  a1 : T1 (m ((c : Thread nD τ).loc main_arg1) : S8.Idx → EReal) B
  a2 : T2 (m ((c : Thread nD τ).loc main_arg2) : S2048x8.Idx → EReal) D

section
variable {m : (ℓ : Loc nD τ sig) → Buf (Elt Ideal) ℓ} {ρ : Dev nD → PrngReg} {c : Dev nD} {P D : ℕ → ℕ → EReal} {B : ℕ → EReal}

variable (hm : Holds m c P D B)
include hm

theorem w2_v1 : T2 (W2 m ρ c main_v1 : S1x128.Idx → EReal) (eight fun _ => B) := by
  rw [W2_v1]
  refine pad_eight (fun i => ?_) _ _ _ zero_pad
  obtain ⟨a, b, rfl⟩ : ∃ (a : Fin 1) (b : Fin 8), i = ix2 a b := ⟨i 0, i 1, (ix2_eta i).symm⟩
  obtain rfl : a = 0 := Subsingleton.elim _ _
  refine (shapeCast_apply _ shapeCasts_S8_S1x8 _ (ix1 b) ?_).trans (hm.a1 _)
  rw [Shape.rowMajor_val_two]
  simp [Shape.rowMajor_val_one]
theorem w2_a0 : T2 (W2 m ρ c main_arg0 : S2048x5120.Idx → EReal) P := fun i =>
  (congrFun (W2_args m ρ c main_arg0 (by decide)) i).trans (hm.a0 i)

theorem w3_v2 : T2 (W3 m ρ c main_v2 : S2048x128.Idx → EReal) fun r l => ∑ j ∈ range (r + 1), lgate (P j (3072 + l) + eight (fun _ => B) 0 l) := fun i =>
  (congrFun (W3_arr m ρ c 2) i).trans (arr0_2 (V2 m ρ) c (fun t => by
    rw [after0_2]
    exact out0_at (cut24 (w2_a0 hm) t) (line (w2_v1 hm) t)) i)

theorem w5_v3 : T2 (W5 m ρ c main_v3 : S2048x128.Idx → EReal) (eight D) := by
  rw [W5_v3]
  exact pad_eight (fun i => (congrFun (W3_args m ρ c main_arg2 (by decide)) i).trans (hm.a2 i)) _ _ _ zero_pad
theorem w5_a0 : T2 (W5 m ρ c main_arg0 : S2048x5120.Idx → EReal) P := fun i =>
  (congrFun (W5_args m ρ c main_arg0 (by decide)) i).trans (hm.a0 i)
theorem w5_v1 : T2 (W5 m ρ c main_v1 : S1x128.Idx → EReal) (eight fun _ => B) := fun i =>
  (congrFun ((W5_of m ρ c main_v1 (by decide)).trans ((W4_of m ρ c main_v1 (by decide)).trans (W3_of m ρ c main_v1 (by decide)))) i).trans (w2_v1 hm i)

theorem v_c : T2 (W7 m ρ c main_v5 : S2048x8.Idx → EReal) (fgC P B) := by
  rw [W7_v5]
  refine cut_eight (f := fun r l => ∑ j ∈ range (r + 1), lgate (P j (3072 + l) + eight (fun _ => B) 0 l)) (fun i => ?_) _ (by omega) fun r l hl => ?_
  · exact (congrFun ((W6_of m ρ c main_v2 (by decide)).trans ((W5_of m ρ c main_v2 (by decide)).trans (W4_of m ρ c main_v2 (by decide)))) i).trans (w3_v2 hm i)
  · simp [eight, hl, fgC]

theorem v_f : T2 (W7 m ρ c main_v4_0 : S2048x512.Idx → EReal) (eight (fgF P D B)) := fun i =>
  ((congrFun ((W7_of m ρ c main_v4_0 (by decide)).trans (W6_arr m ρ c 3)) i).trans (arr1_3 (V5 m ρ) c (fun t => by
    rw [after1_3]
    exact outs1'_at (all (w5_v3 hm) t) (cut24 (w5_a0 hm) t) (line (w5_v1 hm) t)) i)).trans
    ((congrArg (fun x => if (i 1 : Fin 512).val < 128 then x else 0) (fgrad_eight _ _ _ _ _)).trans (by
      unfold eight
      split
      · rfl
      · next h => exact (if_neg fun h8 => h (Nat.lt_trans h8 (by norm_num))).symm))

theorem v_b : T2 (W7 m ρ c main_v6 : S1x8.Idx → EReal) (fgB P D B) := by
  rw [W7_v6]
  refine cut_eight (f := fun _ l => ∑ r ∈ range 2048, fgrad (fun r l => P r (3072 + l)) (eight D) (fun l => eight (fun _ => B) 0 l) r l) (fun i => ?_) _ (by omega) fun r l hl => ?_
  · exact (congrFun (W6_arr m ρ c 4) i).trans (arr1_4 (V5 m ρ) c (fun t => by
      rw [after1_4]
      exact outs1_at (all (w5_v3 hm) t) (cut24 (w5_a0 hm) t) (line (w5_v1 hm) t)) i)
  · exact Finset.sum_congr rfl fun q _ => (fgrad_eight _ _ _ _ _).trans (if_pos hl)

end

end Cert.Kernel10Ideal.Gen

namespace Cert.Kernel10Ideal.Value

open Cert.Kernel10Ideal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The program is its segments in order; the final state is read against the last boundary's contents. -/
theorem run : θ_run defs (onTc (τ := τ) (main (F := F))) ⟨m, fun _ => 0, ρ⟩ (fun r => ∀ c : Dev nD,
      r.2.mem ((c.tc : Thread nD τ).loc main_v5) = W7 m ρ c (Proc.devRef .tc main_v5)
      ∧ r.2.mem ((c.tc : Thread nD τ).loc main_v4_0) = W7 m ρ c (Proc.devRef .tc main_v4_0)
      ∧ r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v5 (by decide)),
     h c _ (mem_uc main_v4_0 (by decide)),
     h c _ (mem_uc main_v6 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩)
    (Cert.RunEnds.run (pcfgs (F := F)) adm (pdats m ρ) cellOf_inj defs₀ m ρ main (segs m ρ) (main_run m ρ)
      (by simp only [segs, Pipeline.Seg.pipes_host, Pipeline.Seg.pipes_region, Pipeline.Seg.pipes_nil]; decide) (W7 m ρ)
      ⟨fun _ => .rfl, fun _ => .rfl, fun _ => .rfl, fun _ => .rfl, fun _ => .rfl, fun _ => .rfl, fun _ => .rfl, Cert.RunEnds.last (W7 m ρ)⟩)

end Cert.Kernel10Ideal.Value

end
-- ==== Proof.FgateAlg.lean ====
/- The claims of the forget gate: the two calls and the plain running sum with its gradients leave the same arrays. -/
module

public import proofs.«01_k».proof.Defs
public import proofs.«01_k».proof.Proof.HeadMath
public import proofs.«01_k».proof.Proof.NormAlg
public import proofs.«01_k».proof.Proof.FgateVal
public import proofs.«01_k».proof.Proof.Gen.Reference10Ideal.Read
public import proofs.«01_k».proof.Proof.Gen.Reference10Ideal.Run
public import Idealize.ShloMosaic.Lib.Routing.OpsOne

@[expose] public section

set_option maxRecDepth 16384

noncomputable section

namespace Cert.Fgate

open Cert.Ffn
open Idealize.ShloMosaic Finset

/-! ## The gate's two functions, as the plain program writes them -/

/-- log(1 + exp d), by the larger of d and zero. -/
def soft (d : EReal) : EReal := max d 0 + Ideal.log (1 + Ideal.exp (-max (d - 0) (-(d - 0))))

theorem exp_coe (r : ℝ) : Ideal.exp (r : EReal) = ((Real.exp r : ℝ) : EReal) := rfl

theorem log_exp (r : ℝ) : Ideal.log (1 + ((Real.exp r : ℝ) : EReal)) = ((Real.log (1 + Real.exp r) : ℝ) : EReal) := by
  rw [show (1 : EReal) + ((Real.exp r : ℝ) : EReal) = ((1 + Real.exp r : ℝ) : EReal) by push_cast; rfl]
  exact if_neg (not_le.mpr (by positivity))

theorem max_coe (a b : ℝ) : max (a : EReal) (b : EReal) = ((max a b : ℝ) : EReal) := (EReal.coe_strictMono.monotone.map_max).symm

theorem soft_coe (d : ℝ) : soft (d : EReal) = ((Real.log (1 + Real.exp d) : ℝ) : EReal) := by
  unfold soft
  rw [sub_zero, ← EReal.coe_neg, max_coe, ← EReal.coe_zero, max_coe, ← EReal.coe_neg, exp_coe, log_exp, ← EReal.coe_add]
  congr 1
  rcases le_total 0 d with h | h
  · rw [max_eq_left h, max_eq_left (by linarith), show 1 + Real.exp d = Real.exp d * (1 + Real.exp (-d)) by
      rw [mul_add, ← Real.exp_add]; simp [add_comm], Real.log_mul (by positivity) (by positivity), Real.log_exp]
  · rw [max_eq_right h, max_eq_right (by linarith), neg_neg, zero_add]

theorem log_one : Ideal.log 1 = 0 := by
  have h : Ideal.log ((1 : ℝ) : EReal) = ((Real.log 1 : ℝ) : EReal) := if_neg (by norm_num)
  rwa [Real.log_one] at h

theorem soft_top : soft ⊤ = ⊤ := by
  unfold soft
  rw [sub_zero, max_eq_left le_top, max_eq_left le_top, EReal.neg_top, show Ideal.exp ⊥ = 0 from rfl, add_zero, log_one, add_zero]
theorem soft_bot : soft ⊥ = 0 := by
  unfold soft
  rw [sub_zero, EReal.neg_bot, max_eq_right bot_le, max_eq_right bot_le, EReal.neg_top, show Ideal.exp ⊥ = 0 from rfl, add_zero, log_one, add_zero]

theorem lgate_eq (a : EReal) : -soft (-a) = lgate a := by
  unfold lgate
  induction a with
  | bot => rw [EReal.neg_bot, soft_top, max_eq_right bot_le, min_eq_left bot_le, EReal.neg_top, EReal.bot_sub]
  | top => rw [EReal.neg_top, soft_bot, max_eq_left bot_le, min_eq_right le_top, zero_sub, zero_sub, EReal.neg_top, show Ideal.exp ⊥ = 0 from rfl, add_zero, log_one, neg_zero]
  | coe a =>
    have h := soft_coe (-a)
    unfold soft at h
    rw [← EReal.coe_neg, soft_coe, ← EReal.coe_neg, max_coe, zero_sub, ← EReal.coe_neg, exp_coe, log_exp, ← EReal.coe_zero, show min (a : EReal) ((0 : ℝ) : EReal) = ((min a 0 : ℝ) : EReal) from (EReal.coe_strictMono.monotone.map_min).symm,
      ← EReal.coe_sub]
    rw [sub_zero, ← EReal.coe_neg, max_coe, ← EReal.coe_zero, max_coe, ← EReal.coe_neg, exp_coe, log_exp, ← EReal.coe_add, EReal.coe_eq_coe_iff] at h
    rw [← h, neg_neg, max_comm (-a) a, EReal.coe_eq_coe_iff, show min a 0 = -max (-a) 0 by rw [← min_neg_neg, neg_neg, neg_zero]]
    ring

/-- The infinities that the plain derivative takes out. -/
def fin (d : EReal) : EReal := Scalar.select (FloatOps.cmpf (F := Ideal) (φ := .f32) .oeq d ⊤) 0 d

theorem fin_top : fin ⊤ = 0 := by
  unfold fin Scalar.select
  exact if_pos (by show Ideal.cmp .oeq ⊤ ⊤ = 1#1; simp [Ideal.cmp])
theorem fin_of (d : EReal) (h : d ≠ ⊤) : fin d = d := by
  unfold fin Scalar.select
  exact if_neg (by show ¬Ideal.cmp .oeq d ⊤ = 1#1; simp [Ideal.cmp, h])

theorem sgate_eq (a : EReal) : Ideal.exp (fin (-a) - fin (soft (-a))) = sgate a := by
  unfold sgate
  induction a with
  | bot =>
    rw [EReal.neg_bot, soft_top, fin_top, zero_sub, zero_sub, zero_sub, EReal.neg_bot, EReal.neg_top, neg_zero, ← EReal.coe_zero, exp_coe, Real.exp_zero, show Ideal.exp ⊥ = 0 from rfl, add_zero, EReal.coe_one]
    simp [Ideal.div]
  | top =>
    rw [EReal.neg_top, soft_bot, fin_of _ (by simp), fin_of _ (by simp), EReal.bot_sub, zero_sub, zero_sub, EReal.neg_top, EReal.neg_bot, show Ideal.exp ⊥ = 0 from rfl, show Ideal.exp ⊤ = ⊤ from rfl]
    rw [EReal.add_top_of_ne_bot (by rw [← EReal.coe_one]; exact EReal.coe_ne_bot 1)]
    simp [Ideal.div]
  | coe a =>
    rw [← EReal.coe_neg, soft_coe, fin_of _ (by simp), fin_of _ (by simp), ← EReal.coe_sub, exp_coe, zero_sub, zero_sub, ← EReal.coe_neg, ← EReal.coe_neg, neg_neg, exp_coe,
      show (1 : EReal) + ((Real.exp a : ℝ) : EReal) = ((1 + Real.exp a : ℝ) : EReal) by push_cast; rfl, ← EReal.coe_one, Cert.Attn.div_real _ _ (by positivity), EReal.coe_eq_coe_iff,
      Real.exp_sub, Real.exp_log (by positivity), Real.exp_neg]
    field_simp
    ring

/-! ## The running sums, as windows of the padded columns -/

theorem foldl_add {ι : Type} (l : List ι) (g : ι → EReal) (z : EReal) : l.foldl (fun r n => r + g n) z = z + (l.map g).sum := by
  induction l generalizing z with
  | nil => simp
  | cons n l ih => rw [List.foldl_cons, ih, List.map_cons, List.sum_cons, add_assoc]

theorem window {lo hi : ℕ} {x : (⟨2, ![2048, 8]⟩ : Shape).Idx → EReal} {X : ℕ → ℕ → EReal} (hx : T2 x X)
    (h : (⟨2, ![2048, 8]⟩ : Shape).ReduceWindows (![2048, 1] : Fin 2 → ℕ) ![1, 1] ![lo, 0] ![hi, 0] ⟨2, ![2048, 8]⟩) {u : Shape} (hu : 0 < u.numel) (init : u.Idx → EReal) (hz : ∀ j, init j = 0)
    (j : Fin 2048) (c : Fin 8) :
    Host.reduceWindowAdd (F := Ideal) (φ := .f32) ![2048, 1] ![1, 1] ![lo, 0] ![hi, 0] x init h hu (ix2 j c)
      = ∑ n ∈ range 2048, if lo ≤ j.val + n ∧ j.val + n - lo < 2048 then X (j.val + n - lo) c.val else 0 := by
  have hc := c.isLt
  have e : (⟨2, ![2048, 1]⟩ : Shape).numel = 2048 := by decide
  simp only [Host.reduceWindowAdd, Ideal.hostReduceWindowAdd_def, Ideal.hostReduceWindowAdd]
  unfold Host.reduceWindow
  refine (foldl_add _ _ _).trans ?_
  rw [hz, zero_add, ← Fin.sum_univ_def, ← Fin.sum_univ_eq_sum_range (fun n => if lo ≤ j.val + n ∧ j.val + n - lo < 2048 then X (j.val + n - lo) c.val else 0)]
  refine Fintype.sum_equiv (finCongr e) _ _ fun n => ?_
  have hw0 : ((⟨2, ![2048, 1]⟩ : Shape).rowMajor.symm n 0).val = n.val := by rw [Routing.symm_col]; rfl
  have hw1 : ((⟨2, ![2048, 1]⟩ : Shape).rowMajor.symm n 1).val = 0 := by rw [Routing.symm_col]; rfl
  dsimp only
  split
  · next hin =>
    have h0 := hin 0
    change lo ≤ j.val * 1 + ((⟨2, ![2048, 1]⟩ : Shape).rowMajor.symm n 0).val ∧ j.val * 1 + ((⟨2, ![2048, 1]⟩ : Shape).rowMajor.symm n 0).val - lo < 2048 at h0
    rw [hw0, Nat.mul_one] at h0
    refine ((hx _).trans (congrArg₂ X ?_ ?_)).trans (if_pos h0).symm
    · show j.val * 1 + ((⟨2, ![2048, 1]⟩ : Shape).rowMajor.symm n 0).val - lo = _
      rw [hw0, Nat.mul_one]
      rfl
    · show c.val * 1 + ((⟨2, ![2048, 1]⟩ : Shape).rowMajor.symm n 1).val - 0 = _
      rw [hw1]
      omega
  · next hin =>
    refine (if_neg fun hle => hin fun a => ?_).symm
    fin_cases a
    · show lo ≤ j.val * 1 + ((⟨2, ![2048, 1]⟩ : Shape).rowMajor.symm n 0).val ∧ j.val * 1 + ((⟨2, ![2048, 1]⟩ : Shape).rowMajor.symm n 0).val - lo < 2048
      rw [hw0, Nat.mul_one]
      exact hle
    · show 0 ≤ c.val * 1 + ((⟨2, ![2048, 1]⟩ : Shape).rowMajor.symm n 1).val ∧ c.val * 1 + ((⟨2, ![2048, 1]⟩ : Shape).rowMajor.symm n 1).val - 0 < 8
      rw [hw1]
      omega

/-- Down the column to the row. -/
theorem down (f : ℕ → EReal) (j : ℕ) (hj : j < 2048) :
    (∑ n ∈ range 2048, if 2047 ≤ j + n ∧ j + n - 2047 < 2048 then f (j + n - 2047) else 0) = ∑ i ∈ range (j + 1), f i := by
  rw [← Finset.sum_filter]
  refine Finset.sum_nbij' (fun n => j + n - 2047) (fun i => i + 2047 - j) ?_ ?_ ?_ ?_ ?_ <;> intro a <;> simp only [mem_filter, mem_range] <;> intro h
  all_goals first | trivial | omega

/-- From the row to the end of the column. -/
theorem rest (f : ℕ → EReal) (j : ℕ) (hj : j < 2048) :
    (∑ n ∈ range 2048, if 0 ≤ j + n ∧ j + n - 0 < 2048 then f (j + n - 0) else 0) = ∑ i ∈ Ico j 2048, f i := by
  rw [← Finset.sum_filter]
  refine Finset.sum_nbij' (fun n => j + n) (fun i => i - j) ?_ ?_ ?_ ?_ ?_ <;> intro a <;> simp only [mem_filter, mem_range, mem_Ico] <;> intro h
  all_goals first | trivial | omega

/-! ## The plain program's buffers -/

open Cert.Reference10Ideal Cert.Reference10Ideal.Read
open Cert.Kernel2Ideal.Gen (word_zero)
open Cert.Kernel10Ideal.Gen (later zero_pad)

variable {x0 : FVec Ideal S2048x5120 .f32} {x1 : FVec Ideal S8 .f32} {x2 : FVec Ideal S2048x8 .f32} {P D : ℕ → ℕ → EReal} {B : ℕ → EReal}

/-- The arguments hold these tables. -/
structure Tables (x0 : FVec Ideal S2048x5120 .f32) (x1 : FVec Ideal S8 .f32) (x2 : FVec Ideal S2048x8 .f32) (P D : ℕ → ℕ → EReal) (B : ℕ → EReal) : Prop where
  a0 : T2 x0 P
  a1 : T1 x1 B
  a2 : T2 x2 D

section
variable (T : Tables x0 x1 x2 P D B)
include T

/-- The gate's input, and the sign that the plain program gives it. -/
theorem r_v0 (i : S2048x8.Idx) : val_main_call0_v0 (F := Ideal) x0 x1 i = -(P (i 0 : Fin 2048).val (3072 + (i 1 : Fin 8).val) + B (i 1 : Fin 8).val) := by
  rw [val_main_call0_v0_apply, val_main_v3_apply, val_main_v0_apply, val_main_v2_apply, val_main_v1_apply, T.a0 _, T.a1 _]
  rfl

theorem r_soft (i : S2048x8.Idx) : val_main_call0_v1_0 (F := Ideal) x0 x1 i = soft (-(P (i 0 : Fin 2048).val (3072 + (i 1 : Fin 8).val) + B (i 1 : Fin 8).val)) := by
  rw [val_main_call0_v1_0_apply, val_main_call0_call0_v11_apply, val_main_call0_call0_v10_apply, val_main_call0_call0_v9_apply, val_main_call0_call0_v8_apply, val_main_call0_call0_v7_apply,
    val_main_call0_call0_v4_apply, val_main_call0_call0_v3_apply, val_main_call0_call0_v2_apply, val_main_call0_call0_v1_apply, val_main_call0_call0_v0_apply, val_main_call0_call0_cst_apply, r_v0 T]
  unfold Scalar.select
  refine (if_neg ?_).trans ?_
  · show ¬Ideal.cmp .une _ _ = 1#1
    simp [Ideal.cmp]
  · unfold soft
    rw [← word_zero]
    rfl

theorem r_l : T2 (val_main_v4_0 (F := Ideal) x0 x1 : S2048x8.Idx → EReal) fun r l => lgate (P r (3072 + l) + B l) := by
  intro i
  rw [val_main_v4_0_apply, r_soft T]
  exact lgate_eq _

theorem r_s (i : S2048x8.Idx) : val_main_v4_1 (F := Ideal) x0 x1 i = sgate (P (i 0 : Fin 2048).val (3072 + (i 1 : Fin 8).val) + B (i 1 : Fin 8).val) := by
  rw [val_main_v4_1_apply, val_main_call0_call0_v21_apply, val_main_call0_call0_v20_apply, val_main_call0_call0_v19_apply, val_main_call0_call0_cst_3_apply, val_main_call0_call0_v18_apply,
    val_main_call0_call0_v17_apply, val_main_call0_call0_cst_2_apply, val_main_call0_call0_v16_apply, val_main_call0_call0_v15_apply, val_main_call0_call0_cst_1_apply, val_main_call0_call0_v14_apply,
    val_main_call0_call0_v13_apply, val_main_call0_call0_cst_0_apply, r_soft T, r_v0 T]
  refine Eq.trans ?_ (sgate_eq _)
  unfold fin
  rw [← Cert.Attn.word_inf, ← word_zero]
  rfl

/-- The running sums of the log gates. -/
theorem r_v5 : T2 (val_main_v5 (F := Ideal) x0 x1 : S2048x8.Idx → EReal) (fgC P B) := by
  intro i
  obtain ⟨a, b, rfl⟩ : ∃ (a : Fin 2048) (b : Fin 8), i = ix2 a b := ⟨i 0, i 1, (ix2_eta i).symm⟩
  exact (window (r_l T) _ _ _ (fun _ => word_zero) a b).trans (down (fun r => lgate (P r (3072 + b.val) + B b.val)) a.val a.isLt)

theorem r_v6 : T2 (val_main_v6 (F := Ideal) x2 : S2048x8.Idx → EReal) (later D) := by
  intro i
  obtain ⟨a, b, rfl⟩ : ∃ (a : Fin 2048) (b : Fin 8), i = ix2 a b := ⟨i 0, i 1, (ix2_eta i).symm⟩
  exact (window T.a2 _ _ _ (fun _ => word_zero) a b).trans (rest (fun r => D r b.val) a.val a.isLt)

/-- The gates' gradient. -/
theorem r_v7 : T2 (val_main_v7 (F := Ideal) x0 x1 x2 : S2048x8.Idx → EReal) (fgF P D B) := by
  intro i
  rw [val_main_v7_apply, val_main_call3_v1_apply, val_main_call3_v0_apply, r_s T, r_v6 T]
  show -(-(later D _ _) * _) = _
  rw [EReal.neg_mul, neg_neg]
  rfl

theorem r_v12 : T2 (val_main_v12 (F := Ideal) x0 x1 x2 : S2048x512.Idx → EReal) (eight (fgF P D B)) :=
  pad_eight (k := 504) (r_v7 T) _ Gen.pads_S2048x8_S2048x512_000_05040 _ zero_pad

/-- The bias's gradient. -/
theorem r_v13 : T2 (val_main_v13 (F := Ideal) x0 x1 x2 : S1x8.Idx → EReal) (fgB P D B) := by
  intro i
  obtain ⟨a, b, rfl⟩ : ∃ (a : Fin 1) (b : Fin 8), i = ix2 a b := ⟨i 0, i 1, (ix2_eta i).symm⟩
  obtain rfl : a = 0 := Subsingleton.elim _ _
  rw [val_main_v13_apply, val_main_v10_apply, val_main_cst_0_apply, Fin.sum_univ_one, val_main_v9_apply, val_main_v8_apply, val_main_cst_apply]
  simp only [r_v7 T _]
  show Ideal.ofBits .f32 0x00000000#32 + (Ideal.ofBits .f32 0x00000000#32 + _) = _
  rw [word_zero, zero_add, zero_add]
  refine Eq.trans ?_ (Fin.sum_univ_eq_sum_range (fun r => fgF P D B r b.val) 2048)
  exact Finset.sum_congr rfl fun k _ => by blk_simp; simp

end

end Cert.Fgate

namespace Cert.Proof

open Cert.Ffn Cert.Fgate Cert.Reference10Ideal.Read Cert.Kernel10Ideal.Gen
open Idealize.ShloMosaic Idealize.SL.Sem

theorem preserves10 : Cert.preserves_Kernel10_Kernel10Ideal := trivial

theorem algebraic10 : Cert.algebraic_Kernel10Ideal_Reference10Ideal := by
  intro m ρ m' ρ' _ agree
  refine ⟨_, _, _, Cert.Kernel10Ideal.Value.run (F := Ideal) m ρ,
    (θ_run Cert.Reference10Ideal.defs _ _).mono (fun r h c => ?_) (Cert.Reference10Ideal.Value.run (F := Ideal) m' ρ')⟩
  obtain ⟨g0, g1, g2⟩ := agree c
  obtain ⟨e0, e1, e2, ha⟩ := h c
  have H : Holds m c _ _ _ := ⟨etab_eq _, etab1_eq _, etab_eq _⟩
  have T : Cert.Fgate.Tables _ _ _ _ _ _ := ⟨like g0 H.a0, like g1 H.a1, like g2 H.a2⟩
  exact ⟨meet e0 (val_main_v5_eq (F := Ideal) ..) (r_v5 T) (v_c H), meet e1 (val_main_v12_eq (F := Ideal) m' c) (r_v12 T) (v_f H),
    meet e2 (val_main_v13_eq (F := Ideal) m' c) (r_v13 T) (v_b H), ha⟩

end Cert.Proof

end
-- ==== Proof.LossVal.lean ====
/- The loss call: what each grid point stores, what the call leaves in its two result arrays, and the run that ends with them. -/
module

public import proofs.«01_k».proof.Proof.NormMath
public import proofs.«01_k».proof.Proof.Gen.Kernel9Ideal.Frame
public import Idealize.ShloMosaic.Lib.Pipeline.ValueKit
public import Idealize.ShloMosaic.Lib.Pointwise

@[expose] public section

set_option maxRecDepth 16384

noncomputable section

namespace Cert.Ffn

open Idealize.ShloMosaic Finset

/-- The gradient of the output. -/
def lossG (A B : ℕ → ℕ → EReal) (r k : ℕ) : EReal := (A r k - B r k) * Ideal.ofBits .f32 0x3A000000#32
/-- A row's mean square distance from the target. -/
def lossR (A B : ℕ → ℕ → EReal) (r : ℕ) : EReal := Ideal.div (∑ k : Fin 2048, (A r k.val - B r k.val) * (A r k.val - B r k.val)) nD
/-- The loss. -/
def lossV (A B : ℕ → ℕ → EReal) (_ _ : ℕ) : EReal := (∑ r : Fin 2048, lossR A B r.val) * ((1 / 2 : ℝ) : EReal)

theorem word_half : Ideal.ofBits .f32 0x3F000000#32 = ((1 / 2 : ℝ) : EReal) := by
  simp [Ideal.ofBits, Ideal.ieee, -EReal.coe_mul]; norm_num

end Cert.Ffn

namespace Cert.Kernel9Ideal.Gen

open Idealize.ShloMosaic Idealize.ShloMosaic.TcCoe Idealize.ShloMosaic.Tactic Finset Cert.Ffn
open Cert.Kernel2Ideal.Gen (word_zero)

/-! ## One grid point -/

section
variable {A B : ℕ → ℕ → EReal} {v0 v1 : Vec Ideal S256x2048 .f32}

theorem pay2 (h0 : T2 v0 A) (h1 : T2 v1 B) : T2 (k0_pay2 v0 v1) (lossG A B) := by
  intro i
  pointwise [k0_pay2, k0_pay1]
  simp only [h0 _, h1 _]
  rfl

theorem pay4 {v9 : Vec Ideal S1x1 .f32} (h0 : T2 v0 A) (h1 : T2 v1 B) (i : S1x1.Idx) :
    k0_pay4 v0 v1 v9 i = v9 i + (∑ r : Fin 256, lossR A B r.val) * ((1 / 2 : ℝ) : EReal) := by
  pointwise [k0_pay4, k0_pay1]
  simp only [h0 _, h1 _, word_half]
  rw [mul_comm]
  rfl

end

/-! ## Which part of an array a grid point's block is -/

section
variable (m : (ℓ : Loc nD τ sig) → Buf (Elt Ideal) ℓ) (c : Dev nD)
variable {X : ℕ → ℕ → EReal}

theorem rows {A : S2048x2048.Idx → EReal} (h : T2 A X) (t : Fin grid0.N) :
    T2 (fun i : S256x2048.Idx => A ((win0_0.blk t).view.emb i)) fun r k => X (256 * t.val + r) k :=
  have e : ∀ t : Fin grid0.N, win0_0.index t 0 = t.val ∧ win0_0.index t 1 = 0 := by decide +kernel
  at2 h (win0_0.blk t).view.emb (256 * t.val + ·) id (fun i => by blk_simp [(e t).1]; omega) (fun i => by blk_simp [(e t).2]; simp)

theorem cell {A : S1x1.Idx → EReal} (h : T2 A X) (t : Fin grid0.N) : T2 (fun i : S1x1.Idx => A ((win0_3.blk t).view.emb i)) X :=
  have e : ∀ t : Fin grid0.N, win0_3.index t 0 = 0 ∧ win0_3.index t 1 = 0 := by decide +kernel
  at2 h (win0_3.blk t).view.emb id id (fun i => by blk_simp [(e t).1]; rfl) (fun i => by blk_simp [(e t).2]; rfl)

theorem arr0_2 (h : ∀ t : Fin cfg0.N, T2 ((dats m 0 c).after 2 t : S256x2048.Idx → EReal) (fun r k => X (256 * t.val + r) k)) :
    T2 ((dats m 0 c).arrAt 2 cfg0.N : S2048x2048.Idx → EReal) X :=
  fun i => congrFun ((dats m 0 c).arrAt_eq_of_covers 2 (full2 X) (by decide +kernel) fun t _ y => (h t y).trans (rows (fun _ => rfl) t y).symm) i

theorem arr0_3 (h : ∀ t : Fin cfg0.N, t.val = 7 → T2 ((dats m 0 c).after 3 t : S1x1.Idx → EReal) (fun r k => X r k)) :
    T2 ((dats m 0 c).arrAt 3 cfg0.N : S1x1.Idx → EReal) X :=
  fun i => congrFun ((dats m 0 c).arrAt_eq_of_covers 3 (full2 X) (by decide +kernel)
    fun t _ y => (h t (by revert t; decide +kernel) y).trans (cell (fun _ => rfl) t y).symm) i

/-! ## What the points leave -/

theorem outs_1 (t : Fin cfg0.N) : (outsAt0 m c t.val t.isLt).1 = k0_pay2 (iblk m c 0 t) (iblk m c 1 t) := by
  by_cases h : t.val % 8 = 0
  · rw [outsAt0_A m c t h]; frame_out
  · rw [outsAt0_B m c t h]; frame_out
theorem outs_A (t : Fin cfg0.N) (h : t.val % 8 = 0) :
    (outsAt0 m c t.val t.isLt).2 = k0_pay4 (iblk m c 0 t) (iblk m c 1 t) (k0_pay3 (F := Ideal)) := by
  rw [outsAt0_A m c t h]; frame_out
theorem outs_B (t : Fin cfg0.N) (h : ¬t.val % 8 = 0) : (outsAt0 m c t.val t.isLt).2
    = k0_pay4 (iblk m c 0 t) (iblk m c 1 t) (outsAt0 m c (t.val - 1) (Nat.lt_of_le_of_lt (Nat.sub_le _ _) t.isLt)).2 := by
  rw [outsAt0_B m c t h]; frame_out

end

/-- The launch memory's arguments on core `c` hold these tables. -/
structure Holds (m : (ℓ : Loc nD τ sig) → Buf (Elt Ideal) ℓ) (c : Dev nD) (A B : ℕ → ℕ → EReal) : Prop where
  a0 : T2 (m ((c : Thread nD τ).loc main_arg0) : S2048x2048.Idx → EReal) A
  a1 : T2 (m ((c : Thread nD τ).loc main_arg1) : S2048x2048.Idx → EReal) B

section
variable {m : (ℓ : Loc nD τ sig) → Buf (Elt Ideal) ℓ} {c : Dev nD} {A B : ℕ → ℕ → EReal} (hm : Holds m c A B)
include hm

/-- The loss after each point: the rows so far. -/
theorem acc_at (y : S1x1.Idx) (n : ℕ) (h : n < cfg0.N) :
    (outsAt0 m c n h).2 y = 0 + ∑ s ∈ range (n % 8 + 1), (∑ r : Fin 256, lossR A B (256 * s + r.val)) * ((1 / 2 : ℝ) : EReal) := by
  refine run_sum (fun n h => (outsAt0 m c n h).2 y) (fun _ => 0)
    (fun _ s => (∑ r : Fin 256, lossR A B (256 * s + r.val)) * ((1 / 2 : ℝ) : EReal)) ?_ ?_ n h
  · intro t ht
    refine (congrFun (outs_A m c t ht) y).trans ((pay4 (rows hm.a0 t) (rows hm.a1 t) y).trans ?_)
    have e : t.val % 8 = t.val := Nat.mod_eq_of_lt (lt_of_lt_of_eq t.isLt N_0)
    rw [e]
    exact congrArg (· + _) word_zero
  · intro t ht
    refine (congrFun (outs_B m c t ht) y).trans ((pay4 (rows hm.a0 t) (rows hm.a1 t) y).trans ?_)
    have e : t.val % 8 = t.val := Nat.mod_eq_of_lt (lt_of_lt_of_eq t.isLt N_0)
    rw [e]
    rfl

theorem v_g : T2 ((dats m 0 c).arrAt 2 cfg0.N : S2048x2048.Idx → EReal) (lossG A B) :=
  arr0_2 m c (X := lossG A B) fun t => by
    rw [after0_2, outs_1]
    exact pay2 (rows hm.a0 t) (rows hm.a1 t)

theorem v_l : T2 ((dats m 0 c).arrAt 3 cfg0.N : S1x1.Idx → EReal) (lossV A B) :=
  arr0_3 m c (X := lossV A B) fun t ht y => by
    rw [after0_3, acc_at hm y t.val t.isLt, ht, zero_add]
    show _ = (∑ r : Fin 2048, lossR A B r.val) * ((1 / 2 : ℝ) : EReal)
    rw [← rows_fin (lossR A B), Finset.sum_range, Finset.sum_range]
    exact sum_mul_real _ _ (by norm_num)

end

end Cert.Kernel9Ideal.Gen

namespace Cert.Kernel9Ideal.Value

open Cert.Kernel9Ideal.Gen
open Idealize.ShloMosaic Idealize.ShloMosaic.TcCoe Idealize.SL.Sem

variable {F : FTy → Type} [FloatOps F] (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 2, (h c).1 3, ((h c).1 0).trans ((dats m 0 c).arrAt_in 0 rfl _),
    ((h c).1 1).trans ((dats m 0 c).arrAt_in 1 rfl _)⟩) (run_main m ρ)

end Cert.Kernel9Ideal.Value

end
-- ==== Proof.LossAlg.lean ====
/- The claims of the loss: the call and the plain loss with its gradient leave the same arrays. -/
module

public import proofs.«01_k».proof.Defs
public import proofs.«01_k».proof.Proof.FfnRef
public import proofs.«01_k».proof.Proof.LossVal
public import proofs.«01_k».proof.Proof.Gen.Reference9Ideal.Read
public import proofs.«01_k».proof.Proof.Gen.Reference9Ideal.Run
public import Idealize.ShloMosaic.Lib.KernelVsHost
public import Idealize.ShloMosaic.Lib.Pointwise

@[expose] public section

set_option maxRecDepth 16384

noncomputable section

namespace Cert.Ffn

open Idealize.ShloMosaic Finset

/-- A sum over the indices of a list. -/
theorem sum_list {N : ℕ} (g : ℕ → EReal) : ∑ j : (⟨1, ![N]⟩ : Shape).Idx, g (j 0 : Fin N).val = ∑ r : Fin N, g r.val :=
  Fintype.sum_bijective (fun j : (⟨1, ![N]⟩ : Shape).Idx => (j 0 : Fin N))
    ⟨fun a b (h : (a 0 : Fin N) = b 0) => (ix1_eta a).symm.trans ((congrArg ix1 h).trans (ix1_eta b)), fun r => ⟨ix1 r, rfl⟩⟩ _ _ fun _ => rfl

theorem grad_eq (d : EReal) : Ideal.div (Ideal.ofBits .f32 0x3F000000#32 * Ideal.ofBits .f32 0x3F800000#32) nD
    * (Ideal.ofBits .f32 0x40000000#32 * d) = d * Ideal.ofBits .f32 0x3A000000#32 := by
  have h2 : Ideal.ofBits .f32 0x40000000#32 = ((2 : ℝ) : EReal) := by simp [Ideal.ofBits, Ideal.ieee, -EReal.coe_mul]; norm_num
  have hw : Ideal.ofBits .f32 0x3A000000#32 = ((1 / 2048 : ℝ) : EReal) := by simp [Ideal.ofBits, Ideal.ieee, -EReal.coe_mul]; norm_num
  rw [word_half, Cert.Kernel2Ideal.Gen.word_one, mul_one, nD_eq, Cert.Attn.div_real _ _ (by norm_num), h2, hw, ← mul_assoc, ← EReal.coe_mul, mul_comm]
  norm_num

end Cert.Ffn

namespace Cert.Loss

open Cert.Reference9Ideal Cert.Reference9Ideal.Read Cert.Ffn
open Cert.Kernel2Ideal.Gen (word_zero)
open Idealize.ShloMosaic Finset

variable {x0 : FVec Ideal S2048x2048 .f32} {x1 : FVec Ideal S2048x2048 .f32} {A B : ℕ → ℕ → EReal}

/-- The arguments hold these tables. -/
structure Tables (x0 : FVec Ideal S2048x2048 .f32) (x1 : FVec Ideal S2048x2048 .f32) (A B : ℕ → ℕ → EReal) : Prop where
  a0 : T2 x0 A
  a1 : T2 x1 B

/-- The gradient: twice the distance, times a half over the width. -/
theorem r_v14 (T : Tables x0 x1 A B) : T2 (val_main_v14 (F := Ideal) x0 x1 : S2048x2048.Idx → EReal) (lossG A B) := by
  intro i
  rw [val_main_v14_apply, val_main_v13_apply, val_main_v12_apply, val_main_v11_apply, val_main_cst_6_apply, val_main_v10_apply, val_main_v9_apply, val_main_cst_5_apply, val_main_cst_4_apply,
    val_main_v3_apply, val_main_v2_apply, val_main_cst_apply, val_main_v0_apply, T.a0 i, T.a1 i]
  exact grad_eq _

theorem r_v6 (T : Tables x0 x1 A B) (j : S2048.Idx) : val_main_v6 (F := Ideal) x0 x1 j = lossR A B (j 0 : Fin 2048).val := by
  rw [val_main_v6_apply, val_main_v5_apply, val_main_cst_1_apply, val_main_v4_apply, val_main_cst_0_apply]
  simp only [val_main_v1_apply, val_main_v0_apply, T.a0 _, T.a1 _]
  show Ideal.div (Ideal.ofBits .f32 0x00000000#32 + _) _ = _
  rw [word_zero, zero_add]
  rfl

/-- The loss. -/
theorem r_v15 (T : Tables x0 x1 A B) : T2 (val_main_v15 (F := Ideal) x0 x1 : S1x1.Idx → EReal) (lossV A B) := by
  intro i
  refine (shapeCast_apply (val_main_v8 (F := Ideal) x0 x1) _ i (fun a => a.elim0) (by blk_simp)).trans ?_
  rw [val_main_v8_apply, val_main_cst_3_apply, val_main_v7_apply, val_main_cst_2_apply]
  simp only [r_v6 T _]
  show Ideal.ofBits .f32 0x3F000000#32 * (Ideal.ofBits .f32 0x00000000#32 + _) = (∑ r : Fin 2048, lossR A B r.val) * ((1 / 2 : ℝ) : EReal)
  rw [word_zero, zero_add, word_half, mul_comm, sum_list (lossR A B)]

end Cert.Loss

namespace Cert.Proof

open Cert.Ffn Cert.Loss Cert.Reference9Ideal.Read Cert.Kernel9Ideal.Gen
open Idealize.ShloMosaic Idealize.SL.Sem

theorem preserves9 : Cert.preserves_Kernel9_Kernel9Ideal := trivial

theorem algebraic9 : Cert.algebraic_Kernel9Ideal_Reference9Ideal := by
  intro m ρ m' ρ' _ agree
  refine ⟨_, _, Cert.Kernel9Ideal.Value.run (F := Ideal) m ρ,
    (θ_run Cert.Reference9Ideal.defs _ _).mono (fun r h c => ?_) (Cert.Reference9Ideal.Value.run (F := Ideal) m' ρ')⟩
  obtain ⟨g0, g1⟩ := agree c
  obtain ⟨e0, e1, ha⟩ := h c
  have H : Holds m c _ _ := ⟨etab_eq _, etab_eq _⟩
  have T : Cert.Loss.Tables _ _ _ _ := ⟨like g0 H.a0, like g1 H.a1⟩
  exact ⟨meet e0 (val_main_v14_eq (F := Ideal) ..) (r_v14 T) (v_g H), meet e1 (val_main_v15_eq (F := Ideal) ..) (r_v15 T) (v_l H), ha⟩

end Cert.Proof

end
-- ==== Proof.EmbVal.lean ====
/- The calls of the layer's embedding: what each grid point stores, what the calls read and leave in their arrays, and what the
   program leaves in its results, in terms of the arguments' tables. -/
module

public import proofs.«01_k».proof.Proof.FfnBlocks
public import proofs.«01_k».proof.Proof.Gen.Kernel7Ideal.Frame
public import Idealize.ShloMosaic.Lib.Pipeline.ValueKit
public import Idealize.ShloMosaic.Lib.Pointwise

@[expose] public section

set_option maxRecDepth 16384

noncomputable section

namespace Cert.Ffn

open Idealize.ShloMosaic

/-- The gate before its sigmoid. -/
def embZ (X Y : ℕ → ℕ → EReal) (r f : ℕ) : EReal := nn 2048 X Y r f
/-- The projected embedding. -/
def embP (E B : ℕ → ℕ → EReal) (r f : ℕ) : EReal := nn 256 E B r f
/-- The residual stream with the gated embedding added. -/
def embH (H X E Y B : ℕ → ℕ → EReal) (r f : ℕ) : EReal := H r f + embP E B r f * Ideal.logistic (embZ X Y r f)
/-- The gradient of the projected embedding. -/
def embDP (X Y G : ℕ → ℕ → EReal) (r f : ℕ) : EReal := G r f * Ideal.logistic (embZ X Y r f)
/-- The gradient of the gate. -/
def embDZ (X E Y B G : ℕ → ℕ → EReal) (r f : ℕ) : EReal :=
  G r f * embP E B r f * Ideal.logistic (embZ X Y r f) * (1 - Ideal.logistic (embZ X Y r f))

end Cert.Ffn

namespace Cert.Kernel7Ideal.Gen

open Idealize.ShloMosaic Idealize.ShloMosaic.TcCoe Idealize.ShloMosaic.Tactic Finset Cert.Ffn
open Cert.Kernel2Ideal.Gen (off2 off3 word_zero word_one)

/-! ## One grid point of each call -/

variable {H X Y B E G L Q : ℕ → ℕ → EReal}

theorem pay0_1 {v0 : Vec Ideal S1024x2048 .bf16} {v2 : Vec Ideal S2048x256 .bf16} (h0 : T2 v0 X) (h2 : T2 v2 Y) : T2 (k0_pay1 v0 v2) (embZ X Y) := by
  intro i
  pointwise [k0_pay1]
  simp only [h0 _, h2 _]
  rfl

theorem pay0_2 {v5 : Vec Ideal S1024x256 .bf16} {v7 : Vec Ideal S1x256x256 .bf16} (h5 : T2 v5 E) (h7 : T3 v7 fun _ => B) : T2 (k0_pay2 v5 v7) (embP E B) := by
  intro i
  pointwise [k0_pay2]
  simp only [h5 _, h7 _]
  rfl

section
variable {x0 : Vec Ideal S1024x2048 .bf16} {x1 : Vec Ideal S2048x256 .bf16} {x2 : Vec Ideal S1024x256 .bf16} {x3 : Vec Ideal S1x256x256 .bf16}
  {x4 : Vec Ideal S1024x256 .f32}

theorem out_0_5 (h0 : T2 x0 X) (h1 : T2 x1 Y) (h2 : T2 x2 E) (h3 : T3 x3 fun _ => B) (h4 : T2 x4 H) :
    T2 (out0_5 x0 x1 x2 x3 x4) (embH H X E Y B) := by
  intro i
  rw [out0_5, View.canon_unit_zero off2, View.ld_unit_zero off2, View.ld_unit_zero off2, View.ld_unit_zero off2, View.ld_unit_zero off3, View.ld_unit_zero off2]
  pointwise [k0_pay3]
  simp only [pay0_1 h0 h1 _, pay0_2 h2 h3 _, h4 _, word_zero, word_one, zero_sub]
  rfl

theorem out_0_6 (h0 : T2 x0 X) (h1 : T2 x1 Y) : T2 (out0_6 x0 x1 x2 x3 x4) (embZ X Y) := by
  intro i
  rw [out0_6, View.canon_unit_zero off2, View.ld_unit_zero off2, View.ld_unit_zero off2]
  exact pay0_1 h0 h1 i

theorem out_0_7 (h2 : T2 x2 E) (h3 : T3 x3 fun _ => B) : T2 (out0_7 x0 x1 x2 x3 x4) (embP E B) := by
  intro i
  rw [out0_7, View.canon_unit_zero off2, View.ld_unit_zero off2, View.ld_unit_zero off3]
  exact pay0_2 h2 h3 i

end

theorem pay1_1 {v0 : Vec Ideal S256x2048 .f32} (h0 : T2 v0 L) : T2 (k1_pay1 v0) fun r f => Ideal.logistic (L r f) := by
  intro i
  pointwise [k1_pay1]
  simp only [h0 _, word_zero, word_one, zero_sub]
  rfl

section
variable {x0 x1 x2 : Vec Ideal S256x2048 .f32} {x3 : Vec Ideal S8x128 .f32}

theorem out_1_4 (h0 : T2 x0 G) (h1 : T2 x1 L) : T2 (out1_4 x0 x1 x2 x3) fun r f => G r f * Ideal.logistic (L r f) := by
  intro i
  rw [out1_4, View.canon_unit_zero off2, View.ld_unit_zero off2, View.ld_unit_zero off2]
  pointwise [k1_pay2]
  simp only [pay1_1 h1 _, h0 _]

theorem out_1_5 (h0 : T2 x0 G) (h1 : T2 x1 L) (h2 : T2 x2 Q) :
    T2 (out1_5 x0 x1 x2 x3) fun r f => G r f * Q r f * Ideal.logistic (L r f) * (1 - Ideal.logistic (L r f)) := by
  intro i
  rw [out1_5, View.canon_unit_zero off2, View.ld_unit_zero off2, View.ld_unit_zero off2, View.ld_unit_zero off2]
  pointwise [k1_pay3]
  simp only [pay1_1 h1 _, h0 _, h2 _, word_one]

end

theorem out_2_2 {x0 x1 : Vec Ideal S2048x256 .bf16} (h0 : T2 x0 E) (h1 : T2 x1 G) : T3 (out2_2 x0 x1) fun _ => tn 2048 E G := by
  intro i
  rw [out2_2, View.canon_unit_zero off3, View.ld_unit_zero off2, View.ld_unit_zero off2]
  pointwise [k2_pay1]
  simp only [h0 _, h1 _]
  rfl

theorem out_3_2 {x0 : Vec Ideal S2048x2048 .bf16} {x1 : Vec Ideal S2048x512 .bf16} (h0 : T2 x0 X) (h1 : T2 x1 G) :
    T2 (out3_2 x0 x1) (tn 2048 X G) := by
  intro i
  rw [out3_2, View.canon_unit_zero off2, View.ld_unit_zero off2, View.ld_unit_zero off2]
  pointwise [k3_pay1]
  simp only [h0 _, h1 _]
  rfl

theorem out_4_2 {x0 : Vec Ideal S2048x2048 .bf16} {x1 : Vec Ideal S512x2048 .bf16} (h0 : T2 x0 G) (h1 : T2 x1 Y) :
    T2 (out4_2 x0 x1) (nt 2048 G Y) := by
  intro i
  rw [out4_2, View.canon_unit_zero off2, View.ld_unit_zero off2, View.ld_unit_zero off2]
  pointwise [k4_pay1]
  simp only [h0 _, h1 _]
  rfl

/-! ## Which part of an array a grid point's block is -/

section
variable {X : ℕ → ℕ → EReal} {Z : ℕ → ℕ → ℕ → EReal}

theorem rows {A : S2048x2048.Idx → EReal} (h : T2 A X) (t : Fin grid0.N) :
    T2 (fun i : S1024x2048.Idx => A ((win0_0.blk t).view.emb i)) fun r k => X (1024 * (t.val / 8) + r) k :=
  have e : ∀ t : Fin grid0.N, win0_0.index t 0 = t.val / 8 ∧ win0_0.index t 1 = 0 := by decide +kernel
  at2 h (win0_0.blk t).view.emb (1024 * (t.val / 8) + ·) id (fun i => by blk_simp [(e t).1]; omega) (fun i => by blk_simp [(e t).2]; simp)

theorem cols {A : S2048x2048.Idx → EReal} (h : T2 A X) (t : Fin grid0.N) :
    T2 (fun i : S2048x256.Idx => A ((win0_1.blk t).view.emb i)) fun r k => X r (256 * (t.val % 8) + k) :=
  have e : ∀ t : Fin grid0.N, win0_1.index t 0 = 0 ∧ win0_1.index t 1 = t.val % 8 := by decide +kernel
  at2 h (win0_1.blk t).view.emb id (256 * (t.val % 8) + ·) (fun i => by blk_simp [(e t).1]; simp) (fun i => by blk_simp [(e t).2]; omega)

theorem thin {A : S2048x256.Idx → EReal} (h : T2 A X) (t : Fin grid0.N) :
    T2 (fun i : S1024x256.Idx => A ((win0_2.blk t).view.emb i)) fun r k => X (1024 * (t.val / 8) + r) k :=
  have e : ∀ t : Fin grid0.N, win0_2.index t 0 = t.val / 8 ∧ win0_2.index t 1 = 0 := by decide +kernel
  at2 h (win0_2.blk t).view.emb (1024 * (t.val / 8) + ·) id (fun i => by blk_simp [(e t).1]; omega) (fun i => by blk_simp [(e t).2]; simp)

theorem share {A : S8x256x256.Idx → EReal} (h : T3 A Z) (t : Fin grid0.N) :
    T3 (fun i : S1x256x256.Idx => A ((win0_3.blk t).view.emb i)) fun _ r k => Z (t.val % 8) r k :=
  have e : ∀ t : Fin grid0.N, win0_3.index t 0 = t.val % 8 ∧ win0_3.index t 1 = 0 ∧ win0_3.index t 2 = 0 := by decide +kernel
  at3 h (win0_3.blk t).view.emb (fun _ => t.val % 8) id id (fun i => by blk_simp [(e t).1]) (fun i => by blk_simp [(e t).2.1]; simp)
    (fun i => by blk_simp [(e t).2.2]; simp)

theorem tile {A : S2048x2048.Idx → EReal} (h : T2 A X) (t : Fin grid0.N) :
    T2 (fun i : S1024x256.Idx => A ((win0_4.blk t).view.emb i)) fun r k => X (1024 * (t.val / 8) + r) (256 * (t.val % 8) + k) :=
  have e : ∀ t : Fin grid0.N, win0_4.index t 0 = t.val / 8 ∧ win0_4.index t 1 = t.val % 8 := by decide +kernel
  at2 h (win0_4.blk t).view.emb (1024 * (t.val / 8) + ·) (256 * (t.val % 8) + ·) (fun i => by blk_simp [(e t).1]; omega)
    (fun i => by blk_simp [(e t).2]; omega)

theorem rows1 {A : S2048x2048.Idx → EReal} (h : T2 A X) (t : Fin grid1.N) :
    T2 (fun i : S256x2048.Idx => A ((win1_0.blk t).view.emb i)) fun r k => X (256 * t.val + r) k :=
  have e : ∀ t : Fin grid1.N, win1_0.index t 0 = t.val ∧ win1_0.index t 1 = 0 := by decide +kernel
  at2 h (win1_0.blk t).view.emb (256 * t.val + ·) id (fun i => by blk_simp [(e t).1]; omega) (fun i => by blk_simp [(e t).2]; simp)

theorem all2 {A : S2048x256.Idx → EReal} (h : T2 A X) (t : Fin grid2.N) : T2 (fun i : S2048x256.Idx => A ((win2_0.blk t).view.emb i)) X :=
  have e : ∀ t : Fin grid2.N, win2_0.index t 0 = 0 ∧ win2_0.index t 1 = 0 := by decide +kernel
  at2 h (win2_0.blk t).view.emb id id (fun i => by blk_simp [(e t).1]; simp) (fun i => by blk_simp [(e t).2]; simp)

theorem cols2 {A : S2048x2048.Idx → EReal} (h : T2 A X) (t : Fin grid2.N) :
    T2 (fun i : S2048x256.Idx => A ((win2_1.blk t).view.emb i)) fun r k => X r (256 * t.val + k) :=
  have e : ∀ t : Fin grid2.N, win2_1.index t 0 = 0 ∧ win2_1.index t 1 = t.val := by decide +kernel
  at2 h (win2_1.blk t).view.emb id (256 * t.val + ·) (fun i => by blk_simp [(e t).1]; simp) (fun i => by blk_simp [(e t).2]; omega)

theorem share2 {A : S8x256x256.Idx → EReal} (h : T3 A Z) (t : Fin grid2.N) :
    T3 (fun i : S1x256x256.Idx => A ((win2_2.blk t).view.emb i)) fun _ r k => Z t.val r k :=
  have e : ∀ t : Fin grid2.N, win2_2.index t 0 = t.val ∧ win2_2.index t 1 = 0 ∧ win2_2.index t 2 = 0 := by decide +kernel
  at3 h (win2_2.blk t).view.emb (fun _ => t.val) id id (fun i => by blk_simp [(e t).1]) (fun i => by blk_simp [(e t).2.1]; simp)
    (fun i => by blk_simp [(e t).2.2]; simp)

theorem all3 {A : S2048x2048.Idx → EReal} (h : T2 A X) (t : Fin grid3.N) : T2 (fun i : S2048x2048.Idx => A ((win3_0.blk t).view.emb i)) X :=
  have e : ∀ t : Fin grid3.N, win3_0.index t 0 = 0 ∧ win3_0.index t 1 = 0 := by decide +kernel
  at2 h (win3_0.blk t).view.emb id id (fun i => by blk_simp [(e t).1]; simp) (fun i => by blk_simp [(e t).2]; simp)

theorem cols3 {A : S2048x2048.Idx → EReal} (h : T2 A X) (t : Fin grid3.N) :
    T2 (fun i : S2048x512.Idx => A ((win3_1.blk t).view.emb i)) fun r k => X r (512 * t.val + k) :=
  have e : ∀ t : Fin grid3.N, win3_1.index t 0 = 0 ∧ win3_1.index t 1 = t.val := by decide +kernel
  at2 h (win3_1.blk t).view.emb id (512 * t.val + ·) (fun i => by blk_simp [(e t).1]; simp) (fun i => by blk_simp [(e t).2]; omega)

theorem rows4 {A : S2048x2048.Idx → EReal} (h : T2 A X) (t : Fin grid4.N) :
    T2 (fun i : S512x2048.Idx => A ((win4_1.blk t).view.emb i)) fun r k => X (512 * t.val + r) k :=
  have e : ∀ t : Fin grid4.N, win4_1.index t 0 = t.val ∧ win4_1.index t 1 = 0 := by decide +kernel
  at2 h (win4_1.blk t).view.emb (512 * t.val + ·) id (fun i => by blk_simp [(e t).1]; omega) (fun i => by blk_simp [(e t).2]; simp)

theorem all4 {A : S2048x2048.Idx → EReal} (h : T2 A X) (t : Fin grid4.N) : T2 (fun i : S2048x2048.Idx => A ((win4_0.blk t).view.emb i)) X :=
  have e : ∀ t : Fin grid4.N, win4_0.index t 0 = 0 ∧ win4_0.index t 1 = 0 := by decide +kernel
  at2 h (win4_0.blk t).view.emb id id (fun i => by blk_simp [(e t).1]; simp) (fun i => by blk_simp [(e t).2]; simp)

theorem cols4 {A : S2048x2048.Idx → EReal} (h : T2 A X) (t : Fin grid4.N) :
    T2 (fun i : S2048x512.Idx => A ((win4_2.blk t).view.emb i)) fun r k => X r (512 * t.val + k) :=
  have e : ∀ t : Fin grid4.N, win4_2.index t 0 = 0 ∧ win4_2.index t 1 = t.val := by decide +kernel
  at2 h (win4_2.blk t).view.emb id (512 * t.val + ·) (fun i => by blk_simp [(e t).1]; simp) (fun i => by blk_simp [(e t).2]; omega)

variable (V : (c : Dev nD) → (b : Ref sig .tc) → Buf (Elt Ideal) ((c : Thread nD τ).loc b)) (c : Dev nD)

theorem arr0_5 (h : ∀ t : Fin cfg0.N, T2 ((dat0 V c).after 5 t : S1024x256.Idx → EReal) (fun r k => X (1024 * (t.val / 8) + r) (256 * (t.val % 8) + k))) :
    T2 ((dat0 V c).arrAt 5 cfg0.N : S2048x2048.Idx → EReal) X :=
  fun i => congrFun ((dat0 V c).arrAt_eq_of_covers 5 (full2 X) (by decide +kernel) fun t _ y => (h t y).trans (tile (fun _ => rfl) t y).symm) i

theorem arr0_6 (h : ∀ t : Fin cfg0.N, T2 ((dat0 V c).after 6 t : S1024x256.Idx → EReal) (fun r k => X (1024 * (t.val / 8) + r) (256 * (t.val % 8) + k))) :
    T2 ((dat0 V c).arrAt 6 cfg0.N : S2048x2048.Idx → EReal) X :=
  fun i => congrFun ((dat0 V c).arrAt_eq_of_covers 6 (full2 X) (by decide +kernel) fun t _ y => (h t y).trans (tile (fun _ => rfl) t y).symm) i

theorem arr0_7 (h : ∀ t : Fin cfg0.N, T2 ((dat0 V c).after 7 t : S1024x256.Idx → EReal) (fun r k => X (1024 * (t.val / 8) + r) (256 * (t.val % 8) + k))) :
    T2 ((dat0 V c).arrAt 7 cfg0.N : S2048x2048.Idx → EReal) X :=
  fun i => congrFun ((dat0 V c).arrAt_eq_of_covers 7 (full2 X) (by decide +kernel) fun t _ y => (h t y).trans (tile (fun _ => rfl) t y).symm) i

theorem arr1_4 (h : ∀ t : Fin cfg1.N, T2 ((dat1 V c).after 4 t : S256x2048.Idx → EReal) (fun r k => X (256 * t.val + r) k)) :
    T2 ((dat1 V c).arrAt 4 cfg1.N : S2048x2048.Idx → EReal) X :=
  fun i => congrFun ((dat1 V c).arrAt_eq_of_covers 4 (full2 X) (by decide +kernel) fun t _ y => (h t y).trans (rows1 (fun _ => rfl) t y).symm) i

theorem arr1_5 (h : ∀ t : Fin cfg1.N, T2 ((dat1 V c).after 5 t : S256x2048.Idx → EReal) (fun r k => X (256 * t.val + r) k)) :
    T2 ((dat1 V c).arrAt 5 cfg1.N : S2048x2048.Idx → EReal) X :=
  fun i => congrFun ((dat1 V c).arrAt_eq_of_covers 5 (full2 X) (by decide +kernel) fun t _ y => (h t y).trans (rows1 (fun _ => rfl) t y).symm) i

theorem arr2_2 (h : ∀ t : Fin cfg2.N, T3 ((dat2 V c).after 2 t : S1x256x256.Idx → EReal) (fun _ r k => Z t.val r k)) :
    T3 ((dat2 V c).arrAt 2 cfg2.N : S8x256x256.Idx → EReal) Z :=
  fun i => congrFun ((dat2 V c).arrAt_eq_of_covers 2 (full3 Z) (by decide +kernel) fun t _ y => (h t y).trans (share2 (fun _ => rfl) t y).symm) i

theorem arr3_2 (h : ∀ t : Fin cfg3.N, T2 ((dat3 V c).after 2 t : S2048x512.Idx → EReal) (fun r k => X r (512 * t.val + k))) :
    T2 ((dat3 V c).arrAt 2 cfg3.N : S2048x2048.Idx → EReal) X :=
  fun i => congrFun ((dat3 V c).arrAt_eq_of_covers 2 (full2 X) (by decide +kernel) fun t _ y => (h t y).trans (cols4 (fun _ => rfl) t y).symm) i

theorem arr4_2 (h : ∀ t : Fin cfg4.N, T2 ((dat4 V c).after 2 t : S2048x512.Idx → EReal) (fun r k => X r (512 * t.val + k))) :
    T2 ((dat4 V c).arrAt 2 cfg4.N : S2048x2048.Idx → EReal) X :=
  fun i => congrFun ((dat4 V c).arrAt_eq_of_covers 2 (full2 X) (by decide +kernel) fun t _ y => (h t y).trans (cols4 (fun _ => rfl) t y).symm) i

end

/-! ## The host lines -/

section
variable (m : (ℓ : Loc nD τ sig) → Buf (Elt Ideal) ℓ) (ρ : Dev nD → PrngReg) (c : Dev nD)

theorem V1_v0 : V1 m ρ c main_v0 = m ((c : Thread nD τ).loc main_arg1) := by
  unfold V1 W1 hostOps0
  after_results_simp
  rfl
theorem V1_v1 : V1 m ρ c main_v1 = m ((c : Thread nD τ).loc main_arg2) := by
  unfold V1 W1 hostOps0
  after_results_simp
  rfl
theorem V1_v2 : V1 m ρ c main_v2 = m ((c : Thread nD τ).loc main_arg3) := by
  unfold V1 W1 hostOps0
  after_results_simp
  rfl
theorem V1_v5 : V1 m ρ c main_v5 = transpose S8x256x256 [1, 0, 2] (shapeCast S256x8x256 (m ((c : Thread nD τ).loc main_arg4)) shapeCasts_S256x2048_S256x8x256) transposes_S256x8x256_S8x256x256_1_0_2 := by
  unfold V1 W1 hostOps0
  after_results_simp
  rfl
theorem V7_v11 : V7 m ρ c main_v11 = shapeCast S8x256x2048 (V6 m ρ c main_v10) shapeCasts_S2048x2048_S8x256x2048 := by
  unfold V7 W7 hostOps4
  after_results_simp
  rfl

end

/-! ## The results -/

/-- The launch memory's arguments on core `c` hold these tables. -/
structure Holds (m : (ℓ : Loc nD τ sig) → Buf (Elt Ideal) ℓ) (c : Dev nD) (H X E Y B G : ℕ → ℕ → EReal) : Prop where
  a0 : T2 (m ((c : Thread nD τ).loc main_arg0) : S2048x2048.Idx → EReal) H
  a1 : T2 (m ((c : Thread nD τ).loc main_arg1) : S2048x2048.Idx → EReal) X
  a2 : T2 (m ((c : Thread nD τ).loc main_arg2) : S2048x256.Idx → EReal) E
  a3 : T2 (m ((c : Thread nD τ).loc main_arg3) : S2048x2048.Idx → EReal) Y
  a4 : T2 (m ((c : Thread nD τ).loc main_arg4) : S256x2048.Idx → EReal) B
  a5 : T2 (m ((c : Thread nD τ).loc main_arg5) : S2048x2048.Idx → EReal) G

section
variable {m : (ℓ : Loc nD τ sig) → Buf (Elt Ideal) ℓ} {ρ : Dev nD → PrngReg} {c : Dev nD} {H X E Y B G : ℕ → ℕ → EReal}

variable (hm : Holds m c H X E Y B G)
include hm

theorem v1_v0 : T2 (V1 m ρ c main_v0 : S2048x2048.Idx → EReal) X := fun i =>
  (congrFun (V1_v0 m ρ c) i).trans (hm.a1 i)
theorem v1_v1 : T2 (V1 m ρ c main_v1 : S2048x256.Idx → EReal) E := fun i =>
  (congrFun (V1_v1 m ρ c) i).trans (hm.a2 i)
theorem v1_v2 : T2 (V1 m ρ c main_v2 : S2048x2048.Idx → EReal) Y := fun i =>
  (congrFun (V1_v2 m ρ c) i).trans (hm.a3 i)
theorem v1_v5 : T3 (V1 m ρ c main_v5 : S8x256x256.Idx → EReal) (fun j r k => B r (256 * j + k)) := fun i =>
  (congrFun (V1_v5 m ρ c) i).trans (splits2 hm.a4 rfl _ _ i)
theorem v1_a0 : T2 (V1 m ρ c main_arg0 : S2048x2048.Idx → EReal) H := fun i =>
  (congrFun (W1_of m ρ c main_arg0 (by decide)) i).trans (hm.a0 i)
theorem v1_a5 : T2 (V1 m ρ c main_arg5 : S2048x2048.Idx → EReal) G := fun i =>
  (congrFun (W1_of m ρ c main_arg5 (by decide)) i).trans (hm.a5 i)

/-! The forward call. -/

theorem v2_h : T2 (V2 m ρ c main_v6_0 : S2048x2048.Idx → EReal) (embH H X E Y B) := fun i =>
  (congrFun (W2_arr m ρ c 5) i).trans (arr0_5 (V1 m ρ) c (X := embH H X E Y B) (fun t => by
    rw [after0_5]
    exact out_0_5 (rows (v1_v0 hm) t) (cols (v1_v2 hm) t) (thin (v1_v1 hm) t) (share (v1_v5 hm) t) (tile (v1_a0 hm) t)) i)
theorem v2_z : T2 (V2 m ρ c main_v6_1 : S2048x2048.Idx → EReal) (embZ X Y) := fun i =>
  (congrFun (W2_arr m ρ c 6) i).trans (arr0_6 (V1 m ρ) c (X := embZ X Y) (fun t => by
    rw [after0_6]
    exact out_0_6 (rows (v1_v0 hm) t) (cols (v1_v2 hm) t)) i)
theorem v2_q : T2 (V2 m ρ c main_v6_2 : S2048x2048.Idx → EReal) (embP E B) := fun i =>
  (congrFun (W2_arr m ρ c 7) i).trans (arr0_7 (V1 m ρ) c (X := embP E B) (fun t => by
    rw [after0_7]
    exact out_0_7 (thin (v1_v1 hm) t) (share (v1_v5 hm) t)) i)

/-! What the later calls read. -/

theorem v3_z : T2 (V3 m ρ c main_v6_1 : S2048x2048.Idx → EReal) (embZ X Y) := fun i =>
  (congrFun (W3_of m ρ c main_v6_1 (by decide)) i).trans (v2_z hm i)
theorem v8_z : T2 (W8 m ρ c (Proc.devRef .tc main_v6_1) : S2048x2048.Idx → EReal) (embZ X Y) := fun i =>
  (congrFun ((W8_of m ρ c main_v6_1 (by decide)).trans ((W7_of m ρ c main_v6_1 (by decide)).trans ((W6_of m ρ c main_v6_1 (by decide)).trans ((W5_of m ρ c main_v6_1 (by decide)).trans (W4_of m ρ c main_v6_1 (by decide)))))) i).trans (v3_z hm i)
theorem v3_q : T2 (V3 m ρ c main_v6_2 : S2048x2048.Idx → EReal) (embP E B) := fun i =>
  (congrFun (W3_of m ρ c main_v6_2 (by decide)) i).trans (v2_q hm i)
theorem v8_q : T2 (W8 m ρ c (Proc.devRef .tc main_v6_2) : S2048x2048.Idx → EReal) (embP E B) := fun i =>
  (congrFun ((W8_of m ρ c main_v6_2 (by decide)).trans ((W7_of m ρ c main_v6_2 (by decide)).trans ((W6_of m ρ c main_v6_2 (by decide)).trans ((W5_of m ρ c main_v6_2 (by decide)).trans (W4_of m ρ c main_v6_2 (by decide)))))) i).trans (v3_q hm i)
theorem v8_h : T2 (W8 m ρ c (Proc.devRef .tc main_v6_0) : S2048x2048.Idx → EReal) (embH H X E Y B) := fun i =>
  (congrFun ((W8_of m ρ c main_v6_0 (by decide)).trans ((W7_of m ρ c main_v6_0 (by decide)).trans ((W6_of m ρ c main_v6_0 (by decide)).trans ((W5_of m ρ c main_v6_0 (by decide)).trans ((W4_of m ρ c main_v6_0 (by decide)).trans (W3_of m ρ c main_v6_0 (by decide))))))) i).trans (v2_h hm i)
theorem v3_a5 : T2 (V3 m ρ c main_arg5 : S2048x2048.Idx → EReal) (G) := fun i =>
  (congrFun ((W3_of m ρ c main_arg5 (by decide)).trans (W2_of m ρ c main_arg5 (by decide))) i).trans (v1_a5 hm i)
theorem v5_v0 : T2 (V5 m ρ c main_v0 : S2048x2048.Idx → EReal) (X) := fun i =>
  (congrFun ((W5_of m ρ c main_v0 (by decide)).trans ((W4_of m ρ c main_v0 (by decide)).trans ((W3_of m ρ c main_v0 (by decide)).trans (W2_of m ρ c main_v0 (by decide))))) i).trans (v1_v0 hm i)
theorem v4_v1 : T2 (V4 m ρ c main_v1 : S2048x256.Idx → EReal) (E) := fun i =>
  (congrFun ((W4_of m ρ c main_v1 (by decide)).trans ((W3_of m ρ c main_v1 (by decide)).trans (W2_of m ρ c main_v1 (by decide)))) i).trans (v1_v1 hm i)
theorem v7_v2 : T2 (V7 m ρ c main_v2 : S2048x2048.Idx → EReal) (Y) := fun i =>
  (congrFun ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide))))))) i).trans (v1_v2 hm i)

/-! The gate's gradients. -/

theorem v4_dp : T2 (V4 m ρ c main_v8_0 : S2048x2048.Idx → EReal) (embDP X Y G) := fun i =>
  (congrFun (W4_arr m ρ c 4) i).trans (arr1_4 (V3 m ρ) c (X := embDP X Y G) (fun t => by
    rw [after1_4]
    exact out_1_4 (rows1 (v3_a5 hm) t) (rows1 (v3_z hm) t)) i)
theorem v4_dz : T2 (V4 m ρ c main_v8_1 : S2048x2048.Idx → EReal) (embDZ X E Y B G) := fun i =>
  (congrFun (W4_arr m ρ c 5) i).trans (arr1_5 (V3 m ρ) c (X := embDZ X E Y B G) (fun t => by
    rw [after1_5]
    exact out_1_5 (rows1 (v3_a5 hm) t) (rows1 (v3_z hm) t) (rows1 (v3_q hm) t)) i)
theorem v8_dp : T2 (W8 m ρ c (Proc.devRef .tc main_v8_0) : S2048x2048.Idx → EReal) (embDP X Y G) := fun i =>
  (congrFun ((W8_of m ρ c main_v8_0 (by decide)).trans ((W7_of m ρ c main_v8_0 (by decide)).trans ((W6_of m ρ c main_v8_0 (by decide)).trans (W5_of m ρ c main_v8_0 (by decide))))) i).trans (v4_dp hm i)
theorem v5_dz : T2 (V5 m ρ c main_v8_1 : S2048x2048.Idx → EReal) (embDZ X E Y B G) := fun i =>
  (congrFun (W5_of m ρ c main_v8_1 (by decide)) i).trans (v4_dz hm i)
theorem v7_dz : T2 (V7 m ρ c main_v8_1 : S2048x2048.Idx → EReal) (embDZ X E Y B G) := fun i =>
  (congrFun ((W7_of m ρ c main_v8_1 (by decide)).trans (W6_of m ρ c main_v8_1 (by decide))) i).trans (v5_dz hm i)
theorem v8_dz : T2 (W8 m ρ c (Proc.devRef .tc main_v8_1) : S2048x2048.Idx → EReal) (embDZ X E Y B G) := fun i =>
  (congrFun (W8_of m ρ c main_v8_1 (by decide)) i).trans (v7_dz hm i)

/-! The weights' gradients and the input's. -/

theorem v5_w : T3 (V5 m ρ c main_v9 : S8x256x256.Idx → EReal) (fun j r k => tn 2048 E (embDP X Y G) r (256 * j + k)) := fun i =>
  (congrFun (W5_arr m ρ c 2) i).trans (arr2_2 (V4 m ρ) c (Z := fun j r k => tn 2048 E (embDP X Y G) r (256 * j + k)) (fun t => by
    rw [after2_2]
    exact out_2_2 (all2 (v4_v1 hm) t) (cols2 (v4_dp hm) t)) i)
theorem v8_w : T3 (W8 m ρ c (Proc.devRef .tc main_v9) : S8x256x256.Idx → EReal) (fun j r k => tn 2048 E (embDP X Y G) r (256 * j + k)) := fun i =>
  (congrFun ((W8_of m ρ c main_v9 (by decide)).trans ((W7_of m ρ c main_v9 (by decide)).trans (W6_of m ρ c main_v9 (by decide)))) i).trans (v5_w hm i)
theorem v6_g : T2 (V6 m ρ c main_v10 : S2048x2048.Idx → EReal) (tn 2048 X (embDZ X E Y B G)) := fun i =>
  (congrFun (W6_arr m ρ c 2) i).trans (arr3_2 (V5 m ρ) c (X := tn 2048 X (embDZ X E Y B G)) (fun t => by
    rw [after3_2]
    exact out_3_2 (all3 (v5_v0 hm) t) (cols3 (v5_dz hm) t)) i)
theorem v7_s : T3 (V7 m ρ c main_v11 : S8x256x2048.Idx → EReal) (fun j r k => tn 2048 X (embDZ X E Y B G) (256 * j + r) k) := fun i =>
  (congrFun (V7_v11 m ρ c) i).trans (shares2 (v6_g hm) rfl _ i)
theorem v8_s : T3 (W8 m ρ c (Proc.devRef .tc main_v11) : S8x256x2048.Idx → EReal) (fun j r k => tn 2048 X (embDZ X E Y B G) (256 * j + r) k) := fun i =>
  (congrFun (W8_of m ρ c main_v11 (by decide)) i).trans (v7_s hm i)
theorem v8_x : T2 (W8 m ρ c (Proc.devRef .tc main_v12) : S2048x2048.Idx → EReal) (nt 2048 (embDZ X E Y B G) Y) := fun i =>
  (congrFun (W8_arr m ρ c 2) i).trans (arr4_2 (V7 m ρ) c (X := nt 2048 (embDZ X E Y B G) Y) (fun t => by
    rw [after4_2]
    exact out_4_2 (all4 (v7_dz hm) t) (rows4 (v7_v2 hm) t)) i)

end

end Cert.Kernel7Ideal.Gen

end
-- ==== Proof.EmbRun.lean ====
/- The run of the program of the layer's embedding and its gradients with its results: every fair execution ends with each result array at the
   contents that the last boundary of the program gives it, the arguments as launched. -/
module

public import proofs.«01_k».proof.Proof.RunEnds
public import proofs.«01_k».proof.Proof.Gen.Kernel7Ideal.Frame

@[expose] public section

set_option maxRecDepth 16384

noncomputable section

namespace Cert.Kernel7Ideal.Value

open Cert.Kernel7Ideal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The program is its segments in order; the final state is read against the last boundary's contents. -/
theorem run : θ_run defs (onTc (τ := τ) (main (F := F))) ⟨m, fun _ => 0, ρ⟩ (fun r => ∀ c : Dev nD,
      r.2.mem ((c.tc : Thread nD τ).loc main_v6_0) = W8 m ρ c (Proc.devRef .tc main_v6_0)
      ∧ r.2.mem ((c.tc : Thread nD τ).loc main_v6_1) = W8 m ρ c (Proc.devRef .tc main_v6_1)
      ∧ r.2.mem ((c.tc : Thread nD τ).loc main_v6_2) = W8 m ρ c (Proc.devRef .tc main_v6_2)
      ∧ r.2.mem ((c.tc : Thread nD τ).loc main_v8_0) = W8 m ρ c (Proc.devRef .tc main_v8_0)
      ∧ r.2.mem ((c.tc : Thread nD τ).loc main_v8_1) = W8 m ρ c (Proc.devRef .tc main_v8_1)
      ∧ r.2.mem ((c.tc : Thread nD τ).loc main_v9) = W8 m ρ c (Proc.devRef .tc main_v9)
      ∧ r.2.mem ((c.tc : Thread nD τ).loc main_v11) = W8 m ρ c (Proc.devRef .tc main_v11)
      ∧ r.2.mem ((c.tc : Thread nD τ).loc main_v12) = W8 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v6_0 (by decide)),
     h c _ (mem_uc main_v6_1 (by decide)),
     h c _ (mem_uc main_v6_2 (by decide)),
     h c _ (mem_uc main_v8_0 (by decide)),
     h c _ (mem_uc main_v8_1 (by decide)),
     h c _ (mem_uc main_v9 (by decide)),
     h c _ (mem_uc main_v11 (by decide)),
     h c _ (mem_uc main_v12 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩)
    (Cert.RunEnds.run (pcfgs (F := F)) adm (pdats m ρ) cellOf_inj defs₀ m ρ main (segs m ρ) (main_run m ρ)
      (by simp only [segs, Pipeline.Seg.pipes_host, Pipeline.Seg.pipes_region, Pipeline.Seg.pipes_nil]; decide) (W8 m ρ)
      ⟨fun _ => .rfl, fun _ => .rfl, fun _ => .rfl, fun _ => .rfl, fun _ => .rfl, fun _ => .rfl, fun _ => .rfl, fun _ => .rfl, fun _ => .rfl⟩)

end Cert.Kernel7Ideal.Value

end
-- ==== Proof.EmbAlg.lean ====
/- The claims of the layer's embedding: the five calls and the plain gated embedding with its gradients leave the same arrays. -/
module

public import proofs.«01_k».proof.Defs
public import proofs.«01_k».proof.Proof.FfnRef
public import proofs.«01_k».proof.Proof.EmbVal
public import proofs.«01_k».proof.Proof.EmbRun
public import proofs.«01_k».proof.Proof.Gen.Reference7Ideal.Read
public import proofs.«01_k».proof.Proof.Gen.Reference7Ideal.Run
public import Idealize.ShloMosaic.Lib.KernelVsHost

@[expose] public section

set_option maxRecDepth 16384

noncomputable section

namespace Cert.Emb

open Cert.Reference7Ideal Cert.Reference7Ideal.Read Cert.Ffn
open Cert.Kernel2Ideal.Gen (word_zero word_one)
open Idealize.ShloMosaic Finset

variable {x0 : FVec Ideal S2048x2048 .f32} {x1 : FVec Ideal S2048x2048 .f32} {x2 : FVec Ideal S2048x256 .f32} {x3 : FVec Ideal S2048x2048 .f32} {x4 : FVec Ideal S256x2048 .f32} {x5 : FVec Ideal S2048x2048 .f32} {H X E Y B G : ℕ → ℕ → EReal}

/-- The arguments hold these tables. -/
structure Tables (x0 : FVec Ideal S2048x2048 .f32) (x1 : FVec Ideal S2048x2048 .f32) (x2 : FVec Ideal S2048x256 .f32) (x3 : FVec Ideal S2048x2048 .f32) (x4 : FVec Ideal S256x2048 .f32) (x5 : FVec Ideal S2048x2048 .f32) (H X E Y B G : ℕ → ℕ → EReal) : Prop where
  a0 : T2 x0 H
  a1 : T2 x1 X
  a2 : T2 x2 E
  a3 : T2 x3 Y
  a4 : T2 x4 B
  a5 : T2 x5 G

variable (T : Tables x0 x1 x2 x3 x4 x5 H X E Y B G)
include T

theorem r_v0 : T2 (val_main_v0 (F := Ideal) x1 x3 : S2048x2048.Idx → EReal) (embZ X Y) := by
  intro i
  rw [val_main_v0_apply]
  simp only [T.a1 _, T.a3 _]
  rfl

theorem r_v1 : T2 (val_main_v1 (F := Ideal) x2 x4 : S2048x2048.Idx → EReal) (embP E B) := by
  intro i
  rw [val_main_v1_apply]
  simp only [T.a2 _, T.a4 _]
  rfl

/-- The gate. -/
theorem r_v7 : T2 (val_main_v7 (F := Ideal) x1 x3 : S2048x2048.Idx → EReal) (fun r f => Ideal.logistic (embZ X Y r f)) := by
  intro i
  rw [val_main_v7_apply, val_main_v6_apply, val_main_cst_0_apply, val_main_v5_apply, val_main_v4_apply, val_main_cst_apply, val_main_v3_apply,
    val_main_v2_apply, r_v0 T i]
  show Ideal.div (Ideal.ofBits .f32 0x3F800000#32) (Ideal.ofBits .f32 0x3F800000#32 + _) = _
  rw [word_one]
  rfl

theorem r_v10 : T2 (val_main_v10 (F := Ideal) x1 x3 : S2048x2048.Idx → EReal) (fun r f => Ideal.logistic (embZ X Y r f) * (1 - Ideal.logistic (embZ X Y r f))) := by
  intro i
  rw [val_main_v10_apply, val_main_v9_apply, val_main_v8_apply, val_main_cst_1_apply, r_v7 T i]
  show _ * (Ideal.ofBits .f32 0x3F800000#32 - _) = _
  rw [word_one]

theorem r_v12 : T2 (val_main_v12 (F := Ideal) x0 x1 x2 x3 x4 : S2048x2048.Idx → EReal) (embH H X E Y B) := by
  intro i
  rw [val_main_v12_apply, val_main_v11_apply, r_v1 T i, r_v7 T i, T.a0 i]
  rfl

theorem r_v13 : T2 (val_main_v13 (F := Ideal) x5 : S2048x2048.Idx → EReal) (G) := by
  intro i
  rw [val_main_v13_apply, T.a5 _]
  have h0 : (i 0 : Fin 2048).val < 2048 := (i 0 : Fin 2048).isLt
  have h1 : (i 1 : Fin 2048).val < 2048 := (i 1 : Fin 2048).isLt
  show G (((i 0 : Fin 2048).val * 2048 + (i 1 : Fin 2048).val) / 2048) (((i 0 : Fin 2048).val * 2048 + (i 1 : Fin 2048).val) % 2048) = _
  rw [show ((i 0 : Fin 2048).val * 2048 + (i 1 : Fin 2048).val) / 2048 = (i 0 : Fin 2048).val by omega,
    show ((i 0 : Fin 2048).val * 2048 + (i 1 : Fin 2048).val) % 2048 = (i 1 : Fin 2048).val by omega]

theorem r_v15 : T2 (val_main_v15 (F := Ideal) x1 x3 x5 : S2048x2048.Idx → EReal) (embDP X Y G) := by
  intro i
  rw [val_main_v15_apply, r_v13 T i, r_v7 T i]
  rfl

theorem r_v16 : T2 (val_main_v16 (F := Ideal) x1 x2 x3 x4 x5 : S2048x2048.Idx → EReal) (embDZ X E Y B G) := by
  intro i
  rw [val_main_v16_apply, val_main_v14_apply, r_v1 T i, r_v13 T i, r_v10 T i]
  exact (mul_assoc _ _ _).symm.trans (by rw [embDZ, mul_comm (G _ _)]; rfl)

theorem r_v17 : T2 (val_main_v17 (F := Ideal) x1 x2 x3 x5 : S2048x256.Idx → EReal) (tn 2048 (embDP X Y G) E) := by
  intro i
  rw [val_main_v17_apply]
  simp only [r_v15 T _, T.a2 _]
  rfl

theorem r_v18 : T2 (val_main_v18 (F := Ideal) x1 x2 x3 x5 : S256x2048.Idx → EReal) (tn 2048 E (embDP X Y G)) := by
  intro i
  rw [val_main_v18_apply, r_v17 T _]
  exact tn_comm _ _ _ _ _

theorem r_v20 : T2 (val_main_v20 (F := Ideal) x1 x2 x3 x4 x5 : S2048x2048.Idx → EReal) (tn 2048 (embDZ X E Y B G) X) := by
  intro i
  rw [val_main_v20_apply]
  simp only [r_v16 T _, T.a1 _]
  rfl

theorem r_v21 : T2 (val_main_v21 (F := Ideal) x1 x2 x3 x4 x5 : S2048x2048.Idx → EReal) (tn 2048 X (embDZ X E Y B G)) := by
  intro i
  rw [val_main_v21_apply, r_v20 T _]
  exact tn_comm _ _ _ _ _

theorem r_v22 : T2 (val_main_v22 (F := Ideal) x1 x2 x3 x4 x5 : S2048x2048.Idx → EReal) (nt 2048 (embDZ X E Y B G) Y) := by
  intro i
  rw [val_main_v22_apply]
  simp only [r_v16 T _, T.a3 _]
  rfl

theorem r_v23 : T2 (val_main_v23 (F := Ideal) x1 x3 x5 : S2048x2048.Idx → EReal) (embDP X Y G) := by
  intro i
  rw [val_main_v23_apply]
  exact r_v15 T i

theorem r_v24 : T2 (val_main_v24 (F := Ideal) x1 x2 x3 x4 x5 : S2048x2048.Idx → EReal) (embDZ X E Y B G) := by
  intro i
  rw [val_main_v24_apply]
  exact r_v16 T i

theorem r_v25 : T2 (val_main_v25 (F := Ideal) x1 x2 x3 x5 : S256x2048.Idx → EReal) (tn 2048 E (embDP X Y G)) := by
  intro i
  rw [val_main_v25_apply]
  exact r_v18 T i

theorem r_v27 : T3 (val_main_v27 (F := Ideal) x1 x2 x3 x5 : S8x256x256.Idx → EReal) (fun j r k => tn 2048 E (embDP X Y G) r (256 * j + k)) := by
  intro i
  rw [val_main_v27_apply, val_main_v26_apply, r_v25 T _]
  have h0 : (i 0 : Fin 8).val < 8 := (i 0 : Fin 8).isLt
  have h1 : (i 1 : Fin 256).val < 256 := (i 1 : Fin 256).isLt
  have h2 : (i 2 : Fin 256).val < 256 := (i 2 : Fin 256).isLt
  show tn 2048 E (embDP X Y G) ((((i 1 : Fin 256).val * 8 + (i 0 : Fin 8).val) * 256 + (i 2 : Fin 256).val) / 2048) ((((i 1 : Fin 256).val * 8 + (i 0 : Fin 8).val) * 256 + (i 2 : Fin 256).val) % 2048) = _
  rw [show (((i 1 : Fin 256).val * 8 + (i 0 : Fin 8).val) * 256 + (i 2 : Fin 256).val) / 2048 = (i 1 : Fin 256).val by omega,
    show (((i 1 : Fin 256).val * 8 + (i 0 : Fin 8).val) * 256 + (i 2 : Fin 256).val) % 2048 = 256 * (i 0 : Fin 8).val + (i 2 : Fin 256).val by omega]

theorem r_v28 : T2 (val_main_v28 (F := Ideal) x1 x2 x3 x4 x5 : S2048x2048.Idx → EReal) (tn 2048 X (embDZ X E Y B G)) := by
  intro i
  rw [val_main_v28_apply]
  exact r_v21 T i

theorem r_v29 : T3 (val_main_v29 (F := Ideal) x1 x2 x3 x4 x5 : S8x256x2048.Idx → EReal) (fun j r k => tn 2048 X (embDZ X E Y B G) (256 * j + r) k) := by
  intro i
  rw [val_main_v29_apply, r_v28 T _]
  have h0 : (i 0 : Fin 8).val < 8 := (i 0 : Fin 8).isLt
  have h1 : (i 1 : Fin 256).val < 256 := (i 1 : Fin 256).isLt
  have h2 : (i 2 : Fin 2048).val < 2048 := (i 2 : Fin 2048).isLt
  show tn 2048 X (embDZ X E Y B G) ((((i 0 : Fin 8).val * 256 + (i 1 : Fin 256).val) * 2048 + (i 2 : Fin 2048).val) / 2048) ((((i 0 : Fin 8).val * 256 + (i 1 : Fin 256).val) * 2048 + (i 2 : Fin 2048).val) % 2048) = _
  rw [show (((i 0 : Fin 8).val * 256 + (i 1 : Fin 256).val) * 2048 + (i 2 : Fin 2048).val) / 2048 = 256 * (i 0 : Fin 8).val + (i 1 : Fin 256).val by omega,
    show (((i 0 : Fin 8).val * 256 + (i 1 : Fin 256).val) * 2048 + (i 2 : Fin 2048).val) % 2048 = (i 2 : Fin 2048).val by omega]

end Cert.Emb

namespace Cert.Proof

open Cert.Ffn Cert.Emb Cert.Reference7Ideal.Read Cert.Kernel7Ideal.Gen
open Idealize.ShloMosaic Idealize.SL.Sem

theorem preserves7 : Cert.preserves_Kernel7_Kernel7Ideal := trivial

theorem algebraic7 : Cert.algebraic_Kernel7Ideal_Reference7Ideal := by
  intro m ρ m' ρ' _ agree
  refine ⟨_, _, _, _, _, _, _, _, Cert.Kernel7Ideal.Value.run (F := Ideal) m ρ,
    (θ_run Cert.Reference7Ideal.defs _ _).mono (fun r h c => ?_) (Cert.Reference7Ideal.Value.run (F := Ideal) m' ρ')⟩
  obtain ⟨g0, g1, g2, g3, g4, g5⟩ := agree c
  obtain ⟨e0, e1, e2, e3, e4, e5, e6, e7, ha⟩ := h c
  have H : Holds m c _ _ _ _ _ _ := ⟨etab_eq _, etab_eq _, etab_eq _, etab_eq _, etab_eq _, etab_eq _⟩
  have T : Cert.Emb.Tables _ _ _ _ _ _ _ _ _ _ _ _ :=
    ⟨like g0 H.a0, like g1 H.a1, like g2 H.a2, like g3 H.a3, like g4 H.a4, like g5 H.a5⟩
  exact ⟨meet e0 (val_main_v12_eq (F := Ideal) ..) (r_v12 T) (v8_h H), meet e1 (val_main_v0_eq (F := Ideal) ..) (r_v0 T) (v8_z H),
    meet e2 (val_main_v1_eq (F := Ideal) ..) (r_v1 T) (v8_q H), meet e3 (val_main_v23_eq (F := Ideal) ..) (r_v23 T) (v8_dp H),
    meet e4 (val_main_v24_eq (F := Ideal) ..) (r_v24 T) (v8_dz H), meet e5 (val_main_v27_eq (F := Ideal) ..) (r_v27 T) (v8_w H),
    meet e6 (val_main_v29_eq (F := Ideal) ..) (r_v29 T) (v8_s H), meet e7 (val_main_v22_eq (F := Ideal) ..) (r_v22 T) (v8_x H), ha⟩

end Cert.Proof

end
-- ==== Proof.ProjVal.lean ====
/- The calls of the input projection: what each grid point stores, what the calls read and leave in their arrays, and what the
   program leaves in its results, in terms of the arguments' tables.  The columns that the calls add are zeros. -/
module

public import proofs.«01_k».proof.Proof.FfnBlocks
public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Ffn

open Idealize.ShloMosaic

/-- A table with 504 columns of zeros put in before the column 3080. -/
def padC (f : ℕ → ℕ → EReal) (r a : ℕ) : EReal := if a < 3080 then f r a else if a < 3584 then 0 else f r (a - 504)

/-- Where the columns of the unpadded table went. -/
def spread (a : ℕ) : ℕ := if a < 3080 then a else a + 504

theorem padC_spread (f : ℕ → ℕ → EReal) (r a : ℕ) : padC f r (spread a) = f r a := by
  unfold padC spread
  by_cases h : a < 3080
  · simp [h]
  · rw [if_neg h, if_neg (by omega), if_neg (by omega), Nat.add_sub_cancel]

/-- The rows' products with padded rows are the padded products. -/
theorem nt_pad (X W : ℕ → ℕ → EReal) (r a : ℕ) : nt 2048 X (fun a k => padC W k a) r a = padC (nn 2048 X W) r a := by
  unfold nt padC nn
  by_cases h : a < 3080
  · simp only [h, if_true]
  · by_cases h' : a < 3584
    · simp only [h, h', if_true, if_false, mul_zero, Finset.sum_const_zero]
    · simp only [h, h', if_false]

/-- A padded column's product is the product of the column it holds. -/
theorem tn_pad (G X : ℕ → ℕ → EReal) (a k : ℕ) : tn 2048 (padC G) X (spread a) k = tn 2048 G X a k := by
  unfold tn
  simp only [padC_spread]

/-- The zeros add nothing to the products over the padded axis. -/
theorem nn_pad (G W : ℕ → ℕ → EReal) (r k : ℕ) : nn 5120 (padC G) (fun a k => padC W k a) r k = nt 4616 G W r k := by
  unfold nn nt
  rw [Fin.sum_univ_eq_sum_range (fun a => padC G r a * padC W k a) 5120, Fin.sum_univ_eq_sum_range (fun a => G r a * W k a) 4616,
    show 5120 = 3080 + (504 + 1536) from rfl, show 4616 = 3080 + 1536 from rfl, Finset.sum_range_add, Finset.sum_range_add, Finset.sum_range_add]
  refine congrArg₂ (· + ·) (Finset.sum_congr rfl fun a ha => ?_) ?_
  · have ha := Finset.mem_range.mp ha
    simp only [padC, ha, if_true]
  · rw [Finset.sum_eq_zero (fun a ha => ?_), zero_add]
    · refine Finset.sum_congr rfl fun a _ => ?_
      rw [padC, padC, if_neg (by omega), if_neg (by omega), if_neg (by omega), if_neg (by omega), show 3080 + (504 + a) - 504 = 3080 + a by omega]
    · have ha := Finset.mem_range.mp ha
      rw [padC, if_neg (by omega), if_pos (by omega), zero_mul]

section
variable {f : ℕ → ℕ → EReal}

/-- The pieces of a padded table side by side. -/
theorem join_cols {p : (⟨2, ![2048, 3080]⟩ : Shape).Idx → EReal} {z : (⟨2, ![2048, 504]⟩ : Shape).Idx → EReal} {q : (⟨2, ![2048, 1536]⟩ : Shape).Idx → EReal}
    (hp : T2 p f) (hz : ∀ i, z i = 0) (hq : T2 q fun r a => f r (3080 + a))
    (H : Shape.Concatenates [⟨2, ![2048, 3080]⟩, ⟨2, ![2048, 504]⟩, ⟨2, ![2048, 1536]⟩] ⟨2, ![2048, 5120]⟩ 1) :
    T2 (concatenate ⟨2, ![2048, 5120]⟩ 1 [⟨_, p⟩, ⟨_, z⟩, ⟨_, q⟩] H) (padC f) := by
  intro i
  pointwise
  simp only [hp _, hz _, hq _, padC]
  by_cases h : (i 1 : Fin 5120).val < 3080
  · rw [dif_pos h, if_pos h]; rfl
  · rw [dif_neg h, if_neg h]
    by_cases h' : (i 1 : Fin 5120).val < 3584
    · rw [dif_pos (by omega), if_pos h']
    · rw [dif_neg (by omega), if_neg h']
      show f _ (3080 + ((i 1 : Fin 5120).val - 3080 - 504)) = _
      rw [show 3080 + ((i 1 : Fin 5120).val - 3080 - 504) = (i 1 : Fin 5120).val - 504 by omega]
      rfl

/-- The same one above the other. -/
theorem join_rows {p : (⟨2, ![3080, 2048]⟩ : Shape).Idx → EReal} {z : (⟨2, ![504, 2048]⟩ : Shape).Idx → EReal} {q : (⟨2, ![1536, 2048]⟩ : Shape).Idx → EReal}
    (hp : T2 p fun a k => f k a) (hz : ∀ i, z i = 0) (hq : T2 q fun a k => f k (3080 + a))
    (H : Shape.Concatenates [⟨2, ![3080, 2048]⟩, ⟨2, ![504, 2048]⟩, ⟨2, ![1536, 2048]⟩] ⟨2, ![5120, 2048]⟩ 0) :
    T2 (concatenate ⟨2, ![5120, 2048]⟩ 0 [⟨_, p⟩, ⟨_, z⟩, ⟨_, q⟩] H) (fun a k => padC f k a) := by
  intro i
  pointwise
  simp only [hp _, hz _, hq _, padC]
  by_cases h : (i 0 : Fin 5120).val < 3080
  · rw [dif_pos h, if_pos h]; rfl
  · rw [dif_neg h, if_neg h]
    by_cases h' : (i 0 : Fin 5120).val < 3584
    · rw [dif_pos (by omega), if_pos h']
    · rw [dif_neg (by omega), if_neg h']
      show f _ (3080 + ((i 0 : Fin 5120).val - 3080 - 504)) = _
      rw [show 3080 + ((i 0 : Fin 5120).val - 3080 - 504) = (i 0 : Fin 5120).val - 504 by omega]
      rfl

/-- The rows of a padded table without the padding. -/
theorem join_back {p : (⟨2, ![3080, 2048]⟩ : Shape).Idx → EReal} {q : (⟨2, ![1536, 2048]⟩ : Shape).Idx → EReal}
    (hp : T2 p f) (hq : T2 q fun a k => f (3584 + a) k)
    (H : Shape.Concatenates [⟨2, ![3080, 2048]⟩, ⟨2, ![1536, 2048]⟩] ⟨2, ![4616, 2048]⟩ 0) :
    T2 (concatenate ⟨2, ![4616, 2048]⟩ 0 [⟨_, p⟩, ⟨_, q⟩] H) (fun a k => f (spread a) k) := by
  intro i
  pointwise
  simp only [hp _, hq _, spread]
  by_cases h : (i 0 : Fin 4616).val < 3080
  · rw [dif_pos h, if_pos h]; rfl
  · rw [dif_neg h, if_neg h]
    show f (3584 + ((i 0 : Fin 4616).val - 3080)) _ = _
    rw [show 3584 + ((i 0 : Fin 4616).val - 3080) = (i 0 : Fin 4616).val + 504 by omega]
    rfl

end

end Cert.Ffn

namespace Cert.Kernel6Ideal.Gen

open Idealize.ShloMosaic Idealize.ShloMosaic.TcCoe Idealize.ShloMosaic.Tactic Finset Cert.Ffn
open Cert.Kernel2Ideal.Gen (off2 off3 word_zero word_one)

/-! ## One grid point of each call -/

variable {A B : ℕ → ℕ → EReal}

theorem out_0_2 {x0 : Vec Ideal S2048x2048 .bf16} {x1 : Vec Ideal S512x2048 .bf16} (h0 : T2 x0 A) (h1 : T2 x1 B) : T2 (out0_2 x0 x1) (nt 2048 A B) := by
  intro i
  rw [out0_2, View.canon_unit_zero off2, View.ld_unit_zero off2, View.ld_unit_zero off2]
  pointwise [k0_pay1]
  simp only [h0 _, h1 _]
  rfl

theorem out_1_2 {x0 : Vec Ideal S2048x512 .bf16} {x1 : Vec Ideal S2048x2048 .bf16} (h0 : T2 x0 A) (h1 : T2 x1 B) : T2 (out1_2 x0 x1) (tn 2048 A B) := by
  intro i
  rw [out1_2, View.canon_unit_zero off2, View.ld_unit_zero off2, View.ld_unit_zero off2]
  pointwise [k1_pay1]
  simp only [h0 _, h1 _]
  rfl

theorem out_2_2 {x0 : Vec Ideal S512x5120 .bf16} {x1 : Vec Ideal S5120x512 .bf16} (h0 : T2 x0 A) (h1 : T2 x1 B) : T2 (out2_2 x0 x1) (nn 5120 A B) := by
  intro i
  rw [out2_2, View.canon_unit_zero off2, View.ld_unit_zero off2, View.ld_unit_zero off2]
  pointwise [k2_pay1]
  simp only [h0 _, h1 _]
  rfl

/-! ## Which part of an array a grid point's block is -/

section
variable {X : ℕ → ℕ → EReal} {Z : ℕ → ℕ → ℕ → EReal}

theorem all {A : S2048x2048.Idx → EReal} (h : T2 A X) (t : Fin grid0.N) : T2 (fun i : S2048x2048.Idx => A ((win0_0.blk t).view.emb i)) X :=
  have e : ∀ t : Fin grid0.N, win0_0.index t 0 = 0 ∧ win0_0.index t 1 = 0 := by decide +kernel
  at2 h (win0_0.blk t).view.emb id id (fun i => by blk_simp [(e t).1]; simp) (fun i => by blk_simp [(e t).2]; simp)

theorem rows {A : S5120x2048.Idx → EReal} (h : T2 A X) (t : Fin grid0.N) :
    T2 (fun i : S512x2048.Idx => A ((win0_1.blk t).view.emb i)) fun r k => X (512 * t.val + r) k :=
  have e : ∀ t : Fin grid0.N, win0_1.index t 0 = t.val ∧ win0_1.index t 1 = 0 := by decide +kernel
  at2 h (win0_1.blk t).view.emb (512 * t.val + ·) id (fun i => by blk_simp [(e t).1]; omega) (fun i => by blk_simp [(e t).2]; simp)

theorem cols {A : S2048x5120.Idx → EReal} (h : T2 A X) (t : Fin grid0.N) :
    T2 (fun i : S2048x512.Idx => A ((win0_2.blk t).view.emb i)) fun r k => X r (512 * t.val + k) :=
  have e : ∀ t : Fin grid0.N, win0_2.index t 0 = 0 ∧ win0_2.index t 1 = t.val := by decide +kernel
  at2 h (win0_2.blk t).view.emb id (512 * t.val + ·) (fun i => by blk_simp [(e t).1]; simp) (fun i => by blk_simp [(e t).2]; omega)

theorem rows2 {A : S2048x5120.Idx → EReal} (h : T2 A X) (t : Fin grid2.N) :
    T2 (fun i : S512x5120.Idx => A ((win2_0.blk t).view.emb i)) fun r k => X (512 * (t.val / 4) + r) k :=
  have e : ∀ t : Fin grid2.N, win2_0.index t 0 = t.val / 4 ∧ win2_0.index t 1 = 0 := by decide +kernel
  at2 h (win2_0.blk t).view.emb (512 * (t.val / 4) + ·) id (fun i => by blk_simp [(e t).1]; omega) (fun i => by blk_simp [(e t).2]; simp)

theorem cols2 {A : S5120x2048.Idx → EReal} (h : T2 A X) (t : Fin grid2.N) :
    T2 (fun i : S5120x512.Idx => A ((win2_1.blk t).view.emb i)) fun r k => X r (512 * (t.val % 4) + k) :=
  have e : ∀ t : Fin grid2.N, win2_1.index t 0 = 0 ∧ win2_1.index t 1 = t.val % 4 := by decide +kernel
  at2 h (win2_1.blk t).view.emb id (512 * (t.val % 4) + ·) (fun i => by blk_simp [(e t).1]; simp) (fun i => by blk_simp [(e t).2]; omega)

theorem tile2 {A : S2048x2048.Idx → EReal} (h : T2 A X) (t : Fin grid2.N) :
    T2 (fun i : S512x512.Idx => A ((win2_2.blk t).view.emb i)) fun r k => X (512 * (t.val / 4) + r) (512 * (t.val % 4) + k) :=
  have e : ∀ t : Fin grid2.N, win2_2.index t 0 = t.val / 4 ∧ win2_2.index t 1 = t.val % 4 := by decide +kernel
  at2 h (win2_2.blk t).view.emb (512 * (t.val / 4) + ·) (512 * (t.val % 4) + ·) (fun i => by blk_simp [(e t).1]; omega)
    (fun i => by blk_simp [(e t).2]; omega)

theorem rows1 {A : S5120x2048.Idx → EReal} (h : T2 A X) (t : Fin grid1.N) :
    T2 (fun i : S512x2048.Idx => A ((win1_2.blk t).view.emb i)) fun r k => X (512 * t.val + r) k :=
  have e : ∀ t : Fin grid1.N, win1_2.index t 0 = t.val ∧ win1_2.index t 1 = 0 := by decide +kernel
  at2 h (win1_2.blk t).view.emb (512 * t.val + ·) id (fun i => by blk_simp [(e t).1]; omega) (fun i => by blk_simp [(e t).2]; simp)

theorem cols1 {A : S2048x5120.Idx → EReal} (h : T2 A X) (t : Fin grid1.N) :
    T2 (fun i : S2048x512.Idx => A ((win1_0.blk t).view.emb i)) fun r k => X r (512 * t.val + k) :=
  have e : ∀ t : Fin grid1.N, win1_0.index t 0 = 0 ∧ win1_0.index t 1 = t.val := by decide +kernel
  at2 h (win1_0.blk t).view.emb id (512 * t.val + ·) (fun i => by blk_simp [(e t).1]; simp) (fun i => by blk_simp [(e t).2]; omega)

theorem all1 {A : S2048x2048.Idx → EReal} (h : T2 A X) (t : Fin grid1.N) : T2 (fun i : S2048x2048.Idx => A ((win1_1.blk t).view.emb i)) X :=
  have e : ∀ t : Fin grid1.N, win1_1.index t 0 = 0 ∧ win1_1.index t 1 = 0 := by decide +kernel
  at2 h (win1_1.blk t).view.emb id id (fun i => by blk_simp [(e t).1]; simp) (fun i => by blk_simp [(e t).2]; simp)

variable (V : (c : Dev nD) → (b : Ref sig .tc) → Buf (Elt Ideal) ((c : Thread nD τ).loc b)) (c : Dev nD)

theorem arr0_2 (h : ∀ t : Fin cfg0.N, T2 ((dat0 V c).after 2 t : S2048x512.Idx → EReal) (fun r k => X r (512 * t.val + k))) :
    T2 ((dat0 V c).arrAt 2 cfg0.N : S2048x5120.Idx → EReal) X :=
  fun i => congrFun ((dat0 V c).arrAt_eq_of_covers 2 (full2 X) (by decide +kernel) fun t _ y => (h t y).trans (cols (fun _ => rfl) t y).symm) i

theorem arr1_2 (h : ∀ t : Fin cfg1.N, T2 ((dat1 V c).after 2 t : S512x2048.Idx → EReal) (fun r k => X (512 * t.val + r) k)) :
    T2 ((dat1 V c).arrAt 2 cfg1.N : S5120x2048.Idx → EReal) X :=
  fun i => congrFun ((dat1 V c).arrAt_eq_of_covers 2 (full2 X) (by decide +kernel) fun t _ y => (h t y).trans (rows1 (fun _ => rfl) t y).symm) i

theorem arr2_2 (h : ∀ t : Fin cfg2.N, T2 ((dat2 V c).after 2 t : S512x512.Idx → EReal) (fun r k => X (512 * (t.val / 4) + r) (512 * (t.val % 4) + k))) :
    T2 ((dat2 V c).arrAt 2 cfg2.N : S2048x2048.Idx → EReal) X :=
  fun i => congrFun ((dat2 V c).arrAt_eq_of_covers 2 (full2 X) (by decide +kernel) fun t _ y => (h t y).trans (tile2 (fun _ => rfl) t y).symm) i

end

/-! ## The host lines -/

theorem zeros_w (i : S504x2048.Idx) : (broadcastInDim S504x2048 ![] bcast_S_S504x2048 (constant (F := Ideal) S_ .bf16 0x0000#16) : S504x2048.Idx → EReal) i = 0 := by
  pointwise
theorem zeros_g (i : S2048x504.Idx) : (broadcastInDim S2048x504 ![] bcast_S_S2048x504 (constant (F := Ideal) S_ .bf16 0x0000#16) : S2048x504.Idx → EReal) i = 0 := by
  pointwise

theorem gather_at {y : S8x577x2048.Idx → EReal} {f : ℕ → ℕ → EReal} (h : T3 y fun j r k => f (577 * j + r) k) :
    T2 (shapeCast S4616x2048 y shapeCasts_S8x577x2048_S4616x2048 : S4616x2048.Idx → EReal) f := by
  intro i
  have h0 : (i 0 : Fin 4616).val < 4616 := (i 0 : Fin 4616).isLt
  refine (shapeCast_apply _ shapeCasts_S8x577x2048_S4616x2048 i (ix3 (⟨(i 0 : Fin 4616).val / 577, by omega⟩ : Fin 8) (⟨(i 0 : Fin 4616).val % 577, by omega⟩ : Fin 577) (i 1 : Fin 2048)) ?_).trans ((h _).trans ?_)
  · rw [Shape.rowMajor_val_two, Shape.rowMajor_val_three]
    show ((i 0 : Fin 4616).val / 577 * 577 + (i 0 : Fin 4616).val % 577) * 2048 + (i 1 : Fin 2048).val = (i 0 : Fin 4616).val * 2048 + (i 1 : Fin 2048).val
    rw [Nat.div_add_mod']
  · show f (577 * ((i 0 : Fin 4616).val / 577) + (i 0 : Fin 4616).val % 577) _ = _
    rw [Nat.div_add_mod]
    rfl

section
variable (m : (ℓ : Loc nD τ sig) → Buf (Elt Ideal) ℓ) (ρ : Dev nD → PrngReg) (c : Dev nD)

/-- The projection's weight as the calls read it, of its array as launched. -/
def weightArr (x : S2048x4616.Idx → EReal) : S5120x2048.Idx → EReal :=
  let y : S4616x2048.Idx → EReal := shapeCast S4616x2048 (shapeCast S8x577x2048 (transpose S4616x2048 [1, 0] x transposes_S2048x4616_S4616x2048_1_0) shapeCasts_S4616x2048_S8x577x2048) shapeCasts_S8x577x2048_S4616x2048
  concatenate S5120x2048 0 [⟨S3080x2048, extractStridedSlice S3080x2048 ![0, 0] y slices_S4616x2048_S3080x2048_0_0⟩,
    ⟨S504x2048, broadcastInDim S504x2048 ![] bcast_S_S504x2048 (constant (F := Ideal) S_ .bf16 0x0000#16)⟩,
    ⟨S1536x2048, extractStridedSlice S1536x2048 ![3080, 0] y slices_S4616x2048_S1536x2048_3080_0⟩] concatenates_S3080x2048_S504x2048_S1536x2048_S5120x2048_d0

/-- The projection's gradient as the calls read it. -/
def gradArr (x : S2048x4616.Idx → EReal) : S2048x5120.Idx → EReal :=
  concatenate S2048x5120 1 [⟨S2048x3080, extractStridedSlice S2048x3080 ![0, 0] x slices_S2048x4616_S2048x3080_0_0⟩,
    ⟨S2048x504, broadcastInDim S2048x504 ![] bcast_S_S2048x504 (constant (F := Ideal) S_ .bf16 0x0000#16)⟩,
    ⟨S2048x1536, extractStridedSlice S2048x1536 ![0, 3080] x slices_S2048x4616_S2048x1536_0_3080⟩] concatenates_S2048x3080_S2048x504_S2048x1536_S2048x5120_d1

theorem weight_at {x : S2048x4616.Idx → EReal} {f : ℕ → ℕ → EReal} (h : T2 x f) : T2 (weightArr x) fun a k => padC f k a :=
  have h' := gather_at (f := fun a b => f b a) (shares2 (transp2 h transposes_S2048x4616_S4616x2048_1_0) rfl shapeCasts_S4616x2048_S8x577x2048)
  join_rows (part2 h' (by simp) _) zeros_w (part2 h' (by simp) _) concatenates_S3080x2048_S504x2048_S1536x2048_S5120x2048_d0

theorem grad_at {x : S2048x4616.Idx → EReal} {f : ℕ → ℕ → EReal} (h : T2 x f) : T2 (gradArr x) (padC f) :=
  join_cols (part2 h (by simp) _) zeros_g (part2 h (by simp) _) concatenates_S2048x3080_S2048x504_S2048x1536_S2048x5120_d1

theorem V1_v7 : V1 m ρ c main_v7 = weightArr (m ((c : Thread nD τ).loc main_arg1)) := by
  unfold V1 W1 hostOps0
  after_results_simp
  rfl
theorem V1_v8 : V1 m ρ c main_v8 = m ((c : Thread nD τ).loc main_arg0) := by
  unfold V1 W1 hostOps0
  after_results_simp
  rfl
theorem V1_v13 : V1 m ρ c main_v13 = gradArr (m ((c : Thread nD τ).loc main_arg2)) := by
  unfold V1 W1 hostOps0
  after_results_simp
  rfl
theorem V4_v19 : V4 m ρ c main_v19 = shapeCast S8x577x2048 (concatenate S4616x2048 0
      [⟨S3080x2048, (extractStridedSlice S3080x2048 ![0, 0] (V3 m ρ c main_v15) slices_S5120x2048_S3080x2048_0_0 : S3080x2048.Idx → EReal)⟩,
        ⟨S1536x2048, extractStridedSlice S1536x2048 ![3584, 0] (V3 m ρ c main_v15) slices_S5120x2048_S1536x2048_3584_0⟩]
      concatenates_S3080x2048_S1536x2048_S4616x2048_d0 : S4616x2048.Idx → EReal) shapeCasts_S4616x2048_S8x577x2048 := by
  unfold V4 W4 hostOps2
  after_results_simp
  rfl

end

/-! ## The results -/

/-- The launch memory's arguments on core `c` hold these tables. -/
structure Holds (m : (ℓ : Loc nD τ sig) → Buf (Elt Ideal) ℓ) (c : Dev nD) (X W G : ℕ → ℕ → EReal) : Prop where
  a0 : T2 (m ((c : Thread nD τ).loc main_arg0) : S2048x2048.Idx → EReal) X
  a1 : T2 (m ((c : Thread nD τ).loc main_arg1) : S2048x4616.Idx → EReal) W
  a2 : T2 (m ((c : Thread nD τ).loc main_arg2) : S2048x4616.Idx → EReal) G

section
variable {m : (ℓ : Loc nD τ sig) → Buf (Elt Ideal) ℓ} {ρ : Dev nD → PrngReg} {c : Dev nD} {X W G : ℕ → ℕ → EReal}

variable (hm : Holds m c X W G)
include hm

theorem v1_v8 : T2 (V1 m ρ c main_v8 : S2048x2048.Idx → EReal) X := fun i =>
  (congrFun (V1_v8 m ρ c) i).trans (hm.a0 i)
theorem v1_v7 : T2 (V1 m ρ c main_v7 : S5120x2048.Idx → EReal) (fun a k => padC W k a) := fun i =>
  (congrFun (V1_v7 m ρ c) i).trans (weight_at hm.a1 i)
theorem v1_v13 : T2 (V1 m ρ c main_v13 : S2048x5120.Idx → EReal) (padC G) := fun i =>
  (congrFun (V1_v13 m ρ c) i).trans (grad_at hm.a2 i)

/-! The projection. -/

theorem v2_p : T2 (V2 m ρ c main_v14 : S2048x5120.Idx → EReal) (nt 2048 X (fun a k => padC W k a)) := fun i =>
  (congrFun (W2_arr m ρ c 2) i).trans (arr0_2 (V1 m ρ) c (X := nt 2048 X (fun a k => padC W k a)) (fun t => by
    rw [after0_2]
    exact out_0_2 (all (v1_v8 hm) t) (rows (v1_v7 hm) t)) i)
theorem v5_p : T2 (W5 m ρ c (Proc.devRef .tc main_v14) : S2048x5120.Idx → EReal) (nt 2048 X (fun a k => padC W k a)) := fun i =>
  (congrFun ((W5_of m ρ c main_v14 (by decide)).trans ((W4_of m ρ c main_v14 (by decide)).trans (W3_of m ρ c main_v14 (by decide)))) i).trans (v2_p hm i)
theorem v2_v8 : T2 (V2 m ρ c main_v8 : S2048x2048.Idx → EReal) (X) := fun i =>
  (congrFun (W2_of m ρ c main_v8 (by decide)) i).trans (v1_v8 hm i)
theorem v2_v13 : T2 (V2 m ρ c main_v13 : S2048x5120.Idx → EReal) (padC G) := fun i =>
  (congrFun (W2_of m ρ c main_v13 (by decide)) i).trans (v1_v13 hm i)
theorem v4_v13 : T2 (V4 m ρ c main_v13 : S2048x5120.Idx → EReal) (padC G) := fun i =>
  (congrFun ((W4_of m ρ c main_v13 (by decide)).trans (W3_of m ρ c main_v13 (by decide))) i).trans (v2_v13 hm i)
theorem v4_v7 : T2 (V4 m ρ c main_v7 : S5120x2048.Idx → EReal) (fun a k => padC W k a) := fun i =>
  (congrFun ((W4_of m ρ c main_v7 (by decide)).trans ((W3_of m ρ c main_v7 (by decide)).trans (W2_of m ρ c main_v7 (by decide)))) i).trans (v1_v7 hm i)

/-! The weight's gradient and the input's. -/

theorem v3_w : T2 (V3 m ρ c main_v15 : S5120x2048.Idx → EReal) (tn 2048 (padC G) X) := fun i =>
  (congrFun (W3_arr m ρ c 2) i).trans (arr1_2 (V2 m ρ) c (X := tn 2048 (padC G) X) (fun t => by
    rw [after1_2]
    exact out_1_2 (cols1 (v2_v13 hm) t) (all1 (v2_v8 hm) t)) i)
theorem v4_s : T3 (V4 m ρ c main_v19 : S8x577x2048.Idx → EReal) (fun j r k => tn 2048 G X (577 * j + r) k) := fun i =>
  (congrFun (V4_v19 m ρ c) i).trans ((shares2 (join_back (part2 (v3_w hm) (by simp) _) (part2 (v3_w hm) (by simp) _) concatenates_S3080x2048_S1536x2048_S4616x2048_d0) rfl _ i).trans (tn_pad _ _ _ _))
theorem v5_s : T3 (W5 m ρ c (Proc.devRef .tc main_v19) : S8x577x2048.Idx → EReal) (fun j r k => tn 2048 G X (577 * j + r) k) := fun i =>
  (congrFun (W5_of m ρ c main_v19 (by decide)) i).trans (v4_s hm i)
theorem v5_x : T2 (W5 m ρ c (Proc.devRef .tc main_v20) : S2048x2048.Idx → EReal) (nn 5120 (padC G) (fun a k => padC W k a)) := fun i =>
  (congrFun (W5_arr m ρ c 2) i).trans (arr2_2 (V4 m ρ) c (X := nn 5120 (padC G) (fun a k => padC W k a)) (fun t => by
    rw [after2_2]
    exact out_2_2 (rows2 (v4_v13 hm) t) (cols2 (v4_v7 hm) t)) i)

theorem w5_p : T2 (W5 m ρ c (Proc.devRef .tc main_v14) : S2048x5120.Idx → EReal) (padC (nn 2048 X W)) := fun i =>
  (v5_p hm i).trans (nt_pad _ _ _ _)
theorem w5_x : T2 (W5 m ρ c (Proc.devRef .tc main_v20) : S2048x2048.Idx → EReal) (nt 4616 G W) := fun i =>
  (v5_x hm i).trans (nn_pad _ _ _ _)

end

end Cert.Kernel6Ideal.Gen

end
-- ==== Proof.ProjRun.lean ====
/- The run of the program of the input projection and its gradients with its results: every fair execution ends with each result array at the
   contents that the last boundary of the program gives it, the arguments as launched. -/
module

public import proofs.«01_k».proof.Proof.RunEnds
public import proofs.«01_k».proof.Proof.Gen.Kernel6Ideal.Frame

@[expose] public section

set_option maxRecDepth 16384

noncomputable section

namespace Cert.Kernel6Ideal.Value

open Cert.Kernel6Ideal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The program is its segments in order; the final state is read against the last boundary's contents. -/
theorem run : θ_run defs (onTc (τ := τ) (main (F := F))) ⟨m, fun _ => 0, ρ⟩ (fun r => ∀ c : Dev nD,
      r.2.mem ((c.tc : Thread nD τ).loc main_v14) = W5 m ρ c (Proc.devRef .tc main_v14)
      ∧ r.2.mem ((c.tc : Thread nD τ).loc main_v19) = W5 m ρ c (Proc.devRef .tc main_v19)
      ∧ r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v14 (by decide)),
     h c _ (mem_uc main_v19 (by decide)),
     h c _ (mem_uc main_v20 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩)
    (Cert.RunEnds.run (pcfgs (F := F)) adm (pdats m ρ) cellOf_inj defs₀ m ρ main (segs m ρ) (main_run m ρ)
      (by simp only [segs, Pipeline.Seg.pipes_host, Pipeline.Seg.pipes_region, Pipeline.Seg.pipes_nil]; decide) (W5 m ρ)
      ⟨fun _ => .rfl, fun _ => .rfl, fun _ => .rfl, fun _ => .rfl, fun _ => .rfl, fun _ => .rfl⟩)

end Cert.Kernel6Ideal.Value

end
-- ==== Proof.ProjAlg.lean ====
/- The claims of the input projection: the three calls and the plain product with its gradients leave the same arrays. -/
module

public import proofs.«01_k».proof.Defs
public import proofs.«01_k».proof.Proof.FfnRef
public import proofs.«01_k».proof.Proof.ProjVal
public import proofs.«01_k».proof.Proof.ProjRun
public import proofs.«01_k».proof.Proof.Gen.Reference6Ideal.Read
public import proofs.«01_k».proof.Proof.Gen.Reference6Ideal.Run
public import Idealize.ShloMosaic.Lib.KernelVsHost

@[expose] public section

set_option maxRecDepth 16384

noncomputable section

namespace Cert.Proj

open Cert.Reference6Ideal Cert.Reference6Ideal.Read Cert.Ffn
open Cert.Kernel2Ideal.Gen (word_zero word_one)
open Idealize.ShloMosaic Finset

variable {x0 : FVec Ideal S2048x2048 .f32} {x1 : FVec Ideal S2048x4616 .f32} {x2 : FVec Ideal S2048x4616 .f32} {X W G : ℕ → ℕ → EReal}

/-- The arguments hold these tables. -/
structure Tables (x0 : FVec Ideal S2048x2048 .f32) (x1 : FVec Ideal S2048x4616 .f32) (x2 : FVec Ideal S2048x4616 .f32) (X W G : ℕ → ℕ → EReal) : Prop where
  a0 : T2 x0 X
  a1 : T2 x1 W
  a2 : T2 x2 G

variable (T : Tables x0 x1 x2 X W G)
include T

theorem r_v0 : T2 (val_main_v0 (F := Ideal) x0 x1 : S2048x4616.Idx → EReal) (nn 2048 X W) := by
  intro i
  rw [val_main_v0_apply]
  simp only [T.a0 _, T.a1 _]
  rfl

theorem r_v1 : T2 (val_main_v1 (F := Ideal) x0 x2 : S4616x2048.Idx → EReal) (tn 2048 G X) := by
  intro i
  rw [val_main_v1_apply]
  simp only [T.a0 _, T.a2 _]
  rfl

theorem r_v2 : T2 (val_main_v2 (F := Ideal) x0 x2 : S2048x4616.Idx → EReal) (tn 2048 X G) := by
  intro i
  rw [val_main_v2_apply, r_v1 T _]
  exact tn_comm _ _ _ _ _

theorem r_v3 : T2 (val_main_v3 (F := Ideal) x1 x2 : S2048x2048.Idx → EReal) (nt 4616 G W) := by
  intro i
  rw [val_main_v3_apply]
  simp only [T.a1 _, T.a2 _]
  rfl

omit T in
theorem r_v4 (i : S2048x504.Idx) : (val_main_v4 (F := Ideal) : S2048x504.Idx → EReal) i = 0 := by
  rw [val_main_v4_apply, val_main_cst_apply]
  exact word_zero

theorem r_v5 : T2 (val_main_v5 (F := Ideal) x0 x1 : S2048x3080.Idx → EReal) (nn 2048 X W) := by
  intro i
  rw [val_main_v5_apply, r_v0 T _]

theorem r_v6 : T2 (val_main_v6 (F := Ideal) x0 x1 : S2048x1536.Idx → EReal) (fun r a => nn 2048 X W r (3080 + a)) := by
  intro i
  rw [val_main_v6_apply, r_v0 T _]

theorem r_v7 : T2 (val_main_v7 (F := Ideal) x0 x1 : S2048x5120.Idx → EReal) (padC (nn 2048 X W)) :=
  join_cols (r_v5 T) r_v4 (r_v6 T) Cert.Reference6Ideal.Facts₀.concatenates_S2048x3080_S2048x504_S2048x1536_S2048x5120_d1

theorem r_v8 : T2 (val_main_v8 (F := Ideal) x0 x2 : S4616x2048.Idx → EReal) (tn 2048 G X) := by
  intro i
  rw [val_main_v8_apply, r_v2 T _]
  exact tn_comm _ _ _ _ _

theorem r_v9 : T2 (val_main_v9 (F := Ideal) x0 x2 : S4616x2048.Idx → EReal) (tn 2048 G X) := by
  intro i
  rw [val_main_v9_apply]
  exact r_v8 T i

theorem r_v10 : T3 (val_main_v10 (F := Ideal) x0 x2 : S8x577x2048.Idx → EReal) (fun j r k => tn 2048 G X (577 * j + r) k) := by
  intro i
  rw [val_main_v10_apply, r_v9 T _]
  have h0 : (i 0 : Fin 8).val < 8 := (i 0 : Fin 8).isLt
  have h1 : (i 1 : Fin 577).val < 577 := (i 1 : Fin 577).isLt
  have h2 : (i 2 : Fin 2048).val < 2048 := (i 2 : Fin 2048).isLt
  show tn 2048 G X ((((i 0 : Fin 8).val * 577 + (i 1 : Fin 577).val) * 2048 + (i 2 : Fin 2048).val) / 2048) ((((i 0 : Fin 8).val * 577 + (i 1 : Fin 577).val) * 2048 + (i 2 : Fin 2048).val) % 2048) = _
  rw [show (((i 0 : Fin 8).val * 577 + (i 1 : Fin 577).val) * 2048 + (i 2 : Fin 2048).val) / 2048 = 577 * (i 0 : Fin 8).val + (i 1 : Fin 577).val by omega,
    show (((i 0 : Fin 8).val * 577 + (i 1 : Fin 577).val) * 2048 + (i 2 : Fin 2048).val) % 2048 = (i 2 : Fin 2048).val by omega]

end Cert.Proj

namespace Cert.Proof

open Cert.Ffn Cert.Proj Cert.Reference6Ideal.Read Cert.Kernel6Ideal.Gen
open Idealize.ShloMosaic Idealize.SL.Sem

theorem preserves6 : Cert.preserves_Kernel6_Kernel6Ideal := trivial

theorem algebraic6 : Cert.algebraic_Kernel6Ideal_Reference6Ideal := by
  intro m ρ m' ρ' _ agree
  refine ⟨_, _, _, Cert.Kernel6Ideal.Value.run (F := Ideal) m ρ,
    (θ_run Cert.Reference6Ideal.defs _ _).mono (fun r h c => ?_) (Cert.Reference6Ideal.Value.run (F := Ideal) m' ρ')⟩
  obtain ⟨g0, g1, g2⟩ := agree c
  obtain ⟨e0, e1, e2, ha⟩ := h c
  have H : Holds m c _ _ _ := ⟨etab_eq _, etab_eq _, etab_eq _⟩
  have T : Cert.Proj.Tables _ _ _ _ _ _ := ⟨like g0 H.a0, like g1 H.a1, like g2 H.a2⟩
  exact ⟨meet e0 (val_main_v7_eq (F := Ideal) ..) (r_v7 T) (w5_p H), meet e1 (val_main_v10_eq (F := Ideal) ..) (r_v10 T) (v5_s H),
    meet e2 (val_main_v3_eq (F := Ideal) ..) (r_v3 T) (w5_x H), ha⟩

end Cert.Proof

end
-- ==== Proof.OutVal.lean ====
/- The calls of the mixers' output product: what each grid point stores, what the calls read and leave in their arrays, and what the
   program leaves in its results, in terms of the arguments' tables. -/
module

public import proofs.«01_k».proof.Proof.FfnBlocks
public import proofs.«01_k».proof.Proof.Gen.Kernel5Ideal.Frame
public import Idealize.ShloMosaic.Lib.Pipeline.ValueKit
public import Idealize.ShloMosaic.Lib.Pointwise

@[expose] public section

set_option maxRecDepth 16384

noncomputable section

namespace Cert.Kernel5Ideal.Gen

open Idealize.ShloMosaic Idealize.ShloMosaic.TcCoe Idealize.ShloMosaic.Tactic Finset Cert.Ffn
open Cert.Kernel2Ideal.Gen (off2 off3 word_zero word_one)

/-! ## One grid point of each call -/

variable {M W R G : ℕ → ℕ → EReal}

theorem out_0_3 {x0 : Vec Ideal S2048x2048 .bf16} {x1 : Vec Ideal S2048x512 .bf16} {x2 : Vec Ideal S2048x512 .f32} (h0 : T2 x0 M) (h1 : T2 x1 W)
    (h2 : T2 x2 R) : T2 (out0_3 x0 x1 x2) fun r f => nn 2048 M W r f + R r f := by
  intro i
  rw [out0_3, View.canon_unit_zero off2, View.ld_unit_zero off2, View.ld_unit_zero off2, View.ld_unit_zero off2]
  pointwise [k0_pay1]
  simp only [h0 _, h1 _, h2 _]
  rfl

theorem out_1_3 {x0 : Vec Ideal S2048x2048 .bf16} {x1 : Vec Ideal S512x2048 .bf16} {x2 : Vec Ideal S8x128 .f32} (h0 : T2 x0 G) (h1 : T2 x1 W) :
    T2 (out1_3 x0 x1 x2) (nt 2048 G W) := by
  intro i
  rw [out1_3, View.canon_unit_zero off2, View.ld_unit_zero off2, View.ld_unit_zero off2]
  pointwise [k1_pay1]
  simp only [h0 _, h1 _]
  rfl

theorem out_2_2 {x0 : Vec Ideal S2048x2048 .bf16} {x1 : Vec Ideal S2048x512 .bf16} (h0 : T2 x0 M) (h1 : T2 x1 G) :
    T2 (out2_2 x0 x1) (tn 2048 M G) := by
  intro i
  rw [out2_2, View.canon_unit_zero off2, View.ld_unit_zero off2, View.ld_unit_zero off2]
  pointwise [k2_pay1]
  simp only [h0 _, h1 _]
  rfl

/-! ## Which part of an array a grid point's block is -/

section
variable {X : ℕ → ℕ → EReal} {Z : ℕ → ℕ → ℕ → EReal}

theorem all {A : S2048x2048.Idx → EReal} (h : T2 A X) (t : Fin grid0.N) : T2 (fun i : S2048x2048.Idx => A ((win0_0.blk t).view.emb i)) X :=
  have e : ∀ t : Fin grid0.N, win0_0.index t 0 = 0 ∧ win0_0.index t 1 = 0 := by decide +kernel
  at2 h (win0_0.blk t).view.emb id id (fun i => by blk_simp [(e t).1]; simp) (fun i => by blk_simp [(e t).2]; simp)

theorem cols {A : S2048x2048.Idx → EReal} (h : T2 A X) (t : Fin grid0.N) :
    T2 (fun i : S2048x512.Idx => A ((win0_1.blk t).view.emb i)) fun r k => X r (512 * t.val + k) :=
  have e : ∀ t : Fin grid0.N, win0_1.index t 0 = 0 ∧ win0_1.index t 1 = t.val := by decide +kernel
  at2 h (win0_1.blk t).view.emb id (512 * t.val + ·) (fun i => by blk_simp [(e t).1]; simp) (fun i => by blk_simp [(e t).2]; omega)

theorem rows {A : S2048x2048.Idx → EReal} (h : T2 A X) (t : Fin grid1.N) :
    T2 (fun i : S512x2048.Idx => A ((win1_1.blk t).view.emb i)) fun r k => X (512 * t.val + r) k :=
  have e : ∀ t : Fin grid1.N, win1_1.index t 0 = t.val ∧ win1_1.index t 1 = 0 := by decide +kernel
  at2 h (win1_1.blk t).view.emb (512 * t.val + ·) id (fun i => by blk_simp [(e t).1]; omega) (fun i => by blk_simp [(e t).2]; simp)

theorem cols' {A : S2048x2048.Idx → EReal} (h : T2 A X) (t : Fin grid0.N) :
    T2 (fun i : S2048x512.Idx => A ((win0_2.blk t).view.emb i)) fun r k => X r (512 * t.val + k) :=
  have e : ∀ t : Fin grid0.N, win0_2.index t 0 = 0 ∧ win0_2.index t 1 = t.val := by decide +kernel
  at2 h (win0_2.blk t).view.emb id (512 * t.val + ·) (fun i => by blk_simp [(e t).1]; simp) (fun i => by blk_simp [(e t).2]; omega)

theorem all2 {A : S2048x2048.Idx → EReal} (h : T2 A X) (t : Fin grid2.N) : T2 (fun i : S2048x2048.Idx => A ((win2_0.blk t).view.emb i)) X :=
  have e : ∀ t : Fin grid2.N, win2_0.index t 0 = 0 ∧ win2_0.index t 1 = 0 := by decide +kernel
  at2 h (win2_0.blk t).view.emb id id (fun i => by blk_simp [(e t).1]; simp) (fun i => by blk_simp [(e t).2]; simp)

variable (V : (c : Dev nD) → (b : Ref sig .tc) → Buf (Elt Ideal) ((c : Thread nD τ).loc b)) (c : Dev nD)

theorem arr0_3 (h : ∀ t : Fin cfg0.N, T2 ((dat0 V c).after 3 t : S2048x512.Idx → EReal) (fun r k => X r (512 * t.val + k))) :
    T2 ((dat0 V c).arrAt 3 cfg0.N : S2048x2048.Idx → EReal) X :=
  fun i => congrFun ((dat0 V c).arrAt_eq_of_covers 3 (full2 X) (by decide +kernel) fun t _ y => (h t y).trans (cols' (fun _ => rfl) t y).symm) i

theorem arr1_3 (h : ∀ t : Fin cfg1.N, T2 ((dat1 V c).after 3 t : S2048x512.Idx → EReal) (fun r k => X r (512 * t.val + k))) :
    T2 ((dat1 V c).arrAt 3 cfg1.N : S2048x2048.Idx → EReal) X :=
  fun i => congrFun ((dat1 V c).arrAt_eq_of_covers 3 (full2 X) (by decide +kernel) fun t _ y => (h t y).trans (cols' (fun _ => rfl) t y).symm) i

theorem arr2_2 (h : ∀ t : Fin cfg2.N, T2 ((dat2 V c).after 2 t : S2048x512.Idx → EReal) (fun r k => X r (512 * t.val + k))) :
    T2 ((dat2 V c).arrAt 2 cfg2.N : S2048x2048.Idx → EReal) X :=
  fun i => congrFun ((dat2 V c).arrAt_eq_of_covers 2 (full2 X) (by decide +kernel) fun t _ y => (h t y).trans (cols' (fun _ => rfl) t y).symm) i

end

/-! ## The host lines -/

section
variable (m : (ℓ : Loc nD τ sig) → Buf (Elt Ideal) ℓ) (ρ : Dev nD → PrngReg) (c : Dev nD)

theorem V1_v0 : V1 m ρ c main_v0 = m ((c : Thread nD τ).loc main_arg1) := by
  unfold V1 W1 hostOps0
  after_results_simp
  rfl
theorem V1_v1 : V1 m ρ c main_v1 = m ((c : Thread nD τ).loc main_arg2) := by
  unfold V1 W1 hostOps0
  after_results_simp
  rfl
theorem V1_v2 : V1 m ρ c main_v2 = m ((c : Thread nD τ).loc main_arg3) := by
  unfold V1 W1 hostOps0
  after_results_simp
  rfl
theorem W6_v7 : W6 m ρ c (Proc.devRef .tc main_v7) = shapeCast S8x256x2048 (W5 m ρ c (Proc.devRef .tc main_v6)) shapeCasts_S2048x2048_S8x256x2048 := by
  unfold W6 hostOps3
  after_results_simp
  rfl

end

/-! ## The results -/

/-- The launch memory's arguments on core `c` hold these tables. -/
structure Holds (m : (ℓ : Loc nD τ sig) → Buf (Elt Ideal) ℓ) (c : Dev nD) (H M W G : ℕ → ℕ → EReal) : Prop where
  a0 : T2 (m ((c : Thread nD τ).loc main_arg0) : S2048x2048.Idx → EReal) H
  a1 : T2 (m ((c : Thread nD τ).loc main_arg1) : S2048x2048.Idx → EReal) M
  a2 : T2 (m ((c : Thread nD τ).loc main_arg2) : S2048x2048.Idx → EReal) W
  a3 : T2 (m ((c : Thread nD τ).loc main_arg3) : S2048x2048.Idx → EReal) G

section
variable {m : (ℓ : Loc nD τ sig) → Buf (Elt Ideal) ℓ} {ρ : Dev nD → PrngReg} {c : Dev nD} {H M W G : ℕ → ℕ → EReal}

variable (hm : Holds m c H M W G)
include hm

theorem v1_v0 : T2 (V1 m ρ c main_v0 : S2048x2048.Idx → EReal) M := fun i =>
  (congrFun (V1_v0 m ρ c) i).trans (hm.a1 i)
theorem v1_v1 : T2 (V1 m ρ c main_v1 : S2048x2048.Idx → EReal) W := fun i =>
  (congrFun (V1_v1 m ρ c) i).trans (hm.a2 i)
theorem v1_v2 : T2 (V1 m ρ c main_v2 : S2048x2048.Idx → EReal) G := fun i =>
  (congrFun (V1_v2 m ρ c) i).trans (hm.a3 i)
theorem v1_a0 : T2 (V1 m ρ c main_arg0 : S2048x2048.Idx → EReal) H := fun i =>
  (congrFun (W1_of m ρ c main_arg0 (by decide)) i).trans (hm.a0 i)

theorem v2_h : T2 (V2 m ρ c main_v3 : S2048x2048.Idx → EReal) (fun r f => nn 2048 M W r f + H r f) := fun i =>
  (congrFun (W2_arr m ρ c 3) i).trans (arr0_3 (V1 m ρ) c (X := fun r f => nn 2048 M W r f + H r f) (fun t => by
    rw [after0_3]
    exact out_0_3 (all (v1_v0 hm) t) (cols (v1_v1 hm) t) (cols' (v1_a0 hm) t)) i)
theorem v3_v1 : T2 (V3 m ρ c main_v1 : S2048x2048.Idx → EReal) (W) := fun i =>
  (congrFun ((W3_of m ρ c main_v1 (by decide)).trans (W2_of m ρ c main_v1 (by decide))) i).trans (v1_v1 hm i)
theorem v3_v2 : T2 (V3 m ρ c main_v2 : S2048x2048.Idx → EReal) (G) := fun i =>
  (congrFun ((W3_of m ρ c main_v2 (by decide)).trans (W2_of m ρ c main_v2 (by decide))) i).trans (v1_v2 hm i)
theorem v4_v2 : T2 (V4 m ρ c main_v2 : S2048x2048.Idx → EReal) (G) := fun i =>
  (congrFun (W4_of m ρ c main_v2 (by decide)) i).trans (v3_v2 hm i)
theorem v4_v0 : T2 (V4 m ρ c main_v0 : S2048x2048.Idx → EReal) (M) := fun i =>
  (congrFun ((W4_of m ρ c main_v0 (by decide)).trans ((W3_of m ρ c main_v0 (by decide)).trans (W2_of m ρ c main_v0 (by decide)))) i).trans (v1_v0 hm i)
theorem v4_d : T2 (V4 m ρ c main_v5 : S2048x2048.Idx → EReal) (nt 2048 G W) := fun i =>
  (congrFun (W4_arr m ρ c 3) i).trans (arr1_3 (V3 m ρ) c (X := nt 2048 G W) (fun t => by
    rw [after1_3]
    exact out_1_3 (all (v3_v2 hm) t) (rows (v3_v1 hm) t)) i)
theorem v5_w : T2 (V5 m ρ c main_v6 : S2048x2048.Idx → EReal) (tn 2048 M G) := fun i =>
  (congrFun (W5_arr m ρ c 2) i).trans (arr2_2 (V4 m ρ) c (X := tn 2048 M G) (fun t => by
    rw [after2_2]
    exact out_2_2 (all2 (v4_v0 hm) t) (cols (v4_v2 hm) t)) i)
theorem v6_h : T2 (W6 m ρ c (Proc.devRef .tc main_v3) : S2048x2048.Idx → EReal) (fun r f => nn 2048 M W r f + H r f) := fun i =>
  (congrFun ((W6_of m ρ c main_v3 (by decide)).trans ((W5_of m ρ c main_v3 (by decide)).trans ((W4_of m ρ c main_v3 (by decide)).trans (W3_of m ρ c main_v3 (by decide))))) i).trans (v2_h hm i)
theorem v6_d : T2 (W6 m ρ c (Proc.devRef .tc main_v5) : S2048x2048.Idx → EReal) (nt 2048 G W) := fun i =>
  (congrFun ((W6_of m ρ c main_v5 (by decide)).trans (W5_of m ρ c main_v5 (by decide))) i).trans (v4_d hm i)
theorem v6_w : T3 (W6 m ρ c (Proc.devRef .tc main_v7) : S8x256x2048.Idx → EReal) (fun j r k => tn 2048 M G (256 * j + r) k) := fun i =>
  (congrFun (W6_v7 m ρ c) i).trans (shares2 (v5_w hm) rfl _ i)

end

end Cert.Kernel5Ideal.Gen

end
-- ==== Proof.OutRun.lean ====
/- The run of the program of the mixers' output product and its two gradients with its results: every fair execution ends with each result array at the
   contents that the last boundary of the program gives it, the arguments as launched. -/
module

public import proofs.«01_k».proof.Proof.RunEnds
public import proofs.«01_k».proof.Proof.Gen.Kernel5Ideal.Frame

@[expose] public section

set_option maxRecDepth 16384

noncomputable section

namespace Cert.Kernel5Ideal.Value

open Cert.Kernel5Ideal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The program is its segments in order; the final state is read against the last boundary's contents. -/
theorem run : θ_run defs (onTc (τ := τ) (main (F := F))) ⟨m, fun _ => 0, ρ⟩ (fun r => ∀ c : Dev nD,
      r.2.mem ((c.tc : Thread nD τ).loc main_v3) = W6 m ρ c (Proc.devRef .tc main_v3)
      ∧ r.2.mem ((c.tc : Thread nD τ).loc main_v5) = W6 m ρ c (Proc.devRef .tc main_v5)
      ∧ r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v3 (by decide)),
     h c _ (mem_uc main_v5 (by decide)),
     h c _ (mem_uc main_v7 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩)
    (Cert.RunEnds.run (pcfgs (F := F)) adm (pdats m ρ) cellOf_inj defs₀ m ρ main (segs m ρ) (main_run m ρ)
      (by simp only [segs, Pipeline.Seg.pipes_host, Pipeline.Seg.pipes_region, Pipeline.Seg.pipes_nil]; decide) (W6 m ρ)
      ⟨fun _ => .rfl, fun _ => .rfl, fun _ => .rfl, fun _ => .rfl, fun _ => .rfl, fun _ => .rfl, Cert.RunEnds.last (W6 m ρ)⟩)

end Cert.Kernel5Ideal.Value

end
-- ==== Proof.OutAlg.lean ====
/- The claims of the mixers' output product: the three calls and the plain product with its gradients leave the same arrays. -/
module

public import proofs.«01_k».proof.Defs
public import proofs.«01_k».proof.Proof.FfnRef
public import proofs.«01_k».proof.Proof.OutVal
public import proofs.«01_k».proof.Proof.OutRun
public import proofs.«01_k».proof.Proof.Gen.Reference5Ideal.Read
public import proofs.«01_k».proof.Proof.Gen.Reference5Ideal.Run
public import Idealize.ShloMosaic.Lib.KernelVsHost

@[expose] public section

set_option maxRecDepth 16384

noncomputable section

namespace Cert.Out

open Cert.Reference5Ideal Cert.Reference5Ideal.Read Cert.Ffn
open Cert.Kernel2Ideal.Gen (word_zero word_one)
open Idealize.ShloMosaic Finset

variable {x0 : FVec Ideal S2048x2048 .f32} {x1 : FVec Ideal S2048x2048 .f32} {x2 : FVec Ideal S2048x2048 .f32} {x3 : FVec Ideal S2048x2048 .f32} {H M W G : ℕ → ℕ → EReal}

/-- The arguments hold these tables. -/
structure Tables (x0 : FVec Ideal S2048x2048 .f32) (x1 : FVec Ideal S2048x2048 .f32) (x2 : FVec Ideal S2048x2048 .f32) (x3 : FVec Ideal S2048x2048 .f32) (H M W G : ℕ → ℕ → EReal) : Prop where
  a0 : T2 x0 H
  a1 : T2 x1 M
  a2 : T2 x2 W
  a3 : T2 x3 G

variable (T : Tables x0 x1 x2 x3 H M W G)
include T

theorem r_v0 : T2 (val_main_v0 (F := Ideal) x1 x2 : S2048x2048.Idx → EReal) (nn 2048 M W) := by
  intro i
  rw [val_main_v0_apply]
  simp only [T.a1 _, T.a2 _]
  rfl

theorem r_v1 : T2 (val_main_v1 (F := Ideal) x0 x1 x2 : S2048x2048.Idx → EReal) (fun r f => nn 2048 M W r f + H r f) := by
  intro i
  rw [val_main_v1_apply, r_v0 T i, T.a0 i]
  exact add_comm _ _

theorem r_v2 : T2 (val_main_v2 (F := Ideal) x3 : S2048x2048.Idx → EReal) (G) := by
  intro i
  rw [val_main_v2_apply, T.a3 _]
  have h0 : (i 0 : Fin 2048).val < 2048 := (i 0 : Fin 2048).isLt
  have h1 : (i 1 : Fin 2048).val < 2048 := (i 1 : Fin 2048).isLt
  show G (((i 0 : Fin 2048).val * 2048 + (i 1 : Fin 2048).val) / 2048) (((i 0 : Fin 2048).val * 2048 + (i 1 : Fin 2048).val) % 2048) = _
  rw [show ((i 0 : Fin 2048).val * 2048 + (i 1 : Fin 2048).val) / 2048 = (i 0 : Fin 2048).val by omega,
    show ((i 0 : Fin 2048).val * 2048 + (i 1 : Fin 2048).val) % 2048 = (i 1 : Fin 2048).val by omega]

theorem r_v3 : T2 (val_main_v3 (F := Ideal) x1 x3 : S2048x2048.Idx → EReal) (tn 2048 G M) := by
  intro i
  rw [val_main_v3_apply]
  simp only [r_v2 T _, T.a1 _]
  rfl

theorem r_v4 : T2 (val_main_v4 (F := Ideal) x1 x3 : S2048x2048.Idx → EReal) (tn 2048 M G) := by
  intro i
  rw [val_main_v4_apply, r_v3 T _]
  exact tn_comm _ _ _ _ _

theorem r_v5 : T2 (val_main_v5 (F := Ideal) x2 x3 : S2048x2048.Idx → EReal) (nt 2048 G W) := by
  intro i
  rw [val_main_v5_apply]
  simp only [r_v2 T _, T.a2 _]
  rfl

theorem r_v6 : T2 (val_main_v6 (F := Ideal) x1 x3 : S2048x2048.Idx → EReal) (tn 2048 M G) := by
  intro i
  rw [val_main_v6_apply]
  exact r_v4 T i

theorem r_v7 : T3 (val_main_v7 (F := Ideal) x1 x3 : S8x256x2048.Idx → EReal) (fun j r k => tn 2048 M G (256 * j + r) k) := by
  intro i
  rw [val_main_v7_apply, r_v6 T _]
  have h0 : (i 0 : Fin 8).val < 8 := (i 0 : Fin 8).isLt
  have h1 : (i 1 : Fin 256).val < 256 := (i 1 : Fin 256).isLt
  have h2 : (i 2 : Fin 2048).val < 2048 := (i 2 : Fin 2048).isLt
  show tn 2048 M G ((((i 0 : Fin 8).val * 256 + (i 1 : Fin 256).val) * 2048 + (i 2 : Fin 2048).val) / 2048) ((((i 0 : Fin 8).val * 256 + (i 1 : Fin 256).val) * 2048 + (i 2 : Fin 2048).val) % 2048) = _
  rw [show (((i 0 : Fin 8).val * 256 + (i 1 : Fin 256).val) * 2048 + (i 2 : Fin 2048).val) / 2048 = 256 * (i 0 : Fin 8).val + (i 1 : Fin 256).val by omega,
    show (((i 0 : Fin 8).val * 256 + (i 1 : Fin 256).val) * 2048 + (i 2 : Fin 2048).val) % 2048 = (i 2 : Fin 2048).val by omega]

end Cert.Out

namespace Cert.Proof

open Cert.Ffn Cert.Out Cert.Reference5Ideal.Read Cert.Kernel5Ideal.Gen
open Idealize.ShloMosaic Idealize.SL.Sem

theorem preserves5 : Cert.preserves_Kernel5_Kernel5Ideal := trivial

theorem algebraic5 : Cert.algebraic_Kernel5Ideal_Reference5Ideal := by
  intro m ρ m' ρ' _ agree
  refine ⟨_, _, _, Cert.Kernel5Ideal.Value.run (F := Ideal) m ρ,
    (θ_run Cert.Reference5Ideal.defs _ _).mono (fun r h c => ?_) (Cert.Reference5Ideal.Value.run (F := Ideal) m' ρ')⟩
  obtain ⟨g0, g1, g2, g3⟩ := agree c
  obtain ⟨e0, e1, e2, ha⟩ := h c
  have H : Holds m c _ _ _ _ := ⟨etab_eq _, etab_eq _, etab_eq _, etab_eq _⟩
  have T : Cert.Out.Tables _ _ _ _ _ _ _ _ := ⟨like g0 H.a0, like g1 H.a1, like g2 H.a2, like g3 H.a3⟩
  exact ⟨meet e0 (val_main_v1_eq (F := Ideal) ..) (r_v1 T) (v6_h H), meet e1 (val_main_v5_eq (F := Ideal) ..) (r_v5 T) (v6_d H),
    meet e2 (val_main_v7_eq (F := Ideal) ..) (r_v7 T) (v6_w H), ha⟩

end Cert.Proof

end
-- ==== Proof.DownAcc.lean ====
/- The call that adds the down projection's eight shares to the residual stream: what its result array holds. -/
module

public import proofs.«01_k».proof.Proof.Gen.Kernel3Ideal.Value
public import proofs.«01_k».proof.Proof.FfnAcc

@[expose] public section

set_option maxRecDepth 16384

noncomputable section

namespace Cert.Kernel3Ideal.Gen

open Idealize.ShloMosaic Idealize.ShloMosaic.TcCoe Idealize.ShloMosaic.Tactic Finset Cert.Ffn

/-- The accumulator after one share. -/
theorem pay2_at {X W : ℕ → ℕ → EReal} {v3 : Vec Ideal S1024x1024 .f32} {v4 : Vec Ideal S1x1024x704 .bf16} {v6 : Vec Ideal S1x704x1024 .bf16}
    (h4 : T3 v4 fun _ => X) (h6 : T3 v6 fun _ => W) (i : S1024x1024.Idx) :
    k0_pay2 v3 v4 v6 i = v3 i + nn 704 X W (i 0 : Fin 1024).val (i 1 : Fin 1024).val := by
  pointwise [k0_pay2]
  simp only [h4 _, h6 _]
  rfl
theorem pay1_at {v16 : Vec Ideal S1024x1024 .f32} (i : S1024x1024.Idx) : k0_pay1 v16 i = v16 i := by
  pointwise [k0_pay1]

section
variable (m : (ℓ : Loc nD τ sig) → Buf (Elt Ideal) ℓ) (c : Dev nD)

theorem V_v2 : V m c main_v2 = transpose S8x2048x704 [1, 0, 2] (shapeCast S2048x8x704 (m ((c : Thread nD τ).loc main_arg1)) shapeCasts_S2048x5632_S2048x8x704) transposes_S2048x8x704_S8x2048x704_1_0_2 := by
  unfold V hostOps0
  after_results_simp
  rfl
theorem V_v4 : V m c main_v4 = shapeCast S8x704x2048 (m ((c : Thread nD τ).loc main_arg2)) shapeCasts_S5632x2048_S8x704x2048 := by
  unfold V hostOps0
  after_results_simp
  rfl

/-! ## The blocks -/

theorem ix0_0 : ∀ t : Fin grid0.N, win0_0.index t 0 = t.val % 8 ∧ win0_0.index t 1 = t.val / 16 ∧ win0_0.index t 2 = 0 := by decide +kernel
theorem in0_0 {Z : ℕ → ℕ → ℕ → EReal} (h : T3 (V m c (Pipeline.arrRef spec0 0) : S8x2048x704.Idx → EReal) Z) (t : Fin cfg0.N) : T3 (iblk m c 0 t) (fun _ r k => Z (t.val % 8) (1024 * (t.val / 16) + r) (k)) :=
  at3 h (win0_0.blk t).view.emb (fun _ => t.val % 8) (1024 * (t.val / 16) + ·) id
    (fun i => by blk_simp [(ix0_0 t).1])
    (fun i => by blk_simp [(ix0_0 t).2.1]; omega)
    (fun i => by blk_simp [(ix0_0 t).2.2]; simp)

theorem ix0_1 : ∀ t : Fin grid0.N, win0_1.index t 0 = t.val % 8 ∧ win0_1.index t 1 = 0 ∧ win0_1.index t 2 = t.val / 8 % 2 := by decide +kernel
theorem in0_1 {Z : ℕ → ℕ → ℕ → EReal} (h : T3 (V m c (Pipeline.arrRef spec0 1) : S8x704x2048.Idx → EReal) Z) (t : Fin cfg0.N) : T3 (iblk m c 1 t) (fun _ r k => Z (t.val % 8) (r) (1024 * (t.val / 8 % 2) + k)) :=
  at3 h (win0_1.blk t).view.emb (fun _ => t.val % 8) id (1024 * (t.val / 8 % 2) + ·)
    (fun i => by blk_simp [(ix0_1 t).1])
    (fun i => by blk_simp [(ix0_1 t).2.1]; simp)
    (fun i => by blk_simp [(ix0_1 t).2.2]; omega)

theorem ix0_2 : ∀ t : Fin grid0.N, win0_2.index t 0 = t.val / 16 ∧ win0_2.index t 1 = t.val / 8 % 2 := by decide +kernel
theorem in0_2 {Z : ℕ → ℕ → EReal} (h : T2 (V m c (Pipeline.arrRef spec0 2) : S2048x2048.Idx → EReal) Z) (t : Fin cfg0.N) : T2 (iblk m c 2 t) (fun r k => Z (1024 * (t.val / 16) + r) (1024 * (t.val / 8 % 2) + k)) :=
  at2 h (win0_2.blk t).view.emb (1024 * (t.val / 16) + ·) (1024 * (t.val / 8 % 2) + ·)
    (fun i => by blk_simp [(ix0_2 t).1]; omega)
    (fun i => by blk_simp [(ix0_2 t).2]; omega)

/-! ## What a point leaves in the accumulator -/

theorem acc_A (t : Fin cfg0.N) (h0 : t.val % 8 = 0) :
    (outsAt0 m c t.val t.isLt).2 = k0_pay2 (k0_pay1 (iblk m c 2 t)) (iblk m c 0 t) (iblk m c 1 t) := by
  rw [outsAt0_A m c t h0 (by omega)]; frame_out
theorem acc_B (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out
    rw [(Memref.isWhole_whole cc0_scratch0).read_unread (outsAt0 m c (t.val - 1) (Nat.lt_of_le_of_lt (Nat.sub_le _ _) t.isLt)).2]
  · rw [outsAt0_B m c t h0 h1]; frame_out
    rw [(Memref.isWhole_whole cc0_scratch0).read_unread (outsAt0 m c (t.val - 1) (Nat.lt_of_le_of_lt (Nat.sub_le _ _) t.isLt)).2]
theorem out_C (t : Fin cfg0.N) (h1 : t.val % 8 = 7) : (outsAt0 m c t.val t.isLt).1 = (outsAt0 m c t.val t.isLt).2 := by
  rw [outsAt0_C m c t (by omega) h1]; frame_out

end

/-- The arguments hold these tables. -/
structure Holds (m : (ℓ : Loc nD τ sig) → Buf (Elt Ideal) ℓ) (c : Dev nD) (R X D : ℕ → ℕ → EReal) : Prop where
  a0 : T2 (m ((c : Thread nD τ).loc main_arg0) : S2048x2048.Idx → EReal) R
  a1 : T2 (m ((c : Thread nD τ).loc main_arg1) : S2048x5632.Idx → EReal) X
  a2 : T2 (m ((c : Thread nD τ).loc main_arg2) : S5632x2048.Idx → EReal) D

section
variable {m : (ℓ : Loc nD τ sig) → Buf (Elt Ideal) ℓ} {c : Dev nD} {R X D : ℕ → ℕ → EReal}

theorem b0 (H : Holds m c R X D) (t : Fin cfg0.N) : T3 (iblk m c 0 t) fun _ r k => sp X (t.val % 8) (1024 * (t.val / 16) + r) k :=
  in0_0 m c (Z := sp X) (fun i => (congrFun (V_v2 m c) i).trans (splits2 H.a1 rfl _ _ i)) t
theorem b1 (H : Holds m c R X D) (t : Fin cfg0.N) : T3 (iblk m c 1 t) fun _ r k => sh D (t.val % 8) r (1024 * (t.val / 8 % 2) + k) :=
  in0_1 m c (Z := sh D) (fun i => (congrFun (V_v4 m c) i).trans (shares2 H.a2 rfl _ i)) t
theorem b2 (H : Holds m c R X D) (t : Fin cfg0.N) : T2 (iblk m c 2 t) fun r k => R (1024 * (t.val / 16) + r) (1024 * (t.val / 8 % 2) + k) :=
  in0_2 m c (Z := R) (fun i => (congrFun (V_main_arg0 m c) i).trans (H.a0 i)) t

/-- The accumulator at each point: the residual and the shares so far. -/
theorem acc_at (H : Holds m c R X D) (y : S1024x1024.Idx) (n : ℕ) (h : n < cfg0.N) :
    (outsAt0 m c n h).2 y = R (1024 * (n / 8 / 2) + (y 0 : Fin 1024).val) (1024 * (n / 8 % 2) + (y 1 : Fin 1024).val)
      + ∑ s ∈ range (n % 8 + 1), nn 704 (sp X s) (sh D s) (1024 * (n / 8 / 2) + (y 0 : Fin 1024).val) (1024 * (n / 8 % 2) + (y 1 : Fin 1024).val) := by
  refine run_sum (fun n h => (outsAt0 m c n h).2 y) (fun q => R (1024 * (q / 2) + (y 0 : Fin 1024).val) (1024 * (q % 2) + (y 1 : Fin 1024).val))
    (fun q s => nn 704 (sp X s) (sh D s) (1024 * (q / 2) + (y 0 : Fin 1024).val) (1024 * (q % 2) + (y 1 : Fin 1024).val)) ?_ ?_ n h
  · intro t h0
    have ed : t.val / 8 / 2 = t.val / 16 := by omega
    refine (congrFun (acc_A m c t h0) y).trans ((pay2_at (b0 H t) (b1 H t) y).trans ?_)
    rw [pay1_at, b2 H t y]
    dsimp only
    rw [ed]
    rfl
  · intro t h0
    have ed : t.val / 8 / 2 = t.val / 16 := by omega
    refine (congrFun (acc_B m c t h0) y).trans ((pay2_at (b0 H t) (b1 H t) y).trans ?_)
    dsimp only
    rw [ed]
    rfl

open Cert.Kernel3Ideal.Value in
theorem result (H : Holds m c R X D) : T2 (G3 m c : S2048x2048.Idx → EReal) fun r d => R r d + nn 5632 X D r d := by
  intro i
  have h0 : (i 0 : Fin 2048).val < 2048 := (i 0 : Fin 2048).isLt
  have h1 : (i 1 : Fin 2048).val < 2048 := (i 1 : Fin 2048).isLt
  have hp : pt3Of i = 8 * (2 * ((i 0 : Fin 2048).val / 1024) + (i 1 : Fin 2048).val / 1024) + 7 := by
    show 8 * (2 * ((i 0 : Fin 2048).val / 1024 - 0) + 1 * ((i 1 : Fin 2048).val / 1024 - 0)) + 7 = _
    omega
  have hlt : pt3Of i < 32 := by omega
  have hN : pt3Of i < cfg0.N := lt_of_lt_of_eq hlt N_0.symm
  have hm : pt3Of i % 8 = 7 := by omega
  have e0 : 1024 * (pt3Of i / 8 / 2) + (i 0 : Fin 2048).val % 1024 = (i 0 : Fin 2048).val := by omega
  have e1 : 1024 * (pt3Of i / 8 % 2) + (i 1 : Fin 2048).val % 1024 = (i 1 : Fin 2048).val := by omega
  unfold G3
  rw [dif_pos hN, ← outsAt0_sweep m c (pt3Of i) hN]
  refine (congrFun (out_C m c ⟨pt3Of i, hN⟩ hm) (loc3Of i)).trans ((acc_at H (loc3Of i) (pt3Of i) hN).trans ?_)
  show R (1024 * (pt3Of i / 8 / 2) + (i 0 : Fin 2048).val % 1024) (1024 * (pt3Of i / 8 % 2) + (i 1 : Fin 2048).val % 1024)
    + ∑ s ∈ range (pt3Of i % 8 + 1), nn 704 (sp X s) (sh D s) (1024 * (pt3Of i / 8 / 2) + (i 0 : Fin 2048).val % 1024) (1024 * (pt3Of i / 8 % 2) + (i 1 : Fin 2048).val % 1024) = _
  rw [e0, e1, hm, nn_shares]

end

end Cert.Kernel3Ideal.Gen

end
-- ==== Proof.DxnAcc.lean ====
/- The call that sums the gradient of the layer's input over the eight shares of the hidden values: what its result array holds. -/
module

public import proofs.«01_k».proof.Proof.Gen.Kernel4Ideal.Value
public import proofs.«01_k».proof.Proof.FfnAcc

@[expose] public section

set_option maxRecDepth 16384

noncomputable section

namespace Cert.Kernel4Ideal.Gen

open Idealize.ShloMosaic Idealize.ShloMosaic.TcCoe Idealize.ShloMosaic.Tactic Finset Cert.Ffn

/-- The accumulator after one share. -/
theorem pay2_at {A B G U : ℕ → ℕ → EReal} {v3 : Vec Ideal S1024x1024 .f32} {v4 v9 : Vec Ideal S1x1024x704 .bf16} {v6 v11 : Vec Ideal S1x704x1024 .bf16}
    (h4 : T3 v4 fun _ => A) (h6 : T3 v6 fun _ => G) (h9 : T3 v9 fun _ => B) (h11 : T3 v11 fun _ => U) (i : S1024x1024.Idx) :
    k0_pay2 v3 v4 v6 v9 v11 i = v3 i + (nn 704 A G (i 0 : Fin 1024).val (i 1 : Fin 1024).val + nn 704 B U (i 0 : Fin 1024).val (i 1 : Fin 1024).val) := by
  pointwise [k0_pay2]
  simp only [h4 _, h6 _, h9 _, h11 _]
  rfl
theorem pay1_at (i : S1024x1024.Idx) : k0_pay1 (F := Ideal) i = 0 := by
  pointwise [k0_pay1]

section
variable (m : (ℓ : Loc nD τ sig) → Buf (Elt Ideal) ℓ) (c : Dev nD)

theorem V_v2 : V m c main_v2 = transpose S8x2048x704 [1, 0, 2] (shapeCast S2048x8x704 (m ((c : Thread nD τ).loc main_arg0)) shapeCasts_S2048x5632_S2048x8x704) transposes_S2048x8x704_S8x2048x704_1_0_2 := by
  unfold V hostOps0
  after_results_simp
  rfl
theorem V_v5 : V m c main_v5 = transpose S8x2048x704 [1, 0, 2] (shapeCast S2048x8x704 (m ((c : Thread nD τ).loc main_arg1)) shapeCasts_S2048x5632_S2048x8x704) transposes_S2048x8x704_S8x2048x704_1_0_2 := by
  unfold V hostOps0
  after_results_simp
  rfl
theorem V_v8 : V m c main_v8 = shapeCast S8x704x2048 (transpose S5632x2048 [1, 0] (m ((c : Thread nD τ).loc main_arg2)) transposes_S2048x5632_S5632x2048_1_0) shapeCasts_S5632x2048_S8x704x2048 := by
  unfold V hostOps0
  after_results_simp
  rfl
theorem V_v11 : V m c main_v11 = shapeCast S8x704x2048 (transpose S5632x2048 [1, 0] (m ((c : Thread nD τ).loc main_arg3)) transposes_S2048x5632_S5632x2048_1_0) shapeCasts_S5632x2048_S8x704x2048 := by
  unfold V hostOps0
  after_results_simp
  rfl

/-! ## The blocks -/

theorem ix0_0 : ∀ t : Fin grid0.N, win0_0.index t 0 = t.val % 8 ∧ win0_0.index t 1 = t.val / 16 ∧ win0_0.index t 2 = 0 := by decide +kernel
theorem in0_0 {Z : ℕ → ℕ → ℕ → EReal} (h : T3 (V m c (Pipeline.arrRef spec0 0) : S8x2048x704.Idx → EReal) Z) (t : Fin cfg0.N) : T3 (iblk m c 0 t) (fun _ r k => Z (t.val % 8) (1024 * (t.val / 16) + r) (k)) :=
  at3 h (win0_0.blk t).view.emb (fun _ => t.val % 8) (1024 * (t.val / 16) + ·) id
    (fun i => by blk_simp [(ix0_0 t).1])
    (fun i => by blk_simp [(ix0_0 t).2.1]; omega)
    (fun i => by blk_simp [(ix0_0 t).2.2]; simp)

theorem ix0_1 : ∀ t : Fin grid0.N, win0_1.index t 0 = t.val % 8 ∧ win0_1.index t 1 = t.val / 16 ∧ win0_1.index t 2 = 0 := by decide +kernel
theorem in0_1 {Z : ℕ → ℕ → ℕ → EReal} (h : T3 (V m c (Pipeline.arrRef spec0 1) : S8x2048x704.Idx → EReal) Z) (t : Fin cfg0.N) : T3 (iblk m c 1 t) (fun _ r k => Z (t.val % 8) (1024 * (t.val / 16) + r) (k)) :=
  at3 h (win0_1.blk t).view.emb (fun _ => t.val % 8) (1024 * (t.val / 16) + ·) id
    (fun i => by blk_simp [(ix0_1 t).1])
    (fun i => by blk_simp [(ix0_1 t).2.1]; omega)
    (fun i => by blk_simp [(ix0_1 t).2.2]; simp)

theorem ix0_2 : ∀ t : Fin grid0.N, win0_2.index t 0 = t.val % 8 ∧ win0_2.index t 1 = 0 ∧ win0_2.index t 2 = t.val / 8 % 2 := by decide +kernel
theorem in0_2 {Z : ℕ → ℕ → ℕ → EReal} (h : T3 (V m c (Pipeline.arrRef spec0 2) : S8x704x2048.Idx → EReal) Z) (t : Fin cfg0.N) : T3 (iblk m c 2 t) (fun _ r k => Z (t.val % 8) (r) (1024 * (t.val / 8 % 2) + k)) :=
  at3 h (win0_2.blk t).view.emb (fun _ => t.val % 8) id (1024 * (t.val / 8 % 2) + ·)
    (fun i => by blk_simp [(ix0_2 t).1])
    (fun i => by blk_simp [(ix0_2 t).2.1]; simp)
    (fun i => by blk_simp [(ix0_2 t).2.2]; omega)

theorem ix0_3 : ∀ t : Fin grid0.N, win0_3.index t 0 = t.val % 8 ∧ win0_3.index t 1 = 0 ∧ win0_3.index t 2 = t.val / 8 % 2 := by decide +kernel
theorem in0_3 {Z : ℕ → ℕ → ℕ → EReal} (h : T3 (V m c (Pipeline.arrRef spec0 3) : S8x704x2048.Idx → EReal) Z) (t : Fin cfg0.N) : T3 (iblk m c 3 t) (fun _ r k => Z (t.val % 8) (r) (1024 * (t.val / 8 % 2) + k)) :=
  at3 h (win0_3.blk t).view.emb (fun _ => t.val % 8) id (1024 * (t.val / 8 % 2) + ·)
    (fun i => by blk_simp [(ix0_3 t).1])
    (fun i => by blk_simp [(ix0_3 t).2.1]; simp)
    (fun i => by blk_simp [(ix0_3 t).2.2]; omega)

/-! ## What a point leaves in the accumulator -/

theorem acc_A (t : Fin cfg0.N) (h0 : t.val % 8 = 0) :
    (outsAt0 m c t.val t.isLt).2 = k0_pay2 (k0_pay1 (F := Ideal)) (iblk m c 0 t) (iblk m c 2 t) (iblk m c 1 t) (iblk m c 3 t) := by
  rw [outsAt0_A m c t h0 (by omega)]; frame_out
theorem acc_B (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 2 t) (iblk m c 1 t) (iblk m c 3 t) := by
  by_cases h1 : t.val % 8 = 7
  · rw [outsAt0_C m c t h0 h1]; frame_out
    rw [(Memref.isWhole_whole cc0_scratch0).read_unread (outsAt0 m c (t.val - 1) (Nat.lt_of_le_of_lt (Nat.sub_le _ _) t.isLt)).2]
  · rw [outsAt0_B m c t h0 h1]; frame_out
    rw [(Memref.isWhole_whole cc0_scratch0).read_unread (outsAt0 m c (t.val - 1) (Nat.lt_of_le_of_lt (Nat.sub_le _ _) t.isLt)).2]
theorem out_C (t : Fin cfg0.N) (h1 : t.val % 8 = 7) : (outsAt0 m c t.val t.isLt).1 = (outsAt0 m c t.val t.isLt).2 := by
  rw [outsAt0_C m c t (by omega) h1]; frame_out

end

/-- The arguments hold these tables. -/
structure Holds (m : (ℓ : Loc nD τ sig) → Buf (Elt Ideal) ℓ) (c : Dev nD) (A B G U : ℕ → ℕ → EReal) : Prop where
  a0 : T2 (m ((c : Thread nD τ).loc main_arg0) : S2048x5632.Idx → EReal) A
  a1 : T2 (m ((c : Thread nD τ).loc main_arg1) : S2048x5632.Idx → EReal) B
  a2 : T2 (m ((c : Thread nD τ).loc main_arg2) : S2048x5632.Idx → EReal) G
  a3 : T2 (m ((c : Thread nD τ).loc main_arg3) : S2048x5632.Idx → EReal) U

section
variable {m : (ℓ : Loc nD τ sig) → Buf (Elt Ideal) ℓ} {c : Dev nD} {A B G U : ℕ → ℕ → EReal}

theorem b0 (H : Holds m c A B G U) (t : Fin cfg0.N) : T3 (iblk m c 0 t) fun _ r k => sp A (t.val % 8) (1024 * (t.val / 16) + r) k :=
  in0_0 m c (Z := sp A) (fun i => (congrFun (V_v2 m c) i).trans (splits2 H.a0 rfl _ _ i)) t
theorem b1 (H : Holds m c A B G U) (t : Fin cfg0.N) : T3 (iblk m c 1 t) fun _ r k => sp B (t.val % 8) (1024 * (t.val / 16) + r) k :=
  in0_1 m c (Z := sp B) (fun i => (congrFun (V_v5 m c) i).trans (splits2 H.a1 rfl _ _ i)) t
theorem b2 (H : Holds m c A B G U) (t : Fin cfg0.N) : T3 (iblk m c 2 t) fun _ r k => sh (fun a b => G b a) (t.val % 8) r (1024 * (t.val / 8 % 2) + k) :=
  in0_2 m c (Z := sh fun a b => G b a) (fun i => (congrFun (V_v8 m c) i).trans (shares2 (transp2 H.a2 _) rfl _ i)) t
theorem b3 (H : Holds m c A B G U) (t : Fin cfg0.N) : T3 (iblk m c 3 t) fun _ r k => sh (fun a b => U b a) (t.val % 8) r (1024 * (t.val / 8 % 2) + k) :=
  in0_3 m c (Z := sh fun a b => U b a) (fun i => (congrFun (V_v11 m c) i).trans (shares2 (transp2 H.a3 _) rfl _ i)) t

/-- What one share adds. -/
def part (A B G U : ℕ → ℕ → EReal) (s r d : ℕ) : EReal :=
  nn 704 (sp A s) (sh (fun a b => G b a) s) r d + nn 704 (sp B s) (sh (fun a b => U b a) s) r d

theorem parts (A B G U : ℕ → ℕ → EReal) (r d : ℕ) : ∑ s ∈ range 8, part A B G U s r d = nt 5632 A G r d + nt 5632 B U r d := by
  unfold part
  rw [sum_add_distrib, nn_shares, nn_shares]
  rfl

/-- The accumulator at each point: the shares so far. -/
theorem acc_at (H : Holds m c A B G U) (y : S1024x1024.Idx) (n : ℕ) (h : n < cfg0.N) :
    (outsAt0 m c n h).2 y = 0
      + ∑ s ∈ range (n % 8 + 1), part A B G U s (1024 * (n / 8 / 2) + (y 0 : Fin 1024).val) (1024 * (n / 8 % 2) + (y 1 : Fin 1024).val) := by
  refine run_sum (fun n h => (outsAt0 m c n h).2 y) (fun _ => 0)
    (fun q s => part A B G U s (1024 * (q / 2) + (y 0 : Fin 1024).val) (1024 * (q % 2) + (y 1 : Fin 1024).val)) ?_ ?_ n h
  · intro t h0
    have ed : t.val / 8 / 2 = t.val / 16 := by omega
    refine (congrFun (acc_A m c t h0) y).trans ((pay2_at (b0 H t) (b2 H t) (b1 H t) (b3 H t) y).trans ?_)
    rw [pay1_at]
    dsimp only
    rw [ed]
    rfl
  · intro t h0
    have ed : t.val / 8 / 2 = t.val / 16 := by omega
    refine (congrFun (acc_B m c t h0) y).trans ((pay2_at (b0 H t) (b2 H t) (b1 H t) (b3 H t) y).trans ?_)
    dsimp only
    rw [ed]
    rfl

open Cert.Kernel4Ideal.Value in
theorem result (H : Holds m c A B G U) : T2 (G4 m c : S2048x2048.Idx → EReal) fun r d => nt 5632 A G r d + nt 5632 B U r d := by
  intro i
  have h0 : (i 0 : Fin 2048).val < 2048 := (i 0 : Fin 2048).isLt
  have h1 : (i 1 : Fin 2048).val < 2048 := (i 1 : Fin 2048).isLt
  have hp : pt4Of i = 8 * (2 * ((i 0 : Fin 2048).val / 1024) + (i 1 : Fin 2048).val / 1024) + 7 := by
    show 8 * (2 * ((i 0 : Fin 2048).val / 1024 - 0) + 1 * ((i 1 : Fin 2048).val / 1024 - 0)) + 7 = _
    omega
  have hlt : pt4Of i < 32 := by omega
  have hN : pt4Of i < cfg0.N := lt_of_lt_of_eq hlt N_0.symm
  have hm : pt4Of i % 8 = 7 := by omega
  have e0 : 1024 * (pt4Of i / 8 / 2) + (i 0 : Fin 2048).val % 1024 = (i 0 : Fin 2048).val := by omega
  have e1 : 1024 * (pt4Of i / 8 % 2) + (i 1 : Fin 2048).val % 1024 = (i 1 : Fin 2048).val := by omega
  unfold G4
  rw [dif_pos hN, ← outsAt0_sweep m c (pt4Of i) hN]
  refine (congrFun (out_C m c ⟨pt4Of i, hN⟩ hm) (loc4Of i)).trans ((acc_at H (loc4Of i) (pt4Of i) hN).trans ?_)
  show 0 + ∑ s ∈ range (pt4Of i % 8 + 1), part A B G U s (1024 * (pt4Of i / 8 / 2) + (i 0 : Fin 2048).val % 1024) (1024 * (pt4Of i / 8 % 2) + (i 1 : Fin 2048).val % 1024) = _
  rw [e0, e1, hm, parts, zero_add]

end

end Cert.Kernel4Ideal.Gen

end
-- ==== Proof.FfnAlg2.lean ====
/- The down projection with its residual, and the gradient of the layer's input: each call agrees with the plain lines. -/
module

public import proofs.«01_k».proof.Defs
public import proofs.«01_k».proof.Proof.DownAcc
public import proofs.«01_k».proof.Proof.DxnAcc
public import proofs.«01_k».proof.Proof.FfnRef
public import proofs.«01_k».proof.Proof.Gen.Reference3Ideal.Read
public import proofs.«01_k».proof.Proof.Gen.Reference4Ideal.Read

@[expose] public section

set_option maxRecDepth 16384

noncomputable section

namespace Cert.Proof

open Idealize.ShloMosaic Idealize.SL.Sem Cert.Ffn

theorem preserves3 : Cert.preserves_Kernel3_Kernel3Ideal := trivial
theorem preserves4 : Cert.preserves_Kernel4_Kernel4Ideal := trivial

/-! ## The plain lines at an index -/

section
open Cert.Reference3Ideal Cert.Reference3Ideal.Read

theorem r3_v1 {x0 : FVec Ideal S2048x2048 .f32} {x1 : FVec Ideal S2048x5632 .f32} {x2 : FVec Ideal S5632x2048 .f32} {R X D : ℕ → ℕ → EReal}
    (h0 : T2 x0 R) (h1 : T2 x1 X) (h2 : T2 x2 D) :
    T2 (val_main_v1 (F := Ideal) x0 x1 x2 : S2048x2048.Idx → EReal) fun r d => R r d + nn 5632 X D r d := by
  intro i
  rw [val_main_v1_apply, val_main_v0_apply, h0 i]
  simp only [h1 _, h2 _]
  rfl
end

section
open Cert.Reference4Ideal Cert.Reference4Ideal.Read

theorem r4_v5 {x0 x1 x2 x3 : FVec Ideal S2048x5632 .f32} {A B G U : ℕ → ℕ → EReal}
    (h0 : T2 x0 A) (h1 : T2 x1 B) (h2 : T2 x2 G) (h3 : T2 x3 U) :
    T2 (val_main_v5 (F := Ideal) x0 x1 x2 x3 : S2048x2048.Idx → EReal) fun r d => nt 5632 A G r d + nt 5632 B U r d := by
  intro i
  rw [val_main_v5_apply, val_main_v3_apply, val_main_v4_apply]
  simp only [h0 _, h1 _, h2 _, h3 _]
  exact add_comm _ _
end

/-! ## The two agreements -/

theorem algebraic3 : Cert.algebraic_Kernel3Ideal_Reference3Ideal := by
  intro m ρ m' ρ' _ agree
  refine ⟨_, Cert.Kernel3Ideal.Value.run (F := Ideal) m ρ,
    (θ_run Cert.Reference3Ideal.defs _ _).mono (fun r h c => ?_) (Cert.Reference3Ideal.Value.run (F := Ideal) m' ρ')⟩
  obtain ⟨g0, g1, g2⟩ := agree c
  have H : Cert.Kernel3Ideal.Gen.Holds m c _ _ _ := ⟨etab_eq _, etab_eq _, etab_eq _⟩
  exact ⟨meet (h c).1 (Cert.Reference3Ideal.Read.val_main_v1_eq (F := Ideal) ..) (r3_v1 (like g0 H.a0) (like g1 H.a1) (like g2 H.a2))
    (Cert.Kernel3Ideal.Gen.result H), (h c).2⟩

theorem algebraic4 : Cert.algebraic_Kernel4Ideal_Reference4Ideal := by
  intro m ρ m' ρ' _ agree
  refine ⟨_, Cert.Kernel4Ideal.Value.run (F := Ideal) m ρ,
    (θ_run Cert.Reference4Ideal.defs _ _).mono (fun r h c => ?_) (Cert.Reference4Ideal.Value.run (F := Ideal) m' ρ')⟩
  obtain ⟨g0, g1, g2, g3⟩ := agree c
  have H : Cert.Kernel4Ideal.Gen.Holds m c _ _ _ _ := ⟨etab_eq _, etab_eq _, etab_eq _, etab_eq _⟩
  exact ⟨meet (h c).1 (Cert.Reference4Ideal.Read.val_main_v5_eq (F := Ideal) ..)
    (r4_v5 (like g0 H.a0) (like g1 H.a1) (like g2 H.a2) (like g3 H.a3)) (Cert.Kernel4Ideal.Gen.result H), (h c).2⟩

end Cert.Proof

end
-- ==== Proof.FfnRun.lean ====
/- The run of the program of the four feed-forward calls with its results: every fair execution ends with each result array at the
   contents that the last boundary of the program gives it, the arguments as launched. -/
module

public import proofs.«01_k».proof.Proof.RunEnds
public import proofs.«01_k».proof.Proof.Gen.Kernel2Ideal.Frame

@[expose] public section

set_option maxRecDepth 16384

noncomputable section

namespace Cert.Kernel2Ideal.Value

open Cert.Kernel2Ideal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The program is its segments in order; the final state is read against the last boundary's contents. -/
theorem run : θ_run defs (onTc (τ := τ) (main (F := F))) ⟨m, fun _ => 0, ρ⟩ (fun r => ∀ c : Dev nD,
      r.2.mem ((c.tc : Thread nD τ).loc main_v10_0) = W5 m ρ c (Proc.devRef .tc main_v10_0)
      ∧ r.2.mem ((c.tc : Thread nD τ).loc main_v10_1) = W5 m ρ c (Proc.devRef .tc main_v10_1)
      ∧ r.2.mem ((c.tc : Thread nD τ).loc main_v10_2) = W5 m ρ c (Proc.devRef .tc main_v10_2)
      ∧ r.2.mem ((c.tc : Thread nD τ).loc main_v11_0) = W5 m ρ c (Proc.devRef .tc main_v11_0)
      ∧ r.2.mem ((c.tc : Thread nD τ).loc main_v11_1) = W5 m ρ c (Proc.devRef .tc main_v11_1)
      ∧ r.2.mem ((c.tc : Thread nD τ).loc main_v12) = W5 m ρ c (Proc.devRef .tc main_v12)
      ∧ r.2.mem ((c.tc : Thread nD τ).loc main_v13_0) = W5 m ρ c (Proc.devRef .tc main_v13_0)
      ∧ r.2.mem ((c.tc : Thread nD τ).loc main_v13_1) = W5 m ρ c (Proc.devRef .tc main_v13_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v10_0 (by decide)),
     h c _ (mem_uc main_v10_1 (by decide)),
     h c _ (mem_uc main_v10_2 (by decide)),
     h c _ (mem_uc main_v11_0 (by decide)),
     h c _ (mem_uc main_v11_1 (by decide)),
     h c _ (mem_uc main_v12 (by decide)),
     h c _ (mem_uc main_v13_0 (by decide)),
     h c _ (mem_uc main_v13_1 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩)
    (Cert.RunEnds.run (pcfgs (F := F)) adm (pdats m ρ) cellOf_inj defs₀ m ρ main (segs m ρ) (main_run m ρ)
      (by simp only [segs, Pipeline.Seg.pipes_host, Pipeline.Seg.pipes_region, Pipeline.Seg.pipes_nil]; decide) (W5 m ρ)
      ⟨fun _ => .rfl, fun _ => .rfl, fun _ => .rfl, fun _ => .rfl, fun _ => .rfl, fun _ => .rfl⟩)

end Cert.Kernel2Ideal.Value

end
-- ==== Proof.FfnAlg.lean ====
/- The claims of the feed-forward layer's hidden calls: the calls and the plain layer with its gradients leave the same arrays. -/
module

public import proofs.«01_k».proof.Defs
public import proofs.«01_k».proof.Proof.FfnRef
public import proofs.«01_k».proof.Proof.FfnRun
public import proofs.«01_k».proof.Proof.Gen.Reference2Ideal.Run
public import Idealize.ShloMosaic.Lib.KernelVsHost

@[expose] public section

set_option maxRecDepth 16384

noncomputable section

namespace Cert.Proof

open Cert.Ffn Cert.Reference2Ideal.Read Cert.Kernel2Ideal.Gen
open Idealize.ShloMosaic Idealize.SL.Sem

theorem preserves2 : Cert.preserves_Kernel2_Kernel2Ideal := trivial

theorem algebraic2 : Cert.algebraic_Kernel2Ideal_Reference2Ideal_pre_finite2 := by
  intro m ρ m' ρ' hpre agree
  refine ⟨_, _, _, _, _, _, _, _, Cert.Kernel2Ideal.Value.run (F := Ideal) m ρ,
    (θ_run Cert.Reference2Ideal.defs _ _).mono (fun r h c => ?_) (Cert.Reference2Ideal.Value.run (F := Ideal) m' ρ')⟩
  have R := real_of_pre (hpre c)
  obtain ⟨g0, g1, g2, g3, g4⟩ := agree c
  obtain ⟨e0, e1, e2, e3, e4, e5, e6, e7, ha⟩ := h c
  have H : Holds m c _ _ _ _ _ := ⟨etab_eq _, etab_eq _, etab_eq _, etab_eq _, etab_eq _⟩
  have T : Tables2 _ _ _ _ _ _ _ _ _ _ := ⟨like g0 H.a0, like g1 H.a1, like g2 H.a2, like g3 H.a3, like g4 H.a4⟩
  exact ⟨meet e0 (val_main_v23_eq (F := Ideal) ..) (r_v23 T) (w5_a H), meet e1 (val_main_v25_eq (F := Ideal) ..) (r_v25 T) (w5_b H),
    meet e2 (val_main_v28_eq (F := Ideal) ..) (r_v28 T) (w5_h H), meet e3 (val_main_v31_eq (F := Ideal) ..) (r_v31 T R) (w5_da H),
    meet e4 (val_main_v34_eq (F := Ideal) ..) (r_v34 T) (w5_db H), meet e5 (val_main_v36_eq (F := Ideal) ..) (r_v36 T) (w5_dwd H),
    meet e6 (val_main_v39_eq (F := Ideal) ..) (r_v39 T R) (w5_dwg H), meet e7 (val_main_v42_eq (F := Ideal) ..) (r_v42 T) (w5_dwu H), ha⟩

end Cert.Proof

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Pre_finite2
public import proofs.«01_k».proof.Proof.Algebraic
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.OptAlg
public import proofs.«01_k».proof.Proof.PoolAlg
public import proofs.«01_k».proof.Proof.FgateAlg
public import proofs.«01_k».proof.Proof.LossAlg
public import proofs.«01_k».proof.Proof.NormAlg
public import proofs.«01_k».proof.Proof.EmbAlg
public import proofs.«01_k».proof.Proof.ProjAlg
public import proofs.«01_k».proof.Proof.OutAlg
public import proofs.«01_k».proof.Proof.FfnAlg2
public import proofs.«01_k».proof.Proof.FfnAlg
public import Idealize.ShloMosaic.Adequacy
public import Idealize.ShloMosaic.Init

@[expose] public section

noncomputable section

namespace Cert.Proof

open Idealize.ShloMosaic Idealize.ShloMosaic.Pipeline Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Pre_finite.Gen.facts,
  Cert.Pre_finite2.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2.2.2.2.2, sem_eq_zero_of_no_sems (by decide) r.2⟩) (Cert.ReferenceIdeal.Value.run (F := Ideal) m ρ),
  fun m ρ _ => (θ_run _ _ _).mono (fun r h => ⟨fun c => (h c).2.2.2.2.2.2.2, sem_eq_zero_of_no_sems (by decide) r.2⟩) (Cert.ReferenceIdeal.Value.run (F := Ideal) m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run _ _ _).mono (fun r h => ⟨fun c => (h c).2.2.2.2.2.2.2.2, sem_eq_zero_of_no_sems (by decide) r.2⟩) (Cert.Reference2Ideal.Value.run (F := Ideal) m ρ),
  fun m ρ _ => (θ_run _ _ _).mono (fun r h => ⟨fun c => (h c).2.2.2.2.2.2.2.2, sem_eq_zero_of_no_sems (by decide) r.2⟩) (Cert.Reference2Ideal.Value.run (F := Ideal) m ρ),
  fun m ρ _ => Cert.Kernel3.Gen.frame m ρ,
  fun m ρ _ => Cert.Kernel3Ideal.Gen.frame m ρ,
  fun m ρ _ => (θ_run _ _ _).mono (fun r h => ⟨fun c => (h c).2, sem_eq_zero_of_no_sems (by decide) r.2⟩) (Cert.Reference3Ideal.Value.run (F := Ideal) m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩) (Cert.Reference4Ideal.Value.run (F := Ideal) m ρ),
  fun m ρ _ => Cert.Kernel5.Gen.frame m ρ,
  fun m ρ _ => Cert.Kernel5Ideal.Gen.frame m ρ,
  fun m ρ _ => (θ_run _ _ _).mono (fun r h => ⟨fun c => (h c).2.2.2, sem_eq_zero_of_no_sems (by decide) r.2⟩) (Cert.Reference5Ideal.Value.run (F := Ideal) m ρ),
  fun m ρ _ => Cert.Kernel6.Gen.frame m ρ,
  fun m ρ _ => Cert.Kernel6Ideal.Gen.frame m ρ,
  fun m ρ _ => (θ_run _ _ _).mono (fun r h => ⟨fun c => (h c).2.2.2, sem_eq_zero_of_no_sems (by decide) r.2⟩) (Cert.Reference6Ideal.Value.run (F := Ideal) m ρ),
  fun m ρ _ => Cert.Kernel7.Gen.frame m ρ,
  fun m ρ _ => Cert.Kernel7Ideal.Gen.frame m ρ,
  fun m ρ _ => (θ_run _ _ _).mono (fun r h => ⟨fun c => (h c).2.2.2.2.2.2.2.2, sem_eq_zero_of_no_sems (by decide) r.2⟩) (Cert.Reference7Ideal.Value.run (F := Ideal) m ρ),
  fun m ρ _ => Cert.Kernel8.Gen.frame m ρ,
  fun m ρ _ => Cert.Kernel8Ideal.Gen.frame m ρ,
  fun m ρ _ => (θ_run _ _ _).mono (fun r h => ⟨fun c => (h c).2.2.2.2, sem_eq_zero_of_no_sems (by decide) r.2⟩) (Cert.Reference8Ideal.Value.run (F := Ideal) m ρ),
  fun m ρ _ => Cert.Kernel9.Gen.frame m ρ,
  fun m ρ _ => Cert.Kernel9Ideal.Gen.frame m ρ,
  fun m ρ _ => (θ_run _ _ _).mono (fun r h => ⟨fun c => (h c).2.2, sem_eq_zero_of_no_sems (by decide) r.2⟩) (Cert.Reference9Ideal.Value.run (F := Ideal) m ρ),
  fun m ρ _ => Cert.Kernel10.Gen.frame m ρ,
  fun m ρ _ => Cert.Kernel10Ideal.Gen.frame m ρ,
  fun m ρ _ => (θ_run _ _ _).mono (fun r h => ⟨fun c => (h c).2.2.2, sem_eq_zero_of_no_sems (by decide) r.2⟩) (Cert.Reference10Ideal.Value.run (F := Ideal) m ρ),
  fun m ρ _ => Cert.Kernel11.Gen.frame m ρ,
  fun m ρ _ => Cert.Kernel11Ideal.Gen.frame m ρ,
  fun m ρ _ => (θ_run _ _ _).mono (fun r h => ⟨fun c => (h c).2.2.2.2, sem_eq_zero_of_no_sems (by decide) r.2⟩) (Cert.Reference11Ideal.Value.run (F := Ideal) m ρ),
  fun m ρ _ => Cert.Kernel12.Gen.frame m ρ,
  fun m ρ _ => Cert.Kernel12Ideal.Gen.frame m ρ,
  fun m ρ _ => (θ_run _ _ _).mono (fun r h => ⟨fun c => (h c).2, sem_eq_zero_of_no_sems (by decide) r.2⟩) (Cert.Reference12Ideal.Value.run (F := Ideal) m ρ),
  preserves,
  algebraic,
  preserves2,
  algebraic2,
  preserves3,
  algebraic3,
  preserves4,
  algebraic4,
  preserves5,
  algebraic5,
  preserves6,
  algebraic6,
  preserves7,
  algebraic7,
  preserves8,
  algebraic8,
  preserves9,
  algebraic9,
  preserves10,
  algebraic10,
  preserves11,
  algebraic11,
  preserves12,
  algebraic12⟩

end Cert.Proof

end
